-- ==== Defs.lean ====
def Pre_EncV (m : (ℓ : Loc Cert.EncV.nD Cert.EncV.τ Cert.EncV.sig) → Buf (Elt Bits) ℓ) : Prop :=
  True

def Pre_EncVIdeal (m : (ℓ : Loc Cert.EncVIdeal.nD Cert.EncVIdeal.τ Cert.EncVIdeal.sig) → Buf (Elt Ideal) ℓ) : Prop :=
  True

def Pre_EncVRefIdeal (m : (ℓ : Loc Cert.EncVRefIdeal.nD Cert.EncVRefIdeal.τ Cert.EncVRefIdeal.sig) → Buf (Elt Ideal) ℓ) : Prop :=
  True

def Pre_EncI (m : (ℓ : Loc Cert.EncI.nD Cert.EncI.τ Cert.EncI.sig) → Buf (Elt Bits) ℓ) : Prop :=
  True

def Pre_EncIIdeal (m : (ℓ : Loc Cert.EncIIdeal.nD Cert.EncIIdeal.τ Cert.EncIIdeal.sig) → Buf (Elt Ideal) ℓ) : Prop :=
  True

def Pre_EncIRefIdeal (m : (ℓ : Loc Cert.EncIRefIdeal.nD Cert.EncIRefIdeal.τ Cert.EncIRefIdeal.sig) → Buf (Elt Ideal) ℓ) : Prop :=
  True

def Pre_Fuse (m : (ℓ : Loc Cert.Fuse.nD Cert.Fuse.τ Cert.Fuse.sig) → Buf (Elt Bits) ℓ) : Prop :=
  True

def Pre_FuseIdeal (m : (ℓ : Loc Cert.FuseIdeal.nD Cert.FuseIdeal.τ Cert.FuseIdeal.sig) → Buf (Elt Ideal) ℓ) : Prop :=
  True

def Pre_FuseRefIdeal (m : (ℓ : Loc Cert.FuseRefIdeal.nD Cert.FuseRefIdeal.τ Cert.FuseRefIdeal.sig) → Buf (Elt Ideal) ℓ) : Prop :=
  True

def Pre_Viz (m : (ℓ : Loc Cert.Viz.nD Cert.Viz.τ Cert.Viz.sig) → Buf (Elt Bits) ℓ) : Prop :=
  True

def Pre_VizIdeal (m : (ℓ : Loc Cert.VizIdeal.nD Cert.VizIdeal.τ Cert.VizIdeal.sig) → Buf (Elt Ideal) ℓ) : Prop :=
  True

def Pre_VizRefIdeal (m : (ℓ : Loc Cert.VizRefIdeal.nD Cert.VizRefIdeal.τ Cert.VizRefIdeal.sig) → Buf (Elt Ideal) ℓ) : Prop :=
  True

def Pre_Route [hPre_finite_scores : Cert.Pre_finite_scores.Facts] (m : (ℓ : Loc Cert.Route.nD Cert.Route.τ Cert.Route.sig) → Buf (Elt Bits) ℓ) : Prop :=
  ∀ c : Dev Cert.Route.nD,
    (Cert.Pre_finite_scores.fn (F := Bits) (m ((c.tc : Thread Cert.Route.nD Cert.Route.τ).loc Cert.Route.main_arg0)) (m ((c.tc : Thread Cert.Route.nD Cert.Route.τ).loc Cert.Route.main_arg1)) (m ((c.tc : Thread Cert.Route.nD Cert.Route.τ).loc Cert.Route.main_arg2)) (m ((c.tc : Thread Cert.Route.nD Cert.Route.τ).loc Cert.Route.main_arg3)) (m ((c.tc : Thread Cert.Route.nD Cert.Route.τ).loc Cert.Route.main_arg4))) = (fun _ => 1#1)

def Pre_RouteIdeal [hPre_finite_scores : Cert.Pre_finite_scores.Facts] (m : (ℓ : Loc Cert.RouteIdeal.nD Cert.RouteIdeal.τ Cert.RouteIdeal.sig) → Buf (Elt Ideal) ℓ) : Prop :=
  ∀ c : Dev Cert.RouteIdeal.nD,
    (Cert.Pre_finite_scores.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_scores [hPre_finite_scores : Cert.Pre_finite_scores.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_scores.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4))) = (fun _ => 1#1)

def Pre_MoeV [hPre_visible_experts : Cert.Pre_visible_experts.Facts] (m : (ℓ : Loc Cert.MoeV.nD Cert.MoeV.τ Cert.MoeV.sig) → Buf (Elt Bits) ℓ) : Prop :=
  ∀ c : Dev Cert.MoeV.nD,
    (Cert.Pre_visible_experts.fn (F := Bits) (m ((c.tc : Thread Cert.MoeV.nD Cert.MoeV.τ).loc Cert.MoeV.main_arg0)) (m ((c.tc : Thread Cert.MoeV.nD Cert.MoeV.τ).loc Cert.MoeV.main_arg1)) (m ((c.tc : Thread Cert.MoeV.nD Cert.MoeV.τ).loc Cert.MoeV.main_arg2)) (m ((c.tc : Thread Cert.MoeV.nD Cert.MoeV.τ).loc Cert.MoeV.main_arg3)) (m ((c.tc : Thread Cert.MoeV.nD Cert.MoeV.τ).loc Cert.MoeV.main_arg4))) = (fun _ => 1#1)

def Pre_MoeVIdeal [hPre_visible_experts : Cert.Pre_visible_experts.Facts] (m : (ℓ : Loc Cert.MoeVIdeal.nD Cert.MoeVIdeal.τ Cert.MoeVIdeal.sig) → Buf (Elt Ideal) ℓ) : Prop :=
  ∀ c : Dev Cert.MoeVIdeal.nD,
    (Cert.Pre_visible_experts.fn (F := Ideal) (m ((c.tc : Thread Cert.MoeVIdeal.nD Cert.MoeVIdeal.τ).loc Cert.MoeVIdeal.main_arg0)) (m ((c.tc : Thread Cert.MoeVIdeal.nD Cert.MoeVIdeal.τ).loc Cert.MoeVIdeal.main_arg1)) (m ((c.tc : Thread Cert.MoeVIdeal.nD Cert.MoeVIdeal.τ).loc Cert.MoeVIdeal.main_arg2)) (m ((c.tc : Thread Cert.MoeVIdeal.nD Cert.MoeVIdeal.τ).loc Cert.MoeVIdeal.main_arg3)) (m ((c.tc : Thread Cert.MoeVIdeal.nD Cert.MoeVIdeal.τ).loc Cert.MoeVIdeal.main_arg4))) = (fun _ => 1#1)

def Pre_MoeVRefIdeal (m : (ℓ : Loc Cert.MoeVRefIdeal.nD Cert.MoeVRefIdeal.τ Cert.MoeVRefIdeal.sig) → Buf (Elt Ideal) ℓ) : Prop :=
  True

def Pre_MoeVRefIdeal_visible_experts [hPre_visible_experts : Cert.Pre_visible_experts.Facts] (m : (ℓ : Loc Cert.MoeVRefIdeal.nD Cert.MoeVRefIdeal.τ Cert.MoeVRefIdeal.sig) → Buf (Elt Ideal) ℓ) : Prop :=
  ∀ c : Dev Cert.MoeVRefIdeal.nD,
    (Cert.Pre_visible_experts.fn (F := Ideal) (m ((c.tc : Thread Cert.MoeVRefIdeal.nD Cert.MoeVRefIdeal.τ).loc Cert.MoeVRefIdeal.main_arg0)) (m ((c.tc : Thread Cert.MoeVRefIdeal.nD Cert.MoeVRefIdeal.τ).loc Cert.MoeVRefIdeal.main_arg1)) (m ((c.tc : Thread Cert.MoeVRefIdeal.nD Cert.MoeVRefIdeal.τ).loc Cert.MoeVRefIdeal.main_arg2)) (m ((c.tc : Thread Cert.MoeVRefIdeal.nD Cert.MoeVRefIdeal.τ).loc Cert.MoeVRefIdeal.main_arg3)) (m ((c.tc : Thread Cert.MoeVRefIdeal.nD Cert.MoeVRefIdeal.τ).loc Cert.MoeVRefIdeal.main_arg4))) = (fun _ => 1#1)

def Pre_MoeI [hPre_infrared_experts : Cert.Pre_infrared_experts.Facts] (m : (ℓ : Loc Cert.MoeI.nD Cert.MoeI.τ Cert.MoeI.sig) → Buf (Elt Bits) ℓ) : Prop :=
  ∀ c : Dev Cert.MoeI.nD,
    (Cert.Pre_infrared_experts.fn (F := Bits) (m ((c.tc : Thread Cert.MoeI.nD Cert.MoeI.τ).loc Cert.MoeI.main_arg0)) (m ((c.tc : Thread Cert.MoeI.nD Cert.MoeI.τ).loc Cert.MoeI.main_arg1)) (m ((c.tc : Thread Cert.MoeI.nD Cert.MoeI.τ).loc Cert.MoeI.main_arg2)) (m ((c.tc : Thread Cert.MoeI.nD Cert.MoeI.τ).loc Cert.MoeI.main_arg3)) (m ((c.tc : Thread Cert.MoeI.nD Cert.MoeI.τ).loc Cert.MoeI.main_arg4))) = (fun _ => 1#1)

def Pre_MoeIIdeal [hPre_infrared_experts : Cert.Pre_infrared_experts.Facts] (m : (ℓ : Loc Cert.MoeIIdeal.nD Cert.MoeIIdeal.τ Cert.MoeIIdeal.sig) → Buf (Elt Ideal) ℓ) : Prop :=
  ∀ c : Dev Cert.MoeIIdeal.nD,
    (Cert.Pre_infrared_experts.fn (F := Ideal) (m ((c.tc : Thread Cert.MoeIIdeal.nD Cert.MoeIIdeal.τ).loc Cert.MoeIIdeal.main_arg0)) (m ((c.tc : Thread Cert.MoeIIdeal.nD Cert.MoeIIdeal.τ).loc Cert.MoeIIdeal.main_arg1)) (m ((c.tc : Thread Cert.MoeIIdeal.nD Cert.MoeIIdeal.τ).loc Cert.MoeIIdeal.main_arg2)) (m ((c.tc : Thread Cert.MoeIIdeal.nD Cert.MoeIIdeal.τ).loc Cert.MoeIIdeal.main_arg3)) (m ((c.tc : Thread Cert.MoeIIdeal.nD Cert.MoeIIdeal.τ).loc Cert.MoeIIdeal.main_arg4))) = (fun _ => 1#1)

def Pre_MoeIRefIdeal (m : (ℓ : Loc Cert.MoeIRefIdeal.nD Cert.MoeIRefIdeal.τ Cert.MoeIRefIdeal.sig) → Buf (Elt Ideal) ℓ) : Prop :=
  True

def Pre_MoeIRefIdeal_infrared_experts [hPre_infrared_experts : Cert.Pre_infrared_experts.Facts] (m : (ℓ : Loc Cert.MoeIRefIdeal.nD Cert.MoeIRefIdeal.τ Cert.MoeIRefIdeal.sig) → Buf (Elt Ideal) ℓ) : Prop :=
  ∀ c : Dev Cert.MoeIRefIdeal.nD,
    (Cert.Pre_infrared_experts.fn (F := Ideal) (m ((c.tc : Thread Cert.MoeIRefIdeal.nD Cert.MoeIRefIdeal.τ).loc Cert.MoeIRefIdeal.main_arg0)) (m ((c.tc : Thread Cert.MoeIRefIdeal.nD Cert.MoeIRefIdeal.τ).loc Cert.MoeIRefIdeal.main_arg1)) (m ((c.tc : Thread Cert.MoeIRefIdeal.nD Cert.MoeIRefIdeal.τ).loc Cert.MoeIRefIdeal.main_arg2)) (m ((c.tc : Thread Cert.MoeIRefIdeal.nD Cert.MoeIRefIdeal.τ).loc Cert.MoeIRefIdeal.main_arg3)) (m ((c.tc : Thread Cert.MoeIRefIdeal.nD Cert.MoeIRefIdeal.τ).loc Cert.MoeIRefIdeal.main_arg4))) = (fun _ => 1#1)

def quiescent_EncV [hEncV : Cert.EncV.Facts] : Prop :=
  ∀ (m : (ℓ : Loc Cert.EncV.nD Cert.EncV.τ Cert.EncV.sig) → Buf (Elt Bits) ℓ) (g : Dev Cert.EncV.nD → PrngReg), Pre_EncV m →
    θ_run (Cert.EncV.defs (F := Bits)) (onTc (τ := Cert.EncV.τ) (Cert.EncV.main (F := Bits))) ⟨m, fun _ => 0, g⟩ (fun r => (∀ c : Dev Cert.EncV.nD,
      r.2.mem ((c.tc : Thread Cert.EncV.nD Cert.EncV.τ).loc Cert.EncV.main_arg0) = m ((c.tc : Thread Cert.EncV.nD Cert.EncV.τ).loc Cert.EncV.main_arg0)
      ∧ r.2.mem ((c.tc : Thread Cert.EncV.nD Cert.EncV.τ).loc Cert.EncV.main_arg1) = m ((c.tc : Thread Cert.EncV.nD Cert.EncV.τ).loc Cert.EncV.main_arg1)
      ∧ r.2.mem ((c.tc : Thread Cert.EncV.nD Cert.EncV.τ).loc Cert.EncV.main_arg2) = m ((c.tc : Thread Cert.EncV.nD Cert.EncV.τ).loc Cert.EncV.main_arg2)
      ∧ r.2.mem ((c.tc : Thread Cert.EncV.nD Cert.EncV.τ).loc Cert.EncV.main_arg3) = m ((c.tc : Thread Cert.EncV.nD Cert.EncV.τ).loc Cert.EncV.main_arg3)
      ∧ r.2.mem ((c.tc : Thread Cert.EncV.nD Cert.EncV.τ).loc Cert.EncV.main_arg4) = m ((c.tc : Thread Cert.EncV.nD Cert.EncV.τ).loc Cert.EncV.main_arg4))
      ∧ r.2.sem = fun _ => 0)

def quiescent_EncVIdeal [hEncVIdeal : Cert.EncVIdeal.Facts] : Prop :=
  ∀ (m : (ℓ : Loc Cert.EncVIdeal.nD Cert.EncVIdeal.τ Cert.EncVIdeal.sig) → Buf (Elt Ideal) ℓ) (g : Dev Cert.EncVIdeal.nD → PrngReg), Pre_EncVIdeal m →
    θ_run (Cert.EncVIdeal.defs (F := Ideal)) (onTc (τ := Cert.EncVIdeal.τ) (Cert.EncVIdeal.main (F := Ideal))) ⟨m, fun _ => 0, g⟩ (fun r => (∀ c : Dev Cert.EncVIdeal.nD,
      r.2.mem ((c.tc : Thread Cert.EncVIdeal.nD Cert.EncVIdeal.τ).loc Cert.EncVIdeal.main_arg0) = m ((c.tc : Thread Cert.EncVIdeal.nD Cert.EncVIdeal.τ).loc Cert.EncVIdeal.main_arg0)
      ∧ r.2.mem ((c.tc : Thread Cert.EncVIdeal.nD Cert.EncVIdeal.τ).loc Cert.EncVIdeal.main_arg1) = m ((c.tc : Thread Cert.EncVIdeal.nD Cert.EncVIdeal.τ).loc Cert.EncVIdeal.main_arg1)
      ∧ r.2.mem ((c.tc : Thread Cert.EncVIdeal.nD Cert.EncVIdeal.τ).loc Cert.EncVIdeal.main_arg2) = m ((c.tc : Thread Cert.EncVIdeal.nD Cert.EncVIdeal.τ).loc Cert.EncVIdeal.main_arg2)
      ∧ r.2.mem ((c.tc : Thread Cert.EncVIdeal.nD Cert.EncVIdeal.τ).loc Cert.EncVIdeal.main_arg3) = m ((c.tc : Thread Cert.EncVIdeal.nD Cert.EncVIdeal.τ).loc Cert.EncVIdeal.main_arg3)
      ∧ r.2.mem ((c.tc : Thread Cert.EncVIdeal.nD Cert.EncVIdeal.τ).loc Cert.EncVIdeal.main_arg4) = m ((c.tc : Thread Cert.EncVIdeal.nD Cert.EncVIdeal.τ).loc Cert.EncVIdeal.main_arg4))
      ∧ r.2.sem = fun _ => 0)

def quiescent_EncVRefIdeal [hEncVRefIdeal : Cert.EncVRefIdeal.Facts] : Prop :=
  ∀ (m : (ℓ : Loc Cert.EncVRefIdeal.nD Cert.EncVRefIdeal.τ Cert.EncVRefIdeal.sig) → Buf (Elt Ideal) ℓ) (g : Dev Cert.EncVRefIdeal.nD → PrngReg), Pre_EncVRefIdeal m →
    θ_run (Cert.EncVRefIdeal.defs (F := Ideal)) (onTc (τ := Cert.EncVRefIdeal.τ) (Cert.EncVRefIdeal.main (F := Ideal))) ⟨m, fun _ => 0, g⟩ (fun r => (∀ c : Dev Cert.EncVRefIdeal.nD,
      r.2.mem ((c.tc : Thread Cert.EncVRefIdeal.nD Cert.EncVRefIdeal.τ).loc Cert.EncVRefIdeal.main_arg0) = m ((c.tc : Thread Cert.EncVRefIdeal.nD Cert.EncVRefIdeal.τ).loc Cert.EncVRefIdeal.main_arg0)
      ∧ r.2.mem ((c.tc : Thread Cert.EncVRefIdeal.nD Cert.EncVRefIdeal.τ).loc Cert.EncVRefIdeal.main_arg1) = m ((c.tc : Thread Cert.EncVRefIdeal.nD Cert.EncVRefIdeal.τ).loc Cert.EncVRefIdeal.main_arg1)
      ∧ r.2.mem ((c.tc : Thread Cert.EncVRefIdeal.nD Cert.EncVRefIdeal.τ).loc Cert.EncVRefIdeal.main_arg2) = m ((c.tc : Thread Cert.EncVRefIdeal.nD Cert.EncVRefIdeal.τ).loc Cert.EncVRefIdeal.main_arg2)
      ∧ r.2.mem ((c.tc : Thread Cert.EncVRefIdeal.nD Cert.EncVRefIdeal.τ).loc Cert.EncVRefIdeal.main_arg3) = m ((c.tc : Thread Cert.EncVRefIdeal.nD Cert.EncVRefIdeal.τ).loc Cert.EncVRefIdeal.main_arg3)
      ∧ r.2.mem ((c.tc : Thread Cert.EncVRefIdeal.nD Cert.EncVRefIdeal.τ).loc Cert.EncVRefIdeal.main_arg4) = m ((c.tc : Thread Cert.EncVRefIdeal.nD Cert.EncVRefIdeal.τ).loc Cert.EncVRefIdeal.main_arg4))
      ∧ r.2.sem = fun _ => 0)

def quiescent_EncI [hEncI : Cert.EncI.Facts] : Prop :=
  ∀ (m : (ℓ : Loc Cert.EncI.nD Cert.EncI.τ Cert.EncI.sig) → Buf (Elt Bits) ℓ) (g : Dev Cert.EncI.nD → PrngReg), Pre_EncI m →
    θ_run (Cert.EncI.defs (F := Bits)) (onTc (τ := Cert.EncI.τ) (Cert.EncI.main (F := Bits))) ⟨m, fun _ => 0, g⟩ (fun r => (∀ c : Dev Cert.EncI.nD,
      r.2.mem ((c.tc : Thread Cert.EncI.nD Cert.EncI.τ).loc Cert.EncI.main_arg0) = m ((c.tc : Thread Cert.EncI.nD Cert.EncI.τ).loc Cert.EncI.main_arg0)
      ∧ r.2.mem ((c.tc : Thread Cert.EncI.nD Cert.EncI.τ).loc Cert.EncI.main_arg1) = m ((c.tc : Thread Cert.EncI.nD Cert.EncI.τ).loc Cert.EncI.main_arg1)
      ∧ r.2.mem ((c.tc : Thread Cert.EncI.nD Cert.EncI.τ).loc Cert.EncI.main_arg2) = m ((c.tc : Thread Cert.EncI.nD Cert.EncI.τ).loc Cert.EncI.main_arg2)
      ∧ r.2.mem ((c.tc : Thread Cert.EncI.nD Cert.EncI.τ).loc Cert.EncI.main_arg3) = m ((c.tc : Thread Cert.EncI.nD Cert.EncI.τ).loc Cert.EncI.main_arg3)
      ∧ r.2.mem ((c.tc : Thread Cert.EncI.nD Cert.EncI.τ).loc Cert.EncI.main_arg4) = m ((c.tc : Thread Cert.EncI.nD Cert.EncI.τ).loc Cert.EncI.main_arg4))
      ∧ r.2.sem = fun _ => 0)

def quiescent_EncIIdeal [hEncIIdeal : Cert.EncIIdeal.Facts] : Prop :=
  ∀ (m : (ℓ : Loc Cert.EncIIdeal.nD Cert.EncIIdeal.τ Cert.EncIIdeal.sig) → Buf (Elt Ideal) ℓ) (g : Dev Cert.EncIIdeal.nD → PrngReg), Pre_EncIIdeal m →
    θ_run (Cert.EncIIdeal.defs (F := Ideal)) (onTc (τ := Cert.EncIIdeal.τ) (Cert.EncIIdeal.main (F := Ideal))) ⟨m, fun _ => 0, g⟩ (fun r => (∀ c : Dev Cert.EncIIdeal.nD,
      r.2.mem ((c.tc : Thread Cert.EncIIdeal.nD Cert.EncIIdeal.τ).loc Cert.EncIIdeal.main_arg0) = m ((c.tc : Thread Cert.EncIIdeal.nD Cert.EncIIdeal.τ).loc Cert.EncIIdeal.main_arg0)
      ∧ r.2.mem ((c.tc : Thread Cert.EncIIdeal.nD Cert.EncIIdeal.τ).loc Cert.EncIIdeal.main_arg1) = m ((c.tc : Thread Cert.EncIIdeal.nD Cert.EncIIdeal.τ).loc Cert.EncIIdeal.main_arg1)
      ∧ r.2.mem ((c.tc : Thread Cert.EncIIdeal.nD Cert.EncIIdeal.τ).loc Cert.EncIIdeal.main_arg2) = m ((c.tc : Thread Cert.EncIIdeal.nD Cert.EncIIdeal.τ).loc Cert.EncIIdeal.main_arg2)
      ∧ r.2.mem ((c.tc : Thread Cert.EncIIdeal.nD Cert.EncIIdeal.τ).loc Cert.EncIIdeal.main_arg3) = m ((c.tc : Thread Cert.EncIIdeal.nD Cert.EncIIdeal.τ).loc Cert.EncIIdeal.main_arg3)
      ∧ r.2.mem ((c.tc : Thread Cert.EncIIdeal.nD Cert.EncIIdeal.τ).loc Cert.EncIIdeal.main_arg4) = m ((c.tc : Thread Cert.EncIIdeal.nD Cert.EncIIdeal.τ).loc Cert.EncIIdeal.main_arg4))
      ∧ r.2.sem = fun _ => 0)

def quiescent_EncIRefIdeal [hEncIRefIdeal : Cert.EncIRefIdeal.Facts] : Prop :=
  ∀ (m : (ℓ : Loc Cert.EncIRefIdeal.nD Cert.EncIRefIdeal.τ Cert.EncIRefIdeal.sig) → Buf (Elt Ideal) ℓ) (g : Dev Cert.EncIRefIdeal.nD → PrngReg), Pre_EncIRefIdeal m →
    θ_run (Cert.EncIRefIdeal.defs (F := Ideal)) (onTc (τ := Cert.EncIRefIdeal.τ) (Cert.EncIRefIdeal.main (F := Ideal))) ⟨m, fun _ => 0, g⟩ (fun r => (∀ c : Dev Cert.EncIRefIdeal.nD,
      r.2.mem ((c.tc : Thread Cert.EncIRefIdeal.nD Cert.EncIRefIdeal.τ).loc Cert.EncIRefIdeal.main_arg0) = m ((c.tc : Thread Cert.EncIRefIdeal.nD Cert.EncIRefIdeal.τ).loc Cert.EncIRefIdeal.main_arg0)
      ∧ r.2.mem ((c.tc : Thread Cert.EncIRefIdeal.nD Cert.EncIRefIdeal.τ).loc Cert.EncIRefIdeal.main_arg1) = m ((c.tc : Thread Cert.EncIRefIdeal.nD Cert.EncIRefIdeal.τ).loc Cert.EncIRefIdeal.main_arg1)
      ∧ r.2.mem ((c.tc : Thread Cert.EncIRefIdeal.nD Cert.EncIRefIdeal.τ).loc Cert.EncIRefIdeal.main_arg2) = m ((c.tc : Thread Cert.EncIRefIdeal.nD Cert.EncIRefIdeal.τ).loc Cert.EncIRefIdeal.main_arg2)
      ∧ r.2.mem ((c.tc : Thread Cert.EncIRefIdeal.nD Cert.EncIRefIdeal.τ).loc Cert.EncIRefIdeal.main_arg3) = m ((c.tc : Thread Cert.EncIRefIdeal.nD Cert.EncIRefIdeal.τ).loc Cert.EncIRefIdeal.main_arg3)
      ∧ r.2.mem ((c.tc : Thread Cert.EncIRefIdeal.nD Cert.EncIRefIdeal.τ).loc Cert.EncIRefIdeal.main_arg4) = m ((c.tc : Thread Cert.EncIRefIdeal.nD Cert.EncIRefIdeal.τ).loc Cert.EncIRefIdeal.main_arg4))
      ∧ r.2.sem = fun _ => 0)

def quiescent_Fuse [hFuse : Cert.Fuse.Facts] : Prop :=
  ∀ (m : (ℓ : Loc Cert.Fuse.nD Cert.Fuse.τ Cert.Fuse.sig) → Buf (Elt Bits) ℓ) (g : Dev Cert.Fuse.nD → PrngReg), Pre_Fuse m →
    θ_run (Cert.Fuse.defs (F := Bits)) (onTc (τ := Cert.Fuse.τ) (Cert.Fuse.main (F := Bits))) ⟨m, fun _ => 0, g⟩ (fun r => (∀ c : Dev Cert.Fuse.nD,
      r.2.mem ((c.tc : Thread Cert.Fuse.nD Cert.Fuse.τ).loc Cert.Fuse.main_arg0) = m ((c.tc : Thread Cert.Fuse.nD Cert.Fuse.τ).loc Cert.Fuse.main_arg0)
      ∧ r.2.mem ((c.tc : Thread Cert.Fuse.nD Cert.Fuse.τ).loc Cert.Fuse.main_arg1) = m ((c.tc : Thread Cert.Fuse.nD Cert.Fuse.τ).loc Cert.Fuse.main_arg1)
      ∧ r.2.mem ((c.tc : Thread Cert.Fuse.nD Cert.Fuse.τ).loc Cert.Fuse.main_arg2) = m ((c.tc : Thread Cert.Fuse.nD Cert.Fuse.τ).loc Cert.Fuse.main_arg2)
      ∧ r.2.mem ((c.tc : Thread Cert.Fuse.nD Cert.Fuse.τ).loc Cert.Fuse.main_arg3) = m ((c.tc : Thread Cert.Fuse.nD Cert.Fuse.τ).loc Cert.Fuse.main_arg3)
      ∧ r.2.mem ((c.tc : Thread Cert.Fuse.nD Cert.Fuse.τ).loc Cert.Fuse.main_arg4) = m ((c.tc : Thread Cert.Fuse.nD Cert.Fuse.τ).loc Cert.Fuse.main_arg4)
      ∧ r.2.mem ((c.tc : Thread Cert.Fuse.nD Cert.Fuse.τ).loc Cert.Fuse.main_arg5) = m ((c.tc : Thread Cert.Fuse.nD Cert.Fuse.τ).loc Cert.Fuse.main_arg5)
      ∧ r.2.mem ((c.tc : Thread Cert.Fuse.nD Cert.Fuse.τ).loc Cert.Fuse.main_arg6) = m ((c.tc : Thread Cert.Fuse.nD Cert.Fuse.τ).loc Cert.Fuse.main_arg6))
      ∧ r.2.sem = fun _ => 0)

def quiescent_FuseIdeal [hFuseIdeal : Cert.FuseIdeal.Facts] : Prop :=
  ∀ (m : (ℓ : Loc Cert.FuseIdeal.nD Cert.FuseIdeal.τ Cert.FuseIdeal.sig) → Buf (Elt Ideal) ℓ) (g : Dev Cert.FuseIdeal.nD → PrngReg), Pre_FuseIdeal m →
    θ_run (Cert.FuseIdeal.defs (F := Ideal)) (onTc (τ := Cert.FuseIdeal.τ) (Cert.FuseIdeal.main (F := Ideal))) ⟨m, fun _ => 0, g⟩ (fun r => (∀ c : Dev Cert.FuseIdeal.nD,
      r.2.mem ((c.tc : Thread Cert.FuseIdeal.nD Cert.FuseIdeal.τ).loc Cert.FuseIdeal.main_arg0) = m ((c.tc : Thread Cert.FuseIdeal.nD Cert.FuseIdeal.τ).loc Cert.FuseIdeal.main_arg0)
      ∧ r.2.mem ((c.tc : Thread Cert.FuseIdeal.nD Cert.FuseIdeal.τ).loc Cert.FuseIdeal.main_arg1) = m ((c.tc : Thread Cert.FuseIdeal.nD Cert.FuseIdeal.τ).loc Cert.FuseIdeal.main_arg1)
      ∧ r.2.mem ((c.tc : Thread Cert.FuseIdeal.nD Cert.FuseIdeal.τ).loc Cert.FuseIdeal.main_arg2) = m ((c.tc : Thread Cert.FuseIdeal.nD Cert.FuseIdeal.τ).loc Cert.FuseIdeal.main_arg2)
      ∧ r.2.mem ((c.tc : Thread Cert.FuseIdeal.nD Cert.FuseIdeal.τ).loc Cert.FuseIdeal.main_arg3) = m ((c.tc : Thread Cert.FuseIdeal.nD Cert.FuseIdeal.τ).loc Cert.FuseIdeal.main_arg3)
      ∧ r.2.mem ((c.tc : Thread Cert.FuseIdeal.nD Cert.FuseIdeal.τ).loc Cert.FuseIdeal.main_arg4) = m ((c.tc : Thread Cert.FuseIdeal.nD Cert.FuseIdeal.τ).loc Cert.FuseIdeal.main_arg4)
      ∧ r.2.mem ((c.tc : Thread Cert.FuseIdeal.nD Cert.FuseIdeal.τ).loc Cert.FuseIdeal.main_arg5) = m ((c.tc : Thread Cert.FuseIdeal.nD Cert.FuseIdeal.τ).loc Cert.FuseIdeal.main_arg5)
      ∧ r.2.mem ((c.tc : Thread Cert.FuseIdeal.nD Cert.FuseIdeal.τ).loc Cert.FuseIdeal.main_arg6) = m ((c.tc : Thread Cert.FuseIdeal.nD Cert.FuseIdeal.τ).loc Cert.FuseIdeal.main_arg6))
      ∧ r.2.sem = fun _ => 0)

def quiescent_FuseRefIdeal [hFuseRefIdeal : Cert.FuseRefIdeal.Facts] : Prop :=
  ∀ (m : (ℓ : Loc Cert.FuseRefIdeal.nD Cert.FuseRefIdeal.τ Cert.FuseRefIdeal.sig) → Buf (Elt Ideal) ℓ) (g : Dev Cert.FuseRefIdeal.nD → PrngReg), Pre_FuseRefIdeal m →
    θ_run (Cert.FuseRefIdeal.defs (F := Ideal)) (onTc (τ := Cert.FuseRefIdeal.τ) (Cert.FuseRefIdeal.main (F := Ideal))) ⟨m, fun _ => 0, g⟩ (fun r => (∀ c : Dev Cert.FuseRefIdeal.nD,
      r.2.mem ((c.tc : Thread Cert.FuseRefIdeal.nD Cert.FuseRefIdeal.τ).loc Cert.FuseRefIdeal.main_arg0) = m ((c.tc : Thread Cert.FuseRefIdeal.nD Cert.FuseRefIdeal.τ).loc Cert.FuseRefIdeal.main_arg0)
      ∧ r.2.mem ((c.tc : Thread Cert.FuseRefIdeal.nD Cert.FuseRefIdeal.τ).loc Cert.FuseRefIdeal.main_arg1) = m ((c.tc : Thread Cert.FuseRefIdeal.nD Cert.FuseRefIdeal.τ).loc Cert.FuseRefIdeal.main_arg1)
      ∧ r.2.mem ((c.tc : Thread Cert.FuseRefIdeal.nD Cert.FuseRefIdeal.τ).loc Cert.FuseRefIdeal.main_arg2) = m ((c.tc : Thread Cert.FuseRefIdeal.nD Cert.FuseRefIdeal.τ).loc Cert.FuseRefIdeal.main_arg2)
      ∧ r.2.mem ((c.tc : Thread Cert.FuseRefIdeal.nD Cert.FuseRefIdeal.τ).loc Cert.FuseRefIdeal.main_arg3) = m ((c.tc : Thread Cert.FuseRefIdeal.nD Cert.FuseRefIdeal.τ).loc Cert.FuseRefIdeal.main_arg3)
      ∧ r.2.mem ((c.tc : Thread Cert.FuseRefIdeal.nD Cert.FuseRefIdeal.τ).loc Cert.FuseRefIdeal.main_arg4) = m ((c.tc : Thread Cert.FuseRefIdeal.nD Cert.FuseRefIdeal.τ).loc Cert.FuseRefIdeal.main_arg4)
      ∧ r.2.mem ((c.tc : Thread Cert.FuseRefIdeal.nD Cert.FuseRefIdeal.τ).loc Cert.FuseRefIdeal.main_arg5) = m ((c.tc : Thread Cert.FuseRefIdeal.nD Cert.FuseRefIdeal.τ).loc Cert.FuseRefIdeal.main_arg5)
      ∧ r.2.mem ((c.tc : Thread Cert.FuseRefIdeal.nD Cert.FuseRefIdeal.τ).loc Cert.FuseRefIdeal.main_arg6) = m ((c.tc : Thread Cert.FuseRefIdeal.nD Cert.FuseRefIdeal.τ).loc Cert.FuseRefIdeal.main_arg6))
      ∧ r.2.sem = fun _ => 0)

def quiescent_Viz [hViz : Cert.Viz.Facts] : Prop :=
  ∀ (m : (ℓ : Loc Cert.Viz.nD Cert.Viz.τ Cert.Viz.sig) → Buf (Elt Bits) ℓ) (g : Dev Cert.Viz.nD → PrngReg), Pre_Viz m →
    θ_run (Cert.Viz.defs (F := Bits)) (onTc (τ := Cert.Viz.τ) (Cert.Viz.main (F := Bits))) ⟨m, fun _ => 0, g⟩ (fun r => (∀ c : Dev Cert.Viz.nD,
      r.2.mem ((c.tc : Thread Cert.Viz.nD Cert.Viz.τ).loc Cert.Viz.main_arg0) = m ((c.tc : Thread Cert.Viz.nD Cert.Viz.τ).loc Cert.Viz.main_arg0)
      ∧ r.2.mem ((c.tc : Thread Cert.Viz.nD Cert.Viz.τ).loc Cert.Viz.main_arg1) = m ((c.tc : Thread Cert.Viz.nD Cert.Viz.τ).loc Cert.Viz.main_arg1)
      ∧ r.2.mem ((c.tc : Thread Cert.Viz.nD Cert.Viz.τ).loc Cert.Viz.main_arg2) = m ((c.tc : Thread Cert.Viz.nD Cert.Viz.τ).loc Cert.Viz.main_arg2)
      ∧ r.2.mem ((c.tc : Thread Cert.Viz.nD Cert.Viz.τ).loc Cert.Viz.main_arg3) = m ((c.tc : Thread Cert.Viz.nD Cert.Viz.τ).loc Cert.Viz.main_arg3)
      ∧ r.2.mem ((c.tc : Thread Cert.Viz.nD Cert.Viz.τ).loc Cert.Viz.main_arg4) = m ((c.tc : Thread Cert.Viz.nD Cert.Viz.τ).loc Cert.Viz.main_arg4))
      ∧ r.2.sem = fun _ => 0)

def quiescent_VizIdeal [hVizIdeal : Cert.VizIdeal.Facts] : Prop :=
  ∀ (m : (ℓ : Loc Cert.VizIdeal.nD Cert.VizIdeal.τ Cert.VizIdeal.sig) → Buf (Elt Ideal) ℓ) (g : Dev Cert.VizIdeal.nD → PrngReg), Pre_VizIdeal m →
    θ_run (Cert.VizIdeal.defs (F := Ideal)) (onTc (τ := Cert.VizIdeal.τ) (Cert.VizIdeal.main (F := Ideal))) ⟨m, fun _ => 0, g⟩ (fun r => (∀ c : Dev Cert.VizIdeal.nD,
      r.2.mem ((c.tc : Thread Cert.VizIdeal.nD Cert.VizIdeal.τ).loc Cert.VizIdeal.main_arg0) = m ((c.tc : Thread Cert.VizIdeal.nD Cert.VizIdeal.τ).loc Cert.VizIdeal.main_arg0)
      ∧ r.2.mem ((c.tc : Thread Cert.VizIdeal.nD Cert.VizIdeal.τ).loc Cert.VizIdeal.main_arg1) = m ((c.tc : Thread Cert.VizIdeal.nD Cert.VizIdeal.τ).loc Cert.VizIdeal.main_arg1)
      ∧ r.2.mem ((c.tc : Thread Cert.VizIdeal.nD Cert.VizIdeal.τ).loc Cert.VizIdeal.main_arg2) = m ((c.tc : Thread Cert.VizIdeal.nD Cert.VizIdeal.τ).loc Cert.VizIdeal.main_arg2)
      ∧ r.2.mem ((c.tc : Thread Cert.VizIdeal.nD Cert.VizIdeal.τ).loc Cert.VizIdeal.main_arg3) = m ((c.tc : Thread Cert.VizIdeal.nD Cert.VizIdeal.τ).loc Cert.VizIdeal.main_arg3)
      ∧ r.2.mem ((c.tc : Thread Cert.VizIdeal.nD Cert.VizIdeal.τ).loc Cert.VizIdeal.main_arg4) = m ((c.tc : Thread Cert.VizIdeal.nD Cert.VizIdeal.τ).loc Cert.VizIdeal.main_arg4))
      ∧ r.2.sem = fun _ => 0)

def quiescent_VizRefIdeal [hVizRefIdeal : Cert.VizRefIdeal.Facts] : Prop :=
  ∀ (m : (ℓ : Loc Cert.VizRefIdeal.nD Cert.VizRefIdeal.τ Cert.VizRefIdeal.sig) → Buf (Elt Ideal) ℓ) (g : Dev Cert.VizRefIdeal.nD → PrngReg), Pre_VizRefIdeal m →
    θ_run (Cert.VizRefIdeal.defs (F := Ideal)) (onTc (τ := Cert.VizRefIdeal.τ) (Cert.VizRefIdeal.main (F := Ideal))) ⟨m, fun _ => 0, g⟩ (fun r => (∀ c : Dev Cert.VizRefIdeal.nD,
      r.2.mem ((c.tc : Thread Cert.VizRefIdeal.nD Cert.VizRefIdeal.τ).loc Cert.VizRefIdeal.main_arg0) = m ((c.tc : Thread Cert.VizRefIdeal.nD Cert.VizRefIdeal.τ).loc Cert.VizRefIdeal.main_arg0)
      ∧ r.2.mem ((c.tc : Thread Cert.VizRefIdeal.nD Cert.VizRefIdeal.τ).loc Cert.VizRefIdeal.main_arg1) = m ((c.tc : Thread Cert.VizRefIdeal.nD Cert.VizRefIdeal.τ).loc Cert.VizRefIdeal.main_arg1)
      ∧ r.2.mem ((c.tc : Thread Cert.VizRefIdeal.nD Cert.VizRefIdeal.τ).loc Cert.VizRefIdeal.main_arg2) = m ((c.tc : Thread Cert.VizRefIdeal.nD Cert.VizRefIdeal.τ).loc Cert.VizRefIdeal.main_arg2)
      ∧ r.2.mem ((c.tc : Thread Cert.VizRefIdeal.nD Cert.VizRefIdeal.τ).loc Cert.VizRefIdeal.main_arg3) = m ((c.tc : Thread Cert.VizRefIdeal.nD Cert.VizRefIdeal.τ).loc Cert.VizRefIdeal.main_arg3)
      ∧ r.2.mem ((c.tc : Thread Cert.VizRefIdeal.nD Cert.VizRefIdeal.τ).loc Cert.VizRefIdeal.main_arg4) = m ((c.tc : Thread Cert.VizRefIdeal.nD Cert.VizRefIdeal.τ).loc Cert.VizRefIdeal.main_arg4))
      ∧ r.2.sem = fun _ => 0)

def quiescent_Route [hRoute : Cert.Route.Facts] [hPre_finite_scores : Cert.Pre_finite_scores.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] [hPre_finite_scores : Cert.Pre_finite_scores.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def quiescent_RouteRefIdeal_pre_finite_scores [hRouteRefIdeal : Cert.RouteRefIdeal.Facts] [hPre_finite_scores : Cert.Pre_finite_scores.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_scores m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def quiescent_MoeV [hMoeV : Cert.MoeV.Facts] [hPre_visible_experts : Cert.Pre_visible_experts.Facts] : Prop :=
  ∀ (m : (ℓ : Loc Cert.MoeV.nD Cert.MoeV.τ Cert.MoeV.sig) → Buf (Elt Bits) ℓ) (g : Dev Cert.MoeV.nD → PrngReg), Pre_MoeV m →
    θ_run (Cert.MoeV.defs (F := Bits)) (onTc (τ := Cert.MoeV.τ) (Cert.MoeV.main (F := Bits))) ⟨m, fun _ => 0, g⟩ (fun r => (∀ c : Dev Cert.MoeV.nD,
      r.2.mem ((c.tc : Thread Cert.MoeV.nD Cert.MoeV.τ).loc Cert.MoeV.main_arg0) = m ((c.tc : Thread Cert.MoeV.nD Cert.MoeV.τ).loc Cert.MoeV.main_arg0)
      ∧ r.2.mem ((c.tc : Thread Cert.MoeV.nD Cert.MoeV.τ).loc Cert.MoeV.main_arg1) = m ((c.tc : Thread Cert.MoeV.nD Cert.MoeV.τ).loc Cert.MoeV.main_arg1)
      ∧ r.2.mem ((c.tc : Thread Cert.MoeV.nD Cert.MoeV.τ).loc Cert.MoeV.main_arg2) = m ((c.tc : Thread Cert.MoeV.nD Cert.MoeV.τ).loc Cert.MoeV.main_arg2)
      ∧ r.2.mem ((c.tc : Thread Cert.MoeV.nD Cert.MoeV.τ).loc Cert.MoeV.main_arg3) = m ((c.tc : Thread Cert.MoeV.nD Cert.MoeV.τ).loc Cert.MoeV.main_arg3)
      ∧ r.2.mem ((c.tc : Thread Cert.MoeV.nD Cert.MoeV.τ).loc Cert.MoeV.main_arg4) = m ((c.tc : Thread Cert.MoeV.nD Cert.MoeV.τ).loc Cert.MoeV.main_arg4))
      ∧ r.2.sem = fun _ => 0)

def quiescent_MoeVIdeal [hMoeVIdeal : Cert.MoeVIdeal.Facts] [hPre_visible_experts : Cert.Pre_visible_experts.Facts] : Prop :=
  ∀ (m : (ℓ : Loc Cert.MoeVIdeal.nD Cert.MoeVIdeal.τ Cert.MoeVIdeal.sig) → Buf (Elt Ideal) ℓ) (g : Dev Cert.MoeVIdeal.nD → PrngReg), Pre_MoeVIdeal m →
    θ_run (Cert.MoeVIdeal.defs (F := Ideal)) (onTc (τ := Cert.MoeVIdeal.τ) (Cert.MoeVIdeal.main (F := Ideal))) ⟨m, fun _ => 0, g⟩ (fun r => (∀ c : Dev Cert.MoeVIdeal.nD,
      r.2.mem ((c.tc : Thread Cert.MoeVIdeal.nD Cert.MoeVIdeal.τ).loc Cert.MoeVIdeal.main_arg0) = m ((c.tc : Thread Cert.MoeVIdeal.nD Cert.MoeVIdeal.τ).loc Cert.MoeVIdeal.main_arg0)
      ∧ r.2.mem ((c.tc : Thread Cert.MoeVIdeal.nD Cert.MoeVIdeal.τ).loc Cert.MoeVIdeal.main_arg1) = m ((c.tc : Thread Cert.MoeVIdeal.nD Cert.MoeVIdeal.τ).loc Cert.MoeVIdeal.main_arg1)
      ∧ r.2.mem ((c.tc : Thread Cert.MoeVIdeal.nD Cert.MoeVIdeal.τ).loc Cert.MoeVIdeal.main_arg2) = m ((c.tc : Thread Cert.MoeVIdeal.nD Cert.MoeVIdeal.τ).loc Cert.MoeVIdeal.main_arg2)
      ∧ r.2.mem ((c.tc : Thread Cert.MoeVIdeal.nD Cert.MoeVIdeal.τ).loc Cert.MoeVIdeal.main_arg3) = m ((c.tc : Thread Cert.MoeVIdeal.nD Cert.MoeVIdeal.τ).loc Cert.MoeVIdeal.main_arg3)
      ∧ r.2.mem ((c.tc : Thread Cert.MoeVIdeal.nD Cert.MoeVIdeal.τ).loc Cert.MoeVIdeal.main_arg4) = m ((c.tc : Thread Cert.MoeVIdeal.nD Cert.MoeVIdeal.τ).loc Cert.MoeVIdeal.main_arg4))
      ∧ r.2.sem = fun _ => 0)

def quiescent_MoeVRefIdeal [hMoeVRefIdeal : Cert.MoeVRefIdeal.Facts] : Prop :=
  ∀ (m : (ℓ : Loc Cert.MoeVRefIdeal.nD Cert.MoeVRefIdeal.τ Cert.MoeVRefIdeal.sig) → Buf (Elt Ideal) ℓ) (g : Dev Cert.MoeVRefIdeal.nD → PrngReg), Pre_MoeVRefIdeal m →
    θ_run (Cert.MoeVRefIdeal.defs (F := Ideal)) (onTc (τ := Cert.MoeVRefIdeal.τ) (Cert.MoeVRefIdeal.main (F := Ideal))) ⟨m, fun _ => 0, g⟩ (fun r => (∀ c : Dev Cert.MoeVRefIdeal.nD,
      r.2.mem ((c.tc : Thread Cert.MoeVRefIdeal.nD Cert.MoeVRefIdeal.τ).loc Cert.MoeVRefIdeal.main_arg0) = m ((c.tc : Thread Cert.MoeVRefIdeal.nD Cert.MoeVRefIdeal.τ).loc Cert.MoeVRefIdeal.main_arg0)
      ∧ r.2.mem ((c.tc : Thread Cert.MoeVRefIdeal.nD Cert.MoeVRefIdeal.τ).loc Cert.MoeVRefIdeal.main_arg1) = m ((c.tc : Thread Cert.MoeVRefIdeal.nD Cert.MoeVRefIdeal.τ).loc Cert.MoeVRefIdeal.main_arg1)
      ∧ r.2.mem ((c.tc : Thread Cert.MoeVRefIdeal.nD Cert.MoeVRefIdeal.τ).loc Cert.MoeVRefIdeal.main_arg2) = m ((c.tc : Thread Cert.MoeVRefIdeal.nD Cert.MoeVRefIdeal.τ).loc Cert.MoeVRefIdeal.main_arg2)
      ∧ r.2.mem ((c.tc : Thread Cert.MoeVRefIdeal.nD Cert.MoeVRefIdeal.τ).loc Cert.MoeVRefIdeal.main_arg3) = m ((c.tc : Thread Cert.MoeVRefIdeal.nD Cert.MoeVRefIdeal.τ).loc Cert.MoeVRefIdeal.main_arg3)
      ∧ r.2.mem ((c.tc : Thread Cert.MoeVRefIdeal.nD Cert.MoeVRefIdeal.τ).loc Cert.MoeVRefIdeal.main_arg4) = m ((c.tc : Thread Cert.MoeVRefIdeal.nD Cert.MoeVRefIdeal.τ).loc Cert.MoeVRefIdeal.main_arg4))
      ∧ r.2.sem = fun _ => 0)

def quiescent_MoeVRefIdeal_pre_visible_experts [hMoeVRefIdeal : Cert.MoeVRefIdeal.Facts] [hPre_visible_experts : Cert.Pre_visible_experts.Facts] : Prop :=
  ∀ (m : (ℓ : Loc Cert.MoeVRefIdeal.nD Cert.MoeVRefIdeal.τ Cert.MoeVRefIdeal.sig) → Buf (Elt Ideal) ℓ) (g : Dev Cert.MoeVRefIdeal.nD → PrngReg), Pre_MoeVRefIdeal_visible_experts m →
    θ_run (Cert.MoeVRefIdeal.defs (F := Ideal)) (onTc (τ := Cert.MoeVRefIdeal.τ) (Cert.MoeVRefIdeal.main (F := Ideal))) ⟨m, fun _ => 0, g⟩ (fun r => (∀ c : Dev Cert.MoeVRefIdeal.nD,
      r.2.mem ((c.tc : Thread Cert.MoeVRefIdeal.nD Cert.MoeVRefIdeal.τ).loc Cert.MoeVRefIdeal.main_arg0) = m ((c.tc : Thread Cert.MoeVRefIdeal.nD Cert.MoeVRefIdeal.τ).loc Cert.MoeVRefIdeal.main_arg0)
      ∧ r.2.mem ((c.tc : Thread Cert.MoeVRefIdeal.nD Cert.MoeVRefIdeal.τ).loc Cert.MoeVRefIdeal.main_arg1) = m ((c.tc : Thread Cert.MoeVRefIdeal.nD Cert.MoeVRefIdeal.τ).loc Cert.MoeVRefIdeal.main_arg1)
      ∧ r.2.mem ((c.tc : Thread Cert.MoeVRefIdeal.nD Cert.MoeVRefIdeal.τ).loc Cert.MoeVRefIdeal.main_arg2) = m ((c.tc : Thread Cert.MoeVRefIdeal.nD Cert.MoeVRefIdeal.τ).loc Cert.MoeVRefIdeal.main_arg2)
      ∧ r.2.mem ((c.tc : Thread Cert.MoeVRefIdeal.nD Cert.MoeVRefIdeal.τ).loc Cert.MoeVRefIdeal.main_arg3) = m ((c.tc : Thread Cert.MoeVRefIdeal.nD Cert.MoeVRefIdeal.τ).loc Cert.MoeVRefIdeal.main_arg3)
      ∧ r.2.mem ((c.tc : Thread Cert.MoeVRefIdeal.nD Cert.MoeVRefIdeal.τ).loc Cert.MoeVRefIdeal.main_arg4) = m ((c.tc : Thread Cert.MoeVRefIdeal.nD Cert.MoeVRefIdeal.τ).loc Cert.MoeVRefIdeal.main_arg4))
      ∧ r.2.sem = fun _ => 0)

def quiescent_MoeI [hMoeI : Cert.MoeI.Facts] [hPre_infrared_experts : Cert.Pre_infrared_experts.Facts] : Prop :=
  ∀ (m : (ℓ : Loc Cert.MoeI.nD Cert.MoeI.τ Cert.MoeI.sig) → Buf (Elt Bits) ℓ) (g : Dev Cert.MoeI.nD → PrngReg), Pre_MoeI m →
    θ_run (Cert.MoeI.defs (F := Bits)) (onTc (τ := Cert.MoeI.τ) (Cert.MoeI.main (F := Bits))) ⟨m, fun _ => 0, g⟩ (fun r => (∀ c : Dev Cert.MoeI.nD,
      r.2.mem ((c.tc : Thread Cert.MoeI.nD Cert.MoeI.τ).loc Cert.MoeI.main_arg0) = m ((c.tc : Thread Cert.MoeI.nD Cert.MoeI.τ).loc Cert.MoeI.main_arg0)
      ∧ r.2.mem ((c.tc : Thread Cert.MoeI.nD Cert.MoeI.τ).loc Cert.MoeI.main_arg1) = m ((c.tc : Thread Cert.MoeI.nD Cert.MoeI.τ).loc Cert.MoeI.main_arg1)
      ∧ r.2.mem ((c.tc : Thread Cert.MoeI.nD Cert.MoeI.τ).loc Cert.MoeI.main_arg2) = m ((c.tc : Thread Cert.MoeI.nD Cert.MoeI.τ).loc Cert.MoeI.main_arg2)
      ∧ r.2.mem ((c.tc : Thread Cert.MoeI.nD Cert.MoeI.τ).loc Cert.MoeI.main_arg3) = m ((c.tc : Thread Cert.MoeI.nD Cert.MoeI.τ).loc Cert.MoeI.main_arg3)
      ∧ r.2.mem ((c.tc : Thread Cert.MoeI.nD Cert.MoeI.τ).loc Cert.MoeI.main_arg4) = m ((c.tc : Thread Cert.MoeI.nD Cert.MoeI.τ).loc Cert.MoeI.main_arg4))
      ∧ r.2.sem = fun _ => 0)

def quiescent_MoeIIdeal [hMoeIIdeal : Cert.MoeIIdeal.Facts] [hPre_infrared_experts : Cert.Pre_infrared_experts.Facts] : Prop :=
  ∀ (m : (ℓ : Loc Cert.MoeIIdeal.nD Cert.MoeIIdeal.τ Cert.MoeIIdeal.sig) → Buf (Elt Ideal) ℓ) (g : Dev Cert.MoeIIdeal.nD → PrngReg), Pre_MoeIIdeal m →
    θ_run (Cert.MoeIIdeal.defs (F := Ideal)) (onTc (τ := Cert.MoeIIdeal.τ) (Cert.MoeIIdeal.main (F := Ideal))) ⟨m, fun _ => 0, g⟩ (fun r => (∀ c : Dev Cert.MoeIIdeal.nD,
      r.2.mem ((c.tc : Thread Cert.MoeIIdeal.nD Cert.MoeIIdeal.τ).loc Cert.MoeIIdeal.main_arg0) = m ((c.tc : Thread Cert.MoeIIdeal.nD Cert.MoeIIdeal.τ).loc Cert.MoeIIdeal.main_arg0)
      ∧ r.2.mem ((c.tc : Thread Cert.MoeIIdeal.nD Cert.MoeIIdeal.τ).loc Cert.MoeIIdeal.main_arg1) = m ((c.tc : Thread Cert.MoeIIdeal.nD Cert.MoeIIdeal.τ).loc Cert.MoeIIdeal.main_arg1)
      ∧ r.2.mem ((c.tc : Thread Cert.MoeIIdeal.nD Cert.MoeIIdeal.τ).loc Cert.MoeIIdeal.main_arg2) = m ((c.tc : Thread Cert.MoeIIdeal.nD Cert.MoeIIdeal.τ).loc Cert.MoeIIdeal.main_arg2)
      ∧ r.2.mem ((c.tc : Thread Cert.MoeIIdeal.nD Cert.MoeIIdeal.τ).loc Cert.MoeIIdeal.main_arg3) = m ((c.tc : Thread Cert.MoeIIdeal.nD Cert.MoeIIdeal.τ).loc Cert.MoeIIdeal.main_arg3)
      ∧ r.2.mem ((c.tc : Thread Cert.MoeIIdeal.nD Cert.MoeIIdeal.τ).loc Cert.MoeIIdeal.main_arg4) = m ((c.tc : Thread Cert.MoeIIdeal.nD Cert.MoeIIdeal.τ).loc Cert.MoeIIdeal.main_arg4))
      ∧ r.2.sem = fun _ => 0)

def quiescent_MoeIRefIdeal [hMoeIRefIdeal : Cert.MoeIRefIdeal.Facts] : Prop :=
  ∀ (m : (ℓ : Loc Cert.MoeIRefIdeal.nD Cert.MoeIRefIdeal.τ Cert.MoeIRefIdeal.sig) → Buf (Elt Ideal) ℓ) (g : Dev Cert.MoeIRefIdeal.nD → PrngReg), Pre_MoeIRefIdeal m →
    θ_run (Cert.MoeIRefIdeal.defs (F := Ideal)) (onTc (τ := Cert.MoeIRefIdeal.τ) (Cert.MoeIRefIdeal.main (F := Ideal))) ⟨m, fun _ => 0, g⟩ (fun r => (∀ c : Dev Cert.MoeIRefIdeal.nD,
      r.2.mem ((c.tc : Thread Cert.MoeIRefIdeal.nD Cert.MoeIRefIdeal.τ).loc Cert.MoeIRefIdeal.main_arg0) = m ((c.tc : Thread Cert.MoeIRefIdeal.nD Cert.MoeIRefIdeal.τ).loc Cert.MoeIRefIdeal.main_arg0)
      ∧ r.2.mem ((c.tc : Thread Cert.MoeIRefIdeal.nD Cert.MoeIRefIdeal.τ).loc Cert.MoeIRefIdeal.main_arg1) = m ((c.tc : Thread Cert.MoeIRefIdeal.nD Cert.MoeIRefIdeal.τ).loc Cert.MoeIRefIdeal.main_arg1)
      ∧ r.2.mem ((c.tc : Thread Cert.MoeIRefIdeal.nD Cert.MoeIRefIdeal.τ).loc Cert.MoeIRefIdeal.main_arg2) = m ((c.tc : Thread Cert.MoeIRefIdeal.nD Cert.MoeIRefIdeal.τ).loc Cert.MoeIRefIdeal.main_arg2)
      ∧ r.2.mem ((c.tc : Thread Cert.MoeIRefIdeal.nD Cert.MoeIRefIdeal.τ).loc Cert.MoeIRefIdeal.main_arg3) = m ((c.tc : Thread Cert.MoeIRefIdeal.nD Cert.MoeIRefIdeal.τ).loc Cert.MoeIRefIdeal.main_arg3)
      ∧ r.2.mem ((c.tc : Thread Cert.MoeIRefIdeal.nD Cert.MoeIRefIdeal.τ).loc Cert.MoeIRefIdeal.main_arg4) = m ((c.tc : Thread Cert.MoeIRefIdeal.nD Cert.MoeIRefIdeal.τ).loc Cert.MoeIRefIdeal.main_arg4))
      ∧ r.2.sem = fun _ => 0)

def quiescent_MoeIRefIdeal_pre_infrared_experts [hMoeIRefIdeal : Cert.MoeIRefIdeal.Facts] [hPre_infrared_experts : Cert.Pre_infrared_experts.Facts] : Prop :=
  ∀ (m : (ℓ : Loc Cert.MoeIRefIdeal.nD Cert.MoeIRefIdeal.τ Cert.MoeIRefIdeal.sig) → Buf (Elt Ideal) ℓ) (g : Dev Cert.MoeIRefIdeal.nD → PrngReg), Pre_MoeIRefIdeal_infrared_experts m →
    θ_run (Cert.MoeIRefIdeal.defs (F := Ideal)) (onTc (τ := Cert.MoeIRefIdeal.τ) (Cert.MoeIRefIdeal.main (F := Ideal))) ⟨m, fun _ => 0, g⟩ (fun r => (∀ c : Dev Cert.MoeIRefIdeal.nD,
      r.2.mem ((c.tc : Thread Cert.MoeIRefIdeal.nD Cert.MoeIRefIdeal.τ).loc Cert.MoeIRefIdeal.main_arg0) = m ((c.tc : Thread Cert.MoeIRefIdeal.nD Cert.MoeIRefIdeal.τ).loc Cert.MoeIRefIdeal.main_arg0)
      ∧ r.2.mem ((c.tc : Thread Cert.MoeIRefIdeal.nD Cert.MoeIRefIdeal.τ).loc Cert.MoeIRefIdeal.main_arg1) = m ((c.tc : Thread Cert.MoeIRefIdeal.nD Cert.MoeIRefIdeal.τ).loc Cert.MoeIRefIdeal.main_arg1)
      ∧ r.2.mem ((c.tc : Thread Cert.MoeIRefIdeal.nD Cert.MoeIRefIdeal.τ).loc Cert.MoeIRefIdeal.main_arg2) = m ((c.tc : Thread Cert.MoeIRefIdeal.nD Cert.MoeIRefIdeal.τ).loc Cert.MoeIRefIdeal.main_arg2)
      ∧ r.2.mem ((c.tc : Thread Cert.MoeIRefIdeal.nD Cert.MoeIRefIdeal.τ).loc Cert.MoeIRefIdeal.main_arg3) = m ((c.tc : Thread Cert.MoeIRefIdeal.nD Cert.MoeIRefIdeal.τ).loc Cert.MoeIRefIdeal.main_arg3)
      ∧ r.2.mem ((c.tc : Thread Cert.MoeIRefIdeal.nD Cert.MoeIRefIdeal.τ).loc Cert.MoeIRefIdeal.main_arg4) = m ((c.tc : Thread Cert.MoeIRefIdeal.nD Cert.MoeIRefIdeal.τ).loc Cert.MoeIRefIdeal.main_arg4))
      ∧ r.2.sem = fun _ => 0)

def preserves_EncV_EncVIdeal : Prop :=
  True

def algebraic_EncVIdeal_EncVRefIdeal [hEncVIdeal : Cert.EncVIdeal.Facts] [hEncVRefIdeal : Cert.EncVRefIdeal.Facts] : Prop :=
  ∀ (m : (ℓ : Loc Cert.EncVIdeal.nD Cert.EncVIdeal.τ Cert.EncVIdeal.sig) → Buf (Elt Ideal) ℓ) (g : Dev Cert.EncVIdeal.nD → PrngReg)
    (m' : (ℓ : Loc Cert.EncVRefIdeal.nD Cert.EncVRefIdeal.τ Cert.EncVRefIdeal.sig) → Buf (Elt Ideal) ℓ) (g' : Dev Cert.EncVRefIdeal.nD → PrngReg), Pre_EncVIdeal m →
    (∀ c : Dev Cert.EncVIdeal.nD,
      m' ((c.tc : Thread Cert.EncVRefIdeal.nD Cert.EncVRefIdeal.τ).loc Cert.EncVRefIdeal.main_arg0) = m ((c.tc : Thread Cert.EncVIdeal.nD Cert.EncVIdeal.τ).loc Cert.EncVIdeal.main_arg0)
      ∧ m' ((c.tc : Thread Cert.EncVRefIdeal.nD Cert.EncVRefIdeal.τ).loc Cert.EncVRefIdeal.main_arg1) = m ((c.tc : Thread Cert.EncVIdeal.nD Cert.EncVIdeal.τ).loc Cert.EncVIdeal.main_arg1)
      ∧ m' ((c.tc : Thread Cert.EncVRefIdeal.nD Cert.EncVRefIdeal.τ).loc Cert.EncVRefIdeal.main_arg2) = m ((c.tc : Thread Cert.EncVIdeal.nD Cert.EncVIdeal.τ).loc Cert.EncVIdeal.main_arg2)
      ∧ m' ((c.tc : Thread Cert.EncVRefIdeal.nD Cert.EncVRefIdeal.τ).loc Cert.EncVRefIdeal.main_arg3) = m ((c.tc : Thread Cert.EncVIdeal.nD Cert.EncVIdeal.τ).loc Cert.EncVIdeal.main_arg3)
      ∧ m' ((c.tc : Thread Cert.EncVRefIdeal.nD Cert.EncVRefIdeal.τ).loc Cert.EncVRefIdeal.main_arg4) = m ((c.tc : Thread Cert.EncVIdeal.nD Cert.EncVIdeal.τ).loc Cert.EncVIdeal.main_arg4)) →
    ∃ (v0 : (c : Dev Cert.EncVIdeal.nD) → Buf (Elt Ideal) ((c.tc : Thread Cert.EncVIdeal.nD Cert.EncVIdeal.τ).loc Cert.EncVIdeal.main_v22)) (v1 : (c : Dev Cert.EncVIdeal.nD) → Buf (Elt Ideal) ((c.tc : Thread Cert.EncVIdeal.nD Cert.EncVIdeal.τ).loc Cert.EncVIdeal.main_v24)),
      θ_run (Cert.EncVIdeal.defs (F := Ideal)) (onTc (τ := Cert.EncVIdeal.τ) (Cert.EncVIdeal.main (F := Ideal))) ⟨m, fun _ => 0, g⟩ (fun r => ∀ c : Dev Cert.EncVIdeal.nD,
          r.2.mem ((c.tc : Thread Cert.EncVIdeal.nD Cert.EncVIdeal.τ).loc Cert.EncVIdeal.main_v22) = v0 c
          ∧ r.2.mem ((c.tc : Thread Cert.EncVIdeal.nD Cert.EncVIdeal.τ).loc Cert.EncVIdeal.main_v24) = v1 c
          ∧ r.2.mem ((c.tc : Thread Cert.EncVIdeal.nD Cert.EncVIdeal.τ).loc Cert.EncVIdeal.main_arg0) = m ((c.tc : Thread Cert.EncVIdeal.nD Cert.EncVIdeal.τ).loc Cert.EncVIdeal.main_arg0)
          ∧ r.2.mem ((c.tc : Thread Cert.EncVIdeal.nD Cert.EncVIdeal.τ).loc Cert.EncVIdeal.main_arg1) = m ((c.tc : Thread Cert.EncVIdeal.nD Cert.EncVIdeal.τ).loc Cert.EncVIdeal.main_arg1)
          ∧ r.2.mem ((c.tc : Thread Cert.EncVIdeal.nD Cert.EncVIdeal.τ).loc Cert.EncVIdeal.main_arg2) = m ((c.tc : Thread Cert.EncVIdeal.nD Cert.EncVIdeal.τ).loc Cert.EncVIdeal.main_arg2)
          ∧ r.2.mem ((c.tc : Thread Cert.EncVIdeal.nD Cert.EncVIdeal.τ).loc Cert.EncVIdeal.main_arg3) = m ((c.tc : Thread Cert.EncVIdeal.nD Cert.EncVIdeal.τ).loc Cert.EncVIdeal.main_arg3)
          ∧ r.2.mem ((c.tc : Thread Cert.EncVIdeal.nD Cert.EncVIdeal.τ).loc Cert.EncVIdeal.main_arg4) = m ((c.tc : Thread Cert.EncVIdeal.nD Cert.EncVIdeal.τ).loc Cert.EncVIdeal.main_arg4))
      ∧ θ_run (Cert.EncVRefIdeal.defs (F := Ideal)) (onTc (τ := Cert.EncVRefIdeal.τ) (Cert.EncVRefIdeal.main (F := Ideal))) ⟨m', fun _ => 0, g'⟩ (fun r => ∀ c : Dev Cert.EncVRefIdeal.nD,
          r.2.mem ((c.tc : Thread Cert.EncVRefIdeal.nD Cert.EncVRefIdeal.τ).loc Cert.EncVRefIdeal.main_v151) = v0 c
          ∧ r.2.mem ((c.tc : Thread Cert.EncVRefIdeal.nD Cert.EncVRefIdeal.τ).loc Cert.EncVRefIdeal.main_v158) = v1 c
          ∧ r.2.mem ((c.tc : Thread Cert.EncVRefIdeal.nD Cert.EncVRefIdeal.τ).loc Cert.EncVRefIdeal.main_arg0) = m' ((c.tc : Thread Cert.EncVRefIdeal.nD Cert.EncVRefIdeal.τ).loc Cert.EncVRefIdeal.main_arg0)
          ∧ r.2.mem ((c.tc : Thread Cert.EncVRefIdeal.nD Cert.EncVRefIdeal.τ).loc Cert.EncVRefIdeal.main_arg1) = m' ((c.tc : Thread Cert.EncVRefIdeal.nD Cert.EncVRefIdeal.τ).loc Cert.EncVRefIdeal.main_arg1)
          ∧ r.2.mem ((c.tc : Thread Cert.EncVRefIdeal.nD Cert.EncVRefIdeal.τ).loc Cert.EncVRefIdeal.main_arg2) = m' ((c.tc : Thread Cert.EncVRefIdeal.nD Cert.EncVRefIdeal.τ).loc Cert.EncVRefIdeal.main_arg2)
          ∧ r.2.mem ((c.tc : Thread Cert.EncVRefIdeal.nD Cert.EncVRefIdeal.τ).loc Cert.EncVRefIdeal.main_arg3) = m' ((c.tc : Thread Cert.EncVRefIdeal.nD Cert.EncVRefIdeal.τ).loc Cert.EncVRefIdeal.main_arg3)
          ∧ r.2.mem ((c.tc : Thread Cert.EncVRefIdeal.nD Cert.EncVRefIdeal.τ).loc Cert.EncVRefIdeal.main_arg4) = m' ((c.tc : Thread Cert.EncVRefIdeal.nD Cert.EncVRefIdeal.τ).loc Cert.EncVRefIdeal.main_arg4))

def preserves_EncI_EncIIdeal : Prop :=
  True

def algebraic_EncIIdeal_EncIRefIdeal [hEncIIdeal : Cert.EncIIdeal.Facts] [hEncIRefIdeal : Cert.EncIRefIdeal.Facts] : Prop :=
  ∀ (m : (ℓ : Loc Cert.EncIIdeal.nD Cert.EncIIdeal.τ Cert.EncIIdeal.sig) → Buf (Elt Ideal) ℓ) (g : Dev Cert.EncIIdeal.nD → PrngReg)
    (m' : (ℓ : Loc Cert.EncIRefIdeal.nD Cert.EncIRefIdeal.τ Cert.EncIRefIdeal.sig) → Buf (Elt Ideal) ℓ) (g' : Dev Cert.EncIRefIdeal.nD → PrngReg), Pre_EncIIdeal m →
    (∀ c : Dev Cert.EncIIdeal.nD,
      m' ((c.tc : Thread Cert.EncIRefIdeal.nD Cert.EncIRefIdeal.τ).loc Cert.EncIRefIdeal.main_arg0) = m ((c.tc : Thread Cert.EncIIdeal.nD Cert.EncIIdeal.τ).loc Cert.EncIIdeal.main_arg0)
      ∧ m' ((c.tc : Thread Cert.EncIRefIdeal.nD Cert.EncIRefIdeal.τ).loc Cert.EncIRefIdeal.main_arg1) = m ((c.tc : Thread Cert.EncIIdeal.nD Cert.EncIIdeal.τ).loc Cert.EncIIdeal.main_arg1)
      ∧ m' ((c.tc : Thread Cert.EncIRefIdeal.nD Cert.EncIRefIdeal.τ).loc Cert.EncIRefIdeal.main_arg2) = m ((c.tc : Thread Cert.EncIIdeal.nD Cert.EncIIdeal.τ).loc Cert.EncIIdeal.main_arg2)
      ∧ m' ((c.tc : Thread Cert.EncIRefIdeal.nD Cert.EncIRefIdeal.τ).loc Cert.EncIRefIdeal.main_arg3) = m ((c.tc : Thread Cert.EncIIdeal.nD Cert.EncIIdeal.τ).loc Cert.EncIIdeal.main_arg3)
      ∧ m' ((c.tc : Thread Cert.EncIRefIdeal.nD Cert.EncIRefIdeal.τ).loc Cert.EncIRefIdeal.main_arg4) = m ((c.tc : Thread Cert.EncIIdeal.nD Cert.EncIIdeal.τ).loc Cert.EncIIdeal.main_arg4)) →
    ∃ (v0 : (c : Dev Cert.EncIIdeal.nD) → Buf (Elt Ideal) ((c.tc : Thread Cert.EncIIdeal.nD Cert.EncIIdeal.τ).loc Cert.EncIIdeal.main_v22)) (v1 : (c : Dev Cert.EncIIdeal.nD) → Buf (Elt Ideal) ((c.tc : Thread Cert.EncIIdeal.nD Cert.EncIIdeal.τ).loc Cert.EncIIdeal.main_v24)),
      θ_run (Cert.EncIIdeal.defs (F := Ideal)) (onTc (τ := Cert.EncIIdeal.τ) (Cert.EncIIdeal.main (F := Ideal))) ⟨m, fun _ => 0, g⟩ (fun r => ∀ c : Dev Cert.EncIIdeal.nD,
          r.2.mem ((c.tc : Thread Cert.EncIIdeal.nD Cert.EncIIdeal.τ).loc Cert.EncIIdeal.main_v22) = v0 c
          ∧ r.2.mem ((c.tc : Thread Cert.EncIIdeal.nD Cert.EncIIdeal.τ).loc Cert.EncIIdeal.main_v24) = v1 c
          ∧ r.2.mem ((c.tc : Thread Cert.EncIIdeal.nD Cert.EncIIdeal.τ).loc Cert.EncIIdeal.main_arg0) = m ((c.tc : Thread Cert.EncIIdeal.nD Cert.EncIIdeal.τ).loc Cert.EncIIdeal.main_arg0)
          ∧ r.2.mem ((c.tc : Thread Cert.EncIIdeal.nD Cert.EncIIdeal.τ).loc Cert.EncIIdeal.main_arg1) = m ((c.tc : Thread Cert.EncIIdeal.nD Cert.EncIIdeal.τ).loc Cert.EncIIdeal.main_arg1)
          ∧ r.2.mem ((c.tc : Thread Cert.EncIIdeal.nD Cert.EncIIdeal.τ).loc Cert.EncIIdeal.main_arg2) = m ((c.tc : Thread Cert.EncIIdeal.nD Cert.EncIIdeal.τ).loc Cert.EncIIdeal.main_arg2)
          ∧ r.2.mem ((c.tc : Thread Cert.EncIIdeal.nD Cert.EncIIdeal.τ).loc Cert.EncIIdeal.main_arg3) = m ((c.tc : Thread Cert.EncIIdeal.nD Cert.EncIIdeal.τ).loc Cert.EncIIdeal.main_arg3)
          ∧ r.2.mem ((c.tc : Thread Cert.EncIIdeal.nD Cert.EncIIdeal.τ).loc Cert.EncIIdeal.main_arg4) = m ((c.tc : Thread Cert.EncIIdeal.nD Cert.EncIIdeal.τ).loc Cert.EncIIdeal.main_arg4))
      ∧ θ_run (Cert.EncIRefIdeal.defs (F := Ideal)) (onTc (τ := Cert.EncIRefIdeal.τ) (Cert.EncIRefIdeal.main (F := Ideal))) ⟨m', fun _ => 0, g'⟩ (fun r => ∀ c : Dev Cert.EncIRefIdeal.nD,
          r.2.mem ((c.tc : Thread Cert.EncIRefIdeal.nD Cert.EncIRefIdeal.τ).loc Cert.EncIRefIdeal.main_v151) = v0 c
          ∧ r.2.mem ((c.tc : Thread Cert.EncIRefIdeal.nD Cert.EncIRefIdeal.τ).loc Cert.EncIRefIdeal.main_v158) = v1 c
          ∧ r.2.mem ((c.tc : Thread Cert.EncIRefIdeal.nD Cert.EncIRefIdeal.τ).loc Cert.EncIRefIdeal.main_arg0) = m' ((c.tc : Thread Cert.EncIRefIdeal.nD Cert.EncIRefIdeal.τ).loc Cert.EncIRefIdeal.main_arg0)
          ∧ r.2.mem ((c.tc : Thread Cert.EncIRefIdeal.nD Cert.EncIRefIdeal.τ).loc Cert.EncIRefIdeal.main_arg1) = m' ((c.tc : Thread Cert.EncIRefIdeal.nD Cert.EncIRefIdeal.τ).loc Cert.EncIRefIdeal.main_arg1)
          ∧ r.2.mem ((c.tc : Thread Cert.EncIRefIdeal.nD Cert.EncIRefIdeal.τ).loc Cert.EncIRefIdeal.main_arg2) = m' ((c.tc : Thread Cert.EncIRefIdeal.nD Cert.EncIRefIdeal.τ).loc Cert.EncIRefIdeal.main_arg2)
          ∧ r.2.mem ((c.tc : Thread Cert.EncIRefIdeal.nD Cert.EncIRefIdeal.τ).loc Cert.EncIRefIdeal.main_arg3) = m' ((c.tc : Thread Cert.EncIRefIdeal.nD Cert.EncIRefIdeal.τ).loc Cert.EncIRefIdeal.main_arg3)
          ∧ r.2.mem ((c.tc : Thread Cert.EncIRefIdeal.nD Cert.EncIRefIdeal.τ).loc Cert.EncIRefIdeal.main_arg4) = m' ((c.tc : Thread Cert.EncIRefIdeal.nD Cert.EncIRefIdeal.τ).loc Cert.EncIRefIdeal.main_arg4))

def preserves_Fuse_FuseIdeal : Prop :=
  True

def algebraic_FuseIdeal_FuseRefIdeal [hFuseIdeal : Cert.FuseIdeal.Facts] [hFuseRefIdeal : Cert.FuseRefIdeal.Facts] : Prop :=
  ∀ (m : (ℓ : Loc Cert.FuseIdeal.nD Cert.FuseIdeal.τ Cert.FuseIdeal.sig) → Buf (Elt Ideal) ℓ) (g : Dev Cert.FuseIdeal.nD → PrngReg)
    (m' : (ℓ : Loc Cert.FuseRefIdeal.nD Cert.FuseRefIdeal.τ Cert.FuseRefIdeal.sig) → Buf (Elt Ideal) ℓ) (g' : Dev Cert.FuseRefIdeal.nD → PrngReg), Pre_FuseIdeal m →
    (∀ c : Dev Cert.FuseIdeal.nD,
      m' ((c.tc : Thread Cert.FuseRefIdeal.nD Cert.FuseRefIdeal.τ).loc Cert.FuseRefIdeal.main_arg0) = m ((c.tc : Thread Cert.FuseIdeal.nD Cert.FuseIdeal.τ).loc Cert.FuseIdeal.main_arg0)
      ∧ m' ((c.tc : Thread Cert.FuseRefIdeal.nD Cert.FuseRefIdeal.τ).loc Cert.FuseRefIdeal.main_arg1) = m ((c.tc : Thread Cert.FuseIdeal.nD Cert.FuseIdeal.τ).loc Cert.FuseIdeal.main_arg1)
      ∧ m' ((c.tc : Thread Cert.FuseRefIdeal.nD Cert.FuseRefIdeal.τ).loc Cert.FuseRefIdeal.main_arg2) = m ((c.tc : Thread Cert.FuseIdeal.nD Cert.FuseIdeal.τ).loc Cert.FuseIdeal.main_arg2)
      ∧ m' ((c.tc : Thread Cert.FuseRefIdeal.nD Cert.FuseRefIdeal.τ).loc Cert.FuseRefIdeal.main_arg3) = m ((c.tc : Thread Cert.FuseIdeal.nD Cert.FuseIdeal.τ).loc Cert.FuseIdeal.main_arg3)
      ∧ m' ((c.tc : Thread Cert.FuseRefIdeal.nD Cert.FuseRefIdeal.τ).loc Cert.FuseRefIdeal.main_arg4) = m ((c.tc : Thread Cert.FuseIdeal.nD Cert.FuseIdeal.τ).loc Cert.FuseIdeal.main_arg4)
      ∧ m' ((c.tc : Thread Cert.FuseRefIdeal.nD Cert.FuseRefIdeal.τ).loc Cert.FuseRefIdeal.main_arg5) = m ((c.tc : Thread Cert.FuseIdeal.nD Cert.FuseIdeal.τ).loc Cert.FuseIdeal.main_arg5)
      ∧ m' ((c.tc : Thread Cert.FuseRefIdeal.nD Cert.FuseRefIdeal.τ).loc Cert.FuseRefIdeal.main_arg6) = m ((c.tc : Thread Cert.FuseIdeal.nD Cert.FuseIdeal.τ).loc Cert.FuseIdeal.main_arg6)) →
    ∃ (v0 : (c : Dev Cert.FuseIdeal.nD) → Buf (Elt Ideal) ((c.tc : Thread Cert.FuseIdeal.nD Cert.FuseIdeal.τ).loc Cert.FuseIdeal.main_v36)),
      θ_run (Cert.FuseIdeal.defs (F := Ideal)) (onTc (τ := Cert.FuseIdeal.τ) (Cert.FuseIdeal.main (F := Ideal))) ⟨m, fun _ => 0, g⟩ (fun r => ∀ c : Dev Cert.FuseIdeal.nD,
          r.2.mem ((c.tc : Thread Cert.FuseIdeal.nD Cert.FuseIdeal.τ).loc Cert.FuseIdeal.main_v36) = v0 c
          ∧ r.2.mem ((c.tc : Thread Cert.FuseIdeal.nD Cert.FuseIdeal.τ).loc Cert.FuseIdeal.main_arg0) = m ((c.tc : Thread Cert.FuseIdeal.nD Cert.FuseIdeal.τ).loc Cert.FuseIdeal.main_arg0)
          ∧ r.2.mem ((c.tc : Thread Cert.FuseIdeal.nD Cert.FuseIdeal.τ).loc Cert.FuseIdeal.main_arg1) = m ((c.tc : Thread Cert.FuseIdeal.nD Cert.FuseIdeal.τ).loc Cert.FuseIdeal.main_arg1)
          ∧ r.2.mem ((c.tc : Thread Cert.FuseIdeal.nD Cert.FuseIdeal.τ).loc Cert.FuseIdeal.main_arg2) = m ((c.tc : Thread Cert.FuseIdeal.nD Cert.FuseIdeal.τ).loc Cert.FuseIdeal.main_arg2)
          ∧ r.2.mem ((c.tc : Thread Cert.FuseIdeal.nD Cert.FuseIdeal.τ).loc Cert.FuseIdeal.main_arg3) = m ((c.tc : Thread Cert.FuseIdeal.nD Cert.FuseIdeal.τ).loc Cert.FuseIdeal.main_arg3)
          ∧ r.2.mem ((c.tc : Thread Cert.FuseIdeal.nD Cert.FuseIdeal.τ).loc Cert.FuseIdeal.main_arg4) = m ((c.tc : Thread Cert.FuseIdeal.nD Cert.FuseIdeal.τ).loc Cert.FuseIdeal.main_arg4)
          ∧ r.2.mem ((c.tc : Thread Cert.FuseIdeal.nD Cert.FuseIdeal.τ).loc Cert.FuseIdeal.main_arg5) = m ((c.tc : Thread Cert.FuseIdeal.nD Cert.FuseIdeal.τ).loc Cert.FuseIdeal.main_arg5)
          ∧ r.2.mem ((c.tc : Thread Cert.FuseIdeal.nD Cert.FuseIdeal.τ).loc Cert.FuseIdeal.main_arg6) = m ((c.tc : Thread Cert.FuseIdeal.nD Cert.FuseIdeal.τ).loc Cert.FuseIdeal.main_arg6))
      ∧ θ_run (Cert.FuseRefIdeal.defs (F := Ideal)) (onTc (τ := Cert.FuseRefIdeal.τ) (Cert.FuseRefIdeal.main (F := Ideal))) ⟨m', fun _ => 0, g'⟩ (fun r => ∀ c : Dev Cert.FuseRefIdeal.nD,
          r.2.mem ((c.tc : Thread Cert.FuseRefIdeal.nD Cert.FuseRefIdeal.τ).loc Cert.FuseRefIdeal.main_v248) = v0 c
          ∧ r.2.mem ((c.tc : Thread Cert.FuseRefIdeal.nD Cert.FuseRefIdeal.τ).loc Cert.FuseRefIdeal.main_arg0) = m' ((c.tc : Thread Cert.FuseRefIdeal.nD Cert.FuseRefIdeal.τ).loc Cert.FuseRefIdeal.main_arg0)
          ∧ r.2.mem ((c.tc : Thread Cert.FuseRefIdeal.nD Cert.FuseRefIdeal.τ).loc Cert.FuseRefIdeal.main_arg1) = m' ((c.tc : Thread Cert.FuseRefIdeal.nD Cert.FuseRefIdeal.τ).loc Cert.FuseRefIdeal.main_arg1)
          ∧ r.2.mem ((c.tc : Thread Cert.FuseRefIdeal.nD Cert.FuseRefIdeal.τ).loc Cert.FuseRefIdeal.main_arg2) = m' ((c.tc : Thread Cert.FuseRefIdeal.nD Cert.FuseRefIdeal.τ).loc Cert.FuseRefIdeal.main_arg2)
          ∧ r.2.mem ((c.tc : Thread Cert.FuseRefIdeal.nD Cert.FuseRefIdeal.τ).loc Cert.FuseRefIdeal.main_arg3) = m' ((c.tc : Thread Cert.FuseRefIdeal.nD Cert.FuseRefIdeal.τ).loc Cert.FuseRefIdeal.main_arg3)
          ∧ r.2.mem ((c.tc : Thread Cert.FuseRefIdeal.nD Cert.FuseRefIdeal.τ).loc Cert.FuseRefIdeal.main_arg4) = m' ((c.tc : Thread Cert.FuseRefIdeal.nD Cert.FuseRefIdeal.τ).loc Cert.FuseRefIdeal.main_arg4)
          ∧ r.2.mem ((c.tc : Thread Cert.FuseRefIdeal.nD Cert.FuseRefIdeal.τ).loc Cert.FuseRefIdeal.main_arg5) = m' ((c.tc : Thread Cert.FuseRefIdeal.nD Cert.FuseRefIdeal.τ).loc Cert.FuseRefIdeal.main_arg5)
          ∧ r.2.mem ((c.tc : Thread Cert.FuseRefIdeal.nD Cert.FuseRefIdeal.τ).loc Cert.FuseRefIdeal.main_arg6) = m' ((c.tc : Thread Cert.FuseRefIdeal.nD Cert.FuseRefIdeal.τ).loc Cert.FuseRefIdeal.main_arg6))

def preserves_Viz_VizIdeal : Prop :=
  True

def algebraic_VizIdeal_VizRefIdeal [hVizIdeal : Cert.VizIdeal.Facts] [hVizRefIdeal : Cert.VizRefIdeal.Facts] : Prop :=
  ∀ (m : (ℓ : Loc Cert.VizIdeal.nD Cert.VizIdeal.τ Cert.VizIdeal.sig) → Buf (Elt Ideal) ℓ) (g : Dev Cert.VizIdeal.nD → PrngReg)
    (m' : (ℓ : Loc Cert.VizRefIdeal.nD Cert.VizRefIdeal.τ Cert.VizRefIdeal.sig) → Buf (Elt Ideal) ℓ) (g' : Dev Cert.VizRefIdeal.nD → PrngReg), Pre_VizIdeal m →
    (∀ c : Dev Cert.VizIdeal.nD,
      m' ((c.tc : Thread Cert.VizRefIdeal.nD Cert.VizRefIdeal.τ).loc Cert.VizRefIdeal.main_arg0) = m ((c.tc : Thread Cert.VizIdeal.nD Cert.VizIdeal.τ).loc Cert.VizIdeal.main_arg0)
      ∧ m' ((c.tc : Thread Cert.VizRefIdeal.nD Cert.VizRefIdeal.τ).loc Cert.VizRefIdeal.main_arg1) = m ((c.tc : Thread Cert.VizIdeal.nD Cert.VizIdeal.τ).loc Cert.VizIdeal.main_arg1)
      ∧ m' ((c.tc : Thread Cert.VizRefIdeal.nD Cert.VizRefIdeal.τ).loc Cert.VizRefIdeal.main_arg2) = m ((c.tc : Thread Cert.VizIdeal.nD Cert.VizIdeal.τ).loc Cert.VizIdeal.main_arg2)
      ∧ m' ((c.tc : Thread Cert.VizRefIdeal.nD Cert.VizRefIdeal.τ).loc Cert.VizRefIdeal.main_arg3) = m ((c.tc : Thread Cert.VizIdeal.nD Cert.VizIdeal.τ).loc Cert.VizIdeal.main_arg3)
      ∧ m' ((c.tc : Thread Cert.VizRefIdeal.nD Cert.VizRefIdeal.τ).loc Cert.VizRefIdeal.main_arg4) = m ((c.tc : Thread Cert.VizIdeal.nD Cert.VizIdeal.τ).loc Cert.VizIdeal.main_arg4)) →
    ∃ (v0 : (c : Dev Cert.VizIdeal.nD) → Buf (Elt Ideal) ((c.tc : Thread Cert.VizIdeal.nD Cert.VizIdeal.τ).loc Cert.VizIdeal.main_v12)),
      θ_run (Cert.VizIdeal.defs (F := Ideal)) (onTc (τ := Cert.VizIdeal.τ) (Cert.VizIdeal.main (F := Ideal))) ⟨m, fun _ => 0, g⟩ (fun r => ∀ c : Dev Cert.VizIdeal.nD,
          r.2.mem ((c.tc : Thread Cert.VizIdeal.nD Cert.VizIdeal.τ).loc Cert.VizIdeal.main_v12) = v0 c
          ∧ r.2.mem ((c.tc : Thread Cert.VizIdeal.nD Cert.VizIdeal.τ).loc Cert.VizIdeal.main_arg0) = m ((c.tc : Thread Cert.VizIdeal.nD Cert.VizIdeal.τ).loc Cert.VizIdeal.main_arg0)
          ∧ r.2.mem ((c.tc : Thread Cert.VizIdeal.nD Cert.VizIdeal.τ).loc Cert.VizIdeal.main_arg1) = m ((c.tc : Thread Cert.VizIdeal.nD Cert.VizIdeal.τ).loc Cert.VizIdeal.main_arg1)
          ∧ r.2.mem ((c.tc : Thread Cert.VizIdeal.nD Cert.VizIdeal.τ).loc Cert.VizIdeal.main_arg2) = m ((c.tc : Thread Cert.VizIdeal.nD Cert.VizIdeal.τ).loc Cert.VizIdeal.main_arg2)
          ∧ r.2.mem ((c.tc : Thread Cert.VizIdeal.nD Cert.VizIdeal.τ).loc Cert.VizIdeal.main_arg3) = m ((c.tc : Thread Cert.VizIdeal.nD Cert.VizIdeal.τ).loc Cert.VizIdeal.main_arg3)
          ∧ r.2.mem ((c.tc : Thread Cert.VizIdeal.nD Cert.VizIdeal.τ).loc Cert.VizIdeal.main_arg4) = m ((c.tc : Thread Cert.VizIdeal.nD Cert.VizIdeal.τ).loc Cert.VizIdeal.main_arg4))
      ∧ θ_run (Cert.VizRefIdeal.defs (F := Ideal)) (onTc (τ := Cert.VizRefIdeal.τ) (Cert.VizRefIdeal.main (F := Ideal))) ⟨m', fun _ => 0, g'⟩ (fun r => ∀ c : Dev Cert.VizRefIdeal.nD,
          r.2.mem ((c.tc : Thread Cert.VizRefIdeal.nD Cert.VizRefIdeal.τ).loc Cert.VizRefIdeal.main_v4) = v0 c
          ∧ r.2.mem ((c.tc : Thread Cert.VizRefIdeal.nD Cert.VizRefIdeal.τ).loc Cert.VizRefIdeal.main_arg0) = m' ((c.tc : Thread Cert.VizRefIdeal.nD Cert.VizRefIdeal.τ).loc Cert.VizRefIdeal.main_arg0)
          ∧ r.2.mem ((c.tc : Thread Cert.VizRefIdeal.nD Cert.VizRefIdeal.τ).loc Cert.VizRefIdeal.main_arg1) = m' ((c.tc : Thread Cert.VizRefIdeal.nD Cert.VizRefIdeal.τ).loc Cert.VizRefIdeal.main_arg1)
          ∧ r.2.mem ((c.tc : Thread Cert.VizRefIdeal.nD Cert.VizRefIdeal.τ).loc Cert.VizRefIdeal.main_arg2) = m' ((c.tc : Thread Cert.VizRefIdeal.nD Cert.VizRefIdeal.τ).loc Cert.VizRefIdeal.main_arg2)
          ∧ r.2.mem ((c.tc : Thread Cert.VizRefIdeal.nD Cert.VizRefIdeal.τ).loc Cert.VizRefIdeal.main_arg3) = m' ((c.tc : Thread Cert.VizRefIdeal.nD Cert.VizRefIdeal.τ).loc Cert.VizRefIdeal.main_arg3)
          ∧ r.2.mem ((c.tc : Thread Cert.VizRefIdeal.nD Cert.VizRefIdeal.τ).loc Cert.VizRefIdeal.main_arg4) = m' ((c.tc : Thread Cert.VizRefIdeal.nD Cert.VizRefIdeal.τ).loc Cert.VizRefIdeal.main_arg4))

def preserves_Route_RouteIdeal : Prop :=
  True

def algebraic_RouteIdeal_RouteRefIdeal [hRouteIdeal : Cert.RouteIdeal.Facts] [hRouteRefIdeal : Cert.RouteRefIdeal.Facts] [hPre_finite_scores : Cert.Pre_finite_scores.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v12)) (v1 : (c : Dev Cert.RouteIdeal.nD) → Buf (Elt Ideal) ((c.tc : Thread Cert.RouteIdeal.nD Cert.RouteIdeal.τ).loc Cert.RouteIdeal.main_v14)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v12) = v0 c
          ∧ r.2.mem ((c.tc : Thread Cert.RouteIdeal.nD Cert.RouteIdeal.τ).loc Cert.RouteIdeal.main_v14) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_indices) = v0 c
          ∧ r.2.mem ((c.tc : Thread Cert.RouteRefIdeal.nD Cert.RouteRefIdeal.τ).loc Cert.RouteRefIdeal.main_v21) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4))

def preserves_MoeV_MoeVIdeal : Prop :=
  True

def algebraic_MoeVIdeal_MoeVRefIdeal [hMoeVIdeal : Cert.MoeVIdeal.Facts] [hMoeVRefIdeal : Cert.MoeVRefIdeal.Facts] [hPre_visible_experts : Cert.Pre_visible_experts.Facts] : Prop :=
  ∀ (m : (ℓ : Loc Cert.MoeVIdeal.nD Cert.MoeVIdeal.τ Cert.MoeVIdeal.sig) → Buf (Elt Ideal) ℓ) (g : Dev Cert.MoeVIdeal.nD → PrngReg)
    (m' : (ℓ : Loc Cert.MoeVRefIdeal.nD Cert.MoeVRefIdeal.τ Cert.MoeVRefIdeal.sig) → Buf (Elt Ideal) ℓ) (g' : Dev Cert.MoeVRefIdeal.nD → PrngReg), Pre_MoeVIdeal m →
    (∀ c : Dev Cert.MoeVIdeal.nD,
      m' ((c.tc : Thread Cert.MoeVRefIdeal.nD Cert.MoeVRefIdeal.τ).loc Cert.MoeVRefIdeal.main_arg0) = m ((c.tc : Thread Cert.MoeVIdeal.nD Cert.MoeVIdeal.τ).loc Cert.MoeVIdeal.main_arg0)
      ∧ m' ((c.tc : Thread Cert.MoeVRefIdeal.nD Cert.MoeVRefIdeal.τ).loc Cert.MoeVRefIdeal.main_arg1) = m ((c.tc : Thread Cert.MoeVIdeal.nD Cert.MoeVIdeal.τ).loc Cert.MoeVIdeal.main_arg1)
      ∧ m' ((c.tc : Thread Cert.MoeVRefIdeal.nD Cert.MoeVRefIdeal.τ).loc Cert.MoeVRefIdeal.main_arg2) = m ((c.tc : Thread Cert.MoeVIdeal.nD Cert.MoeVIdeal.τ).loc Cert.MoeVIdeal.main_arg2)
      ∧ m' ((c.tc : Thread Cert.MoeVRefIdeal.nD Cert.MoeVRefIdeal.τ).loc Cert.MoeVRefIdeal.main_arg3) = m ((c.tc : Thread Cert.MoeVIdeal.nD Cert.MoeVIdeal.τ).loc Cert.MoeVIdeal.main_arg3)
      ∧ m' ((c.tc : Thread Cert.MoeVRefIdeal.nD Cert.MoeVRefIdeal.τ).loc Cert.MoeVRefIdeal.main_arg4) = m ((c.tc : Thread Cert.MoeVIdeal.nD Cert.MoeVIdeal.τ).loc Cert.MoeVIdeal.main_arg4)) →
    ∃ (v0 : (c : Dev Cert.MoeVIdeal.nD) → Buf (Elt Ideal) ((c.tc : Thread Cert.MoeVIdeal.nD Cert.MoeVIdeal.τ).loc Cert.MoeVIdeal.main_v10)),
      θ_run (Cert.MoeVIdeal.defs (F := Ideal)) (onTc (τ := Cert.MoeVIdeal.τ) (Cert.MoeVIdeal.main (F := Ideal))) ⟨m, fun _ => 0, g⟩ (fun r => ∀ c : Dev Cert.MoeVIdeal.nD,
          r.2.mem ((c.tc : Thread Cert.MoeVIdeal.nD Cert.MoeVIdeal.τ).loc Cert.MoeVIdeal.main_v10) = v0 c
          ∧ r.2.mem ((c.tc : Thread Cert.MoeVIdeal.nD Cert.MoeVIdeal.τ).loc Cert.MoeVIdeal.main_arg0) = m ((c.tc : Thread Cert.MoeVIdeal.nD Cert.MoeVIdeal.τ).loc Cert.MoeVIdeal.main_arg0)
          ∧ r.2.mem ((c.tc : Thread Cert.MoeVIdeal.nD Cert.MoeVIdeal.τ).loc Cert.MoeVIdeal.main_arg1) = m ((c.tc : Thread Cert.MoeVIdeal.nD Cert.MoeVIdeal.τ).loc Cert.MoeVIdeal.main_arg1)
          ∧ r.2.mem ((c.tc : Thread Cert.MoeVIdeal.nD Cert.MoeVIdeal.τ).loc Cert.MoeVIdeal.main_arg2) = m ((c.tc : Thread Cert.MoeVIdeal.nD Cert.MoeVIdeal.τ).loc Cert.MoeVIdeal.main_arg2)
          ∧ r.2.mem ((c.tc : Thread Cert.MoeVIdeal.nD Cert.MoeVIdeal.τ).loc Cert.MoeVIdeal.main_arg3) = m ((c.tc : Thread Cert.MoeVIdeal.nD Cert.MoeVIdeal.τ).loc Cert.MoeVIdeal.main_arg3)
          ∧ r.2.mem ((c.tc : Thread Cert.MoeVIdeal.nD Cert.MoeVIdeal.τ).loc Cert.MoeVIdeal.main_arg4) = m ((c.tc : Thread Cert.MoeVIdeal.nD Cert.MoeVIdeal.τ).loc Cert.MoeVIdeal.main_arg4))
      ∧ θ_run (Cert.MoeVRefIdeal.defs (F := Ideal)) (onTc (τ := Cert.MoeVRefIdeal.τ) (Cert.MoeVRefIdeal.main (F := Ideal))) ⟨m', fun _ => 0, g'⟩ (fun r => ∀ c : Dev Cert.MoeVRefIdeal.nD,
          r.2.mem ((c.tc : Thread Cert.MoeVRefIdeal.nD Cert.MoeVRefIdeal.τ).loc Cert.MoeVRefIdeal.main_v306) = v0 c
          ∧ r.2.mem ((c.tc : Thread Cert.MoeVRefIdeal.nD Cert.MoeVRefIdeal.τ).loc Cert.MoeVRefIdeal.main_arg0) = m' ((c.tc : Thread Cert.MoeVRefIdeal.nD Cert.MoeVRefIdeal.τ).loc Cert.MoeVRefIdeal.main_arg0)
          ∧ r.2.mem ((c.tc : Thread Cert.MoeVRefIdeal.nD Cert.MoeVRefIdeal.τ).loc Cert.MoeVRefIdeal.main_arg1) = m' ((c.tc : Thread Cert.MoeVRefIdeal.nD Cert.MoeVRefIdeal.τ).loc Cert.MoeVRefIdeal.main_arg1)
          ∧ r.2.mem ((c.tc : Thread Cert.MoeVRefIdeal.nD Cert.MoeVRefIdeal.τ).loc Cert.MoeVRefIdeal.main_arg2) = m' ((c.tc : Thread Cert.MoeVRefIdeal.nD Cert.MoeVRefIdeal.τ).loc Cert.MoeVRefIdeal.main_arg2)
          ∧ r.2.mem ((c.tc : Thread Cert.MoeVRefIdeal.nD Cert.MoeVRefIdeal.τ).loc Cert.MoeVRefIdeal.main_arg3) = m' ((c.tc : Thread Cert.MoeVRefIdeal.nD Cert.MoeVRefIdeal.τ).loc Cert.MoeVRefIdeal.main_arg3)
          ∧ r.2.mem ((c.tc : Thread Cert.MoeVRefIdeal.nD Cert.MoeVRefIdeal.τ).loc Cert.MoeVRefIdeal.main_arg4) = m' ((c.tc : Thread Cert.MoeVRefIdeal.nD Cert.MoeVRefIdeal.τ).loc Cert.MoeVRefIdeal.main_arg4))

def preserves_MoeI_MoeIIdeal : Prop :=
  True

def algebraic_MoeIIdeal_MoeIRefIdeal [hMoeIIdeal : Cert.MoeIIdeal.Facts] [hMoeIRefIdeal : Cert.MoeIRefIdeal.Facts] [hPre_infrared_experts : Cert.Pre_infrared_experts.Facts] : Prop :=
  ∀ (m : (ℓ : Loc Cert.MoeIIdeal.nD Cert.MoeIIdeal.τ Cert.MoeIIdeal.sig) → Buf (Elt Ideal) ℓ) (g : Dev Cert.MoeIIdeal.nD → PrngReg)
    (m' : (ℓ : Loc Cert.MoeIRefIdeal.nD Cert.MoeIRefIdeal.τ Cert.MoeIRefIdeal.sig) → Buf (Elt Ideal) ℓ) (g' : Dev Cert.MoeIRefIdeal.nD → PrngReg), Pre_MoeIIdeal m →
    (∀ c : Dev Cert.MoeIIdeal.nD,
      m' ((c.tc : Thread Cert.MoeIRefIdeal.nD Cert.MoeIRefIdeal.τ).loc Cert.MoeIRefIdeal.main_arg0) = m ((c.tc : Thread Cert.MoeIIdeal.nD Cert.MoeIIdeal.τ).loc Cert.MoeIIdeal.main_arg0)
      ∧ m' ((c.tc : Thread Cert.MoeIRefIdeal.nD Cert.MoeIRefIdeal.τ).loc Cert.MoeIRefIdeal.main_arg1) = m ((c.tc : Thread Cert.MoeIIdeal.nD Cert.MoeIIdeal.τ).loc Cert.MoeIIdeal.main_arg1)
      ∧ m' ((c.tc : Thread Cert.MoeIRefIdeal.nD Cert.MoeIRefIdeal.τ).loc Cert.MoeIRefIdeal.main_arg2) = m ((c.tc : Thread Cert.MoeIIdeal.nD Cert.MoeIIdeal.τ).loc Cert.MoeIIdeal.main_arg2)
      ∧ m' ((c.tc : Thread Cert.MoeIRefIdeal.nD Cert.MoeIRefIdeal.τ).loc Cert.MoeIRefIdeal.main_arg3) = m ((c.tc : Thread Cert.MoeIIdeal.nD Cert.MoeIIdeal.τ).loc Cert.MoeIIdeal.main_arg3)
      ∧ m' ((c.tc : Thread Cert.MoeIRefIdeal.nD Cert.MoeIRefIdeal.τ).loc Cert.MoeIRefIdeal.main_arg4) = m ((c.tc : Thread Cert.MoeIIdeal.nD Cert.MoeIIdeal.τ).loc Cert.MoeIIdeal.main_arg4)) →
    ∃ (v0 : (c : Dev Cert.MoeIIdeal.nD) → Buf (Elt Ideal) ((c.tc : Thread Cert.MoeIIdeal.nD Cert.MoeIIdeal.τ).loc Cert.MoeIIdeal.main_v10)),
      θ_run (Cert.MoeIIdeal.defs (F := Ideal)) (onTc (τ := Cert.MoeIIdeal.τ) (Cert.MoeIIdeal.main (F := Ideal))) ⟨m, fun _ => 0, g⟩ (fun r => ∀ c : Dev Cert.MoeIIdeal.nD,
          r.2.mem ((c.tc : Thread Cert.MoeIIdeal.nD Cert.MoeIIdeal.τ).loc Cert.MoeIIdeal.main_v10) = v0 c
          ∧ r.2.mem ((c.tc : Thread Cert.MoeIIdeal.nD Cert.MoeIIdeal.τ).loc Cert.MoeIIdeal.main_arg0) = m ((c.tc : Thread Cert.MoeIIdeal.nD Cert.MoeIIdeal.τ).loc Cert.MoeIIdeal.main_arg0)
          ∧ r.2.mem ((c.tc : Thread Cert.MoeIIdeal.nD Cert.MoeIIdeal.τ).loc Cert.MoeIIdeal.main_arg1) = m ((c.tc : Thread Cert.MoeIIdeal.nD Cert.MoeIIdeal.τ).loc Cert.MoeIIdeal.main_arg1)
          ∧ r.2.mem ((c.tc : Thread Cert.MoeIIdeal.nD Cert.MoeIIdeal.τ).loc Cert.MoeIIdeal.main_arg2) = m ((c.tc : Thread Cert.MoeIIdeal.nD Cert.MoeIIdeal.τ).loc Cert.MoeIIdeal.main_arg2)
          ∧ r.2.mem ((c.tc : Thread Cert.MoeIIdeal.nD Cert.MoeIIdeal.τ).loc Cert.MoeIIdeal.main_arg3) = m ((c.tc : Thread Cert.MoeIIdeal.nD Cert.MoeIIdeal.τ).loc Cert.MoeIIdeal.main_arg3)
          ∧ r.2.mem ((c.tc : Thread Cert.MoeIIdeal.nD Cert.MoeIIdeal.τ).loc Cert.MoeIIdeal.main_arg4) = m ((c.tc : Thread Cert.MoeIIdeal.nD Cert.MoeIIdeal.τ).loc Cert.MoeIIdeal.main_arg4))
      ∧ θ_run (Cert.MoeIRefIdeal.defs (F := Ideal)) (onTc (τ := Cert.MoeIRefIdeal.τ) (Cert.MoeIRefIdeal.main (F := Ideal))) ⟨m', fun _ => 0, g'⟩ (fun r => ∀ c : Dev Cert.MoeIRefIdeal.nD,
          r.2.mem ((c.tc : Thread Cert.MoeIRefIdeal.nD Cert.MoeIRefIdeal.τ).loc Cert.MoeIRefIdeal.main_v306) = v0 c
          ∧ r.2.mem ((c.tc : Thread Cert.MoeIRefIdeal.nD Cert.MoeIRefIdeal.τ).loc Cert.MoeIRefIdeal.main_arg0) = m' ((c.tc : Thread Cert.MoeIRefIdeal.nD Cert.MoeIRefIdeal.τ).loc Cert.MoeIRefIdeal.main_arg0)
          ∧ r.2.mem ((c.tc : Thread Cert.MoeIRefIdeal.nD Cert.MoeIRefIdeal.τ).loc Cert.MoeIRefIdeal.main_arg1) = m' ((c.tc : Thread Cert.MoeIRefIdeal.nD Cert.MoeIRefIdeal.τ).loc Cert.MoeIRefIdeal.main_arg1)
          ∧ r.2.mem ((c.tc : Thread Cert.MoeIRefIdeal.nD Cert.MoeIRefIdeal.τ).loc Cert.MoeIRefIdeal.main_arg2) = m' ((c.tc : Thread Cert.MoeIRefIdeal.nD Cert.MoeIRefIdeal.τ).loc Cert.MoeIRefIdeal.main_arg2)
          ∧ r.2.mem ((c.tc : Thread Cert.MoeIRefIdeal.nD Cert.MoeIRefIdeal.τ).loc Cert.MoeIRefIdeal.main_arg3) = m' ((c.tc : Thread Cert.MoeIRefIdeal.nD Cert.MoeIRefIdeal.τ).loc Cert.MoeIRefIdeal.main_arg3)
          ∧ r.2.mem ((c.tc : Thread Cert.MoeIRefIdeal.nD Cert.MoeIRefIdeal.τ).loc Cert.MoeIRefIdeal.main_arg4) = m' ((c.tc : Thread Cert.MoeIRefIdeal.nD Cert.MoeIRefIdeal.τ).loc Cert.MoeIRefIdeal.main_arg4))

def Claim : Prop :=
  ∃ (hEncV : Cert.EncV.Facts) (hEncVIdeal : Cert.EncVIdeal.Facts) (hEncVRefIdeal : Cert.EncVRefIdeal.Facts) (hEncI : Cert.EncI.Facts) (hEncIIdeal : Cert.EncIIdeal.Facts) (hEncIRefIdeal : Cert.EncIRefIdeal.Facts) (hFuse : Cert.Fuse.Facts) (hFuseIdeal : Cert.FuseIdeal.Facts) (hFuseRefIdeal : Cert.FuseRefIdeal.Facts) (hViz : Cert.Viz.Facts) (hVizIdeal : Cert.VizIdeal.Facts) (hVizRefIdeal : Cert.VizRefIdeal.Facts) (hRoute : Cert.Route.Facts) (hRouteIdeal : Cert.RouteIdeal.Facts) (hRouteRefIdeal : Cert.RouteRefIdeal.Facts) (hMoeV : Cert.MoeV.Facts) (hMoeVIdeal : Cert.MoeVIdeal.Facts) (hMoeVRefIdeal : Cert.MoeVRefIdeal.Facts) (hMoeI : Cert.MoeI.Facts) (hMoeIIdeal : Cert.MoeIIdeal.Facts) (hMoeIRefIdeal : Cert.MoeIRefIdeal.Facts) (hPre_finite_scores : Cert.Pre_finite_scores.Facts) (hPre_visible_experts : Cert.Pre_visible_experts.Facts) (hPre_infrared_experts : Cert.Pre_infrared_experts.Facts),
    quiescent_EncV (hEncV := hEncV)
    ∧ quiescent_EncVIdeal (hEncVIdeal := hEncVIdeal)
    ∧ quiescent_EncVRefIdeal (hEncVRefIdeal := hEncVRefIdeal)
    ∧ quiescent_EncI (hEncI := hEncI)
    ∧ quiescent_EncIIdeal (hEncIIdeal := hEncIIdeal)
    ∧ quiescent_EncIRefIdeal (hEncIRefIdeal := hEncIRefIdeal)
    ∧ quiescent_Fuse (hFuse := hFuse)
    ∧ quiescent_FuseIdeal (hFuseIdeal := hFuseIdeal)
    ∧ quiescent_FuseRefIdeal (hFuseRefIdeal := hFuseRefIdeal)
    ∧ quiescent_Viz (hViz := hViz)
    ∧ quiescent_VizIdeal (hVizIdeal := hVizIdeal)
    ∧ quiescent_VizRefIdeal (hVizRefIdeal := hVizRefIdeal)
    ∧ quiescent_Route (hRoute := hRoute) (hPre_finite_scores := hPre_finite_scores)
    ∧ quiescent_RouteIdeal (hRouteIdeal := hRouteIdeal) (hPre_finite_scores := hPre_finite_scores)
    ∧ quiescent_RouteRefIdeal (hRouteRefIdeal := hRouteRefIdeal)
    ∧ quiescent_RouteRefIdeal_pre_finite_scores (hRouteRefIdeal := hRouteRefIdeal) (hPre_finite_scores := hPre_finite_scores)
    ∧ quiescent_MoeV (hMoeV := hMoeV) (hPre_visible_experts := hPre_visible_experts)
    ∧ quiescent_MoeVIdeal (hMoeVIdeal := hMoeVIdeal) (hPre_visible_experts := hPre_visible_experts)
    ∧ quiescent_MoeVRefIdeal (hMoeVRefIdeal := hMoeVRefIdeal)
    ∧ quiescent_MoeVRefIdeal_pre_visible_experts (hMoeVRefIdeal := hMoeVRefIdeal) (hPre_visible_experts := hPre_visible_experts)
    ∧ quiescent_MoeI (hMoeI := hMoeI) (hPre_infrared_experts := hPre_infrared_experts)
    ∧ quiescent_MoeIIdeal (hMoeIIdeal := hMoeIIdeal) (hPre_infrared_experts := hPre_infrared_experts)
    ∧ quiescent_MoeIRefIdeal (hMoeIRefIdeal := hMoeIRefIdeal)
    ∧ quiescent_MoeIRefIdeal_pre_infrared_experts (hMoeIRefIdeal := hMoeIRefIdeal) (hPre_infrared_experts := hPre_infrared_experts)
    ∧ preserves_EncV_EncVIdeal
    ∧ algebraic_EncVIdeal_EncVRefIdeal (hEncVIdeal := hEncVIdeal) (hEncVRefIdeal := hEncVRefIdeal)
    ∧ preserves_EncI_EncIIdeal
    ∧ algebraic_EncIIdeal_EncIRefIdeal (hEncIIdeal := hEncIIdeal) (hEncIRefIdeal := hEncIRefIdeal)
    ∧ preserves_Fuse_FuseIdeal
    ∧ algebraic_FuseIdeal_FuseRefIdeal (hFuseIdeal := hFuseIdeal) (hFuseRefIdeal := hFuseRefIdeal)
    ∧ preserves_Viz_VizIdeal
    ∧ algebraic_VizIdeal_VizRefIdeal (hVizIdeal := hVizIdeal) (hVizRefIdeal := hVizRefIdeal)
    ∧ preserves_Route_RouteIdeal
    ∧ algebraic_RouteIdeal_RouteRefIdeal (hRouteIdeal := hRouteIdeal) (hRouteRefIdeal := hRouteRefIdeal) (hPre_finite_scores := hPre_finite_scores)
    ∧ preserves_MoeV_MoeVIdeal
    ∧ algebraic_MoeVIdeal_MoeVRefIdeal (hMoeVIdeal := hMoeVIdeal) (hMoeVRefIdeal := hMoeVRefIdeal) (hPre_visible_experts := hPre_visible_experts)
    ∧ preserves_MoeI_MoeIIdeal
    ∧ algebraic_MoeIIdeal_MoeIRefIdeal (hMoeIIdeal := hMoeIIdeal) (hMoeIRefIdeal := hMoeIRefIdeal) (hPre_infrared_experts := hPre_infrared_experts)
-- ==== Pre_finite_scores.lean ====
abbrev S1x64x224x224 : Shape := ⟨4, ![1, 64, 224, 224]⟩
abbrev S3x64 : Shape := ⟨2, ![3, 64]⟩
abbrev S3 : Shape := ⟨1, ![3]⟩
abbrev S_ : Shape := ⟨0, ![]⟩
abbrev S1x64 : Shape := ⟨2, ![1, 64]⟩
abbrev S64 : Shape := ⟨1, ![64]⟩
abbrev S64x3 : Shape := ⟨2, ![64, 3]⟩
abbrev S2 : Shape := ⟨1, ![2]⟩
abbrev S2x1x1 : Shape := ⟨3, ![2, 1, 1]⟩
abbrev S1x3x64 : Shape := ⟨3, ![1, 3, 64]⟩
abbrev S2x3x64 : Shape := ⟨3, ![2, 3, 64]⟩
abbrev S2x3x64x1x1 : Shape := ⟨5, ![2, 3, 64, 1, 1]⟩
abbrev S1x1x64x224x224 : Shape := ⟨5, ![1, 1, 64, 224, 224]⟩
abbrev S2x3x64x224x224 : Shape := ⟨5, ![2, 3, 64, 224, 224]⟩

class Facts : Prop where
  bcast_S_S1x64x224x224 : S_.BroadcastsInDim S1x64x224x224 (![] : Fin 0 → Fin S1x64x224x224.rank)
  reducesTo_S1x64x224x224_S1x64_d2_3 : S1x64x224x224.ReducesTo [2, 3] S1x64
  h_S_ : 0 < S_.numel
  bcast_S_S1x64 : S_.BroadcastsInDim S1x64 (![] : Fin 0 → Fin S1x64.rank)
  shapeCasts_S1x64_S64 : S1x64.ShapeCasts S64
  transposes_S3x64_S64x3_1_0 : S3x64.Transposes [1, 0] S64x3
  sliceFits_S3_S2 : S3.Slices (fun _ => 0) S2
  bcast_S_S2 : S_.BroadcastsInDim S2 (![] : Fin 0 → Fin S2.rank)
  bcast_S2_S2x1x1_0 : S2.BroadcastsInDim S2x1x1 (![0] : Fin 1 → Fin S2x1x1.rank)
  bcast_S_S3x64 : S_.BroadcastsInDim S3x64 (![] : Fin 0 → Fin S3x64.rank)
  bcast_S3x64_S1x3x64_1_2 : S3x64.BroadcastsInDim S1x3x64 (![1, 2] : Fin 2 → Fin S1x3x64.rank)
  bcast_S2x1x1_S2x3x64_0_1_2 : S2x1x1.BroadcastsInDim S2x3x64 (![0, 1, 2] : Fin 3 → Fin S2x3x64.rank)
  bcast_S1x3x64_S2x3x64_0_1_2 : S1x3x64.BroadcastsInDim S2x3x64 (![0, 1, 2] : Fin 3 → Fin S2x3x64.rank)
  bcast_S2x3x64_S2x3x64x1x1_0_1_2 : S2x3x64.BroadcastsInDim S2x3x64x1x1 (![0, 1, 2] : Fin 3 → Fin S2x3x64x1x1.rank)
  bcast_S1x64x224x224_S1x1x64x224x224_1_2_3_4 : S1x64x224x224.BroadcastsInDim S1x1x64x224x224 (![1, 2, 3, 4] : Fin 4 → Fin S1x1x64x224x224.rank)
  bcast_S1x1x64x224x224_S2x3x64x224x224_0_1_2_3_4 : S1x1x64x224x224.BroadcastsInDim S2x3x64x224x224 (![0, 1, 2, 3, 4] : Fin 5 → Fin S2x3x64x224x224.rank)
  bcast_S2x3x64x1x1_S2x3x64x224x224_0_1_2_3_4 : S2x3x64x1x1.BroadcastsInDim S2x3x64x224x224 (![0, 1, 2, 3, 4] : Fin 5 → Fin S2x3x64x224x224.rank)
  dot_S64_S64x3_S3_0_0_n_1_n_n_wf : DotDims.WF S64 S64x3 S3 [0] [0] [] [1] [] []

variable [Facts]

def dot_S64_S64x3_S3_0_0_n_1_n_n : DotDims S64 S64x3 S3 where
  lhsContracting := [0]
  rhsContracting := [0]
  lhsNonContracting := []
  rhsNonContracting := [1]
  lhsBatch := []
  rhsBatch := []
  wf := dot_S64_S64x3_S3_0_0_n_1_n_n_wf
def fn_part1 {F : FTy → Type} [FloatOps F] (main_arg3 : FVec F S3x64 .f32) (main_v4 : FVec F S1x64x224x224 .f32) (main_values : FVec F S2 .f32) (main_cst_3 : FVec F S_ .f32) : IVec S2x3x64x224x224 1 :=
  let main_v17 : FVec F S2 .f32 := broadcastInDim S2 ![] bcast_S_S2 main_cst_3
  let main_v18 : IVec S2 1 := cmpf .ogt main_values main_v17
  let main_v19 : IVec S2x1x1 1 := broadcastInDim S2x1x1 ![0] bcast_S2_S2x1x1_0 main_v18
  let main_v20 : FVec F S3x64 .f32 := Host.absf main_arg3
  let main_cst_4 : FVec F S_ .f32 := constant S_ .f32 0x7F800000#32
  let main_v21 : FVec F S3x64 .f32 := broadcastInDim S3x64 ![] bcast_S_S3x64 main_cst_4
  let main_v22 : IVec S3x64 1 := cmpf .olt main_v20 main_v21
  let main_v23 : IVec S1x3x64 1 := broadcastInDim S1x3x64 ![1, 2] bcast_S3x64_S1x3x64_1_2 main_v22
  let main_v24 : IVec S2x3x64 1 := broadcastInDim S2x3x64 ![0, 1, 2] bcast_S2x1x1_S2x3x64_0_1_2 main_v19
  let main_v25 : IVec S2x3x64 1 := broadcastInDim S2x3x64 ![0, 1, 2] bcast_S1x3x64_S2x3x64_0_1_2 main_v23
  let main_v26 : IVec S2x3x64 1 := andi main_v24 main_v25
  let main_v27 : FVec F S1x64x224x224 .f32 := Host.absf main_v4
  let main_cst_5 : FVec F S_ .f32 := constant S_ .f32 0x7F800000#32
  let main_v28 : FVec F S1x64x224x224 .f32 := broadcastInDim S1x64x224x224 ![] bcast_S_S1x64x224x224 main_cst_5
  let main_v29 : IVec S1x64x224x224 1 := cmpf .olt main_v27 main_v28
  let main_v30 : IVec S2x3x64x1x1 1 := broadcastInDim S2x3x64x1x1 ![0, 1, 2] bcast_S2x3x64_S2x3x64x1x1_0_1_2 main_v26
  let main_v31 : IVec S1x1x64x224x224 1 := broadcastInDim S1x1x64x224x224 ![1, 2, 3, 4] bcast_S1x64x224x224_S1x1x64x224x224_1_2_3_4 main_v29
  let main_v32 : IVec S2x3x64x224x224 1 := broadcastInDim S2x3x64x224x224 ![0, 1, 2, 3, 4] bcast_S1x1x64x224x224_S2x3x64x224x224_0_1_2_3_4 main_v31
  let main_v33 : IVec S2x3x64x224x224 1 := broadcastInDim S2x3x64x224x224 ![0, 1, 2, 3, 4] bcast_S2x3x64x1x1_S2x3x64x224x224_0_1_2_3_4 main_v30
  let main_v34 : IVec S2x3x64x224x224 1 := andi main_v32 main_v33
  main_v34

def fn {F : FTy → Type} [FloatOps F] (main_arg0 : FVec F S1x64x224x224 .f32) (main_arg1 : FVec F S1x64x224x224 .f32) (main_arg2 : FVec F S1x64x224x224 .f32) (main_arg3 : FVec F S3x64 .f32) (main_arg4 : FVec F S3 .f32) : IVec S2x3x64x224x224 1 :=
  let main_v0 : FVec F S1x64x224x224 .f32 := Host.sqrt main_arg1
  let main_cst : FVec F S_ .f32 := constant S_ .f32 0x3F800000#32
  let main_v1 : FVec F S1x64x224x224 .f32 := broadcastInDim S1x64x224x224 ![] bcast_S_S1x64x224x224 main_cst
  let main_v2 : FVec F S1x64x224x224 .f32 := mulf main_v1 main_v0
  let main_v3 : FVec F S1x64x224x224 .f32 := mulf main_v2 main_arg2
  let main_v4 : FVec F S1x64x224x224 .f32 := addf main_arg0 main_v3
  let main_v5 : FVec F S1x64x224x224 .f32 := Host.sqrt main_arg1
  let main_cst_0 : FVec F S_ .f32 := constant S_ .f32 0x3F800000#32
  let main_v6 : FVec F S1x64x224x224 .f32 := broadcastInDim S1x64x224x224 ![] bcast_S_S1x64x224x224 main_cst_0
  let main_v7 : FVec F S1x64x224x224 .f32 := mulf main_v6 main_v5
  let main_v8 : FVec F S1x64x224x224 .f32 := mulf main_v7 main_arg2
  let main_v9 : FVec F S1x64x224x224 .f32 := addf main_arg0 main_v8
  let main_cst_1 : FVec F S_ .f32 := constant S_ .f32 0x00000000#32
  let main_v10 : FVec F S1x64 .f32 := (fun x v => Host.reduceAdd x v reducesTo_S1x64x224x224_S1x64_d2_3 h_S_) main_v9 main_cst_1
  let main_cst_2 : FVec F S_ .f32 := constant S_ .f32 0x47440000#32
  let main_v11 : FVec F S1x64 .f32 := broadcastInDim S1x64 ![] bcast_S_S1x64 main_cst_2
  let main_v12 : FVec F S1x64 .f32 := Host.divf main_v10 main_v11
  let main_v13 : FVec F S64 .f32 := shapeCast S64 main_v12 shapeCasts_S1x64_S64
  let main_v14 : FVec F S64x3 .f32 := (transpose S64x3 [1, 0] · transposes_S3x64_S64x3_1_0) main_arg3
  let main_v15 : FVec F S3 .f32 := (fun l r => Host.dotGeneral dot_S64_S64x3_S3_0_0_n_1_n_n none l r) main_v13 main_v14
  let main_v16 : FVec F S3 .f32 := addf main_v15 main_arg4
  let main_values : FVec F S2 .f32 := (fun x => (Host.topK S2 0 (FloatOps.cmpfTotal .gt) x sliceFits_S3_S2).1) main_v16
  let main_indices : IVec S2 32 := (fun x => (Host.topK S2 0 (FloatOps.cmpfTotal .gt) x sliceFits_S3_S2).2) main_v16
  let main_cst_3 : FVec F S_ .f32 := constant S_ .f32 0xF149F2CA#32
  fn_part1 (F := F) main_arg3 main_v4 main_values main_cst_3
-- ==== Pre_infrared_experts.lean ====
abbrev S1x64x224x224 : Shape := ⟨4, ![1, 64, 224, 224]⟩
abbrev S3x64x64x3x3 : Shape := ⟨5, ![3, 64, 64, 3, 3]⟩
abbrev S3x1x64x3x3 : Shape := ⟨5, ![3, 1, 64, 3, 3]⟩
abbrev S2 : Shape := ⟨1, ![2]⟩
abbrev S_ : Shape := ⟨0, ![]⟩
abbrev S1 : Shape := ⟨1, ![1]⟩

class Facts : Prop where
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x64x224x224 .f32) (main_arg1 : FVec F S3x64x64x3x3 .f32) (main_arg2 : FVec F S3x1x64x3x3 .f32) (main_arg3 : IVec S2 32) (main_arg4 : FVec F S2 .f32) : IVec S2 1 :=
  let main_c : IVec S_ 32 := constantI S_ 32 0#32
  let main_v0 : IVec S2 32 := broadcastInDim S2 ![] bcast_S_S2 main_c
  let main_v1 : IVec S2 1 := cmpi .sge main_arg3 main_v0
  let main_c_0 : IVec S_ 32 := constantI S_ 32 3#32
  let main_v2 : IVec S2 32 := broadcastInDim S2 ![] bcast_S_S2 main_c_0
  let main_v3 : IVec S2 1 := cmpi .slt main_arg3 main_v2
  let main_v4 : IVec S2 1 := andi main_v1 main_v3
  let main_v5 : IVec S1 32 := (extractStridedSlice S1 ![0] · slices_S2_S1_0) main_arg3
  let main_v6 : IVec S_ 32 := shapeCast S_ main_v5 shapeCasts_S1_S_
  let main_v7 : IVec S1 32 := (extractStridedSlice S1 ![1] · slices_S2_S1_1) main_arg3
  let main_v8 : IVec S_ 32 := shapeCast S_ main_v7 shapeCasts_S1_S_
  let main_v9 : IVec S_ 1 := cmpi .ne main_v6 main_v8
  let main_v10 : IVec S2 1 := broadcastInDim S2 ![] bcast_S_S2 main_v9
  let main_v11 : IVec S2 1 := andi main_v4 main_v10
  main_v11
-- ==== Pre_visible_experts.lean ====
abbrev S1x64x224x224 : Shape := ⟨4, ![1, 64, 224, 224]⟩
abbrev S3x64x64x3x3 : Shape := ⟨5, ![3, 64, 64, 3, 3]⟩
abbrev S3x3x64x3x3 : Shape := ⟨5, ![3, 3, 64, 3, 3]⟩
abbrev S2 : Shape := ⟨1, ![2]⟩
abbrev S_ : Shape := ⟨0, ![]⟩
abbrev S1 : Shape := ⟨1, ![1]⟩

class Facts : Prop where
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x64x224x224 .f32) (main_arg1 : FVec F S3x64x64x3x3 .f32) (main_arg2 : FVec F S3x3x64x3x3 .f32) (main_arg3 : IVec S2 32) (main_arg4 : FVec F S2 .f32) : IVec S2 1 :=
  let main_c : IVec S_ 32 := constantI S_ 32 0#32
  let main_v0 : IVec S2 32 := broadcastInDim S2 ![] bcast_S_S2 main_c
  let main_v1 : IVec S2 1 := cmpi .sge main_arg3 main_v0
  let main_c_0 : IVec S_ 32 := constantI S_ 32 3#32
  let main_v2 : IVec S2 32 := broadcastInDim S2 ![] bcast_S_S2 main_c_0
  let main_v3 : IVec S2 1 := cmpi .slt main_arg3 main_v2
  let main_v4 : IVec S2 1 := andi main_v1 main_v3
  let main_v5 : IVec S1 32 := (extractStridedSlice S1 ![0] · slices_S2_S1_0) main_arg3
  let main_v6 : IVec S_ 32 := shapeCast S_ main_v5 shapeCasts_S1_S_
  let main_v7 : IVec S1 32 := (extractStridedSlice S1 ![1] · slices_S2_S1_1) main_arg3
  let main_v8 : IVec S_ 32 := shapeCast S_ main_v7 shapeCasts_S1_S_
  let main_v9 : IVec S_ 1 := cmpi .ne main_v6 main_v8
  let main_v10 : IVec S2 1 := broadcastInDim S2 ![] bcast_S_S2 main_v9
  let main_v11 : IVec S2 1 := andi main_v4 main_v10
  main_v11
-- ==== EncV.lean ====
abbrev S1x3x224x224 : Shape := ⟨4, ![1, 3, 224, 224]⟩
abbrev S64x3x3x3 : Shape := ⟨4, ![64, 3, 3, 3]⟩
abbrev S2x64x64x3x3 : Shape := ⟨5, ![2, 64, 64, 3, 3]⟩
abbrev S64x64x1x1 : Shape := ⟨4, ![64, 64, 1, 1]⟩
abbrev S3x224x224 : Shape := ⟨3, ![3, 224, 224]⟩
abbrev S224x3x224 : Shape := ⟨3, ![224, 3, 224]⟩
abbrev S_ : Shape := ⟨0, ![]⟩
abbrev S226x8x226 : Shape := ⟨3, ![226, 8, 226]⟩
abbrev S64x8x3x3 : Shape := ⟨4, ![64, 8, 3, 3]⟩
abbrev S3x64x3x8 : Shape := ⟨4, ![3, 64, 3, 8]⟩
abbrev S3x64x24 : Shape := ⟨3, ![3, 64, 24]⟩
abbrev S226x64x226 : Shape := ⟨3, ![226, 64, 226]⟩
abbrev S64x226 : Shape := ⟨2, ![64, 226]⟩
abbrev S1x64x226 : Shape := ⟨3, ![1, 64, 226]⟩
abbrev S3x8x226 : Shape := ⟨3, ![3, 8, 226]⟩
abbrev S24x226 : Shape := ⟨2, ![24, 226]⟩
abbrev S1x64x24 : Shape := ⟨3, ![1, 64, 24]⟩
abbrev S64x24 : Shape := ⟨2, ![64, 24]⟩
abbrev S24x224 : Shape := ⟨2, ![24, 224]⟩
abbrev S64x224 : Shape := ⟨2, ![64, 224]⟩
abbrev S64x1 : Shape := ⟨2, ![64, 1]⟩
abbrev S1x64x64x3x3 : Shape := ⟨5, ![1, 64, 64, 3, 3]⟩
abbrev S64x64x3x3 : Shape := ⟨4, ![64, 64, 3, 3]⟩
abbrev S3x64x3x64 : Shape := ⟨4, ![3, 64, 3, 64]⟩
abbrev S3x64x192 : Shape := ⟨3, ![3, 64, 192]⟩
abbrev S3x64x226 : Shape := ⟨3, ![3, 64, 226]⟩
abbrev S192x226 : Shape := ⟨2, ![192, 226]⟩
abbrev S1x64x192 : Shape := ⟨3, ![1, 64, 192]⟩
abbrev S64x192 : Shape := ⟨2, ![64, 192]⟩
abbrev S192x224 : Shape := ⟨2, ![192, 224]⟩
abbrev S64x64 : Shape := ⟨2, ![64, 64]⟩
abbrev S128x64 : Shape := ⟨2, ![128, 64]⟩
abbrev S224x64x224 : Shape := ⟨3, ![224, 64, 224]⟩
abbrev S1x64x224 : Shape := ⟨3, ![1, 64, 224]⟩
abbrev S128x224 : Shape := ⟨2, ![128, 224]⟩
abbrev S64x224x224 : Shape := ⟨3, ![64, 224, 224]⟩
abbrev S1x64x224x224 : Shape := ⟨4, ![1, 64, 224, 224]⟩

abbrev nBuf : Space → Nat
  | .hbm => 35
  | .vmem => 13
  | .smem => 0
  | _ => 0

abbrev bufTy : (tb : Table) → Fin (tcTables nBuf tb) → BufTy
  | .hbm, ⟨0, _⟩ => ⟨S1x3x224x224, .f32⟩
  | .hbm, ⟨1, _⟩ => ⟨S64x3x3x3, .f32⟩
  | .hbm, ⟨2, _⟩ => ⟨S2x64x64x3x3, .f32⟩
  | .hbm, ⟨3, _⟩ => ⟨S64x64x1x1, .f32⟩
  | .hbm, ⟨4, _⟩ => ⟨S64x64x1x1, .f32⟩
  | .hbm, ⟨5, _⟩ => ⟨S3x224x224, .f32⟩
  | .hbm, ⟨6, _⟩ => ⟨S224x3x224, .f32⟩
  | .hbm, ⟨7, _⟩ => ⟨S_, .i32⟩
  | .hbm, ⟨8, _⟩ => ⟨S_, .f32⟩
  | .hbm, ⟨9, _⟩ => ⟨S226x8x226, .f32⟩
  | .hbm, ⟨10, _⟩ => ⟨S_, .i32⟩
  | .hbm, ⟨11, _⟩ => ⟨S_, .f32⟩
  | .hbm, ⟨12, _⟩ => ⟨S64x8x3x3, .f32⟩
  | .hbm, ⟨13, _⟩ => ⟨S3x64x3x8, .f32⟩
  | .hbm, ⟨14, _⟩ => ⟨S3x64x24, .f32⟩
  | .hbm, ⟨15, _⟩ => ⟨S226x64x226, .f32⟩
  | .hbm, ⟨16, _⟩ => ⟨S1x64x64x3x3, .f32⟩
  | .hbm, ⟨17, _⟩ => ⟨S64x64x3x3, .f32⟩
  | .hbm, ⟨18, _⟩ => ⟨S3x64x3x64, .f32⟩
  | .hbm, ⟨19, _⟩ => ⟨S3x64x192, .f32⟩
  | .hbm, ⟨20, _⟩ => ⟨S226x64x226, .f32⟩
  | .hbm, ⟨21, _⟩ => ⟨S1x64x64x3x3, .f32⟩
  | .hbm, ⟨22, _⟩ => ⟨S64x64x3x3, .f32⟩
  | .hbm, ⟨23, _⟩ => ⟨S3x64x3x64, .f32⟩
  | .hbm, ⟨24, _⟩ => ⟨S3x64x192, .f32⟩
  | .hbm, ⟨25, _⟩ => ⟨S226x64x226, .f32⟩
  | .hbm, ⟨26, _⟩ => ⟨S64x64, .f32⟩
  | .hbm, ⟨27, _⟩ => ⟨S64x64, .f32⟩
  | .hbm, ⟨28, _⟩ => ⟨S128x64, .f32⟩
  | .hbm, ⟨29, _⟩ => ⟨S224x64x224, .f32⟩
  | .hbm, ⟨30, _⟩ => ⟨S224x64x224, .f32⟩
  | .hbm, ⟨31, _⟩ => ⟨S64x224x224, .f32⟩
  | .hbm, ⟨32, _⟩ => ⟨S1x64x224x224, .f32⟩
  | .hbm, ⟨33, _⟩ => ⟨S64x224x224, .f32⟩
  | .hbm, ⟨34, _⟩ => ⟨S1x64x224x224, .f32⟩
  | .local _ .vmem, ⟨0, _⟩ => ⟨S226x8x226, .f32⟩
  | .local _ .vmem, ⟨1, _⟩ => ⟨S3x64x24, .f32⟩
  | .local _ .vmem, ⟨2, _⟩ => ⟨S226x64x226, .f32⟩
  | .local _ .vmem, ⟨3, _⟩ => ⟨S226x64x226, .f32⟩
  | .local _ .vmem, ⟨4, _⟩ => ⟨S3x64x192, .f32⟩
  | .local _ .vmem, ⟨5, _⟩ => ⟨S226x64x226, .f32⟩
  | .local _ .vmem, ⟨6, _⟩ => ⟨S226x64x226, .f32⟩
  | .local _ .vmem, ⟨7, _⟩ => ⟨S3x64x192, .f32⟩
  | .local _ .vmem, ⟨8, _⟩ => ⟨S226x64x226, .f32⟩
  | .local _ .vmem, ⟨9, _⟩ => ⟨S226x64x226, .f32⟩
  | .local _ .vmem, ⟨10, _⟩ => ⟨S128x64, .f32⟩
  | .local _ .vmem, ⟨11, _⟩ => ⟨S224x64x224, .f32⟩
  | .local _ .vmem, ⟨12, _⟩ => ⟨S224x64x224, .f32⟩
  | _, _ => ⟨S1x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc3_sem3_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v9 : Index := Scalar.indexCast arg3
  let c0_6 : Index := 0#32
  let c0_7 : Index := 0#32
  ![v9.toNat, 0, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage0_0 : Fin 1 → Memref sig .tc .vmem S226x8x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S226x64x226 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k1_off1 (k1_t1 : Fin k1_t1_loop.trips) : Fin 3 → Nat :=
  let c0_i32 : BitVec 32 := 0#32
  let c1_i32 : BitVec 32 := 1#32
  let arg3 : BitVec 32 := Scf.iv c0_i32 c1_i32 k1_t1
  let v9 : Index := Scalar.indexCast arg3
  let c0_6 : Index := 0#32
  let c0_7 : Index := 0#32
  ![v9.toNat, 0, 0]
def k1_off2 (k1_t1 : Fin k1_t1_loop.trips) : Fin 3 → Nat :=
  let c0_i32 : BitVec 32 := 0#32
  let c1_i32 : BitVec 32 := 1#32
  let arg3 : BitVec 32 := Scf.iv c0_i32 c1_i32 k1_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage1_0 : Fin 1 → Memref sig .tc .vmem S226x64x226 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S226x64x226 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k2_off1 (k2_t1 : Fin k2_t1_loop.trips) : Fin 3 → Nat :=
  let c0_i32 : BitVec 32 := 0#32
  let c1_i32 : BitVec 32 := 1#32
  let arg3 : BitVec 32 := Scf.iv c0_i32 c1_i32 k2_t1
  let v9 : Index := Scalar.indexCast arg3
  let c0_6 : Index := 0#32
  let c0_7 : Index := 0#32
  ![v9.toNat, 0, 0]
def k2_off2 (k2_t1 : Fin k2_t1_loop.trips) : Fin 3 → Nat :=
  let c0_i32 : BitVec 32 := 0#32
  let c1_i32 : BitVec 32 := 1#32
  let arg3 : BitVec 32 := Scf.iv c0_i32 c1_i32 k2_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage2_0 : Fin 1 → Memref sig .tc .vmem S226x64x226 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3x64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S226x64x226 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c224_i32 : BitVec 32 := 224#32
  let v0 : BitVec 32 := Scalar.addi c0_i32 c224_i32
  let c1_i32 : BitVec 32 := 1#32
  ⟨c0_i32, v0, c1_i32⟩
def k3_off1 (k3_t1 : Fin k3_t1_loop.trips) : Fin 3 → Nat :=
  let c0_i32 : BitVec 32 := 0#32
  let c1_i32 : BitVec 32 := 1#32
  let arg4 : BitVec 32 := Scf.iv c0_i32 c1_i32 k3_t1
  let c1_i32_1 : BitVec 32 := 1#32
  let v1 : BitVec 32 := Scalar.addi arg4 c1_i32_1
  let v2 : Index := Scalar.indexCast v1
  let c0 : Index := 0#32
  let c1 : Index := 1#32
  ![v2.toNat, 0, 1]
def k3_off2 (k3_t1 : Fin k3_t1_loop.trips) : Fin 3 → Nat :=
  let c0_i32 : BitVec 32 := 0#32
  let c1_i32 : BitVec 32 := 1#32
  let arg4 : BitVec 32 := Scf.iv c0_i32 c1_i32 k3_t1
  let v9 : Index := Scalar.indexCast arg4
  let c0_4 : Index := 0#32
  let c0_5 : Index := 0#32
  ![v9.toNat, 0, 0]
abbrev stage3_0 : Fin 1 → Memref sig .tc .vmem S226x64x226 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S224x64x224 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S224x64x224 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== EncVIdeal.lean ====
abbrev S1x3x224x224 : Shape := ⟨4, ![1, 3, 224, 224]⟩
abbrev S64x3x3x3 : Shape := ⟨4, ![64, 3, 3, 3]⟩
abbrev S2x64x64x3x3 : Shape := ⟨5, ![2, 64, 64, 3, 3]⟩
abbrev S64x64x1x1 : Shape := ⟨4, ![64, 64, 1, 1]⟩
abbrev S3x224x224 : Shape := ⟨3, ![3, 224, 224]⟩
abbrev S224x3x224 : Shape := ⟨3, ![224, 3, 224]⟩
abbrev S_ : Shape := ⟨0, ![]⟩
abbrev S226x8x226 : Shape := ⟨3, ![226, 8, 226]⟩
abbrev S64x8x3x3 : Shape := ⟨4, ![64, 8, 3, 3]⟩
abbrev S3x64x3x8 : Shape := ⟨4, ![3, 64, 3, 8]⟩
abbrev S3x64x24 : Shape := ⟨3, ![3, 64, 24]⟩
abbrev S226x64x226 : Shape := ⟨3, ![226, 64, 226]⟩
abbrev S64x226 : Shape := ⟨2, ![64, 226]⟩
abbrev S1x64x226 : Shape := ⟨3, ![1, 64, 226]⟩
abbrev S3x8x226 : Shape := ⟨3, ![3, 8, 226]⟩
abbrev S24x226 : Shape := ⟨2, ![24, 226]⟩
abbrev S1x64x24 : Shape := ⟨3, ![1, 64, 24]⟩
abbrev S64x24 : Shape := ⟨2, ![64, 24]⟩
abbrev S24x224 : Shape := ⟨2, ![24, 224]⟩
abbrev S64x224 : Shape := ⟨2, ![64, 224]⟩
abbrev S64x1 : Shape := ⟨2, ![64, 1]⟩
abbrev S1x64x64x3x3 : Shape := ⟨5, ![1, 64, 64, 3, 3]⟩
abbrev S64x64x3x3 : Shape := ⟨4, ![64, 64, 3, 3]⟩
abbrev S3x64x3x64 : Shape := ⟨4, ![3, 64, 3, 64]⟩
abbrev S3x64x192 : Shape := ⟨3, ![3, 64, 192]⟩
abbrev S3x64x226 : Shape := ⟨3, ![3, 64, 226]⟩
abbrev S192x226 : Shape := ⟨2, ![192, 226]⟩
abbrev S1x64x192 : Shape := ⟨3, ![1, 64, 192]⟩
abbrev S64x192 : Shape := ⟨2, ![64, 192]⟩
abbrev S192x224 : Shape := ⟨2, ![192, 224]⟩
abbrev S64x64 : Shape := ⟨2, ![64, 64]⟩
abbrev S128x64 : Shape := ⟨2, ![128, 64]⟩
abbrev S224x64x224 : Shape := ⟨3, ![224, 64, 224]⟩
abbrev S1x64x224 : Shape := ⟨3, ![1, 64, 224]⟩
abbrev S128x224 : Shape := ⟨2, ![128, 224]⟩
abbrev S64x224x224 : Shape := ⟨3, ![64, 224, 224]⟩
abbrev S1x64x224x224 : Shape := ⟨4, ![1, 64, 224, 224]⟩

abbrev nBuf : Space → Nat
  | .hbm => 35
  | .vmem => 13
  | .smem => 0
  | _ => 0

abbrev bufTy : (tb : Table) → Fin (tcTables nBuf tb) → BufTy
  | .hbm, ⟨0, _⟩ => ⟨S1x3x224x224, .f32⟩
  | .hbm, ⟨1, _⟩ => ⟨S64x3x3x3, .f32⟩
  | .hbm, ⟨2, _⟩ => ⟨S2x64x64x3x3, .f32⟩
  | .hbm, ⟨3, _⟩ => ⟨S64x64x1x1, .f32⟩
  | .hbm, ⟨4, _⟩ => ⟨S64x64x1x1, .f32⟩
  | .hbm, ⟨5, _⟩ => ⟨S3x224x224, .f32⟩
  | .hbm, ⟨6, _⟩ => ⟨S224x3x224, .f32⟩
  | .hbm, ⟨7, _⟩ => ⟨S_, .i32⟩
  | .hbm, ⟨8, _⟩ => ⟨S_, .f32⟩
  | .hbm, ⟨9, _⟩ => ⟨S226x8x226, .f32⟩
  | .hbm, ⟨10, _⟩ => ⟨S_, .i32⟩
  | .hbm, ⟨11, _⟩ => ⟨S_, .f32⟩
  | .hbm, ⟨12, _⟩ => ⟨S64x8x3x3, .f32⟩
  | .hbm, ⟨13, _⟩ => ⟨S3x64x3x8, .f32⟩
  | .hbm, ⟨14, _⟩ => ⟨S3x64x24, .f32⟩
  | .hbm, ⟨15, _⟩ => ⟨S226x64x226, .f32⟩
  | .hbm, ⟨16, _⟩ => ⟨S1x64x64x3x3, .f32⟩
  | .hbm, ⟨17, _⟩ => ⟨S64x64x3x3, .f32⟩
  | .hbm, ⟨18, _⟩ => ⟨S3x64x3x64, .f32⟩
  | .hbm, ⟨19, _⟩ => ⟨S3x64x192, .f32⟩
  | .hbm, ⟨20, _⟩ => ⟨S226x64x226, .f32⟩
  | .hbm, ⟨21, _⟩ => ⟨S1x64x64x3x3, .f32⟩
  | .hbm, ⟨22, _⟩ => ⟨S64x64x3x3, .f32⟩
  | .hbm, ⟨23, _⟩ => ⟨S3x64x3x64, .f32⟩
  | .hbm, ⟨24, _⟩ => ⟨S3x64x192, .f32⟩
  | .hbm, ⟨25, _⟩ => ⟨S226x64x226, .f32⟩
  | .hbm, ⟨26, _⟩ => ⟨S64x64, .f32⟩
  | .hbm, ⟨27, _⟩ => ⟨S64x64, .f32⟩
  | .hbm, ⟨28, _⟩ => ⟨S128x64, .f32⟩
  | .hbm, ⟨29, _⟩ => ⟨S224x64x224, .f32⟩
  | .hbm, ⟨30, _⟩ => ⟨S224x64x224, .f32⟩
  | .hbm, ⟨31, _⟩ => ⟨S64x224x224, .f32⟩
  | .hbm, ⟨32, _⟩ => ⟨S1x64x224x224, .f32⟩
  | .hbm, ⟨33, _⟩ => ⟨S64x224x224, .f32⟩
  | .hbm, ⟨34, _⟩ => ⟨S1x64x224x224, .f32⟩
  | .local _ .vmem, ⟨0, _⟩ => ⟨S226x8x226, .f32⟩
  | .local _ .vmem, ⟨1, _⟩ => ⟨S3x64x24, .f32⟩
  | .local _ .vmem, ⟨2, _⟩ => ⟨S226x64x226, .f32⟩
  | .local _ .vmem, ⟨3, _⟩ => ⟨S226x64x226, .f32⟩
  | .local _ .vmem, ⟨4, _⟩ => ⟨S3x64x192, .f32⟩
  | .local _ .vmem, ⟨5, _⟩ => ⟨S226x64x226, .f32⟩
  | .local _ .vmem, ⟨6, _⟩ => ⟨S226x64x226, .f32⟩
  | .local _ .vmem, ⟨7, _⟩ => ⟨S3x64x192, .f32⟩
  | .local _ .vmem, ⟨8, _⟩ => ⟨S226x64x226, .f32⟩
  | .local _ .vmem, ⟨9, _⟩ => ⟨S226x64x226, .f32⟩
  | .local _ .vmem, ⟨10, _⟩ => ⟨S128x64, .f32⟩
  | .local _ .vmem, ⟨11, _⟩ => ⟨S224x64x224, .f32⟩
  | .local _ .vmem, ⟨12, _⟩ => ⟨S224x64x224, .f32⟩
  | _, _ => ⟨S1x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc3_sem3_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v9 : Index := Scalar.indexCast arg3
  let c0_6 : Index := 0#32
  let c0_7 : Index := 0#32
  ![v9.toNat, 0, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage0_0 : Fin 1 → Memref sig .tc .vmem S226x8x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S226x64x226 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k1_off1 (k1_t1 : Fin k1_t1_loop.trips) : Fin 3 → Nat :=
  let c0_i32 : BitVec 32 := 0#32
  let c1_i32 : BitVec 32 := 1#32
  let arg3 : BitVec 32 := Scf.iv c0_i32 c1_i32 k1_t1
  let v9 : Index := Scalar.indexCast arg3
  let c0_6 : Index := 0#32
  let c0_7 : Index := 0#32
  ![v9.toNat, 0, 0]
def k1_off2 (k1_t1 : Fin k1_t1_loop.trips) : Fin 3 → Nat :=
  let c0_i32 : BitVec 32 := 0#32
  let c1_i32 : BitVec 32 := 1#32
  let arg3 : BitVec 32 := Scf.iv c0_i32 c1_i32 k1_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage1_0 : Fin 1 → Memref sig .tc .vmem S226x64x226 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S226x64x226 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k2_off1 (k2_t1 : Fin k2_t1_loop.trips) : Fin 3 → Nat :=
  let c0_i32 : BitVec 32 := 0#32
  let c1_i32 : BitVec 32 := 1#32
  let arg3 : BitVec 32 := Scf.iv c0_i32 c1_i32 k2_t1
  let v9 : Index := Scalar.indexCast arg3
  let c0_6 : Index := 0#32
  let c0_7 : Index := 0#32
  ![v9.toNat, 0, 0]
def k2_off2 (k2_t1 : Fin k2_t1_loop.trips) : Fin 3 → Nat :=
  let c0_i32 : BitVec 32 := 0#32
  let c1_i32 : BitVec 32 := 1#32
  let arg3 : BitVec 32 := Scf.iv c0_i32 c1_i32 k2_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage2_0 : Fin 1 → Memref sig .tc .vmem S226x64x226 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3x64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S226x64x226 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c224_i32 : BitVec 32 := 224#32
  let v0 : BitVec 32 := Scalar.addi c0_i32 c224_i32
  let c1_i32 : BitVec 32 := 1#32
  ⟨c0_i32, v0, c1_i32⟩
def k3_off1 (k3_t1 : Fin k3_t1_loop.trips) : Fin 3 → Nat :=
  let c0_i32 : BitVec 32 := 0#32
  let c1_i32 : BitVec 32 := 1#32
  let arg4 : BitVec 32 := Scf.iv c0_i32 c1_i32 k3_t1
  let c1_i32_1 : BitVec 32 := 1#32
  let v1 : BitVec 32 := Scalar.addi arg4 c1_i32_1
  let v2 : Index := Scalar.indexCast v1
  let c0 : Index := 0#32
  let c1 : Index := 1#32
  ![v2.toNat, 0, 1]
def k3_off2 (k3_t1 : Fin k3_t1_loop.trips) : Fin 3 → Nat :=
  let c0_i32 : BitVec 32 := 0#32
  let c1_i32 : BitVec 32 := 1#32
  let arg4 : BitVec 32 := Scf.iv c0_i32 c1_i32 k3_t1
  let v9 : Index := Scalar.indexCast arg4
  let c0_4 : Index := 0#32
  let c0_5 : Index := 0#32
  ![v9.toNat, 0, 0]
abbrev stage3_0 : Fin 1 → Memref sig .tc .vmem S226x64x226 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S224x64x224 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S224x64x224 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== EncVRefIdeal.lean ====
abbrev S1x3x224x224 : Shape := ⟨4, ![1, 3, 224, 224]⟩
abbrev S64x3x3x3 : Shape := ⟨4, ![64, 3, 3, 3]⟩
abbrev S2x64x64x3x3 : Shape := ⟨5, ![2, 64, 64, 3, 3]⟩
abbrev S64x64x1x1 : Shape := ⟨4, ![64, 64, 1, 1]⟩
abbrev S3x224x224 : Shape := ⟨3, ![3, 224, 224]⟩
abbrev S_ : Shape := ⟨0, ![]⟩
abbrev S3x226x226 : Shape := ⟨3, ![3, 226, 226]⟩
abbrev S64x3x1x1 : Shape := ⟨4, ![64, 3, 1, 1]⟩
abbrev S64x3 : Shape := ⟨2, ![64, 3]⟩
abbrev S64x224x224 : Shape := ⟨3, ![64, 224, 224]⟩
abbrev S1x64x224x224 : Shape := ⟨4, ![1, 64, 224, 224]⟩
abbrev S1x64x64x3x3 : Shape := ⟨5, ![1, 64, 64, 3, 3]⟩
abbrev S64x64x3x3 : Shape := ⟨4, ![64, 64, 3, 3]⟩
abbrev S64x226x226 : Shape := ⟨3, ![64, 226, 226]⟩
abbrev S64x64 : Shape := ⟨2, ![64, 64]⟩

abbrev nBuf : Space → Nat
  | .hbm => 190
  | .vmem => 0
  | .smem => 0
  | _ => 0

abbrev hbmTy0_0 (i : Nat) : BufTy := match i % 128 with
  | 0 => ⟨S1x3x224x224, .f32⟩
  | 1 => ⟨S64x3x3x3, .f32⟩
  | 2 => ⟨S2x64x64x3x3, .f32⟩
  | 3 => ⟨S64x64x1x1, .f32⟩
  | 4 => ⟨S64x64x1x1, .f32⟩
  | 5 => ⟨S3x224x224, .f32⟩
  | 6 => ⟨S_, .i32⟩
  | 7 => ⟨S_, .f32⟩
  | 8 => ⟨S3x226x226, .f32⟩
  | 9 => ⟨S64x3x1x1, .f32⟩
  | 10 => ⟨S64x3, .f32⟩
  | 11 => ⟨S3x224x224, .f32⟩
  | 12 => ⟨S64x224x224, .f32⟩
  | 13 => ⟨S64x3x1x1, .f32⟩
  | 14 => ⟨S64x3, .f32⟩
  | 15 => ⟨S3x224x224, .f32⟩
  | 16 => ⟨S64x224x224, .f32⟩
  | 17 => ⟨S64x3x1x1, .f32⟩
  | 18 => ⟨S64x3, .f32⟩
  | 19 => ⟨S3x224x224, .f32⟩
  | 20 => ⟨S64x224x224, .f32⟩
  | 21 => ⟨S64x3x1x1, .f32⟩
  | 22 => ⟨S64x3, .f32⟩
  | 23 => ⟨S3x224x224, .f32⟩
  | 24 => ⟨S64x224x224, .f32⟩
  | 25 => ⟨S64x3x1x1, .f32⟩
  | 26 => ⟨S64x3, .f32⟩
  | 27 => ⟨S3x224x224, .f32⟩
  | 28 => ⟨S64x224x224, .f32⟩
  | 29 => ⟨S64x3x1x1, .f32⟩
  | 30 => ⟨S64x3, .f32⟩
  | 31 => ⟨S3x224x224, .f32⟩
  | 32 => ⟨S64x224x224, .f32⟩
  | 33 => ⟨S64x3x1x1, .f32⟩
  | 34 => ⟨S64x3, .f32⟩
  | 35 => ⟨S3x224x224, .f32⟩
  | 36 => ⟨S64x224x224, .f32⟩
  | 37 => ⟨S64x3x1x1, .f32⟩
  | 38 => ⟨S64x3, .f32⟩
  | 39 => ⟨S3x224x224, .f32⟩
  | 40 => ⟨S64x224x224, .f32⟩
  | 41 => ⟨S64x3x1x1, .f32⟩
  | 42 => ⟨S64x3, .f32⟩
  | 43 => ⟨S3x224x224, .f32⟩
  | 44 => ⟨S64x224x224, .f32⟩
  | 45 => ⟨S64x224x224, .f32⟩
  | 46 => ⟨S64x224x224, .f32⟩
  | 47 => ⟨S64x224x224, .f32⟩
  | 48 => ⟨S64x224x224, .f32⟩
  | 49 => ⟨S64x224x224, .f32⟩
  | 50 => ⟨S64x224x224, .f32⟩
  | 51 => ⟨S64x224x224, .f32⟩
  | 52 => ⟨S64x224x224, .f32⟩
  | 53 => ⟨S1x64x224x224, .f32⟩
  | 54 => ⟨S_, .f32⟩
  | 55 => ⟨S1x64x224x224, .f32⟩
  | 56 => ⟨S1x64x224x224, .f32⟩
  | 57 => ⟨S1x64x64x3x3, .f32⟩
  | 58 => ⟨S64x64x3x3, .f32⟩
  | 59 => ⟨S64x224x224, .f32⟩
  | 60 => ⟨S_, .i32⟩
  | 61 => ⟨S_, .f32⟩
  | 62 => ⟨S64x226x226, .f32⟩
  | 63 => ⟨S64x64x1x1, .f32⟩
  | 64 => ⟨S64x64, .f32⟩
  | 65 => ⟨S64x224x224, .f32⟩
  | 66 => ⟨S64x224x224, .f32⟩
  | 67 => ⟨S64x64x1x1, .f32⟩
  | 68 => ⟨S64x64, .f32⟩
  | 69 => ⟨S64x224x224, .f32⟩
  | 70 => ⟨S64x224x224, .f32⟩
  | 71 => ⟨S64x64x1x1, .f32⟩
  | 72 => ⟨S64x64, .f32⟩
  | 73 => ⟨S64x224x224, .f32⟩
  | 74 => ⟨S64x224x224, .f32⟩
  | 75 => ⟨S64x64x1x1, .f32⟩
  | 76 => ⟨S64x64, .f32⟩
  | 77 => ⟨S64x224x224, .f32⟩
  | 78 => ⟨S64x224x224, .f32⟩
  | 79 => ⟨S64x64x1x1, .f32⟩
  | 80 => ⟨S64x64, .f32⟩
  | 81 => ⟨S64x224x224, .f32⟩
  | 82 => ⟨S64x224x224, .f32⟩
  | 83 => ⟨S64x64x1x1, .f32⟩
  | 84 => ⟨S64x64, .f32⟩
  | 85 => ⟨S64x224x224, .f32⟩
  | 86 => ⟨S64x224x224, .f32⟩
  | 87 => ⟨S64x64x1x1, .f32⟩
  | 88 => ⟨S64x64, .f32⟩
  | 89 => ⟨S64x224x224, .f32⟩
  | 90 => ⟨S64x224x224, .f32⟩
  | 91 => ⟨S64x64x1x1, .f32⟩
  | 92 => ⟨S64x64, .f32⟩
  | 93 => ⟨S64x224x224, .f32⟩
  | 94 => ⟨S64x224x224, .f32⟩
  | 95 => ⟨S64x64x1x1, .f32⟩
  | 96 => ⟨S64x64, .f32⟩
  | 97 => ⟨S64x224x224, .f32⟩
  | 98 => ⟨S64x224x224, .f32⟩
  | 99 => ⟨S64x224x224, .f32⟩
  | 100 => ⟨S64x224x224, .f32⟩
  | 101 => ⟨S64x224x224, .f32⟩
  | 102 => ⟨S64x224x224, .f32⟩
  | 103 => ⟨S64x224x224, .f32⟩
  | 104 => ⟨S64x224x224, .f32⟩
  | 105 => ⟨S64x224x224, .f32⟩
  | 106 => ⟨S64x224x224, .f32⟩
  | 107 => ⟨S1x64x224x224, .f32⟩
  | 108 => ⟨S_, .f32⟩
  | 109 => ⟨S1x64x224x224, .f32⟩
  | 110 => ⟨S1x64x224x224, .f32⟩
  | 111 => ⟨S1x64x64x3x3, .f32⟩
  | 112 => ⟨S64x64x3x3, .f32⟩
  | 113 => ⟨S64x224x224, .f32⟩
  | 114 => ⟨S_, .i32⟩
  | 115 => ⟨S_, .f32⟩
  | 116 => ⟨S64x226x226, .f32⟩
  | 117 => ⟨S64x64x1x1, .f32⟩
  | 118 => ⟨S64x64, .f32⟩
  | 119 => ⟨S64x224x224, .f32⟩
  | 120 => ⟨S64x224x224, .f32⟩
  | 121 => ⟨S64x64x1x1, .f32⟩
  | 122 => ⟨S64x64, .f32⟩
  | 123 => ⟨S64x224x224, .f32⟩
  | 124 => ⟨S64x224x224, .f32⟩
  | 125 => ⟨S64x64x1x1, .f32⟩
  | 126 => ⟨S64x64, .f32⟩
  | 127 => ⟨S64x224x224, .f32⟩
  | _ => ⟨S1x3x224x224, .f32⟩

abbrev hbmTy0_1 (i : Nat) : BufTy := match i % 128 with
  | 0 => ⟨S64x224x224, .f32⟩
  | 1 => ⟨S64x64x1x1, .f32⟩
  | 2 => ⟨S64x64, .f32⟩
  | 3 => ⟨S64x224x224, .f32⟩
  | 4 => ⟨S64x224x224, .f32⟩
  | 5 => ⟨S64x64x1x1, .f32⟩
  | 6 => ⟨S64x64, .f32⟩
  | 7 => ⟨S64x224x224, .f32⟩
  | 8 => ⟨S64x224x224, .f32⟩
  | 9 => ⟨S64x64x1x1, .f32⟩
  | 10 => ⟨S64x64, .f32⟩
  | 11 => ⟨S64x224x224, .f32⟩
  | 12 => ⟨S64x224x224, .f32⟩
  | 13 => ⟨S64x64x1x1, .f32⟩
  | 14 => ⟨S64x64, .f32⟩
  | 15 => ⟨S64x224x224, .f32⟩
  | 16 => ⟨S64x224x224, .f32⟩
  | 17 => ⟨S64x64x1x1, .f32⟩
  | 18 => ⟨S64x64, .f32⟩
  | 19 => ⟨S64x224x224, .f32⟩
  | 20 => ⟨S64x224x224, .f32⟩
  | 21 => ⟨S64x64x1x1, .f32⟩
  | 22 => ⟨S64x64, .f32⟩
  | 23 => ⟨S64x224x224, .f32⟩
  | 24 => ⟨S64x224x224, .f32⟩
  | 25 => ⟨S64x224x224, .f32⟩
  | 26 => ⟨S64x224x224, .f32⟩
  | 27 => ⟨S64x224x224, .f32⟩
  | 28 => ⟨S64x224x224, .f32⟩
  | 29 => ⟨S64x224x224, .f32⟩
  | 30 => ⟨S64x224x224, .f32⟩
  | 31 => ⟨S64x224x224, .f32⟩
  | 32 => ⟨S64x224x224, .f32⟩
  | 33 => ⟨S1x64x224x224, .f32⟩
  | 34 => ⟨S_, .f32⟩
  | 35 => ⟨S1x64x224x224, .f32⟩
  | 36 => ⟨S1x64x224x224, .f32⟩
  | 37 => ⟨S64x64, .f32⟩
  | 38 => ⟨S64x224x224, .f32⟩
  | 39 => ⟨S64x224x224, .f32⟩
  | 40 => ⟨S1x64x224x224, .f32⟩
  | 41 => ⟨S64x64, .f32⟩
  | 42 => ⟨S64x224x224, .f32⟩
  | 43 => ⟨S64x224x224, .f32⟩
  | 44 => ⟨S1x64x224x224, .f32⟩
  | 45 => ⟨S_, .f32⟩
  | 46 => ⟨S1x64x224x224, .f32⟩
  | 47 => ⟨S1x64x224x224, .f32⟩
  | 48 => ⟨S1x64x224x224, .f32⟩
  | 49 => ⟨S1x64x224x224, .f32⟩
  | 50 => ⟨S1x64x224x224, .i1⟩
  | 51 => ⟨S1x64x224x224, .f32⟩
  | 52 => ⟨S1x64x224x224, .f32⟩
  | 53 => ⟨S1x64x224x224, .f32⟩
  | 54 => ⟨S1x64x224x224, .f32⟩
  | 55 => ⟨S1x64x224x224, .f32⟩
  | 56 => ⟨S1x64x224x224, .f32⟩
  | 57 => ⟨S1x64x224x224, .f32⟩
  | 58 => ⟨S1x64x224x224, .f32⟩
  | 59 => ⟨S_, .f32⟩
  | 60 => ⟨S1x64x224x224, .f32⟩
  | 61 => ⟨S1x64x224x224, .f32⟩
  | _ => ⟨S1x3x224x224, .f32⟩

abbrev hbmTy (i : Nat) : BufTy := match i / 128 with
  | 0 => hbmTy0_0 i
  | 1 => hbmTy0_1 i
  | _ => ⟨S1x3x224x224, .f32⟩

abbrev bufTy : (tb : Table) → Fin (tcTables nBuf tb) → BufTy
  | .hbm, ⟨i, _⟩ => hbmTy i
  | _, _ => ⟨S1x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_call1_cst : Ref sig .tc := ⟨.hbm, 54, rfl⟩
abbrev main_call1_v0 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_0 : Ref sig .tc := ⟨.hbm, 60, rfl⟩
abbrev main_call2_v0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_call3_cst : Ref sig .tc := ⟨.hbm, 108, rfl⟩
abbrev main_call3_v0 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c_1 : Ref sig .tc := ⟨.hbm, 114, rfl⟩
abbrev main_call4_v0 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_call5_cst : Ref sig .tc := ⟨.hbm, 162, rfl⟩
abbrev main_call5_v0 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_call6_cst : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_v156 : Ref sig .tc := ⟨.hbm, 186, rfl⟩
abbrev main_cst : Ref sig .tc := ⟨.hbm, 187, rfl⟩
abbrev main_v157 : Ref sig .tc := ⟨.hbm, 188, rfl⟩
abbrev main_v158 : Ref sig .tc := ⟨.hbm, 189, rfl⟩

abbrev nD : Nat := 1
abbrev τ : Topo := Topo.v7x

variable {F : FTy → Type} [FloatOps F]
-- ==== EncI.lean ====
abbrev S1x1x224x224 : Shape := ⟨4, ![1, 1, 224, 224]⟩
abbrev S64x1x3x3 : Shape := ⟨4, ![64, 1, 3, 3]⟩
abbrev S2x64x64x3x3 : Shape := ⟨5, ![2, 64, 64, 3, 3]⟩
abbrev S64x64x1x1 : Shape := ⟨4, ![64, 64, 1, 1]⟩
abbrev S1x224x224 : Shape := ⟨3, ![1, 224, 224]⟩
abbrev S224x1x224 : Shape := ⟨3, ![224, 1, 224]⟩
abbrev S_ : Shape := ⟨0, ![]⟩
abbrev S226x8x226 : Shape := ⟨3, ![226, 8, 226]⟩
abbrev S64x8x3x3 : Shape := ⟨4, ![64, 8, 3, 3]⟩
abbrev S3x64x3x8 : Shape := ⟨4, ![3, 64, 3, 8]⟩
abbrev S3x64x24 : Shape := ⟨3, ![3, 64, 24]⟩
abbrev S226x64x226 : Shape := ⟨3, ![226, 64, 226]⟩
abbrev S64x226 : Shape := ⟨2, ![64, 226]⟩
abbrev S1x64x226 : Shape := ⟨3, ![1, 64, 226]⟩
abbrev S3x8x226 : Shape := ⟨3, ![3, 8, 226]⟩
abbrev S24x226 : Shape := ⟨2, ![24, 226]⟩
abbrev S1x64x24 : Shape := ⟨3, ![1, 64, 24]⟩
abbrev S64x24 : Shape := ⟨2, ![64, 24]⟩
abbrev S24x224 : Shape := ⟨2, ![24, 224]⟩
abbrev S64x224 : Shape := ⟨2, ![64, 224]⟩
abbrev S64x1 : Shape := ⟨2, ![64, 1]⟩
abbrev S1x64x64x3x3 : Shape := ⟨5, ![1, 64, 64, 3, 3]⟩
abbrev S64x64x3x3 : Shape := ⟨4, ![64, 64, 3, 3]⟩
abbrev S3x64x3x64 : Shape := ⟨4, ![3, 64, 3, 64]⟩
abbrev S3x64x192 : Shape := ⟨3, ![3, 64, 192]⟩
abbrev S3x64x226 : Shape := ⟨3, ![3, 64, 226]⟩
abbrev S192x226 : Shape := ⟨2, ![192, 226]⟩
abbrev S1x64x192 : Shape := ⟨3, ![1, 64, 192]⟩
abbrev S64x192 : Shape := ⟨2, ![64, 192]⟩
abbrev S192x224 : Shape := ⟨2, ![192, 224]⟩
abbrev S64x64 : Shape := ⟨2, ![64, 64]⟩
abbrev S128x64 : Shape := ⟨2, ![128, 64]⟩
abbrev S224x64x224 : Shape := ⟨3, ![224, 64, 224]⟩
abbrev S1x64x224 : Shape := ⟨3, ![1, 64, 224]⟩
abbrev S128x224 : Shape := ⟨2, ![128, 224]⟩
abbrev S64x224x224 : Shape := ⟨3, ![64, 224, 224]⟩
abbrev S1x64x224x224 : Shape := ⟨4, ![1, 64, 224, 224]⟩

abbrev nBuf : Space → Nat
  | .hbm => 35
  | .vmem => 13
  | .smem => 0
  | _ => 0

abbrev bufTy : (tb : Table) → Fin (tcTables nBuf tb) → BufTy
  | .hbm, ⟨0, _⟩ => ⟨S1x1x224x224, .f32⟩
  | .hbm, ⟨1, _⟩ => ⟨S64x1x3x3, .f32⟩
  | .hbm, ⟨2, _⟩ => ⟨S2x64x64x3x3, .f32⟩
  | .hbm, ⟨3, _⟩ => ⟨S64x64x1x1, .f32⟩
  | .hbm, ⟨4, _⟩ => ⟨S64x64x1x1, .f32⟩
  | .hbm, ⟨5, _⟩ => ⟨S1x224x224, .f32⟩
  | .hbm, ⟨6, _⟩ => ⟨S224x1x224, .f32⟩
  | .hbm, ⟨7, _⟩ => ⟨S_, .i32⟩
  | .hbm, ⟨8, _⟩ => ⟨S_, .f32⟩
  | .hbm, ⟨9, _⟩ => ⟨S226x8x226, .f32⟩
  | .hbm, ⟨10, _⟩ => ⟨S_, .i32⟩
  | .hbm, ⟨11, _⟩ => ⟨S_, .f32⟩
  | .hbm, ⟨12, _⟩ => ⟨S64x8x3x3, .f32⟩
  | .hbm, ⟨13, _⟩ => ⟨S3x64x3x8, .f32⟩
  | .hbm, ⟨14, _⟩ => ⟨S3x64x24, .f32⟩
  | .hbm, ⟨15, _⟩ => ⟨S226x64x226, .f32⟩
  | .hbm, ⟨16, _⟩ => ⟨S1x64x64x3x3, .f32⟩
  | .hbm, ⟨17, _⟩ => ⟨S64x64x3x3, .f32⟩
  | .hbm, ⟨18, _⟩ => ⟨S3x64x3x64, .f32⟩
  | .hbm, ⟨19, _⟩ => ⟨S3x64x192, .f32⟩
  | .hbm, ⟨20, _⟩ => ⟨S226x64x226, .f32⟩
  | .hbm, ⟨21, _⟩ => ⟨S1x64x64x3x3, .f32⟩
  | .hbm, ⟨22, _⟩ => ⟨S64x64x3x3, .f32⟩
  | .hbm, ⟨23, _⟩ => ⟨S3x64x3x64, .f32⟩
  | .hbm, ⟨24, _⟩ => ⟨S3x64x192, .f32⟩
  | .hbm, ⟨25, _⟩ => ⟨S226x64x226, .f32⟩
  | .hbm, ⟨26, _⟩ => ⟨S64x64, .f32⟩
  | .hbm, ⟨27, _⟩ => ⟨S64x64, .f32⟩
  | .hbm, ⟨28, _⟩ => ⟨S128x64, .f32⟩
  | .hbm, ⟨29, _⟩ => ⟨S224x64x224, .f32⟩
  | .hbm, ⟨30, _⟩ => ⟨S224x64x224, .f32⟩
  | .hbm, ⟨31, _⟩ => ⟨S64x224x224, .f32⟩
  | .hbm, ⟨32, _⟩ => ⟨S1x64x224x224, .f32⟩
  | .hbm, ⟨33, _⟩ => ⟨S64x224x224, .f32⟩
  | .hbm, ⟨34, _⟩ => ⟨S1x64x224x224, .f32⟩
  | .local _ .vmem, ⟨0, _⟩ => ⟨S226x8x226, .f32⟩
  | .local _ .vmem, ⟨1, _⟩ => ⟨S3x64x24, .f32⟩
  | .local _ .vmem, ⟨2, _⟩ => ⟨S226x64x226, .f32⟩
  | .local _ .vmem, ⟨3, _⟩ => ⟨S226x64x226, .f32⟩
  | .local _ .vmem, ⟨4, _⟩ => ⟨S3x64x192, .f32⟩
  | .local _ .vmem, ⟨5, _⟩ => ⟨S226x64x226, .f32⟩
  | .local _ .vmem, ⟨6, _⟩ => ⟨S226x64x226, .f32⟩
  | .local _ .vmem, ⟨7, _⟩ => ⟨S3x64x192, .f32⟩
  | .local _ .vmem, ⟨8, _⟩ => ⟨S226x64x226, .f32⟩
  | .local _ .vmem, ⟨9, _⟩ => ⟨S226x64x226, .f32⟩
  | .local _ .vmem, ⟨10, _⟩ => ⟨S128x64, .f32⟩
  | .local _ .vmem, ⟨11, _⟩ => ⟨S224x64x224, .f32⟩
  | .local _ .vmem, ⟨12, _⟩ => ⟨S224x64x224, .f32⟩
  | _, _ => ⟨S1x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc3_sem3_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v9 : Index := Scalar.indexCast arg3
  let c0_6 : Index := 0#32
  let c0_7 : Index := 0#32
  ![v9.toNat, 0, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage0_0 : Fin 1 → Memref sig .tc .vmem S226x8x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S226x64x226 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k1_off1 (k1_t1 : Fin k1_t1_loop.trips) : Fin 3 → Nat :=
  let c0_i32 : BitVec 32 := 0#32
  let c1_i32 : BitVec 32 := 1#32
  let arg3 : BitVec 32 := Scf.iv c0_i32 c1_i32 k1_t1
  let v9 : Index := Scalar.indexCast arg3
  let c0_6 : Index := 0#32
  let c0_7 : Index := 0#32
  ![v9.toNat, 0, 0]
def k1_off2 (k1_t1 : Fin k1_t1_loop.trips) : Fin 3 → Nat :=
  let c0_i32 : BitVec 32 := 0#32
  let c1_i32 : BitVec 32 := 1#32
  let arg3 : BitVec 32 := Scf.iv c0_i32 c1_i32 k1_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage1_0 : Fin 1 → Memref sig .tc .vmem S226x64x226 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S226x64x226 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k2_off1 (k2_t1 : Fin k2_t1_loop.trips) : Fin 3 → Nat :=
  let c0_i32 : BitVec 32 := 0#32
  let c1_i32 : BitVec 32 := 1#32
  let arg3 : BitVec 32 := Scf.iv c0_i32 c1_i32 k2_t1
  let v9 : Index := Scalar.indexCast arg3
  let c0_6 : Index := 0#32
  let c0_7 : Index := 0#32
  ![v9.toNat, 0, 0]
def k2_off2 (k2_t1 : Fin k2_t1_loop.trips) : Fin 3 → Nat :=
  let c0_i32 : BitVec 32 := 0#32
  let c1_i32 : BitVec 32 := 1#32
  let arg3 : BitVec 32 := Scf.iv c0_i32 c1_i32 k2_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage2_0 : Fin 1 → Memref sig .tc .vmem S226x64x226 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3x64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S226x64x226 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c224_i32 : BitVec 32 := 224#32
  let v0 : BitVec 32 := Scalar.addi c0_i32 c224_i32
  let c1_i32 : BitVec 32 := 1#32
  ⟨c0_i32, v0, c1_i32⟩
def k3_off1 (k3_t1 : Fin k3_t1_loop.trips) : Fin 3 → Nat :=
  let c0_i32 : BitVec 32 := 0#32
  let c1_i32 : BitVec 32 := 1#32
  let arg4 : BitVec 32 := Scf.iv c0_i32 c1_i32 k3_t1
  let c1_i32_1 : BitVec 32 := 1#32
  let v1 : BitVec 32 := Scalar.addi arg4 c1_i32_1
  let v2 : Index := Scalar.indexCast v1
  let c0 : Index := 0#32
  let c1 : Index := 1#32
  ![v2.toNat, 0, 1]
def k3_off2 (k3_t1 : Fin k3_t1_loop.trips) : Fin 3 → Nat :=
  let c0_i32 : BitVec 32 := 0#32
  let c1_i32 : BitVec 32 := 1#32
  let arg4 : BitVec 32 := Scf.iv c0_i32 c1_i32 k3_t1
  let v9 : Index := Scalar.indexCast arg4
  let c0_4 : Index := 0#32
  let c0_5 : Index := 0#32
  ![v9.toNat, 0, 0]
abbrev stage3_0 : Fin 1 → Memref sig .tc .vmem S226x64x226 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S224x64x224 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S224x64x224 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== EncIRefIdeal.lean ====
abbrev S1x1x224x224 : Shape := ⟨4, ![1, 1, 224, 224]⟩
abbrev S64x1x3x3 : Shape := ⟨4, ![64, 1, 3, 3]⟩
abbrev S2x64x64x3x3 : Shape := ⟨5, ![2, 64, 64, 3, 3]⟩
abbrev S64x64x1x1 : Shape := ⟨4, ![64, 64, 1, 1]⟩
abbrev S1x224x224 : Shape := ⟨3, ![1, 224, 224]⟩
abbrev S_ : Shape := ⟨0, ![]⟩
abbrev S1x226x226 : Shape := ⟨3, ![1, 226, 226]⟩
abbrev S64x1x1x1 : Shape := ⟨4, ![64, 1, 1, 1]⟩
abbrev S64x1 : Shape := ⟨2, ![64, 1]⟩
abbrev S64x224x224 : Shape := ⟨3, ![64, 224, 224]⟩
abbrev S1x64x224x224 : Shape := ⟨4, ![1, 64, 224, 224]⟩
abbrev S1x64x64x3x3 : Shape := ⟨5, ![1, 64, 64, 3, 3]⟩
abbrev S64x64x3x3 : Shape := ⟨4, ![64, 64, 3, 3]⟩
abbrev S64x226x226 : Shape := ⟨3, ![64, 226, 226]⟩
abbrev S64x64 : Shape := ⟨2, ![64, 64]⟩

abbrev nBuf : Space → Nat
  | .hbm => 190
  | .vmem => 0
  | .smem => 0
  | _ => 0

abbrev hbmTy0_0 (i : Nat) : BufTy := match i % 128 with
  | 0 => ⟨S1x1x224x224, .f32⟩
  | 1 => ⟨S64x1x3x3, .f32⟩
  | 2 => ⟨S2x64x64x3x3, .f32⟩
  | 3 => ⟨S64x64x1x1, .f32⟩
  | 4 => ⟨S64x64x1x1, .f32⟩
  | 5 => ⟨S1x224x224, .f32⟩
  | 6 => ⟨S_, .i32⟩
  | 7 => ⟨S_, .f32⟩
  | 8 => ⟨S1x226x226, .f32⟩
  | 9 => ⟨S64x1x1x1, .f32⟩
  | 10 => ⟨S64x1, .f32⟩
  | 11 => ⟨S1x224x224, .f32⟩
  | 12 => ⟨S64x224x224, .f32⟩
  | 13 => ⟨S64x1x1x1, .f32⟩
  | 14 => ⟨S64x1, .f32⟩
  | 15 => ⟨S1x224x224, .f32⟩
  | 16 => ⟨S64x224x224, .f32⟩
  | 17 => ⟨S64x1x1x1, .f32⟩
  | 18 => ⟨S64x1, .f32⟩
  | 19 => ⟨S1x224x224, .f32⟩
  | 20 => ⟨S64x224x224, .f32⟩
  | 21 => ⟨S64x1x1x1, .f32⟩
  | 22 => ⟨S64x1, .f32⟩
  | 23 => ⟨S1x224x224, .f32⟩
  | 24 => ⟨S64x224x224, .f32⟩
  | 25 => ⟨S64x1x1x1, .f32⟩
  | 26 => ⟨S64x1, .f32⟩
  | 27 => ⟨S1x224x224, .f32⟩
  | 28 => ⟨S64x224x224, .f32⟩
  | 29 => ⟨S64x1x1x1, .f32⟩
  | 30 => ⟨S64x1, .f32⟩
  | 31 => ⟨S1x224x224, .f32⟩
  | 32 => ⟨S64x224x224, .f32⟩
  | 33 => ⟨S64x1x1x1, .f32⟩
  | 34 => ⟨S64x1, .f32⟩
  | 35 => ⟨S1x224x224, .f32⟩
  | 36 => ⟨S64x224x224, .f32⟩
  | 37 => ⟨S64x1x1x1, .f32⟩
  | 38 => ⟨S64x1, .f32⟩
  | 39 => ⟨S1x224x224, .f32⟩
  | 40 => ⟨S64x224x224, .f32⟩
  | 41 => ⟨S64x1x1x1, .f32⟩
  | 42 => ⟨S64x1, .f32⟩
  | 43 => ⟨S1x224x224, .f32⟩
  | 44 => ⟨S64x224x224, .f32⟩
  | 45 => ⟨S64x224x224, .f32⟩
  | 46 => ⟨S64x224x224, .f32⟩
  | 47 => ⟨S64x224x224, .f32⟩
  | 48 => ⟨S64x224x224, .f32⟩
  | 49 => ⟨S64x224x224, .f32⟩
  | 50 => ⟨S64x224x224, .f32⟩
  | 51 => ⟨S64x224x224, .f32⟩
  | 52 => ⟨S64x224x224, .f32⟩
  | 53 => ⟨S1x64x224x224, .f32⟩
  | 54 => ⟨S_, .f32⟩
  | 55 => ⟨S1x64x224x224, .f32⟩
  | 56 => ⟨S1x64x224x224, .f32⟩
  | 57 => ⟨S1x64x64x3x3, .f32⟩
  | 58 => ⟨S64x64x3x3, .f32⟩
  | 59 => ⟨S64x224x224, .f32⟩
  | 60 => ⟨S_, .i32⟩
  | 61 => ⟨S_, .f32⟩
  | 62 => ⟨S64x226x226, .f32⟩
  | 63 => ⟨S64x64x1x1, .f32⟩
  | 64 => ⟨S64x64, .f32⟩
  | 65 => ⟨S64x224x224, .f32⟩
  | 66 => ⟨S64x224x224, .f32⟩
  | 67 => ⟨S64x64x1x1, .f32⟩
  | 68 => ⟨S64x64, .f32⟩
  | 69 => ⟨S64x224x224, .f32⟩
  | 70 => ⟨S64x224x224, .f32⟩
  | 71 => ⟨S64x64x1x1, .f32⟩
  | 72 => ⟨S64x64, .f32⟩
  | 73 => ⟨S64x224x224, .f32⟩
  | 74 => ⟨S64x224x224, .f32⟩
  | 75 => ⟨S64x64x1x1, .f32⟩
  | 76 => ⟨S64x64, .f32⟩
  | 77 => ⟨S64x224x224, .f32⟩
  | 78 => ⟨S64x224x224, .f32⟩
  | 79 => ⟨S64x64x1x1, .f32⟩
  | 80 => ⟨S64x64, .f32⟩
  | 81 => ⟨S64x224x224, .f32⟩
  | 82 => ⟨S64x224x224, .f32⟩
  | 83 => ⟨S64x64x1x1, .f32⟩
  | 84 => ⟨S64x64, .f32⟩
  | 85 => ⟨S64x224x224, .f32⟩
  | 86 => ⟨S64x224x224, .f32⟩
  | 87 => ⟨S64x64x1x1, .f32⟩
  | 88 => ⟨S64x64, .f32⟩
  | 89 => ⟨S64x224x224, .f32⟩
  | 90 => ⟨S64x224x224, .f32⟩
  | 91 => ⟨S64x64x1x1, .f32⟩
  | 92 => ⟨S64x64, .f32⟩
  | 93 => ⟨S64x224x224, .f32⟩
  | 94 => ⟨S64x224x224, .f32⟩
  | 95 => ⟨S64x64x1x1, .f32⟩
  | 96 => ⟨S64x64, .f32⟩
  | 97 => ⟨S64x224x224, .f32⟩
  | 98 => ⟨S64x224x224, .f32⟩
  | 99 => ⟨S64x224x224, .f32⟩
  | 100 => ⟨S64x224x224, .f32⟩
  | 101 => ⟨S64x224x224, .f32⟩
  | 102 => ⟨S64x224x224, .f32⟩
  | 103 => ⟨S64x224x224, .f32⟩
  | 104 => ⟨S64x224x224, .f32⟩
  | 105 => ⟨S64x224x224, .f32⟩
  | 106 => ⟨S64x224x224, .f32⟩
  | 107 => ⟨S1x64x224x224, .f32⟩
  | 108 => ⟨S_, .f32⟩
  | 109 => ⟨S1x64x224x224, .f32⟩
  | 110 => ⟨S1x64x224x224, .f32⟩
  | 111 => ⟨S1x64x64x3x3, .f32⟩
  | 112 => ⟨S64x64x3x3, .f32⟩
  | 113 => ⟨S64x224x224, .f32⟩
  | 114 => ⟨S_, .i32⟩
  | 115 => ⟨S_, .f32⟩
  | 116 => ⟨S64x226x226, .f32⟩
  | 117 => ⟨S64x64x1x1, .f32⟩
  | 118 => ⟨S64x64, .f32⟩
  | 119 => ⟨S64x224x224, .f32⟩
  | 120 => ⟨S64x224x224, .f32⟩
  | 121 => ⟨S64x64x1x1, .f32⟩
  | 122 => ⟨S64x64, .f32⟩
  | 123 => ⟨S64x224x224, .f32⟩
  | 124 => ⟨S64x224x224, .f32⟩
  | 125 => ⟨S64x64x1x1, .f32⟩
  | 126 => ⟨S64x64, .f32⟩
  | 127 => ⟨S64x224x224, .f32⟩
  | _ => ⟨S1x1x224x224, .f32⟩

abbrev hbmTy0_1 (i : Nat) : BufTy := match i % 128 with
  | 0 => ⟨S64x224x224, .f32⟩
  | 1 => ⟨S64x64x1x1, .f32⟩
  | 2 => ⟨S64x64, .f32⟩
  | 3 => ⟨S64x224x224, .f32⟩
  | 4 => ⟨S64x224x224, .f32⟩
  | 5 => ⟨S64x64x1x1, .f32⟩
  | 6 => ⟨S64x64, .f32⟩
  | 7 => ⟨S64x224x224, .f32⟩
  | 8 => ⟨S64x224x224, .f32⟩
  | 9 => ⟨S64x64x1x1, .f32⟩
  | 10 => ⟨S64x64, .f32⟩
  | 11 => ⟨S64x224x224, .f32⟩
  | 12 => ⟨S64x224x224, .f32⟩
  | 13 => ⟨S64x64x1x1, .f32⟩
  | 14 => ⟨S64x64, .f32⟩
  | 15 => ⟨S64x224x224, .f32⟩
  | 16 => ⟨S64x224x224, .f32⟩
  | 17 => ⟨S64x64x1x1, .f32⟩
  | 18 => ⟨S64x64, .f32⟩
  | 19 => ⟨S64x224x224, .f32⟩
  | 20 => ⟨S64x224x224, .f32⟩
  | 21 => ⟨S64x64x1x1, .f32⟩
  | 22 => ⟨S64x64, .f32⟩
  | 23 => ⟨S64x224x224, .f32⟩
  | 24 => ⟨S64x224x224, .f32⟩
  | 25 => ⟨S64x224x224, .f32⟩
  | 26 => ⟨S64x224x224, .f32⟩
  | 27 => ⟨S64x224x224, .f32⟩
  | 28 => ⟨S64x224x224, .f32⟩
  | 29 => ⟨S64x224x224, .f32⟩
  | 30 => ⟨S64x224x224, .f32⟩
  | 31 => ⟨S64x224x224, .f32⟩
  | 32 => ⟨S64x224x224, .f32⟩
  | 33 => ⟨S1x64x224x224, .f32⟩
  | 34 => ⟨S_, .f32⟩
  | 35 => ⟨S1x64x224x224, .f32⟩
  | 36 => ⟨S1x64x224x224, .f32⟩
  | 37 => ⟨S64x64, .f32⟩
  | 38 => ⟨S64x224x224, .f32⟩
  | 39 => ⟨S64x224x224, .f32⟩
  | 40 => ⟨S1x64x224x224, .f32⟩
  | 41 => ⟨S64x64, .f32⟩
  | 42 => ⟨S64x224x224, .f32⟩
  | 43 => ⟨S64x224x224, .f32⟩
  | 44 => ⟨S1x64x224x224, .f32⟩
  | 45 => ⟨S_, .f32⟩
  | 46 => ⟨S1x64x224x224, .f32⟩
  | 47 => ⟨S1x64x224x224, .f32⟩
  | 48 => ⟨S1x64x224x224, .f32⟩
  | 49 => ⟨S1x64x224x224, .f32⟩
  | 50 => ⟨S1x64x224x224, .i1⟩
  | 51 => ⟨S1x64x224x224, .f32⟩
  | 52 => ⟨S1x64x224x224, .f32⟩
  | 53 => ⟨S1x64x224x224, .f32⟩
  | 54 => ⟨S1x64x224x224, .f32⟩
  | 55 => ⟨S1x64x224x224, .f32⟩
  | 56 => ⟨S1x64x224x224, .f32⟩
  | 57 => ⟨S1x64x224x224, .f32⟩
  | 58 => ⟨S1x64x224x224, .f32⟩
  | 59 => ⟨S_, .f32⟩
  | 60 => ⟨S1x64x224x224, .f32⟩
  | 61 => ⟨S1x64x224x224, .f32⟩
  | _ => ⟨S1x1x224x224, .f32⟩

abbrev hbmTy (i : Nat) : BufTy := match i / 128 with
  | 0 => hbmTy0_0 i
  | 1 => hbmTy0_1 i
  | _ => ⟨S1x1x224x224, .f32⟩

abbrev bufTy : (tb : Table) → Fin (tcTables nBuf tb) → BufTy
  | .hbm, ⟨i, _⟩ => hbmTy i
  | _, _ => ⟨S1x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_call1_cst : Ref sig .tc := ⟨.hbm, 54, rfl⟩
abbrev main_call1_v0 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_0 : Ref sig .tc := ⟨.hbm, 60, rfl⟩
abbrev main_call2_v0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_call3_cst : Ref sig .tc := ⟨.hbm, 108, rfl⟩
abbrev main_call3_v0 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c_1 : Ref sig .tc := ⟨.hbm, 114, rfl⟩
abbrev main_call4_v0 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_call5_cst : Ref sig .tc := ⟨.hbm, 162, rfl⟩
abbrev main_call5_v0 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_call6_cst : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_v5 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_v156 : Ref sig .tc := ⟨.hbm, 186, rfl⟩
abbrev main_cst : Ref sig .tc := ⟨.hbm, 187, rfl⟩
abbrev main_v157 : Ref sig .tc := ⟨.hbm, 188, rfl⟩
abbrev main_v158 : Ref sig .tc := ⟨.hbm, 189, rfl⟩

abbrev nD : Nat := 1
abbrev τ : Topo := Topo.v7x

variable {F : FTy → Type} [FloatOps F]
-- ==== Fuse.lean ====
abbrev S1x1x224x224 : Shape := ⟨4, ![1, 1, 224, 224]⟩
abbrev S1x3x224x224 : Shape := ⟨4, ![1, 3, 224, 224]⟩
abbrev S64x3x3x3 : Shape := ⟨4, ![64, 3, 3, 3]⟩
abbrev S3x64x64x3x3 : Shape := ⟨5, ![3, 64, 64, 3, 3]⟩
abbrev S3x64x3x3 : Shape := ⟨4, ![3, 64, 3, 3]⟩
abbrev S3x224x224 : Shape := ⟨3, ![3, 224, 224]⟩
abbrev S224x3x224 : Shape := ⟨3, ![224, 3, 224]⟩
abbrev S_ : Shape := ⟨0, ![]⟩
abbrev S226x3x226 : Shape := ⟨3, ![226, 3, 226]⟩
abbrev S1x224x224 : Shape := ⟨3, ![1, 224, 224]⟩
abbrev S224x1x224 : Shape := ⟨3, ![224, 1, 224]⟩
abbrev S226x1x226 : Shape := ⟨3, ![226, 1, 226]⟩
abbrev S226x8x226 : Shape := ⟨3, ![226, 8, 226]⟩
abbrev S1x3x226 : Shape := ⟨3, ![1, 3, 226]⟩
abbrev S3x226 : Shape := ⟨2, ![3, 226]⟩
abbrev S1x1x226 : Shape := ⟨3, ![1, 1, 226]⟩
abbrev S1x226 : Shape := ⟨2, ![1, 226]⟩
abbrev S5x226 : Shape := ⟨2, ![5, 226]⟩
abbrev S8x226 : Shape := ⟨2, ![8, 226]⟩
abbrev S1x8x226 : Shape := ⟨3, ![1, 8, 226]⟩
abbrev S64x8x3x3 : Shape := ⟨4, ![64, 8, 3, 3]⟩
abbrev S3x64x3x8 : Shape := ⟨4, ![3, 64, 3, 8]⟩
abbrev S3x64x24 : Shape := ⟨3, ![3, 64, 24]⟩
abbrev S226x64x226 : Shape := ⟨3, ![226, 64, 226]⟩
abbrev S64x226 : Shape := ⟨2, ![64, 226]⟩
abbrev S1x64x226 : Shape := ⟨3, ![1, 64, 226]⟩
abbrev S3x8x226 : Shape := ⟨3, ![3, 8, 226]⟩
abbrev S24x226 : Shape := ⟨2, ![24, 226]⟩
abbrev S1x64x24 : Shape := ⟨3, ![1, 64, 24]⟩
abbrev S64x24 : Shape := ⟨2, ![64, 24]⟩
abbrev S24x224 : Shape := ⟨2, ![24, 224]⟩
abbrev S64x224 : Shape := ⟨2, ![64, 224]⟩
abbrev S64x1 : Shape := ⟨2, ![64, 1]⟩
abbrev S1x64x64x3x3 : Shape := ⟨5, ![1, 64, 64, 3, 3]⟩
abbrev S64x64x3x3 : Shape := ⟨4, ![64, 64, 3, 3]⟩
abbrev S3x64x3x64 : Shape := ⟨4, ![3, 64, 3, 64]⟩
abbrev S3x64x192 : Shape := ⟨3, ![3, 64, 192]⟩
abbrev S3x64x226 : Shape := ⟨3, ![3, 64, 226]⟩
abbrev S192x226 : Shape := ⟨2, ![192, 226]⟩
abbrev S1x64x192 : Shape := ⟨3, ![1, 64, 192]⟩
abbrev S64x192 : Shape := ⟨2, ![64, 192]⟩
abbrev S192x224 : Shape := ⟨2, ![192, 224]⟩
abbrev S3x3x3x64 : Shape := ⟨4, ![3, 3, 3, 64]⟩
abbrev S3x3x192 : Shape := ⟨3, ![3, 3, 192]⟩
abbrev S1x3x192 : Shape := ⟨3, ![1, 3, 192]⟩
abbrev S3x192 : Shape := ⟨2, ![3, 192]⟩
abbrev S3x224 : Shape := ⟨2, ![3, 224]⟩
abbrev S1x3x224 : Shape := ⟨3, ![1, 3, 224]⟩

abbrev nBuf : Space → Nat
  | .hbm => 54
  | .vmem => 20
  | .smem => 0
  | _ => 0

abbrev bufTy : (tb : Table) → Fin (tcTables nBuf tb) → BufTy
  | .hbm, ⟨0, _⟩ => ⟨S1x1x224x224, .f32⟩
  | .hbm, ⟨1, _⟩ => ⟨S1x3x224x224, .f32⟩
  | .hbm, ⟨2, _⟩ => ⟨S1x1x224x224, .f32⟩
  | .hbm, ⟨3, _⟩ => ⟨S1x3x224x224, .f32⟩
  | .hbm, ⟨4, _⟩ => ⟨S64x3x3x3, .f32⟩
  | .hbm, ⟨5, _⟩ => ⟨S3x64x64x3x3, .f32⟩
  | .hbm, ⟨6, _⟩ => ⟨S3x64x3x3, .f32⟩
  | .hbm, ⟨7, _⟩ => ⟨S3x224x224, .f32⟩
  | .hbm, ⟨8, _⟩ => ⟨S224x3x224, .f32⟩
  | .hbm, ⟨9, _⟩ => ⟨S_, .i32⟩
  | .hbm, ⟨10, _⟩ => ⟨S_, .f32⟩
  | .hbm, ⟨11, _⟩ => ⟨S226x3x226, .f32⟩
  | .hbm, ⟨12, _⟩ => ⟨S1x224x224, .f32⟩
  | .hbm, ⟨13, _⟩ => ⟨S224x1x224, .f32⟩
  | .hbm, ⟨14, _⟩ => ⟨S_, .i32⟩
  | .hbm, ⟨15, _⟩ => ⟨S_, .f32⟩
  | .hbm, ⟨16, _⟩ => ⟨S226x1x226, .f32⟩
  | .hbm, ⟨17, _⟩ => ⟨S3x224x224, .f32⟩
  | .hbm, ⟨18, _⟩ => ⟨S224x3x224, .f32⟩
  | .hbm, ⟨19, _⟩ => ⟨S_, .i32⟩
  | .hbm, ⟨20, _⟩ => ⟨S_, .f32⟩
  | .hbm, ⟨21, _⟩ => ⟨S226x3x226, .f32⟩
  | .hbm, ⟨22, _⟩ => ⟨S1x224x224, .f32⟩
  | .hbm, ⟨23, _⟩ => ⟨S224x1x224, .f32⟩
  | .hbm, ⟨24, _⟩ => ⟨S_, .i32⟩
  | .hbm, ⟨25, _⟩ => ⟨S_, .f32⟩
  | .hbm, ⟨26, _⟩ => ⟨S226x1x226, .f32⟩
  | .hbm, ⟨27, _⟩ => ⟨S226x8x226, .f32⟩
  | .hbm, ⟨28, _⟩ => ⟨S_, .i32⟩
  | .hbm, ⟨29, _⟩ => ⟨S_, .f32⟩
  | .hbm, ⟨30, _⟩ => ⟨S64x8x3x3, .f32⟩
  | .hbm, ⟨31, _⟩ => ⟨S3x64x3x8, .f32⟩
  | .hbm, ⟨32, _⟩ => ⟨S3x64x24, .f32⟩
  | .hbm, ⟨33, _⟩ => ⟨S226x64x226, .f32⟩
  | .hbm, ⟨34, _⟩ => ⟨S1x64x64x3x3, .f32⟩
  | .hbm, ⟨35, _⟩ => ⟨S64x64x3x3, .f32⟩
  | .hbm, ⟨36, _⟩ => ⟨S3x64x3x64, .f32⟩
  | .hbm, ⟨37, _⟩ => ⟨S3x64x192, .f32⟩
  | .hbm, ⟨38, _⟩ => ⟨S226x64x226, .f32⟩
  | .hbm, ⟨39, _⟩ => ⟨S1x64x64x3x3, .f32⟩
  | .hbm, ⟨40, _⟩ => ⟨S64x64x3x3, .f32⟩
  | .hbm, ⟨41, _⟩ => ⟨S3x64x3x64, .f32⟩
  | .hbm, ⟨42, _⟩ => ⟨S3x64x192, .f32⟩
  | .hbm, ⟨43, _⟩ => ⟨S226x64x226, .f32⟩
  | .hbm, ⟨44, _⟩ => ⟨S1x64x64x3x3, .f32⟩
  | .hbm, ⟨45, _⟩ => ⟨S64x64x3x3, .f32⟩
  | .hbm, ⟨46, _⟩ => ⟨S3x64x3x64, .f32⟩
  | .hbm, ⟨47, _⟩ => ⟨S3x64x192, .f32⟩
  | .hbm, ⟨48, _⟩ => ⟨S226x64x226, .f32⟩
  | .hbm, ⟨49, _⟩ => ⟨S3x3x3x64, .f32⟩
  | .hbm, ⟨50, _⟩ => ⟨S3x3x192, .f32⟩
  | .hbm, ⟨51, _⟩ => ⟨S224x3x224, .f32⟩
  | .hbm, ⟨52, _⟩ => ⟨S3x224x224, .f32⟩
  | .hbm, ⟨53, _⟩ => ⟨S1x3x224x224, .f32⟩
  | .local _ .vmem, ⟨0, _⟩ => ⟨S226x3x226, .f32⟩
  | .local _ .vmem, ⟨1, _⟩ => ⟨S226x3x226, .f32⟩
  | .local _ .vmem, ⟨2, _⟩ => ⟨S226x1x226, .f32⟩
  | .local _ .vmem, ⟨3, _⟩ => ⟨S226x1x226, .f32⟩
  | .local _ .vmem, ⟨4, _⟩ => ⟨S226x8x226, .f32⟩
  | .local _ .vmem, ⟨5, _⟩ => ⟨S226x8x226, .f32⟩
  | .local _ .vmem, ⟨6, _⟩ => ⟨S3x64x24, .f32⟩
  | .local _ .vmem, ⟨7, _⟩ => ⟨S226x64x226, .f32⟩
  | .local _ .vmem, ⟨8, _⟩ => ⟨S226x64x226, .f32⟩
  | .local _ .vmem, ⟨9, _⟩ => ⟨S3x64x192, .f32⟩
  | .local _ .vmem, ⟨10, _⟩ => ⟨S226x64x226, .f32⟩
  | .local _ .vmem, ⟨11, _⟩ => ⟨S226x64x226, .f32⟩
  | .local _ .vmem, ⟨12, _⟩ => ⟨S3x64x192, .f32⟩
  | .local _ .vmem, ⟨13, _⟩ => ⟨S226x64x226, .f32⟩
  | .local _ .vmem, ⟨14, _⟩ => ⟨S226x64x226, .f32⟩
  | .local _ .vmem, ⟨15, _⟩ => ⟨S3x64x192, .f32⟩
  | .local _ .vmem, ⟨16, _⟩ => ⟨S226x64x226, .f32⟩
  | .local _ .vmem, ⟨17, _⟩ => ⟨S226x64x226, .f32⟩
  | .local _ .vmem, ⟨18, _⟩ => ⟨S3x3x192, .f32⟩
  | .local _ .vmem, ⟨19, _⟩ => ⟨S224x3x224, .f32⟩
  | _, _ => ⟨S1x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_call3_v0 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call4_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg2_0 : Ref sig .tc := ⟨.vmem, 13, rfl⟩
abbrev cc4_stg0_0 : Ref sig .tc := ⟨.vmem, 14, rfl⟩
abbrev cc4_stg1_0 : Ref sig .tc := ⟨.vmem, 15, rfl⟩
abbrev cc4_stg2_0 : Ref sig .tc := ⟨.vmem, 16, rfl⟩
abbrev cc5_stg0_0 : Ref sig .tc := ⟨.vmem, 17, rfl⟩
abbrev cc5_stg1_0 : Ref sig .tc := ⟨.vmem, 18, rfl⟩
abbrev cc5_stg2_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem1_0 : DmaSem sig := 12
abbrev cc3_sem2_0 : DmaSem sig := 13
abbrev cc4_sem0_0 : DmaSem sig := 14
abbrev cc4_sem1_0 : DmaSem sig := 15
abbrev cc4_sem2_0 : DmaSem sig := 16
abbrev cc5_sem0_0 : DmaSem sig := 17
abbrev cc5_sem1_0 : DmaSem sig := 18
abbrev cc5_sem2_0 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c226_i32 : BitVec 32 := 226#32
  let v0 : BitVec 32 := Scalar.addi c0_i32 c226_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v1 : Index := Scalar.indexCast arg5
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v8 : Index := Scalar.indexCast arg5
  let c0_4 : Index := 0#32
  let c0_5 : Index := 0#32
  ![v8.toNat, 0, 0]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let v19 : Index := Scalar.indexCast arg5
  let c0_8 : Index := 0#32
  let c0_9 : Index := 0#32
  ![v19.toNat, 0, 0]
abbrev stage0_0 : Fin 1 → Memref sig .tc .vmem S226x3x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S226x3x226 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S226x1x226 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S226x1x226 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S226x8x226 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k1_off1 (k1_t1 : Fin k1_t1_loop.trips) : Fin 3 → Nat :=
  let c0_i32 : BitVec 32 := 0#32
  let c1_i32 : BitVec 32 := 1#32
  let arg3 : BitVec 32 := Scf.iv c0_i32 c1_i32 k1_t1
  let v9 : Index := Scalar.indexCast arg3
  let c0_6 : Index := 0#32
  let c0_7 : Index := 0#32
  ![v9.toNat, 0, 0]
def k1_off2 (k1_t1 : Fin k1_t1_loop.trips) : Fin 3 → Nat :=
  let c0_i32 : BitVec 32 := 0#32
  let c1_i32 : BitVec 32 := 1#32
  let arg3 : BitVec 32 := Scf.iv c0_i32 c1_i32 k1_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage1_0 : Fin 1 → Memref sig .tc .vmem S226x8x226 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x64x24 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S226x64x226 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k2_off1 (k2_t1 : Fin k2_t1_loop.trips) : Fin 3 → Nat :=
  let c0_i32 : BitVec 32 := 0#32
  let c1_i32 : BitVec 32 := 1#32
  let arg3 : BitVec 32 := Scf.iv c0_i32 c1_i32 k2_t1
  let v9 : Index := Scalar.indexCast arg3
  let c0_6 : Index := 0#32
  let c0_7 : Index := 0#32
  ![v9.toNat, 0, 0]
def k2_off2 (k2_t1 : Fin k2_t1_loop.trips) : Fin 3 → Nat :=
  let c0_i32 : BitVec 32 := 0#32
  let c1_i32 : BitVec 32 := 1#32
  let arg3 : BitVec 32 := Scf.iv c0_i32 c1_i32 k2_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage2_0 : Fin 1 → Memref sig .tc .vmem S226x64x226 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S3x64x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S226x64x226 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k3_off1 (k3_t1 : Fin k3_t1_loop.trips) : Fin 3 → Nat :=
  let c0_i32 : BitVec 32 := 0#32
  let c1_i32 : BitVec 32 := 1#32
  let arg3 : BitVec 32 := Scf.iv c0_i32 c1_i32 k3_t1
  let v9 : Index := Scalar.indexCast arg3
  let c0_6 : Index := 0#32
  let c0_7 : Index := 0#32
  ![v9.toNat, 0, 0]
def k3_off2 (k3_t1 : Fin k3_t1_loop.trips) : Fin 3 → Nat :=
  let c0_i32 : BitVec 32 := 0#32
  let c1_i32 : BitVec 32 := 1#32
  let arg3 : BitVec 32 := Scf.iv c0_i32 c1_i32 k3_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage3_0 : Fin 1 → Memref sig .tc .vmem S226x64x226 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S3x64x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S226x64x226 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := .none

@[reducible] def k4_t1_loop : Scf.Loop 32 :=
  let c0_i32 : BitVec 32 := 0#32
  let c224_i32 : BitVec 32 := 224#32
  let v8 : BitVec 32 := Scalar.addi c0_i32 c224_i32
  let c1_i32 : BitVec 32 := 1#32
  ⟨c0_i32, v8, c1_i32⟩
def k4_off1 (k4_t1 : Fin k4_t1_loop.trips) : Fin 3 → Nat :=
  let c0_i32 : BitVec 32 := 0#32
  let c1_i32 : BitVec 32 := 1#32
  let arg3 : BitVec 32 := Scf.iv c0_i32 c1_i32 k4_t1
  let v9 : Index := Scalar.indexCast arg3
  let c0_6 : Index := 0#32
  let c0_7 : Index := 0#32
  ![v9.toNat, 0, 0]
def k4_off2 (k4_t1 : Fin k4_t1_loop.trips) : Fin 3 → Nat :=
  let c0_i32 : BitVec 32 := 0#32
  let c1_i32 : BitVec 32 := 1#32
  let arg3 : BitVec 32 := Scf.iv c0_i32 c1_i32 k4_t1
  let c1_i32_20 : BitVec 32 := 1#32
  let v31 : BitVec 32 := Scalar.addi arg3 c1_i32_20
  let v32 : Index := Scalar.indexCast v31
  let c0_21 : Index := 0#32
  let c0_22 : Index := 0#32
  ![v32.toNat, 0, 0]
abbrev stage4_0 : Fin 1 → Memref sig .tc .vmem S226x64x226 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S3x64x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S226x64x226 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev grid5 : Pipeline.Grid := .none

@[reducible] def k5_t1_loop : Scf.Loop 32 :=
  let c0_i32 : BitVec 32 := 0#32
  let c224_i32 : BitVec 32 := 224#32
  let v0 : BitVec 32 := Scalar.addi c0_i32 c224_i32
  let c1_i32 : BitVec 32 := 1#32
  ⟨c0_i32, v0, c1_i32⟩
def k5_off1 (k5_t1 : Fin k5_t1_loop.trips) : Fin 3 → Nat :=
  let c0_i32 : BitVec 32 := 0#32
  let c1_i32 : BitVec 32 := 1#32
  let arg3 : BitVec 32 := Scf.iv c0_i32 c1_i32 k5_t1
  let v1 : Index := Scalar.indexCast arg3
  let c0 : Index := 0#32
  let c0_1 : Index := 0#32
  ![v1.toNat, 0, 0]
def k5_off2 (k5_t1 : Fin k5_t1_loop.trips) : Fin 3 → Nat :=
  let c0_i32 : BitVec 32 := 0#32
  let c1_i32 : BitVec 32 := 1#32
  let arg3 : BitVec 32 := Scf.iv c0_i32 c1_i32 k5_t1
  let v19 : Index := Scalar.indexCast arg3
  let c0_11 : Index := 0#32
  let c0_12 : Index := 0#32
  ![v19.toNat, 0, 0]
abbrev stage5_0 : Fin 1 → Memref sig .tc .vmem S226x64x226 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S3x3x192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S224x3x224 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
-- ==== FuseRefIdeal.lean ====
abbrev S1x1x224x224 : Shape := ⟨4, ![1, 1, 224, 224]⟩
abbrev S1x3x224x224 : Shape := ⟨4, ![1, 3, 224, 224]⟩
abbrev S64x3x3x3 : Shape := ⟨4, ![64, 3, 3, 3]⟩
abbrev S3x64x64x3x3 : Shape := ⟨5, ![3, 64, 64, 3, 3]⟩
abbrev S3x64x3x3 : Shape := ⟨4, ![3, 64, 3, 3]⟩
abbrev S3x224x224 : Shape := ⟨3, ![3, 224, 224]⟩
abbrev S_ : Shape := ⟨0, ![]⟩
abbrev S3x226x226 : Shape := ⟨3, ![3, 226, 226]⟩
abbrev S64x3x1x1 : Shape := ⟨4, ![64, 3, 1, 1]⟩
abbrev S64x3 : Shape := ⟨2, ![64, 3]⟩
abbrev S64x224x224 : Shape := ⟨3, ![64, 224, 224]⟩
abbrev S1x64x224x224 : Shape := ⟨4, ![1, 64, 224, 224]⟩
abbrev S1x64x64x3x3 : Shape := ⟨5, ![1, 64, 64, 3, 3]⟩
abbrev S64x64x3x3 : Shape := ⟨4, ![64, 64, 3, 3]⟩
abbrev S64x226x226 : Shape := ⟨3, ![64, 226, 226]⟩
abbrev S64x64x1x1 : Shape := ⟨4, ![64, 64, 1, 1]⟩
abbrev S64x64 : Shape := ⟨2, ![64, 64]⟩
abbrev S3x64x1x1 : Shape := ⟨4, ![3, 64, 1, 1]⟩
abbrev S3x64 : Shape := ⟨2, ![3, 64]⟩

abbrev nBuf : Space → Nat
  | .hbm => 274
  | .vmem => 0
  | .smem => 0
  | _ => 0

abbrev hbmTy0_0 (i : Nat) : BufTy := match i % 128 with
  | 0 => ⟨S1x1x224x224, .f32⟩
  | 1 => ⟨S1x3x224x224, .f32⟩
  | 2 => ⟨S1x1x224x224, .f32⟩
  | 3 => ⟨S1x3x224x224, .f32⟩
  | 4 => ⟨S64x3x3x3, .f32⟩
  | 5 => ⟨S3x64x64x3x3, .f32⟩
  | 6 => ⟨S3x64x3x3, .f32⟩
  | 7 => ⟨S1x1x224x224, .f32⟩
  | 8 => ⟨S1x3x224x224, .f32⟩
  | 9 => ⟨S1x3x224x224, .f32⟩
  | 10 => ⟨S1x3x224x224, .f32⟩
  | 11 => ⟨S3x224x224, .f32⟩
  | 12 => ⟨S_, .i32⟩
  | 13 => ⟨S_, .f32⟩
  | 14 => ⟨S3x226x226, .f32⟩
  | 15 => ⟨S64x3x1x1, .f32⟩
  | 16 => ⟨S64x3, .f32⟩
  | 17 => ⟨S3x224x224, .f32⟩
  | 18 => ⟨S64x224x224, .f32⟩
  | 19 => ⟨S64x3x1x1, .f32⟩
  | 20 => ⟨S64x3, .f32⟩
  | 21 => ⟨S3x224x224, .f32⟩
  | 22 => ⟨S64x224x224, .f32⟩
  | 23 => ⟨S64x3x1x1, .f32⟩
  | 24 => ⟨S64x3, .f32⟩
  | 25 => ⟨S3x224x224, .f32⟩
  | 26 => ⟨S64x224x224, .f32⟩
  | 27 => ⟨S64x3x1x1, .f32⟩
  | 28 => ⟨S64x3, .f32⟩
  | 29 => ⟨S3x224x224, .f32⟩
  | 30 => ⟨S64x224x224, .f32⟩
  | 31 => ⟨S64x3x1x1, .f32⟩
  | 32 => ⟨S64x3, .f32⟩
  | 33 => ⟨S3x224x224, .f32⟩
  | 34 => ⟨S64x224x224, .f32⟩
  | 35 => ⟨S64x3x1x1, .f32⟩
  | 36 => ⟨S64x3, .f32⟩
  | 37 => ⟨S3x224x224, .f32⟩
  | 38 => ⟨S64x224x224, .f32⟩
  | 39 => ⟨S64x3x1x1, .f32⟩
  | 40 => ⟨S64x3, .f32⟩
  | 41 => ⟨S3x224x224, .f32⟩
  | 42 => ⟨S64x224x224, .f32⟩
  | 43 => ⟨S64x3x1x1, .f32⟩
  | 44 => ⟨S64x3, .f32⟩
  | 45 => ⟨S3x224x224, .f32⟩
  | 46 => ⟨S64x224x224, .f32⟩
  | 47 => ⟨S64x3x1x1, .f32⟩
  | 48 => ⟨S64x3, .f32⟩
  | 49 => ⟨S3x224x224, .f32⟩
  | 50 => ⟨S64x224x224, .f32⟩
  | 51 => ⟨S64x224x224, .f32⟩
  | 52 => ⟨S64x224x224, .f32⟩
  | 53 => ⟨S64x224x224, .f32⟩
  | 54 => ⟨S64x224x224, .f32⟩
  | 55 => ⟨S64x224x224, .f32⟩
  | 56 => ⟨S64x224x224, .f32⟩
  | 57 => ⟨S64x224x224, .f32⟩
  | 58 => ⟨S64x224x224, .f32⟩
  | 59 => ⟨S1x64x224x224, .f32⟩
  | 60 => ⟨S_, .f32⟩
  | 61 => ⟨S1x64x224x224, .f32⟩
  | 62 => ⟨S1x64x224x224, .f32⟩
  | 63 => ⟨S1x64x64x3x3, .f32⟩
  | 64 => ⟨S64x64x3x3, .f32⟩
  | 65 => ⟨S64x224x224, .f32⟩
  | 66 => ⟨S_, .i32⟩
  | 67 => ⟨S_, .f32⟩
  | 68 => ⟨S64x226x226, .f32⟩
  | 69 => ⟨S64x64x1x1, .f32⟩
  | 70 => ⟨S64x64, .f32⟩
  | 71 => ⟨S64x224x224, .f32⟩
  | 72 => ⟨S64x224x224, .f32⟩
  | 73 => ⟨S64x64x1x1, .f32⟩
  | 74 => ⟨S64x64, .f32⟩
  | 75 => ⟨S64x224x224, .f32⟩
  | 76 => ⟨S64x224x224, .f32⟩
  | 77 => ⟨S64x64x1x1, .f32⟩
  | 78 => ⟨S64x64, .f32⟩
  | 79 => ⟨S64x224x224, .f32⟩
  | 80 => ⟨S64x224x224, .f32⟩
  | 81 => ⟨S64x64x1x1, .f32⟩
  | 82 => ⟨S64x64, .f32⟩
  | 83 => ⟨S64x224x224, .f32⟩
  | 84 => ⟨S64x224x224, .f32⟩
  | 85 => ⟨S64x64x1x1, .f32⟩
  | 86 => ⟨S64x64, .f32⟩
  | 87 => ⟨S64x224x224, .f32⟩
  | 88 => ⟨S64x224x224, .f32⟩
  | 89 => ⟨S64x64x1x1, .f32⟩
  | 90 => ⟨S64x64, .f32⟩
  | 91 => ⟨S64x224x224, .f32⟩
  | 92 => ⟨S64x224x224, .f32⟩
  | 93 => ⟨S64x64x1x1, .f32⟩
  | 94 => ⟨S64x64, .f32⟩
  | 95 => ⟨S64x224x224, .f32⟩
  | 96 => ⟨S64x224x224, .f32⟩
  | 97 => ⟨S64x64x1x1, .f32⟩
  | 98 => ⟨S64x64, .f32⟩
  | 99 => ⟨S64x224x224, .f32⟩
  | 100 => ⟨S64x224x224, .f32⟩
  | 101 => ⟨S64x64x1x1, .f32⟩
  | 102 => ⟨S64x64, .f32⟩
  | 103 => ⟨S64x224x224, .f32⟩
  | 104 => ⟨S64x224x224, .f32⟩
  | 105 => ⟨S64x224x224, .f32⟩
  | 106 => ⟨S64x224x224, .f32⟩
  | 107 => ⟨S64x224x224, .f32⟩
  | 108 => ⟨S64x224x224, .f32⟩
  | 109 => ⟨S64x224x224, .f32⟩
  | 110 => ⟨S64x224x224, .f32⟩
  | 111 => ⟨S64x224x224, .f32⟩
  | 112 => ⟨S64x224x224, .f32⟩
  | 113 => ⟨S1x64x224x224, .f32⟩
  | 114 => ⟨S_, .f32⟩
  | 115 => ⟨S1x64x224x224, .f32⟩
  | 116 => ⟨S1x64x224x224, .f32⟩
  | 117 => ⟨S1x64x64x3x3, .f32⟩
  | 118 => ⟨S64x64x3x3, .f32⟩
  | 119 => ⟨S64x224x224, .f32⟩
  | 120 => ⟨S_, .i32⟩
  | 121 => ⟨S_, .f32⟩
  | 122 => ⟨S64x226x226, .f32⟩
  | 123 => ⟨S64x64x1x1, .f32⟩
  | 124 => ⟨S64x64, .f32⟩
  | 125 => ⟨S64x224x224, .f32⟩
  | 126 => ⟨S64x224x224, .f32⟩
  | 127 => ⟨S64x64x1x1, .f32⟩
  | _ => ⟨S1x1x224x224, .f32⟩

abbrev hbmTy0_1 (i : Nat) : BufTy := match i % 128 with
  | 0 => ⟨S64x64, .f32⟩
  | 1 => ⟨S64x224x224, .f32⟩
  | 2 => ⟨S64x224x224, .f32⟩
  | 3 => ⟨S64x64x1x1, .f32⟩
  | 4 => ⟨S64x64, .f32⟩
  | 5 => ⟨S64x224x224, .f32⟩
  | 6 => ⟨S64x224x224, .f32⟩
  | 7 => ⟨S64x64x1x1, .f32⟩
  | 8 => ⟨S64x64, .f32⟩
  | 9 => ⟨S64x224x224, .f32⟩
  | 10 => ⟨S64x224x224, .f32⟩
  | 11 => ⟨S64x64x1x1, .f32⟩
  | 12 => ⟨S64x64, .f32⟩
  | 13 => ⟨S64x224x224, .f32⟩
  | 14 => ⟨S64x224x224, .f32⟩
  | 15 => ⟨S64x64x1x1, .f32⟩
  | 16 => ⟨S64x64, .f32⟩
  | 17 => ⟨S64x224x224, .f32⟩
  | 18 => ⟨S64x224x224, .f32⟩
  | 19 => ⟨S64x64x1x1, .f32⟩
  | 20 => ⟨S64x64, .f32⟩
  | 21 => ⟨S64x224x224, .f32⟩
  | 22 => ⟨S64x224x224, .f32⟩
  | 23 => ⟨S64x64x1x1, .f32⟩
  | 24 => ⟨S64x64, .f32⟩
  | 25 => ⟨S64x224x224, .f32⟩
  | 26 => ⟨S64x224x224, .f32⟩
  | 27 => ⟨S64x64x1x1, .f32⟩
  | 28 => ⟨S64x64, .f32⟩
  | 29 => ⟨S64x224x224, .f32⟩
  | 30 => ⟨S64x224x224, .f32⟩
  | 31 => ⟨S64x224x224, .f32⟩
  | 32 => ⟨S64x224x224, .f32⟩
  | 33 => ⟨S64x224x224, .f32⟩
  | 34 => ⟨S64x224x224, .f32⟩
  | 35 => ⟨S64x224x224, .f32⟩
  | 36 => ⟨S64x224x224, .f32⟩
  | 37 => ⟨S64x224x224, .f32⟩
  | 38 => ⟨S64x224x224, .f32⟩
  | 39 => ⟨S1x64x224x224, .f32⟩
  | 40 => ⟨S_, .f32⟩
  | 41 => ⟨S1x64x224x224, .f32⟩
  | 42 => ⟨S1x64x224x224, .f32⟩
  | 43 => ⟨S1x64x64x3x3, .f32⟩
  | 44 => ⟨S64x64x3x3, .f32⟩
  | 45 => ⟨S64x224x224, .f32⟩
  | 46 => ⟨S_, .i32⟩
  | 47 => ⟨S_, .f32⟩
  | 48 => ⟨S64x226x226, .f32⟩
  | 49 => ⟨S64x64x1x1, .f32⟩
  | 50 => ⟨S64x64, .f32⟩
  | 51 => ⟨S64x224x224, .f32⟩
  | 52 => ⟨S64x224x224, .f32⟩
  | 53 => ⟨S64x64x1x1, .f32⟩
  | 54 => ⟨S64x64, .f32⟩
  | 55 => ⟨S64x224x224, .f32⟩
  | 56 => ⟨S64x224x224, .f32⟩
  | 57 => ⟨S64x64x1x1, .f32⟩
  | 58 => ⟨S64x64, .f32⟩
  | 59 => ⟨S64x224x224, .f32⟩
  | 60 => ⟨S64x224x224, .f32⟩
  | 61 => ⟨S64x64x1x1, .f32⟩
  | 62 => ⟨S64x64, .f32⟩
  | 63 => ⟨S64x224x224, .f32⟩
  | 64 => ⟨S64x224x224, .f32⟩
  | 65 => ⟨S64x64x1x1, .f32⟩
  | 66 => ⟨S64x64, .f32⟩
  | 67 => ⟨S64x224x224, .f32⟩
  | 68 => ⟨S64x224x224, .f32⟩
  | 69 => ⟨S64x64x1x1, .f32⟩
  | 70 => ⟨S64x64, .f32⟩
  | 71 => ⟨S64x224x224, .f32⟩
  | 72 => ⟨S64x224x224, .f32⟩
  | 73 => ⟨S64x64x1x1, .f32⟩
  | 74 => ⟨S64x64, .f32⟩
  | 75 => ⟨S64x224x224, .f32⟩
  | 76 => ⟨S64x224x224, .f32⟩
  | 77 => ⟨S64x64x1x1, .f32⟩
  | 78 => ⟨S64x64, .f32⟩
  | 79 => ⟨S64x224x224, .f32⟩
  | 80 => ⟨S64x224x224, .f32⟩
  | 81 => ⟨S64x64x1x1, .f32⟩
  | 82 => ⟨S64x64, .f32⟩
  | 83 => ⟨S64x224x224, .f32⟩
  | 84 => ⟨S64x224x224, .f32⟩
  | 85 => ⟨S64x224x224, .f32⟩
  | 86 => ⟨S64x224x224, .f32⟩
  | 87 => ⟨S64x224x224, .f32⟩
  | 88 => ⟨S64x224x224, .f32⟩
  | 89 => ⟨S64x224x224, .f32⟩
  | 90 => ⟨S64x224x224, .f32⟩
  | 91 => ⟨S64x224x224, .f32⟩
  | 92 => ⟨S64x224x224, .f32⟩
  | 93 => ⟨S1x64x224x224, .f32⟩
  | 94 => ⟨S_, .f32⟩
  | 95 => ⟨S1x64x224x224, .f32⟩
  | 96 => ⟨S1x64x224x224, .f32⟩
  | 97 => ⟨S64x224x224, .f32⟩
  | 98 => ⟨S_, .i32⟩
  | 99 => ⟨S_, .f32⟩
  | 100 => ⟨S64x226x226, .f32⟩
  | 101 => ⟨S3x64x1x1, .f32⟩
  | 102 => ⟨S3x64, .f32⟩
  | 103 => ⟨S64x224x224, .f32⟩
  | 104 => ⟨S3x224x224, .f32⟩
  | 105 => ⟨S3x64x1x1, .f32⟩
  | 106 => ⟨S3x64, .f32⟩
  | 107 => ⟨S64x224x224, .f32⟩
  | 108 => ⟨S3x224x224, .f32⟩
  | 109 => ⟨S3x64x1x1, .f32⟩
  | 110 => ⟨S3x64, .f32⟩
  | 111 => ⟨S64x224x224, .f32⟩
  | 112 => ⟨S3x224x224, .f32⟩
  | 113 => ⟨S3x64x1x1, .f32⟩
  | 114 => ⟨S3x64, .f32⟩
  | 115 => ⟨S64x224x224, .f32⟩
  | 116 => ⟨S3x224x224, .f32⟩
  | 117 => ⟨S3x64x1x1, .f32⟩
  | 118 => ⟨S3x64, .f32⟩
  | 119 => ⟨S64x224x224, .f32⟩
  | 120 => ⟨S3x224x224, .f32⟩
  | 121 => ⟨S3x64x1x1, .f32⟩
  | 122 => ⟨S3x64, .f32⟩
  | 123 => ⟨S64x224x224, .f32⟩
  | 124 => ⟨S3x224x224, .f32⟩
  | 125 => ⟨S3x64x1x1, .f32⟩
  | 126 => ⟨S3x64, .f32⟩
  | 127 => ⟨S64x224x224, .f32⟩
  | _ => ⟨S1x1x224x224, .f32⟩

abbrev hbmTy0_2 (i : Nat) : BufTy := match i % 128 with
  | 0 => ⟨S3x224x224, .f32⟩
  | 1 => ⟨S3x64x1x1, .f32⟩
  | 2 => ⟨S3x64, .f32⟩
  | 3 => ⟨S64x224x224, .f32⟩
  | 4 => ⟨S3x224x224, .f32⟩
  | 5 => ⟨S3x64x1x1, .f32⟩
  | 6 => ⟨S3x64, .f32⟩
  | 7 => ⟨S64x224x224, .f32⟩
  | 8 => ⟨S3x224x224, .f32⟩
  | 9 => ⟨S3x224x224, .f32⟩
  | 10 => ⟨S3x224x224, .f32⟩
  | 11 => ⟨S3x224x224, .f32⟩
  | 12 => ⟨S3x224x224, .f32⟩
  | 13 => ⟨S3x224x224, .f32⟩
  | 14 => ⟨S3x224x224, .f32⟩
  | 15 => ⟨S3x224x224, .f32⟩
  | 16 => ⟨S3x224x224, .f32⟩
  | 17 => ⟨S1x3x224x224, .f32⟩
  | _ => ⟨S1x1x224x224, .f32⟩

abbrev hbmTy (i : Nat) : BufTy := match i / 128 with
  | 0 => hbmTy0_0 i
  | 1 => hbmTy0_1 i
  | 2 => hbmTy0_2 i
  | _ => ⟨S1x1x224x224, .f32⟩

abbrev bufTy : (tb : Table) → Fin (tcTables nBuf tb) → BufTy
  | .hbm, ⟨i, _⟩ => hbmTy i
  | _, _ => ⟨S1x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call1_cst : Ref sig .tc := ⟨.hbm, 60, rfl⟩
abbrev main_call1_v0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_0 : Ref sig .tc := ⟨.hbm, 66, rfl⟩
abbrev main_call2_v0 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_call3_cst : Ref sig .tc := ⟨.hbm, 114, rfl⟩
abbrev main_call3_v0 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_c_1 : Ref sig .tc := ⟨.hbm, 120, rfl⟩
abbrev main_call4_v0 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_call5_cst : Ref sig .tc := ⟨.hbm, 168, rfl⟩
abbrev main_call5_v0 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_c_2 : Ref sig .tc := ⟨.hbm, 174, rfl⟩
abbrev main_call6_v0 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_call7_cst : Ref sig .tc := ⟨.hbm, 222, rfl⟩
abbrev main_call7_v0 : Ref sig .tc := ⟨.hbm, 223, rfl⟩
abbrev main_v201 : Ref sig .tc := ⟨.hbm, 224, rfl⟩
abbrev main_v202 : Ref sig .tc := ⟨.hbm, 225, rfl⟩
abbrev main_c_3 : Ref sig .tc := ⟨.hbm, 226, rfl⟩
abbrev main_call8_v0 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩

abbrev nD : Nat := 1
abbrev τ : Topo := Topo.v7x

variable {F : FTy → Type} [FloatOps F]
-- ==== Viz.lean ====
abbrev S1x64x224x224 : Shape := ⟨4, ![1, 64, 224, 224]⟩
abbrev S3x64 : Shape := ⟨2, ![3, 64]⟩
abbrev S3 : Shape := ⟨1, ![3]⟩
abbrev S_ : Shape := ⟨0, ![]⟩
abbrev S8x64 : Shape := ⟨2, ![8, 64]⟩
abbrev S8 : Shape := ⟨1, ![8]⟩
abbrev S8x1 : Shape := ⟨2, ![8, 1]⟩
abbrev S64x224x224 : Shape := ⟨3, ![64, 224, 224]⟩
abbrev S224x64x224 : Shape := ⟨3, ![224, 64, 224]⟩
abbrev S226x64x226 : Shape := ⟨3, ![226, 64, 226]⟩
abbrev S8x128 : Shape := ⟨2, ![8, 128]⟩
abbrev S64x224 : Shape := ⟨2, ![64, 224]⟩
abbrev S64x226 : Shape := ⟨2, ![64, 226]⟩
abbrev S1x64x226 : Shape := ⟨3, ![1, 64, 226]⟩
abbrev S1x64x224 : Shape := ⟨3, ![1, 64, 224]⟩
abbrev S64x1 : Shape := ⟨2, ![64, 1]⟩
abbrev S8x224 : Shape := ⟨2, ![8, 224]⟩
abbrev S1x8x1 : Shape := ⟨3, ![1, 8, 1]⟩
abbrev S1 : Shape := ⟨1, ![1]⟩
abbrev S1x1x1 : Shape := ⟨3, ![1, 1, 1]⟩

abbrev nBuf : Space → Nat
  | .hbm => 23
  | .vmem => 8
  | .smem => 0
  | _ => 0

abbrev bufTy : (tb : Table) → Fin (tcTables nBuf tb) → BufTy
  | .hbm, ⟨0, _⟩ => ⟨S1x64x224x224, .f32⟩
  | .hbm, ⟨1, _⟩ => ⟨S1x64x224x224, .f32⟩
  | .hbm, ⟨2, _⟩ => ⟨S1x64x224x224, .f32⟩
  | .hbm, ⟨3, _⟩ => ⟨S3x64, .f32⟩
  | .hbm, ⟨4, _⟩ => ⟨S3, .f32⟩
  | .hbm, ⟨5, _⟩ => ⟨S_, .i32⟩
  | .hbm, ⟨6, _⟩ => ⟨S_, .f32⟩
  | .hbm, ⟨7, _⟩ => ⟨S8x64, .f32⟩
  | .hbm, ⟨8, _⟩ => ⟨S_, .f32⟩
  | .hbm, ⟨9, _⟩ => ⟨S_, .f32⟩
  | .hbm, ⟨10, _⟩ => ⟨S8, .f32⟩
  | .hbm, ⟨11, _⟩ => ⟨S8x1, .f32⟩
  | .hbm, ⟨12, _⟩ => ⟨S64x224x224, .f32⟩
  | .hbm, ⟨13, _⟩ => ⟨S224x64x224, .f32⟩
  | .hbm, ⟨14, _⟩ => ⟨S64x224x224, .f32⟩
  | .hbm, ⟨15, _⟩ => ⟨S224x64x224, .f32⟩
  | .hbm, ⟨16, _⟩ => ⟨S64x224x224, .f32⟩
  | .hbm, ⟨17, _⟩ => ⟨S224x64x224, .f32⟩
  | .hbm, ⟨18, _⟩ => ⟨S226x64x226, .f32⟩
  | .hbm, ⟨19, _⟩ => ⟨S8x128, .f32⟩
  | .hbm, ⟨20, _⟩ => ⟨S224x64x224, .f32⟩
  | .hbm, ⟨21, _⟩ => ⟨S64x224x224, .f32⟩
  | .hbm, ⟨22, _⟩ => ⟨S1x64x224x224, .f32⟩
  | .local _ .vmem, ⟨0, _⟩ => ⟨S224x64x224, .f32⟩
  | .local _ .vmem, ⟨1, _⟩ => ⟨S224x64x224, .f32⟩
  | .local _ .vmem, ⟨2, _⟩ => ⟨S224x64x224, .f32⟩
  | .local _ .vmem, ⟨3, _⟩ => ⟨S8x64, .f32⟩
  | .local _ .vmem, ⟨4, _⟩ => ⟨S8x1, .f32⟩
  | .local _ .vmem, ⟨5, _⟩ => ⟨S226x64x226, .f32⟩
  | .local _ .vmem, ⟨6, _⟩ => ⟨S8x128, .f32⟩
  | .local _ .vmem, ⟨7, _⟩ => ⟨S64x224, .f32⟩
  | _, _ => ⟨S1x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v12 : BitVec 32 := Scalar.addi c0_i32 c224_i32
  let c1_i32 : BitVec 32 := 1#32
  ⟨c0_i32, v12, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v90 : Index := Scalar.indexCast arg8
  let c0_34 : Index := 0#32
  let c0_35 : Index := 0#32
  ![v90.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let c1_i32_41 : BitVec 32 := 1#32
  let v104 : BitVec 32 := Scalar.addi arg8 c1_i32_41
  let v105 : Index := Scalar.indexCast v104
  let c0_42 : Index := 0#32
  let c0_43 : Index := 0#32
  ![v105.toNat, 0, 0]
abbrev stage0_0 : Fin 1 → Memref sig .tc .vmem S224x64x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x64x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x64x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S226x64x226 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== VizRefIdeal.lean ====
abbrev S1x64x224x224 : Shape := ⟨4, ![1, 64, 224, 224]⟩
abbrev S3x64 : Shape := ⟨2, ![3, 64]⟩
abbrev S3 : Shape := ⟨1, ![3]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x64x224x224, .f32⟩
  | .hbm, ⟨1, _⟩ => ⟨S1x64x224x224, .f32⟩
  | .hbm, ⟨2, _⟩ => ⟨S1x64x224x224, .f32⟩
  | .hbm, ⟨3, _⟩ => ⟨S3x64, .f32⟩
  | .hbm, ⟨4, _⟩ => ⟨S3, .f32⟩
  | .hbm, ⟨5, _⟩ => ⟨S1x64x224x224, .f32⟩
  | .hbm, ⟨6, _⟩ => ⟨S_, .f32⟩
  | .hbm, ⟨7, _⟩ => ⟨S1x64x224x224, .f32⟩
  | .hbm, ⟨8, _⟩ => ⟨S1x64x224x224, .f32⟩
  | .hbm, ⟨9, _⟩ => ⟨S1x64x224x224, .f32⟩
  | .hbm, ⟨10, _⟩ => ⟨S1x64x224x224, .f32⟩
  | _, _ => ⟨S1x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Route.lean ====
abbrev S1x64x224x224 : Shape := ⟨4, ![1, 64, 224, 224]⟩
abbrev S3x64 : Shape := ⟨2, ![3, 64]⟩
abbrev S3 : Shape := ⟨1, ![3]⟩
abbrev S_ : Shape := ⟨0, ![]⟩
abbrev S8x64 : Shape := ⟨2, ![8, 64]⟩
abbrev S8 : Shape := ⟨1, ![8]⟩
abbrev S8x1 : Shape := ⟨2, ![8, 1]⟩
abbrev S64x224x224 : Shape := ⟨3, ![64, 224, 224]⟩
abbrev S224x64x224 : Shape := ⟨3, ![224, 64, 224]⟩
abbrev S226x64x226 : Shape := ⟨3, ![226, 64, 226]⟩
abbrev S8x128 : Shape := ⟨2, ![8, 128]⟩
abbrev S64x224 : Shape := ⟨2, ![64, 224]⟩
abbrev S64x226 : Shape := ⟨2, ![64, 226]⟩
abbrev S1x64x226 : Shape := ⟨3, ![1, 64, 226]⟩
abbrev S1x64x224 : Shape := ⟨3, ![1, 64, 224]⟩
abbrev S64x1 : Shape := ⟨2, ![64, 1]⟩
abbrev S8x224 : Shape := ⟨2, ![8, 224]⟩
abbrev S1x8x1 : Shape := ⟨3, ![1, 8, 1]⟩
abbrev S1 : Shape := ⟨1, ![1]⟩
abbrev S1x1x1 : Shape := ⟨3, ![1, 1, 1]⟩
abbrev S2x1 : Shape := ⟨2, ![2, 1]⟩
abbrev S2 : Shape := ⟨1, ![2]⟩

abbrev nBuf : Space → Nat
  | .hbm => 25
  | .vmem => 8
  | .smem => 0
  | _ => 0

abbrev bufTy : (tb : Table) → Fin (tcTables nBuf tb) → BufTy
  | .hbm, ⟨0, _⟩ => ⟨S1x64x224x224, .f32⟩
  | .hbm, ⟨1, _⟩ => ⟨S1x64x224x224, .f32⟩
  | .hbm, ⟨2, _⟩ => ⟨S1x64x224x224, .f32⟩
  | .hbm, ⟨3, _⟩ => ⟨S3x64, .f32⟩
  | .hbm, ⟨4, _⟩ => ⟨S3, .f32⟩
  | .hbm, ⟨5, _⟩ => ⟨S_, .i32⟩
  | .hbm, ⟨6, _⟩ => ⟨S_, .f32⟩
  | .hbm, ⟨7, _⟩ => ⟨S8x64, .f32⟩
  | .hbm, ⟨8, _⟩ => ⟨S_, .f32⟩
  | .hbm, ⟨9, _⟩ => ⟨S_, .f32⟩
  | .hbm, ⟨10, _⟩ => ⟨S8, .f32⟩
  | .hbm, ⟨11, _⟩ => ⟨S8x1, .f32⟩
  | .hbm, ⟨12, _⟩ => ⟨S64x224x224, .f32⟩
  | .hbm, ⟨13, _⟩ => ⟨S224x64x224, .f32⟩
  | .hbm, ⟨14, _⟩ => ⟨S64x224x224, .f32⟩
  | .hbm, ⟨15, _⟩ => ⟨S224x64x224, .f32⟩
  | .hbm, ⟨16, _⟩ => ⟨S64x224x224, .f32⟩
  | .hbm, ⟨17, _⟩ => ⟨S224x64x224, .f32⟩
  | .hbm, ⟨18, _⟩ => ⟨S226x64x226, .f32⟩
  | .hbm, ⟨19, _⟩ => ⟨S8x128, .f32⟩
  | .hbm, ⟨20, _⟩ => ⟨S2x1, .f32⟩
  | .hbm, ⟨21, _⟩ => ⟨S2, .f32⟩
  | .hbm, ⟨22, _⟩ => ⟨S2, .i32⟩
  | .hbm, ⟨23, _⟩ => ⟨S2x1, .f32⟩
  | .hbm, ⟨24, _⟩ => ⟨S2, .f32⟩
  | .local _ .vmem, ⟨0, _⟩ => ⟨S224x64x224, .f32⟩
  | .local _ .vmem, ⟨1, _⟩ => ⟨S224x64x224, .f32⟩
  | .local _ .vmem, ⟨2, _⟩ => ⟨S224x64x224, .f32⟩
  | .local _ .vmem, ⟨3, _⟩ => ⟨S8x64, .f32⟩
  | .local _ .vmem, ⟨4, _⟩ => ⟨S8x1, .f32⟩
  | .local _ .vmem, ⟨5, _⟩ => ⟨S226x64x226, .f32⟩
  | .local _ .vmem, ⟨6, _⟩ => ⟨S8x128, .f32⟩
  | .local _ .vmem, ⟨7, _⟩ => ⟨S64x224, .f32⟩
  | _, _ => ⟨S1x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v12 : BitVec 32 := Scalar.addi c0_i32 c224_i32
  let c1_i32 : BitVec 32 := 1#32
  ⟨c0_i32, v12, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v90 : Index := Scalar.indexCast arg8
  let c0_34 : Index := 0#32
  let c0_35 : Index := 0#32
  ![v90.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let c1_i32_41 : BitVec 32 := 1#32
  let v104 : BitVec 32 := Scalar.addi arg8 c1_i32_41
  let v105 : Index := Scalar.indexCast v104
  let c0_42 : Index := 0#32
  let c0_43 : Index := 0#32
  ![v105.toNat, 0, 0]
abbrev stage0_0 : Fin 1 → Memref sig .tc .vmem S224x64x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x64x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x64x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S226x64x226 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RouteRefIdeal.lean ====
abbrev S1x64x224x224 : Shape := ⟨4, ![1, 64, 224, 224]⟩
abbrev S3x64 : Shape := ⟨2, ![3, 64]⟩
abbrev S3 : Shape := ⟨1, ![3]⟩
abbrev S_ : Shape := ⟨0, ![]⟩
abbrev S1x64 : Shape := ⟨2, ![1, 64]⟩
abbrev S64 : Shape := ⟨1, ![64]⟩
abbrev S64x3 : Shape := ⟨2, ![64, 3]⟩
abbrev S2 : Shape := ⟨1, ![2]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S1x64x224x224, .f32⟩
  | .hbm, ⟨1, _⟩ => ⟨S1x64x224x224, .f32⟩
  | .hbm, ⟨2, _⟩ => ⟨S1x64x224x224, .f32⟩
  | .hbm, ⟨3, _⟩ => ⟨S3x64, .f32⟩
  | .hbm, ⟨4, _⟩ => ⟨S3, .f32⟩
  | .hbm, ⟨5, _⟩ => ⟨S1x64x224x224, .f32⟩
  | .hbm, ⟨6, _⟩ => ⟨S_, .f32⟩
  | .hbm, ⟨7, _⟩ => ⟨S1x64x224x224, .f32⟩
  | .hbm, ⟨8, _⟩ => ⟨S1x64x224x224, .f32⟩
  | .hbm, ⟨9, _⟩ => ⟨S1x64x224x224, .f32⟩
  | .hbm, ⟨10, _⟩ => ⟨S1x64x224x224, .f32⟩
  | .hbm, ⟨11, _⟩ => ⟨S_, .f32⟩
  | .hbm, ⟨12, _⟩ => ⟨S1x64, .f32⟩
  | .hbm, ⟨13, _⟩ => ⟨S_, .f32⟩
  | .hbm, ⟨14, _⟩ => ⟨S1x64, .f32⟩
  | .hbm, ⟨15, _⟩ => ⟨S1x64, .f32⟩
  | .hbm, ⟨16, _⟩ => ⟨S64, .f32⟩
  | .hbm, ⟨17, _⟩ => ⟨S64x3, .f32⟩
  | .hbm, ⟨18, _⟩ => ⟨S3, .f32⟩
  | .hbm, ⟨19, _⟩ => ⟨S3, .f32⟩
  | .hbm, ⟨20, _⟩ => ⟨S2, .f32⟩
  | .hbm, ⟨21, _⟩ => ⟨S2, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S2, .f32⟩
  | .hbm, ⟨34, _⟩ => ⟨S2, .f32⟩
  | _, _ => ⟨S1x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== MoeV.lean ====
abbrev S1x64x224x224 : Shape := ⟨4, ![1, 64, 224, 224]⟩
abbrev S3x64x64x3x3 : Shape := ⟨5, ![3, 64, 64, 3, 3]⟩
abbrev S3x3x64x3x3 : Shape := ⟨5, ![3, 3, 64, 3, 3]⟩
abbrev S2 : Shape := ⟨1, ![2]⟩
abbrev S64x224x224 : Shape := ⟨3, ![64, 224, 224]⟩
abbrev S224x64x224 : Shape := ⟨3, ![224, 64, 224]⟩
abbrev S_ : Shape := ⟨0, ![]⟩
abbrev S226x64x226 : Shape := ⟨3, ![226, 64, 226]⟩
abbrev S3x3x64x3x64 : Shape := ⟨5, ![3, 3, 64, 3, 64]⟩
abbrev S3x3x64x192 : Shape := ⟨4, ![3, 3, 64, 192]⟩
abbrev S3x3x3x3x64 : Shape := ⟨5, ![3, 3, 3, 3, 64]⟩
abbrev S3x3x3x192 : Shape := ⟨4, ![3, 3, 3, 192]⟩
abbrev S226x3x226 : Shape := ⟨3, ![226, 3, 226]⟩
abbrev S3x226 : Shape := ⟨2, ![3, 226]⟩
abbrev S1x3x226 : Shape := ⟨3, ![1, 3, 226]⟩
abbrev S64x226 : Shape := ⟨2, ![64, 226]⟩
abbrev S1x64x226 : Shape := ⟨3, ![1, 64, 226]⟩
abbrev S1 : Shape := ⟨1, ![1]⟩
abbrev S3x64x226 : Shape := ⟨3, ![3, 64, 226]⟩
abbrev S192x226 : Shape := ⟨2, ![192, 226]⟩
abbrev S1x1x64x192 : Shape := ⟨4, ![1, 1, 64, 192]⟩
abbrev S64x192 : Shape := ⟨2, ![64, 192]⟩
abbrev S192x224 : Shape := ⟨2, ![192, 224]⟩
abbrev S64x224 : Shape := ⟨2, ![64, 224]⟩
abbrev S64x1 : Shape := ⟨2, ![64, 1]⟩
abbrev S1x1x3x192 : Shape := ⟨4, ![1, 1, 3, 192]⟩
abbrev S3x192 : Shape := ⟨2, ![3, 192]⟩
abbrev S3x224 : Shape := ⟨2, ![3, 224]⟩
abbrev S3x1 : Shape := ⟨2, ![3, 1]⟩
abbrev S224x3x224 : Shape := ⟨3, ![224, 3, 224]⟩
abbrev S3x224x224 : Shape := ⟨3, ![3, 224, 224]⟩
abbrev S1x3x224x224 : Shape := ⟨4, ![1, 3, 224, 224]⟩

abbrev nBuf : Space → Nat
  | .hbm => 18
  | .vmem => 5
  | .smem => 2
  | _ => 0

abbrev bufTy : (tb : Table) → Fin (tcTables nBuf tb) → BufTy
  | .hbm, ⟨0, _⟩ => ⟨S1x64x224x224, .f32⟩
  | .hbm, ⟨1, _⟩ => ⟨S3x64x64x3x3, .f32⟩
  | .hbm, ⟨2, _⟩ => ⟨S3x3x64x3x3, .f32⟩
  | .hbm, ⟨3, _⟩ => ⟨S2, .i32⟩
  | .hbm, ⟨4, _⟩ => ⟨S2, .f32⟩
  | .hbm, ⟨5, _⟩ => ⟨S64x224x224, .f32⟩
  | .hbm, ⟨6, _⟩ => ⟨S224x64x224, .f32⟩
  | .hbm, ⟨7, _⟩ => ⟨S_, .i32⟩
  | .hbm, ⟨8, _⟩ => ⟨S_, .f32⟩
  | .hbm, ⟨9, _⟩ => ⟨S226x64x226, .f32⟩
  | .hbm, ⟨10, _⟩ => ⟨S3x3x64x3x64, .f32⟩
  | .hbm, ⟨11, _⟩ => ⟨S3x3x64x192, .f32⟩
  | .hbm, ⟨12, _⟩ => ⟨S3x3x3x3x64, .f32⟩
  | .hbm, ⟨13, _⟩ => ⟨S3x3x3x192, .f32⟩
  | .hbm, ⟨14, _⟩ => ⟨S226x3x226, .f32⟩
  | .hbm, ⟨15, _⟩ => ⟨S224x3x224, .f32⟩
  | .hbm, ⟨16, _⟩ => ⟨S3x224x224, .f32⟩
  | .hbm, ⟨17, _⟩ => ⟨S1x3x224x224, .f32⟩
  | .local _ .vmem, ⟨0, _⟩ => ⟨S226x64x226, .f32⟩
  | .local _ .vmem, ⟨1, _⟩ => ⟨S3x3x64x192, .f32⟩
  | .local _ .vmem, ⟨2, _⟩ => ⟨S3x3x3x192, .f32⟩
  | .local _ .vmem, ⟨3, _⟩ => ⟨S226x3x226, .f32⟩
  | .local _ .vmem, ⟨4, _⟩ => ⟨S226x64x226, .f32⟩
  | .local _ .smem, ⟨0, _⟩ => ⟨S2, .i32⟩
  | .local _ .smem, ⟨1, _⟩ => ⟨S2, .f32⟩
  | _, _ => ⟨S1x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v18 : BitVec 32 := Scalar.addi c0_i32 c224_i32
  let c1_i32 : BitVec 32 := 1#32
  ⟨c0_i32, v18, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v24 : Index := Scalar.indexCast arg7
  let c0_29 : Index := 0#32
  let c0_30 : Index := 0#32
  ![v24.toNat, 0, 0]
def k0_off2 (v16 : BitVec 32) : Fin 4 → Nat :=
  let v28 : Index := Scalar.indexCast v16
  let c0_31 : Index := 0#32
  let c0_32 : Index := 0#32
  let c0_33 : Index := 0#32
  ![v28.toNat, 0, 0, 0]

def k0_off3 (v16 : BitVec 32) : Fin 4 → Nat :=
  let v33 : Index := Scalar.indexCast v16
  let c1_35 : Index := 1#32
  let c0_36 : Index := 0#32
  let c0_37 : Index := 0#32
  ![v33.toNat, 1, 0, 0]
def k0_off4 (v16 : BitVec 32) : Fin 4 → Nat :=
  let v39 : Index := Scalar.indexCast v16
  let c2 : Index := 2#32
  let c0_39 : Index := 0#32
  let c0_40 : Index := 0#32
  ![v39.toNat, 2, 0, 0]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let c1_i32_44 : BitVec 32 := 1#32
  let v49 : BitVec 32 := Scalar.addi arg7 c1_i32_44
  let v50 : Index := Scalar.indexCast v49
  let c0_45 : Index := 0#32
  let c0_46 : Index := 0#32
  ![v50.toNat, 0, 0]
@[reducible] def k0_t2_loop : Scf.Loop 32 :=
  let c0_i32_16 : BitVec 32 := 0#32
  let c224_i32_17 : BitVec 32 := 224#32
  let v19 : BitVec 32 := Scalar.addi c0_i32_16 c224_i32_17
  let c1_i32_18 : BitVec 32 := 1#32
  ⟨c0_i32_16, v19, c1_i32_18⟩
def k0_off6 (k0_t2 : Fin k0_t2_loop.trips) : Fin 3 → Nat :=
  let c0_i32_16 : BitVec 32 := 0#32
  let c1_i32_18 : BitVec 32 := 1#32
  let arg7 : BitVec 32 := Scf.iv c0_i32_16 c1_i32_18 k0_t2
  let v24 : Index := Scalar.indexCast arg7
  let c0_29 : Index := 0#32
  let c0_30 : Index := 0#32
  ![v24.toNat, 0, 0]
def k0_off7 (v16 : BitVec 32) : Fin 4 → Nat :=
  let v27 : Index := Scalar.indexCast v16
  let c0_31 : Index := 0#32
  let c0_32 : Index := 0#32
  let c0_33 : Index := 0#32
  ![v27.toNat, 0, 0, 0]
def k0_off8 (v16 : BitVec 32) : Fin 4 → Nat :=
  let v32 : Index := Scalar.indexCast v16
  let c1_35 : Index := 1#32
  let c0_36 : Index := 0#32
  let c0_37 : Index := 0#32
  ![v32.toNat, 1, 0, 0]
def k0_off9 (v16 : BitVec 32) : Fin 4 → Nat :=
  let v38 : Index := Scalar.indexCast v16
  let c2 : Index := 2#32
  let c0_39 : Index := 0#32
  let c0_40 : Index := 0#32
  ![v38.toNat, 2, 0, 0]

def k0_chk1 (v16 : BitVec 32) : Prop :=
  (∀ a, (k0_off2 v16) a + S1x1x64x192.size a ≤ S3x3x64x192.size a) ∧
  (∀ a, (k0_off3 v16) a + S1x1x64x192.size a ≤ S3x3x64x192.size a) ∧
  (∀ a, (k0_off4 v16) a + S1x1x64x192.size a ≤ S3x3x64x192.size a) ∧
  (∀ a, (k0_off7 v16) a + S1x1x3x192.size a ≤ S3x3x3x192.size a) ∧
  (∀ a, (k0_off8 v16) a + S1x1x3x192.size a ≤ S3x3x3x192.size a) ∧
  (∀ a, (k0_off9 v16) a + S1x1x3x192.size a ≤ S3x3x3x192.size a)
theorem k0_off2_inb : ∀ (v16 : BitVec 32) (k0_hw1 : k0_chk1 v16), ∀ a, (k0_off2 v16) a + S1x1x64x192.size a ≤ S3x3x64x192.size a := fun v16 k0_hw1 => k0_hw1.1
theorem k0_off3_inb : ∀ (v16 : BitVec 32) (k0_hw1 : k0_chk1 v16), ∀ a, (k0_off3 v16) a + S1x1x64x192.size a ≤ S3x3x64x192.size a := fun v16 k0_hw1 => k0_hw1.2.1
theorem k0_off4_inb : ∀ (v16 : BitVec 32) (k0_hw1 : k0_chk1 v16), ∀ a, (k0_off4 v16) a + S1x1x64x192.size a ≤ S3x3x64x192.size a := fun v16 k0_hw1 => k0_hw1.2.2.1
theorem k0_off7_inb : ∀ (v16 : BitVec 32) (k0_hw1 : k0_chk1 v16), ∀ a, (k0_off7 v16) a + S1x1x3x192.size a ≤ S3x3x3x192.size a := fun v16 k0_hw1 => k0_hw1.2.2.2.1
theorem k0_off8_inb : ∀ (v16 : BitVec 32) (k0_hw1 : k0_chk1 v16), ∀ a, (k0_off8 v16) a + S1x1x3x192.size a ≤ S3x3x3x192.size a := fun v16 k0_hw1 => k0_hw1.2.2.2.2.1
theorem k0_off9_inb : ∀ (v16 : BitVec 32) (k0_hw1 : k0_chk1 v16), ∀ a, (k0_off9 v16) a + S1x1x3x192.size a ≤ S3x3x3x192.size a := fun v16 k0_hw1 => k0_hw1.2.2.2.2.2

def k0_off10 (k0_t2 : Fin k0_t2_loop.trips) : Fin 3 → Nat :=
  let c0_i32_16 : BitVec 32 := 0#32
  let c1_i32_18 : BitVec 32 := 1#32
  let arg7 : BitVec 32 := Scf.iv c0_i32_16 c1_i32_18 k0_t2
  let c1_i32_43 : BitVec 32 := 1#32
  let v48 : BitVec 32 := Scalar.addi arg7 c1_i32_43
  let v49 : Index := Scalar.indexCast v48
  let c0_44 : Index := 0#32
  let c0_45 : Index := 0#32
  ![v49.toNat, 0, 0]
@[reducible] def k0_t3_loop : Scf.Loop 32 :=
  let c0_i32_21 : BitVec 32 := 0#32
  let c224_i32_22 : BitVec 32 := 224#32
  let v22 : BitVec 32 := Scalar.addi c0_i32_21 c224_i32_22
  let c1_i32_23 : BitVec 32 := 1#32
  ⟨c0_i32_21, v22, c1_i32_23⟩
def k0_off11 (k0_t3 : Fin k0_t3_loop.trips) : Fin 3 → Nat :=
  let c0_i32_21 : BitVec 32 := 0#32
  let c1_i32_23 : BitVec 32 := 1#32
  let arg7 : BitVec 32 := Scf.iv c0_i32_21 c1_i32_23 k0_t3
  let v24 : Index := Scalar.indexCast arg7
  let c0_29 : Index := 0#32
  let c0_30 : Index := 0#32
  ![v24.toNat, 0, 0]
def k0_off12 (v20 : BitVec 32) : Fin 4 → Nat :=
  let v28 : Index := Scalar.indexCast v20
  let c0_31 : Index := 0#32
  let c0_32 : Index := 0#32
  let c0_33 : Index := 0#32
  ![v28.toNat, 0, 0, 0]

def k0_off13 (v20 : BitVec 32) : Fin 4 → Nat :=
  let v33 : Index := Scalar.indexCast v20
  let c1_35 : Index := 1#32
  let c0_36 : Index := 0#32
  let c0_37 : Index := 0#32
  ![v33.toNat, 1, 0, 0]
def k0_off14 (v20 : BitVec 32) : Fin 4 → Nat :=
  let v39 : Index := Scalar.indexCast v20
  let c2 : Index := 2#32
  let c0_39 : Index := 0#32
  let c0_40 : Index := 0#32
  ![v39.toNat, 2, 0, 0]
def k0_off15 (k0_t3 : Fin k0_t3_loop.trips) : Fin 3 → Nat :=
  let c0_i32_21 : BitVec 32 := 0#32
  let c1_i32_23 : BitVec 32 := 1#32
  let arg7 : BitVec 32 := Scf.iv c0_i32_21 c1_i32_23 k0_t3
  let c1_i32_44 : BitVec 32 := 1#32
  let v49 : BitVec 32 := Scalar.addi arg7 c1_i32_44
  let v50 : Index := Scalar.indexCast v49
  let c0_45 : Index := 0#32
  let c0_46 : Index := 0#32
  ![v50.toNat, 0, 0]
@[reducible] def k0_t4_loop : Scf.Loop 32 :=
  let c0_i32_25 : BitVec 32 := 0#32
  let c224_i32_26 : BitVec 32 := 224#32
  let v23 : BitVec 32 := Scalar.addi c0_i32_25 c224_i32_26
  let c1_i32_27 : BitVec 32 := 1#32
  ⟨c0_i32_25, v23, c1_i32_27⟩
def k0_off16 (k0_t4 : Fin k0_t4_loop.trips) : Fin 3 → Nat :=
  let c0_i32_25 : BitVec 32 := 0#32
  let c1_i32_27 : BitVec 32 := 1#32
  let arg7 : BitVec 32 := Scf.iv c0_i32_25 c1_i32_27 k0_t4
  let v24 : Index := Scalar.indexCast arg7
  let c0_29 : Index := 0#32
  let c0_30 : Index := 0#32
  ![v24.toNat, 0, 0]
def k0_off17 (v20 : BitVec 32) : Fin 4 → Nat :=
  let v27 : Index := Scalar.indexCast v20
  let c0_31 : Index := 0#32
  let c0_32 : Index := 0#32
  let c0_33 : Index := 0#32
  ![v27.toNat, 0, 0, 0]
def k0_off18 (v20 : BitVec 32) : Fin 4 → Nat :=
  let v32 : Index := Scalar.indexCast v20
  let c1_35 : Index := 1#32
  let c0_36 : Index := 0#32
  let c0_37 : Index := 0#32
  ![v32.toNat, 1, 0, 0]
def k0_off19 (v20 : BitVec 32) : Fin 4 → Nat :=
  let v38 : Index := Scalar.indexCast v20
  let c2 : Index := 2#32
  let c0_39 : Index := 0#32
  let c0_40 : Index := 0#32
  ![v38.toNat, 2, 0, 0]

def k0_chk2 (v20 : BitVec 32) : Prop :=
  (∀ a, (k0_off12 v20) a + S1x1x64x192.size a ≤ S3x3x64x192.size a) ∧
  (∀ a, (k0_off13 v20) a + S1x1x64x192.size a ≤ S3x3x64x192.size a) ∧
  (∀ a, (k0_off14 v20) a + S1x1x64x192.size a ≤ S3x3x64x192.size a) ∧
  (∀ a, (k0_off17 v20) a + S1x1x3x192.size a ≤ S3x3x3x192.size a) ∧
  (∀ a, (k0_off18 v20) a + S1x1x3x192.size a ≤ S3x3x3x192.size a) ∧
  (∀ a, (k0_off19 v20) a + S1x1x3x192.size a ≤ S3x3x3x192.size a)
theorem k0_off12_inb : ∀ (v20 : BitVec 32) (k0_hw2 : k0_chk2 v20), ∀ a, (k0_off12 v20) a + S1x1x64x192.size a ≤ S3x3x64x192.size a := fun v20 k0_hw2 => k0_hw2.1
theorem k0_off13_inb : ∀ (v20 : BitVec 32) (k0_hw2 : k0_chk2 v20), ∀ a, (k0_off13 v20) a + S1x1x64x192.size a ≤ S3x3x64x192.size a := fun v20 k0_hw2 => k0_hw2.2.1
theorem k0_off14_inb : ∀ (v20 : BitVec 32) (k0_hw2 : k0_chk2 v20), ∀ a, (k0_off14 v20) a + S1x1x64x192.size a ≤ S3x3x64x192.size a := fun v20 k0_hw2 => k0_hw2.2.2.1
theorem k0_off17_inb : ∀ (v20 : BitVec 32) (k0_hw2 : k0_chk2 v20), ∀ a, (k0_off17 v20) a + S1x1x3x192.size a ≤ S3x3x3x192.size a := fun v20 k0_hw2 => k0_hw2.2.2.2.1
theorem k0_off18_inb : ∀ (v20 : BitVec 32) (k0_hw2 : k0_chk2 v20), ∀ a, (k0_off18 v20) a + S1x1x3x192.size a ≤ S3x3x3x192.size a := fun v20 k0_hw2 => k0_hw2.2.2.2.2.1
theorem k0_off19_inb : ∀ (v20 : BitVec 32) (k0_hw2 : k0_chk2 v20), ∀ a, (k0_off19 v20) a + S1x1x3x192.size a ≤ S3x3x3x192.size a := fun v20 k0_hw2 => k0_hw2.2.2.2.2.2

def k0_off20 (k0_t4 : Fin k0_t4_loop.trips) : Fin 3 → Nat :=
  let c0_i32_25 : BitVec 32 := 0#32
  let c1_i32_27 : BitVec 32 := 1#32
  let arg7 : BitVec 32 := Scf.iv c0_i32_25 c1_i32_27 k0_t4
  let c1_i32_42 : BitVec 32 := 1#32
  let v46 : BitVec 32 := Scalar.addi arg7 c1_i32_42
  let v47 : Index := Scalar.indexCast v46
  let c0_43 : Index := 0#32
  let c0_44 : Index := 0#32
  ![v47.toNat, 0, 0]
abbrev stage0_0 : Fin 1 → Memref sig .tc .vmem S226x64x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x3x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S226x3x226 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MoeVIdeal.lean ====
abbrev S1x64x224x224 : Shape := ⟨4, ![1, 64, 224, 224]⟩
abbrev S3x64x64x3x3 : Shape := ⟨5, ![3, 64, 64, 3, 3]⟩
abbrev S3x3x64x3x3 : Shape := ⟨5, ![3, 3, 64, 3, 3]⟩
abbrev S2 : Shape := ⟨1, ![2]⟩
abbrev S64x224x224 : Shape := ⟨3, ![64, 224, 224]⟩
abbrev S224x64x224 : Shape := ⟨3, ![224, 64, 224]⟩
abbrev S_ : Shape := ⟨0, ![]⟩
abbrev S226x64x226 : Shape := ⟨3, ![226, 64, 226]⟩
abbrev S3x3x64x3x64 : Shape := ⟨5, ![3, 3, 64, 3, 64]⟩
abbrev S3x3x64x192 : Shape := ⟨4, ![3, 3, 64, 192]⟩
abbrev S3x3x3x3x64 : Shape := ⟨5, ![3, 3, 3, 3, 64]⟩
abbrev S3x3x3x192 : Shape := ⟨4, ![3, 3, 3, 192]⟩
abbrev S226x3x226 : Shape := ⟨3, ![226, 3, 226]⟩
abbrev S3x226 : Shape := ⟨2, ![3, 226]⟩
abbrev S1x3x226 : Shape := ⟨3, ![1, 3, 226]⟩
abbrev S64x226 : Shape := ⟨2, ![64, 226]⟩
abbrev S1x64x226 : Shape := ⟨3, ![1, 64, 226]⟩
abbrev S1 : Shape := ⟨1, ![1]⟩
abbrev S3x64x226 : Shape := ⟨3, ![3, 64, 226]⟩
abbrev S192x226 : Shape := ⟨2, ![192, 226]⟩
abbrev S1x1x64x192 : Shape := ⟨4, ![1, 1, 64, 192]⟩
abbrev S64x192 : Shape := ⟨2, ![64, 192]⟩
abbrev S192x224 : Shape := ⟨2, ![192, 224]⟩
abbrev S64x224 : Shape := ⟨2, ![64, 224]⟩
abbrev S64x1 : Shape := ⟨2, ![64, 1]⟩
abbrev S1x1x3x192 : Shape := ⟨4, ![1, 1, 3, 192]⟩
abbrev S3x192 : Shape := ⟨2, ![3, 192]⟩
abbrev S3x224 : Shape := ⟨2, ![3, 224]⟩
abbrev S3x1 : Shape := ⟨2, ![3, 1]⟩
abbrev S224x3x224 : Shape := ⟨3, ![224, 3, 224]⟩
abbrev S3x224x224 : Shape := ⟨3, ![3, 224, 224]⟩
abbrev S1x3x224x224 : Shape := ⟨4, ![1, 3, 224, 224]⟩

abbrev nBuf : Space → Nat
  | .hbm => 18
  | .vmem => 5
  | .smem => 2
  | _ => 0

abbrev bufTy : (tb : Table) → Fin (tcTables nBuf tb) → BufTy
  | .hbm, ⟨0, _⟩ => ⟨S1x64x224x224, .f32⟩
  | .hbm, ⟨1, _⟩ => ⟨S3x64x64x3x3, .f32⟩
  | .hbm, ⟨2, _⟩ => ⟨S3x3x64x3x3, .f32⟩
  | .hbm, ⟨3, _⟩ => ⟨S2, .i32⟩
  | .hbm, ⟨4, _⟩ => ⟨S2, .f32⟩
  | .hbm, ⟨5, _⟩ => ⟨S64x224x224, .f32⟩
  | .hbm, ⟨6, _⟩ => ⟨S224x64x224, .f32⟩
  | .hbm, ⟨7, _⟩ => ⟨S_, .i32⟩
  | .hbm, ⟨8, _⟩ => ⟨S_, .f32⟩
  | .hbm, ⟨9, _⟩ => ⟨S226x64x226, .f32⟩
  | .hbm, ⟨10, _⟩ => ⟨S3x3x64x3x64, .f32⟩
  | .hbm, ⟨11, _⟩ => ⟨S3x3x64x192, .f32⟩
  | .hbm, ⟨12, _⟩ => ⟨S3x3x3x3x64, .f32⟩
  | .hbm, ⟨13, _⟩ => ⟨S3x3x3x192, .f32⟩
  | .hbm, ⟨14, _⟩ => ⟨S226x3x226, .f32⟩
  | .hbm, ⟨15, _⟩ => ⟨S224x3x224, .f32⟩
  | .hbm, ⟨16, _⟩ => ⟨S3x224x224, .f32⟩
  | .hbm, ⟨17, _⟩ => ⟨S1x3x224x224, .f32⟩
  | .local _ .vmem, ⟨0, _⟩ => ⟨S226x64x226, .f32⟩
  | .local _ .vmem, ⟨1, _⟩ => ⟨S3x3x64x192, .f32⟩
  | .local _ .vmem, ⟨2, _⟩ => ⟨S3x3x3x192, .f32⟩
  | .local _ .vmem, ⟨3, _⟩ => ⟨S226x3x226, .f32⟩
  | .local _ .vmem, ⟨4, _⟩ => ⟨S226x64x226, .f32⟩
  | .local _ .smem, ⟨0, _⟩ => ⟨S2, .i32⟩
  | .local _ .smem, ⟨1, _⟩ => ⟨S2, .f32⟩
  | _, _ => ⟨S1x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v18 : BitVec 32 := Scalar.addi c0_i32 c224_i32
  let c1_i32 : BitVec 32 := 1#32
  ⟨c0_i32, v18, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v24 : Index := Scalar.indexCast arg7
  let c0_29 : Index := 0#32
  let c0_30 : Index := 0#32
  ![v24.toNat, 0, 0]
def k0_off2 (v16 : BitVec 32) : Fin 4 → Nat :=
  let v28 : Index := Scalar.indexCast v16
  let c0_31 : Index := 0#32
  let c0_32 : Index := 0#32
  let c0_33 : Index := 0#32
  ![v28.toNat, 0, 0, 0]

def k0_off3 (v16 : BitVec 32) : Fin 4 → Nat :=
  let v33 : Index := Scalar.indexCast v16
  let c1_35 : Index := 1#32
  let c0_36 : Index := 0#32
  let c0_37 : Index := 0#32
  ![v33.toNat, 1, 0, 0]
def k0_off4 (v16 : BitVec 32) : Fin 4 → Nat :=
  let v39 : Index := Scalar.indexCast v16
  let c2 : Index := 2#32
  let c0_39 : Index := 0#32
  let c0_40 : Index := 0#32
  ![v39.toNat, 2, 0, 0]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let c1_i32_44 : BitVec 32 := 1#32
  let v49 : BitVec 32 := Scalar.addi arg7 c1_i32_44
  let v50 : Index := Scalar.indexCast v49
  let c0_45 : Index := 0#32
  let c0_46 : Index := 0#32
  ![v50.toNat, 0, 0]
@[reducible] def k0_t2_loop : Scf.Loop 32 :=
  let c0_i32_16 : BitVec 32 := 0#32
  let c224_i32_17 : BitVec 32 := 224#32
  let v19 : BitVec 32 := Scalar.addi c0_i32_16 c224_i32_17
  let c1_i32_18 : BitVec 32 := 1#32
  ⟨c0_i32_16, v19, c1_i32_18⟩
def k0_off6 (k0_t2 : Fin k0_t2_loop.trips) : Fin 3 → Nat :=
  let c0_i32_16 : BitVec 32 := 0#32
  let c1_i32_18 : BitVec 32 := 1#32
  let arg7 : BitVec 32 := Scf.iv c0_i32_16 c1_i32_18 k0_t2
  let v24 : Index := Scalar.indexCast arg7
  let c0_29 : Index := 0#32
  let c0_30 : Index := 0#32
  ![v24.toNat, 0, 0]
def k0_off7 (v16 : BitVec 32) : Fin 4 → Nat :=
  let v27 : Index := Scalar.indexCast v16
  let c0_31 : Index := 0#32
  let c0_32 : Index := 0#32
  let c0_33 : Index := 0#32
  ![v27.toNat, 0, 0, 0]
def k0_off8 (v16 : BitVec 32) : Fin 4 → Nat :=
  let v32 : Index := Scalar.indexCast v16
  let c1_35 : Index := 1#32
  let c0_36 : Index := 0#32
  let c0_37 : Index := 0#32
  ![v32.toNat, 1, 0, 0]
def k0_off9 (v16 : BitVec 32) : Fin 4 → Nat :=
  let v38 : Index := Scalar.indexCast v16
  let c2 : Index := 2#32
  let c0_39 : Index := 0#32
  let c0_40 : Index := 0#32
  ![v38.toNat, 2, 0, 0]

def k0_chk1 (v16 : BitVec 32) : Prop :=
  (∀ a, (k0_off2 v16) a + S1x1x64x192.size a ≤ S3x3x64x192.size a) ∧
  (∀ a, (k0_off3 v16) a + S1x1x64x192.size a ≤ S3x3x64x192.size a) ∧
  (∀ a, (k0_off4 v16) a + S1x1x64x192.size a ≤ S3x3x64x192.size a) ∧
  (∀ a, (k0_off7 v16) a + S1x1x3x192.size a ≤ S3x3x3x192.size a) ∧
  (∀ a, (k0_off8 v16) a + S1x1x3x192.size a ≤ S3x3x3x192.size a) ∧
  (∀ a, (k0_off9 v16) a + S1x1x3x192.size a ≤ S3x3x3x192.size a)
theorem k0_off2_inb : ∀ (v16 : BitVec 32) (k0_hw1 : k0_chk1 v16), ∀ a, (k0_off2 v16) a + S1x1x64x192.size a ≤ S3x3x64x192.size a := fun v16 k0_hw1 => k0_hw1.1
theorem k0_off3_inb : ∀ (v16 : BitVec 32) (k0_hw1 : k0_chk1 v16), ∀ a, (k0_off3 v16) a + S1x1x64x192.size a ≤ S3x3x64x192.size a := fun v16 k0_hw1 => k0_hw1.2.1
theorem k0_off4_inb : ∀ (v16 : BitVec 32) (k0_hw1 : k0_chk1 v16), ∀ a, (k0_off4 v16) a + S1x1x64x192.size a ≤ S3x3x64x192.size a := fun v16 k0_hw1 => k0_hw1.2.2.1
theorem k0_off7_inb : ∀ (v16 : BitVec 32) (k0_hw1 : k0_chk1 v16), ∀ a, (k0_off7 v16) a + S1x1x3x192.size a ≤ S3x3x3x192.size a := fun v16 k0_hw1 => k0_hw1.2.2.2.1
theorem k0_off8_inb : ∀ (v16 : BitVec 32) (k0_hw1 : k0_chk1 v16), ∀ a, (k0_off8 v16) a + S1x1x3x192.size a ≤ S3x3x3x192.size a := fun v16 k0_hw1 => k0_hw1.2.2.2.2.1
theorem k0_off9_inb : ∀ (v16 : BitVec 32) (k0_hw1 : k0_chk1 v16), ∀ a, (k0_off9 v16) a + S1x1x3x192.size a ≤ S3x3x3x192.size a := fun v16 k0_hw1 => k0_hw1.2.2.2.2.2

def k0_off10 (k0_t2 : Fin k0_t2_loop.trips) : Fin 3 → Nat :=
  let c0_i32_16 : BitVec 32 := 0#32
  let c1_i32_18 : BitVec 32 := 1#32
  let arg7 : BitVec 32 := Scf.iv c0_i32_16 c1_i32_18 k0_t2
  let c1_i32_43 : BitVec 32 := 1#32
  let v48 : BitVec 32 := Scalar.addi arg7 c1_i32_43
  let v49 : Index := Scalar.indexCast v48
  let c0_44 : Index := 0#32
  let c0_45 : Index := 0#32
  ![v49.toNat, 0, 0]
@[reducible] def k0_t3_loop : Scf.Loop 32 :=
  let c0_i32_21 : BitVec 32 := 0#32
  let c224_i32_22 : BitVec 32 := 224#32
  let v22 : BitVec 32 := Scalar.addi c0_i32_21 c224_i32_22
  let c1_i32_23 : BitVec 32 := 1#32
  ⟨c0_i32_21, v22, c1_i32_23⟩
def k0_off11 (k0_t3 : Fin k0_t3_loop.trips) : Fin 3 → Nat :=
  let c0_i32_21 : BitVec 32 := 0#32
  let c1_i32_23 : BitVec 32 := 1#32
  let arg7 : BitVec 32 := Scf.iv c0_i32_21 c1_i32_23 k0_t3
  let v24 : Index := Scalar.indexCast arg7
  let c0_29 : Index := 0#32
  let c0_30 : Index := 0#32
  ![v24.toNat, 0, 0]
def k0_off12 (v20 : BitVec 32) : Fin 4 → Nat :=
  let v28 : Index := Scalar.indexCast v20
  let c0_31 : Index := 0#32
  let c0_32 : Index := 0#32
  let c0_33 : Index := 0#32
  ![v28.toNat, 0, 0, 0]

def k0_off13 (v20 : BitVec 32) : Fin 4 → Nat :=
  let v33 : Index := Scalar.indexCast v20
  let c1_35 : Index := 1#32
  let c0_36 : Index := 0#32
  let c0_37 : Index := 0#32
  ![v33.toNat, 1, 0, 0]
def k0_off14 (v20 : BitVec 32) : Fin 4 → Nat :=
  let v39 : Index := Scalar.indexCast v20
  let c2 : Index := 2#32
  let c0_39 : Index := 0#32
  let c0_40 : Index := 0#32
  ![v39.toNat, 2, 0, 0]
def k0_off15 (k0_t3 : Fin k0_t3_loop.trips) : Fin 3 → Nat :=
  let c0_i32_21 : BitVec 32 := 0#32
  let c1_i32_23 : BitVec 32 := 1#32
  let arg7 : BitVec 32 := Scf.iv c0_i32_21 c1_i32_23 k0_t3
  let c1_i32_44 : BitVec 32 := 1#32
  let v49 : BitVec 32 := Scalar.addi arg7 c1_i32_44
  let v50 : Index := Scalar.indexCast v49
  let c0_45 : Index := 0#32
  let c0_46 : Index := 0#32
  ![v50.toNat, 0, 0]
@[reducible] def k0_t4_loop : Scf.Loop 32 :=
  let c0_i32_25 : BitVec 32 := 0#32
  let c224_i32_26 : BitVec 32 := 224#32
  let v23 : BitVec 32 := Scalar.addi c0_i32_25 c224_i32_26
  let c1_i32_27 : BitVec 32 := 1#32
  ⟨c0_i32_25, v23, c1_i32_27⟩
def k0_off16 (k0_t4 : Fin k0_t4_loop.trips) : Fin 3 → Nat :=
  let c0_i32_25 : BitVec 32 := 0#32
  let c1_i32_27 : BitVec 32 := 1#32
  let arg7 : BitVec 32 := Scf.iv c0_i32_25 c1_i32_27 k0_t4
  let v24 : Index := Scalar.indexCast arg7
  let c0_29 : Index := 0#32
  let c0_30 : Index := 0#32
  ![v24.toNat, 0, 0]
def k0_off17 (v20 : BitVec 32) : Fin 4 → Nat :=
  let v27 : Index := Scalar.indexCast v20
  let c0_31 : Index := 0#32
  let c0_32 : Index := 0#32
  let c0_33 : Index := 0#32
  ![v27.toNat, 0, 0, 0]
def k0_off18 (v20 : BitVec 32) : Fin 4 → Nat :=
  let v32 : Index := Scalar.indexCast v20
  let c1_35 : Index := 1#32
  let c0_36 : Index := 0#32
  let c0_37 : Index := 0#32
  ![v32.toNat, 1, 0, 0]
def k0_off19 (v20 : BitVec 32) : Fin 4 → Nat :=
  let v38 : Index := Scalar.indexCast v20
  let c2 : Index := 2#32
  let c0_39 : Index := 0#32
  let c0_40 : Index := 0#32
  ![v38.toNat, 2, 0, 0]

def k0_chk2 (v20 : BitVec 32) : Prop :=
  (∀ a, (k0_off12 v20) a + S1x1x64x192.size a ≤ S3x3x64x192.size a) ∧
  (∀ a, (k0_off13 v20) a + S1x1x64x192.size a ≤ S3x3x64x192.size a) ∧
  (∀ a, (k0_off14 v20) a + S1x1x64x192.size a ≤ S3x3x64x192.size a) ∧
  (∀ a, (k0_off17 v20) a + S1x1x3x192.size a ≤ S3x3x3x192.size a) ∧
  (∀ a, (k0_off18 v20) a + S1x1x3x192.size a ≤ S3x3x3x192.size a) ∧
  (∀ a, (k0_off19 v20) a + S1x1x3x192.size a ≤ S3x3x3x192.size a)
theorem k0_off12_inb : ∀ (v20 : BitVec 32) (k0_hw2 : k0_chk2 v20), ∀ a, (k0_off12 v20) a + S1x1x64x192.size a ≤ S3x3x64x192.size a := fun v20 k0_hw2 => k0_hw2.1
theorem k0_off13_inb : ∀ (v20 : BitVec 32) (k0_hw2 : k0_chk2 v20), ∀ a, (k0_off13 v20) a + S1x1x64x192.size a ≤ S3x3x64x192.size a := fun v20 k0_hw2 => k0_hw2.2.1
theorem k0_off14_inb : ∀ (v20 : BitVec 32) (k0_hw2 : k0_chk2 v20), ∀ a, (k0_off14 v20) a + S1x1x64x192.size a ≤ S3x3x64x192.size a := fun v20 k0_hw2 => k0_hw2.2.2.1
theorem k0_off17_inb : ∀ (v20 : BitVec 32) (k0_hw2 : k0_chk2 v20), ∀ a, (k0_off17 v20) a + S1x1x3x192.size a ≤ S3x3x3x192.size a := fun v20 k0_hw2 => k0_hw2.2.2.2.1
theorem k0_off18_inb : ∀ (v20 : BitVec 32) (k0_hw2 : k0_chk2 v20), ∀ a, (k0_off18 v20) a + S1x1x3x192.size a ≤ S3x3x3x192.size a := fun v20 k0_hw2 => k0_hw2.2.2.2.2.1
theorem k0_off19_inb : ∀ (v20 : BitVec 32) (k0_hw2 : k0_chk2 v20), ∀ a, (k0_off19 v20) a + S1x1x3x192.size a ≤ S3x3x3x192.size a := fun v20 k0_hw2 => k0_hw2.2.2.2.2.2

def k0_off20 (k0_t4 : Fin k0_t4_loop.trips) : Fin 3 → Nat :=
  let c0_i32_25 : BitVec 32 := 0#32
  let c1_i32_27 : BitVec 32 := 1#32
  let arg7 : BitVec 32 := Scf.iv c0_i32_25 c1_i32_27 k0_t4
  let c1_i32_42 : BitVec 32 := 1#32
  let v46 : BitVec 32 := Scalar.addi arg7 c1_i32_42
  let v47 : Index := Scalar.indexCast v46
  let c0_43 : Index := 0#32
  let c0_44 : Index := 0#32
  ![v47.toNat, 0, 0]
abbrev stage0_0 : Fin 1 → Memref sig .tc .vmem S226x64x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x3x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S226x3x226 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MoeVRefIdeal.lean ====
abbrev S1x64x224x224 : Shape := ⟨4, ![1, 64, 224, 224]⟩
abbrev S3x64x64x3x3 : Shape := ⟨5, ![3, 64, 64, 3, 3]⟩
abbrev S3x3x64x3x3 : Shape := ⟨5, ![3, 3, 64, 3, 3]⟩
abbrev S2 : Shape := ⟨1, ![2]⟩
abbrev S1x64x64x3x3 : Shape := ⟨5, ![1, 64, 64, 3, 3]⟩
abbrev S64x64x3x3 : Shape := ⟨4, ![64, 64, 3, 3]⟩
abbrev S64x224x224 : Shape := ⟨3, ![64, 224, 224]⟩
abbrev S_ : Shape := ⟨0, ![]⟩
abbrev S64x226x226 : Shape := ⟨3, ![64, 226, 226]⟩
abbrev S64x64x1x1 : Shape := ⟨4, ![64, 64, 1, 1]⟩
abbrev S64x64 : Shape := ⟨2, ![64, 64]⟩
abbrev S1x3x64x3x3 : Shape := ⟨5, ![1, 3, 64, 3, 3]⟩
abbrev S3x64x3x3 : Shape := ⟨4, ![3, 64, 3, 3]⟩
abbrev S3x64x1x1 : Shape := ⟨4, ![3, 64, 1, 1]⟩
abbrev S3x64 : Shape := ⟨2, ![3, 64]⟩
abbrev S3x224x224 : Shape := ⟨3, ![3, 224, 224]⟩
abbrev S1x3x224x224 : Shape := ⟨4, ![1, 3, 224, 224]⟩
abbrev S2x1 : Shape := ⟨2, ![2, 1]⟩
abbrev S1x3 : Shape := ⟨2, ![1, 3]⟩
abbrev S2x3 : Shape := ⟨2, ![2, 3]⟩
abbrev S3 : Shape := ⟨1, ![3]⟩
abbrev S1x1x3x224x224 : Shape := ⟨5, ![1, 1, 3, 224, 224]⟩
abbrev S3x1x3x224x224 : Shape := ⟨5, ![3, 1, 3, 224, 224]⟩

abbrev nBuf : Space → Nat
  | .hbm => 336
  | .vmem => 0
  | .smem => 0
  | _ => 0

abbrev hbmTy0_0 (i : Nat) : BufTy := match i % 128 with
  | 0 => ⟨S1x64x224x224, .f32⟩
  | 1 => ⟨S3x64x64x3x3, .f32⟩
  | 2 => ⟨S3x3x64x3x3, .f32⟩
  | 3 => ⟨S2, .i32⟩
  | 4 => ⟨S2, .f32⟩
  | 5 => ⟨S1x64x64x3x3, .f32⟩
  | 6 => ⟨S64x64x3x3, .f32⟩
  | 7 => ⟨S64x224x224, .f32⟩
  | 8 => ⟨S_, .i32⟩
  | 9 => ⟨S_, .f32⟩
  | 10 => ⟨S64x226x226, .f32⟩
  | 11 => ⟨S64x64x1x1, .f32⟩
  | 12 => ⟨S64x64, .f32⟩
  | 13 => ⟨S64x224x224, .f32⟩
  | 14 => ⟨S64x224x224, .f32⟩
  | 15 => ⟨S64x64x1x1, .f32⟩
  | 16 => ⟨S64x64, .f32⟩
  | 17 => ⟨S64x224x224, .f32⟩
  | 18 => ⟨S64x224x224, .f32⟩
  | 19 => ⟨S64x64x1x1, .f32⟩
  | 20 => ⟨S64x64, .f32⟩
  | 21 => ⟨S64x224x224, .f32⟩
  | 22 => ⟨S64x224x224, .f32⟩
  | 23 => ⟨S64x64x1x1, .f32⟩
  | 24 => ⟨S64x64, .f32⟩
  | 25 => ⟨S64x224x224, .f32⟩
  | 26 => ⟨S64x224x224, .f32⟩
  | 27 => ⟨S64x64x1x1, .f32⟩
  | 28 => ⟨S64x64, .f32⟩
  | 29 => ⟨S64x224x224, .f32⟩
  | 30 => ⟨S64x224x224, .f32⟩
  | 31 => ⟨S64x64x1x1, .f32⟩
  | 32 => ⟨S64x64, .f32⟩
  | 33 => ⟨S64x224x224, .f32⟩
  | 34 => ⟨S64x224x224, .f32⟩
  | 35 => ⟨S64x64x1x1, .f32⟩
  | 36 => ⟨S64x64, .f32⟩
  | 37 => ⟨S64x224x224, .f32⟩
  | 38 => ⟨S64x224x224, .f32⟩
  | 39 => ⟨S64x64x1x1, .f32⟩
  | 40 => ⟨S64x64, .f32⟩
  | 41 => ⟨S64x224x224, .f32⟩
  | 42 => ⟨S64x224x224, .f32⟩
  | 43 => ⟨S64x64x1x1, .f32⟩
  | 44 => ⟨S64x64, .f32⟩
  | 45 => ⟨S64x224x224, .f32⟩
  | 46 => ⟨S64x224x224, .f32⟩
  | 47 => ⟨S64x224x224, .f32⟩
  | 48 => ⟨S64x224x224, .f32⟩
  | 49 => ⟨S64x224x224, .f32⟩
  | 50 => ⟨S64x224x224, .f32⟩
  | 51 => ⟨S64x224x224, .f32⟩
  | 52 => ⟨S64x224x224, .f32⟩
  | 53 => ⟨S64x224x224, .f32⟩
  | 54 => ⟨S64x224x224, .f32⟩
  | 55 => ⟨S1x64x224x224, .f32⟩
  | 56 => ⟨S_, .f32⟩
  | 57 => ⟨S1x64x224x224, .f32⟩
  | 58 => ⟨S1x64x224x224, .f32⟩
  | 59 => ⟨S1x3x64x3x3, .f32⟩
  | 60 => ⟨S3x64x3x3, .f32⟩
  | 61 => ⟨S64x224x224, .f32⟩
  | 62 => ⟨S_, .i32⟩
  | 63 => ⟨S_, .f32⟩
  | 64 => ⟨S64x226x226, .f32⟩
  | 65 => ⟨S3x64x1x1, .f32⟩
  | 66 => ⟨S3x64, .f32⟩
  | 67 => ⟨S64x224x224, .f32⟩
  | 68 => ⟨S3x224x224, .f32⟩
  | 69 => ⟨S3x64x1x1, .f32⟩
  | 70 => ⟨S3x64, .f32⟩
  | 71 => ⟨S64x224x224, .f32⟩
  | 72 => ⟨S3x224x224, .f32⟩
  | 73 => ⟨S3x64x1x1, .f32⟩
  | 74 => ⟨S3x64, .f32⟩
  | 75 => ⟨S64x224x224, .f32⟩
  | 76 => ⟨S3x224x224, .f32⟩
  | 77 => ⟨S3x64x1x1, .f32⟩
  | 78 => ⟨S3x64, .f32⟩
  | 79 => ⟨S64x224x224, .f32⟩
  | 80 => ⟨S3x224x224, .f32⟩
  | 81 => ⟨S3x64x1x1, .f32⟩
  | 82 => ⟨S3x64, .f32⟩
  | 83 => ⟨S64x224x224, .f32⟩
  | 84 => ⟨S3x224x224, .f32⟩
  | 85 => ⟨S3x64x1x1, .f32⟩
  | 86 => ⟨S3x64, .f32⟩
  | 87 => ⟨S64x224x224, .f32⟩
  | 88 => ⟨S3x224x224, .f32⟩
  | 89 => ⟨S3x64x1x1, .f32⟩
  | 90 => ⟨S3x64, .f32⟩
  | 91 => ⟨S64x224x224, .f32⟩
  | 92 => ⟨S3x224x224, .f32⟩
  | 93 => ⟨S3x64x1x1, .f32⟩
  | 94 => ⟨S3x64, .f32⟩
  | 95 => ⟨S64x224x224, .f32⟩
  | 96 => ⟨S3x224x224, .f32⟩
  | 97 => ⟨S3x64x1x1, .f32⟩
  | 98 => ⟨S3x64, .f32⟩
  | 99 => ⟨S64x224x224, .f32⟩
  | 100 => ⟨S3x224x224, .f32⟩
  | 101 => ⟨S3x224x224, .f32⟩
  | 102 => ⟨S3x224x224, .f32⟩
  | 103 => ⟨S3x224x224, .f32⟩
  | 104 => ⟨S3x224x224, .f32⟩
  | 105 => ⟨S3x224x224, .f32⟩
  | 106 => ⟨S3x224x224, .f32⟩
  | 107 => ⟨S3x224x224, .f32⟩
  | 108 => ⟨S3x224x224, .f32⟩
  | 109 => ⟨S1x3x224x224, .f32⟩
  | 110 => ⟨S1x64x64x3x3, .f32⟩
  | 111 => ⟨S64x64x3x3, .f32⟩
  | 112 => ⟨S64x224x224, .f32⟩
  | 113 => ⟨S_, .i32⟩
  | 114 => ⟨S_, .f32⟩
  | 115 => ⟨S64x226x226, .f32⟩
  | 116 => ⟨S64x64x1x1, .f32⟩
  | 117 => ⟨S64x64, .f32⟩
  | 118 => ⟨S64x224x224, .f32⟩
  | 119 => ⟨S64x224x224, .f32⟩
  | 120 => ⟨S64x64x1x1, .f32⟩
  | 121 => ⟨S64x64, .f32⟩
  | 122 => ⟨S64x224x224, .f32⟩
  | 123 => ⟨S64x224x224, .f32⟩
  | 124 => ⟨S64x64x1x1, .f32⟩
  | 125 => ⟨S64x64, .f32⟩
  | 126 => ⟨S64x224x224, .f32⟩
  | 127 => ⟨S64x224x224, .f32⟩
  | _ => ⟨S1x64x224x224, .f32⟩

abbrev hbmTy0_1 (i : Nat) : BufTy := match i % 128 with
  | 0 => ⟨S64x64x1x1, .f32⟩
  | 1 => ⟨S64x64, .f32⟩
  | 2 => ⟨S64x224x224, .f32⟩
  | 3 => ⟨S64x224x224, .f32⟩
  | 4 => ⟨S64x64x1x1, .f32⟩
  | 5 => ⟨S64x64, .f32⟩
  | 6 => ⟨S64x224x224, .f32⟩
  | 7 => ⟨S64x224x224, .f32⟩
  | 8 => ⟨S64x64x1x1, .f32⟩
  | 9 => ⟨S64x64, .f32⟩
  | 10 => ⟨S64x224x224, .f32⟩
  | 11 => ⟨S64x224x224, .f32⟩
  | 12 => ⟨S64x64x1x1, .f32⟩
  | 13 => ⟨S64x64, .f32⟩
  | 14 => ⟨S64x224x224, .f32⟩
  | 15 => ⟨S64x224x224, .f32⟩
  | 16 => ⟨S64x64x1x1, .f32⟩
  | 17 => ⟨S64x64, .f32⟩
  | 18 => ⟨S64x224x224, .f32⟩
  | 19 => ⟨S64x224x224, .f32⟩
  | 20 => ⟨S64x64x1x1, .f32⟩
  | 21 => ⟨S64x64, .f32⟩
  | 22 => ⟨S64x224x224, .f32⟩
  | 23 => ⟨S64x224x224, .f32⟩
  | 24 => ⟨S64x224x224, .f32⟩
  | 25 => ⟨S64x224x224, .f32⟩
  | 26 => ⟨S64x224x224, .f32⟩
  | 27 => ⟨S64x224x224, .f32⟩
  | 28 => ⟨S64x224x224, .f32⟩
  | 29 => ⟨S64x224x224, .f32⟩
  | 30 => ⟨S64x224x224, .f32⟩
  | 31 => ⟨S64x224x224, .f32⟩
  | 32 => ⟨S1x64x224x224, .f32⟩
  | 33 => ⟨S_, .f32⟩
  | 34 => ⟨S1x64x224x224, .f32⟩
  | 35 => ⟨S1x64x224x224, .f32⟩
  | 36 => ⟨S1x3x64x3x3, .f32⟩
  | 37 => ⟨S3x64x3x3, .f32⟩
  | 38 => ⟨S64x224x224, .f32⟩
  | 39 => ⟨S_, .i32⟩
  | 40 => ⟨S_, .f32⟩
  | 41 => ⟨S64x226x226, .f32⟩
  | 42 => ⟨S3x64x1x1, .f32⟩
  | 43 => ⟨S3x64, .f32⟩
  | 44 => ⟨S64x224x224, .f32⟩
  | 45 => ⟨S3x224x224, .f32⟩
  | 46 => ⟨S3x64x1x1, .f32⟩
  | 47 => ⟨S3x64, .f32⟩
  | 48 => ⟨S64x224x224, .f32⟩
  | 49 => ⟨S3x224x224, .f32⟩
  | 50 => ⟨S3x64x1x1, .f32⟩
  | 51 => ⟨S3x64, .f32⟩
  | 52 => ⟨S64x224x224, .f32⟩
  | 53 => ⟨S3x224x224, .f32⟩
  | 54 => ⟨S3x64x1x1, .f32⟩
  | 55 => ⟨S3x64, .f32⟩
  | 56 => ⟨S64x224x224, .f32⟩
  | 57 => ⟨S3x224x224, .f32⟩
  | 58 => ⟨S3x64x1x1, .f32⟩
  | 59 => ⟨S3x64, .f32⟩
  | 60 => ⟨S64x224x224, .f32⟩
  | 61 => ⟨S3x224x224, .f32⟩
  | 62 => ⟨S3x64x1x1, .f32⟩
  | 63 => ⟨S3x64, .f32⟩
  | 64 => ⟨S64x224x224, .f32⟩
  | 65 => ⟨S3x224x224, .f32⟩
  | 66 => ⟨S3x64x1x1, .f32⟩
  | 67 => ⟨S3x64, .f32⟩
  | 68 => ⟨S64x224x224, .f32⟩
  | 69 => ⟨S3x224x224, .f32⟩
  | 70 => ⟨S3x64x1x1, .f32⟩
  | 71 => ⟨S3x64, .f32⟩
  | 72 => ⟨S64x224x224, .f32⟩
  | 73 => ⟨S3x224x224, .f32⟩
  | 74 => ⟨S3x64x1x1, .f32⟩
  | 75 => ⟨S3x64, .f32⟩
  | 76 => ⟨S64x224x224, .f32⟩
  | 77 => ⟨S3x224x224, .f32⟩
  | 78 => ⟨S3x224x224, .f32⟩
  | 79 => ⟨S3x224x224, .f32⟩
  | 80 => ⟨S3x224x224, .f32⟩
  | 81 => ⟨S3x224x224, .f32⟩
  | 82 => ⟨S3x224x224, .f32⟩
  | 83 => ⟨S3x224x224, .f32⟩
  | 84 => ⟨S3x224x224, .f32⟩
  | 85 => ⟨S3x224x224, .f32⟩
  | 86 => ⟨S1x3x224x224, .f32⟩
  | 87 => ⟨S1x64x64x3x3, .f32⟩
  | 88 => ⟨S64x64x3x3, .f32⟩
  | 89 => ⟨S64x224x224, .f32⟩
  | 90 => ⟨S_, .i32⟩
  | 91 => ⟨S_, .f32⟩
  | 92 => ⟨S64x226x226, .f32⟩
  | 93 => ⟨S64x64x1x1, .f32⟩
  | 94 => ⟨S64x64, .f32⟩
  | 95 => ⟨S64x224x224, .f32⟩
  | 96 => ⟨S64x224x224, .f32⟩
  | 97 => ⟨S64x64x1x1, .f32⟩
  | 98 => ⟨S64x64, .f32⟩
  | 99 => ⟨S64x224x224, .f32⟩
  | 100 => ⟨S64x224x224, .f32⟩
  | 101 => ⟨S64x64x1x1, .f32⟩
  | 102 => ⟨S64x64, .f32⟩
  | 103 => ⟨S64x224x224, .f32⟩
  | 104 => ⟨S64x224x224, .f32⟩
  | 105 => ⟨S64x64x1x1, .f32⟩
  | 106 => ⟨S64x64, .f32⟩
  | 107 => ⟨S64x224x224, .f32⟩
  | 108 => ⟨S64x224x224, .f32⟩
  | 109 => ⟨S64x64x1x1, .f32⟩
  | 110 => ⟨S64x64, .f32⟩
  | 111 => ⟨S64x224x224, .f32⟩
  | 112 => ⟨S64x224x224, .f32⟩
  | 113 => ⟨S64x64x1x1, .f32⟩
  | 114 => ⟨S64x64, .f32⟩
  | 115 => ⟨S64x224x224, .f32⟩
  | 116 => ⟨S64x224x224, .f32⟩
  | 117 => ⟨S64x64x1x1, .f32⟩
  | 118 => ⟨S64x64, .f32⟩
  | 119 => ⟨S64x224x224, .f32⟩
  | 120 => ⟨S64x224x224, .f32⟩
  | 121 => ⟨S64x64x1x1, .f32⟩
  | 122 => ⟨S64x64, .f32⟩
  | 123 => ⟨S64x224x224, .f32⟩
  | 124 => ⟨S64x224x224, .f32⟩
  | 125 => ⟨S64x64x1x1, .f32⟩
  | 126 => ⟨S64x64, .f32⟩
  | 127 => ⟨S64x224x224, .f32⟩
  | _ => ⟨S1x64x224x224, .f32⟩

abbrev hbmTy0_2 (i : Nat) : BufTy := match i % 128 with
  | 0 => ⟨S64x224x224, .f32⟩
  | 1 => ⟨S64x224x224, .f32⟩
  | 2 => ⟨S64x224x224, .f32⟩
  | 3 => ⟨S64x224x224, .f32⟩
  | 4 => ⟨S64x224x224, .f32⟩
  | 5 => ⟨S64x224x224, .f32⟩
  | 6 => ⟨S64x224x224, .f32⟩
  | 7 => ⟨S64x224x224, .f32⟩
  | 8 => ⟨S64x224x224, .f32⟩
  | 9 => ⟨S1x64x224x224, .f32⟩
  | 10 => ⟨S_, .f32⟩
  | 11 => ⟨S1x64x224x224, .f32⟩
  | 12 => ⟨S1x64x224x224, .f32⟩
  | 13 => ⟨S1x3x64x3x3, .f32⟩
  | 14 => ⟨S3x64x3x3, .f32⟩
  | 15 => ⟨S64x224x224, .f32⟩
  | 16 => ⟨S_, .i32⟩
  | 17 => ⟨S_, .f32⟩
  | 18 => ⟨S64x226x226, .f32⟩
  | 19 => ⟨S3x64x1x1, .f32⟩
  | 20 => ⟨S3x64, .f32⟩
  | 21 => ⟨S64x224x224, .f32⟩
  | 22 => ⟨S3x224x224, .f32⟩
  | 23 => ⟨S3x64x1x1, .f32⟩
  | 24 => ⟨S3x64, .f32⟩
  | 25 => ⟨S64x224x224, .f32⟩
  | 26 => ⟨S3x224x224, .f32⟩
  | 27 => ⟨S3x64x1x1, .f32⟩
  | 28 => ⟨S3x64, .f32⟩
  | 29 => ⟨S64x224x224, .f32⟩
  | 30 => ⟨S3x224x224, .f32⟩
  | 31 => ⟨S3x64x1x1, .f32⟩
  | 32 => ⟨S3x64, .f32⟩
  | 33 => ⟨S64x224x224, .f32⟩
  | 34 => ⟨S3x224x224, .f32⟩
  | 35 => ⟨S3x64x1x1, .f32⟩
  | 36 => ⟨S3x64, .f32⟩
  | 37 => ⟨S64x224x224, .f32⟩
  | 38 => ⟨S3x224x224, .f32⟩
  | 39 => ⟨S3x64x1x1, .f32⟩
  | 40 => ⟨S3x64, .f32⟩
  | 41 => ⟨S64x224x224, .f32⟩
  | 42 => ⟨S3x224x224, .f32⟩
  | 43 => ⟨S3x64x1x1, .f32⟩
  | 44 => ⟨S3x64, .f32⟩
  | 45 => ⟨S64x224x224, .f32⟩
  | 46 => ⟨S3x224x224, .f32⟩
  | 47 => ⟨S3x64x1x1, .f32⟩
  | 48 => ⟨S3x64, .f32⟩
  | 49 => ⟨S64x224x224, .f32⟩
  | 50 => ⟨S3x224x224, .f32⟩
  | 51 => ⟨S3x64x1x1, .f32⟩
  | 52 => ⟨S3x64, .f32⟩
  | 53 => ⟨S64x224x224, .f32⟩
  | 54 => ⟨S3x224x224, .f32⟩
  | 55 => ⟨S3x224x224, .f32⟩
  | 56 => ⟨S3x224x224, .f32⟩
  | 57 => ⟨S3x224x224, .f32⟩
  | 58 => ⟨S3x224x224, .f32⟩
  | 59 => ⟨S3x224x224, .f32⟩
  | 60 => ⟨S3x224x224, .f32⟩
  | 61 => ⟨S3x224x224, .f32⟩
  | 62 => ⟨S3x224x224, .f32⟩
  | 63 => ⟨S1x3x224x224, .f32⟩
  | 64 => ⟨S2x1, .i32⟩
  | 65 => ⟨S1x3, .i32⟩
  | 66 => ⟨S2x3, .i32⟩
  | 67 => ⟨S2x3, .i32⟩
  | 68 => ⟨S2x3, .i1⟩
  | 69 => ⟨S2x3, .f32⟩
  | 70 => ⟨S2x1, .f32⟩
  | 71 => ⟨S2x3, .f32⟩
  | 72 => ⟨S2x3, .f32⟩
  | 73 => ⟨S_, .f32⟩
  | 74 => ⟨S3, .f32⟩
  | 75 => ⟨S1x1x3x224x224, .f32⟩
  | 76 => ⟨S1x1x3x224x224, .f32⟩
  | 77 => ⟨S1x1x3x224x224, .f32⟩
  | 78 => ⟨S3x1x3x224x224, .f32⟩
  | 79 => ⟨S1x3x224x224, .f32⟩
  | _ => ⟨S1x64x224x224, .f32⟩

abbrev hbmTy (i : Nat) : BufTy := match i / 128 with
  | 0 => hbmTy0_0 i
  | 1 => hbmTy0_1 i
  | 2 => hbmTy0_2 i
  | _ => ⟨S1x64x224x224, .f32⟩

abbrev bufTy : (tb : Table) → Fin (tcTables nBuf tb) → BufTy
  | .hbm, ⟨i, _⟩ => hbmTy i
  | _, _ => ⟨S1x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_call1_cst : Ref sig .tc := ⟨.hbm, 56, rfl⟩
abbrev main_call1_v0 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_0 : Ref sig .tc := ⟨.hbm, 62, rfl⟩
abbrev main_call2_v0 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_c_1 : Ref sig .tc := ⟨.hbm, 113, rfl⟩
abbrev main_call3_v0 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_call4_cst : Ref sig .tc := ⟨.hbm, 161, rfl⟩
abbrev main_call4_v0 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_c_2 : Ref sig .tc := ⟨.hbm, 167, rfl⟩
abbrev main_call5_v0 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_c_3 : Ref sig .tc := ⟨.hbm, 218, rfl⟩
abbrev main_call6_v0 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_call7_cst : Ref sig .tc := ⟨.hbm, 266, rfl⟩
abbrev main_call7_v0 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_c_4 : Ref sig .tc := ⟨.hbm, 272, rfl⟩
abbrev main_call8_v0 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_call9_v0 : Ref sig .tc := ⟨.hbm, 320, rfl⟩
abbrev main_call9_v1 : Ref sig .tc := ⟨.hbm, 321, rfl⟩
abbrev main_call9_v2 : Ref sig .tc := ⟨.hbm, 322, rfl⟩
abbrev main_call9_v3 : Ref sig .tc := ⟨.hbm, 323, rfl⟩
abbrev main_call9_v4 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_cst : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩

abbrev nD : Nat := 1
abbrev τ : Topo := Topo.v7x

variable {F : FTy → Type} [FloatOps F]
-- ==== MoeI.lean ====
abbrev S1x64x224x224 : Shape := ⟨4, ![1, 64, 224, 224]⟩
abbrev S3x64x64x3x3 : Shape := ⟨5, ![3, 64, 64, 3, 3]⟩
abbrev S3x1x64x3x3 : Shape := ⟨5, ![3, 1, 64, 3, 3]⟩
abbrev S2 : Shape := ⟨1, ![2]⟩
abbrev S64x224x224 : Shape := ⟨3, ![64, 224, 224]⟩
abbrev S224x64x224 : Shape := ⟨3, ![224, 64, 224]⟩
abbrev S_ : Shape := ⟨0, ![]⟩
abbrev S226x64x226 : Shape := ⟨3, ![226, 64, 226]⟩
abbrev S3x3x64x3x64 : Shape := ⟨5, ![3, 3, 64, 3, 64]⟩
abbrev S3x3x64x192 : Shape := ⟨4, ![3, 3, 64, 192]⟩
abbrev S3x3x1x3x64 : Shape := ⟨5, ![3, 3, 1, 3, 64]⟩
abbrev S3x3x1x192 : Shape := ⟨4, ![3, 3, 1, 192]⟩
abbrev S226x1x226 : Shape := ⟨3, ![226, 1, 226]⟩
abbrev S1x226 : Shape := ⟨2, ![1, 226]⟩
abbrev S1x1x226 : Shape := ⟨3, ![1, 1, 226]⟩
abbrev S64x226 : Shape := ⟨2, ![64, 226]⟩
abbrev S1x64x226 : Shape := ⟨3, ![1, 64, 226]⟩
abbrev S1 : Shape := ⟨1, ![1]⟩
abbrev S3x64x226 : Shape := ⟨3, ![3, 64, 226]⟩
abbrev S192x226 : Shape := ⟨2, ![192, 226]⟩
abbrev S1x1x64x192 : Shape := ⟨4, ![1, 1, 64, 192]⟩
abbrev S64x192 : Shape := ⟨2, ![64, 192]⟩
abbrev S192x224 : Shape := ⟨2, ![192, 224]⟩
abbrev S64x224 : Shape := ⟨2, ![64, 224]⟩
abbrev S64x1 : Shape := ⟨2, ![64, 1]⟩
abbrev S1x1x1x192 : Shape := ⟨4, ![1, 1, 1, 192]⟩
abbrev S1x192 : Shape := ⟨2, ![1, 192]⟩
abbrev S1x224 : Shape := ⟨2, ![1, 224]⟩
abbrev S1x1 : Shape := ⟨2, ![1, 1]⟩
abbrev S224x1x224 : Shape := ⟨3, ![224, 1, 224]⟩
abbrev S1x224x224 : Shape := ⟨3, ![1, 224, 224]⟩
abbrev S1x1x224x224 : Shape := ⟨4, ![1, 1, 224, 224]⟩

abbrev nBuf : Space → Nat
  | .hbm => 18
  | .vmem => 5
  | .smem => 2
  | _ => 0

abbrev bufTy : (tb : Table) → Fin (tcTables nBuf tb) → BufTy
  | .hbm, ⟨0, _⟩ => ⟨S1x64x224x224, .f32⟩
  | .hbm, ⟨1, _⟩ => ⟨S3x64x64x3x3, .f32⟩
  | .hbm, ⟨2, _⟩ => ⟨S3x1x64x3x3, .f32⟩
  | .hbm, ⟨3, _⟩ => ⟨S2, .i32⟩
  | .hbm, ⟨4, _⟩ => ⟨S2, .f32⟩
  | .hbm, ⟨5, _⟩ => ⟨S64x224x224, .f32⟩
  | .hbm, ⟨6, _⟩ => ⟨S224x64x224, .f32⟩
  | .hbm, ⟨7, _⟩ => ⟨S_, .i32⟩
  | .hbm, ⟨8, _⟩ => ⟨S_, .f32⟩
  | .hbm, ⟨9, _⟩ => ⟨S226x64x226, .f32⟩
  | .hbm, ⟨10, _⟩ => ⟨S3x3x64x3x64, .f32⟩
  | .hbm, ⟨11, _⟩ => ⟨S3x3x64x192, .f32⟩
  | .hbm, ⟨12, _⟩ => ⟨S3x3x1x3x64, .f32⟩
  | .hbm, ⟨13, _⟩ => ⟨S3x3x1x192, .f32⟩
  | .hbm, ⟨14, _⟩ => ⟨S226x1x226, .f32⟩
  | .hbm, ⟨15, _⟩ => ⟨S224x1x224, .f32⟩
  | .hbm, ⟨16, _⟩ => ⟨S1x224x224, .f32⟩
  | .hbm, ⟨17, _⟩ => ⟨S1x1x224x224, .f32⟩
  | .local _ .vmem, ⟨0, _⟩ => ⟨S226x64x226, .f32⟩
  | .local _ .vmem, ⟨1, _⟩ => ⟨S3x3x64x192, .f32⟩
  | .local _ .vmem, ⟨2, _⟩ => ⟨S3x3x1x192, .f32⟩
  | .local _ .vmem, ⟨3, _⟩ => ⟨S226x1x226, .f32⟩
  | .local _ .vmem, ⟨4, _⟩ => ⟨S226x64x226, .f32⟩
  | .local _ .smem, ⟨0, _⟩ => ⟨S2, .i32⟩
  | .local _ .smem, ⟨1, _⟩ => ⟨S2, .f32⟩
  | _, _ => ⟨S1x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c224_i32 : BitVec 32 := 224#32
  let v18 : BitVec 32 := Scalar.addi c0_i32 c224_i32
  let c1_i32 : BitVec 32 := 1#32
  ⟨c0_i32, v18, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v24 : Index := Scalar.indexCast arg7
  let c0_29 : Index := 0#32
  let c0_30 : Index := 0#32
  ![v24.toNat, 0, 0]
def k0_off2 (v16 : BitVec 32) : Fin 4 → Nat :=
  let v28 : Index := Scalar.indexCast v16
  let c0_31 : Index := 0#32
  let c0_32 : Index := 0#32
  let c0_33 : Index := 0#32
  ![v28.toNat, 0, 0, 0]

def k0_off3 (v16 : BitVec 32) : Fin 4 → Nat :=
  let v33 : Index := Scalar.indexCast v16
  let c1_35 : Index := 1#32
  let c0_36 : Index := 0#32
  let c0_37 : Index := 0#32
  ![v33.toNat, 1, 0, 0]
def k0_off4 (v16 : BitVec 32) : Fin 4 → Nat :=
  let v39 : Index := Scalar.indexCast v16
  let c2 : Index := 2#32
  let c0_39 : Index := 0#32
  let c0_40 : Index := 0#32
  ![v39.toNat, 2, 0, 0]
def k0_off5 (k0_t1 : Fin k0_t1_loop.trips) : Fin 3 → Nat :=
  let c0_i32 : BitVec 32 := 0#32
  let c1_i32 : BitVec 32 := 1#32
  let arg7 : BitVec 32 := Scf.iv c0_i32 c1_i32 k0_t1
  let c1_i32_44 : BitVec 32 := 1#32
  let v49 : BitVec 32 := Scalar.addi arg7 c1_i32_44
  let v50 : Index := Scalar.indexCast v49
  let c0_45 : Index := 0#32
  let c0_46 : Index := 0#32
  ![v50.toNat, 0, 0]
@[reducible] def k0_t2_loop : Scf.Loop 32 :=
  let c0_i32_16 : BitVec 32 := 0#32
  let c224_i32_17 : BitVec 32 := 224#32
  let v19 : BitVec 32 := Scalar.addi c0_i32_16 c224_i32_17
  let c1_i32_18 : BitVec 32 := 1#32
  ⟨c0_i32_16, v19, c1_i32_18⟩
def k0_off6 (k0_t2 : Fin k0_t2_loop.trips) : Fin 3 → Nat :=
  let c0_i32_16 : BitVec 32 := 0#32
  let c1_i32_18 : BitVec 32 := 1#32
  let arg7 : BitVec 32 := Scf.iv c0_i32_16 c1_i32_18 k0_t2
  let v24 : Index := Scalar.indexCast arg7
  let c0_29 : Index := 0#32
  let c0_30 : Index := 0#32
  ![v24.toNat, 0, 0]
def k0_off7 (v16 : BitVec 32) : Fin 4 → Nat :=
  let v27 : Index := Scalar.indexCast v16
  let c0_31 : Index := 0#32
  let c0_32 : Index := 0#32
  let c0_33 : Index := 0#32
  ![v27.toNat, 0, 0, 0]
def k0_off8 (v16 : BitVec 32) : Fin 4 → Nat :=
  let v32 : Index := Scalar.indexCast v16
  let c1_35 : Index := 1#32
  let c0_36 : Index := 0#32
  let c0_37 : Index := 0#32
  ![v32.toNat, 1, 0, 0]
def k0_off9 (v16 : BitVec 32) : Fin 4 → Nat :=
  let v38 : Index := Scalar.indexCast v16
  let c2 : Index := 2#32
  let c0_39 : Index := 0#32
  let c0_40 : Index := 0#32
  ![v38.toNat, 2, 0, 0]

def k0_chk1 (v16 : BitVec 32) : Prop :=
  (∀ a, (k0_off2 v16) a + S1x1x64x192.size a ≤ S3x3x64x192.size a) ∧
  (∀ a, (k0_off3 v16) a + S1x1x64x192.size a ≤ S3x3x64x192.size a) ∧
  (∀ a, (k0_off4 v16) a + S1x1x64x192.size a ≤ S3x3x64x192.size a) ∧
  (∀ a, (k0_off7 v16) a + S1x1x1x192.size a ≤ S3x3x1x192.size a) ∧
  (∀ a, (k0_off8 v16) a + S1x1x1x192.size a ≤ S3x3x1x192.size a) ∧
  (∀ a, (k0_off9 v16) a + S1x1x1x192.size a ≤ S3x3x1x192.size a)
theorem k0_off2_inb : ∀ (v16 : BitVec 32) (k0_hw1 : k0_chk1 v16), ∀ a, (k0_off2 v16) a + S1x1x64x192.size a ≤ S3x3x64x192.size a := fun v16 k0_hw1 => k0_hw1.1
theorem k0_off3_inb : ∀ (v16 : BitVec 32) (k0_hw1 : k0_chk1 v16), ∀ a, (k0_off3 v16) a + S1x1x64x192.size a ≤ S3x3x64x192.size a := fun v16 k0_hw1 => k0_hw1.2.1
theorem k0_off4_inb : ∀ (v16 : BitVec 32) (k0_hw1 : k0_chk1 v16), ∀ a, (k0_off4 v16) a + S1x1x64x192.size a ≤ S3x3x64x192.size a := fun v16 k0_hw1 => k0_hw1.2.2.1
theorem k0_off7_inb : ∀ (v16 : BitVec 32) (k0_hw1 : k0_chk1 v16), ∀ a, (k0_off7 v16) a + S1x1x1x192.size a ≤ S3x3x1x192.size a := fun v16 k0_hw1 => k0_hw1.2.2.2.1
theorem k0_off8_inb : ∀ (v16 : BitVec 32) (k0_hw1 : k0_chk1 v16), ∀ a, (k0_off8 v16) a + S1x1x1x192.size a ≤ S3x3x1x192.size a := fun v16 k0_hw1 => k0_hw1.2.2.2.2.1
theorem k0_off9_inb : ∀ (v16 : BitVec 32) (k0_hw1 : k0_chk1 v16), ∀ a, (k0_off9 v16) a + S1x1x1x192.size a ≤ S3x3x1x192.size a := fun v16 k0_hw1 => k0_hw1.2.2.2.2.2

def k0_off10 (k0_t2 : Fin k0_t2_loop.trips) : Fin 3 → Nat :=
  let c0_i32_16 : BitVec 32 := 0#32
  let c1_i32_18 : BitVec 32 := 1#32
  let arg7 : BitVec 32 := Scf.iv c0_i32_16 c1_i32_18 k0_t2
  let c1_i32_43 : BitVec 32 := 1#32
  let v48 : BitVec 32 := Scalar.addi arg7 c1_i32_43
  let v49 : Index := Scalar.indexCast v48
  let c0_44 : Index := 0#32
  let c0_45 : Index := 0#32
  ![v49.toNat, 0, 0]
@[reducible] def k0_t3_loop : Scf.Loop 32 :=
  let c0_i32_21 : BitVec 32 := 0#32
  let c224_i32_22 : BitVec 32 := 224#32
  let v22 : BitVec 32 := Scalar.addi c0_i32_21 c224_i32_22
  let c1_i32_23 : BitVec 32 := 1#32
  ⟨c0_i32_21, v22, c1_i32_23⟩
def k0_off11 (k0_t3 : Fin k0_t3_loop.trips) : Fin 3 → Nat :=
  let c0_i32_21 : BitVec 32 := 0#32
  let c1_i32_23 : BitVec 32 := 1#32
  let arg7 : BitVec 32 := Scf.iv c0_i32_21 c1_i32_23 k0_t3
  let v24 : Index := Scalar.indexCast arg7
  let c0_29 : Index := 0#32
  let c0_30 : Index := 0#32
  ![v24.toNat, 0, 0]
def k0_off12 (v20 : BitVec 32) : Fin 4 → Nat :=
  let v28 : Index := Scalar.indexCast v20
  let c0_31 : Index := 0#32
  let c0_32 : Index := 0#32
  let c0_33 : Index := 0#32
  ![v28.toNat, 0, 0, 0]

def k0_off13 (v20 : BitVec 32) : Fin 4 → Nat :=
  let v33 : Index := Scalar.indexCast v20
  let c1_35 : Index := 1#32
  let c0_36 : Index := 0#32
  let c0_37 : Index := 0#32
  ![v33.toNat, 1, 0, 0]
def k0_off14 (v20 : BitVec 32) : Fin 4 → Nat :=
  let v39 : Index := Scalar.indexCast v20
  let c2 : Index := 2#32
  let c0_39 : Index := 0#32
  let c0_40 : Index := 0#32
  ![v39.toNat, 2, 0, 0]
def k0_off15 (k0_t3 : Fin k0_t3_loop.trips) : Fin 3 → Nat :=
  let c0_i32_21 : BitVec 32 := 0#32
  let c1_i32_23 : BitVec 32 := 1#32
  let arg7 : BitVec 32 := Scf.iv c0_i32_21 c1_i32_23 k0_t3
  let c1_i32_44 : BitVec 32 := 1#32
  let v49 : BitVec 32 := Scalar.addi arg7 c1_i32_44
  let v50 : Index := Scalar.indexCast v49
  let c0_45 : Index := 0#32
  let c0_46 : Index := 0#32
  ![v50.toNat, 0, 0]
@[reducible] def k0_t4_loop : Scf.Loop 32 :=
  let c0_i32_25 : BitVec 32 := 0#32
  let c224_i32_26 : BitVec 32 := 224#32
  let v23 : BitVec 32 := Scalar.addi c0_i32_25 c224_i32_26
  let c1_i32_27 : BitVec 32 := 1#32
  ⟨c0_i32_25, v23, c1_i32_27⟩
def k0_off16 (k0_t4 : Fin k0_t4_loop.trips) : Fin 3 → Nat :=
  let c0_i32_25 : BitVec 32 := 0#32
  let c1_i32_27 : BitVec 32 := 1#32
  let arg7 : BitVec 32 := Scf.iv c0_i32_25 c1_i32_27 k0_t4
  let v24 : Index := Scalar.indexCast arg7
  let c0_29 : Index := 0#32
  let c0_30 : Index := 0#32
  ![v24.toNat, 0, 0]
def k0_off17 (v20 : BitVec 32) : Fin 4 → Nat :=
  let v27 : Index := Scalar.indexCast v20
  let c0_31 : Index := 0#32
  let c0_32 : Index := 0#32
  let c0_33 : Index := 0#32
  ![v27.toNat, 0, 0, 0]
def k0_off18 (v20 : BitVec 32) : Fin 4 → Nat :=
  let v32 : Index := Scalar.indexCast v20
  let c1_35 : Index := 1#32
  let c0_36 : Index := 0#32
  let c0_37 : Index := 0#32
  ![v32.toNat, 1, 0, 0]
def k0_off19 (v20 : BitVec 32) : Fin 4 → Nat :=
  let v38 : Index := Scalar.indexCast v20
  let c2 : Index := 2#32
  let c0_39 : Index := 0#32
  let c0_40 : Index := 0#32
  ![v38.toNat, 2, 0, 0]

def k0_chk2 (v20 : BitVec 32) : Prop :=
  (∀ a, (k0_off12 v20) a + S1x1x64x192.size a ≤ S3x3x64x192.size a) ∧
  (∀ a, (k0_off13 v20) a + S1x1x64x192.size a ≤ S3x3x64x192.size a) ∧
  (∀ a, (k0_off14 v20) a + S1x1x64x192.size a ≤ S3x3x64x192.size a) ∧
  (∀ a, (k0_off17 v20) a + S1x1x1x192.size a ≤ S3x3x1x192.size a) ∧
  (∀ a, (k0_off18 v20) a + S1x1x1x192.size a ≤ S3x3x1x192.size a) ∧
  (∀ a, (k0_off19 v20) a + S1x1x1x192.size a ≤ S3x3x1x192.size a)
theorem k0_off12_inb : ∀ (v20 : BitVec 32) (k0_hw2 : k0_chk2 v20), ∀ a, (k0_off12 v20) a + S1x1x64x192.size a ≤ S3x3x64x192.size a := fun v20 k0_hw2 => k0_hw2.1
theorem k0_off13_inb : ∀ (v20 : BitVec 32) (k0_hw2 : k0_chk2 v20), ∀ a, (k0_off13 v20) a + S1x1x64x192.size a ≤ S3x3x64x192.size a := fun v20 k0_hw2 => k0_hw2.2.1
theorem k0_off14_inb : ∀ (v20 : BitVec 32) (k0_hw2 : k0_chk2 v20), ∀ a, (k0_off14 v20) a + S1x1x64x192.size a ≤ S3x3x64x192.size a := fun v20 k0_hw2 => k0_hw2.2.2.1
theorem k0_off17_inb : ∀ (v20 : BitVec 32) (k0_hw2 : k0_chk2 v20), ∀ a, (k0_off17 v20) a + S1x1x1x192.size a ≤ S3x3x1x192.size a := fun v20 k0_hw2 => k0_hw2.2.2.2.1
theorem k0_off18_inb : ∀ (v20 : BitVec 32) (k0_hw2 : k0_chk2 v20), ∀ a, (k0_off18 v20) a + S1x1x1x192.size a ≤ S3x3x1x192.size a := fun v20 k0_hw2 => k0_hw2.2.2.2.2.1
theorem k0_off19_inb : ∀ (v20 : BitVec 32) (k0_hw2 : k0_chk2 v20), ∀ a, (k0_off19 v20) a + S1x1x1x192.size a ≤ S3x3x1x192.size a := fun v20 k0_hw2 => k0_hw2.2.2.2.2.2

def k0_off20 (k0_t4 : Fin k0_t4_loop.trips) : Fin 3 → Nat :=
  let c0_i32_25 : BitVec 32 := 0#32
  let c1_i32_27 : BitVec 32 := 1#32
  let arg7 : BitVec 32 := Scf.iv c0_i32_25 c1_i32_27 k0_t4
  let c1_i32_42 : BitVec 32 := 1#32
  let v46 : BitVec 32 := Scalar.addi arg7 c1_i32_42
  let v47 : Index := Scalar.indexCast v46
  let c0_43 : Index := 0#32
  let c0_44 : Index := 0#32
  ![v47.toNat, 0, 0]
abbrev stage0_0 : Fin 1 → Memref sig .tc .vmem S226x64x226 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S226x1x226 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MoeIRefIdeal.lean ====
abbrev S1x64x224x224 : Shape := ⟨4, ![1, 64, 224, 224]⟩
abbrev S3x64x64x3x3 : Shape := ⟨5, ![3, 64, 64, 3, 3]⟩
abbrev S3x1x64x3x3 : Shape := ⟨5, ![3, 1, 64, 3, 3]⟩
abbrev S2 : Shape := ⟨1, ![2]⟩
abbrev S1x64x64x3x3 : Shape := ⟨5, ![1, 64, 64, 3, 3]⟩
abbrev S64x64x3x3 : Shape := ⟨4, ![64, 64, 3, 3]⟩
abbrev S64x224x224 : Shape := ⟨3, ![64, 224, 224]⟩
abbrev S_ : Shape := ⟨0, ![]⟩
abbrev S64x226x226 : Shape := ⟨3, ![64, 226, 226]⟩
abbrev S64x64x1x1 : Shape := ⟨4, ![64, 64, 1, 1]⟩
abbrev S64x64 : Shape := ⟨2, ![64, 64]⟩
abbrev S1x1x64x3x3 : Shape := ⟨5, ![1, 1, 64, 3, 3]⟩
abbrev S1x64x3x3 : Shape := ⟨4, ![1, 64, 3, 3]⟩
abbrev S1x64x1x1 : Shape := ⟨4, ![1, 64, 1, 1]⟩
abbrev S1x64 : Shape := ⟨2, ![1, 64]⟩
abbrev S1x224x224 : Shape := ⟨3, ![1, 224, 224]⟩
abbrev S1x1x224x224 : Shape := ⟨4, ![1, 1, 224, 224]⟩
abbrev S2x1 : Shape := ⟨2, ![2, 1]⟩
abbrev S1x3 : Shape := ⟨2, ![1, 3]⟩
abbrev S2x3 : Shape := ⟨2, ![2, 3]⟩
abbrev S3 : Shape := ⟨1, ![3]⟩
abbrev S1x1x1x224x224 : Shape := ⟨5, ![1, 1, 1, 224, 224]⟩
abbrev S3x1x1x224x224 : Shape := ⟨5, ![3, 1, 1, 224, 224]⟩

abbrev nBuf : Space → Nat
  | .hbm => 336
  | .vmem => 0
  | .smem => 0
  | _ => 0

abbrev hbmTy0_0 (i : Nat) : BufTy := match i % 128 with
  | 0 => ⟨S1x64x224x224, .f32⟩
  | 1 => ⟨S3x64x64x3x3, .f32⟩
  | 2 => ⟨S3x1x64x3x3, .f32⟩
  | 3 => ⟨S2, .i32⟩
  | 4 => ⟨S2, .f32⟩
  | 5 => ⟨S1x64x64x3x3, .f32⟩
  | 6 => ⟨S64x64x3x3, .f32⟩
  | 7 => ⟨S64x224x224, .f32⟩
  | 8 => ⟨S_, .i32⟩
  | 9 => ⟨S_, .f32⟩
  | 10 => ⟨S64x226x226, .f32⟩
  | 11 => ⟨S64x64x1x1, .f32⟩
  | 12 => ⟨S64x64, .f32⟩
  | 13 => ⟨S64x224x224, .f32⟩
  | 14 => ⟨S64x224x224, .f32⟩
  | 15 => ⟨S64x64x1x1, .f32⟩
  | 16 => ⟨S64x64, .f32⟩
  | 17 => ⟨S64x224x224, .f32⟩
  | 18 => ⟨S64x224x224, .f32⟩
  | 19 => ⟨S64x64x1x1, .f32⟩
  | 20 => ⟨S64x64, .f32⟩
  | 21 => ⟨S64x224x224, .f32⟩
  | 22 => ⟨S64x224x224, .f32⟩
  | 23 => ⟨S64x64x1x1, .f32⟩
  | 24 => ⟨S64x64, .f32⟩
  | 25 => ⟨S64x224x224, .f32⟩
  | 26 => ⟨S64x224x224, .f32⟩
  | 27 => ⟨S64x64x1x1, .f32⟩
  | 28 => ⟨S64x64, .f32⟩
  | 29 => ⟨S64x224x224, .f32⟩
  | 30 => ⟨S64x224x224, .f32⟩
  | 31 => ⟨S64x64x1x1, .f32⟩
  | 32 => ⟨S64x64, .f32⟩
  | 33 => ⟨S64x224x224, .f32⟩
  | 34 => ⟨S64x224x224, .f32⟩
  | 35 => ⟨S64x64x1x1, .f32⟩
  | 36 => ⟨S64x64, .f32⟩
  | 37 => ⟨S64x224x224, .f32⟩
  | 38 => ⟨S64x224x224, .f32⟩
  | 39 => ⟨S64x64x1x1, .f32⟩
  | 40 => ⟨S64x64, .f32⟩
  | 41 => ⟨S64x224x224, .f32⟩
  | 42 => ⟨S64x224x224, .f32⟩
  | 43 => ⟨S64x64x1x1, .f32⟩
  | 44 => ⟨S64x64, .f32⟩
  | 45 => ⟨S64x224x224, .f32⟩
  | 46 => ⟨S64x224x224, .f32⟩
  | 47 => ⟨S64x224x224, .f32⟩
  | 48 => ⟨S64x224x224, .f32⟩
  | 49 => ⟨S64x224x224, .f32⟩
  | 50 => ⟨S64x224x224, .f32⟩
  | 51 => ⟨S64x224x224, .f32⟩
  | 52 => ⟨S64x224x224, .f32⟩
  | 53 => ⟨S64x224x224, .f32⟩
  | 54 => ⟨S64x224x224, .f32⟩
  | 55 => ⟨S1x64x224x224, .f32⟩
  | 56 => ⟨S_, .f32⟩
  | 57 => ⟨S1x64x224x224, .f32⟩
  | 58 => ⟨S1x64x224x224, .f32⟩
  | 59 => ⟨S1x1x64x3x3, .f32⟩
  | 60 => ⟨S1x64x3x3, .f32⟩
  | 61 => ⟨S64x224x224, .f32⟩
  | 62 => ⟨S_, .i32⟩
  | 63 => ⟨S_, .f32⟩
  | 64 => ⟨S64x226x226, .f32⟩
  | 65 => ⟨S1x64x1x1, .f32⟩
  | 66 => ⟨S1x64, .f32⟩
  | 67 => ⟨S64x224x224, .f32⟩
  | 68 => ⟨S1x224x224, .f32⟩
  | 69 => ⟨S1x64x1x1, .f32⟩
  | 70 => ⟨S1x64, .f32⟩
  | 71 => ⟨S64x224x224, .f32⟩
  | 72 => ⟨S1x224x224, .f32⟩
  | 73 => ⟨S1x64x1x1, .f32⟩
  | 74 => ⟨S1x64, .f32⟩
  | 75 => ⟨S64x224x224, .f32⟩
  | 76 => ⟨S1x224x224, .f32⟩
  | 77 => ⟨S1x64x1x1, .f32⟩
  | 78 => ⟨S1x64, .f32⟩
  | 79 => ⟨S64x224x224, .f32⟩
  | 80 => ⟨S1x224x224, .f32⟩
  | 81 => ⟨S1x64x1x1, .f32⟩
  | 82 => ⟨S1x64, .f32⟩
  | 83 => ⟨S64x224x224, .f32⟩
  | 84 => ⟨S1x224x224, .f32⟩
  | 85 => ⟨S1x64x1x1, .f32⟩
  | 86 => ⟨S1x64, .f32⟩
  | 87 => ⟨S64x224x224, .f32⟩
  | 88 => ⟨S1x224x224, .f32⟩
  | 89 => ⟨S1x64x1x1, .f32⟩
  | 90 => ⟨S1x64, .f32⟩
  | 91 => ⟨S64x224x224, .f32⟩
  | 92 => ⟨S1x224x224, .f32⟩
  | 93 => ⟨S1x64x1x1, .f32⟩
  | 94 => ⟨S1x64, .f32⟩
  | 95 => ⟨S64x224x224, .f32⟩
  | 96 => ⟨S1x224x224, .f32⟩
  | 97 => ⟨S1x64x1x1, .f32⟩
  | 98 => ⟨S1x64, .f32⟩
  | 99 => ⟨S64x224x224, .f32⟩
  | 100 => ⟨S1x224x224, .f32⟩
  | 101 => ⟨S1x224x224, .f32⟩
  | 102 => ⟨S1x224x224, .f32⟩
  | 103 => ⟨S1x224x224, .f32⟩
  | 104 => ⟨S1x224x224, .f32⟩
  | 105 => ⟨S1x224x224, .f32⟩
  | 106 => ⟨S1x224x224, .f32⟩
  | 107 => ⟨S1x224x224, .f32⟩
  | 108 => ⟨S1x224x224, .f32⟩
  | 109 => ⟨S1x1x224x224, .f32⟩
  | 110 => ⟨S1x64x64x3x3, .f32⟩
  | 111 => ⟨S64x64x3x3, .f32⟩
  | 112 => ⟨S64x224x224, .f32⟩
  | 113 => ⟨S_, .i32⟩
  | 114 => ⟨S_, .f32⟩
  | 115 => ⟨S64x226x226, .f32⟩
  | 116 => ⟨S64x64x1x1, .f32⟩
  | 117 => ⟨S64x64, .f32⟩
  | 118 => ⟨S64x224x224, .f32⟩
  | 119 => ⟨S64x224x224, .f32⟩
  | 120 => ⟨S64x64x1x1, .f32⟩
  | 121 => ⟨S64x64, .f32⟩
  | 122 => ⟨S64x224x224, .f32⟩
  | 123 => ⟨S64x224x224, .f32⟩
  | 124 => ⟨S64x64x1x1, .f32⟩
  | 125 => ⟨S64x64, .f32⟩
  | 126 => ⟨S64x224x224, .f32⟩
  | 127 => ⟨S64x224x224, .f32⟩
  | _ => ⟨S1x64x224x224, .f32⟩

abbrev hbmTy0_1 (i : Nat) : BufTy := match i % 128 with
  | 0 => ⟨S64x64x1x1, .f32⟩
  | 1 => ⟨S64x64, .f32⟩
  | 2 => ⟨S64x224x224, .f32⟩
  | 3 => ⟨S64x224x224, .f32⟩
  | 4 => ⟨S64x64x1x1, .f32⟩
  | 5 => ⟨S64x64, .f32⟩
  | 6 => ⟨S64x224x224, .f32⟩
  | 7 => ⟨S64x224x224, .f32⟩
  | 8 => ⟨S64x64x1x1, .f32⟩
  | 9 => ⟨S64x64, .f32⟩
  | 10 => ⟨S64x224x224, .f32⟩
  | 11 => ⟨S64x224x224, .f32⟩
  | 12 => ⟨S64x64x1x1, .f32⟩
  | 13 => ⟨S64x64, .f32⟩
  | 14 => ⟨S64x224x224, .f32⟩
  | 15 => ⟨S64x224x224, .f32⟩
  | 16 => ⟨S64x64x1x1, .f32⟩
  | 17 => ⟨S64x64, .f32⟩
  | 18 => ⟨S64x224x224, .f32⟩
  | 19 => ⟨S64x224x224, .f32⟩
  | 20 => ⟨S64x64x1x1, .f32⟩
  | 21 => ⟨S64x64, .f32⟩
  | 22 => ⟨S64x224x224, .f32⟩
  | 23 => ⟨S64x224x224, .f32⟩
  | 24 => ⟨S64x224x224, .f32⟩
  | 25 => ⟨S64x224x224, .f32⟩
  | 26 => ⟨S64x224x224, .f32⟩
  | 27 => ⟨S64x224x224, .f32⟩
  | 28 => ⟨S64x224x224, .f32⟩
  | 29 => ⟨S64x224x224, .f32⟩
  | 30 => ⟨S64x224x224, .f32⟩
  | 31 => ⟨S64x224x224, .f32⟩
  | 32 => ⟨S1x64x224x224, .f32⟩
  | 33 => ⟨S_, .f32⟩
  | 34 => ⟨S1x64x224x224, .f32⟩
  | 35 => ⟨S1x64x224x224, .f32⟩
  | 36 => ⟨S1x1x64x3x3, .f32⟩
  | 37 => ⟨S1x64x3x3, .f32⟩
  | 38 => ⟨S64x224x224, .f32⟩
  | 39 => ⟨S_, .i32⟩
  | 40 => ⟨S_, .f32⟩
  | 41 => ⟨S64x226x226, .f32⟩
  | 42 => ⟨S1x64x1x1, .f32⟩
  | 43 => ⟨S1x64, .f32⟩
  | 44 => ⟨S64x224x224, .f32⟩
  | 45 => ⟨S1x224x224, .f32⟩
  | 46 => ⟨S1x64x1x1, .f32⟩
  | 47 => ⟨S1x64, .f32⟩
  | 48 => ⟨S64x224x224, .f32⟩
  | 49 => ⟨S1x224x224, .f32⟩
  | 50 => ⟨S1x64x1x1, .f32⟩
  | 51 => ⟨S1x64, .f32⟩
  | 52 => ⟨S64x224x224, .f32⟩
  | 53 => ⟨S1x224x224, .f32⟩
  | 54 => ⟨S1x64x1x1, .f32⟩
  | 55 => ⟨S1x64, .f32⟩
  | 56 => ⟨S64x224x224, .f32⟩
  | 57 => ⟨S1x224x224, .f32⟩
  | 58 => ⟨S1x64x1x1, .f32⟩
  | 59 => ⟨S1x64, .f32⟩
  | 60 => ⟨S64x224x224, .f32⟩
  | 61 => ⟨S1x224x224, .f32⟩
  | 62 => ⟨S1x64x1x1, .f32⟩
  | 63 => ⟨S1x64, .f32⟩
  | 64 => ⟨S64x224x224, .f32⟩
  | 65 => ⟨S1x224x224, .f32⟩
  | 66 => ⟨S1x64x1x1, .f32⟩
  | 67 => ⟨S1x64, .f32⟩
  | 68 => ⟨S64x224x224, .f32⟩
  | 69 => ⟨S1x224x224, .f32⟩
  | 70 => ⟨S1x64x1x1, .f32⟩
  | 71 => ⟨S1x64, .f32⟩
  | 72 => ⟨S64x224x224, .f32⟩
  | 73 => ⟨S1x224x224, .f32⟩
  | 74 => ⟨S1x64x1x1, .f32⟩
  | 75 => ⟨S1x64, .f32⟩
  | 76 => ⟨S64x224x224, .f32⟩
  | 77 => ⟨S1x224x224, .f32⟩
  | 78 => ⟨S1x224x224, .f32⟩
  | 79 => ⟨S1x224x224, .f32⟩
  | 80 => ⟨S1x224x224, .f32⟩
  | 81 => ⟨S1x224x224, .f32⟩
  | 82 => ⟨S1x224x224, .f32⟩
  | 83 => ⟨S1x224x224, .f32⟩
  | 84 => ⟨S1x224x224, .f32⟩
  | 85 => ⟨S1x224x224, .f32⟩
  | 86 => ⟨S1x1x224x224, .f32⟩
  | 87 => ⟨S1x64x64x3x3, .f32⟩
  | 88 => ⟨S64x64x3x3, .f32⟩
  | 89 => ⟨S64x224x224, .f32⟩
  | 90 => ⟨S_, .i32⟩
  | 91 => ⟨S_, .f32⟩
  | 92 => ⟨S64x226x226, .f32⟩
  | 93 => ⟨S64x64x1x1, .f32⟩
  | 94 => ⟨S64x64, .f32⟩
  | 95 => ⟨S64x224x224, .f32⟩
  | 96 => ⟨S64x224x224, .f32⟩
  | 97 => ⟨S64x64x1x1, .f32⟩
  | 98 => ⟨S64x64, .f32⟩
  | 99 => ⟨S64x224x224, .f32⟩
  | 100 => ⟨S64x224x224, .f32⟩
  | 101 => ⟨S64x64x1x1, .f32⟩
  | 102 => ⟨S64x64, .f32⟩
  | 103 => ⟨S64x224x224, .f32⟩
  | 104 => ⟨S64x224x224, .f32⟩
  | 105 => ⟨S64x64x1x1, .f32⟩
  | 106 => ⟨S64x64, .f32⟩
  | 107 => ⟨S64x224x224, .f32⟩
  | 108 => ⟨S64x224x224, .f32⟩
  | 109 => ⟨S64x64x1x1, .f32⟩
  | 110 => ⟨S64x64, .f32⟩
  | 111 => ⟨S64x224x224, .f32⟩
  | 112 => ⟨S64x224x224, .f32⟩
  | 113 => ⟨S64x64x1x1, .f32⟩
  | 114 => ⟨S64x64, .f32⟩
  | 115 => ⟨S64x224x224, .f32⟩
  | 116 => ⟨S64x224x224, .f32⟩
  | 117 => ⟨S64x64x1x1, .f32⟩
  | 118 => ⟨S64x64, .f32⟩
  | 119 => ⟨S64x224x224, .f32⟩
  | 120 => ⟨S64x224x224, .f32⟩
  | 121 => ⟨S64x64x1x1, .f32⟩
  | 122 => ⟨S64x64, .f32⟩
  | 123 => ⟨S64x224x224, .f32⟩
  | 124 => ⟨S64x224x224, .f32⟩
  | 125 => ⟨S64x64x1x1, .f32⟩
  | 126 => ⟨S64x64, .f32⟩
  | 127 => ⟨S64x224x224, .f32⟩
  | _ => ⟨S1x64x224x224, .f32⟩

abbrev hbmTy0_2 (i : Nat) : BufTy := match i % 128 with
  | 0 => ⟨S64x224x224, .f32⟩
  | 1 => ⟨S64x224x224, .f32⟩
  | 2 => ⟨S64x224x224, .f32⟩
  | 3 => ⟨S64x224x224, .f32⟩
  | 4 => ⟨S64x224x224, .f32⟩
  | 5 => ⟨S64x224x224, .f32⟩
  | 6 => ⟨S64x224x224, .f32⟩
  | 7 => ⟨S64x224x224, .f32⟩
  | 8 => ⟨S64x224x224, .f32⟩
  | 9 => ⟨S1x64x224x224, .f32⟩
  | 10 => ⟨S_, .f32⟩
  | 11 => ⟨S1x64x224x224, .f32⟩
  | 12 => ⟨S1x64x224x224, .f32⟩
  | 13 => ⟨S1x1x64x3x3, .f32⟩
  | 14 => ⟨S1x64x3x3, .f32⟩
  | 15 => ⟨S64x224x224, .f32⟩
  | 16 => ⟨S_, .i32⟩
  | 17 => ⟨S_, .f32⟩
  | 18 => ⟨S64x226x226, .f32⟩
  | 19 => ⟨S1x64x1x1, .f32⟩
  | 20 => ⟨S1x64, .f32⟩
  | 21 => ⟨S64x224x224, .f32⟩
  | 22 => ⟨S1x224x224, .f32⟩
  | 23 => ⟨S1x64x1x1, .f32⟩
  | 24 => ⟨S1x64, .f32⟩
  | 25 => ⟨S64x224x224, .f32⟩
  | 26 => ⟨S1x224x224, .f32⟩
  | 27 => ⟨S1x64x1x1, .f32⟩
  | 28 => ⟨S1x64, .f32⟩
  | 29 => ⟨S64x224x224, .f32⟩
  | 30 => ⟨S1x224x224, .f32⟩
  | 31 => ⟨S1x64x1x1, .f32⟩
  | 32 => ⟨S1x64, .f32⟩
  | 33 => ⟨S64x224x224, .f32⟩
  | 34 => ⟨S1x224x224, .f32⟩
  | 35 => ⟨S1x64x1x1, .f32⟩
  | 36 => ⟨S1x64, .f32⟩
  | 37 => ⟨S64x224x224, .f32⟩
  | 38 => ⟨S1x224x224, .f32⟩
  | 39 => ⟨S1x64x1x1, .f32⟩
  | 40 => ⟨S1x64, .f32⟩
  | 41 => ⟨S64x224x224, .f32⟩
  | 42 => ⟨S1x224x224, .f32⟩
  | 43 => ⟨S1x64x1x1, .f32⟩
  | 44 => ⟨S1x64, .f32⟩
  | 45 => ⟨S64x224x224, .f32⟩
  | 46 => ⟨S1x224x224, .f32⟩
  | 47 => ⟨S1x64x1x1, .f32⟩
  | 48 => ⟨S1x64, .f32⟩
  | 49 => ⟨S64x224x224, .f32⟩
  | 50 => ⟨S1x224x224, .f32⟩
  | 51 => ⟨S1x64x1x1, .f32⟩
  | 52 => ⟨S1x64, .f32⟩
  | 53 => ⟨S64x224x224, .f32⟩
  | 54 => ⟨S1x224x224, .f32⟩
  | 55 => ⟨S1x224x224, .f32⟩
  | 56 => ⟨S1x224x224, .f32⟩
  | 57 => ⟨S1x224x224, .f32⟩
  | 58 => ⟨S1x224x224, .f32⟩
  | 59 => ⟨S1x224x224, .f32⟩
  | 60 => ⟨S1x224x224, .f32⟩
  | 61 => ⟨S1x224x224, .f32⟩
  | 62 => ⟨S1x224x224, .f32⟩
  | 63 => ⟨S1x1x224x224, .f32⟩
  | 64 => ⟨S2x1, .i32⟩
  | 65 => ⟨S1x3, .i32⟩
  | 66 => ⟨S2x3, .i32⟩
  | 67 => ⟨S2x3, .i32⟩
  | 68 => ⟨S2x3, .i1⟩
  | 69 => ⟨S2x3, .f32⟩
  | 70 => ⟨S2x1, .f32⟩
  | 71 => ⟨S2x3, .f32⟩
  | 72 => ⟨S2x3, .f32⟩
  | 73 => ⟨S_, .f32⟩
  | 74 => ⟨S3, .f32⟩
  | 75 => ⟨S1x1x1x224x224, .f32⟩
  | 76 => ⟨S1x1x1x224x224, .f32⟩
  | 77 => ⟨S1x1x1x224x224, .f32⟩
  | 78 => ⟨S3x1x1x224x224, .f32⟩
  | 79 => ⟨S1x1x224x224, .f32⟩
  | _ => ⟨S1x64x224x224, .f32⟩

abbrev hbmTy (i : Nat) : BufTy := match i / 128 with
  | 0 => hbmTy0_0 i
  | 1 => hbmTy0_1 i
  | 2 => hbmTy0_2 i
  | _ => ⟨S1x64x224x224, .f32⟩

abbrev bufTy : (tb : Table) → Fin (tcTables nBuf tb) → BufTy
  | .hbm, ⟨i, _⟩ => hbmTy i
  | _, _ => ⟨S1x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_call1_cst : Ref sig .tc := ⟨.hbm, 56, rfl⟩
abbrev main_call1_v0 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_0 : Ref sig .tc := ⟨.hbm, 62, rfl⟩
abbrev main_call2_v0 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_c_1 : Ref sig .tc := ⟨.hbm, 113, rfl⟩
abbrev main_call3_v0 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_call4_cst : Ref sig .tc := ⟨.hbm, 161, rfl⟩
abbrev main_call4_v0 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_c_2 : Ref sig .tc := ⟨.hbm, 167, rfl⟩
abbrev main_call5_v0 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_c_3 : Ref sig .tc := ⟨.hbm, 218, rfl⟩
abbrev main_call6_v0 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_call7_cst : Ref sig .tc := ⟨.hbm, 266, rfl⟩
abbrev main_call7_v0 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_c_4 : Ref sig .tc := ⟨.hbm, 272, rfl⟩
abbrev main_call8_v0 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_call9_v0 : Ref sig .tc := ⟨.hbm, 320, rfl⟩
abbrev main_call9_v1 : Ref sig .tc := ⟨.hbm, 321, rfl⟩
abbrev main_call9_v2 : Ref sig .tc := ⟨.hbm, 322, rfl⟩
abbrev main_call9_v3 : Ref sig .tc := ⟨.hbm, 323, rfl⟩
abbrev main_call9_v4 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_cst : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩

abbrev nD : Nat := 1
abbrev τ : Topo := Topo.v7x

variable {F : FTy → Type} [FloatOps F]
-- ==== Proof.Restate.lean ====
/- A buffer written everywhere, restated without what it held before. -/
module

public import Idealize.ShloMosaic.Lib.Pipeline.FrameBody
public import Idealize.ShloMosaic.Lib.Exec
public import Idealize.SL.ProofMode.Expr

@[expose] public section

noncomputable section

namespace Cert.Restate

open Idealize.ShloMosaic Idealize.ShloMosaic.TcCoe Idealize.SL Idealize.SL.RA Idealize.SL.BI Idealize.SL.Sem Idealize.ShloMosaic.Rounds
open scoped Idealize.SL.BI

variable {F : FTy → Type} [FloatOps F] {sig : RefSig} {κ : Kind} {sp : Space} {s : Shape} {e : EltTy}

/-- What a whole buffer holds after writes that meet every index does not depend on what it held before. -/
theorem restate {m : Memref sig κ sp s e} (hm : m.IsWhole) (f : m.view.ty.Contents (Elt F))
    (L : List (View.Piece (Elt F) s e)) (h : ∀ y : s.Idx, ∃ p ∈ L, y ∈ p.1.set) :
    m.view.writes (Elt F) f L = m.view.writes (Elt F) m.view.junk L :=
  (hm.eq_unread (funext fun y => View.read_writes_apply_eq m.view f m.view m.view.junk y L (h y))).trans (hm.eq_unread rfl).symm

universe u v w

/-- A program and then another may be run by first running the one, with nothing said of what comes after it. -/
theorem hide {Ef : Type → Type v} {M : Type u} [URA M] {α β : Type} {Mask : Sort w} {Fr : Mask → sProp M}
    {wpE : Mask → ∀ ⦃β : Type⦄, Ef β → sWPT M β} {E : Mask} {P : sProp M} {p : Prog Ef α} {k : α → Prog Ef β} {Ψ : β → sProp M}
    (h : ∀ Q : α → sProp M, (Q = fun a => wp Fr wpE E (k a) Ψ) → ProofMode.Entails' P (wp Fr wpE E p Q)) :
    ProofMode.Entails' P (wp Fr wpE E (p >>= k) Ψ) := by
  rw [wp_bind]
  exact h _ rfl

end Cert.Restate

end
-- ==== Proof.VizIdealRun.lean ====
/- One run of the body of the latent image's kernel: what it leaves in its outputs, whatever its outputs and its scratch buffer held before. -/
module

public import proofs.«01_k».proof.Proof.Gen.VizIdeal.Frame.Runs
public import proofs.«01_k».proof.Proof.Restate

@[expose] public section

set_option maxRecDepth 16384

noncomputable section

namespace Cert.VizIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.VizIdeal Cert.VizIdeal.Gen

variable {F : FTy → Type} [FloatOps F]

local notation "𝕄" => MT nD τ sig Unit (Elt F) ℕ (UR sig nD τ) ℕ

/-- What a trip of the loop writes does not depend on what the output held when the trip began. -/
theorem trip_output (𝒱 : Variants) (c : Dev nD) (bd : Option 𝒱.V) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (X_arg0 : BufTy.Contents (Elt F) arg0.view.ty) (X_arg1 : BufTy.Contents (Elt F) arg1.view.ty) (X_arg2 : BufTy.Contents (Elt F) arg2.view.ty) (k : Fin k0_t1_loop.trips) (f f' : BufTy.Contents (Elt F) arg5.view.ty) (g : BufTy.Contents (Elt F) arg7.view.ty) :
    tripL_k0_t1 (F := F) 𝒱 c bd arg0 harg0 arg1 harg1 arg2 harg2 arg3 harg3 arg4 harg4 arg5 harg5 arg6 harg6 arg7 harg7 X_arg0 X_arg1 X_arg2 k f g = tripL_k0_t1 (F := F) 𝒱 c bd arg0 harg0 arg1 harg1 arg2 harg2 arg3 harg3 arg4 harg4 arg5 harg5 arg6 harg6 arg7 harg7 X_arg0 X_arg1 X_arg2 k f' g := by
  unfold tripL_k0_t1 trip_k0_t1
  rfl

/-- What the loop writes in its first trips does not depend on what the output held when the loop began. -/
theorem trips_output (𝒱 : Variants) (c : Dev nD) (bd : Option 𝒱.V) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (X_arg0 : BufTy.Contents (Elt F) arg0.view.ty) (X_arg1 : BufTy.Contents (Elt F) arg1.view.ty) (X_arg2 : BufTy.Contents (Elt F) arg2.view.ty) (G_arg5 : BufTy.Contents (Elt F) arg5.view.ty) (G_arg7 : BufTy.Contents (Elt F) arg7.view.ty) (G : BufTy.Contents (Elt F) arg5.view.ty) (k : ℕ) (hk : k ≤ k0_t1_loop.trips) :
    pb_k0_t1 (F := F) 𝒱 c bd arg0 harg0 arg1 harg1 arg2 harg2 arg3 harg3 arg4 harg4 arg5 harg5 arg6 harg6 arg7 harg7 X_arg0 X_arg1 X_arg2 G_arg5 G_arg7 k = pb_k0_t1 (F := F) 𝒱 c bd arg0 harg0 arg1 harg1 arg2 harg2 arg3 harg3 arg4 harg4 arg5 harg5 arg6 harg6 arg7 harg7 X_arg0 X_arg1 X_arg2 G G_arg7 k := by
  induction k with
  | zero => rfl
  | succ k ih =>
    have ih := ih (by omega)
    have a := pb_k0_t1_succ (F := F) 𝒱 c bd arg0 harg0 arg1 harg1 arg2 harg2 arg3 harg3 arg4 harg4 arg5 harg5 arg6 harg6 arg7 harg7 X_arg0 X_arg1 X_arg2 G_arg5 G_arg7 ⟨k, hk⟩
    have b := pb_k0_t1_succ (F := F) 𝒱 c bd arg0 harg0 arg1 harg1 arg2 harg2 arg3 harg3 arg4 harg4 arg5 harg5 arg6 harg6 arg7 harg7 X_arg0 X_arg1 X_arg2 G G_arg7 ⟨k, hk⟩
    refine a.trans (Eq.trans ?_ b.symm)
    rw [ih, trip_output 𝒱 c bd arg0 harg0 arg1 harg1 arg2 harg2 arg3 harg3 arg4 harg4 arg5 harg5 arg6 harg6 arg7 harg7 X_arg0 X_arg1 X_arg2 ⟨k, hk⟩ _ (arg5.view.writes (Elt F) G (pb_k0_t1 (F := F) 𝒱 c bd arg0 harg0 arg1 harg1 arg2 harg2 arg3 harg3 arg4 harg4 arg5 harg5 arg6 harg6 arg7 harg7 X_arg0 X_arg1 X_arg2 G G_arg7 k).1)]

set_option maxHeartbeats 1000000 in
/-- The writes that the body's run leaves in the outputs' buffers, newest first, with the proof that the body runs and leaves them: its inputs stay as they were,
    and outputs and scratch may have held anything. -/
noncomputable def bodyRun (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) :
    Σ' (L5 : List (View.Piece (Elt F) S226x64x226 .f32)), { L6 : List (View.Piece (Elt F) S8x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ d, owns (c : Thread nD τ) arg7 fullShare d)) -∗ K ⟨⟩))
          ⊢ wp frame (wpE (defs₀ (F := F)) Variants.none c none) E (cc0__viz_kernel arg0 harg0 arg1 harg1 arg2 harg2 arg3 harg3 arg4 harg4 arg5 harg5 arg6 harg6 arg7 harg7) K } := by
  refine ⟨?_, ?_, fun E K => ?run⟩
  case run =>
    simp only [cc0__viz_kernel_eq_skeleton]; unfold cc0__viz_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4
    set_option sl_exec.maxSteps 9 in sl_exec
    rw [trips_output (G := arg5.view.junk) (k := Scf.trips k0_t1_loop.lb k0_t1_loop.ub k0_t1_loop.st) (hk := le_of_eq rfl)]
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _, _; isplitr; swap; · iexact HS0
    ipureintro; rfl

end Cert.VizIdeal.Run

end
-- ==== Proof.VizIdealFrame.lean ====
/- The frame of the latent image's program `VizIdeal`: its body meets its obligation at every point, so the launch runs and its arguments stay. -/
module

public import proofs.«01_k».proof.Proof.VizIdealRun
public import Idealize.ShloMosaic.Lib.Claim

@[expose] public section

set_option maxRecDepth 16384

noncomputable section

namespace Cert.VizIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VizIdeal Cert.VizIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The writes of the run fill the whole first output. -/
theorem cover0_A_5 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) (y : S226x64x226.Idx) :
    ∃ pc ∈ (bodyRun c arg0 harg0 arg1 harg1 arg2 harg2 arg3 harg3 arg4 harg4 arg5 harg5 arg6 harg6 arg7 harg7 x0 x1 x2 x3 x4).1, y ∈ pc.1.set :=
  View.cover_of_tiledL (bodyRun c arg0 harg0 arg1 harg1 arg2 harg2 arg3 harg3 arg4 harg4 arg5 harg5 arg6 harg6 arg7 harg7 x0 x1 x2 x3 x4).1 S1x64x226.size (by sl_kernel_rfl) y

/-- What the run leaves in the first output: its writes read back. -/
def out0_A_5 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) : Vec F S226x64x226 .f32 :=
  VO0_5.read (Elt F) (VO0_5.writes (Elt F) VO0_5.junk (bodyRun c arg0 harg0 arg1 harg1 arg2 harg2 arg3 harg3 arg4 harg4 arg5 harg5 arg6 harg6 arg7 harg7 x0 x1 x2 x3 x4).1)

/-- The writes of the run fill the whole second output. -/
theorem cover0_A_6 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) (y : S8x128.Idx) :
    ∃ pc ∈ (bodyRun c arg0 harg0 arg1 harg1 arg2 harg2 arg3 harg3 arg4 harg4 arg5 harg5 arg6 harg6 arg7 harg7 x0 x1 x2 x3 x4).2.1, y ∈ pc.1.set :=
  View.cover_of_tiledL (bodyRun c arg0 harg0 arg1 harg1 arg2 harg2 arg3 harg3 arg4 harg4 arg5 harg5 arg6 harg6 arg7 harg7 x0 x1 x2 x3 x4).2.1 S8x128.size (by sl_kernel_rfl) y

/-- What the run leaves in the second output: its writes read back. -/
def out0_A_6 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) : Vec F S8x128 .f32 :=
  VO0_6.read (Elt F) (VO0_6.writes (Elt F) VO0_6.junk (bodyRun c arg0 harg0 arg1 harg1 arg2 harg2 arg3 harg3 arg4 harg4 arg5 harg5 arg6 harg6 arg7 harg7 x0 x1 x2 x3 x4).2.1)

/-- What the outputs' buffers hold after the body at point `t`. -/
def outsAt0 (c : Dev nD) (t : Fin cfg0.N) : Vec F S226x64x226 .f32 × Vec F S8x128 .f32 :=
  (out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t))

/-- The proof data of the pipeline on core `c`: the arrays as the region finds them; after the body at a point every input's buffer at its block and the
    outputs' at `outsAt0`; the invariant is the scratch buffer's and the generator register's ownership; nothing is owed, and shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The proof data has the arrays as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Every input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: its inputs hold their blocks, so the run applies; scratch buffer and generator register are handed to the body and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_5 out0_A_6; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c _ _ _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _)

/-- The body called at the slots of point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution of the program ends with the arrays as the proof data says and with all counters at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.VizIdeal.Run

end
-- ==== Proof.RouteIdealRun.lean ====
/- One run of the body of the latent image's kernel: what it leaves in its outputs, whatever its outputs and its scratch buffer held before. -/
module

public import proofs.«01_k».proof.Proof.Gen.RouteIdeal.Frame.Runs
public import proofs.«01_k».proof.Proof.Restate

@[expose] public section

set_option maxRecDepth 16384

noncomputable section

namespace Cert.RouteIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RouteIdeal Cert.RouteIdeal.Gen

variable {F : FTy → Type} [FloatOps F]

local notation "𝕄" => MT nD τ sig Unit (Elt F) ℕ (UR sig nD τ) ℕ

/-- What a trip of the loop writes does not depend on what the output held when the trip began. -/
theorem trip_output (𝒱 : Variants) (c : Dev nD) (bd : Option 𝒱.V) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (X_arg0 : BufTy.Contents (Elt F) arg0.view.ty) (X_arg1 : BufTy.Contents (Elt F) arg1.view.ty) (X_arg2 : BufTy.Contents (Elt F) arg2.view.ty) (k : Fin k0_t1_loop.trips) (f f' : BufTy.Contents (Elt F) arg5.view.ty) (g : BufTy.Contents (Elt F) arg7.view.ty) :
    tripL_k0_t1 (F := F) 𝒱 c bd arg0 harg0 arg1 harg1 arg2 harg2 arg3 harg3 arg4 harg4 arg5 harg5 arg6 harg6 arg7 harg7 X_arg0 X_arg1 X_arg2 k f g = tripL_k0_t1 (F := F) 𝒱 c bd arg0 harg0 arg1 harg1 arg2 harg2 arg3 harg3 arg4 harg4 arg5 harg5 arg6 harg6 arg7 harg7 X_arg0 X_arg1 X_arg2 k f' g := by
  unfold tripL_k0_t1 trip_k0_t1
  rfl

/-- What the loop writes in its first trips does not depend on what the output held when the loop began. -/
theorem trips_output (𝒱 : Variants) (c : Dev nD) (bd : Option 𝒱.V) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (X_arg0 : BufTy.Contents (Elt F) arg0.view.ty) (X_arg1 : BufTy.Contents (Elt F) arg1.view.ty) (X_arg2 : BufTy.Contents (Elt F) arg2.view.ty) (G_arg5 : BufTy.Contents (Elt F) arg5.view.ty) (G_arg7 : BufTy.Contents (Elt F) arg7.view.ty) (G : BufTy.Contents (Elt F) arg5.view.ty) (k : ℕ) (hk : k ≤ k0_t1_loop.trips) :
    pb_k0_t1 (F := F) 𝒱 c bd arg0 harg0 arg1 harg1 arg2 harg2 arg3 harg3 arg4 harg4 arg5 harg5 arg6 harg6 arg7 harg7 X_arg0 X_arg1 X_arg2 G_arg5 G_arg7 k = pb_k0_t1 (F := F) 𝒱 c bd arg0 harg0 arg1 harg1 arg2 harg2 arg3 harg3 arg4 harg4 arg5 harg5 arg6 harg6 arg7 harg7 X_arg0 X_arg1 X_arg2 G G_arg7 k := by
  induction k with
  | zero => rfl
  | succ k ih =>
    have ih := ih (by omega)
    have a := pb_k0_t1_succ (F := F) 𝒱 c bd arg0 harg0 arg1 harg1 arg2 harg2 arg3 harg3 arg4 harg4 arg5 harg5 arg6 harg6 arg7 harg7 X_arg0 X_arg1 X_arg2 G_arg5 G_arg7 ⟨k, hk⟩
    have b := pb_k0_t1_succ (F := F) 𝒱 c bd arg0 harg0 arg1 harg1 arg2 harg2 arg3 harg3 arg4 harg4 arg5 harg5 arg6 harg6 arg7 harg7 X_arg0 X_arg1 X_arg2 G G_arg7 ⟨k, hk⟩
    refine a.trans (Eq.trans ?_ b.symm)
    rw [ih, trip_output 𝒱 c bd arg0 harg0 arg1 harg1 arg2 harg2 arg3 harg3 arg4 harg4 arg5 harg5 arg6 harg6 arg7 harg7 X_arg0 X_arg1 X_arg2 ⟨k, hk⟩ _ (arg5.view.writes (Elt F) G (pb_k0_t1 (F := F) 𝒱 c bd arg0 harg0 arg1 harg1 arg2 harg2 arg3 harg3 arg4 harg4 arg5 harg5 arg6 harg6 arg7 harg7 X_arg0 X_arg1 X_arg2 G G_arg7 k).1)]

set_option maxHeartbeats 1000000 in
/-- The writes that the body's run leaves in the outputs' buffers, newest first, with the proof that the body runs and leaves them: its inputs stay as they were,
    and outputs and scratch may have held anything. -/
noncomputable def bodyRun (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) :
    Σ' (L5 : List (View.Piece (Elt F) S226x64x226 .f32)), { L6 : List (View.Piece (Elt F) S8x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ d, owns (c : Thread nD τ) arg7 fullShare d)) -∗ K ⟨⟩))
          ⊢ wp frame (wpE (defs₀ (F := F)) Variants.none c none) E (cc0__viz_kernel arg0 harg0 arg1 harg1 arg2 harg2 arg3 harg3 arg4 harg4 arg5 harg5 arg6 harg6 arg7 harg7) K } := by
  refine ⟨?_, ?_, fun E K => ?run⟩
  case run =>
    simp only [cc0__viz_kernel_eq_skeleton]; unfold cc0__viz_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4
    set_option sl_exec.maxSteps 9 in sl_exec
    rw [trips_output (G := arg5.view.junk) (k := Scf.trips k0_t1_loop.lb k0_t1_loop.ub k0_t1_loop.st) (hk := le_of_eq rfl)]
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _, _; isplitr; swap; · iexact HS0
    ipureintro; rfl

end Cert.RouteIdeal.Run

end
-- ==== Proof.RouteIdealFrame.lean ====
/- The frame of the latent image's program `RouteIdeal`: its body meets its obligation at every point, so the launch runs and its arguments stay. -/
module

public import proofs.«01_k».proof.Proof.RouteIdealRun
public import Idealize.ShloMosaic.Lib.Claim

@[expose] public section

set_option maxRecDepth 16384

noncomputable section

namespace Cert.RouteIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RouteIdeal Cert.RouteIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The writes of the run fill the whole first output. -/
theorem cover0_A_5 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) (y : S226x64x226.Idx) :
    ∃ pc ∈ (bodyRun c arg0 harg0 arg1 harg1 arg2 harg2 arg3 harg3 arg4 harg4 arg5 harg5 arg6 harg6 arg7 harg7 x0 x1 x2 x3 x4).1, y ∈ pc.1.set :=
  View.cover_of_tiledL (bodyRun c arg0 harg0 arg1 harg1 arg2 harg2 arg3 harg3 arg4 harg4 arg5 harg5 arg6 harg6 arg7 harg7 x0 x1 x2 x3 x4).1 S1x64x226.size (by sl_kernel_rfl) y

/-- What the run leaves in the first output: its writes read back. -/
def out0_A_5 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) : Vec F S226x64x226 .f32 :=
  VO0_5.read (Elt F) (VO0_5.writes (Elt F) VO0_5.junk (bodyRun c arg0 harg0 arg1 harg1 arg2 harg2 arg3 harg3 arg4 harg4 arg5 harg5 arg6 harg6 arg7 harg7 x0 x1 x2 x3 x4).1)

/-- The writes of the run fill the whole second output. -/
theorem cover0_A_6 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) (y : S8x128.Idx) :
    ∃ pc ∈ (bodyRun c arg0 harg0 arg1 harg1 arg2 harg2 arg3 harg3 arg4 harg4 arg5 harg5 arg6 harg6 arg7 harg7 x0 x1 x2 x3 x4).2.1, y ∈ pc.1.set :=
  View.cover_of_tiledL (bodyRun c arg0 harg0 arg1 harg1 arg2 harg2 arg3 harg3 arg4 harg4 arg5 harg5 arg6 harg6 arg7 harg7 x0 x1 x2 x3 x4).2.1 S8x128.size (by sl_kernel_rfl) y

/-- What the run leaves in the second output: its writes read back. -/
def out0_A_6 (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 : Vec F S224x64x224 .f32) (x1 : Vec F S224x64x224 .f32) (x2 : Vec F S224x64x224 .f32) (x3 : Vec F S8x64 .f32) (x4 : Vec F S8x1 .f32) : Vec F S8x128 .f32 :=
  VO0_6.read (Elt F) (VO0_6.writes (Elt F) VO0_6.junk (bodyRun c arg0 harg0 arg1 harg1 arg2 harg2 arg3 harg3 arg4 harg4 arg5 harg5 arg6 harg6 arg7 harg7 x0 x1 x2 x3 x4).2.1)

/-- What the outputs' buffers hold after the body at point `t`. -/
def outsAt0 (c : Dev nD) (t : Fin cfg0.N) : Vec F S226x64x226 .f32 × Vec F S8x128 .f32 :=
  (out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t))

/-- The proof data of the pipeline on core `c`: the arrays as the region finds them; after the body at a point every input's buffer at its block and the
    outputs' at `outsAt0`; the invariant is the scratch buffer's and the generator register's ownership; nothing is owed, and shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The proof data has the arrays as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Every input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: its inputs hold their blocks, so the run applies; scratch buffer and generator register are handed to the body and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_5 out0_A_6; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c _ _ _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _)

/-- The body called at the slots of point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution of the program ends with the arrays as the proof data says and with all counters at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.RouteIdeal.Run

end
-- ==== Proof.MoeVIdealRun.lean ====
/- One run of the body of the decoder's kernel: what it leaves in its output, whatever its output and its scratch buffer held before. -/
module

public import proofs.«01_k».proof.Proof.Gen.MoeVIdeal.Frame.Runs
public import proofs.«01_k».proof.Proof.Restate

@[expose] public section

set_option maxRecDepth 16384

noncomputable section

namespace Cert.MoeVIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeVIdeal Cert.MoeVIdeal.Gen

variable {F : FTy → Type} [FloatOps F]

local notation "𝕄" => MT nD τ sig Unit (Elt F) ℕ (UR sig nD τ) ℕ

set_option maxHeartbeats 1000000 in
/-- The writes that the body's run leaves in the output's buffer, newest first, with the proof that the body runs and leaves them: its inputs stay as they were,
    and output and scratch may have held anything. The scratch is restated once the first expert's hidden features fill it, and the output once the first
    expert's image fills it, so that neither is said to depend on what it held before. -/
noncomputable def bodyRun (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (x0 : Vec F S226x64x226 .f32) (x1 : Vec F S3x3x64x192 .f32) (x2 : Vec F S3x3x3x192 .f32) (x3 : Vec F S2 .i32) (x4 : Vec F S2 .f32) (k0_hw1 : k0_chk1 (arg3.view.readAt (Elt F) (Rect.unit (s := S2) ![0] S1.size inb_S2_S1_0).toLoadRect (harg3.unread x3) (Shape.Idx.first (numel1_S1.symm ▸ Nat.one_pos)))) (k0_hw2 : k0_chk2 (arg3.view.readAt (Elt F) (Rect.unit (s := S2) ![1] S1.size inb_S2_S1_1).toLoadRect (harg3.unread x3) (Shape.Idx.first (numel1_S1.symm ▸ Nat.one_pos)))) :
    { L5 : List (View.Piece (Elt F) S226x3x226 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ d, owns (c : Thread nD τ) arg6 fullShare d)) -∗ K ⟨⟩))
          ⊢ wp frame (wpE (defs₀ (F := F)) Variants.none c none) E (cc0__moe_kernel arg0 harg0 arg1 harg1 arg2 harg2 arg3 harg3 arg4 harg4 arg5 harg5 arg6 harg6) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4
    set_option sl_exec.maxSteps 16 in sl_exec (disch := first | sl_exact k0_hw1 | sl_exact k0_hw2)
    refine Restate.hide fun Q hQ => ?_
    sl_exec
    subst hQ
    rw [Restate.restate harg6 fs0]; swap
    · exact fun y => View.cover_of_tiledL (s := S226x64x226) _ S1x64x226.size (by sl_kernel_rfl) y
    set_option sl_exec.maxSteps 1 in sl_exec (disch := first | sl_exact k0_hw1 | sl_exact k0_hw2)
    rw [Restate.restate harg5 f5]; swap
    · exact fun y => View.cover_of_tiledL (s := S226x3x226) _ S1x3x226.size (by sl_kernel_rfl) y
    sl_exec (disch := first | sl_exact k0_hw1 | sl_exact k0_hw2)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _, _; isplitr; swap; · iexact HS0
    ipureintro; rfl

end Cert.MoeVIdeal.Run

end
-- ==== Proof.MoeVIdealFrame.lean ====
/- The frame of the decoder program `MoeVIdeal`: its body meets its obligation at every point, so the launch runs and its arguments stay. -/
module

public import proofs.«01_k».proof.Proof.MoeVIdealRun
public import Idealize.ShloMosaic.Lib.Claim

@[expose] public section

set_option maxRecDepth 16384

noncomputable section

namespace Cert.MoeVIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeVIdeal Cert.MoeVIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The writes of the run fill the whole output. -/
theorem cover0_A_5 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (x0 : Vec F S226x64x226 .f32) (x1 : Vec F S3x3x64x192 .f32) (x2 : Vec F S3x3x3x192 .f32) (x3 : Vec F S2 .i32) (x4 : Vec F S2 .f32) (k0_hw1 : k0_chk1 (arg3.view.readAt (Elt F) (Rect.unit (s := S2) ![0] S1.size inb_S2_S1_0).toLoadRect (harg3.unread x3) (Shape.Idx.first (numel1_S1.symm ▸ Nat.one_pos)))) (k0_hw2 : k0_chk2 (arg3.view.readAt (Elt F) (Rect.unit (s := S2) ![1] S1.size inb_S2_S1_1).toLoadRect (harg3.unread x3) (Shape.Idx.first (numel1_S1.symm ▸ Nat.one_pos)))) (y : S226x3x226.Idx) :
    ∃ pc ∈ (bodyRun c arg0 harg0 arg1 harg1 arg2 harg2 arg3 harg3 arg4 harg4 arg5 harg5 arg6 harg6 x0 x1 x2 x3 x4 k0_hw1 k0_hw2).1, y ∈ pc.1.set :=
  View.cover_of_tiledL (bodyRun c arg0 harg0 arg1 harg1 arg2 harg2 arg3 harg3 arg4 harg4 arg5 harg5 arg6 harg6 x0 x1 x2 x3 x4 k0_hw1 k0_hw2).1 S1x3x226.size (by sl_kernel_rfl) y

/-- What the run leaves in the output: its writes read back. -/
def out0_A_5 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (x0 : Vec F S226x64x226 .f32) (x1 : Vec F S3x3x64x192 .f32) (x2 : Vec F S3x3x3x192 .f32) (x3 : Vec F S2 .i32) (x4 : Vec F S2 .f32) (k0_hw1 : k0_chk1 (arg3.view.readAt (Elt F) (Rect.unit (s := S2) ![0] S1.size inb_S2_S1_0).toLoadRect (harg3.unread x3) (Shape.Idx.first (numel1_S1.symm ▸ Nat.one_pos)))) (k0_hw2 : k0_chk2 (arg3.view.readAt (Elt F) (Rect.unit (s := S2) ![1] S1.size inb_S2_S1_1).toLoadRect (harg3.unread x3) (Shape.Idx.first (numel1_S1.symm ▸ Nat.one_pos)))) : Vec F S226x3x226 .f32 :=
  VO0_5.read (Elt F) (VO0_5.writes (Elt F) VO0_5.junk (bodyRun c arg0 harg0 arg1 harg1 arg2 harg2 arg3 harg3 arg4 harg4 arg5 harg5 arg6 harg6 x0 x1 x2 x3 x4 k0_hw1 k0_hw2).1)

/-- What the output's buffer holds after the body at point `t`. -/
def outsAt0 (hH : Hyps m) (c : Dev nD) (t : Fin cfg0.N) : Vec F S226x3x226 .f32 :=
  out0_A_5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (Hyps.c0 hH c t) (Hyps.c1 hH c t)

/-- The proof data of the pipeline on core `c`: the arrays as the region finds them; after the body at a point every input's buffer at its block and the
    output's at `outsAt0`; the invariant is the scratch buffer's and the generator register's ownership; nothing is owed, and shares are full. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m hH c t)
  Φ _ := Pipeline.ΦA spec0 c
  q _ := fullShare
  owed _ := 0

/-- The proof data has the arrays as the region finds them. -/
theorem A_eq (hH : Hyps m) (c : Dev nD) (w : Fin cfg0.W) : (dats m hH 0 c).A w = V m c (Pipeline.arrRef spec0 w) := by
  dsimp only [dats]

/-- What the body leaves, window by window. -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = (outsAt0 m hH c t) := by dsimp only [dats]

/-- Every input's buffer holds its block before the body. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d

/-- What the body is called with at point `t`, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t))

/-- The body at any point: its inputs hold their blocks, so the run applies; scratch buffer and generator register are handed to the body and taken back. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  rw [show (dats m hH 0 c).Φ t.castSucc = Pipeline.ΦA spec0 c from rfl, PhiA0_eq]
  unfold outsAt0
  unfold out0_A_5
  iintro ⟨⟨HS0, Hg⟩, Ho, ⟨%d0, H0⟩, ⟨%d1, H1⟩, ⟨%d2, H2⟩, ⟨%d3, H3⟩, ⟨%d4, H4⟩, ⟨%d5, H5⟩⟩
  iapply ((bodyRun c _ _ _ _ _ _ _ _ _ _ _ _ _ _ (iblk m c 0 t) (iblk m c 1 t) (iblk m c 2 t) (iblk m c 3 t) (iblk m c 4 t) (Hyps.c0 hH c t) (Hyps.c1 hH c t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _)

/-- The body called at the slots of point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

set_option backward.isDefEq.respectTransparency.types false in
set_option maxHeartbeats 800000 in
/-- The launch: every execution of the program ends with the arrays as the proof data says and with all counters at zero. -/
theorem run_main_quiescent (hH : Hyps m) : θ_run defs (onTc (τ := τ) (main (F := F))) (s₀ m ρ) (fun r => (Pipeline.FramePost cfgs (dats m hH) 0 (Pipeline.afterTail₀ cfgs (dats m hH) 0 (V0 m) [hostOps1])) r ∧ r.2.sem = fun _ => 0) :=
  Pipeline.θ_run_frame_around (Q' := _) cfgs (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hΦ := fun _ _ => rfl)

/-- The launch without the counters. -/
theorem run_main (hH : Hyps m) : θ_run defs (onTc (τ := τ) (main (F := F))) (s₀ m ρ) (Pipeline.FramePost cfgs (dats m hH) 0 (Pipeline.afterTail₀ cfgs (dats m hH) 0 (V0 m) [hostOps1])) :=
  (θ_run defs _ _).mono (fun _ h => h.1) (run_main_quiescent m ρ hH)

/-- The argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hH) (A_eq m hH) (run_main m ρ hH)

/-- The frame: the argument arrays end unchanged, and all counters at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.MoeVIdeal.Run

end
-- ==== Proof.MoeIIdealRun.lean ====
/- One run of the body of the decoder's kernel: what it leaves in its output, whatever its output and its scratch buffer held before. -/
module

public import proofs.«01_k».proof.Proof.Gen.MoeIIdeal.Frame.Runs
public import proofs.«01_k».proof.Proof.Restate

@[expose] public section

set_option maxRecDepth 16384

noncomputable section

namespace Cert.MoeIIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIIdeal Cert.MoeIIdeal.Gen

variable {F : FTy → Type} [FloatOps F]

local notation "𝕄" => MT nD τ sig Unit (Elt F) ℕ (UR sig nD τ) ℕ

set_option maxHeartbeats 1000000 in
/-- The writes that the body's run leaves in the output's buffer, newest first, with the proof that the body runs and leaves them: its inputs stay as they were,
    and output and scratch may have held anything. The scratch is restated once the first expert's hidden features fill it, and the output once the first
    expert's image fills it, so that neither is said to depend on what it held before. -/
noncomputable def bodyRun (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (x0 : Vec F S226x64x226 .f32) (x1 : Vec F S3x3x64x192 .f32) (x2 : Vec F S3x3x1x192 .f32) (x3 : Vec F S2 .i32) (x4 : Vec F S2 .f32) (k0_hw1 : k0_chk1 (arg3.view.readAt (Elt F) (Rect.unit (s := S2) ![0] S1.size inb_S2_S1_0).toLoadRect (harg3.unread x3) (Shape.Idx.first (numel1_S1.symm ▸ Nat.one_pos)))) (k0_hw2 : k0_chk2 (arg3.view.readAt (Elt F) (Rect.unit (s := S2) ![1] S1.size inb_S2_S1_1).toLoadRect (harg3.unread x3) (Shape.Idx.first (numel1_S1.symm ▸ Nat.one_pos)))) :
    { L5 : List (View.Piece (Elt F) S226x1x226 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ d, owns (c : Thread nD τ) arg6 fullShare d)) -∗ K ⟨⟩))
          ⊢ wp frame (wpE (defs₀ (F := F)) Variants.none c none) E (cc0__moe_kernel arg0 harg0 arg1 harg1 arg2 harg2 arg3 harg3 arg4 harg4 arg5 harg5 arg6 harg6) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4
    set_option sl_exec.maxSteps 16 in sl_exec (disch := first | sl_exact k0_hw1 | sl_exact k0_hw2)
    refine Restate.hide fun Q hQ => ?_
    sl_exec
    subst hQ
    rw [Restate.restate harg6 fs0]; swap
    · exact fun y => View.cover_of_tiledL (s := S226x64x226) _ S1x64x226.size (by sl_kernel_rfl) y
    set_option sl_exec.maxSteps 1 in sl_exec (disch := first | sl_exact k0_hw1 | sl_exact k0_hw2)
    rw [Restate.restate harg5 f5]; swap
    · exact fun y => View.cover_of_tiledL (s := S226x1x226) _ S1x1x226.size (by sl_kernel_rfl) y
    sl_exec (disch := first | sl_exact k0_hw1 | sl_exact k0_hw2)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _, _; isplitr; swap; · iexact HS0
    ipureintro; rfl

end Cert.MoeIIdeal.Run

end
-- ==== Proof.MoeIIdealFrame.lean ====
/- The frame of the decoder program `MoeIIdeal`: its body meets its obligation at every point, so the launch runs and its arguments stay. -/
module

public import proofs.«01_k».proof.Proof.MoeIIdealRun
public import Idealize.ShloMosaic.Lib.Claim

@[expose] public section

set_option maxRecDepth 16384

noncomputable section

namespace Cert.MoeIIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeIIdeal Cert.MoeIIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The writes of the run fill the whole output. -/
theorem cover0_A_5 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (x0 : Vec F S226x64x226 .f32) (x1 : Vec F S3x3x64x192 .f32) (x2 : Vec F S3x3x1x192 .f32) (x3 : Vec F S2 .i32) (x4 : Vec F S2 .f32) (k0_hw1 : k0_chk1 (arg3.view.readAt (Elt F) (Rect.unit (s := S2) ![0] S1.size inb_S2_S1_0).toLoadRect (harg3.unread x3) (Shape.Idx.first (numel1_S1.symm ▸ Nat.one_pos)))) (k0_hw2 : k0_chk2 (arg3.view.readAt (Elt F) (Rect.unit (s := S2) ![1] S1.size inb_S2_S1_1).toLoadRect (harg3.unread x3) (Shape.Idx.first (numel1_S1.symm ▸ Nat.one_pos)))) (y : S226x1x226.Idx) :
    ∃ pc ∈ (bodyRun c arg0 harg0 arg1 harg1 arg2 harg2 arg3 harg3 arg4 harg4 arg5 harg5 arg6 harg6 x0 x1 x2 x3 x4 k0_hw1 k0_hw2).1, y ∈ pc.1.set :=
  View.cover_of_tiledL (bodyRun c arg0 harg0 arg1 harg1 arg2 harg2 arg3 harg3 arg4 harg4 arg5 harg5 arg6 harg6 x0 x1 x2 x3 x4 k0_hw1 k0_hw2).1 S1x1x226.size (by sl_kernel_rfl) y

/-- What the run leaves in the output: its writes read back. -/
def out0_A_5 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (x0 : Vec F S226x64x226 .f32) (x1 : Vec F S3x3x64x192 .f32) (x2 : Vec F S3x3x1x192 .f32) (x3 : Vec F S2 .i32) (x4 : Vec F S2 .f32) (k0_hw1 : k0_chk1 (arg3.view.readAt (Elt F) (Rect.unit (s := S2) ![0] S1.size inb_S2_S1_0).toLoadRect (harg3.unread x3) (Shape.Idx.first (numel1_S1.symm ▸ Nat.one_pos)))) (k0_hw2 : k0_chk2 (arg3.view.readAt (Elt F) (Rect.unit (s := S2) ![1] S1.size inb_S2_S1_1).toLoadRect (harg3.unread x3) (Shape.Idx.first (numel1_S1.symm ▸ Nat.one_pos)))) : Vec F S226x1x226 .f32 :=
  VO0_5.read (Elt F) (VO0_5.writes (Elt F) VO0_5.junk (bodyRun c arg0 harg0 arg1 harg1 arg2 harg2 arg3 harg3 arg4 harg4 arg5 harg5 arg6 harg6 x0 x1 x2 x3 x4 k0_hw1 k0_hw2).1)

/-- What the output's buffer holds after the body at point `t`. -/
def outsAt0 (hH : Hyps m) (c : Dev nD) (t : Fin cfg0.N) : Vec F S226x1x226 .f32 :=
  out0_A_5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (Hyps.c0 hH c t) (Hyps.c1 hH c t)

/-- The proof data of the pipeline on core `c`: the arrays as the region finds them; after the body at a point every input's buffer at its block and the
    output's at `outsAt0`; the invariant is the scratch buffer's and the generator register's ownership; nothing is owed, and shares are full. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m hH c t)
  Φ _ := Pipeline.ΦA spec0 c
  q _ := fullShare
  owed _ := 0

/-- The proof data has the arrays as the region finds them. -/
theorem A_eq (hH : Hyps m) (c : Dev nD) (w : Fin cfg0.W) : (dats m hH 0 c).A w = V m c (Pipeline.arrRef spec0 w) := by
  dsimp only [dats]

/-- What the body leaves, window by window. -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = (outsAt0 m hH c t) := by dsimp only [dats]

/-- Every input's buffer holds its block before the body. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d

/-- What the body is called with at point `t`, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t))

/-- The body at any point: its inputs hold their blocks, so the run applies; scratch buffer and generator register are handed to the body and taken back. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5]
  rw [show (dats m hH 0 c).Φ t.castSucc = Pipeline.ΦA spec0 c from rfl, PhiA0_eq]
  unfold outsAt0
  unfold out0_A_5
  iintro ⟨⟨HS0, Hg⟩, Ho, ⟨%d0, H0⟩, ⟨%d1, H1⟩, ⟨%d2, H2⟩, ⟨%d3, H3⟩, ⟨%d4, H4⟩, ⟨%d5, H5⟩⟩
  iapply ((bodyRun c _ _ _ _ _ _ _ _ _ _ _ _ _ _ (iblk m c 0 t) (iblk m c 1 t) (iblk m c 2 t) (iblk m c 3 t) (iblk m c 4 t) (Hyps.c0 hH c t) (Hyps.c1 hH c t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _)

/-- The body called at the slots of point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

set_option backward.isDefEq.respectTransparency.types false in
set_option maxHeartbeats 800000 in
/-- The launch: every execution of the program ends with the arrays as the proof data says and with all counters at zero. -/
theorem run_main_quiescent (hH : Hyps m) : θ_run defs (onTc (τ := τ) (main (F := F))) (s₀ m ρ) (fun r => (Pipeline.FramePost cfgs (dats m hH) 0 (Pipeline.afterTail₀ cfgs (dats m hH) 0 (V0 m) [hostOps1])) r ∧ r.2.sem = fun _ => 0) :=
  Pipeline.θ_run_frame_around (Q' := _) cfgs (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hΦ := fun _ _ => rfl)

/-- The launch without the counters. -/
theorem run_main (hH : Hyps m) : θ_run defs (onTc (τ := τ) (main (F := F))) (s₀ m ρ) (Pipeline.FramePost cfgs (dats m hH) 0 (Pipeline.afterTail₀ cfgs (dats m hH) 0 (V0 m) [hostOps1])) :=
  (θ_run defs _ _).mono (fun _ h => h.1) (run_main_quiescent m ρ hH)

/-- The argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hH) (A_eq m hH) (run_main m ρ hH)

/-- The frame: the argument arrays end unchanged, and all counters at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hH) ((θ_run defs _ _).mono (fun _ h => h.2) (run_main_quiescent m ρ hH))

end Cert.MoeIIdeal.Run

end
-- ==== Proof.Math.lean ====
/- The mathematics of the convolutions, on images written as functions of a channel, a row and a column. -/
module

public import Idealize.ShloMosaic.Lib.Pointwise
public import Idealize.ShloMosaic.Lib.Pipeline.ValueKit

@[expose] public section

set_option maxRecDepth 16384

noncomputable section

namespace Cert.Math

open Idealize.ShloMosaic Idealize.ShloMosaic.TcCoe Idealize.SL.Sem

/-- An image of `C` channels, with 224 rows and 224 columns. -/
abbrev Img (C : ℕ) := Fin C → Fin 224 → Fin 224 → EReal

/-- The taps of a 3×3 convolution: output channel, input channel, row, column. -/
abbrev Ker (O C : ℕ) := Fin O → Fin C → Fin 3 → Fin 3 → EReal

variable {C O : ℕ}

/-- The image extended by zeros: row `r` and column `s` of the extended image are row `r - 1` and column `s - 1` of the image. -/
def padAt (X : Img C) (c : Fin C) (r s : ℕ) : EReal :=
  if h : (1 ≤ r ∧ r ≤ 224) ∧ 1 ≤ s ∧ s ≤ 224 then X c ⟨r - 1, by omega⟩ ⟨s - 1, by omega⟩ else 0

/-- The 3×3 convolution of an image extended by zeros. -/
def conv (w : Ker O C) (X : Img C) : Img O := fun o y x =>
  ∑ dy : Fin 3, ∑ dx : Fin 3, ∑ c : Fin C, w o c dy dx * padAt X c (y.val + dy.val) (x.val + dx.val)

/-- The image with its negative values replaced by zero. -/
def relu (X : Img C) : Img C := fun c y x => max (X c y x) 0

/-- The 1×1 convolution. -/
def point (w : Fin O → Fin C → EReal) (X : Img C) : Img O := fun o y x => ∑ c : Fin C, w o c * X c y x

/-- Inside, the extended image is the image. -/
theorem padAt_in (X : Img C) (c : Fin C) {r s : ℕ} (hr : r < 224) (hs : s < 224) :
    padAt X c (r + 1) (s + 1) = X c ⟨r, hr⟩ ⟨s, hs⟩ := by
  unfold padAt
  rw [dif_pos (by omega)]
  rfl

/-- On the border, the extended image is zero. -/
theorem padAt_out (X : Img C) (c : Fin C) {r s : ℕ} (h : r = 0 ∨ 224 < r ∨ s = 0 ∨ 224 < s) : padAt X c r s = 0 := by
  unfold padAt
  rw [dif_neg (by omega)]

/-- A test for the border, as the host's padding makes it. -/
theorem dite_padAt (X : Img C) (c : Fin C) {r s : ℕ} {f : (1 ≤ r ∧ r - 1 < 224) ∧ 1 ≤ s ∧ s - 1 < 224 → EReal}
    (hf : ∀ h, f h = X c ⟨r - 1, h.1.2⟩ ⟨s - 1, h.2.2⟩) : (if h : (1 ≤ r ∧ r - 1 < 224) ∧ 1 ≤ s ∧ s - 1 < 224 then f h else 0) = padAt X c r s := by
  unfold padAt
  split_ifs with h1 h2 h2
  · exact hf h1
  · omega
  · omega
  · rfl

/-- A convolution summed over columns of taps first, each a single sum over the pairs of a row of taps and a channel. -/
theorem conv_rows (w : Ker O C) (X : Img C) (o : Fin O) (y x : Fin 224) :
    conv w X o y x = ∑ dx : Fin 3, ∑ dy : Fin 3, ∑ c : Fin C, w o c dy dx * padAt X c (y.val + dy.val) (x.val + dx.val) :=
  Finset.sum_comm

/-- A convolution at one position as the sum of its nine taps, in reading order. -/
theorem conv_sum (w : Ker O C) (X : Img C) (o : Fin O) {y x : ℕ} (hy : y < 224) (hx : x < 224) :
    ∑ c, w o c 0 0 * padAt X c y x + ∑ c, w o c 0 1 * padAt X c y (1 + x) + ∑ c, w o c 0 2 * padAt X c y (2 + x)
      + ∑ c, w o c 1 0 * padAt X c (1 + y) x + ∑ c, w o c 1 1 * padAt X c (1 + y) (1 + x) + ∑ c, w o c 1 2 * padAt X c (1 + y) (2 + x)
      + ∑ c, w o c 2 0 * padAt X c (2 + y) x + ∑ c, w o c 2 1 * padAt X c (2 + y) (1 + x) + ∑ c, w o c 2 2 * padAt X c (2 + y) (2 + x)
      = conv w X o ⟨y, hy⟩ ⟨x, hx⟩ := by
  simp only [conv, Fin.sum_univ_three, add_assoc, Nat.add_comm 1, Nat.add_comm 2]
  rfl

/-- A sum over the pairs of a row of taps and a channel, the pairs numbered row by row. -/
theorem sum_pairs {n : ℕ} (hn : 3 * C = n) (f : Fin n → EReal) (g : Fin 3 → Fin C → EReal)
    (h : ∀ (d : Fin 3) (c : Fin C) (hb : d.val * C + c.val < n), f ⟨d.val * C + c.val, hb⟩ = g d c) :
    ∑ j, f j = ∑ d, ∑ c, g d c := by
  subst hn
  rw [Fin.sum_univ_tiles 3 C rfl f]
  exact Finset.sum_congr rfl fun d _ => Finset.sum_congr rfl fun c _ => h d c _

/-- The three sums that a row of a convolution is computed by, one for each column of taps. -/
theorem conv_cols (w : Ker O C) (X : Img C) (o : Fin O) (y x : Fin 224) {f0 f1 f2 : EReal}
    (h0 : f0 = ∑ dy : Fin 3, ∑ c : Fin C, w o c dy 0 * padAt X c (y.val + dy.val) x.val)
    (h1 : f1 = ∑ dy : Fin 3, ∑ c : Fin C, w o c dy 1 * padAt X c (y.val + dy.val) (x.val + 1))
    (h2 : f2 = ∑ dy : Fin 3, ∑ c : Fin C, w o c dy 2 * padAt X c (y.val + dy.val) (x.val + 2)) :
    f0 + f1 + f2 = conv w X o y x := by
  rw [conv_rows, Fin.sum_univ_three, h0, h1, h2]
  rfl

/-- The image at a row and a column given as numbers, zero outside. -/
def at0 (X : Img C) (c : Fin C) (r s : ℕ) : EReal := if h : r < 224 ∧ s < 224 then X c ⟨r, h.1⟩ ⟨s, h.2⟩ else 0

/-- At a row and a column of the image, that is the image. -/
theorem at0_fin (X : Img C) (c : Fin C) (y x : Fin 224) : at0 X c y.val x.val = X c y x := dif_pos ⟨y.isLt, x.isLt⟩

/-- The logarithm of `1 + exp x`, computed without overflow. -/
def softplus (x : EReal) : EReal := max x 0 + Ideal.log1p (Ideal.exp (-FloatOps.absf (F := Ideal) (φ := .f32) x))

/-- The variance of a raw output: its softplus and the smallest variance allowed. -/
def variance (x : EReal) : EReal := softplus x + Ideal.ofBits .f32 0x358637BD#32

/-- The whole number zero, as a real number. -/
theorem sitofp_zero : (FloatOps.sitofp FTy.f32 0#32 : Ideal .f32) = (0 : EReal) := by
  show (((0#32).toInt : ℝ) : EReal) = 0
  simp

/-- An image of fewer channels given zero channels up to `C`. -/
def padChan {K : ℕ} (C : ℕ) (X : Img K) : Img C := fun c y x => if h : c.val < K then X ⟨c.val, h⟩ y x else 0

/-- The taps of fewer input channels given zero taps up to `C` input channels. -/
def padKer {K : ℕ} (C : ℕ) (w : Ker O K) : Ker O C := fun o c dy dx => if h : c.val < K then w o ⟨c.val, h⟩ dy dx else 0

/-- Zero channels with zero taps add nothing to a convolution. -/
theorem conv_padChan {K : ℕ} (hK : K ≤ C) (w : Ker O K) (X : Img K) : conv (padKer C w) (padChan C X) = conv w X := by
  funext o y x
  unfold conv
  refine Finset.sum_congr rfl fun dy _ => Finset.sum_congr rfl fun dx _ => ?_
  obtain ⟨d, rfl⟩ := Nat.exists_eq_add_of_le hK
  rw [Fin.sum_univ_add]
  have h0 : ∀ i : Fin d, padKer (K + d) w o (Fin.natAdd K i) dy dx * padAt (padChan (K + d) X) (Fin.natAdd K i) (y.val + dy.val) (x.val + dx.val) = 0 := by
    intro i
    rw [show padKer (K + d) w o (Fin.natAdd K i) dy dx = 0 from dif_neg (by simp), zero_mul]
  rw [Finset.sum_eq_zero fun i _ => h0 i, add_zero]
  refine Finset.sum_congr rfl fun c _ => ?_
  have hw : padKer (K + d) w o (Fin.castAdd d c) dy dx = w o c dy dx := dif_pos c.isLt
  have hx : padAt (padChan (K + d) X) (Fin.castAdd d c) (y.val + dy.val) (x.val + dx.val) = padAt X c (y.val + dy.val) (x.val + dx.val) := by
    unfold padAt
    split
    · exact dif_pos c.isLt
    · rfl
  rw [hw, hx]

end Cert.Math

end
-- ==== Proof.Rows.lean ====
/- Reading and writing the rows of a buffer `[row, channel, column]`, for any kernel. -/
module

public import proofs.«01_k».proof.Proof.Math
public import Idealize.ShloMosaic.Lib.Pipeline.FrameBody
public import Idealize.ShloMosaic.Lib.Pipeline.Value

@[expose] public section

set_option maxRecDepth 16384

noncomputable section

namespace Cert.Rows

open Idealize.ShloMosaic Idealize.SL.Sem Cert.Math

variable {R C S : ℕ}

/-- The contents of a buffer `[row, channel, column]` that holds `Y channel row column`. -/
def holds (Y : Fin C → ℕ → ℕ → EReal) : (⟨3, ![R, C, S]⟩ : Shape).Idx → EReal :=
  fun y => Y (y 1) (y 0).val (y 2).val

/-- A buffer that holds an image without a border, read at a position of the image. -/
theorem holds_at0 (X : Img C) (y : Fin 224) (o : Fin C) (x : Fin 224) :
    holds (R := 224) (S := 224) (at0 X) (ix3 y o x) = X o y x := at0_fin X o y x

/-- A piece agrees with the contents `G` when its payload at each of its indices is `G` at the index it is written to. -/
abbrev Agree {s : Shape} (G : s.Idx → EReal) (p : View.Piece (Elt Ideal) s .f32) : Prop :=
  ∀ x : p.1.shape.Idx, p.2 x = G (p.1.emb x)

/-- Writing one row: it agrees with `holds Y` when the row written at row `r` is row `r` of `Y`. -/
theorem agree_row (Y : Fin C → ℕ → ℕ → EReal) (r : ℕ) {off : Fin 3 → ℕ} (hoff : off = ![r, 0, 0])
    (inb : ∀ a, off a + (![1, C, S] : Fin 3 → ℕ) a ≤ (⟨3, ![R, C, S]⟩ : Shape).size a)
    (pay : (⟨3, ![1, C, S]⟩ : Shape).Idx → EReal) (h : ∀ (o : Fin C) (s : Fin S), pay (ix3 0 o s) = Y o r s.val) :
    Agree (holds Y) (⟨Rect.unit (s := ⟨3, ![R, C, S]⟩) off ![1, C, S] inb, pay⟩ : View.Piece (Elt Ideal) ⟨3, ![R, C, S]⟩ .f32) := by
  subst hoff
  intro x
  obtain ⟨a, o, s, rfl⟩ : ∃ (a : Fin 1) (o : Fin C) (s : Fin S), x = ix3 a o s := ⟨x 0, x 1, x 2, eq_ix3 x⟩
  obtain rfl : a = 0 := Subsingleton.elim _ _
  refine (h o s).trans ?_
  unfold holds
  congr 1
  · exact Fin.ext (by show o.val = 0 + 1 * o.val; omega)
  · show s.val = 0 + 1 * s.val; omega

/-- Writing rows one after another: the pieces of all trips agree when those of each trip do. -/
theorem agree_trips {s : Shape} (G : s.Idx → EReal) {n : ℕ} (pb : ℕ → List (View.Piece (Elt Ideal) s .f32))
    (tr : Fin n → List (View.Piece (Elt Ideal) s .f32)) (h0 : pb 0 = []) (hs : ∀ k : Fin n, pb (k.val + 1) = tr k ++ pb k.val)
    (ht : ∀ k, ∀ p ∈ tr k, Agree G p) : ∀ k ≤ n, ∀ p ∈ pb k, Agree G p
  | 0, _, p, hp => by rw [h0] at hp; simp at hp
  | k + 1, hk, p, hp => by
    rw [hs ⟨k, hk⟩] at hp
    rcases List.mem_append.mp hp with hp | hp
    · exact ht _ p hp
    · exact agree_trips G pb tr h0 hs ht k (by omega) p hp

/-- Reading `K` rows from row `r` on, of each the `T` columns from column `q` on. -/
theorem ld_rows {K T : ℕ} (X : (⟨3, ![R, C, S]⟩ : Shape).Idx → EReal) (r q : ℕ) {off : Fin 3 → ℕ} (hoff : off = ![r, 0, q])
    (inb : ∀ a, off a + (![K, C, T] : Fin 3 → ℕ) a ≤ (⟨3, ![R, C, S]⟩ : Shape).size a) (d : Fin K) (c : Fin C) (s : Fin T)
    (hr : r + d.val < R) (hs : q + s.val < S) :
    View.ld (Val := Elt Ideal) (e' := .f32) X (Rect.unit (s := ⟨3, ![R, C, S]⟩) off ![K, C, T] inb) (ix3 d c s)
      = X (ix3 ⟨r + d.val, hr⟩ c ⟨q + s.val, hs⟩) := by
  subst hoff
  refine congrArg X ?_
  funext a
  match a with
  | 0 => exact Fin.ext (by show r + 1 * d.val = r + d.val; omega)
  | 1 => exact Fin.ext (by show 0 + 1 * c.val = c.val; omega)
  | 2 => exact Fin.ext (by show q + 1 * s.val = q + s.val; omega)

/-- Reading one whole row of taps. -/
theorem ld_tap (X : (⟨3, ![R, C, S]⟩ : Shape).Idx → EReal) (r : Fin R) {off : Fin 3 → ℕ} (hoff : off = ![r.val, 0, 0])
    (inb : ∀ a, off a + (![1, C, S] : Fin 3 → ℕ) a ≤ (⟨3, ![R, C, S]⟩ : Shape).size a) (c : Fin C) (s : Fin S) :
    View.ld (Val := Elt Ideal) (e' := .f32) X (Rect.unit (s := ⟨3, ![R, C, S]⟩) off ![1, C, S] inb) (ix3 0 c s) = X (ix3 r c s) := by
  rw [ld_rows X r.val 0 hoff inb 0 c s (by have := r.isLt; simpa using this) (by have := s.isLt; omega)]
  congr 2
  exact Fin.ext (Nat.zero_add _)

/-- Reading `K` rows of a buffer that holds `Y`. -/
theorem ld_holds {K T : ℕ} (Y : Fin C → ℕ → ℕ → EReal) (X : (⟨3, ![R, C, S]⟩ : Shape).Idx → EReal)
    (hX : ∀ (r : Fin R) (c : Fin C) (s : Fin S), X (ix3 r c s) = Y c r.val s.val) (r q : ℕ) {off : Fin 3 → ℕ} (hoff : off = ![r, 0, q])
    (inb : ∀ a, off a + (![K, C, T] : Fin 3 → ℕ) a ≤ (⟨3, ![R, C, S]⟩ : Shape).size a) (d : Fin K) (c : Fin C) (s : Fin T) :
    View.ld (Val := Elt Ideal) (e' := .f32) X (Rect.unit (s := ⟨3, ![R, C, S]⟩) off ![K, C, T] inb) (ix3 d c s) = Y c (r + d.val) (q + s.val) := by
  have h0 := inb 0
  have h2 := inb 2
  subst hoff
  have h0 : r + K ≤ R := h0
  have h2 : q + T ≤ S := h2
  rw [ld_rows X r q rfl inb d c s (by omega) (by omega), hX]

/-- Reading the whole of a matrix. -/
theorem ld_matrix {A B : ℕ} (X : (⟨2, ![A, B]⟩ : Shape).Idx → EReal) (inb : ∀ a, (![0, 0] : Fin 2 → ℕ) a + (![A, B] : Fin 2 → ℕ) a ≤ (⟨2, ![A, B]⟩ : Shape).size a)
    (i : Fin A) (j : Fin B) :
    View.ld (Val := Elt Ideal) (e' := .f32) X (Rect.unit (s := ⟨2, ![A, B]⟩) ![0, 0] ![A, B] inb) (ix2 i j) = X (ix2 i j) := by
  refine congrArg X ?_
  funext a
  match a with
  | 0 => exact Fin.ext (by show 0 + 1 * i.val = i.val; omega)
  | 1 => exact Fin.ext (by show 0 + 1 * j.val = j.val; omega)

/-- What is read back of a whole buffer that holds `X` is what is read of `X`. -/
theorem readAt_unread {sig : RefSig} {κ : Kind} {sp : Space} {s : Shape} {m : Memref sig κ sp s .f32} (h : m.IsWhole)
    (X : s.Idx → EReal) (B : Rect s) :
    View.readAt (Elt Ideal) m.view B.toLoadRect (h.unread (Val := Elt Ideal) X) = View.ld (Val := Elt Ideal) (e' := .f32) X B := by
  rw [View.readAt_eq_ld, h.read_unread]

end Cert.Rows

end
-- ==== Proof.EncRow.lean ====
/- The rows that the kernels of the encoder compute, as rows of convolutions. -/
module

public import proofs.«01_k».proof.Proof.Gen.EncVIdeal.Skeleton
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.EncVIdeal.Row

open Cert.EncVIdeal Cert.EncVIdeal.Gen Cert.Math Cert.Rows

/-- The row the kernel computes from three rows of 8 channels and the three columns of taps is the row of the convolution, its negative values
    replaced by zero, with a zero on either side. -/
theorem row8 (P : Vec Ideal S3x8x226 .f32) (w0 w1 w2 : Vec Ideal S1x64x24 .f32) (W : Ker 64 8) (X : Img 8) (y : Fin 224)
    (hP : ∀ (d : Fin 3) (c : Fin 8) (s : Fin 226), P (ix3 d c s) = padAt X c (y.val + d.val) (0 + s.val))
    (h0 : ∀ (o : Fin 64) (d : Fin 3) (c : Fin 8) (h : d.val * 8 + c.val < 24), w0 (ix3 0 o ⟨d.val * 8 + c.val, h⟩) = W o c d 0)
    (h1 : ∀ (o : Fin 64) (d : Fin 3) (c : Fin 8) (h : d.val * 8 + c.val < 24), w1 (ix3 0 o ⟨d.val * 8 + c.val, h⟩) = W o c d 1)
    (h2 : ∀ (o : Fin 64) (d : Fin 3) (c : Fin 8) (h : d.val * 8 + c.val < 24), w2 (ix3 0 o ⟨d.val * 8 + c.val, h⟩) = W o c d 2)
    (o : Fin 64) (s : Fin 226) :
    k0_pay3 (F := Ideal) P w0 w1 w2 (ix3 0 o s) = padAt (relu (conv W X)) o (y.val + 1) s.val := by
  pointwise [k0_pay3]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold relu
    refine congrArg (max · 0) ?_
    have hm (d : Fin 3) (c : Fin 8) : (d.val * 8 + c.val) % 8 = c.val := by omega
    have hd (d : Fin 3) (c : Fin 8) : (d.val * 8 + c.val) / 8 = d.val := by omega
    refine conv_cols W X o y ⟨s', by omega⟩ ?_ ?_ ?_ <;> refine sum_pairs (C := 8) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row the kernel computes from three rows of 64 channels and the three columns of taps is the row of the convolution, its negative values
    replaced by zero, with a zero on either side. -/
theorem row64 (P : Vec Ideal S3x64x226 .f32) (w0 w1 w2 : Vec Ideal S1x64x192 .f32) (W : Ker 64 64) (X : Img 64) (y : Fin 224)
    (hP : ∀ (d : Fin 3) (c : Fin 64) (s : Fin 226), P (ix3 d c s) = padAt X c (y.val + d.val) (0 + s.val))
    (h0 : ∀ (o : Fin 64) (d : Fin 3) (c : Fin 64) (h : d.val * 64 + c.val < 192), w0 (ix3 0 o ⟨d.val * 64 + c.val, h⟩) = W o c d 0)
    (h1 : ∀ (o : Fin 64) (d : Fin 3) (c : Fin 64) (h : d.val * 64 + c.val < 192), w1 (ix3 0 o ⟨d.val * 64 + c.val, h⟩) = W o c d 1)
    (h2 : ∀ (o : Fin 64) (d : Fin 3) (c : Fin 64) (h : d.val * 64 + c.val < 192), w2 (ix3 0 o ⟨d.val * 64 + c.val, h⟩) = W o c d 2)
    (o : Fin 64) (s : Fin 226) :
    k1_pay3 (F := Ideal) P w0 w1 w2 (ix3 0 o s) = padAt (relu (conv W X)) o (y.val + 1) s.val := by
  pointwise [k1_pay3]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold relu
    refine congrArg (max · 0) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row of the mean the kernel computes from a row of the features and the weights of both 1×1 convolutions. -/
theorem mean (P : Vec Ideal S1x64x224 .f32) (w : Vec Ideal S128x64 .f32) (W : Fin 64 → Fin 64 → EReal) (X : Img 64) (y : Fin 224)
    (hP : ∀ (c : Fin 64) (s : Fin 224), P (ix3 0 c s) = X c y s)
    (hw : ∀ (o c : Fin 64) (h : o.val < 128), w (ix2 ⟨o.val, h⟩ c) = W o c)
    (o : Fin 64) (x : Fin 224) : k3_pay2 (F := Ideal) P w (ix3 0 o x) = point W X o y x := by
  have e : ∑ c, w (ix2 ⟨o.val, by omega⟩ c) * P (ix3 0 c x) = point W X o y x :=
    Finset.sum_congr rfl fun c _ => by rw [hw, hP]
  pointwise [k3_pay2, k3_pay1]
  exact e

/-- The row of the spread the kernel computes from a row of the features and the weights of both 1×1 convolutions. -/
theorem spread (P : Vec Ideal S1x64x224 .f32) (w : Vec Ideal S128x64 .f32) (W : Fin 64 → Fin 64 → EReal) (X : Img 64) (y : Fin 224)
    (hP : ∀ (c : Fin 64) (s : Fin 224), P (ix3 0 c s) = X c y s)
    (hw : ∀ (o c : Fin 64) (h : 64 + o.val < 128), w (ix2 ⟨64 + o.val, h⟩ c) = W o c)
    (o : Fin 64) (x : Fin 224) : k3_pay3 (F := Ideal) P w (ix3 0 o x) = variance (point W X o y x) := by
  have e : ∑ c, w (ix2 ⟨64 + o.val, by omega⟩ c) * P (ix3 0 c x) = point W X o y x :=
    Finset.sum_congr rfl fun c _ => by rw [hw, hP]
  pointwise [k3_pay3, k3_pay1]
  rw [zero_sub, e]
  rfl

end Cert.EncVIdeal.Row

end
-- ==== Proof.EncVKernel.lean ====
/- What the encoder's kernels leave in memory, for the image of 3 channels. -/
module

public import proofs.«01_k».proof.Proof.Gen.EncVIdeal.Frame
public import proofs.«01_k».proof.Proof.EncRow
public import Idealize.ShloMosaic.Lib.Claim

@[expose] public section

set_option maxRecDepth 16384

noncomputable section

open Idealize.ShloMosaic Idealize.ShloMosaic.TcCoe Idealize.SL.Sem

namespace Cert.EncVIdeal.Encoder

open Cert.EncVIdeal Cert.EncVIdeal.Gen Cert.Math Cert.Rows

/-- What convolution 0 leaves in its output, when its input holds the image `X` with a border of zeros and its weights hold the taps `W`. -/
theorem region0 (c : Dev nD) (arg0 : Memref sig .tc .vmem S226x8x226 .f32) (harg0 : arg0.IsWhole) (arg1 : Memref sig .tc .vmem S3x64x24 .f32) (harg1 : arg1.IsWhole) (arg2 : Memref sig .tc .vmem S226x64x226 .f32) (harg2 : arg2.IsWhole)
    (x0 : Vec Ideal S226x8x226 .f32) (x1 : Vec Ideal S3x64x24 .f32) (W : Ker 64 8) (X : Img 8)
    (h0 : ∀ (r : Fin 226) (c : Fin 8) (s : Fin 226), x0 (ix3 r c s) = padAt X c r.val s.val)
    (h1 : ∀ (dx : Fin 3) (o : Fin 64) (d : Fin 3) (c : Fin 8) (h : d.val * 8 + c.val < 24), x1 (ix3 dx o ⟨d.val * 8 + c.val, h⟩) = W o c d dx)
    (r : Fin 226) (o : Fin 64) (s : Fin 226) :
    out0_A_2 (F := Ideal) c arg0 harg0 arg1 harg1 arg2 harg2 x0 x1 (ix3 r o s) = padAt (relu (conv W X)) o r.val s.val := by
  unfold out0_A_2
  rw [View.read_writes_junk_eq_canon]
  refine View.canon_apply_of_pieces (holds (padAt (relu (conv W X)))) _ (fun p hp => ?_) _ (cover0_A_2 c arg0 harg0 arg1 harg1 arg2 harg2 x0 x1 _)
  unfold kernelRun0_A at hp
  dsimp only at hp
  rcases List.mem_append.mp hp with hp | hp
  · refine agree_trips _ _ _ rfl (pb_k0_t1_succ _ c _ arg0 harg0 arg1 harg1 arg2 harg2 _ _) (fun k p hp => ?_) _ le_rfl p hp
    have hk : k.val < 224 := Nat.lt_of_lt_of_le k.isLt k0_t1_abs.2.1
    unfold tripL_k0_t1 trip_k0_t1 at hp
    dsimp only at hp
    obtain rfl := List.mem_singleton.mp hp
    simp only [readAt_unread]
    refine agree_row _ (k.val + 1) (k0_off2_eq k) _ _ fun o s => ?_
    refine Cert.EncVIdeal.Row.row8 _ _ _ _ W X ⟨k.val, hk⟩ (fun d c s => ld_holds _ x0 h0 k.val 0 (k0_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k0_pay2]
    · obtain rfl := List.mem_singleton.mp hp
      refine agree_row _ 0 rfl _ _ fun o s => ?_
      rw [padAt_out _ _ (by omega)]
      pointwise [k0_pay1]

/-- The blocks of convolution 0 start at the beginning of their arrays. -/
theorem idx0 : (∀ a, win0_0.index t0_0 a = 0) ∧ (∀ a, win0_1.index t0_0 a = 0) := by
  decide +kernel

/-- The output array of convolution 0, from what its input arrays hold. -/
theorem final0 (V : (c : Dev nD) → (b : Ref sig .tc) → b.ty.Contents (Elt Ideal)) (c : Dev nD) (W : Ker 64 8) (X : Img 8)
    (h0 : ∀ (r : Fin 226) (ch : Fin 8) (s : Fin 226), V c main_v2 (ix3 r ch s) = padAt X ch r.val s.val)
    (h1 : ∀ (dx : Fin 3) (o : Fin 64) (d : Fin 3) (ch : Fin 8) (h : d.val * 8 + ch.val < 24), V c main_v5 (ix3 dx o ⟨d.val * 8 + ch.val, h⟩) = W o ch d dx)
    (r : Fin 226) (o : Fin 64) (s : Fin 226) :
    (dat0 V c).arrAt 2 cfg0.N (ix3 r o s) = padAt (relu (conv W X)) o r.val s.val := by
  refine congrFun ((dat0 V c).arrAt_eq_of_after_last 2 t0_0 (by decide +kernel) (holds (padAt (relu (conv W X)))) fun j => ?_) (ix3 r o s)
  blk_simp
  rw [after0_2]
  unfold outsAt0
  obtain ⟨r, o, s, rfl⟩ : ∃ (r : Fin 226) (o : Fin 64) (s : Fin 226), j = ix3 r o s := ⟨j 0, j 1, j 2, eq_ix3 j⟩
  refine region0 _ _ _ _ _ _ _ _ _ W X (fun r ch s => Eq.trans ?_ (h0 r ch s)) (fun dx o d ch h => Eq.trans ?_ (h1 dx o d ch h)) r o s
  · blk_ext! [iblk0, idx0]
  · blk_ext! [iblk0, idx0]

/-- What convolution 1 leaves in its output, when its input holds the image `X` with a border of zeros and its weights hold the taps `W`. -/
theorem region1 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out1_A_2 (F := Ideal) c arg0 harg0 arg1 harg1 arg2 harg2 x0 x1 (ix3 r o s) = padAt (relu (conv W X)) o r.val s.val := by
  unfold out1_A_2
  rw [View.read_writes_junk_eq_canon]
  refine View.canon_apply_of_pieces (holds (padAt (relu (conv W X)))) _ (fun p hp => ?_) _ (cover1_A_2 c arg0 harg0 arg1 harg1 arg2 harg2 x0 x1 _)
  unfold kernelRun1_A at hp
  dsimp only at hp
  rcases List.mem_append.mp hp with hp | hp
  · refine agree_trips _ _ _ rfl (pb_k1_t1_succ _ c _ arg0 harg0 arg1 harg1 arg2 harg2 _ _) (fun k p hp => ?_) _ le_rfl p hp
    have hk : k.val < 224 := Nat.lt_of_lt_of_le k.isLt k1_t1_abs.2.1
    unfold tripL_k1_t1 trip_k1_t1 at hp
    dsimp only at hp
    obtain rfl := List.mem_singleton.mp hp
    simp only [readAt_unread]
    refine agree_row _ (k.val + 1) (k1_off2_eq k) _ _ fun o s => ?_
    refine Cert.EncVIdeal.Row.row64 _ _ _ _ W X ⟨k.val, hk⟩ (fun d c s => ld_holds _ x0 h0 k.val 0 (k1_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k1_pay2]
    · obtain rfl := List.mem_singleton.mp hp
      refine agree_row _ 0 rfl _ _ fun o s => ?_
      rw [padAt_out _ _ (by omega)]
      pointwise [k1_pay1]

/-- The blocks of convolution 1 start at the beginning of their arrays. -/
theorem idx1 : (∀ a, win1_0.index t1_0 a = 0) ∧ (∀ a, win1_1.index t1_0 a = 0) := by
  decide +kernel

/-- The output array of convolution 1, from what its input arrays hold. -/
theorem final1 (V : (c : Dev nD) → (b : Ref sig .tc) → b.ty.Contents (Elt Ideal)) (c : Dev nD) (W : Ker 64 64) (X : Img 64)
    (h0 : ∀ (r : Fin 226) (ch : Fin 64) (s : Fin 226), V c main_v6 (ix3 r ch s) = padAt X ch r.val s.val)
    (h1 : ∀ (dx : Fin 3) (o : Fin 64) (d : Fin 3) (ch : Fin 64) (h : d.val * 64 + ch.val < 192), V c main_v10 (ix3 dx o ⟨d.val * 64 + ch.val, h⟩) = W o ch d dx)
    (r : Fin 226) (o : Fin 64) (s : Fin 226) :
    (dat1 V c).arrAt 2 cfg1.N (ix3 r o s) = padAt (relu (conv W X)) o r.val s.val := by
  refine congrFun ((dat1 V c).arrAt_eq_of_after_last 2 t1_0 (by decide +kernel) (holds (padAt (relu (conv W X)))) fun j => ?_) (ix3 r o s)
  blk_simp
  rw [after1_2]
  unfold outsAt1
  obtain ⟨r, o, s, rfl⟩ : ∃ (r : Fin 226) (o : Fin 64) (s : Fin 226), j = ix3 r o s := ⟨j 0, j 1, j 2, eq_ix3 j⟩
  refine region1 _ _ _ _ _ _ _ _ _ W X (fun r ch s => Eq.trans ?_ (h0 r ch s)) (fun dx o d ch h => Eq.trans ?_ (h1 dx o d ch h)) r o s
  · blk_ext! [iblk1, idx1]
  · blk_ext! [iblk1, idx1]

/-- What convolution 2 leaves in its output, when its input holds the image `X` with a border of zeros and its weights hold the taps `W`. -/
theorem region2 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out2_A_2 (F := Ideal) c arg0 harg0 arg1 harg1 arg2 harg2 x0 x1 (ix3 r o s) = padAt (relu (conv W X)) o r.val s.val := by
  unfold out2_A_2
  rw [View.read_writes_junk_eq_canon]
  refine View.canon_apply_of_pieces (holds (padAt (relu (conv W X)))) _ (fun p hp => ?_) _ (cover2_A_2 c arg0 harg0 arg1 harg1 arg2 harg2 x0 x1 _)
  unfold kernelRun2_A at hp
  dsimp only at hp
  rcases List.mem_append.mp hp with hp | hp
  · refine agree_trips _ _ _ rfl (pb_k2_t1_succ _ c _ arg0 harg0 arg1 harg1 arg2 harg2 _ _) (fun k p hp => ?_) _ le_rfl p hp
    have hk : k.val < 224 := Nat.lt_of_lt_of_le k.isLt k2_t1_abs.2.1
    unfold tripL_k2_t1 trip_k2_t1 at hp
    dsimp only at hp
    obtain rfl := List.mem_singleton.mp hp
    simp only [readAt_unread]
    refine agree_row _ (k.val + 1) (k2_off2_eq k) _ _ fun o s => ?_
    refine Cert.EncVIdeal.Row.row64 _ _ _ _ W X ⟨k.val, hk⟩ (fun d c s => ld_holds _ x0 h0 k.val 0 (k2_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k2_pay2]
    · obtain rfl := List.mem_singleton.mp hp
      refine agree_row _ 0 rfl _ _ fun o s => ?_
      rw [padAt_out _ _ (by omega)]
      pointwise [k2_pay1]

/-- The blocks of convolution 2 start at the beginning of their arrays. -/
theorem idx2 : (∀ a, win2_0.index t2_0 a = 0) ∧ (∀ a, win2_1.index t2_0 a = 0) := by
  decide +kernel

/-- The output array of convolution 2, from what its input arrays hold. -/
theorem final2 (V : (c : Dev nD) → (b : Ref sig .tc) → b.ty.Contents (Elt Ideal)) (c : Dev nD) (W : Ker 64 64) (X : Img 64)
    (h0 : ∀ (r : Fin 226) (ch : Fin 64) (s : Fin 226), V c main_v11 (ix3 r ch s) = padAt X ch r.val s.val)
    (h1 : ∀ (dx : Fin 3) (o : Fin 64) (d : Fin 3) (ch : Fin 64) (h : d.val * 64 + ch.val < 192), V c main_v15 (ix3 dx o ⟨d.val * 64 + ch.val, h⟩) = W o ch d dx)
    (r : Fin 226) (o : Fin 64) (s : Fin 226) :
    (dat2 V c).arrAt 2 cfg2.N (ix3 r o s) = padAt (relu (conv W X)) o r.val s.val := by
  refine congrFun ((dat2 V c).arrAt_eq_of_after_last 2 t2_0 (by decide +kernel) (holds (padAt (relu (conv W X)))) fun j => ?_) (ix3 r o s)
  blk_simp
  rw [after2_2]
  unfold outsAt2
  obtain ⟨r, o, s, rfl⟩ : ∃ (r : Fin 226) (o : Fin 64) (s : Fin 226), j = ix3 r o s := ⟨j 0, j 1, j 2, eq_ix3 j⟩
  refine region2 _ _ _ _ _ _ _ _ _ W X (fun r ch s => Eq.trans ?_ (h0 r ch s)) (fun dx o d ch h => Eq.trans ?_ (h1 dx o d ch h)) r o s
  · blk_ext! [iblk2, idx2]
  · blk_ext! [iblk2, idx2]

/-- What the last kernel leaves as the mean, when its input holds the features `H` with a border of zeros. -/
theorem region3_mean (c : Dev nD) (arg0 : Memref sig .tc .vmem S226x64x226 .f32) (harg0 : arg0.IsWhole) (arg1 : Memref sig .tc .vmem S128x64 .f32) (harg1 : arg1.IsWhole) (arg2 : Memref sig .tc .vmem S224x64x224 .f32) (harg2 : arg2.IsWhole) (arg3 : Memref sig .tc .vmem S224x64x224 .f32) (harg3 : arg3.IsWhole)
    (x0 : Vec Ideal S226x64x226 .f32) (x1 : Vec Ideal S128x64 .f32) (W : Fin 64 → Fin 64 → EReal) (H : Img 64)
    (h0 : ∀ (r : Fin 226) (c : Fin 64) (s : Fin 226), x0 (ix3 r c s) = padAt H c r.val s.val)
    (h1 : ∀ (o c : Fin 64) (h : o.val < 128), x1 (ix2 ⟨o.val, h⟩ c) = W o c)
    (y : Fin 224) (o : Fin 64) (x : Fin 224) :
    out3_A_2 (F := Ideal) c arg0 harg0 arg1 harg1 arg2 harg2 arg3 harg3 x0 x1 (ix3 y o x) = point W H o y x := by
  unfold out3_A_2
  rw [View.read_writes_junk_eq_canon]
  refine (View.canon_apply_of_pieces (holds (at0 (fun o y x => point W H o y x))) _ (fun p hp => ?_) _ (cover3_A_2 c arg0 harg0 arg1 harg1 arg2 harg2 arg3 harg3 x0 x1 _)).trans (holds_at0 (fun o y x => point W H o y x) y o x)
  unfold kernelRun3_A at hp
  dsimp only at hp
  refine agree_trips _ (fun k => (pb_k3_t1 _ c _ arg0 harg0 arg1 harg1 arg2 harg2 arg3 harg3 _ _ k).1) _ rfl (fun k => congrArg (Prod.fst) (pb_k3_t1_succ _ c _ arg0 harg0 arg1 harg1 arg2 harg2 arg3 harg3 _ _ k)) (fun k p hp => ?_) _ le_rfl p hp
  have hk : k.val < 224 := Nat.lt_of_lt_of_le k.isLt k3_t1_abs.2.1
  unfold tripL_k3_t1 trip_k3_t1 at hp
  dsimp only at hp
  obtain rfl := List.mem_singleton.mp hp
  simp only [readAt_unread]
  refine agree_row _ k.val (k3_off2_eq k) _ _ fun o x => ?_
  refine (Cert.EncVIdeal.Row.mean _ _ W H ⟨k.val, hk⟩ (fun c s => ?_) (fun o c h => (ld_matrix x1 _ _ _).trans (h1 o c h)) o x).trans (at0_fin (fun o y x => point W H o y x) o ⟨k.val, hk⟩ x).symm
  refine (ld_holds _ x0 h0 (k.val + 1) 1 (k3_off1_eq k) _ 0 c s).trans ?_
  rw [Nat.add_comm 1 s.val]
  exact padAt_in H c hk s.isLt

/-- What the last kernel leaves as the spread, when its input holds the features `H` with a border of zeros. -/
theorem region3_spread (c : Dev nD) (arg0 : Memref sig .tc .vmem S226x64x226 .f32) (harg0 : arg0.IsWhole) (arg1 : Memref sig .tc .vmem S128x64 .f32) (harg1 : arg1.IsWhole) (arg2 : Memref sig .tc .vmem S224x64x224 .f32) (harg2 : arg2.IsWhole) (arg3 : Memref sig .tc .vmem S224x64x224 .f32) (harg3 : arg3.IsWhole)
    (x0 : Vec Ideal S226x64x226 .f32) (x1 : Vec Ideal S128x64 .f32) (W : Fin 64 → Fin 64 → EReal) (H : Img 64)
    (h0 : ∀ (r : Fin 226) (c : Fin 64) (s : Fin 226), x0 (ix3 r c s) = padAt H c r.val s.val)
    (h1 : ∀ (o c : Fin 64) (h : 64 + o.val < 128), x1 (ix2 ⟨64 + o.val, h⟩ c) = W o c)
    (y : Fin 224) (o : Fin 64) (x : Fin 224) :
    out3_A_3 (F := Ideal) c arg0 harg0 arg1 harg1 arg2 harg2 arg3 harg3 x0 x1 (ix3 y o x) = variance (point W H o y x) := by
  unfold out3_A_3
  rw [View.read_writes_junk_eq_canon]
  refine (View.canon_apply_of_pieces (holds (at0 (fun o y x => variance (point W H o y x)))) _ (fun p hp => ?_) _ (cover3_A_3 c arg0 harg0 arg1 harg1 arg2 harg2 arg3 harg3 x0 x1 _)).trans (holds_at0 (fun o y x => variance (point W H o y x)) y o x)
  unfold kernelRun3_A at hp
  dsimp only at hp
  refine agree_trips _ (fun k => (pb_k3_t1 _ c _ arg0 harg0 arg1 harg1 arg2 harg2 arg3 harg3 _ _ k).2) _ rfl (fun k => congrArg (Prod.snd) (pb_k3_t1_succ _ c _ arg0 harg0 arg1 harg1 arg2 harg2 arg3 harg3 _ _ k)) (fun k p hp => ?_) _ le_rfl p hp
  have hk : k.val < 224 := Nat.lt_of_lt_of_le k.isLt k3_t1_abs.2.1
  unfold tripL_k3_t1 trip_k3_t1 at hp
  dsimp only at hp
  obtain rfl := List.mem_singleton.mp hp
  simp only [readAt_unread]
  refine agree_row _ k.val (k3_off2_eq k) _ _ fun o x => ?_
  refine (Cert.EncVIdeal.Row.spread _ _ W H ⟨k.val, hk⟩ (fun c s => ?_) (fun o c h => (ld_matrix x1 _ _ _).trans (h1 o c h)) o x).trans (at0_fin (fun o y x => variance (point W H o y x)) o ⟨k.val, hk⟩ x).symm
  refine (ld_holds _ x0 h0 (k.val + 1) 1 (k3_off1_eq k) _ 0 c s).trans ?_
  rw [Nat.add_comm 1 s.val]
  exact padAt_in H c hk s.isLt

/-- The blocks of the last kernel start at the beginning of their arrays. -/
theorem idx3 : (∀ a, win3_0.index t3_0 a = 0) ∧ (∀ a, win3_1.index t3_0 a = 0) := by
  decide +kernel

/-- The array of the mean after the last kernel, from what its input arrays hold. -/
theorem final3_mean (V : (c : Dev nD) → (b : Ref sig .tc) → b.ty.Contents (Elt Ideal)) (c : Dev nD) (W : Fin 64 → Fin 64 → EReal) (H : Img 64)
    (h0 : ∀ (r : Fin 226) (ch : Fin 64) (s : Fin 226), V c main_v16 (ix3 r ch s) = padAt H ch r.val s.val)
    (h1 : ∀ (o ch : Fin 64) (h : o.val < 128), V c main_v19 (ix2 ⟨o.val, h⟩ ch) = W o ch)
    (y : Fin 224) (o : Fin 64) (x : Fin 224) :
    (dat3 V c).arrAt 2 cfg3.N (ix3 y o x) = point W H o y x := by
  refine (congrFun ((dat3 V c).arrAt_eq_of_after_last 2 t3_0 (by decide +kernel) (holds (at0 (fun o y x => point W H o y x))) fun j => ?_) (ix3 y o x)).trans (holds_at0 (fun o y x => point W H o y x) y o x)
  blk_simp
  rw [after3_2]
  unfold outsAt3
  obtain ⟨y, o, x, rfl⟩ : ∃ (y : Fin 224) (o : Fin 64) (x : Fin 224), j = ix3 y o x := ⟨j 0, j 1, j 2, eq_ix3 j⟩
  refine (region3_mean _ _ _ _ _ _ _ _ _ _ _ W H (fun r ch s => Eq.trans ?_ (h0 r ch s)) (fun o ch h => Eq.trans ?_ (h1 o ch h)) y o x).trans (holds_at0 (fun o y x => point W H o y x) y o x).symm
  · blk_ext! [iblk3, idx3]
  · blk_ext! [iblk3, idx3]

/-- The array of the spread after the last kernel, from what its input arrays hold. -/
theorem final3_spread (V : (c : Dev nD) → (b : Ref sig .tc) → b.ty.Contents (Elt Ideal)) (c : Dev nD) (W : Fin 64 → Fin 64 → EReal) (H : Img 64)
    (h0 : ∀ (r : Fin 226) (ch : Fin 64) (s : Fin 226), V c main_v16 (ix3 r ch s) = padAt H ch r.val s.val)
    (h1 : ∀ (o ch : Fin 64) (h : 64 + o.val < 128), V c main_v19 (ix2 ⟨64 + o.val, h⟩ ch) = W o ch)
    (y : Fin 224) (o : Fin 64) (x : Fin 224) :
    (dat3 V c).arrAt 3 cfg3.N (ix3 y o x) = variance (point W H o y x) := by
  refine (congrFun ((dat3 V c).arrAt_eq_of_after_last 3 t3_0 (by decide +kernel) (holds (at0 (fun o y x => variance (point W H o y x)))) fun j => ?_) (ix3 y o x)).trans (holds_at0 (fun o y x => variance (point W H o y x)) y o x)
  blk_simp
  rw [after3_3]
  unfold outsAt3
  obtain ⟨y, o, x, rfl⟩ : ∃ (y : Fin 224) (o : Fin 64) (x : Fin 224), j = ix3 y o x := ⟨j 0, j 1, j 2, eq_ix3 j⟩
  refine (region3_spread _ _ _ _ _ _ _ _ _ _ _ W H (fun r ch s => Eq.trans ?_ (h0 r ch s)) (fun o ch h => Eq.trans ?_ (h1 o ch h)) y o x).trans (holds_at0 (fun o y x => variance (point W H o y x)) y o x).symm
  · blk_ext! [iblk3, idx3]
  · blk_ext! [iblk3, idx3]

/-! ## The arguments, as images and taps -/

/-- The image. -/
def image (m : (ℓ : Loc nD τ sig) → Buf (Elt Ideal) ℓ) (c : Dev nD) : Img 3 := fun ch y x => m ((c : Thread nD τ).loc main_arg0) (ix4 0 ch y x)
/-- The taps of the first convolution. -/
def stem (m : (ℓ : Loc nD τ sig) → Buf (Elt Ideal) ℓ) (c : Dev nD) : Ker 64 3 := fun o ch dy dx => m ((c : Thread nD τ).loc main_arg1) (ix4 o ch dy dx)
/-- The taps of the later convolutions. -/
def block (m : (ℓ : Loc nD τ sig) → Buf (Elt Ideal) ℓ) (c : Dev nD) (i : Fin 2) : Ker 64 64 := fun o ch dy dx => m ((c : Thread nD τ).loc main_arg2) (ix5 i o ch dy dx)
/-- The weights of the mean. -/
def meanW (m : (ℓ : Loc nD τ sig) → Buf (Elt Ideal) ℓ) (c : Dev nD) (o ch : Fin 64) : EReal := m ((c : Thread nD τ).loc main_arg3) (ix4 o ch 0 0)
/-- The weights of the variance. -/
def spreadW (m : (ℓ : Loc nD τ sig) → Buf (Elt Ideal) ℓ) (c : Dev nD) (o ch : Fin 64) : EReal := m ((c : Thread nD τ).loc main_arg4) (ix4 o ch 0 0)

/-- The features after the first convolution, -/
def feat1 (m : (ℓ : Loc nD τ sig) → Buf (Elt Ideal) ℓ) (c : Dev nD) : Img 64 := relu (conv (stem m c) (image m c))
/-- after the second, -/
def feat2 (m : (ℓ : Loc nD τ sig) → Buf (Elt Ideal) ℓ) (c : Dev nD) : Img 64 := relu (conv (block m c 0) (feat1 m c))
/-- and after the third. -/
def feat3 (m : (ℓ : Loc nD τ sig) → Buf (Elt Ideal) ℓ) (c : Dev nD) : Img 64 := relu (conv (block m c 1) (feat2 m c))

/-! ## The host operations between the kernels, and the kernels one after another -/

/-- The first convolution's input: the image, given zero channels, with a border of zeros. -/
theorem in0 (m : (ℓ : Loc nD τ sig) → Buf (Elt Ideal) ℓ) (ρ : Dev nD → PrngReg) (c : Dev nD) (r : Fin 226) (ch : Fin 8) (s : Fin 226) :
    W5 m ρ c (Proc.devRef .tc main_v2) (ix3 r ch s) = padAt (padChan 8 (image m c)) ch r.val s.val := by
  after_results
  simp -implicitDefEqProofs only [StableHlo.TRef.toBuf, StableHlo.TRef.ofBuf, cast_cast, cast_eq]
  pointwise [sitofp_zero]
  unfold padAt padChan image
  split_ifs <;> first | rfl | omega | exact congrArg (fun i => m ((c : Thread nD τ).loc main_arg0) (ix4 0 i _ _)) (Subsingleton.elim _ _)

/-- The first convolution's weights: the taps, given zero taps for the zero channels. -/
theorem taps0 (m : (ℓ : Loc nD τ sig) → Buf (Elt Ideal) ℓ) (ρ : Dev nD → PrngReg) (c : Dev nD) (dx : Fin 3) (o : Fin 64) (d : Fin 3) (ch : Fin 8) (h : d.val * 8 + ch.val < 24) :
    W5 m ρ c (Proc.devRef .tc main_v5) (ix3 dx o ⟨d.val * 8 + ch.val, h⟩) = padKer 8 (stem m c) o ch d dx := by
  after_results
  simp -implicitDefEqProofs only [StableHlo.TRef.toBuf, StableHlo.TRef.ofBuf, cast_cast, cast_eq]
  pointwise [sitofp_zero]
  unfold padKer stem
  rfl

/-- What the first convolution leaves: its features with a border of zeros. -/
theorem out0 (m : (ℓ : Loc nD τ sig) → Buf (Elt Ideal) ℓ) (ρ : Dev nD → PrngReg) (c : Dev nD) (r : Fin 226) (o : Fin 64) (s : Fin 226) :
    W6 m ρ c (Proc.devRef .tc main_v6) (ix3 r o s) = padAt (feat1 m c) o r.val s.val := by
  refine (congrFun (W6_arr m ρ c 2) _).trans ?_
  rw [final0 (V5 m ρ) c (padKer 8 (stem m c)) (padChan 8 (image m c)) (in0 m ρ c) (taps0 m ρ c), conv_padChan (by decide)]
  rfl

/-- The weights of convolution 1. -/
theorem taps1 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W7 m ρ c (Proc.devRef .tc main_v10) (ix3 dx o ⟨d.val * 64 + ch.val, h⟩) = block m c 0 o ch d dx := by
  have e := W6_args m ρ c main_arg2 (by decide)
  unfold W7
  after_results
  rw [e]
  pointwise []
  rfl

/-- What convolution 1 leaves: its features with a border of zeros. -/
theorem out1 (m : (ℓ : Loc nD τ sig) → Buf (Elt Ideal) ℓ) (ρ : Dev nD → PrngReg) (c : Dev nD) (r : Fin 226) (o : Fin 64) (s : Fin 226) :
    W8 m ρ c (Proc.devRef .tc main_v11) (ix3 r o s) = padAt (feat2 m c) o r.val s.val := by
  refine (congrFun (W8_arr m ρ c 2) _).trans ?_
  refine final1 (V7 m ρ) c (block m c 0) (feat1 m c) (fun r ch s => ?_) (taps1 m ρ c) r o s
  exact (congrFun (W7_of m ρ c main_v6 (by decide)) _).trans (out0 m ρ c r ch s)

/-- The weights of convolution 2. -/
theorem taps2 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W9 m ρ c (Proc.devRef .tc main_v15) (ix3 dx o ⟨d.val * 64 + ch.val, h⟩) = block m c 1 o ch d dx := by
  have e := W8_args m ρ c main_arg2 (by decide)
  unfold W9
  after_results
  rw [e]
  pointwise []
  rfl

/-- What convolution 2 leaves: its features with a border of zeros. -/
theorem out2 (m : (ℓ : Loc nD τ sig) → Buf (Elt Ideal) ℓ) (ρ : Dev nD → PrngReg) (c : Dev nD) (r : Fin 226) (o : Fin 64) (s : Fin 226) :
    W10 m ρ c (Proc.devRef .tc main_v16) (ix3 r o s) = padAt (feat3 m c) o r.val s.val := by
  refine (congrFun (W10_arr m ρ c 2) _).trans ?_
  refine final2 (V9 m ρ) c (block m c 1) (feat2 m c) (fun r ch s => ?_) (taps2 m ρ c) r o s
  exact (congrFun (W9_of m ρ c main_v11 (by decide)) _).trans (out1 m ρ c r ch s)

/-- The weights of the mean, in the array of both. -/
theorem taps_mean (m : (ℓ : Loc nD τ sig) → Buf (Elt Ideal) ℓ) (ρ : Dev nD → PrngReg) (c : Dev nD) (o ch : Fin 64) (h : o.val < 128) :
    W11 m ρ c (Proc.devRef .tc main_v19) (ix2 ⟨o.val, h⟩ ch) = meanW m c o ch := by
  have e3 := W10_args m ρ c main_arg3 (by decide)
  have e4 := W10_args m ρ c main_arg4 (by decide)
  unfold W11
  after_results
  rw [e3, e4]
  pointwise []
  rfl

/-- The weights of the spread, in the array of both. -/
theorem taps_spread (m : (ℓ : Loc nD τ sig) → Buf (Elt Ideal) ℓ) (ρ : Dev nD → PrngReg) (c : Dev nD) (o ch : Fin 64) (h : 64 + o.val < 128) :
    W11 m ρ c (Proc.devRef .tc main_v19) (ix2 ⟨64 + o.val, h⟩ ch) = spreadW m c o ch := by
  have e3 := W10_args m ρ c main_arg3 (by decide)
  have e4 := W10_args m ρ c main_arg4 (by decide)
  unfold W11
  after_results
  rw [e3, e4]
  pointwise []
  rfl

/-- What the last kernel leaves as the mean. -/
theorem out_mean (m : (ℓ : Loc nD τ sig) → Buf (Elt Ideal) ℓ) (ρ : Dev nD → PrngReg) (c : Dev nD) (y : Fin 224) (o : Fin 64) (x : Fin 224) :
    W12 m ρ c (Proc.devRef .tc main_v20_0) (ix3 y o x) = point (meanW m c) (feat3 m c) o y x := by
  refine (congrFun (W12_arr m ρ c 2) _).trans ?_
  refine final3_mean (V11 m ρ) c (meanW m c) (feat3 m c) (fun r ch s => ?_) (taps_mean m ρ c) y o x
  exact (congrFun (W11_of m ρ c main_v16 (by decide)) _).trans (out2 m ρ c r ch s)

/-- The result `mean`, from the arguments. -/
theorem result_mean (m : (ℓ : Loc nD τ sig) → Buf (Elt Ideal) ℓ) (ρ : Dev nD → PrngReg) (c : Dev nD) (o : Fin 64) (y x : Fin 224) :
    W13 m ρ c (Proc.devRef .tc main_v22) (ix4 0 o y x) = point (meanW m c) (feat3 m c) o y x := by
  rw [← out_mean m ρ c y o x]
  unfold W13
  after_results
  pointwise []

/-- What the last kernel leaves as the spread. -/
theorem out_spread (m : (ℓ : Loc nD τ sig) → Buf (Elt Ideal) ℓ) (ρ : Dev nD → PrngReg) (c : Dev nD) (y : Fin 224) (o : Fin 64) (x : Fin 224) :
    W12 m ρ c (Proc.devRef .tc main_v20_1) (ix3 y o x) = variance (point (spreadW m c) (feat3 m c) o y x) := by
  refine (congrFun (W12_arr m ρ c 3) _).trans ?_
  refine final3_spread (V11 m ρ) c (spreadW m c) (feat3 m c) (fun r ch s => ?_) (taps_spread m ρ c) y o x
  exact (congrFun (W11_of m ρ c main_v16 (by decide)) _).trans (out2 m ρ c r ch s)

/-- The result `spread`, from the arguments. -/
theorem result_spread (m : (ℓ : Loc nD τ sig) → Buf (Elt Ideal) ℓ) (ρ : Dev nD → PrngReg) (c : Dev nD) (o : Fin 64) (y x : Fin 224) :
    W13 m ρ c (Proc.devRef .tc main_v24) (ix4 0 o y x) = variance (point (spreadW m c) (feat3 m c) o y x) := by
  rw [← out_spread m ρ c y o x]
  unfold W13
  after_results
  pointwise []

end Cert.EncVIdeal.Encoder

end
-- ==== Proof.EncVReference.lean ====
/- What the reference of the encoder computes, for the image of 3 channels. -/
module

public import proofs.«01_k».proof.Proof.Gen.EncVRefIdeal.Run
public import proofs.«01_k».proof.Proof.Math

@[expose] public section

set_option maxRecDepth 16384

noncomputable section

open Idealize.ShloMosaic Idealize.ShloMosaic.TcCoe Idealize.SL.Sem

namespace Cert.EncVRefIdeal.Encoder

open Cert.EncVRefIdeal Cert.EncVRefIdeal.Gen Cert.EncVRefIdeal.Value Cert.Math

/-! ## The arguments, as images and taps -/

/-- The image. -/
def image (V : Valuation τ sig (Elt Ideal)) : Img 3 := fun ch y x => V (Proc.devRef .tc main_arg0) (ix4 0 ch y x)
/-- The taps of the first convolution. -/
def stem (V : Valuation τ sig (Elt Ideal)) : Ker 64 3 := fun o ch dy dx => V (Proc.devRef .tc main_arg1) (ix4 o ch dy dx)
/-- The taps of the later convolutions. -/
def block (V : Valuation τ sig (Elt Ideal)) (i : Fin 2) : Ker 64 64 := fun o ch dy dx => V (Proc.devRef .tc main_arg2) (ix5 i o ch dy dx)
/-- The weights of the mean. -/
def meanW (V : Valuation τ sig (Elt Ideal)) (o ch : Fin 64) : EReal := V (Proc.devRef .tc main_arg3) (ix4 o ch 0 0)
/-- The weights of the variance. -/
def spreadW (V : Valuation τ sig (Elt Ideal)) (o ch : Fin 64) : EReal := V (Proc.devRef .tc main_arg4) (ix4 o ch 0 0)

/-- The features after the first convolution, -/
def feat1 (V : Valuation τ sig (Elt Ideal)) : Img 64 := relu (conv (stem V) (image V))
/-- after the second, -/
def feat2 (V : Valuation τ sig (Elt Ideal)) : Img 64 := relu (conv (block V 0) (feat1 V))
/-- and after the third. -/
def feat3 (V : Valuation τ sig (Elt Ideal)) : Img 64 := relu (conv (block V 1) (feat2 V))

/-! ## The named tensors of the reference -/

/-- The first convolution's input is the image with a border of zeros. -/
theorem border0 (V : Valuation τ sig (Elt Ideal)) (ch : Fin 3) (r s : Fin 226) : res_main_v1 V (ix3 ch r s) = padAt (image V) ch r.val s.val := by
  pointwise [res_main_v1, sitofp_zero]
  exact dite_padAt (image V) ch fun h => rfl

/-- The second convolution's input is the first's features with a border of zeros. -/
theorem border1 (V : Valuation τ sig (Elt Ideal)) (o : Fin 64) (r s : Fin 226) : res_main_v51 V (ix3 o r s) = padAt (feat1 V) o r.val s.val := by
  pointwise [res_main_v51, sitofp_zero]
  refine dite_padAt (feat1 V) o fun h => congrArg (max · 0) ?_
  simp only [border0]
  exact conv_sum (stem V) (image V) o h.1.2 h.2.2

/-- The taps of the second convolution. -/
theorem taps1 (V : Valuation τ sig (Elt Ideal)) (o ch : Fin 64) (dy dx : Fin 3) : res_main_v49 V (ix4 o ch dy dx) = block V 0 o ch dy dx := by
  pointwise [res_main_v49]
  rfl

/-- The third convolution's input is the second's features with a border of zeros. -/
theorem border2 (V : Valuation τ sig (Elt Ideal)) (o : Fin 64) (r s : Fin 226) : res_main_v101 V (ix3 o r s) = padAt (feat2 V) o r.val s.val := by
  pointwise [res_main_v101, sitofp_zero]
  refine dite_padAt (feat2 V) o fun h => congrArg (max · 0) ?_
  simp only [border1, taps1]
  exact conv_sum (block V 0) (feat1 V) o h.1.2 h.2.2

/-- The taps of the third convolution. -/
theorem taps2 (V : Valuation τ sig (Elt Ideal)) (o ch : Fin 64) (dy dx : Fin 3) : res_main_v99 V (ix4 o ch dy dx) = block V 1 o ch dy dx := by
  pointwise [res_main_v99]
  rfl

/-- The third convolution's features. -/
theorem features (V : Valuation τ sig (Elt Ideal)) (o : Fin 64) (y x : Fin 224) : res_main_v147 V (ix4 0 o y x) = feat3 V o y x := by
  pointwise [res_main_v147]
  refine congrArg (fun a : EReal => max a 0) ?_
  simp only [border2, taps2]
  exact conv_sum (block V 1) (feat2 V) o y.isLt x.isLt

/-! ## The results -/

/-- A 1×1 convolution, as the reference computes it. -/
theorem point_at (A : FVec Ideal S64x64x1x1 .f32) (H : FVec Ideal S1x64x224x224 .f32) (o : Fin 64) (y x : Fin 224) :
    broadcastInDim S1x64x224x224 ![1, 2, 3] bcast_S64x224x224_S1x64x224x224_1_2_3 (Host.dotGeneral (F := Ideal) (φ₁ := .f32) (φ₂ := .f32) dot_S64x64_S64x224x224_S64x224x224_1_0_0_12_n_n none (shapeCast _ A shapeCasts_S64x64x1x1_S64x64) (shapeCast _ H shapeCasts_S1x64x224x224_S64x224x224)) (ix4 0 o y x)
      = point (fun o ch => A (ix4 o ch 0 0)) (fun ch y x => H (ix4 0 ch y x)) o y x := by
  pointwise []
  rfl

/-- The mean. -/
theorem result_mean (V : Valuation τ sig (Elt Ideal)) : point (meanW V) (fun ch y x => res_main_v147 V (ix4 0 ch y x)) = point (meanW V) (feat3 V) := by
  simp only [features]

/-- The raw output the variance is computed from. -/
theorem raw (V : Valuation τ sig (Elt Ideal)) (o : Fin 64) (y x : Fin 224) : res_main_v155 V (ix4 0 o y x) = point (spreadW V) (feat3 V) o y x := by
  pointwise [res_main_v155]
  simp only [features]
  rfl

/-- The variance. -/
theorem result_spread (V : Valuation τ sig (Elt Ideal)) (o : Fin 64) (y x : Fin 224) :
    (addf (select (cmpf .une (res_main_call6_v3 V) (res_main_call6_v3 V)) (addf (res_main_v155 V) (broadcastInDim S1x64x224x224 ![] bcast_S_S1x64x224x224 (res_main_call6_cst V))) (addf (maximumf (res_main_v155 V) (broadcastInDim S1x64x224x224 ![] bcast_S_S1x64x224x224 (res_main_call6_cst V))) (Host.log1p (Host.exp (Host.negf (Host.absf (res_main_call6_v3 V))))))) (broadcastInDim S1x64x224x224 ![] bcast_S_S1x64x224x224 (constant S_ .f32 0x358637BD#32)) : Vec Ideal S1x64x224x224 .f32) (ix4 0 o y x)
      = variance (point (spreadW V) (feat3 V) o y x) := by
  pointwise [res_main_call6_v3, res_main_call6_cst]
  rw [raw, if_neg (fun h => h rfl)]
  rfl

end Cert.EncVRefIdeal.Encoder

end
-- ==== Proof.EncVClaim.lean ====
/- The claims about the encoder of the visible image. -/
module

public import proofs.«01_k».proof.Defs
public import proofs.«01_k».proof.Proof.EncVKernel
public import proofs.«01_k».proof.Proof.EncVReference
public import Idealize.ShloMosaic.Lib.Quiescent

@[expose] public section

set_option maxRecDepth 16384

noncomputable section

namespace Cert.EncVIdeal.Encoder

open Idealize.ShloMosaic Idealize.ShloMosaic.TcCoe Idealize.SL Idealize.SL.BI Idealize.SL.BI.BIBase Idealize.SL.BI.Laws Idealize.SL.Sem Idealize.SL.ProofMode
open Idealize.SL.RA Idealize.ShloMosaic.Rounds
open scoped Idealize.SL.BI
open Idealize.ShloMosaic.Pipeline (Dat Cfg Window BodyObligation cellOf)
open Cert.EncVIdeal Cert.EncVIdeal.Gen

local notation "𝕄" => MT nD τ sig Unit (Elt Ideal) ℕ (UR sig nD τ) ℕ

set_option backward.isDefEq.respectTransparency.types false in
/-- Every execution of the kernel ends with each result array at what the host operations and the kernels leave there one after another,
    and with the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = W13 m ρ c (Proc.devRef .tc main_v22) ∧
      r.2.mem ((c.tc : Thread nD τ).loc main_v24) = W13 m ρ c (Proc.devRef .tc main_v24) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => fun c =>
      ⟨h c _ (mem_uc main_v22 (by decide)),
       h c _ (mem_uc main_v24 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.EncVIdeal.Encoder

namespace Cert.EncVClaim

open Idealize.ShloMosaic Idealize.ShloMosaic.TcCoe Idealize.SL.Sem Cert.Math

/-- The reference ends with its arguments unchanged and every semaphore at zero. -/
theorem frame_reference : Cert.quiescent_EncVRefIdeal (hEncVRefIdeal := Cert.EncVRefIdeal.Gen.facts) := fun m g _ =>
  (θ_run _ _ _).mono (fun r h => ⟨fun c => (h c).2.2, sem_eq_zero_of_no_sems rfl r.2⟩) (Cert.EncVRefIdeal.Value.run m g)

/-- The results of the kernel and of the reference are equal, as extended reals. -/
theorem algebraic : Cert.algebraic_EncVIdeal_EncVRefIdeal (hEncVIdeal := Cert.EncVIdeal.Gen.facts) (hEncVRefIdeal := Cert.EncVRefIdeal.Gen.facts) := by
  intro m g m' g' _ hm
  refine ⟨_, _, Cert.EncVIdeal.Encoder.run m g, (θ_run _ _ _).mono (fun r h c => ⟨(h c).1.trans ?_, (h c).2.1.trans ?_, (h c).2.2⟩) (Cert.EncVRefIdeal.Value.run m' g')⟩
  all_goals
    obtain ⟨e0, e1, e2, e3, e4⟩ := hm c
    have f3 : Cert.EncVRefIdeal.Encoder.feat3 (StableHlo.launchContents m' c) = Cert.EncVIdeal.Encoder.feat3 m c := by
      have i : Cert.EncVRefIdeal.Encoder.image (StableHlo.launchContents m' c) = Cert.EncVIdeal.Encoder.image m c := funext fun _ => funext fun _ => funext fun _ => congrFun e0 _
      have s : Cert.EncVRefIdeal.Encoder.stem (StableHlo.launchContents m' c) = Cert.EncVIdeal.Encoder.stem m c := funext fun _ => funext fun _ => funext fun _ => funext fun _ => congrFun e1 _
      have b : Cert.EncVRefIdeal.Encoder.block (StableHlo.launchContents m' c) = Cert.EncVIdeal.Encoder.block m c := funext fun _ => funext fun _ => funext fun _ => funext fun _ => funext fun _ => congrFun e2 _
      unfold Cert.EncVRefIdeal.Encoder.feat3 Cert.EncVRefIdeal.Encoder.feat2 Cert.EncVRefIdeal.Encoder.feat1
      rw [i, s, b]
      rfl
    have w3 : Cert.EncVRefIdeal.Encoder.meanW (StableHlo.launchContents m' c) = Cert.EncVIdeal.Encoder.meanW m c := funext fun _ => funext fun _ => congrFun e3 _
    have w4 : Cert.EncVRefIdeal.Encoder.spreadW (StableHlo.launchContents m' c) = Cert.EncVIdeal.Encoder.spreadW m c := funext fun _ => funext fun _ => congrFun e4 _
    funext i
    obtain ⟨z, o, y, x, rfl⟩ : ∃ (z : Fin 1) (o : Fin 64) (y x : Fin 224), i = ix4 z o y x := ⟨i 0, i 1, i 2, i 3, eq_ix4 i⟩
    obtain rfl : z = 0 := Subsingleton.elim _ _
  · refine Eq.trans ?_ (Cert.EncVIdeal.Encoder.result_mean m g c o y x).symm
    refine (Cert.EncVRefIdeal.Encoder.point_at _ _ o y x).trans ?_
    refine (congrFun (congrFun (congrFun (Cert.EncVRefIdeal.Encoder.result_mean (StableHlo.launchContents m' c)) o) y) x).trans ?_
    rw [w3, f3]
  · refine Eq.trans ?_ (Cert.EncVIdeal.Encoder.result_spread m g c o y x).symm
    refine (Cert.EncVRefIdeal.Encoder.result_spread (StableHlo.launchContents m' c) o y x).trans ?_
    rw [w4, f3]

end Cert.EncVClaim

end
-- ==== Proof.EncIKernel.lean ====
/- What the encoder's kernels leave in memory, for the image of 1 channel. -/
module

public import proofs.«01_k».proof.Proof.Gen.EncIIdeal.Frame
public import proofs.«01_k».proof.Proof.EncRow
public import Idealize.ShloMosaic.Lib.Claim

@[expose] public section

set_option maxRecDepth 16384

noncomputable section

open Idealize.ShloMosaic Idealize.ShloMosaic.TcCoe Idealize.SL.Sem

namespace Cert.EncIIdeal.Encoder

open Cert.EncIIdeal Cert.EncIIdeal.Gen Cert.Math Cert.Rows

/-- What convolution 0 leaves in its output, when its input holds the image `X` with a border of zeros and its weights hold the taps `W`. -/
theorem region0 (c : Dev nD) (arg0 : Memref sig .tc .vmem S226x8x226 .f32) (harg0 : arg0.IsWhole) (arg1 : Memref sig .tc .vmem S3x64x24 .f32) (harg1 : arg1.IsWhole) (arg2 : Memref sig .tc .vmem S226x64x226 .f32) (harg2 : arg2.IsWhole)
    (x0 : Vec Ideal S226x8x226 .f32) (x1 : Vec Ideal S3x64x24 .f32) (W : Ker 64 8) (X : Img 8)
    (h0 : ∀ (r : Fin 226) (c : Fin 8) (s : Fin 226), x0 (ix3 r c s) = padAt X c r.val s.val)
    (h1 : ∀ (dx : Fin 3) (o : Fin 64) (d : Fin 3) (c : Fin 8) (h : d.val * 8 + c.val < 24), x1 (ix3 dx o ⟨d.val * 8 + c.val, h⟩) = W o c d dx)
    (r : Fin 226) (o : Fin 64) (s : Fin 226) :
    out0_A_2 (F := Ideal) c arg0 harg0 arg1 harg1 arg2 harg2 x0 x1 (ix3 r o s) = padAt (relu (conv W X)) o r.val s.val := by
  unfold out0_A_2
  rw [View.read_writes_junk_eq_canon]
  refine View.canon_apply_of_pieces (holds (padAt (relu (conv W X)))) _ (fun p hp => ?_) _ (cover0_A_2 c arg0 harg0 arg1 harg1 arg2 harg2 x0 x1 _)
  unfold kernelRun0_A at hp
  dsimp only at hp
  rcases List.mem_append.mp hp with hp | hp
  · refine agree_trips _ _ _ rfl (pb_k0_t1_succ _ c _ arg0 harg0 arg1 harg1 arg2 harg2 _ _) (fun k p hp => ?_) _ le_rfl p hp
    have hk : k.val < 224 := Nat.lt_of_lt_of_le k.isLt k0_t1_abs.2.1
    unfold tripL_k0_t1 trip_k0_t1 at hp
    dsimp only at hp
    obtain rfl := List.mem_singleton.mp hp
    simp only [readAt_unread]
    refine agree_row _ (k.val + 1) (k0_off2_eq k) _ _ fun o s => ?_
    refine Cert.EncVIdeal.Row.row8 _ _ _ _ W X ⟨k.val, hk⟩ (fun d c s => ld_holds _ x0 h0 k.val 0 (k0_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k0_pay2]
    · obtain rfl := List.mem_singleton.mp hp
      refine agree_row _ 0 rfl _ _ fun o s => ?_
      rw [padAt_out _ _ (by omega)]
      pointwise [k0_pay1]

/-- The blocks of convolution 0 start at the beginning of their arrays. -/
theorem idx0 : (∀ a, win0_0.index t0_0 a = 0) ∧ (∀ a, win0_1.index t0_0 a = 0) := by
  decide +kernel

/-- The output array of convolution 0, from what its input arrays hold. -/
theorem final0 (V : (c : Dev nD) → (b : Ref sig .tc) → b.ty.Contents (Elt Ideal)) (c : Dev nD) (W : Ker 64 8) (X : Img 8)
    (h0 : ∀ (r : Fin 226) (ch : Fin 8) (s : Fin 226), V c main_v2 (ix3 r ch s) = padAt X ch r.val s.val)
    (h1 : ∀ (dx : Fin 3) (o : Fin 64) (d : Fin 3) (ch : Fin 8) (h : d.val * 8 + ch.val < 24), V c main_v5 (ix3 dx o ⟨d.val * 8 + ch.val, h⟩) = W o ch d dx)
    (r : Fin 226) (o : Fin 64) (s : Fin 226) :
    (dat0 V c).arrAt 2 cfg0.N (ix3 r o s) = padAt (relu (conv W X)) o r.val s.val := by
  refine congrFun ((dat0 V c).arrAt_eq_of_after_last 2 t0_0 (by decide +kernel) (holds (padAt (relu (conv W X)))) fun j => ?_) (ix3 r o s)
  blk_simp
  rw [after0_2]
  unfold outsAt0
  obtain ⟨r, o, s, rfl⟩ : ∃ (r : Fin 226) (o : Fin 64) (s : Fin 226), j = ix3 r o s := ⟨j 0, j 1, j 2, eq_ix3 j⟩
  refine region0 _ _ _ _ _ _ _ _ _ W X (fun r ch s => Eq.trans ?_ (h0 r ch s)) (fun dx o d ch h => Eq.trans ?_ (h1 dx o d ch h)) r o s
  · blk_ext! [iblk0, idx0]
  · blk_ext! [iblk0, idx0]

/-- What convolution 1 leaves in its output, when its input holds the image `X` with a border of zeros and its weights hold the taps `W`. -/
theorem region1 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out1_A_2 (F := Ideal) c arg0 harg0 arg1 harg1 arg2 harg2 x0 x1 (ix3 r o s) = padAt (relu (conv W X)) o r.val s.val := by
  unfold out1_A_2
  rw [View.read_writes_junk_eq_canon]
  refine View.canon_apply_of_pieces (holds (padAt (relu (conv W X)))) _ (fun p hp => ?_) _ (cover1_A_2 c arg0 harg0 arg1 harg1 arg2 harg2 x0 x1 _)
  unfold kernelRun1_A at hp
  dsimp only at hp
  rcases List.mem_append.mp hp with hp | hp
  · refine agree_trips _ _ _ rfl (pb_k1_t1_succ _ c _ arg0 harg0 arg1 harg1 arg2 harg2 _ _) (fun k p hp => ?_) _ le_rfl p hp
    have hk : k.val < 224 := Nat.lt_of_lt_of_le k.isLt k1_t1_abs.2.1
    unfold tripL_k1_t1 trip_k1_t1 at hp
    dsimp only at hp
    obtain rfl := List.mem_singleton.mp hp
    simp only [readAt_unread]
    refine agree_row _ (k.val + 1) (k1_off2_eq k) _ _ fun o s => ?_
    refine Cert.EncVIdeal.Row.row64 _ _ _ _ W X ⟨k.val, hk⟩ (fun d c s => ld_holds _ x0 h0 k.val 0 (k1_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k1_pay2]
    · obtain rfl := List.mem_singleton.mp hp
      refine agree_row _ 0 rfl _ _ fun o s => ?_
      rw [padAt_out _ _ (by omega)]
      pointwise [k1_pay1]

/-- The blocks of convolution 1 start at the beginning of their arrays. -/
theorem idx1 : (∀ a, win1_0.index t1_0 a = 0) ∧ (∀ a, win1_1.index t1_0 a = 0) := by
  decide +kernel

/-- The output array of convolution 1, from what its input arrays hold. -/
theorem final1 (V : (c : Dev nD) → (b : Ref sig .tc) → b.ty.Contents (Elt Ideal)) (c : Dev nD) (W : Ker 64 64) (X : Img 64)
    (h0 : ∀ (r : Fin 226) (ch : Fin 64) (s : Fin 226), V c main_v6 (ix3 r ch s) = padAt X ch r.val s.val)
    (h1 : ∀ (dx : Fin 3) (o : Fin 64) (d : Fin 3) (ch : Fin 64) (h : d.val * 64 + ch.val < 192), V c main_v10 (ix3 dx o ⟨d.val * 64 + ch.val, h⟩) = W o ch d dx)
    (r : Fin 226) (o : Fin 64) (s : Fin 226) :
    (dat1 V c).arrAt 2 cfg1.N (ix3 r o s) = padAt (relu (conv W X)) o r.val s.val := by
  refine congrFun ((dat1 V c).arrAt_eq_of_after_last 2 t1_0 (by decide +kernel) (holds (padAt (relu (conv W X)))) fun j => ?_) (ix3 r o s)
  blk_simp
  rw [after1_2]
  unfold outsAt1
  obtain ⟨r, o, s, rfl⟩ : ∃ (r : Fin 226) (o : Fin 64) (s : Fin 226), j = ix3 r o s := ⟨j 0, j 1, j 2, eq_ix3 j⟩
  refine region1 _ _ _ _ _ _ _ _ _ W X (fun r ch s => Eq.trans ?_ (h0 r ch s)) (fun dx o d ch h => Eq.trans ?_ (h1 dx o d ch h)) r o s
  · blk_ext! [iblk1, idx1]
  · blk_ext! [iblk1, idx1]

/-- What convolution 2 leaves in its output, when its input holds the image `X` with a border of zeros and its weights hold the taps `W`. -/
theorem region2 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out2_A_2 (F := Ideal) c arg0 harg0 arg1 harg1 arg2 harg2 x0 x1 (ix3 r o s) = padAt (relu (conv W X)) o r.val s.val := by
  unfold out2_A_2
  rw [View.read_writes_junk_eq_canon]
  refine View.canon_apply_of_pieces (holds (padAt (relu (conv W X)))) _ (fun p hp => ?_) _ (cover2_A_2 c arg0 harg0 arg1 harg1 arg2 harg2 x0 x1 _)
  unfold kernelRun2_A at hp
  dsimp only at hp
  rcases List.mem_append.mp hp with hp | hp
  · refine agree_trips _ _ _ rfl (pb_k2_t1_succ _ c _ arg0 harg0 arg1 harg1 arg2 harg2 _ _) (fun k p hp => ?_) _ le_rfl p hp
    have hk : k.val < 224 := Nat.lt_of_lt_of_le k.isLt k2_t1_abs.2.1
    unfold tripL_k2_t1 trip_k2_t1 at hp
    dsimp only at hp
    obtain rfl := List.mem_singleton.mp hp
    simp only [readAt_unread]
    refine agree_row _ (k.val + 1) (k2_off2_eq k) _ _ fun o s => ?_
    refine Cert.EncVIdeal.Row.row64 _ _ _ _ W X ⟨k.val, hk⟩ (fun d c s => ld_holds _ x0 h0 k.val 0 (k2_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k2_pay2]
    · obtain rfl := List.mem_singleton.mp hp
      refine agree_row _ 0 rfl _ _ fun o s => ?_
      rw [padAt_out _ _ (by omega)]
      pointwise [k2_pay1]

/-- The blocks of convolution 2 start at the beginning of their arrays. -/
theorem idx2 : (∀ a, win2_0.index t2_0 a = 0) ∧ (∀ a, win2_1.index t2_0 a = 0) := by
  decide +kernel

/-- The output array of convolution 2, from what its input arrays hold. -/
theorem final2 (V : (c : Dev nD) → (b : Ref sig .tc) → b.ty.Contents (Elt Ideal)) (c : Dev nD) (W : Ker 64 64) (X : Img 64)
    (h0 : ∀ (r : Fin 226) (ch : Fin 64) (s : Fin 226), V c main_v11 (ix3 r ch s) = padAt X ch r.val s.val)
    (h1 : ∀ (dx : Fin 3) (o : Fin 64) (d : Fin 3) (ch : Fin 64) (h : d.val * 64 + ch.val < 192), V c main_v15 (ix3 dx o ⟨d.val * 64 + ch.val, h⟩) = W o ch d dx)
    (r : Fin 226) (o : Fin 64) (s : Fin 226) :
    (dat2 V c).arrAt 2 cfg2.N (ix3 r o s) = padAt (relu (conv W X)) o r.val s.val := by
  refine congrFun ((dat2 V c).arrAt_eq_of_after_last 2 t2_0 (by decide +kernel) (holds (padAt (relu (conv W X)))) fun j => ?_) (ix3 r o s)
  blk_simp
  rw [after2_2]
  unfold outsAt2
  obtain ⟨r, o, s, rfl⟩ : ∃ (r : Fin 226) (o : Fin 64) (s : Fin 226), j = ix3 r o s := ⟨j 0, j 1, j 2, eq_ix3 j⟩
  refine region2 _ _ _ _ _ _ _ _ _ W X (fun r ch s => Eq.trans ?_ (h0 r ch s)) (fun dx o d ch h => Eq.trans ?_ (h1 dx o d ch h)) r o s
  · blk_ext! [iblk2, idx2]
  · blk_ext! [iblk2, idx2]

/-- What the last kernel leaves as the mean, when its input holds the features `H` with a border of zeros. -/
theorem region3_mean (c : Dev nD) (arg0 : Memref sig .tc .vmem S226x64x226 .f32) (harg0 : arg0.IsWhole) (arg1 : Memref sig .tc .vmem S128x64 .f32) (harg1 : arg1.IsWhole) (arg2 : Memref sig .tc .vmem S224x64x224 .f32) (harg2 : arg2.IsWhole) (arg3 : Memref sig .tc .vmem S224x64x224 .f32) (harg3 : arg3.IsWhole)
    (x0 : Vec Ideal S226x64x226 .f32) (x1 : Vec Ideal S128x64 .f32) (W : Fin 64 → Fin 64 → EReal) (H : Img 64)
    (h0 : ∀ (r : Fin 226) (c : Fin 64) (s : Fin 226), x0 (ix3 r c s) = padAt H c r.val s.val)
    (h1 : ∀ (o c : Fin 64) (h : o.val < 128), x1 (ix2 ⟨o.val, h⟩ c) = W o c)
    (y : Fin 224) (o : Fin 64) (x : Fin 224) :
    out3_A_2 (F := Ideal) c arg0 harg0 arg1 harg1 arg2 harg2 arg3 harg3 x0 x1 (ix3 y o x) = point W H o y x := by
  unfold out3_A_2
  rw [View.read_writes_junk_eq_canon]
  refine (View.canon_apply_of_pieces (holds (at0 (fun o y x => point W H o y x))) _ (fun p hp => ?_) _ (cover3_A_2 c arg0 harg0 arg1 harg1 arg2 harg2 arg3 harg3 x0 x1 _)).trans (holds_at0 (fun o y x => point W H o y x) y o x)
  unfold kernelRun3_A at hp
  dsimp only at hp
  refine agree_trips _ (fun k => (pb_k3_t1 _ c _ arg0 harg0 arg1 harg1 arg2 harg2 arg3 harg3 _ _ k).1) _ rfl (fun k => congrArg (Prod.fst) (pb_k3_t1_succ _ c _ arg0 harg0 arg1 harg1 arg2 harg2 arg3 harg3 _ _ k)) (fun k p hp => ?_) _ le_rfl p hp
  have hk : k.val < 224 := Nat.lt_of_lt_of_le k.isLt k3_t1_abs.2.1
  unfold tripL_k3_t1 trip_k3_t1 at hp
  dsimp only at hp
  obtain rfl := List.mem_singleton.mp hp
  simp only [readAt_unread]
  refine agree_row _ k.val (k3_off2_eq k) _ _ fun o x => ?_
  refine (Cert.EncVIdeal.Row.mean _ _ W H ⟨k.val, hk⟩ (fun c s => ?_) (fun o c h => (ld_matrix x1 _ _ _).trans (h1 o c h)) o x).trans (at0_fin (fun o y x => point W H o y x) o ⟨k.val, hk⟩ x).symm
  refine (ld_holds _ x0 h0 (k.val + 1) 1 (k3_off1_eq k) _ 0 c s).trans ?_
  rw [Nat.add_comm 1 s.val]
  exact padAt_in H c hk s.isLt

/-- What the last kernel leaves as the spread, when its input holds the features `H` with a border of zeros. -/
theorem region3_spread (c : Dev nD) (arg0 : Memref sig .tc .vmem S226x64x226 .f32) (harg0 : arg0.IsWhole) (arg1 : Memref sig .tc .vmem S128x64 .f32) (harg1 : arg1.IsWhole) (arg2 : Memref sig .tc .vmem S224x64x224 .f32) (harg2 : arg2.IsWhole) (arg3 : Memref sig .tc .vmem S224x64x224 .f32) (harg3 : arg3.IsWhole)
    (x0 : Vec Ideal S226x64x226 .f32) (x1 : Vec Ideal S128x64 .f32) (W : Fin 64 → Fin 64 → EReal) (H : Img 64)
    (h0 : ∀ (r : Fin 226) (c : Fin 64) (s : Fin 226), x0 (ix3 r c s) = padAt H c r.val s.val)
    (h1 : ∀ (o c : Fin 64) (h : 64 + o.val < 128), x1 (ix2 ⟨64 + o.val, h⟩ c) = W o c)
    (y : Fin 224) (o : Fin 64) (x : Fin 224) :
    out3_A_3 (F := Ideal) c arg0 harg0 arg1 harg1 arg2 harg2 arg3 harg3 x0 x1 (ix3 y o x) = variance (point W H o y x) := by
  unfold out3_A_3
  rw [View.read_writes_junk_eq_canon]
  refine (View.canon_apply_of_pieces (holds (at0 (fun o y x => variance (point W H o y x)))) _ (fun p hp => ?_) _ (cover3_A_3 c arg0 harg0 arg1 harg1 arg2 harg2 arg3 harg3 x0 x1 _)).trans (holds_at0 (fun o y x => variance (point W H o y x)) y o x)
  unfold kernelRun3_A at hp
  dsimp only at hp
  refine agree_trips _ (fun k => (pb_k3_t1 _ c _ arg0 harg0 arg1 harg1 arg2 harg2 arg3 harg3 _ _ k).2) _ rfl (fun k => congrArg (Prod.snd) (pb_k3_t1_succ _ c _ arg0 harg0 arg1 harg1 arg2 harg2 arg3 harg3 _ _ k)) (fun k p hp => ?_) _ le_rfl p hp
  have hk : k.val < 224 := Nat.lt_of_lt_of_le k.isLt k3_t1_abs.2.1
  unfold tripL_k3_t1 trip_k3_t1 at hp
  dsimp only at hp
  obtain rfl := List.mem_singleton.mp hp
  simp only [readAt_unread]
  refine agree_row _ k.val (k3_off2_eq k) _ _ fun o x => ?_
  refine (Cert.EncVIdeal.Row.spread _ _ W H ⟨k.val, hk⟩ (fun c s => ?_) (fun o c h => (ld_matrix x1 _ _ _).trans (h1 o c h)) o x).trans (at0_fin (fun o y x => variance (point W H o y x)) o ⟨k.val, hk⟩ x).symm
  refine (ld_holds _ x0 h0 (k.val + 1) 1 (k3_off1_eq k) _ 0 c s).trans ?_
  rw [Nat.add_comm 1 s.val]
  exact padAt_in H c hk s.isLt

/-- The blocks of the last kernel start at the beginning of their arrays. -/
theorem idx3 : (∀ a, win3_0.index t3_0 a = 0) ∧ (∀ a, win3_1.index t3_0 a = 0) := by
  decide +kernel

/-- The array of the mean after the last kernel, from what its input arrays hold. -/
theorem final3_mean (V : (c : Dev nD) → (b : Ref sig .tc) → b.ty.Contents (Elt Ideal)) (c : Dev nD) (W : Fin 64 → Fin 64 → EReal) (H : Img 64)
    (h0 : ∀ (r : Fin 226) (ch : Fin 64) (s : Fin 226), V c main_v16 (ix3 r ch s) = padAt H ch r.val s.val)
    (h1 : ∀ (o ch : Fin 64) (h : o.val < 128), V c main_v19 (ix2 ⟨o.val, h⟩ ch) = W o ch)
    (y : Fin 224) (o : Fin 64) (x : Fin 224) :
    (dat3 V c).arrAt 2 cfg3.N (ix3 y o x) = point W H o y x := by
  refine (congrFun ((dat3 V c).arrAt_eq_of_after_last 2 t3_0 (by decide +kernel) (holds (at0 (fun o y x => point W H o y x))) fun j => ?_) (ix3 y o x)).trans (holds_at0 (fun o y x => point W H o y x) y o x)
  blk_simp
  rw [after3_2]
  unfold outsAt3
  obtain ⟨y, o, x, rfl⟩ : ∃ (y : Fin 224) (o : Fin 64) (x : Fin 224), j = ix3 y o x := ⟨j 0, j 1, j 2, eq_ix3 j⟩
  refine (region3_mean _ _ _ _ _ _ _ _ _ _ _ W H (fun r ch s => Eq.trans ?_ (h0 r ch s)) (fun o ch h => Eq.trans ?_ (h1 o ch h)) y o x).trans (holds_at0 (fun o y x => point W H o y x) y o x).symm
  · blk_ext! [iblk3, idx3]
  · blk_ext! [iblk3, idx3]

/-- The array of the spread after the last kernel, from what its input arrays hold. -/
theorem final3_spread (V : (c : Dev nD) → (b : Ref sig .tc) → b.ty.Contents (Elt Ideal)) (c : Dev nD) (W : Fin 64 → Fin 64 → EReal) (H : Img 64)
    (h0 : ∀ (r : Fin 226) (ch : Fin 64) (s : Fin 226), V c main_v16 (ix3 r ch s) = padAt H ch r.val s.val)
    (h1 : ∀ (o ch : Fin 64) (h : 64 + o.val < 128), V c main_v19 (ix2 ⟨64 + o.val, h⟩ ch) = W o ch)
    (y : Fin 224) (o : Fin 64) (x : Fin 224) :
    (dat3 V c).arrAt 3 cfg3.N (ix3 y o x) = variance (point W H o y x) := by
  refine (congrFun ((dat3 V c).arrAt_eq_of_after_last 3 t3_0 (by decide +kernel) (holds (at0 (fun o y x => variance (point W H o y x)))) fun j => ?_) (ix3 y o x)).trans (holds_at0 (fun o y x => variance (point W H o y x)) y o x)
  blk_simp
  rw [after3_3]
  unfold outsAt3
  obtain ⟨y, o, x, rfl⟩ : ∃ (y : Fin 224) (o : Fin 64) (x : Fin 224), j = ix3 y o x := ⟨j 0, j 1, j 2, eq_ix3 j⟩
  refine (region3_spread _ _ _ _ _ _ _ _ _ _ _ W H (fun r ch s => Eq.trans ?_ (h0 r ch s)) (fun o ch h => Eq.trans ?_ (h1 o ch h)) y o x).trans (holds_at0 (fun o y x => variance (point W H o y x)) y o x).symm
  · blk_ext! [iblk3, idx3]
  · blk_ext! [iblk3, idx3]

/-! ## The arguments, as images and taps -/

/-- The image. -/
def image (m : (ℓ : Loc nD τ sig) → Buf (Elt Ideal) ℓ) (c : Dev nD) : Img 1 := fun ch y x => m ((c : Thread nD τ).loc main_arg0) (ix4 0 ch y x)
/-- The taps of the first convolution. -/
def stem (m : (ℓ : Loc nD τ sig) → Buf (Elt Ideal) ℓ) (c : Dev nD) : Ker 64 1 := fun o ch dy dx => m ((c : Thread nD τ).loc main_arg1) (ix4 o ch dy dx)
/-- The taps of the later convolutions. -/
def block (m : (ℓ : Loc nD τ sig) → Buf (Elt Ideal) ℓ) (c : Dev nD) (i : Fin 2) : Ker 64 64 := fun o ch dy dx => m ((c : Thread nD τ).loc main_arg2) (ix5 i o ch dy dx)
/-- The weights of the mean. -/
def meanW (m : (ℓ : Loc nD τ sig) → Buf (Elt Ideal) ℓ) (c : Dev nD) (o ch : Fin 64) : EReal := m ((c : Thread nD τ).loc main_arg3) (ix4 o ch 0 0)
/-- The weights of the variance. -/
def spreadW (m : (ℓ : Loc nD τ sig) → Buf (Elt Ideal) ℓ) (c : Dev nD) (o ch : Fin 64) : EReal := m ((c : Thread nD τ).loc main_arg4) (ix4 o ch 0 0)

/-- The features after the first convolution, -/
def feat1 (m : (ℓ : Loc nD τ sig) → Buf (Elt Ideal) ℓ) (c : Dev nD) : Img 64 := relu (conv (stem m c) (image m c))
/-- after the second, -/
def feat2 (m : (ℓ : Loc nD τ sig) → Buf (Elt Ideal) ℓ) (c : Dev nD) : Img 64 := relu (conv (block m c 0) (feat1 m c))
/-- and after the third. -/
def feat3 (m : (ℓ : Loc nD τ sig) → Buf (Elt Ideal) ℓ) (c : Dev nD) : Img 64 := relu (conv (block m c 1) (feat2 m c))

/-! ## The host operations between the kernels, and the kernels one after another -/

/-- The first convolution's input: the image, given zero channels, with a border of zeros. -/
theorem in0 (m : (ℓ : Loc nD τ sig) → Buf (Elt Ideal) ℓ) (ρ : Dev nD → PrngReg) (c : Dev nD) (r : Fin 226) (ch : Fin 8) (s : Fin 226) :
    W5 m ρ c (Proc.devRef .tc main_v2) (ix3 r ch s) = padAt (padChan 8 (image m c)) ch r.val s.val := by
  after_results
  simp -implicitDefEqProofs only [StableHlo.TRef.toBuf, StableHlo.TRef.ofBuf, cast_cast, cast_eq]
  pointwise [sitofp_zero]
  unfold padAt padChan image
  split_ifs <;> first | rfl | omega | exact congrArg (fun i => m ((c : Thread nD τ).loc main_arg0) (ix4 0 i _ _)) (Subsingleton.elim _ _)

/-- The first convolution's weights: the taps, given zero taps for the zero channels. -/
theorem taps0 (m : (ℓ : Loc nD τ sig) → Buf (Elt Ideal) ℓ) (ρ : Dev nD → PrngReg) (c : Dev nD) (dx : Fin 3) (o : Fin 64) (d : Fin 3) (ch : Fin 8) (h : d.val * 8 + ch.val < 24) :
    W5 m ρ c (Proc.devRef .tc main_v5) (ix3 dx o ⟨d.val * 8 + ch.val, h⟩) = padKer 8 (stem m c) o ch d dx := by
  after_results
  simp -implicitDefEqProofs only [StableHlo.TRef.toBuf, StableHlo.TRef.ofBuf, cast_cast, cast_eq]
  pointwise [sitofp_zero]
  unfold padKer stem
  rfl

/-- What the first convolution leaves: its features with a border of zeros. -/
theorem out0 (m : (ℓ : Loc nD τ sig) → Buf (Elt Ideal) ℓ) (ρ : Dev nD → PrngReg) (c : Dev nD) (r : Fin 226) (o : Fin 64) (s : Fin 226) :
    W6 m ρ c (Proc.devRef .tc main_v6) (ix3 r o s) = padAt (feat1 m c) o r.val s.val := by
  refine (congrFun (W6_arr m ρ c 2) _).trans ?_
  rw [final0 (V5 m ρ) c (padKer 8 (stem m c)) (padChan 8 (image m c)) (in0 m ρ c) (taps0 m ρ c), conv_padChan (by decide)]
  rfl

/-- The weights of convolution 1. -/
theorem taps1 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W7 m ρ c (Proc.devRef .tc main_v10) (ix3 dx o ⟨d.val * 64 + ch.val, h⟩) = block m c 0 o ch d dx := by
  have e := W6_args m ρ c main_arg2 (by decide)
  unfold W7
  after_results
  rw [e]
  pointwise []
  rfl

/-- What convolution 1 leaves: its features with a border of zeros. -/
theorem out1 (m : (ℓ : Loc nD τ sig) → Buf (Elt Ideal) ℓ) (ρ : Dev nD → PrngReg) (c : Dev nD) (r : Fin 226) (o : Fin 64) (s : Fin 226) :
    W8 m ρ c (Proc.devRef .tc main_v11) (ix3 r o s) = padAt (feat2 m c) o r.val s.val := by
  refine (congrFun (W8_arr m ρ c 2) _).trans ?_
  refine final1 (V7 m ρ) c (block m c 0) (feat1 m c) (fun r ch s => ?_) (taps1 m ρ c) r o s
  exact (congrFun (W7_of m ρ c main_v6 (by decide)) _).trans (out0 m ρ c r ch s)

/-- The weights of convolution 2. -/
theorem taps2 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W9 m ρ c (Proc.devRef .tc main_v15) (ix3 dx o ⟨d.val * 64 + ch.val, h⟩) = block m c 1 o ch d dx := by
  have e := W8_args m ρ c main_arg2 (by decide)
  unfold W9
  after_results
  rw [e]
  pointwise []
  rfl

/-- What convolution 2 leaves: its features with a border of zeros. -/
theorem out2 (m : (ℓ : Loc nD τ sig) → Buf (Elt Ideal) ℓ) (ρ : Dev nD → PrngReg) (c : Dev nD) (r : Fin 226) (o : Fin 64) (s : Fin 226) :
    W10 m ρ c (Proc.devRef .tc main_v16) (ix3 r o s) = padAt (feat3 m c) o r.val s.val := by
  refine (congrFun (W10_arr m ρ c 2) _).trans ?_
  refine final2 (V9 m ρ) c (block m c 1) (feat2 m c) (fun r ch s => ?_) (taps2 m ρ c) r o s
  exact (congrFun (W9_of m ρ c main_v11 (by decide)) _).trans (out1 m ρ c r ch s)

/-- The weights of the mean, in the array of both. -/
theorem taps_mean (m : (ℓ : Loc nD τ sig) → Buf (Elt Ideal) ℓ) (ρ : Dev nD → PrngReg) (c : Dev nD) (o ch : Fin 64) (h : o.val < 128) :
    W11 m ρ c (Proc.devRef .tc main_v19) (ix2 ⟨o.val, h⟩ ch) = meanW m c o ch := by
  have e3 := W10_args m ρ c main_arg3 (by decide)
  have e4 := W10_args m ρ c main_arg4 (by decide)
  unfold W11
  after_results
  rw [e3, e4]
  pointwise []
  rfl

/-- The weights of the spread, in the array of both. -/
theorem taps_spread (m : (ℓ : Loc nD τ sig) → Buf (Elt Ideal) ℓ) (ρ : Dev nD → PrngReg) (c : Dev nD) (o ch : Fin 64) (h : 64 + o.val < 128) :
    W11 m ρ c (Proc.devRef .tc main_v19) (ix2 ⟨64 + o.val, h⟩ ch) = spreadW m c o ch := by
  have e3 := W10_args m ρ c main_arg3 (by decide)
  have e4 := W10_args m ρ c main_arg4 (by decide)
  unfold W11
  after_results
  rw [e3, e4]
  pointwise []
  rfl

/-- What the last kernel leaves as the mean. -/
theorem out_mean (m : (ℓ : Loc nD τ sig) → Buf (Elt Ideal) ℓ) (ρ : Dev nD → PrngReg) (c : Dev nD) (y : Fin 224) (o : Fin 64) (x : Fin 224) :
    W12 m ρ c (Proc.devRef .tc main_v20_0) (ix3 y o x) = point (meanW m c) (feat3 m c) o y x := by
  refine (congrFun (W12_arr m ρ c 2) _).trans ?_
  refine final3_mean (V11 m ρ) c (meanW m c) (feat3 m c) (fun r ch s => ?_) (taps_mean m ρ c) y o x
  exact (congrFun (W11_of m ρ c main_v16 (by decide)) _).trans (out2 m ρ c r ch s)

/-- The result `mean`, from the arguments. -/
theorem result_mean (m : (ℓ : Loc nD τ sig) → Buf (Elt Ideal) ℓ) (ρ : Dev nD → PrngReg) (c : Dev nD) (o : Fin 64) (y x : Fin 224) :
    W13 m ρ c (Proc.devRef .tc main_v22) (ix4 0 o y x) = point (meanW m c) (feat3 m c) o y x := by
  rw [← out_mean m ρ c y o x]
  unfold W13
  after_results
  pointwise []

/-- What the last kernel leaves as the spread. -/
theorem out_spread (m : (ℓ : Loc nD τ sig) → Buf (Elt Ideal) ℓ) (ρ : Dev nD → PrngReg) (c : Dev nD) (y : Fin 224) (o : Fin 64) (x : Fin 224) :
    W12 m ρ c (Proc.devRef .tc main_v20_1) (ix3 y o x) = variance (point (spreadW m c) (feat3 m c) o y x) := by
  refine (congrFun (W12_arr m ρ c 3) _).trans ?_
  refine final3_spread (V11 m ρ) c (spreadW m c) (feat3 m c) (fun r ch s => ?_) (taps_spread m ρ c) y o x
  exact (congrFun (W11_of m ρ c main_v16 (by decide)) _).trans (out2 m ρ c r ch s)

/-- The result `spread`, from the arguments. -/
theorem result_spread (m : (ℓ : Loc nD τ sig) → Buf (Elt Ideal) ℓ) (ρ : Dev nD → PrngReg) (c : Dev nD) (o : Fin 64) (y x : Fin 224) :
    W13 m ρ c (Proc.devRef .tc main_v24) (ix4 0 o y x) = variance (point (spreadW m c) (feat3 m c) o y x) := by
  rw [← out_spread m ρ c y o x]
  unfold W13
  after_results
  pointwise []

end Cert.EncIIdeal.Encoder

end
-- ==== Proof.EncIReference.lean ====
/- What the reference of the encoder computes, for the image of 1 channel. -/
module

public import proofs.«01_k».proof.Proof.Gen.EncIRefIdeal.Run
public import proofs.«01_k».proof.Proof.Math

@[expose] public section

set_option maxRecDepth 16384

noncomputable section

open Idealize.ShloMosaic Idealize.ShloMosaic.TcCoe Idealize.SL.Sem

namespace Cert.EncIRefIdeal.Encoder

open Cert.EncIRefIdeal Cert.EncIRefIdeal.Gen Cert.EncIRefIdeal.Value Cert.Math

/-! ## The arguments, as images and taps -/

/-- The image. -/
def image (V : Valuation τ sig (Elt Ideal)) : Img 1 := fun ch y x => V (Proc.devRef .tc main_arg0) (ix4 0 ch y x)
/-- The taps of the first convolution. -/
def stem (V : Valuation τ sig (Elt Ideal)) : Ker 64 1 := fun o ch dy dx => V (Proc.devRef .tc main_arg1) (ix4 o ch dy dx)
/-- The taps of the later convolutions. -/
def block (V : Valuation τ sig (Elt Ideal)) (i : Fin 2) : Ker 64 64 := fun o ch dy dx => V (Proc.devRef .tc main_arg2) (ix5 i o ch dy dx)
/-- The weights of the mean. -/
def meanW (V : Valuation τ sig (Elt Ideal)) (o ch : Fin 64) : EReal := V (Proc.devRef .tc main_arg3) (ix4 o ch 0 0)
/-- The weights of the variance. -/
def spreadW (V : Valuation τ sig (Elt Ideal)) (o ch : Fin 64) : EReal := V (Proc.devRef .tc main_arg4) (ix4 o ch 0 0)

/-- The features after the first convolution, -/
def feat1 (V : Valuation τ sig (Elt Ideal)) : Img 64 := relu (conv (stem V) (image V))
/-- after the second, -/
def feat2 (V : Valuation τ sig (Elt Ideal)) : Img 64 := relu (conv (block V 0) (feat1 V))
/-- and after the third. -/
def feat3 (V : Valuation τ sig (Elt Ideal)) : Img 64 := relu (conv (block V 1) (feat2 V))

/-! ## The named tensors of the reference -/

/-- The first convolution's input is the image with a border of zeros. -/
theorem border0 (V : Valuation τ sig (Elt Ideal)) (ch : Fin 1) (r s : Fin 226) : res_main_v1 V (ix3 ch r s) = padAt (image V) ch r.val s.val := by
  pointwise [res_main_v1, sitofp_zero]
  exact dite_padAt (image V) ch fun h => by rw [Subsingleton.elim ch 0]; rfl

/-- The second convolution's input is the first's features with a border of zeros. -/
theorem border1 (V : Valuation τ sig (Elt Ideal)) (o : Fin 64) (r s : Fin 226) : res_main_v51 V (ix3 o r s) = padAt (feat1 V) o r.val s.val := by
  pointwise [res_main_v51, sitofp_zero]
  refine dite_padAt (feat1 V) o fun h => congrArg (max · 0) ?_
  simp only [border0]
  exact conv_sum (stem V) (image V) o h.1.2 h.2.2

/-- The taps of the second convolution. -/
theorem taps1 (V : Valuation τ sig (Elt Ideal)) (o ch : Fin 64) (dy dx : Fin 3) : res_main_v49 V (ix4 o ch dy dx) = block V 0 o ch dy dx := by
  pointwise [res_main_v49]
  rfl

/-- The third convolution's input is the second's features with a border of zeros. -/
theorem border2 (V : Valuation τ sig (Elt Ideal)) (o : Fin 64) (r s : Fin 226) : res_main_v101 V (ix3 o r s) = padAt (feat2 V) o r.val s.val := by
  pointwise [res_main_v101, sitofp_zero]
  refine dite_padAt (feat2 V) o fun h => congrArg (max · 0) ?_
  simp only [border1, taps1]
  exact conv_sum (block V 0) (feat1 V) o h.1.2 h.2.2

/-- The taps of the third convolution. -/
theorem taps2 (V : Valuation τ sig (Elt Ideal)) (o ch : Fin 64) (dy dx : Fin 3) : res_main_v99 V (ix4 o ch dy dx) = block V 1 o ch dy dx := by
  pointwise [res_main_v99]
  rfl

/-- The third convolution's features. -/
theorem features (V : Valuation τ sig (Elt Ideal)) (o : Fin 64) (y x : Fin 224) : res_main_v147 V (ix4 0 o y x) = feat3 V o y x := by
  pointwise [res_main_v147]
  refine congrArg (fun a : EReal => max a 0) ?_
  simp only [border2, taps2]
  exact conv_sum (block V 1) (feat2 V) o y.isLt x.isLt

/-! ## The results -/

/-- A 1×1 convolution, as the reference computes it. -/
theorem point_at (A : FVec Ideal S64x64x1x1 .f32) (H : FVec Ideal S1x64x224x224 .f32) (o : Fin 64) (y x : Fin 224) :
    broadcastInDim S1x64x224x224 ![1, 2, 3] bcast_S64x224x224_S1x64x224x224_1_2_3 (Host.dotGeneral (F := Ideal) (φ₁ := .f32) (φ₂ := .f32) dot_S64x64_S64x224x224_S64x224x224_1_0_0_12_n_n none (shapeCast _ A shapeCasts_S64x64x1x1_S64x64) (shapeCast _ H shapeCasts_S1x64x224x224_S64x224x224)) (ix4 0 o y x)
      = point (fun o ch => A (ix4 o ch 0 0)) (fun ch y x => H (ix4 0 ch y x)) o y x := by
  pointwise []
  rfl

/-- The mean. -/
theorem result_mean (V : Valuation τ sig (Elt Ideal)) : point (meanW V) (fun ch y x => res_main_v147 V (ix4 0 ch y x)) = point (meanW V) (feat3 V) := by
  simp only [features]

/-- The raw output the variance is computed from. -/
theorem raw (V : Valuation τ sig (Elt Ideal)) (o : Fin 64) (y x : Fin 224) : res_main_v155 V (ix4 0 o y x) = point (spreadW V) (feat3 V) o y x := by
  pointwise [res_main_v155]
  simp only [features]
  rfl

/-- The variance. -/
theorem result_spread (V : Valuation τ sig (Elt Ideal)) (o : Fin 64) (y x : Fin 224) :
    (addf (select (cmpf .une (res_main_call6_v3 V) (res_main_call6_v3 V)) (addf (res_main_v155 V) (broadcastInDim S1x64x224x224 ![] bcast_S_S1x64x224x224 (res_main_call6_cst V))) (addf (maximumf (res_main_v155 V) (broadcastInDim S1x64x224x224 ![] bcast_S_S1x64x224x224 (res_main_call6_cst V))) (Host.log1p (Host.exp (Host.negf (Host.absf (res_main_call6_v3 V))))))) (broadcastInDim S1x64x224x224 ![] bcast_S_S1x64x224x224 (constant S_ .f32 0x358637BD#32)) : Vec Ideal S1x64x224x224 .f32) (ix4 0 o y x)
      = variance (point (spreadW V) (feat3 V) o y x) := by
  pointwise [res_main_call6_v3, res_main_call6_cst]
  rw [raw, if_neg (fun h => h rfl)]
  rfl

end Cert.EncIRefIdeal.Encoder

end
-- ==== Proof.EncIClaim.lean ====
/- The claims about the encoder of the infrared image. -/
module

public import proofs.«01_k».proof.Defs
public import proofs.«01_k».proof.Proof.EncIKernel
public import proofs.«01_k».proof.Proof.EncIReference
public import Idealize.ShloMosaic.Lib.Quiescent

@[expose] public section

set_option maxRecDepth 16384

noncomputable section

namespace Cert.EncIIdeal.Encoder

open Idealize.ShloMosaic Idealize.ShloMosaic.TcCoe Idealize.SL Idealize.SL.BI Idealize.SL.BI.BIBase Idealize.SL.BI.Laws Idealize.SL.Sem Idealize.SL.ProofMode
open Idealize.SL.RA Idealize.ShloMosaic.Rounds
open scoped Idealize.SL.BI
open Idealize.ShloMosaic.Pipeline (Dat Cfg Window BodyObligation cellOf)
open Cert.EncIIdeal Cert.EncIIdeal.Gen

local notation "𝕄" => MT nD τ sig Unit (Elt Ideal) ℕ (UR sig nD τ) ℕ

set_option backward.isDefEq.respectTransparency.types false in
/-- Every execution of the kernel ends with each result array at what the host operations and the kernels leave there one after another,
    and with the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = W13 m ρ c (Proc.devRef .tc main_v22) ∧
      r.2.mem ((c.tc : Thread nD τ).loc main_v24) = W13 m ρ c (Proc.devRef .tc main_v24) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => fun c =>
      ⟨h c _ (mem_uc main_v22 (by decide)),
       h c _ (mem_uc main_v24 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.EncIIdeal.Encoder

namespace Cert.EncIClaim

open Idealize.ShloMosaic Idealize.ShloMosaic.TcCoe Idealize.SL.Sem Cert.Math

/-- The reference ends with its arguments unchanged and every semaphore at zero. -/
theorem frame_reference : Cert.quiescent_EncIRefIdeal (hEncIRefIdeal := Cert.EncIRefIdeal.Gen.facts) := fun m g _ =>
  (θ_run _ _ _).mono (fun r h => ⟨fun c => (h c).2.2, sem_eq_zero_of_no_sems rfl r.2⟩) (Cert.EncIRefIdeal.Value.run m g)

/-- The results of the kernel and of the reference are equal, as extended reals. -/
theorem algebraic : Cert.algebraic_EncIIdeal_EncIRefIdeal (hEncIIdeal := Cert.EncIIdeal.Gen.facts) (hEncIRefIdeal := Cert.EncIRefIdeal.Gen.facts) := by
  intro m g m' g' _ hm
  refine ⟨_, _, Cert.EncIIdeal.Encoder.run m g, (θ_run _ _ _).mono (fun r h c => ⟨(h c).1.trans ?_, (h c).2.1.trans ?_, (h c).2.2⟩) (Cert.EncIRefIdeal.Value.run m' g')⟩
  all_goals
    obtain ⟨e0, e1, e2, e3, e4⟩ := hm c
    have f3 : Cert.EncIRefIdeal.Encoder.feat3 (StableHlo.launchContents m' c) = Cert.EncIIdeal.Encoder.feat3 m c := by
      have i : Cert.EncIRefIdeal.Encoder.image (StableHlo.launchContents m' c) = Cert.EncIIdeal.Encoder.image m c := funext fun _ => funext fun _ => funext fun _ => congrFun e0 _
      have s : Cert.EncIRefIdeal.Encoder.stem (StableHlo.launchContents m' c) = Cert.EncIIdeal.Encoder.stem m c := funext fun _ => funext fun _ => funext fun _ => funext fun _ => congrFun e1 _
      have b : Cert.EncIRefIdeal.Encoder.block (StableHlo.launchContents m' c) = Cert.EncIIdeal.Encoder.block m c := funext fun _ => funext fun _ => funext fun _ => funext fun _ => funext fun _ => congrFun e2 _
      unfold Cert.EncIRefIdeal.Encoder.feat3 Cert.EncIRefIdeal.Encoder.feat2 Cert.EncIRefIdeal.Encoder.feat1
      rw [i, s, b]
      rfl
    have w3 : Cert.EncIRefIdeal.Encoder.meanW (StableHlo.launchContents m' c) = Cert.EncIIdeal.Encoder.meanW m c := funext fun _ => funext fun _ => congrFun e3 _
    have w4 : Cert.EncIRefIdeal.Encoder.spreadW (StableHlo.launchContents m' c) = Cert.EncIIdeal.Encoder.spreadW m c := funext fun _ => funext fun _ => congrFun e4 _
    funext i
    obtain ⟨z, o, y, x, rfl⟩ : ∃ (z : Fin 1) (o : Fin 64) (y x : Fin 224), i = ix4 z o y x := ⟨i 0, i 1, i 2, i 3, eq_ix4 i⟩
    obtain rfl : z = 0 := Subsingleton.elim _ _
  · refine Eq.trans ?_ (Cert.EncIIdeal.Encoder.result_mean m g c o y x).symm
    refine (Cert.EncIRefIdeal.Encoder.point_at _ _ o y x).trans ?_
    refine (congrFun (congrFun (congrFun (Cert.EncIRefIdeal.Encoder.result_mean (StableHlo.launchContents m' c)) o) y) x).trans ?_
    rw [w3, f3]
  · refine Eq.trans ?_ (Cert.EncIIdeal.Encoder.result_spread m g c o y x).symm
    refine (Cert.EncIRefIdeal.Encoder.result_spread (StableHlo.launchContents m' c) o y x).trans ?_
    rw [w4, f3]

end Cert.EncIClaim

end
-- ==== Proof.FuseRow.lean ====
/- The rows that the kernels of the fusion network compute: the sum of the four images, and the last convolution. -/
module

public import proofs.«01_k».proof.Proof.Gen.FuseIdeal.Skeleton
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.FuseIdeal.Row

open Cert.FuseIdeal Cert.FuseIdeal.Gen Cert.Math Cert.Rows

/-- The sum of the four images, those of one channel added to each of the three channels. -/
def total (V G : Img 3) (I L : Img 1) : Img 3 := fun ch y x => V ch y x + G ch y x + (I 0 y x + L 0 y x)

/-- The row that the first kernel computes from one row of each image with its border is the row of their sum, given zero channels up to eight, with its border. -/
theorem sum4 (P0 P1 : Vec Ideal S1x3x226 .f32) (P2 P3 : Vec Ideal S1x1x226 .f32) (V G : Img 3) (I L : Img 1) (r : ℕ)
    (h0 : ∀ (ch : Fin 3) (s : Fin 226), P0 (ix3 0 ch s) = padAt V ch r s.val) (h1 : ∀ (ch : Fin 3) (s : Fin 226), P1 (ix3 0 ch s) = padAt G ch r s.val)
    (h2 : ∀ (ch : Fin 1) (s : Fin 226), P2 (ix3 0 ch s) = padAt I ch r s.val) (h3 : ∀ (ch : Fin 1) (s : Fin 226), P3 (ix3 0 ch s) = padAt L ch r s.val)
    (o : Fin 8) (s : Fin 226) :
    k0_pay1 (F := Ideal) P0 P1 P2 P3 (ix3 0 o s) = padAt (padChan 8 (total V G I L)) o r s.val := by
  pointwise [k0_pay1]
  simp only [h0, h1, h2, h3]
  unfold padAt padChan total
  split_ifs <;> simp

/-- The row that the last kernel computes from three rows of features and the three columns of taps is the row of the convolution. -/
theorem rowOut (P : Vec Ideal S3x64x226 .f32) (w0 w1 w2 : Vec Ideal S1x3x192 .f32) (W : Ker 3 64) (X : Img 64) (y : Fin 224)
    (hP : ∀ (d : Fin 3) (c : Fin 64) (s : Fin 226), P (ix3 d c s) = padAt X c (y.val + d.val) (0 + s.val))
    (h0 : ∀ (o : Fin 3) (d : Fin 3) (c : Fin 64) (h : d.val * 64 + c.val < 192), w0 (ix3 0 o ⟨d.val * 64 + c.val, h⟩) = W o c d 0)
    (h1 : ∀ (o : Fin 3) (d : Fin 3) (c : Fin 64) (h : d.val * 64 + c.val < 192), w1 (ix3 0 o ⟨d.val * 64 + c.val, h⟩) = W o c d 1)
    (h2 : ∀ (o : Fin 3) (d : Fin 3) (c : Fin 64) (h : d.val * 64 + c.val < 192), w2 (ix3 0 o ⟨d.val * 64 + c.val, h⟩) = W o c d 2)
    (o : Fin 3) (x : Fin 224) :
    k5_pay1 (F := Ideal) P w0 w1 w2 (ix3 0 o x) = conv W X o y x := by
  pointwise [k5_pay1]
  have hm (d : Fin 3) (c : Fin 64) : (d.val * 64 + c.val) % 64 = c.val := by omega
  have hd (d : Fin 3) (c : Fin 64) : (d.val * 64 + c.val) / 64 = d.val := by omega
  refine conv_cols W X o y x ?_ ?_ ?_ <;> refine sum_pairs (C := 64) rfl _ _ fun d c hb => ?_
  · rw [h0, hP]; simp only [hm, hd, Nat.zero_add]
  · rw [h1, hP]; simp only [hm, hd, Nat.zero_add, Nat.add_comm 1]
  · rw [h2, hP]; simp only [hm, hd, Nat.zero_add, Nat.add_comm 2]

end Cert.FuseIdeal.Row

end
-- ==== Proof.FuseKernel.lean ====
/- What the kernels of the fusion network leave in memory. -/
module

public import proofs.«01_k».proof.Proof.Gen.FuseIdeal.Frame
public import proofs.«01_k».proof.Proof.EncRow
public import proofs.«01_k».proof.Proof.FuseRow
public import Idealize.ShloMosaic.Lib.Claim

@[expose] public section

set_option maxRecDepth 16384

noncomputable section

open Idealize.ShloMosaic Idealize.ShloMosaic.TcCoe Idealize.SL.Sem

namespace Cert.FuseIdeal.Network

open Cert.FuseIdeal Cert.FuseIdeal.Gen Cert.Math Cert.Rows

open Cert.FuseIdeal.Row

/-- What the first kernel leaves in its output, when its inputs hold four images with a border of zeros. -/
theorem region0 (c : Dev nD) (arg0 : Memref sig .tc .vmem S226x3x226 .f32) (harg0 : arg0.IsWhole) (arg1 : Memref sig .tc .vmem S226x3x226 .f32) (harg1 : arg1.IsWhole) (arg2 : Memref sig .tc .vmem S226x1x226 .f32) (harg2 : arg2.IsWhole) (arg3 : Memref sig .tc .vmem S226x1x226 .f32) (harg3 : arg3.IsWhole) (arg4 : Memref sig .tc .vmem S226x8x226 .f32) (harg4 : arg4.IsWhole)
    (x0 x1 : Vec Ideal S226x3x226 .f32) (x2 x3 : Vec Ideal S226x1x226 .f32) (V G : Img 3) (I L : Img 1)
    (h0 : ∀ (r : Fin 226) (c : Fin 3) (s : Fin 226), x0 (ix3 r c s) = padAt V c r.val s.val)
    (h1 : ∀ (r : Fin 226) (c : Fin 3) (s : Fin 226), x1 (ix3 r c s) = padAt G c r.val s.val)
    (h2 : ∀ (r : Fin 226) (c : Fin 1) (s : Fin 226), x2 (ix3 r c s) = padAt I c r.val s.val)
    (h3 : ∀ (r : Fin 226) (c : Fin 1) (s : Fin 226), x3 (ix3 r c s) = padAt L c r.val s.val)
    (r : Fin 226) (o : Fin 8) (s : Fin 226) :
    out0_A_4 (F := Ideal) c arg0 harg0 arg1 harg1 arg2 harg2 arg3 harg3 arg4 harg4 x0 x1 x2 x3 (ix3 r o s) = padAt (padChan 8 (total V G I L)) o r.val s.val := by
  unfold out0_A_4
  rw [View.read_writes_junk_eq_canon]
  refine View.canon_apply_of_pieces (holds (padAt (padChan 8 (total V G I L)))) _ (fun p hp => ?_) _ (cover0_A_4 c arg0 harg0 arg1 harg1 arg2 harg2 arg3 harg3 arg4 harg4 x0 x1 x2 x3 _)
  unfold kernelRun0_A at hp
  dsimp only at hp
  refine agree_trips _ _ _ rfl (pb_k0_t1_succ _ c _ arg0 harg0 arg1 harg1 arg2 harg2 arg3 harg3 arg4 harg4 _ _ _ _) (fun k p hp => ?_) _ le_rfl p hp
  unfold tripL_k0_t1 trip_k0_t1 at hp
  dsimp only at hp
  obtain rfl := List.mem_singleton.mp hp
  simp only [readAt_unread]
  refine agree_row _ k.val (k0_off3_eq k) _ _ fun o s => ?_
  refine sum4 _ _ _ _ V G I L k.val (fun ch s => ?_) (fun ch s => ?_) (fun ch s => ?_) (fun ch s => ?_) o s
  · exact (ld_holds _ x0 h0 k.val 0 (k0_off1_eq k) _ 0 ch s).trans (by rw [Nat.zero_add]; rfl)
  · exact (ld_holds _ x1 h1 k.val 0 (k0_off1_eq k) _ 0 ch s).trans (by rw [Nat.zero_add]; rfl)
  · exact (ld_holds _ x2 h2 k.val 0 (k0_off2_eq k) _ 0 ch s).trans (by rw [Nat.zero_add]; rfl)
  · exact (ld_holds _ x3 h3 k.val 0 (k0_off2_eq k) _ 0 ch s).trans (by rw [Nat.zero_add]; rfl)

/-- The blocks of the first kernel start at the beginning of their arrays. -/
theorem idx0 : (∀ a, win0_0.index t0_0 a = 0) ∧ (∀ a, win0_1.index t0_0 a = 0) ∧ (∀ a, win0_2.index t0_0 a = 0) ∧ (∀ a, win0_3.index t0_0 a = 0) := by
  decide +kernel

/-- The output array of the first kernel, from what its input arrays hold. -/
theorem final0 (V₀ : (c : Dev nD) → (b : Ref sig .tc) → b.ty.Contents (Elt Ideal)) (c : Dev nD) (V G : Img 3) (I L : Img 1)
    (h0 : ∀ (r : Fin 226) (c' : Fin 3) (s : Fin 226), V₀ c main_v8 (ix3 r c' s) = padAt V c' r.val s.val)
    (h1 : ∀ (r : Fin 226) (c' : Fin 3) (s : Fin 226), V₀ c main_v2 (ix3 r c' s) = padAt G c' r.val s.val)
    (h2 : ∀ (r : Fin 226) (c' : Fin 1) (s : Fin 226), V₀ c main_v11 (ix3 r c' s) = padAt I c' r.val s.val)
    (h3 : ∀ (r : Fin 226) (c' : Fin 1) (s : Fin 226), V₀ c main_v5 (ix3 r c' s) = padAt L c' r.val s.val)
    (r : Fin 226) (o : Fin 8) (s : Fin 226) :
    (dat0 V₀ c).arrAt 4 cfg0.N (ix3 r o s) = padAt (padChan 8 (total V G I L)) o r.val s.val := by
  refine congrFun ((dat0 V₀ c).arrAt_eq_of_after_last 4 t0_0 (by decide +kernel) (holds (padAt (padChan 8 (total V G I L)))) fun j => ?_) (ix3 r o s)
  blk_simp
  rw [after0_4]
  unfold outsAt0
  obtain ⟨r, o, s, rfl⟩ : ∃ (r : Fin 226) (o : Fin 8) (s : Fin 226), j = ix3 r o s := ⟨j 0, j 1, j 2, eq_ix3 j⟩
  refine region0 _ _ _ _ _ _ _ _ _ _ _ _ _ _ _ V G I L (fun r ch s => Eq.trans ?_ (h0 r ch s)) (fun r ch s => Eq.trans ?_ (h1 r ch s)) (fun r ch s => Eq.trans ?_ (h2 r ch s)) (fun r ch s => Eq.trans ?_ (h3 r ch s)) r o s
  all_goals blk_ext! [iblk0, idx0]

/-- What convolution 1 leaves in its output, when its input holds the image `X` with a border of zeros and its weights hold the taps `W`. -/
theorem region1 (c : Dev nD) (arg0 : Memref sig .tc .vmem S226x8x226 .f32) (harg0 : arg0.IsWhole) (arg1 : Memref sig .tc .vmem S3x64x24 .f32) (harg1 : arg1.IsWhole) (arg2 : Memref sig .tc .vmem S226x64x226 .f32) (harg2 : arg2.IsWhole)
    (x0 : Vec Ideal S226x8x226 .f32) (x1 : Vec Ideal S3x64x24 .f32) (W : Ker 64 8) (X : Img 8)
    (h0 : ∀ (r : Fin 226) (c : Fin 8) (s : Fin 226), x0 (ix3 r c s) = padAt X c r.val s.val)
    (h1 : ∀ (dx : Fin 3) (o : Fin 64) (d : Fin 3) (c : Fin 8) (h : d.val * 8 + c.val < 24), x1 (ix3 dx o ⟨d.val * 8 + c.val, h⟩) = W o c d dx)
    (r : Fin 226) (o : Fin 64) (s : Fin 226) :
    out1_A_2 (F := Ideal) c arg0 harg0 arg1 harg1 arg2 harg2 x0 x1 (ix3 r o s) = padAt (relu (conv W X)) o r.val s.val := by
  unfold out1_A_2
  rw [View.read_writes_junk_eq_canon]
  refine View.canon_apply_of_pieces (holds (padAt (relu (conv W X)))) _ (fun p hp => ?_) _ (cover1_A_2 c arg0 harg0 arg1 harg1 arg2 harg2 x0 x1 _)
  unfold kernelRun1_A at hp
  dsimp only at hp
  rcases List.mem_append.mp hp with hp | hp
  · refine agree_trips _ _ _ rfl (pb_k1_t1_succ _ c _ arg0 harg0 arg1 harg1 arg2 harg2 _ _) (fun k p hp => ?_) _ le_rfl p hp
    have hk : k.val < 224 := Nat.lt_of_lt_of_le k.isLt k1_t1_abs.2.1
    unfold tripL_k1_t1 trip_k1_t1 at hp
    dsimp only at hp
    obtain rfl := List.mem_singleton.mp hp
    simp only [readAt_unread]
    refine agree_row _ (k.val + 1) (k1_off2_eq k) _ _ fun o s => ?_
    refine Cert.EncVIdeal.Row.row8 _ _ _ _ W X ⟨k.val, hk⟩ (fun d c s => ld_holds _ x0 h0 k.val 0 (k1_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k1_pay2]
    · obtain rfl := List.mem_singleton.mp hp
      refine agree_row _ 0 rfl _ _ fun o s => ?_
      rw [padAt_out _ _ (by omega)]
      pointwise [k1_pay1]

/-- The blocks of convolution 1 start at the beginning of their arrays. -/
theorem idx1 : (∀ a, win1_0.index t1_0 a = 0) ∧ (∀ a, win1_1.index t1_0 a = 0) := by
  decide +kernel

/-- The output array of convolution 1, from what its input arrays hold. -/
theorem final1 (V : (c : Dev nD) → (b : Ref sig .tc) → b.ty.Contents (Elt Ideal)) (c : Dev nD) (W : Ker 64 8) (X : Img 8)
    (h0 : ∀ (r : Fin 226) (ch : Fin 8) (s : Fin 226), V c main_v12 (ix3 r ch s) = padAt X ch r.val s.val)
    (h1 : ∀ (dx : Fin 3) (o : Fin 64) (d : Fin 3) (ch : Fin 8) (h : d.val * 8 + ch.val < 24), V c main_v15 (ix3 dx o ⟨d.val * 8 + ch.val, h⟩) = W o ch d dx)
    (r : Fin 226) (o : Fin 64) (s : Fin 226) :
    (dat1 V c).arrAt 2 cfg1.N (ix3 r o s) = padAt (relu (conv W X)) o r.val s.val := by
  refine congrFun ((dat1 V c).arrAt_eq_of_after_last 2 t1_0 (by decide +kernel) (holds (padAt (relu (conv W X)))) fun j => ?_) (ix3 r o s)
  blk_simp
  rw [after1_2]
  unfold outsAt1
  obtain ⟨r, o, s, rfl⟩ : ∃ (r : Fin 226) (o : Fin 64) (s : Fin 226), j = ix3 r o s := ⟨j 0, j 1, j 2, eq_ix3 j⟩
  refine region1 _ _ _ _ _ _ _ _ _ W X (fun r ch s => Eq.trans ?_ (h0 r ch s)) (fun dx o d ch h => Eq.trans ?_ (h1 dx o d ch h)) r o s
  · blk_ext! [iblk1, idx1]
  · blk_ext! [iblk1, idx1]

/-- What convolution 2 leaves in its output, when its input holds the image `X` with a border of zeros and its weights hold the taps `W`. -/
theorem region2 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out2_A_2 (F := Ideal) c arg0 harg0 arg1 harg1 arg2 harg2 x0 x1 (ix3 r o s) = padAt (relu (conv W X)) o r.val s.val := by
  unfold out2_A_2
  rw [View.read_writes_junk_eq_canon]
  refine View.canon_apply_of_pieces (holds (padAt (relu (conv W X)))) _ (fun p hp => ?_) _ (cover2_A_2 c arg0 harg0 arg1 harg1 arg2 harg2 x0 x1 _)
  unfold kernelRun2_A at hp
  dsimp only at hp
  rcases List.mem_append.mp hp with hp | hp
  · refine agree_trips _ _ _ rfl (pb_k2_t1_succ _ c _ arg0 harg0 arg1 harg1 arg2 harg2 _ _) (fun k p hp => ?_) _ le_rfl p hp
    have hk : k.val < 224 := Nat.lt_of_lt_of_le k.isLt k2_t1_abs.2.1
    unfold tripL_k2_t1 trip_k2_t1 at hp
    dsimp only at hp
    obtain rfl := List.mem_singleton.mp hp
    simp only [readAt_unread]
    refine agree_row _ (k.val + 1) (k2_off2_eq k) _ _ fun o s => ?_
    refine Cert.EncVIdeal.Row.row64 _ _ _ _ W X ⟨k.val, hk⟩ (fun d c s => ld_holds _ x0 h0 k.val 0 (k2_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k2_pay2]
    · obtain rfl := List.mem_singleton.mp hp
      refine agree_row _ 0 rfl _ _ fun o s => ?_
      rw [padAt_out _ _ (by omega)]
      pointwise [k2_pay1]

/-- The blocks of convolution 2 start at the beginning of their arrays. -/
theorem idx2 : (∀ a, win2_0.index t2_0 a = 0) ∧ (∀ a, win2_1.index t2_0 a = 0) := by
  decide +kernel

/-- The output array of convolution 2, from what its input arrays hold. -/
theorem final2 (V : (c : Dev nD) → (b : Ref sig .tc) → b.ty.Contents (Elt Ideal)) (c : Dev nD) (W : Ker 64 64) (X : Img 64)
    (h0 : ∀ (r : Fin 226) (ch : Fin 64) (s : Fin 226), V c main_v16 (ix3 r ch s) = padAt X ch r.val s.val)
    (h1 : ∀ (dx : Fin 3) (o : Fin 64) (d : Fin 3) (ch : Fin 64) (h : d.val * 64 + ch.val < 192), V c main_v20 (ix3 dx o ⟨d.val * 64 + ch.val, h⟩) = W o ch d dx)
    (r : Fin 226) (o : Fin 64) (s : Fin 226) :
    (dat2 V c).arrAt 2 cfg2.N (ix3 r o s) = padAt (relu (conv W X)) o r.val s.val := by
  refine congrFun ((dat2 V c).arrAt_eq_of_after_last 2 t2_0 (by decide +kernel) (holds (padAt (relu (conv W X)))) fun j => ?_) (ix3 r o s)
  blk_simp
  rw [after2_2]
  unfold outsAt2
  obtain ⟨r, o, s, rfl⟩ : ∃ (r : Fin 226) (o : Fin 64) (s : Fin 226), j = ix3 r o s := ⟨j 0, j 1, j 2, eq_ix3 j⟩
  refine region2 _ _ _ _ _ _ _ _ _ W X (fun r ch s => Eq.trans ?_ (h0 r ch s)) (fun dx o d ch h => Eq.trans ?_ (h1 dx o d ch h)) r o s
  · blk_ext! [iblk2, idx2]
  · blk_ext! [iblk2, idx2]

/-- What convolution 3 leaves in its output, when its input holds the image `X` with a border of zeros and its weights hold the taps `W`. -/
theorem region3 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out3_A_2 (F := Ideal) c arg0 harg0 arg1 harg1 arg2 harg2 x0 x1 (ix3 r o s) = padAt (relu (conv W X)) o r.val s.val := by
  unfold out3_A_2
  rw [View.read_writes_junk_eq_canon]
  refine View.canon_apply_of_pieces (holds (padAt (relu (conv W X)))) _ (fun p hp => ?_) _ (cover3_A_2 c arg0 harg0 arg1 harg1 arg2 harg2 x0 x1 _)
  unfold kernelRun3_A at hp
  dsimp only at hp
  rcases List.mem_append.mp hp with hp | hp
  · refine agree_trips _ _ _ rfl (pb_k3_t1_succ _ c _ arg0 harg0 arg1 harg1 arg2 harg2 _ _) (fun k p hp => ?_) _ le_rfl p hp
    have hk : k.val < 224 := Nat.lt_of_lt_of_le k.isLt k3_t1_abs.2.1
    unfold tripL_k3_t1 trip_k3_t1 at hp
    dsimp only at hp
    obtain rfl := List.mem_singleton.mp hp
    simp only [readAt_unread]
    refine agree_row _ (k.val + 1) (k3_off2_eq k) _ _ fun o s => ?_
    refine Cert.EncVIdeal.Row.row64 _ _ _ _ W X ⟨k.val, hk⟩ (fun d c s => ld_holds _ x0 h0 k.val 0 (k3_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k3_pay2]
    · obtain rfl := List.mem_singleton.mp hp
      refine agree_row _ 0 rfl _ _ fun o s => ?_
      rw [padAt_out _ _ (by omega)]
      pointwise [k3_pay1]

/-- The blocks of convolution 3 start at the beginning of their arrays. -/
theorem idx3 : (∀ a, win3_0.index t3_0 a = 0) ∧ (∀ a, win3_1.index t3_0 a = 0) := by
  decide +kernel

/-- The output array of convolution 3, from what its input arrays hold. -/
theorem final3 (V : (c : Dev nD) → (b : Ref sig .tc) → b.ty.Contents (Elt Ideal)) (c : Dev nD) (W : Ker 64 64) (X : Img 64)
    (h0 : ∀ (r : Fin 226) (ch : Fin 64) (s : Fin 226), V c main_v21 (ix3 r ch s) = padAt X ch r.val s.val)
    (h1 : ∀ (dx : Fin 3) (o : Fin 64) (d : Fin 3) (ch : Fin 64) (h : d.val * 64 + ch.val < 192), V c main_v25 (ix3 dx o ⟨d.val * 64 + ch.val, h⟩) = W o ch d dx)
    (r : Fin 226) (o : Fin 64) (s : Fin 226) :
    (dat3 V c).arrAt 2 cfg3.N (ix3 r o s) = padAt (relu (conv W X)) o r.val s.val := by
  refine congrFun ((dat3 V c).arrAt_eq_of_after_last 2 t3_0 (by decide +kernel) (holds (padAt (relu (conv W X)))) fun j => ?_) (ix3 r o s)
  blk_simp
  rw [after3_2]
  unfold outsAt3
  obtain ⟨r, o, s, rfl⟩ : ∃ (r : Fin 226) (o : Fin 64) (s : Fin 226), j = ix3 r o s := ⟨j 0, j 1, j 2, eq_ix3 j⟩
  refine region3 _ _ _ _ _ _ _ _ _ W X (fun r ch s => Eq.trans ?_ (h0 r ch s)) (fun dx o d ch h => Eq.trans ?_ (h1 dx o d ch h)) r o s
  · blk_ext! [iblk3, idx3]
  · blk_ext! [iblk3, idx3]

/-- What convolution 4 leaves in its output, when its input holds the image `X` with a border of zeros and its weights hold the taps `W`. -/
theorem region4 (c : Dev nD) (arg0 : Memref sig .tc .vmem S226x64x226 .f32) (harg0 : arg0.IsWhole) (arg1 : Memref sig .tc .vmem S3x64x192 .f32) (harg1 : arg1.IsWhole) (arg2 : Memref sig .tc .vmem S226x64x226 .f32) (harg2 : arg2.IsWhole)
    (x0 : Vec Ideal S226x64x226 .f32) (x1 : Vec Ideal S3x64x192 .f32) (W : Ker 64 64) (X : Img 64)
    (h0 : ∀ (r : Fin 226) (c : Fin 64) (s : Fin 226), x0 (ix3 r c s) = padAt X c r.val s.val)
    (h1 : ∀ (dx : Fin 3) (o : Fin 64) (d : Fin 3) (c : Fin 64) (h : d.val * 64 + c.val < 192), x1 (ix3 dx o ⟨d.val * 64 + c.val, h⟩) = W o c d dx)
    (r : Fin 226) (o : Fin 64) (s : Fin 226) :
    out4_A_2 (F := Ideal) c arg0 harg0 arg1 harg1 arg2 harg2 x0 x1 (ix3 r o s) = padAt (relu (conv W X)) o r.val s.val := by
  unfold out4_A_2
  rw [View.read_writes_junk_eq_canon]
  refine View.canon_apply_of_pieces (holds (padAt (relu (conv W X)))) _ (fun p hp => ?_) _ (cover4_A_2 c arg0 harg0 arg1 harg1 arg2 harg2 x0 x1 _)
  unfold kernelRun4_A at hp
  dsimp only at hp
  rcases List.mem_append.mp hp with hp | hp
  · refine agree_trips _ _ _ rfl (pb_k4_t1_succ _ c _ arg0 harg0 arg1 harg1 arg2 harg2 _ _) (fun k p hp => ?_) _ le_rfl p hp
    have hk : k.val < 224 := Nat.lt_of_lt_of_le k.isLt k4_t1_abs.2.1
    unfold tripL_k4_t1 trip_k4_t1 at hp
    dsimp only at hp
    obtain rfl := List.mem_singleton.mp hp
    simp only [readAt_unread]
    refine agree_row _ (k.val + 1) (k4_off2_eq k) _ _ fun o s => ?_
    refine Cert.EncVIdeal.Row.row64 _ _ _ _ W X ⟨k.val, hk⟩ (fun d c s => ld_holds _ x0 h0 k.val 0 (k4_off1_eq k) _ d c s) ?_ ?_ ?_ o s <;> intro o d c h
    · exact (ld_tap x1 0 rfl _ o ⟨_, h⟩).trans (h1 0 o d c h)
    · exact (ld_tap x1 1 rfl _ o ⟨_, h⟩).trans (h1 1 o d c h)
    · exact (ld_tap x1 2 rfl _ o ⟨_, h⟩).trans (h1 2 o d c h)
  · rcases List.mem_cons.mp hp with rfl | hp
    · refine agree_row _ 225 rfl _ _ fun o s => ?_
      rw [padAt_out _ _ (by omega)]
      pointwise [k4_pay2]
    · obtain rfl := List.mem_singleton.mp hp
      refine agree_row _ 0 rfl _ _ fun o s => ?_
      rw [padAt_out _ _ (by omega)]
      pointwise [k4_pay1]

/-- The blocks of convolution 4 start at the beginning of their arrays. -/
theorem idx4 : (∀ a, win4_0.index t4_0 a = 0) ∧ (∀ a, win4_1.index t4_0 a = 0) := by
  decide +kernel

/-- The output array of convolution 4, from what its input arrays hold. -/
theorem final4 (V : (c : Dev nD) → (b : Ref sig .tc) → b.ty.Contents (Elt Ideal)) (c : Dev nD) (W : Ker 64 64) (X : Img 64)
    (h0 : ∀ (r : Fin 226) (ch : Fin 64) (s : Fin 226), V c main_v26 (ix3 r ch s) = padAt X ch r.val s.val)
    (h1 : ∀ (dx : Fin 3) (o : Fin 64) (d : Fin 3) (ch : Fin 64) (h : d.val * 64 + ch.val < 192), V c main_v30 (ix3 dx o ⟨d.val * 64 + ch.val, h⟩) = W o ch d dx)
    (r : Fin 226) (o : Fin 64) (s : Fin 226) :
    (dat4 V c).arrAt 2 cfg4.N (ix3 r o s) = padAt (relu (conv W X)) o r.val s.val := by
  refine congrFun ((dat4 V c).arrAt_eq_of_after_last 2 t4_0 (by decide +kernel) (holds (padAt (relu (conv W X)))) fun j => ?_) (ix3 r o s)
  blk_simp
  rw [after4_2]
  unfold outsAt4
  obtain ⟨r, o, s, rfl⟩ : ∃ (r : Fin 226) (o : Fin 64) (s : Fin 226), j = ix3 r o s := ⟨j 0, j 1, j 2, eq_ix3 j⟩
  refine region4 _ _ _ _ _ _ _ _ _ W X (fun r ch s => Eq.trans ?_ (h0 r ch s)) (fun dx o d ch h => Eq.trans ?_ (h1 dx o d ch h)) r o s
  · blk_ext! [iblk4, idx4]
  · blk_ext! [iblk4, idx4]

/-- What the last convolution leaves in its output, when its input holds the features `X` with a border of zeros and its weights hold the taps `W`. -/
theorem region5 (c : Dev nD) (arg0 : Memref sig .tc .vmem S226x64x226 .f32) (harg0 : arg0.IsWhole) (arg1 : Memref sig .tc .vmem S3x3x192 .f32) (harg1 : arg1.IsWhole) (arg2 : Memref sig .tc .vmem S224x3x224 .f32) (harg2 : arg2.IsWhole)
    (x0 : Vec Ideal S226x64x226 .f32) (x1 : Vec Ideal S3x3x192 .f32) (W : Ker 3 64) (X : Img 64)
    (h0 : ∀ (r : Fin 226) (c : Fin 64) (s : Fin 226), x0 (ix3 r c s) = padAt X c r.val s.val)
    (h1 : ∀ (dx : Fin 3) (o : Fin 3) (d : Fin 3) (c : Fin 64) (h : d.val * 64 + c.val < 192), x1 (ix3 dx o ⟨d.val * 64 + c.val, h⟩) = W o c d dx)
    (y : Fin 224) (o : Fin 3) (x : Fin 224) :
    out5_A_2 (F := Ideal) c arg0 harg0 arg1 harg1 arg2 harg2 x0 x1 (ix3 y o x) = conv W X o y x := by
  unfold out5_A_2
  rw [View.read_writes_junk_eq_canon]
  refine (View.canon_apply_of_pieces (holds (at0 (conv W X))) _ (fun p hp => ?_) _ (cover5_A_2 c arg0 harg0 arg1 harg1 arg2 harg2 x0 x1 _)).trans (holds_at0 (conv W X) y o x)
  unfold kernelRun5_A at hp
  dsimp only at hp
  refine agree_trips _ _ _ rfl (pb_k5_t1_succ _ c _ arg0 harg0 arg1 harg1 arg2 harg2 _ _) (fun k p hp => ?_) _ le_rfl p hp
  have hk : k.val < 224 := Nat.lt_of_lt_of_le k.isLt k5_t1_abs.2.1
  unfold tripL_k5_t1 trip_k5_t1 at hp
  dsimp only at hp
  obtain rfl := List.mem_singleton.mp hp
  simp only [readAt_unread]
  refine agree_row _ k.val (k5_off2_eq k) _ _ fun o x => ?_
  refine (rowOut _ _ _ _ W X ⟨k.val, hk⟩ (fun d c s => ld_holds _ x0 h0 k.val 0 (k5_off1_eq k) _ d c s) ?_ ?_ ?_ o x).trans (at0_fin (conv W X) o ⟨k.val, hk⟩ x).symm <;> intro o d c h
  · exact (ld_tap x1 0 rfl _ o ⟨_, h⟩).trans (h1 0 o d c h)
  · exact (ld_tap x1 1 rfl _ o ⟨_, h⟩).trans (h1 1 o d c h)
  · exact (ld_tap x1 2 rfl _ o ⟨_, h⟩).trans (h1 2 o d c h)

/-- The blocks of the last convolution start at the beginning of their arrays. -/
theorem idx5 : (∀ a, win5_0.index t5_0 a = 0) ∧ (∀ a, win5_1.index t5_0 a = 0) := by
  decide +kernel

/-- The output array of the last convolution, from what its input arrays hold. -/
theorem final5 (V : (c : Dev nD) → (b : Ref sig .tc) → b.ty.Contents (Elt Ideal)) (c : Dev nD) (W : Ker 3 64) (X : Img 64)
    (h0 : ∀ (r : Fin 226) (ch : Fin 64) (s : Fin 226), V c main_v31 (ix3 r ch s) = padAt X ch r.val s.val)
    (h1 : ∀ (dx : Fin 3) (o : Fin 3) (d : Fin 3) (ch : Fin 64) (h : d.val * 64 + ch.val < 192), V c main_v33 (ix3 dx o ⟨d.val * 64 + ch.val, h⟩) = W o ch d dx)
    (y : Fin 224) (o : Fin 3) (x : Fin 224) :
    (dat5 V c).arrAt 2 cfg5.N (ix3 y o x) = conv W X o y x := by
  refine (congrFun ((dat5 V c).arrAt_eq_of_after_last 2 t5_0 (by decide +kernel) (holds (at0 (conv W X))) fun j => ?_) (ix3 y o x)).trans (holds_at0 (conv W X) y o x)
  blk_simp
  rw [after5_2]
  unfold outsAt5
  obtain ⟨y, o, x, rfl⟩ : ∃ (y : Fin 224) (o : Fin 3) (x : Fin 224), j = ix3 y o x := ⟨j 0, j 1, j 2, eq_ix3 j⟩
  refine (region5 _ _ _ _ _ _ _ _ _ W X (fun r ch s => Eq.trans ?_ (h0 r ch s)) (fun dx o d ch h => Eq.trans ?_ (h1 dx o d ch h)) y o x).trans (holds_at0 (conv W X) y o x).symm
  · blk_ext! [iblk5, idx5]
  · blk_ext! [iblk5, idx5]

/-! ## The arguments, as images and taps -/

/-- The infrared image. -/
def infrared (m : (ℓ : Loc nD τ sig) → Buf (Elt Ideal) ℓ) (c : Dev nD) : Img 1 := fun ch y x => m ((c : Thread nD τ).loc main_arg0) (ix4 0 ch y x)
/-- The visible image. -/
def visible (m : (ℓ : Loc nD τ sig) → Buf (Elt Ideal) ℓ) (c : Dev nD) : Img 3 := fun ch y x => m ((c : Thread nD τ).loc main_arg1) (ix4 0 ch y x)
/-- The infrared branch's decoded image. -/
def low (m : (ℓ : Loc nD τ sig) → Buf (Elt Ideal) ℓ) (c : Dev nD) : Img 1 := fun ch y x => m ((c : Thread nD τ).loc main_arg2) (ix4 0 ch y x)
/-- The visible branch's decoded image. -/
def high (m : (ℓ : Loc nD τ sig) → Buf (Elt Ideal) ℓ) (c : Dev nD) : Img 3 := fun ch y x => m ((c : Thread nD τ).loc main_arg3) (ix4 0 ch y x)
/-- The taps of the first convolution. -/
def stem (m : (ℓ : Loc nD τ sig) → Buf (Elt Ideal) ℓ) (c : Dev nD) : Ker 64 3 := fun o ch dy dx => m ((c : Thread nD τ).loc main_arg4) (ix4 o ch dy dx)
/-- The taps of the three next convolutions. -/
def block (m : (ℓ : Loc nD τ sig) → Buf (Elt Ideal) ℓ) (c : Dev nD) (i : Fin 3) : Ker 64 64 := fun o ch dy dx => m ((c : Thread nD τ).loc main_arg5) (ix5 i o ch dy dx)
/-- The taps of the last convolution. -/
def last (m : (ℓ : Loc nD τ sig) → Buf (Elt Ideal) ℓ) (c : Dev nD) : Ker 3 64 := fun o ch dy dx => m ((c : Thread nD τ).loc main_arg6) (ix4 o ch dy dx)

/-- The sum of the four images, -/
def fused (m : (ℓ : Loc nD τ sig) → Buf (Elt Ideal) ℓ) (c : Dev nD) : Img 3 := total (visible m c) (high m c) (infrared m c) (low m c)
/-- the features after the first convolution, -/
def feat1 (m : (ℓ : Loc nD τ sig) → Buf (Elt Ideal) ℓ) (c : Dev nD) : Img 64 := relu (conv (stem m c) (fused m c))
/-- after the second, -/
def feat2 (m : (ℓ : Loc nD τ sig) → Buf (Elt Ideal) ℓ) (c : Dev nD) : Img 64 := relu (conv (block m c 0) (feat1 m c))
/-- after the third, -/
def feat3 (m : (ℓ : Loc nD τ sig) → Buf (Elt Ideal) ℓ) (c : Dev nD) : Img 64 := relu (conv (block m c 1) (feat2 m c))
/-- and after the fourth. -/
def feat4 (m : (ℓ : Loc nD τ sig) → Buf (Elt Ideal) ℓ) (c : Dev nD) : Img 64 := relu (conv (block m c 2) (feat3 m c))

/-! ## The host operations between the kernels, and the kernels one after another -/

/-- The sum's input `visible`, with a border of zeros. -/
theorem in_visible (m : (ℓ : Loc nD τ sig) → Buf (Elt Ideal) ℓ) (ρ : Dev nD → PrngReg) (c : Dev nD) (r : Fin 226) (ch : Fin 3) (s : Fin 226) :
    W8 m ρ c (Proc.devRef .tc main_v8) (ix3 r ch s) = padAt (visible m c) ch r.val s.val := by
  after_results
  simp -implicitDefEqProofs only [StableHlo.TRef.toBuf, StableHlo.TRef.ofBuf, cast_cast, cast_eq]
  pointwise [sitofp_zero]
  unfold padAt visible
  split_ifs <;> first | rfl | omega | exact congrArg (fun i => m ((c : Thread nD τ).loc main_arg1) (ix4 0 i _ _)) (Subsingleton.elim _ _)

/-- The sum's input `high`, with a border of zeros. -/
theorem in_high (m : (ℓ : Loc nD τ sig) → Buf (Elt Ideal) ℓ) (ρ : Dev nD → PrngReg) (c : Dev nD) (r : Fin 226) (ch : Fin 3) (s : Fin 226) :
    W8 m ρ c (Proc.devRef .tc main_v2) (ix3 r ch s) = padAt (high m c) ch r.val s.val := by
  after_results
  simp -implicitDefEqProofs only [StableHlo.TRef.toBuf, StableHlo.TRef.ofBuf, cast_cast, cast_eq]
  pointwise [sitofp_zero]
  unfold padAt high
  split_ifs <;> first | rfl | omega | exact congrArg (fun i => m ((c : Thread nD τ).loc main_arg3) (ix4 0 i _ _)) (Subsingleton.elim _ _)

/-- The sum's input `infrared`, with a border of zeros. -/
theorem in_infrared (m : (ℓ : Loc nD τ sig) → Buf (Elt Ideal) ℓ) (ρ : Dev nD → PrngReg) (c : Dev nD) (r : Fin 226) (ch : Fin 1) (s : Fin 226) :
    W8 m ρ c (Proc.devRef .tc main_v11) (ix3 r ch s) = padAt (infrared m c) ch r.val s.val := by
  after_results
  simp -implicitDefEqProofs only [StableHlo.TRef.toBuf, StableHlo.TRef.ofBuf, cast_cast, cast_eq]
  pointwise [sitofp_zero]
  unfold padAt infrared
  split_ifs <;> first | rfl | omega | exact congrArg (fun i => m ((c : Thread nD τ).loc main_arg0) (ix4 0 i _ _)) (Subsingleton.elim _ _)

/-- The sum's input `low`, with a border of zeros. -/
theorem in_low (m : (ℓ : Loc nD τ sig) → Buf (Elt Ideal) ℓ) (ρ : Dev nD → PrngReg) (c : Dev nD) (r : Fin 226) (ch : Fin 1) (s : Fin 226) :
    W8 m ρ c (Proc.devRef .tc main_v5) (ix3 r ch s) = padAt (low m c) ch r.val s.val := by
  after_results
  simp -implicitDefEqProofs only [StableHlo.TRef.toBuf, StableHlo.TRef.ofBuf, cast_cast, cast_eq]
  pointwise [sitofp_zero]
  unfold padAt low
  split_ifs <;> first | rfl | omega | exact congrArg (fun i => m ((c : Thread nD τ).loc main_arg2) (ix4 0 i _ _)) (Subsingleton.elim _ _)

/-- What the first kernel leaves: the sum, given zero channels, with a border of zeros. -/
theorem out0 (m : (ℓ : Loc nD τ sig) → Buf (Elt Ideal) ℓ) (ρ : Dev nD → PrngReg) (c : Dev nD) (r : Fin 226) (o : Fin 8) (s : Fin 226) :
    W9 m ρ c (Proc.devRef .tc main_v12) (ix3 r o s) = padAt (padChan 8 (fused m c)) o r.val s.val := by
  refine (congrFun (W9_arr m ρ c 4) _).trans ?_
  exact final0 (V8 m ρ) c _ _ _ _ (in_visible m ρ c) (in_high m ρ c) (in_infrared m ρ c) (in_low m ρ c) r o s

/-- The first convolution's weights: the taps, given zero taps for the zero channels. -/
theorem taps1 (m : (ℓ : Loc nD τ sig) → Buf (Elt Ideal) ℓ) (ρ : Dev nD → PrngReg) (c : Dev nD) (dx : Fin 3) (o : Fin 64) (d : Fin 3) (ch : Fin 8) (h : d.val * 8 + ch.val < 24) :
    W12 m ρ c (Proc.devRef .tc main_v15) (ix3 dx o ⟨d.val * 8 + ch.val, h⟩) = padKer 8 (stem m c) o ch d dx := by
  have e := W9_args m ρ c main_arg4 (by decide)
  unfold W12 W11 W10
  after_results
  simp -implicitDefEqProofs only [StableHlo.TRef.toBuf, StableHlo.TRef.ofBuf, cast_cast, cast_eq]
  rw [e]
  pointwise [sitofp_zero]
  unfold padKer stem
  rfl

/-- What the first convolution leaves: its features with a border of zeros. -/
theorem out1 (m : (ℓ : Loc nD τ sig) → Buf (Elt Ideal) ℓ) (ρ : Dev nD → PrngReg) (c : Dev nD) (r : Fin 226) (o : Fin 64) (s : Fin 226) :
    W13 m ρ c (Proc.devRef .tc main_v16) (ix3 r o s) = padAt (feat1 m c) o r.val s.val := by
  refine (congrFun (W13_arr m ρ c 2) _).trans ?_
  rw [final1 (V12 m ρ) c (padKer 8 (stem m c)) (padChan 8 (fused m c)) (fun r ch s => ?_) (taps1 m ρ c), conv_padChan (by decide)]
  · rfl
  · exact (congrFun (W12_of m ρ c main_v12 (by decide)) _).trans ((congrFun (W11_of m ρ c main_v12 (by decide)) _).trans
      ((congrFun (W10_of m ρ c main_v12 (by decide)) _).trans (out0 m ρ c r ch s)))

/-- The weights of convolution 2. -/
theorem taps2 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W14 m ρ c (Proc.devRef .tc main_v20) (ix3 dx o ⟨d.val * 64 + ch.val, h⟩) = block m c 0 o ch d dx := by
  have e := W13_args m ρ c main_arg5 (by decide)
  unfold W14
  after_results
  rw [e]
  pointwise []
  rfl

/-- What convolution 2 leaves: its features with a border of zeros. -/
theorem out2 (m : (ℓ : Loc nD τ sig) → Buf (Elt Ideal) ℓ) (ρ : Dev nD → PrngReg) (c : Dev nD) (r : Fin 226) (o : Fin 64) (s : Fin 226) :
    W15 m ρ c (Proc.devRef .tc main_v21) (ix3 r o s) = padAt (feat2 m c) o r.val s.val := by
  refine (congrFun (W15_arr m ρ c 2) _).trans ?_
  refine final2 (V14 m ρ) c (block m c 0) (feat1 m c) (fun r ch s => ?_) (taps2 m ρ c) r o s
  exact (congrFun (W14_of m ρ c main_v16 (by decide)) _).trans (out1 m ρ c r ch s)

/-- The weights of convolution 3. -/
theorem taps3 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W16 m ρ c (Proc.devRef .tc main_v25) (ix3 dx o ⟨d.val * 64 + ch.val, h⟩) = block m c 1 o ch d dx := by
  have e := W15_args m ρ c main_arg5 (by decide)
  unfold W16
  after_results
  rw [e]
  pointwise []
  rfl

/-- What convolution 3 leaves: its features with a border of zeros. -/
theorem out3 (m : (ℓ : Loc nD τ sig) → Buf (Elt Ideal) ℓ) (ρ : Dev nD → PrngReg) (c : Dev nD) (r : Fin 226) (o : Fin 64) (s : Fin 226) :
    W17 m ρ c (Proc.devRef .tc main_v26) (ix3 r o s) = padAt (feat3 m c) o r.val s.val := by
  refine (congrFun (W17_arr m ρ c 2) _).trans ?_
  refine final3 (V16 m ρ) c (block m c 1) (feat2 m c) (fun r ch s => ?_) (taps3 m ρ c) r o s
  exact (congrFun (W16_of m ρ c main_v21 (by decide)) _).trans (out2 m ρ c r ch s)

/-- The weights of convolution 4. -/
theorem taps4 (m : (ℓ : Loc nD τ sig) → Buf (Elt Ideal) ℓ) (ρ : Dev nD → PrngReg) (c : Dev nD) (dx : Fin 3) (o : Fin 64) (d : Fin 3) (ch : Fin 64) (h : d.val * 64 + ch.val < 192) :
    W18 m ρ c (Proc.devRef .tc main_v30) (ix3 dx o ⟨d.val * 64 + ch.val, h⟩) = block m c 2 o ch d dx := by
  have e := W17_args m ρ c main_arg5 (by decide)
  unfold W18
  after_results
  rw [e]
  pointwise []
  rfl

/-- What convolution 4 leaves: its features with a border of zeros. -/
theorem out4 (m : (ℓ : Loc nD τ sig) → Buf (Elt Ideal) ℓ) (ρ : Dev nD → PrngReg) (c : Dev nD) (r : Fin 226) (o : Fin 64) (s : Fin 226) :
    W19 m ρ c (Proc.devRef .tc main_v31) (ix3 r o s) = padAt (feat4 m c) o r.val s.val := by
  refine (congrFun (W19_arr m ρ c 2) _).trans ?_
  refine final4 (V18 m ρ) c (block m c 2) (feat3 m c) (fun r ch s => ?_) (taps4 m ρ c) r o s
  exact (congrFun (W18_of m ρ c main_v26 (by decide)) _).trans (out3 m ρ c r ch s)

/-- The weights of the last convolution. -/
theorem taps5 (m : (ℓ : Loc nD τ sig) → Buf (Elt Ideal) ℓ) (ρ : Dev nD → PrngReg) (c : Dev nD) (dx : Fin 3) (o : Fin 3) (d : Fin 3) (ch : Fin 64) (h : d.val * 64 + ch.val < 192) :
    W20 m ρ c (Proc.devRef .tc main_v33) (ix3 dx o ⟨d.val * 64 + ch.val, h⟩) = last m c o ch d dx := by
  have e := W19_args m ρ c main_arg6 (by decide)
  unfold W20
  after_results
  rw [e]
  pointwise []
  rfl

/-- What the last convolution leaves. -/
theorem out5 (m : (ℓ : Loc nD τ sig) → Buf (Elt Ideal) ℓ) (ρ : Dev nD → PrngReg) (c : Dev nD) (y : Fin 224) (o : Fin 3) (x : Fin 224) :
    W21 m ρ c (Proc.devRef .tc main_v34) (ix3 y o x) = conv (last m c) (feat4 m c) o y x := by
  refine (congrFun (W21_arr m ρ c 2) _).trans ?_
  refine final5 (V20 m ρ) c (last m c) (feat4 m c) (fun r ch s => ?_) (taps5 m ρ c) y o x
  exact (congrFun (W20_of m ρ c main_v31 (by decide)) _).trans (out4 m ρ c r ch s)

/-- The result, from the arguments. -/
theorem result (m : (ℓ : Loc nD τ sig) → Buf (Elt Ideal) ℓ) (ρ : Dev nD → PrngReg) (c : Dev nD) (o : Fin 3) (y x : Fin 224) :
    W22 m ρ c (Proc.devRef .tc main_v36) (ix4 0 o y x) = conv (last m c) (feat4 m c) o y x := by
  rw [← out5 m ρ c y o x]
  unfold W22
  after_results
  pointwise []

end Cert.FuseIdeal.Network

end
-- ==== Proof.FuseReference.lean ====
/- What the reference of the fusion network computes. -/
module

public import proofs.«01_k».proof.Proof.Gen.FuseRefIdeal.Run
public import proofs.«01_k».proof.Proof.Math

@[expose] public section

set_option maxRecDepth 16384

noncomputable section

open Idealize.ShloMosaic Idealize.ShloMosaic.TcCoe Idealize.SL.Sem

namespace Cert.FuseRefIdeal.Network

open Cert.FuseRefIdeal Cert.FuseRefIdeal.Gen Cert.FuseRefIdeal.Value Cert.Math

/-! ## The arguments, as images and taps -/

/-- The infrared image. -/
def infrared (V : Valuation τ sig (Elt Ideal)) : Img 1 := fun ch y x => V (Proc.devRef .tc main_arg0) (ix4 0 ch y x)
/-- The visible image. -/
def visible (V : Valuation τ sig (Elt Ideal)) : Img 3 := fun ch y x => V (Proc.devRef .tc main_arg1) (ix4 0 ch y x)
/-- The infrared branch's decoded image. -/
def low (V : Valuation τ sig (Elt Ideal)) : Img 1 := fun ch y x => V (Proc.devRef .tc main_arg2) (ix4 0 ch y x)
/-- The visible branch's decoded image. -/
def high (V : Valuation τ sig (Elt Ideal)) : Img 3 := fun ch y x => V (Proc.devRef .tc main_arg3) (ix4 0 ch y x)
/-- The taps of the first convolution. -/
def stem (V : Valuation τ sig (Elt Ideal)) : Ker 64 3 := fun o ch dy dx => V (Proc.devRef .tc main_arg4) (ix4 o ch dy dx)
/-- The taps of the three next convolutions. -/
def block (V : Valuation τ sig (Elt Ideal)) (i : Fin 3) : Ker 64 64 := fun o ch dy dx => V (Proc.devRef .tc main_arg5) (ix5 i o ch dy dx)
/-- The taps of the last convolution. -/
def last (V : Valuation τ sig (Elt Ideal)) : Ker 3 64 := fun o ch dy dx => V (Proc.devRef .tc main_arg6) (ix4 o ch dy dx)

/-- The sum of the four images, -/
def fused (V : Valuation τ sig (Elt Ideal)) : Img 3 := fun ch y x => infrared V 0 y x + low V 0 y x + (visible V ch y x + high V ch y x)
/-- the features after the first convolution, -/
def feat1 (V : Valuation τ sig (Elt Ideal)) : Img 64 := relu (conv (stem V) (fused V))
/-- after the second, -/
def feat2 (V : Valuation τ sig (Elt Ideal)) : Img 64 := relu (conv (block V 0) (feat1 V))
/-- after the third, -/
def feat3 (V : Valuation τ sig (Elt Ideal)) : Img 64 := relu (conv (block V 1) (feat2 V))
/-- and after the fourth. -/
def feat4 (V : Valuation τ sig (Elt Ideal)) : Img 64 := relu (conv (block V 2) (feat3 V))

/-! ## The named tensors of the reference -/

/-- The first convolution's input is the sum of the images with a border of zeros. -/
theorem border0 (V : Valuation τ sig (Elt Ideal)) (ch : Fin 3) (r s : Fin 226) : res_main_v5 V (ix3 ch r s) = padAt (fused V) ch r.val s.val := by
  pointwise [res_main_v5, sitofp_zero]
  exact dite_padAt (fused V) ch fun h => rfl

/-- The second convolution's input is the first's features with a border of zeros. -/
theorem border1 (V : Valuation τ sig (Elt Ideal)) (o : Fin 64) (r s : Fin 226) : res_main_v55 V (ix3 o r s) = padAt (feat1 V) o r.val s.val := by
  pointwise [res_main_v55, sitofp_zero]
  refine dite_padAt (feat1 V) o fun h => congrArg (max · 0) ?_
  simp only [border0]
  exact conv_sum (stem V) (fused V) o h.1.2 h.2.2

/-- The taps of the second convolution. -/
theorem taps1 (V : Valuation τ sig (Elt Ideal)) (o ch : Fin 64) (dy dx : Fin 3) : res_main_v53 V (ix4 o ch dy dx) = block V 0 o ch dy dx := by
  pointwise [res_main_v53]
  rfl

/-- The third convolution's input is the second's features with a border of zeros. -/
theorem border2 (V : Valuation τ sig (Elt Ideal)) (o : Fin 64) (r s : Fin 226) : res_main_v105 V (ix3 o r s) = padAt (feat2 V) o r.val s.val := by
  pointwise [res_main_v105, sitofp_zero]
  refine dite_padAt (feat2 V) o fun h => congrArg (max · 0) ?_
  simp only [border1, taps1]
  exact conv_sum (block V 0) (feat1 V) o h.1.2 h.2.2

/-- The taps of the third convolution. -/
theorem taps2 (V : Valuation τ sig (Elt Ideal)) (o ch : Fin 64) (dy dx : Fin 3) : res_main_v103 V (ix4 o ch dy dx) = block V 1 o ch dy dx := by
  pointwise [res_main_v103]
  rfl

/-- The fourth convolution's input is the third's features with a border of zeros. -/
theorem border3 (V : Valuation τ sig (Elt Ideal)) (o : Fin 64) (r s : Fin 226) : res_main_v155 V (ix3 o r s) = padAt (feat3 V) o r.val s.val := by
  pointwise [res_main_v155, sitofp_zero]
  refine dite_padAt (feat3 V) o fun h => congrArg (max · 0) ?_
  simp only [border2, taps2]
  exact conv_sum (block V 1) (feat2 V) o h.1.2 h.2.2

/-- The taps of the fourth convolution. -/
theorem taps3 (V : Valuation τ sig (Elt Ideal)) (o ch : Fin 64) (dy dx : Fin 3) : res_main_v153 V (ix4 o ch dy dx) = block V 2 o ch dy dx := by
  pointwise [res_main_v153]
  rfl

/-- The last convolution's input is the fourth's features with a border of zeros. -/
theorem border4 (V : Valuation τ sig (Elt Ideal)) (o : Fin 64) (r s : Fin 226) : res_main_v203 V (ix3 o r s) = padAt (feat4 V) o r.val s.val := by
  pointwise [res_main_v203, sitofp_zero]
  refine dite_padAt (feat4 V) o fun h => congrArg (max · 0) ?_
  simp only [border3, taps3]
  exact conv_sum (block V 2) (feat3 V) o h.1.2 h.2.2

/-- The result. -/
theorem result (V : Valuation τ sig (Elt Ideal)) (o : Fin 3) (y x : Fin 224) :
    (broadcastInDim S1x3x224x224 ![1, 2, 3] bcast_S3x224x224_S1x3x224x224_1_2_3 (addf (addf (addf (addf (addf (addf (addf (addf (Host.dotGeneral (F := Ideal) (φ₁ := .f32) (φ₂ := .f32) dot_S3x64_S64x224x224_S3x224x224_1_0_0_12_n_n none (shapeCast _ (extractStridedSlice S3x64x1x1 ![0, 0, 0, 0] (V (Proc.devRef .tc main_arg6)) slices_S3x64x3x3_S3x64x1x1_0_0_0_0) shapeCasts_S3x64x1x1_S3x64) (extractStridedSlice S64x224x224 ![0, 0, 0] (res_main_v203 V) slices_S64x226x226_S64x224x224_0_0_0)) (Host.dotGeneral (F := Ideal) (φ₁ := .f32) (φ₂ := .f32) dot_S3x64_S64x224x224_S3x224x224_1_0_0_12_n_n none (shapeCast _ (extractStridedSlice S3x64x1x1 ![0, 0, 0, 1] (V (Proc.devRef .tc main_arg6)) slices_S3x64x3x3_S3x64x1x1_0_0_0_1) shapeCasts_S3x64x1x1_S3x64) (extractStridedSlice S64x224x224 ![0, 0, 1] (res_main_v203 V) slices_S64x226x226_S64x224x224_0_0_1))) (Host.dotGeneral (F := Ideal) (φ₁ := .f32) (φ₂ := .f32) dot_S3x64_S64x224x224_S3x224x224_1_0_0_12_n_n none (shapeCast _ (extractStridedSlice S3x64x1x1 ![0, 0, 0, 2] (V (Proc.devRef .tc main_arg6)) slices_S3x64x3x3_S3x64x1x1_0_0_0_2) shapeCasts_S3x64x1x1_S3x64) (extractStridedSlice S64x224x224 ![0, 0, 2] (res_main_v203 V) slices_S64x226x226_S64x224x224_0_0_2))) (Host.dotGeneral (F := Ideal) (φ₁ := .f32) (φ₂ := .f32) dot_S3x64_S64x224x224_S3x224x224_1_0_0_12_n_n none (shapeCast _ (extractStridedSlice S3x64x1x1 ![0, 0, 1, 0] (V (Proc.devRef .tc main_arg6)) slices_S3x64x3x3_S3x64x1x1_0_0_1_0) shapeCasts_S3x64x1x1_S3x64) (extractStridedSlice S64x224x224 ![0, 1, 0] (res_main_v203 V) slices_S64x226x226_S64x224x224_0_1_0))) (Host.dotGeneral (F := Ideal) (φ₁ := .f32) (φ₂ := .f32) dot_S3x64_S64x224x224_S3x224x224_1_0_0_12_n_n none (shapeCast _ (extractStridedSlice S3x64x1x1 ![0, 0, 1, 1] (V (Proc.devRef .tc main_arg6)) slices_S3x64x3x3_S3x64x1x1_0_0_1_1) shapeCasts_S3x64x1x1_S3x64) (extractStridedSlice S64x224x224 ![0, 1, 1] (res_main_v203 V) slices_S64x226x226_S64x224x224_0_1_1))) (Host.dotGeneral (F := Ideal) (φ₁ := .f32) (φ₂ := .f32) dot_S3x64_S64x224x224_S3x224x224_1_0_0_12_n_n none (shapeCast _ (extractStridedSlice S3x64x1x1 ![0, 0, 1, 2] (V (Proc.devRef .tc main_arg6)) slices_S3x64x3x3_S3x64x1x1_0_0_1_2) shapeCasts_S3x64x1x1_S3x64) (extractStridedSlice S64x224x224 ![0, 1, 2] (res_main_v203 V) slices_S64x226x226_S64x224x224_0_1_2))) (Host.dotGeneral (F := Ideal) (φ₁ := .f32) (φ₂ := .f32) dot_S3x64_S64x224x224_S3x224x224_1_0_0_12_n_n none (shapeCast _ (extractStridedSlice S3x64x1x1 ![0, 0, 2, 0] (V (Proc.devRef .tc main_arg6)) slices_S3x64x3x3_S3x64x1x1_0_0_2_0) shapeCasts_S3x64x1x1_S3x64) (extractStridedSlice S64x224x224 ![0, 2, 0] (res_main_v203 V) slices_S64x226x226_S64x224x224_0_2_0))) (Host.dotGeneral (F := Ideal) (φ₁ := .f32) (φ₂ := .f32) dot_S3x64_S64x224x224_S3x224x224_1_0_0_12_n_n none (shapeCast _ (extractStridedSlice S3x64x1x1 ![0, 0, 2, 1] (V (Proc.devRef .tc main_arg6)) slices_S3x64x3x3_S3x64x1x1_0_0_2_1) shapeCasts_S3x64x1x1_S3x64) (extractStridedSlice S64x224x224 ![0, 2, 1] (res_main_v203 V) slices_S64x226x226_S64x224x224_0_2_1))) (Host.dotGeneral (F := Ideal) (φ₁ := .f32) (φ₂ := .f32) dot_S3x64_S64x224x224_S3x224x224_1_0_0_12_n_n none (shapeCast _ (extractStridedSlice S3x64x1x1 ![0, 0, 2, 2] (V (Proc.devRef .tc main_arg6)) slices_S3x64x3x3_S3x64x1x1_0_0_2_2) shapeCasts_S3x64x1x1_S3x64) (extractStridedSlice S64x224x224 ![0, 2, 2] (res_main_v203 V) slices_S64x226x226_S64x224x224_0_2_2))) : FVec Ideal S1x3x224x224 .f32) (ix4 0 o y x)
      = conv (last V) (feat4 V) o y x := by
  pointwise []
  simp only [border4]
  exact conv_sum (last V) (feat4 V) o y.isLt x.isLt

end Cert.FuseRefIdeal.Network

end
-- ==== Proof.FuseClaim.lean ====
/- The claims about the fusion network. -/
module

public import proofs.«01_k».proof.Defs
public import proofs.«01_k».proof.Proof.FuseKernel
public import proofs.«01_k».proof.Proof.FuseReference
public import Idealize.ShloMosaic.Lib.Quiescent

@[expose] public section

set_option maxRecDepth 16384

noncomputable section

namespace Cert.FuseIdeal.Network

open Idealize.ShloMosaic Idealize.ShloMosaic.TcCoe Idealize.SL Idealize.SL.BI Idealize.SL.BI.BIBase Idealize.SL.BI.Laws Idealize.SL.Sem Idealize.SL.ProofMode
open Idealize.SL.RA Idealize.ShloMosaic.Rounds
open scoped Idealize.SL.BI
open Idealize.ShloMosaic.Pipeline (Dat Cfg Window BodyObligation cellOf)
open Cert.FuseIdeal Cert.FuseIdeal.Gen

local notation "𝕄" => MT nD τ sig Unit (Elt Ideal) ℕ (UR sig nD τ) ℕ

set_option backward.isDefEq.respectTransparency.types false in
/-- Every execution of the kernel ends with each result array at what the host operations and the kernels leave there one after another,
    and with the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36) = W22 m ρ c (Proc.devRef .tc main_v36) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h _ => fun c =>
      ⟨h c _ (mem_uc main_v36 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c)⟩)

end Cert.FuseIdeal.Network

namespace Cert.FuseClaim

open Idealize.ShloMosaic Idealize.ShloMosaic.TcCoe Idealize.SL.Sem Cert.Math

/-- The reference ends with its arguments unchanged and every semaphore at zero. -/
theorem frame_reference : Cert.quiescent_FuseRefIdeal (hFuseRefIdeal := Cert.FuseRefIdeal.Gen.facts) := fun m g _ =>
  (θ_run _ _ _).mono (fun r h => ⟨fun c => (h c).2, sem_eq_zero_of_no_sems rfl r.2⟩) (Cert.FuseRefIdeal.Value.run m g)

/-- The result of the kernel and that of the reference are equal, as extended reals. -/
theorem algebraic : Cert.algebraic_FuseIdeal_FuseRefIdeal (hFuseIdeal := Cert.FuseIdeal.Gen.facts) (hFuseRefIdeal := Cert.FuseRefIdeal.Gen.facts) := by
  intro m g m' g' _ hm
  refine ⟨_, Cert.FuseIdeal.Network.run m g, (θ_run _ _ _).mono (fun r h c => ⟨(h c).1.trans ?_, (h c).2⟩) (Cert.FuseRefIdeal.Value.run m' g')⟩
  obtain ⟨e0, e1, e2, e3, e4, e5, e6⟩ := hm c
  have infrared : Cert.FuseRefIdeal.Network.infrared (StableHlo.launchContents m' c) = Cert.FuseIdeal.Network.infrared m c := funext fun _ => funext fun _ => funext fun _ => congrFun e0 _
  have visible : Cert.FuseRefIdeal.Network.visible (StableHlo.launchContents m' c) = Cert.FuseIdeal.Network.visible m c := funext fun _ => funext fun _ => funext fun _ => congrFun e1 _
  have low : Cert.FuseRefIdeal.Network.low (StableHlo.launchContents m' c) = Cert.FuseIdeal.Network.low m c := funext fun _ => funext fun _ => funext fun _ => congrFun e2 _
  have high : Cert.FuseRefIdeal.Network.high (StableHlo.launchContents m' c) = Cert.FuseIdeal.Network.high m c := funext fun _ => funext fun _ => funext fun _ => congrFun e3 _
  have stem : Cert.FuseRefIdeal.Network.stem (StableHlo.launchContents m' c) = Cert.FuseIdeal.Network.stem m c := funext fun _ => funext fun _ => funext fun _ => funext fun _ => congrFun e4 _
  have block : Cert.FuseRefIdeal.Network.block (StableHlo.launchContents m' c) = Cert.FuseIdeal.Network.block m c := funext fun _ => funext fun _ => funext fun _ => funext fun _ => funext fun _ => congrFun e5 _
  have last : Cert.FuseRefIdeal.Network.last (StableHlo.launchContents m' c) = Cert.FuseIdeal.Network.last m c := funext fun _ => funext fun _ => funext fun _ => funext fun _ => congrFun e6 _
  have f0 : Cert.FuseRefIdeal.Network.fused (StableHlo.launchContents m' c) = Cert.FuseIdeal.Network.fused m c := by
    unfold Cert.FuseRefIdeal.Network.fused Cert.FuseIdeal.Network.fused
    rw [infrared, visible, low, high]
    exact funext fun _ => funext fun _ => funext fun _ => add_comm _ _
  have f4 : Cert.FuseRefIdeal.Network.feat4 (StableHlo.launchContents m' c) = Cert.FuseIdeal.Network.feat4 m c := by
    unfold Cert.FuseRefIdeal.Network.feat4 Cert.FuseRefIdeal.Network.feat3 Cert.FuseRefIdeal.Network.feat2 Cert.FuseRefIdeal.Network.feat1
    rw [f0, stem, block]
    rfl
  funext i
  obtain ⟨z, o, y, x, rfl⟩ : ∃ (z : Fin 1) (o : Fin 3) (y x : Fin 224), i = ix4 z o y x := ⟨i 0, i 1, i 2, i 3, eq_ix4 i⟩
  obtain rfl : z = 0 := Subsingleton.elim _ _
  refine Eq.trans ?_ (Cert.FuseIdeal.Network.result m g c o y x).symm
  refine (Cert.FuseRefIdeal.Network.result (StableHlo.launchContents m' c) o y x).trans ?_
  rw [last, f4]

end Cert.FuseClaim

end
-- ==== Proof.Trips.lean ====
/- A buffer `[row, channel, column]` written row by row by loops, one after another, for any kernel. -/
module

public import proofs.«01_k».proof.Proof.Rows

@[expose] public section

set_option maxRecDepth 16384

noncomputable section

namespace Cert.Rows

open Idealize.ShloMosaic Idealize.SL.Sem Cert.Math

variable {R C S : ℕ}

/-- What a buffer holds in row `r` when the newest write to it was of that row: the row written. -/
theorem canon_row (r : ℕ) {off : Fin 3 → ℕ} (hoff : off = ![r, 0, 0])
    (inb : ∀ a, off a + (![1, C, S] : Fin 3 → ℕ) a ≤ (⟨3, ![R, C, S]⟩ : Shape).size a)
    (pay : (⟨3, ![1, C, S]⟩ : Shape).Idx → EReal) (L : List (View.Piece (Elt Ideal) ⟨3, ![R, C, S]⟩ .f32)) (i : Fin R) (hi : i.val = r) (o : Fin C) (s : Fin S) :
    View.canon ((⟨Rect.unit (s := ⟨3, ![R, C, S]⟩) off ![1, C, S] inb, pay⟩ : View.Piece (Elt Ideal) ⟨3, ![R, C, S]⟩ .f32) :: L) (ix3 i o s) = pay (ix3 0 o s) := by
  subst hoff
  have e : ix3 i o s = (Rect.unit (s := ⟨3, ![R, C, S]⟩) ![r, 0, 0] ![1, C, S] inb).emb (ix3 (0 : Fin 1) o s) := by
    funext a
    match a with
    | 0 => exact Fin.ext (by show i.val = r + 1 * 0; omega)
    | 1 => exact Fin.ext (by show o.val = 0 + 1 * o.val; omega)
    | 2 => exact Fin.ext (by show s.val = 0 + 1 * s.val; omega)
  rw [e]
  exact View.canon_cons_emb _ _ _ _

/-- What a buffer holds in a row other than the one written last: what it held before. -/
theorem canon_other (r : ℕ) {off : Fin 3 → ℕ} (hoff : off = ![r, 0, 0])
    (inb : ∀ a, off a + (![1, C, S] : Fin 3 → ℕ) a ≤ (⟨3, ![R, C, S]⟩ : Shape).size a)
    (pay : (⟨3, ![1, C, S]⟩ : Shape).Idx → EReal) (L : List (View.Piece (Elt Ideal) ⟨3, ![R, C, S]⟩ .f32)) (i : Fin R) (hi : i.val ≠ r) (o : Fin C) (s : Fin S) :
    View.canon ((⟨Rect.unit (s := ⟨3, ![R, C, S]⟩) off ![1, C, S] inb, pay⟩ : View.Piece (Elt Ideal) ⟨3, ![R, C, S]⟩ .f32) :: L) (ix3 i o s) = View.canon L (ix3 i o s) := by
  subst hoff
  refine View.canon_cons_of_not_mem _ L fun hm => ?_
  obtain ⟨j, hj, he⟩ := (LoadRect.mem_set _).mp hm (0 : Fin 3)
  have hj1 : j < 1 := hj
  have he' : i.val = r + 1 * j := he
  omega

/-- One write of the row `r` of `Y`. -/
def RowPiece (Y : Fin C → ℕ → ℕ → EReal) (r : ℕ) (L : List (View.Piece (Elt Ideal) ⟨3, ![R, C, S]⟩ .f32)) : Prop :=
  ∃ (off : Fin 3 → ℕ) (_ : off = ![r, 0, 0]) (inb : ∀ a, off a + (![1, C, S] : Fin 3 → ℕ) a ≤ (⟨3, ![R, C, S]⟩ : Shape).size a)
    (pay : (⟨3, ![1, C, S]⟩ : Shape).Idx → EReal), L = [⟨Rect.unit (s := ⟨3, ![R, C, S]⟩) off ![1, C, S] inb, pay⟩] ∧ ∀ (o : Fin C) (s : Fin S), pay (ix3 0 o s) = Y o r s.val

/-- A loop whose trip `k` writes row `k + 1` of `Y`: after its first `k` trips the rows 1 to `k` hold `Y` and the others what they held before.
    That a trip writes this may be shown from what the buffer holds when the trip begins. -/
theorem canon_trips (Y : Fin C → ℕ → ℕ → EReal) {n : ℕ} (pb : ℕ → List (View.Piece (Elt Ideal) ⟨3, ![R, C, S]⟩ .f32))
    (tr : Fin n → List (View.Piece (Elt Ideal) ⟨3, ![R, C, S]⟩ .f32)) (L : List (View.Piece (Elt Ideal) ⟨3, ![R, C, S]⟩ .f32))
    (h0 : pb 0 = []) (hs : ∀ k : Fin n, pb (k.val + 1) = tr k ++ pb k.val)
    (ht : ∀ k : Fin n, (∀ (i : Fin R) (o : Fin C) (s : Fin S), k.val < i.val → View.canon (pb k.val ++ L) (ix3 i o s) = View.canon L (ix3 i o s)) →
      RowPiece Y (k.val + 1) (tr k)) :
    ∀ k ≤ n, ∀ (i : Fin R) (o : Fin C) (s : Fin S),
      View.canon (pb k ++ L) (ix3 i o s) = if 1 ≤ i.val ∧ i.val ≤ k then Y o i.val s.val else View.canon L (ix3 i o s)
  | 0, _, i, o, s => by rw [h0, if_neg (by omega)]; rfl
  | k + 1, hk, i, o, s => by
    have ih := canon_trips Y pb tr L h0 hs ht k (by omega)
    obtain ⟨off, hoff, inb, pay, hL, hp⟩ := ht ⟨k, hk⟩ fun i o s hi => (ih i o s).trans (if_neg (by have : k < i.val := hi; omega))
    rw [hs ⟨k, hk⟩, hL]
    by_cases hi : i.val = k + 1
    · rw [if_pos (by omega)]
      refine (canon_row (k + 1) hoff inb pay _ i hi o s).trans ?_
      rw [hp, hi]
    · refine (canon_other (k + 1) hoff inb pay _ i hi o s).trans ((ih i o s).trans ?_)
      exact if_congr (by omega) rfl rfl

/-- What is read of a buffer after writes, whatever it held before them. -/
theorem readAt_junk {sig : RefSig} {κ : Kind} {sp : Space} {s : Shape} {e : EltTy} (v : View sig κ sp s e) (L : List (View.Piece (Elt Ideal) s e)) (B : Rect s) :
    View.readAt (Elt Ideal) v B.toLoadRect (v.writes (Elt Ideal) v.junk L) = View.ld (View.canon L) B := by
  rw [View.readAt_eq_ld, View.read_writes_junk_eq_canon]

/-- Reading one row of taps of one matrix of a stack of stacks. -/
theorem ld_tap4 {A B : ℕ} (X : (⟨4, ![A, B, C, S]⟩ : Shape).Idx → EReal) (e : Fin A) (d : Fin B) {off : Fin 4 → ℕ} (hoff : off = ![e.val, d.val, 0, 0])
    (inb : ∀ a, off a + (![1, 1, C, S] : Fin 4 → ℕ) a ≤ (⟨4, ![A, B, C, S]⟩ : Shape).size a) (c : Fin C) (s : Fin S) :
    View.ld (Val := Elt Ideal) (e' := .f32) X (Rect.unit (s := ⟨4, ![A, B, C, S]⟩) off ![1, 1, C, S] inb) (ix4 0 0 c s) = X (ix4 e d c s) := by
  subst hoff
  refine congrArg X ?_
  funext a
  match a with
  | 0 => exact Fin.ext (by show e.val + 1 * 0 = e.val; omega)
  | 1 => exact Fin.ext (by show d.val + 1 * 0 = d.val; omega)
  | 2 => exact Fin.ext (by show 0 + 1 * c.val = c.val; omega)
  | 3 => exact Fin.ext (by show 0 + 1 * s.val = s.val; omega)

end Cert.Rows

end
-- ==== Proof.VizKernel.lean ====
/- What the kernel between encoder and decoder leaves in memory as the latent image. -/
module

public import proofs.«01_k».proof.Proof.VizIdealFrame
public import proofs.«01_k».proof.Proof.Trips
public import Idealize.ShloMosaic.Lib.Claim

@[expose] public section

set_option maxRecDepth 16384

noncomputable section

open Idealize.ShloMosaic Idealize.ShloMosaic.TcCoe Idealize.SL.Sem

namespace Cert.VizIdeal.Network

open Cert.VizIdeal Cert.VizIdeal.Gen Cert.Math Cert.Rows Cert.VizIdeal.Run

/-- The latent image: the mean plus the square root of the variance times the noise, at each point. -/
def sample (A S E : Img 64) : Img 64 := fun ch y x => A ch y x + Ideal.sqrt (S ch y x) * E ch y x

/-- The row that the kernel computes from a row of the means, of the variances and of the noise is the row of the latent image, with a zero on either side. -/
theorem row (P0 P1 P2 : Vec Ideal S1x64x224 .f32) (A S E : Img 64) (y : Fin 224)
    (h0 : ∀ (ch : Fin 64) (s : Fin 224), P0 (ix3 0 ch s) = A ch y s) (h1 : ∀ (ch : Fin 64) (s : Fin 224), P1 (ix3 0 ch s) = S ch y s)
    (h2 : ∀ (ch : Fin 64) (s : Fin 224), P2 (ix3 0 ch s) = E ch y s) (o : Fin 64) (s : Fin 226) :
    k0_pay6 (F := Ideal) P0 P1 P2 (ix3 0 o s) = padAt (sample A S E) o (y.val + 1) s.val := by
  pointwise [k0_pay6, k0_pay5]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega), h0, h1, h2]
    rfl
  · rw [dif_neg hs1, padAt_out _ _ (by omega)]

/-- The output after the loop over the rows, whatever it held inside its border, which was zero. -/
theorem loop (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 x1 x2 : Vec Ideal S224x64x224 .f32) (A S E : Img 64)
    (h0 : ∀ (r : Fin 224) (ch : Fin 64) (s : Fin 224), x0 (ix3 r ch s) = at0 A ch r.val s.val)
    (h1 : ∀ (r : Fin 224) (ch : Fin 64) (s : Fin 224), x1 (ix3 r ch s) = at0 S ch r.val s.val)
    (h2 : ∀ (r : Fin 224) (ch : Fin 64) (s : Fin 224), x2 (ix3 r ch s) = at0 E ch r.val s.val)
    (G5 : BufTy.Contents (Elt Ideal) arg5.view.ty) (G7 : BufTy.Contents (Elt Ideal) arg7.view.ty)
    (L : (List (View.Piece (Elt Ideal) S226x64x226 .f32))) (hL : ∀ (r : Fin 226) (o : Fin 64) (s : Fin 226), r.val = 0 ∨ 224 < r.val → View.canon L (ix3 r o s) = (0 : EReal))
    (r : Fin 226) (o : Fin 64) (s : Fin 226) :
    View.canon ((pb_k0_t1 (F := Ideal) Variants.none c none arg0 harg0 arg1 harg1 arg2 harg2 arg3 harg3 arg4 harg4 arg5 harg5 arg6 harg6 arg7 harg7 (harg0.unread x0) (harg1.unread x1) (harg2.unread x2) G5 G7 (Scf.trips k0_t1_loop.lb k0_t1_loop.ub k0_t1_loop.st)).1 ++ L) (ix3 r o s)
      = padAt (sample A S E) o r.val s.val := by
  have hn : k0_t1_loop.trips = 224 := by decide +kernel
  refine (canon_trips (fun o r s => padAt (sample A S E) o r s) (fun k => (pb_k0_t1 (F := Ideal) Variants.none c none arg0 harg0 arg1 harg1 arg2 harg2 arg3 harg3 arg4 harg4 arg5 harg5 arg6 harg6 arg7 harg7 (harg0.unread x0) (harg1.unread x1) (harg2.unread x2) G5 G7 k).1) _ L rfl
    (fun k => congrArg Prod.fst (pb_k0_t1_succ Variants.none c none arg0 harg0 arg1 harg1 arg2 harg2 arg3 harg3 arg4 harg4 arg5 harg5 arg6 harg6 arg7 harg7 _ _ _ G5 G7 k)) (fun k _ => ?_) _ (le_refl k0_t1_loop.trips) r o s).trans ?_
  · have hk : k.val < 224 := Nat.lt_of_lt_of_le k.isLt k0_t1_abs.2.1
    unfold tripL_k0_t1 trip_k0_t1
    dsimp only
    simp only [readAt_unread]
    refine ⟨_, k0_off2_eq k, _, _, rfl, fun o s => ?_⟩
    refine row _ _ _ A S E ⟨k.val, hk⟩ ?_ ?_ ?_ o s <;> intro ch s
    · exact ((ld_tap x0 ⟨k.val, hk⟩ (k0_off1_eq k) _ ch s).trans (h0 _ ch s)).trans (at0_fin A ch _ s)
    · exact ((ld_tap x1 ⟨k.val, hk⟩ (k0_off1_eq k) _ ch s).trans (h1 _ ch s)).trans (at0_fin S ch _ s)
    · exact ((ld_tap x2 ⟨k.val, hk⟩ (k0_off1_eq k) _ ch s).trans (h2 _ ch s)).trans (at0_fin E ch _ s)
  · rw [hn]
    by_cases hr : 1 ≤ r.val ∧ r.val ≤ 224
    · rw [if_pos hr]
    · rw [if_neg hr, hL r o s (by omega), padAt_out _ _ (by omega)]

/-- The output's border, zero. -/
theorem border (r : Fin 226) (o : Fin 64) (s : Fin 226) (hr : r.val = 0 ∨ 224 < r.val) :
    View.canon ([⟨Rect.unit ![225, 0, 0] ![1, 64, 226] inb_S226x64x226_S1x64x226_225_0_0, k0_pay3 (F := Ideal)⟩,
      ⟨Rect.unit ![0, 0, 0] ![1, 64, 226] inb_S226x64x226_S1x64x226_0_0_0, k0_pay2 (F := Ideal)⟩] : (List (View.Piece (Elt Ideal) S226x64x226 .f32))) (ix3 r o s) = (0 : EReal) := by
  by_cases h : r.val = 225
  · refine (canon_row 225 rfl _ _ _ r h o s).trans ?_
    pointwise [k0_pay3]
  · refine (canon_other 225 rfl _ _ _ r h o s).trans ((canon_row 0 rfl _ _ _ r (by omega) o s).trans ?_)
    pointwise [k0_pay2]

/-- What the body leaves in its first output: the latent image with a border of zeros. -/
theorem region (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole)
    (x0 x1 x2 : Vec Ideal S224x64x224 .f32) (x3 : Vec Ideal S8x64 .f32) (x4 : Vec Ideal S8x1 .f32) (A S E : Img 64)
    (h0 : ∀ (r : Fin 224) (ch : Fin 64) (s : Fin 224), x0 (ix3 r ch s) = at0 A ch r.val s.val)
    (h1 : ∀ (r : Fin 224) (ch : Fin 64) (s : Fin 224), x1 (ix3 r ch s) = at0 S ch r.val s.val)
    (h2 : ∀ (r : Fin 224) (ch : Fin 64) (s : Fin 224), x2 (ix3 r ch s) = at0 E ch r.val s.val)
    (r : Fin 226) (o : Fin 64) (s : Fin 226) :
    out0_A_5 (F := Ideal) c arg0 harg0 arg1 harg1 arg2 harg2 arg3 harg3 arg4 harg4 arg5 harg5 arg6 harg6 arg7 harg7 x0 x1 x2 x3 x4 (ix3 r o s) = padAt (sample A S E) o r.val s.val := by
  unfold out0_A_5
  rw [View.read_writes_junk_eq_canon]
  unfold bodyRun
  dsimp only
  exact loop c arg0 harg0 arg1 harg1 arg2 harg2 arg3 harg3 arg4 harg4 arg5 harg5 arg6 harg6 arg7 harg7 x0 x1 x2 A S E h0 h1 h2 _ _ _ border r o s

/-! ## The arguments, as images -/

/-- The means. -/
def mean (m : (ℓ : Loc nD τ sig) → Buf (Elt Ideal) ℓ) (c : Dev nD) : Img 64 := fun ch y x => m ((c : Thread nD τ).loc main_arg0) (ix4 0 ch y x)
/-- The variances. -/
def variance (m : (ℓ : Loc nD τ sig) → Buf (Elt Ideal) ℓ) (c : Dev nD) : Img 64 := fun ch y x => m ((c : Thread nD τ).loc main_arg1) (ix4 0 ch y x)
/-- The noise. -/
def noise (m : (ℓ : Loc nD τ sig) → Buf (Elt Ideal) ℓ) (c : Dev nD) : Img 64 := fun ch y x => m ((c : Thread nD τ).loc main_arg2) (ix4 0 ch y x)

/-! ## The host operations around the kernel, and the kernel between them -/

/-- The kernel's first input: the means, row by row. -/
theorem in_mean (m : (ℓ : Loc nD τ sig) → Buf (Elt Ideal) ℓ) (c : Dev nD) (r : Fin 224) (ch : Fin 64) (s : Fin 224) : V m c main_v4 (ix3 r ch s) = at0 (mean m c) ch r.val s.val := by
  unfold V V0
  simp only [hostOps0, hostOps0_1, hostOps0_2, hostOps0_3, hostOps0_4, List.flatten_cons, List.flatten_nil, List.append_nil, List.cons_append, List.nil_append]
  after_results
  rw [at0_fin]
  pointwise []
  rfl

/-- Its second: the variances. -/
theorem in_variance (m : (ℓ : Loc nD τ sig) → Buf (Elt Ideal) ℓ) (c : Dev nD) (r : Fin 224) (ch : Fin 64) (s : Fin 224) : V m c main_v6 (ix3 r ch s) = at0 (variance m c) ch r.val s.val := by
  unfold V V0
  simp only [hostOps0, hostOps0_1, hostOps0_2, hostOps0_3, hostOps0_4, List.flatten_cons, List.flatten_nil, List.append_nil, List.cons_append, List.nil_append]
  after_results
  rw [at0_fin]
  pointwise []
  rfl

/-- Its third: the noise. -/
theorem in_noise (m : (ℓ : Loc nD τ sig) → Buf (Elt Ideal) ℓ) (c : Dev nD) (r : Fin 224) (ch : Fin 64) (s : Fin 224) : V m c main_v8 (ix3 r ch s) = at0 (noise m c) ch r.val s.val := by
  unfold V V0
  simp only [hostOps0, hostOps0_1, hostOps0_2, hostOps0_3, hostOps0_4, List.flatten_cons, List.flatten_nil, List.append_nil, List.cons_append, List.nil_append]
  after_results
  rw [at0_fin]
  pointwise []
  rfl

/-- The kernel's blocks start at the beginning of their arrays. -/
theorem idx0 : (∀ a, win0_0.index t0_0 a = 0) ∧ (∀ a, win0_1.index t0_0 a = 0) ∧ (∀ a, win0_2.index t0_0 a = 0) := by
  decide +kernel

/-- The kernel's first output array: the latent image with a border of zeros. -/
theorem final (m : (ℓ : Loc nD τ sig) → Buf (Elt Ideal) ℓ) (c : Dev nD) (r : Fin 226) (o : Fin 64) (s : Fin 226) :
    (dats m 0 c).arrAt 5 cfg0.N (ix3 r o s) = padAt (sample (mean m c) (variance m c) (noise m c)) o r.val s.val := by
  refine congrFun ((dats m 0 c).arrAt_eq_of_after_last 5 t0_0 (by decide +kernel)
    (holds (fun o r s => padAt (sample (mean m c) (variance m c) (noise m c)) o r s)) fun j => ?_) (ix3 r o s)
  blk_simp
  rw [after0_5]
  unfold outsAt0
  obtain ⟨r, o, s, rfl⟩ : ∃ (r : Fin 226) (o : Fin 64) (s : Fin 226), j = ix3 r o s := ⟨j 0, j 1, j 2, eq_ix3 j⟩
  refine (region c _ _ _ _ _ _ _ _ _ _ _ _ _ _ _ _ _ _ _ _ _ (mean m c) (variance m c) (noise m c)
    (fun r ch s => Eq.trans ?_ (in_mean m c r ch s)) (fun r ch s => Eq.trans ?_ (in_variance m c r ch s)) (fun r ch s => Eq.trans ?_ (in_noise m c r ch s)) r o s).trans ?_
  · blk_ext! [iblk, idx0]
  · blk_ext! [iblk, idx0]
  · blk_ext! [iblk, idx0]
  · rfl

/-- The result: the latent image. -/
theorem result (m : (ℓ : Loc nD τ sig) → Buf (Elt Ideal) ℓ) (c : Dev nD) (o : Fin 64) (y x : Fin 224) :
    Pipeline.afterTail₀ cfgs (dats m) 0 (V0 m) [hostOps1] c main_v12 (ix4 0 o y x) = sample (mean m c) (variance m c) (noise m c) o y x := by
  have e := final m c ⟨y.val + 1, by omega⟩ o ⟨x.val + 1, by omega⟩
  rw [padAt_in _ _ y.isLt x.isLt] at e
  refine Eq.trans ?_ e
  have h : Pipeline.withArrays (cfgs 0).spec c (V0 m c) (fun w => (dats m 0 c).arrAt w (cfgs 0).N) (Proc.devRef .tc main_v9_0) = (dats m 0 c).arrAt 5 cfg0.N :=
    Pipeline.withArrays_arr (cfgs 0).spec (by decide +kernel) c _ _ 5
  unfold Pipeline.afterTail₀
  simp only [hostOps1, List.flatten_cons, List.flatten_nil, List.append_nil]
  after_results
  rw [h]
  pointwise []
  simp only [Nat.add_comm 1]

/-- Every execution of the program ends with the result at what the host operations leave there after the kernel, and with the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have a : θ_run defs (onTc (τ := τ) (main (F := Ideal))) ⟨m, fun _ => 0, ρ⟩ (fun r => ∀ c : Dev nD,
      r.2.mem ((c.tc : Thread nD τ).loc main_v12) = Pipeline.afterTail₀ cfgs (dats m) 0 (V0 m) [hostOps1] c main_v12) :=
    (θ_run defs _ _).mono (fun _ h c => (h c).2 main_v12 (Pipeline.mem_restRefs_of main_v12 (by decide) (by decide))) (run_main m ρ)
  exact (θ_run defs _ _).mono (fun _ h c => ⟨h.1 c, h.2 c⟩) (θ_run_and a (unchanged m ρ))

end Cert.VizIdeal.Network

end
-- ==== Proof.VizClaim.lean ====
/- The claims about the latent image. -/
module

public import proofs.«01_k».proof.Defs
public import proofs.«01_k».proof.Proof.VizKernel
public import proofs.«01_k».proof.Proof.VizFrame
public import proofs.«01_k».proof.Proof.Gen.Viz
public import proofs.«01_k».proof.Proof.Gen.VizIdeal
public import proofs.«01_k».proof.Proof.Gen.VizRefIdeal
public import proofs.«01_k».proof.Proof.Gen.VizRefIdeal.Run
public import Idealize.ShloMosaic.Lib.Quiescent

@[expose] public section

set_option maxRecDepth 16384

noncomputable section

namespace Cert.VizClaim

open Idealize.ShloMosaic Idealize.ShloMosaic.TcCoe Idealize.SL.Sem Cert.Math

/-- The reference ends with its arguments unchanged and every semaphore at zero. -/
theorem frame_reference : Cert.quiescent_VizRefIdeal (hVizRefIdeal := Cert.VizRefIdeal.Gen.facts) := fun m g _ =>
  (θ_run _ _ _).mono (fun r h => ⟨fun c => (h c).2, sem_eq_zero_of_no_sems rfl r.2⟩) (Cert.VizRefIdeal.Value.run m g)

/-- The result of the kernel and that of the reference are equal, as extended reals. -/
theorem algebraic : Cert.algebraic_VizIdeal_VizRefIdeal (hVizIdeal := Cert.VizIdeal.Gen.facts) (hVizRefIdeal := Cert.VizRefIdeal.Gen.facts) := by
  intro m g m' g' _ hm
  refine ⟨_, Cert.VizIdeal.Network.run m g, (θ_run _ _ _).mono (fun r h c => ⟨(h c).1.trans ?_, (h c).2⟩) (Cert.VizRefIdeal.Value.run m' g')⟩
  obtain ⟨e0, e1, e2, -, -⟩ := hm c
  funext i
  obtain ⟨z, o, y, x, rfl⟩ : ∃ (z : Fin 1) (o : Fin 64) (y x : Fin 224), i = ix4 z o y x := ⟨i 0, i 1, i 2, i 3, eq_ix4 i⟩
  obtain rfl : z = 0 := Subsingleton.elim _ _
  refine Eq.trans ?_ (Cert.VizIdeal.Network.result m c o y x).symm
  pointwise []
  refine congrArg₂ (· + ·) (congrFun e0 _) (congrArg₂ (· * ·) (congrArg Ideal.sqrt (congrFun e1 _)) (congrFun e2 _))

end Cert.VizClaim

end
-- ==== Proof.RouteSelect.lean ====
/- The two largest of three numbers: how the kernel finds them, and how sorting finds them. -/
module

public import proofs.«01_k».proof.Proof.VizKernel

@[expose] public section

set_option maxRecDepth 16384

noncomputable section

open Idealize.ShloMosaic

namespace Cert.Select

/-- The first place of the largest value. -/
def First {n : ℕ} (f : Fin n → EReal) (k : Fin n) : Prop := (∀ e, f e ≤ f k) ∧ ∀ e, e < k → f e < f k

/-- The largest value, from the place of it. -/
theorem First.sup {n : ℕ} {f : Fin n → EReal} {k : Fin n} (h : First f k) : Finset.univ.sup f = f k :=
  le_antisymm (Finset.sup_le fun e _ => h.1 e) (Finset.le_sup (f := f) (Finset.mem_univ k))

/-- Of the negated places of the largest value, with a number below all of them elsewhere, the largest is that of the first place. -/
theorem First.index {n : ℕ} {f : Fin n → EReal} {k : Fin n} (h : First f k) (c : EReal) (hc : ∀ e : Fin n, c ≤ 0 - ((e.val : ℝ) : EReal)) :
    0 - Finset.univ.sup (fun e : Fin n => if f e = f k then 0 - ((e.val : ℝ) : EReal) else c) = ((k.val : ℝ) : EReal) := by
  have : Finset.univ.sup (fun e : Fin n => if f e = f k then 0 - ((e.val : ℝ) : EReal) else c) = 0 - ((k.val : ℝ) : EReal) := by
    refine le_antisymm (Finset.sup_le fun e _ => ?_) ?_
    · by_cases he : f e = f k
      · rw [if_pos he]
        have hk : k ≤ e := not_lt.1 fun hlt => absurd he (ne_of_lt (h.2 e hlt))
        have : (k.val : ℝ) ≤ (e.val : ℝ) := by exact_mod_cast hk
        exact EReal.sub_le_sub le_rfl (EReal.coe_le_coe_iff.2 this)
      · rw [if_neg he]
        exact hc k
    · refine le_trans (le_of_eq ?_) (Finset.le_sup (f := fun e : Fin n => if f e = f k then 0 - ((e.val : ℝ) : EReal) else c) (Finset.mem_univ k))
      exact (if_pos rfl).symm
  rw [this, ← EReal.coe_zero, ← EReal.coe_sub, ← EReal.coe_sub]
  simp

/-- Sorting three numbers, by any strict weak order: the first place of the largest, and the first place of the largest of the others. -/
theorem sorted3 : ∀ b : Fin 3 → Fin 3 → Bool, (∀ i j, b i j = true → b j i = false) → (∀ i j k, b i j = false → b j k = false → b i k = false) →
    sortedFrom b 0 ≠ sortedFrom b 1
    ∧ (∀ e, b e (sortedFrom b 0) = false) ∧ (∀ e, e < sortedFrom b 0 → b (sortedFrom b 0) e = true)
    ∧ (∀ e, e ≠ sortedFrom b 0 → b e (sortedFrom b 1) = false) ∧ (∀ e, e < sortedFrom b 1 → e ≠ sortedFrom b 0 → b (sortedFrom b 1) e = true) := by
  decide +kernel

/-- The order on the places of three numbers: the larger first. -/
def before (l : Fin 3 → EReal) (i j : Fin 3) : Bool := decide (l j < l i)

/-- The place of the largest of three numbers. -/
def best (l : Fin 3 → EReal) : Fin 3 := sortedFrom (before l) 0
/-- The place of the largest of the other two. -/
def second (l : Fin 3 → EReal) : Fin 3 := sortedFrom (before l) 1

theorem sorted (l : Fin 3 → EReal) : best l ≠ second l
    ∧ (∀ e, l e ≤ l (best l)) ∧ (∀ e, e < best l → l e < l (best l))
    ∧ (∀ e, e ≠ best l → l e ≤ l (second l)) ∧ (∀ e, e < second l → e ≠ best l → l e < l (second l)) := by
  have h := sorted3 (before l) (fun i j => by unfold before; simp only [decide_eq_true_eq, decide_eq_false_iff_not, not_lt]; exact le_of_lt)
    (fun i j k => by unfold before; simp only [decide_eq_false_iff_not, not_lt]; exact fun a b => le_trans a b)
  refine ⟨h.1, fun e => ?_, fun e he => ?_, fun e he => ?_, fun e he hn => ?_⟩
  · exact not_lt.1 (of_decide_eq_false (h.2.1 e))
  · exact of_decide_eq_true (h.2.2.1 e he)
  · exact not_lt.1 (of_decide_eq_false (h.2.2.2.1 e he))
  · exact of_decide_eq_true (h.2.2.2.2 e he hn)

/-- A place among three, as a place among eight. -/
def wide (k : Fin 3) : Fin 8 := ⟨k.val, by omega⟩

/-- Of eight numbers of which the last five are below the two largest of the first three, the largest. -/
theorem first_best (L : Fin 8 → EReal) (l : Fin 3 → EReal) (c : EReal) (hl : ∀ e : Fin 3, L (wide e) = l e) (h : ∀ e : Fin 8, 3 ≤ e.val → L e = c) (hc : c < l (second l)) :
    First L (wide (best l)) := by
  obtain ⟨_, h1, h2, _, _⟩ := sorted l
  refine ⟨fun e => ?_, fun e he => ?_⟩
  · by_cases h3 : e.val < 3
    · have : e = wide ⟨e.val, h3⟩ := rfl
      rw [this, hl, hl]; exact h1 _
    · rw [h e (by omega), hl]; exact le_of_lt (lt_of_lt_of_le hc (h1 _))
  · have he' : e.val < (best l).val := he
    have : e = wide ⟨e.val, by omega⟩ := rfl
    rw [this, hl, hl]; exact h2 _ he'

/-- With the largest replaced, the largest of the others. -/
theorem first_second (L : Fin 8 → EReal) (l : Fin 3 → EReal) (c : EReal) (hl : ∀ e : Fin 3, L (wide e) = l e) (h : ∀ e : Fin 8, 3 ≤ e.val → L e = c) (hc : c < l (second l)) :
    First (fun e => if e = wide (best l) then c else L e) (wide (second l)) := by
  obtain ⟨h0, _, _, h1, h2⟩ := sorted l
  have hw : ∀ i j : Fin 3, wide i = wide j → i = j := fun i j e => Fin.ext (Fin.mk.inj e)
  have hs : (if wide (second l) = wide (best l) then c else L (wide (second l))) = l (second l) := by
    rw [if_neg fun e => h0 (hw _ _ e).symm, hl]
  refine ⟨fun e => ?_, fun e he => ?_⟩
  · beta_reduce
    rw [hs]
    split
    · exact le_of_lt hc
    · rename_i hne
      by_cases h3 : e.val < 3
      · have h4 : e = wide ⟨e.val, h3⟩ := rfl
        rw [h4, hl]; exact h1 _ fun e' => hne (by rw [← e']; rfl)
      · rw [h e (by omega)]; exact le_of_lt hc
  · beta_reduce
    have he' : e.val < (second l).val := he
    rw [hs]
    split
    · exact hc
    · rename_i hne
      have h4 : e = wide ⟨e.val, by omega⟩ := rfl
      rw [h4, hl]; exact h2 _ he' fun e' => hne (by rw [← e']; rfl)

/-- A place, turned to an integer. -/
theorem fptosi_place (k : Fin 3) : Ideal.fptosi 32 ((k.val : ℝ) : EReal) = BitVec.ofNat 32 k.val := by
  have h : ∀ lo hi : ℤ, Ideal.toIntClamped lo hi ((k.val : ℝ) : EReal) = max lo (min hi (if 0 ≤ (k.val : ℝ) then ⌊(k.val : ℝ)⌋ else ⌈(k.val : ℝ)⌉)) := fun _ _ => rfl
  unfold Ideal.fptosi
  rw [h, if_pos (Nat.cast_nonneg _), Int.floor_natCast]
  fin_cases k <;> rfl

end Cert.Select

end
-- ==== Proof.RoutePick.lean ====
/- The router's choice, as the kernel computes it from the numbers of the experts. -/
module

public import proofs.«01_k».proof.Proof.RouteIdealFrame
public import proofs.«01_k».proof.Proof.RouteSelect

@[expose] public section

set_option maxRecDepth 16384

noncomputable section

open Idealize.ShloMosaic Idealize.ShloMosaic.TcCoe Idealize.SL.Sem

namespace Cert.RouteIdeal.Pick

open Cert.RouteIdeal Cert.RouteIdeal.Gen Cert.Select

/-- The negative number that stands for "not to be chosen". -/
def low : EReal := Ideal.ofBits .f32 0xF149F2CA#32

theorem low_eq : low = ((-(13234890 * 2 ^ 76) : ℝ) : EReal) := by
  unfold low Ideal.ofBits Ideal.ieee
  simp

/-- The number of the places of an image. -/
theorem ofBits_places : Ideal.ofBits .f32 0x47440000#32 = ((50176 : ℝ) : EReal) := by
  unfold Ideal.ofBits Ideal.ieee
  simp
  norm_num
  rw [← EReal.coe_mul]
  norm_num

/-- It is below every negated place. -/
theorem low_le (e : Fin 8) : low ≤ 0 - ((e.val : ℝ) : EReal) := by
  rw [low_eq, ← EReal.coe_zero, ← EReal.coe_sub, EReal.coe_le_coe_iff]
  have : (e.val : ℝ) ≤ 7 := by exact_mod_cast (by omega : e.val ≤ 7)
  linarith [show (7 : ℝ) ≤ 13234890 * 2 ^ 76 by norm_num]

/-- The largest of a column of eight numbers. -/
theorem largest (v : FVec Ideal S8x1 .f32) (h1 : S8x1.ShapeCasts S1x8x1) (h2 : S1x8x1.Reduces [1, 2] S1) (h3) (h4) (h5 : S1.ShapeCasts S1x1x1) (h6) :
    extractAt ![0, 0, 0] (shapeCast S1x1x1 (multiReduction (F := Ideal) .maximumf [1, 2] S1 (shapeCast S1x8x1 v h1) 0xFF800000#32 h2 h3 h4) h5) h6
      = Finset.univ.sup fun e : Fin 8 => v (ix2 e 0) := by
  have hb : (FloatOps.ofBits (F := Ideal) FTy.f32 0xFF800000#32 : EReal) = ⊥ := by
    show Ideal.ofBits .f32 0xFF800000#32 = ⊥
    simp [Ideal.ofBits, Ideal.ieee]
  have hm : ∀ j : S1.Idx, multiReduction (F := Ideal) .maximumf [1, 2] S1 (shapeCast S1x8x1 v h1) 0xFF800000#32 h2 h3 h4 j = Finset.univ.sup fun e : Fin 8 => v (ix2 e 0) := by
    intro j
    refine (multiReduction_maximumf_eq_fold (F := Ideal) _ _ _ _ _ _).trans ?_
    rw [hb]
    show Finset.sup _ _ = _
    refine le_antisymm (Finset.sup_le fun i _ => ?_) (Finset.sup_le fun e _ => ?_)
    · obtain ⟨a, e, b, rfl⟩ : ∃ (a : Fin 1) (e : Fin 8) (b : Fin 1), i = ix3 a e b := ⟨i 0, i 1, i 2, eq_ix3 i⟩
      refine le_trans (le_of_eq ?_) (Finset.le_sup (f := fun e : Fin 8 => v (ix2 e 0)) (Finset.mem_univ e))
      obtain rfl : a = 0 := Subsingleton.elim _ _
      obtain rfl : b = 0 := Subsingleton.elim _ _
      pointwise []
    · refine le_trans (le_of_eq ?_) (Finset.le_sup (f := shapeCast S1x8x1 v h1) (b := ix3 0 e 0) (Finset.mem_filter.2 ⟨Finset.mem_univ _, ?_⟩))
      · pointwise []
      · funext b
        obtain ⟨b, hb⟩ := b
        obtain rfl : b = 0 := Nat.lt_one_iff.1 hb
        exact Subsingleton.elim (α := Fin 1) _ _
  exact hm _

variable (wr : Vec Ideal S8x64 .f32) (acc : Vec Ideal S64x224 .f32) (bm : Vec Ideal S8x1 .f32)

/-- The numbers of the experts, as the kernel computes them, in eight places. -/
def numbers (e : Fin 8) : EReal := k0_pay8 (F := Ideal) wr acc bm (ix2 e 0)

/-- The places. -/
abbrev places : IVec S8x1 32 := iota .tc S8x1 32 [0] iota_S8x1_d0_w32

theorem places_at (e : Fin 8) : (sitofp (F := Ideal) .f32 places (ix2 e 0) : EReal) = ((e.val : ℝ) : EReal) := by
  have h : (places (ix2 e 0)).toInt = (e.val : ℤ) := by
    fin_cases e <;> rfl
  show (((places (ix2 e 0)).toInt : ℝ) : EReal) = _
  rw [h, Int.cast_natCast]

theorem pay9_eq {k : Fin 8} (h : First (numbers wr acc bm) k) : k0_pay9 (F := Ideal) wr acc bm = numbers wr acc bm k :=
  (largest _ _ _ _ _ _ _).trans h.sup

theorem pay10_eq {k : Fin 8} (h : First (numbers wr acc bm) k) (e : Fin 8) :
    k0_pay10 (F := Ideal) wr acc bm (ix2 e 0) = BitVec.ofBool (decide (numbers wr acc bm e = numbers wr acc bm k)) := by
  rw [← pay9_eq wr acc bm h]
  rfl

/-- The negated largest of the negated places of the largest number. -/
theorem index_eq (b : IVec S8x1 1) (f : Fin 8 → EReal) {k : Fin 8} (h : First f k) (hb : ∀ e, b (ix2 e 0) = BitVec.ofBool (decide (f e = f k))) :
    Ideal.ofBits .f32 0x00000000#32 - Finset.univ.sup (fun e : Fin 8 => select b (subf (broadcast S8x1 (Scalar.ofBits (F := Ideal) .f32 0x00000000#32)) (sitofp .f32 places)) (broadcast S8x1 (Scalar.ofBits .f32 0xF149F2CA#32)) (ix2 e 0))
      = ((k.val : ℝ) : EReal) := by
  refine Eq.trans ?_ (h.index low fun e => low_le e)
  rw [Ideal.ofBits_zero_f32]
  congr 2
  funext e
  show (if b (ix2 e 0) = 1#1 then (Ideal.ofBits .f32 0x00000000#32 - sitofp (F := Ideal) .f32 places (ix2 e 0) : EReal) else low) = _
  rw [hb, places_at, Ideal.ofBits_zero_f32]
  by_cases he : f e = f k
  · rw [if_pos he, decide_eq_true he]; rfl
  · rw [if_neg he, decide_eq_false he]; rfl

theorem pay11_eq (b : IVec S8x1 1) (f : Fin 8 → EReal) {k : Fin 8} (h : First f k) (hb : ∀ e, b (ix2 e 0) = BitVec.ofBool (decide (f e = f k))) :
    k0_pay11 (F := Ideal) places b = ((k.val : ℝ) : EReal) :=
  Eq.trans (congrArg (fun x : EReal => Ideal.ofBits .f32 0x00000000#32 - x) (largest _ _ _ _ _ _ _)) (index_eq b f h hb)

variable (v : FVec Ideal S8x1 .f32)

theorem pay12_eq (b : IVec S8x1 1) (f : Fin 8 → EReal) {k : Fin 8} (h : First f k) (hb : ∀ e, b (ix2 e 0) = BitVec.ofBool (decide (f e = f k))) (e : Fin 8) :
    k0_pay12 (F := Ideal) v places b (ix2 e 0) = if e = k then low else v (ix2 e 0) := by
  show (if BitVec.ofBool (decide (sitofp (F := Ideal) .f32 places (ix2 e 0) = k0_pay11 (F := Ideal) places b)) = 1#1 then low else v (ix2 e 0)) = _
  rw [places_at, pay11_eq b f h hb]
  by_cases he : e = k
  · subst he
    rw [if_pos rfl, decide_eq_true rfl]; rfl
  · have hne : ¬ ((e.val : ℝ) : EReal) = ((k.val : ℝ) : EReal) := fun h => he (Fin.ext (by exact_mod_cast EReal.coe_injective h))
    rw [if_neg he, decide_eq_false hne]; rfl

theorem pay13_eq (b : IVec S8x1 1) (f : Fin 8 → EReal) {k q : Fin 8} (h : First f k) (hb : ∀ e, b (ix2 e 0) = BitVec.ofBool (decide (f e = f k)))
    (h2 : First (fun e => if e = k then low else v (ix2 e 0)) q) :
    k0_pay13 (F := Ideal) v places b = if q = k then low else v (ix2 q 0) := by
  refine (largest _ _ _ _ _ _ _).trans (Eq.trans ?_ h2.sup)
  congr 1
  funext e
  exact pay12_eq v b f h hb e

theorem pay14_eq (b : IVec S8x1 1) (f : Fin 8 → EReal) {k q : Fin 8} (h : First f k) (hb : ∀ e, b (ix2 e 0) = BitVec.ofBool (decide (f e = f k)))
    (h2 : First (fun e => if e = k then low else v (ix2 e 0)) q) :
    k0_pay14 (F := Ideal) v places b = ((q.val : ℝ) : EReal) := by
  refine Eq.trans (congrArg (fun x : EReal => Ideal.ofBits .f32 0x00000000#32 - x) (largest _ _ _ _ _ _ _)) (index_eq _ _ h2 fun e => ?_)
  show BitVec.ofBool (decide (k0_pay12 (F := Ideal) v places b (ix2 e 0) = k0_pay13 (F := Ideal) v places b)) = _
  rw [pay12_eq v b f h hb, pay13_eq v b f h hb h2]

/-- The gate of the larger of two numbers, and that of the smaller. -/
def gate (a b x : EReal) : EReal := Ideal.div (Ideal.exp (x - a)) (Ideal.exp (a - a) + Ideal.exp (b - a))

theorem gate1 (p : IVec S8x1 32) (a : Ideal .f32) (b : IVec S8x1 1) : k0_pay17 (F := Ideal) v p a b = gate a (k0_pay13 (F := Ideal) v p b) a := by
  unfold k0_pay17 k0_pay16 k0_pay15 gate
  generalize k0_pay13 (F := Ideal) v p b = x
  rfl

theorem gate2 (p : IVec S8x1 32) (a : Ideal .f32) (b : IVec S8x1 1) : k0_pay18 (F := Ideal) v p a b = gate a (k0_pay13 (F := Ideal) v p b) (k0_pay13 (F := Ideal) v p b) := by
  unfold k0_pay18 k0_pay16 k0_pay15 gate
  generalize k0_pay13 (F := Ideal) v p b = x
  rfl

/-- The rows of what the kernel writes are its four numbers. -/
theorem written (a b c d : Ideal .f32) (j : Fin 128) :
    k0_pay1 (F := Ideal) places a b c d (k0_pay19 places) (k0_pay20 places) (k0_pay21 places) k0_pay22 (ix2 0 j) = a
    ∧ k0_pay1 (F := Ideal) places a b c d (k0_pay19 places) (k0_pay20 places) (k0_pay21 places) k0_pay22 (ix2 1 j) = b
    ∧ k0_pay1 (F := Ideal) places a b c d (k0_pay19 places) (k0_pay20 places) (k0_pay21 places) k0_pay22 (ix2 2 j) = c
    ∧ k0_pay1 (F := Ideal) places a b c d (k0_pay19 places) (k0_pay20 places) (k0_pay21 places) k0_pay22 (ix2 3 j) = d := by
  have h : ∀ r : Fin 8, k0_pay1 (F := Ideal) places a b c d (k0_pay19 places) (k0_pay20 places) (k0_pay21 places) k0_pay22 (ix2 r j)
      = if k0_pay19 places (ix2 r 0) = 1#1 then a else if k0_pay20 places (ix2 r 0) = 1#1 then b else if k0_pay21 places (ix2 r 0) = 1#1 then c
        else if cmpi .eq places k0_pay22 (ix2 r 0) = 1#1 then d else Ideal.ofBits .f32 0x00000000#32 := by
    intro r
    pointwise [k0_pay1]
    rfl
  refine ⟨?_, ?_, ?_, ?_⟩
  · rw [h]; exact if_pos (by decide +kernel)
  · rw [h]; exact (if_neg (by decide +kernel)).trans (if_pos (by decide +kernel))
  · rw [h]; exact (if_neg (by decide +kernel)).trans ((if_neg (by decide +kernel)).trans (if_pos (by decide +kernel)))
  · rw [h]; exact (if_neg (by decide +kernel)).trans ((if_neg (by decide +kernel)).trans ((if_neg (by decide +kernel)).trans (if_pos (by decide +kernel))))

/-- What the kernel writes. -/
def output : FVec Ideal S8x128 .f32 :=
  k0_pay1 (F := Ideal) places (k0_pay11 places (k0_pay10 wr acc bm)) (k0_pay14 (k0_pay8 wr acc bm) places (k0_pay10 wr acc bm))
    (k0_pay17 (k0_pay8 wr acc bm) places (k0_pay9 wr acc bm) (k0_pay10 wr acc bm)) (k0_pay18 (k0_pay8 wr acc bm) places (k0_pay9 wr acc bm) (k0_pay10 wr acc bm))
    (k0_pay19 places) (k0_pay20 places) (k0_pay21 places) k0_pay22

section
variable (l : Fin 3 → EReal) (hl : ∀ e : Fin 3, numbers wr acc bm (wide e) = l e) (h : ∀ e : Fin 8, 3 ≤ e.val → numbers wr acc bm e = low) (hc : low < l (second l)) (j : Fin 128)
include hl h hc

theorem second_eq : k0_pay13 (F := Ideal) (k0_pay8 wr acc bm) places (k0_pay10 wr acc bm) = l (second l) := by
  have f1 := first_best (numbers wr acc bm) l low hl h hc
  refine (pay13_eq (k0_pay8 wr acc bm) _ _ f1 (pay10_eq wr acc bm f1) (first_second (numbers wr acc bm) l low hl h hc)).trans ?_
  exact (if_neg fun e : wide (second l) = wide (best l) => (sorted l).1 (Fin.ext (Fin.mk.inj e)).symm).trans (hl _)

theorem best_eq : k0_pay9 (F := Ideal) wr acc bm = l (best l) :=
  (pay9_eq wr acc bm (first_best (numbers wr acc bm) l low hl h hc)).trans (hl _)

/-- The first row: the place of the largest number. -/
theorem output0 : output wr acc bm (ix2 0 j) = (((best l).val : ℝ) : EReal) := by
  have f1 := first_best (numbers wr acc bm) l low hl h hc
  unfold output
  rw [(written _ _ _ _ j).1, pay11_eq _ _ f1 (pay10_eq wr acc bm f1)]
  rfl

/-- The second: that of the largest of the others. -/
theorem output1 : output wr acc bm (ix2 1 j) = (((second l).val : ℝ) : EReal) := by
  have f1 := first_best (numbers wr acc bm) l low hl h hc
  unfold output
  rw [(written _ _ _ _ j).2.1, pay14_eq (k0_pay8 wr acc bm) _ _ f1 (pay10_eq wr acc bm f1) (first_second (numbers wr acc bm) l low hl h hc)]
  rfl

/-- The third: the gate of the first. -/
theorem output2 : output wr acc bm (ix2 2 j) = gate (l (best l)) (l (second l)) (l (best l)) := by
  unfold output
  rw [(written _ _ _ _ j).2.2.1, gate1, best_eq wr acc bm l hl h hc, second_eq wr acc bm l hl h hc]

/-- The fourth: the gate of the second. -/
theorem output3 : output wr acc bm (ix2 3 j) = gate (l (best l)) (l (second l)) (l (second l)) := by
  unfold output
  rw [(written _ _ _ _ j).2.2.2, gate2, best_eq wr acc bm l hl h hc, second_eq wr acc bm l hl h hc]

end

end Cert.RouteIdeal.Pick

end
-- ==== Proof.RouteKernel.lean ====
/- What the kernel between encoder and decoder leaves in memory as the router's choice. -/
module

public import proofs.«01_k».proof.Proof.RoutePick
public import proofs.«01_k».proof.Proof.RouteIdealFrame
public import proofs.«01_k».proof.Proof.Trips
public import Idealize.ShloMosaic.Lib.Claim

@[expose] public section

set_option maxRecDepth 16384

noncomputable section

open Idealize.ShloMosaic Idealize.ShloMosaic.TcCoe Idealize.SL.Sem

namespace Cert.RouteIdeal.Network

open Cert.RouteIdeal Cert.RouteIdeal.Gen Cert.Math Cert.Rows Cert.RouteIdeal.Run Cert.RouteIdeal.Pick Cert.Select

/-- The latent image: the mean plus the square root of the variance times the noise, at each point. -/
def sample (A S E : Img 64) : Img 64 := fun ch y x => A ch y x + Ideal.sqrt (S ch y x) * E ch y x

/-- The scratch buffer before the loop: zero. -/
theorem canon_zero (ch : Fin 64) (s : Fin 224) : View.canon (bodyRun.sl.HS0_1 (F := Ideal)) (ix2 ch s) = (0 : EReal) := by
  unfold bodyRun.sl.HS0_1
  refine (congrFun (View.canon_unit_zero (S := S64x224) (by decide) _ _) _).trans ?_
  pointwise [k0_pay4]

/-- The scratch buffer after some trips of the loop: the sum of as many rows of the latent image. -/
theorem accum (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (x0 x1 x2 : Vec Ideal S224x64x224 .f32) (A S E : Img 64)
    (h0 : ∀ (r : Fin 224) (ch : Fin 64) (s : Fin 224), x0 (ix3 r ch s) = at0 A ch r.val s.val)
    (h1 : ∀ (r : Fin 224) (ch : Fin 64) (s : Fin 224), x1 (ix3 r ch s) = at0 S ch r.val s.val)
    (h2 : ∀ (r : Fin 224) (ch : Fin 64) (s : Fin 224), x2 (ix3 r ch s) = at0 E ch r.val s.val) (G5 : BufTy.Contents (Elt Ideal) arg5.view.ty) (ch : Fin 64) (s : Fin 224) :
    ∀ k ≤ k0_t1_loop.trips, View.canon ((pb_k0_t1 (F := Ideal) Variants.none c none arg0 harg0 arg1 harg1 arg2 harg2 arg3 harg3 arg4 harg4 arg5 harg5 arg6 harg6 arg7 harg7 (harg0.unread x0) (harg1.unread x1) (harg2.unread x2) G5 (arg7.view.writes (Elt Ideal) arg7.view.junk bodyRun.sl.HS0_1) k).2 ++ bodyRun.sl.HS0_1) (ix2 ch s)
      = ∑ y ∈ Finset.range k, at0 (sample A S E) ch y s.val := by
  intro k
  induction k with
  | zero => intro _; rw [Finset.sum_range_zero]; exact canon_zero ch s
  | succ k ih =>
    intro hk
    have ih := ih (by omega)
    have hk' : k < 224 := Nat.lt_of_lt_of_le hk k0_t1_abs.2.1
    rw [congrArg Prod.snd (pb_k0_t1_succ Variants.none c none arg0 harg0 arg1 harg1 arg2 harg2 arg3 harg3 arg4 harg4 arg5 harg5 arg6 harg6 arg7 harg7 (harg0.unread x0) (harg1.unread x1) (harg2.unread x2) G5 (arg7.view.writes (Elt Ideal) arg7.view.junk bodyRun.sl.HS0_1) ⟨k, hk⟩)]
    rw [Finset.sum_range_succ]
    unfold tripL_k0_t1 trip_k0_t1
    dsimp only
    rw [List.cons_append, List.nil_append]
    refine (congrFun (View.canon_cons_unit_zero (S := S64x224) (by decide) _ _ _) _).trans ?_
    rw [← View.writes_append, View.readAt_writes_junk_eq_canon]
    pointwise [k0_pay7, k0_pay5]
    simp only [readAt_unread]
    refine congrArg₂ (· + ·) ih ?_
    have e := at0_fin (sample A S E) ch ⟨k, hk'⟩ s
    refine Eq.trans ?_ e.symm
    refine congrArg₂ (· + ·) ?_ (congrArg₂ (· * ·) (congrArg Ideal.sqrt ?_) ?_)
    · exact ((ld_tap x0 ⟨k, hk'⟩ (k0_off1_eq ⟨k, hk⟩) _ ch s).trans (h0 _ ch s)).trans (at0_fin A ch ⟨k, hk'⟩ s)
    · exact ((ld_tap x1 ⟨k, hk'⟩ (k0_off1_eq ⟨k, hk⟩) _ ch s).trans (h1 _ ch s)).trans (at0_fin S ch ⟨k, hk'⟩ s)
    · exact ((ld_tap x2 ⟨k, hk'⟩ (k0_off1_eq ⟨k, hk⟩) _ ch s).trans (h2 _ ch s)).trans (at0_fin E ch ⟨k, hk'⟩ s)

/-- The sums of the columns of the latent image. -/
def columns (Z : Img 64) : Vec Ideal S64x224 .f32 := fun i => ∑ y : Fin 224, Z (i 0) y (i 1)

/-- The whole scratch buffer, as the part of it that is read. -/
abbrev whole : Rect S64x224 := Rect.unit (s := S64x224) ![0, 0] S64x224.size inb_S64x224_S64x224_0_0

theorem whole_mem (y : S64x224.Idx) : y ∈ whole.set := (LoadRect.mem_set _).mpr fun a =>
  match a with
  | 0 => ⟨(y 0).val, (y 0).isLt, by show (y 0).val = 0 + 1 * (y 0).val; omega⟩
  | 1 => ⟨(y 1).val, (y 1).isLt, by show (y 1).val = 0 + 1 * (y 1).val; omega⟩

theorem whole_idx (y : S64x224.Idx) : whole.toLoadRect.idx y = y := by
  funext a
  match a with
  | 0 => exact Fin.ext (by show 0 + 1 * (y 0).val = (y 0).val; omega)
  | 1 => exact Fin.ext (by show 0 + 1 * (y 1).val = (y 1).val; omega)

theorem covered (L : List (View.Piece (Elt Ideal) S64x224 .f32)) (y : S64x224.Idx) : ∃ p ∈ L ++ bodyRun.sl.HS0_1 (F := Ideal), y ∈ p.1.set :=
  ⟨⟨Rect.unit ![0, 0] S64x224.size inb_S64x224_S64x224_0_0, k0_pay4 (F := Ideal)⟩, List.mem_append_right _ (by unfold bodyRun.sl.HS0_1; exact List.mem_singleton.2 rfl), whole_mem y⟩

theorem trips_eq : k0_t1_loop.trips = 224 := by decide +kernel

/-- The scratch buffer after the loop: the sums of the columns of the latent image. -/
theorem scratch (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (x0 x1 x2 : Vec Ideal S224x64x224 .f32) (A S E : Img 64)
    (h0 : ∀ (r : Fin 224) (ch : Fin 64) (s : Fin 224), x0 (ix3 r ch s) = at0 A ch r.val s.val)
    (h1 : ∀ (r : Fin 224) (ch : Fin 64) (s : Fin 224), x1 (ix3 r ch s) = at0 S ch r.val s.val)
    (h2 : ∀ (r : Fin 224) (ch : Fin 64) (s : Fin 224), x2 (ix3 r ch s) = at0 E ch r.val s.val) : bodyRun.sl.v15 (F := Ideal) c arg0 harg0 arg1 harg1 arg2 harg2 arg3 harg3 arg4 harg4 arg5 harg5 arg6 harg6 arg7 harg7 x0 x1 x2 = columns (sample A S E) := by
  unfold bodyRun.sl.v15
  rw [View.readCov_eq_canon _ _ _ fun j => covered _ _]
  funext i
  rw [whole_idx]
  obtain ⟨ch, s, rfl⟩ : ∃ (ch : Fin 64) (s : Fin 224), i = ix2 ch s := ⟨i 0, i 1, eq_ix2 i⟩
  rw [accum c arg0 harg0 arg1 harg1 arg2 harg2 arg3 harg3 arg4 harg4 arg5 harg5 arg6 harg6 arg7 harg7 x0 x1 x2 A S E h0 h1 h2 arg5.view.junk ch s _ (le_of_eq rfl), trips_eq, Finset.sum_range]
  exact Finset.sum_congr rfl fun y _ => at0_fin (sample A S E) ch y s

/-- What the body leaves in its second output. -/
theorem region (c : Dev nD) (arg0 : Memref sig .tc .vmem S224x64x224 .f32) (harg0 : arg0.IsWhole) (arg1 : Memref sig .tc .vmem S224x64x224 .f32) (harg1 : arg1.IsWhole) (arg2 : Memref sig .tc .vmem S224x64x224 .f32) (harg2 : arg2.IsWhole) (arg3 : Memref sig .tc .vmem S8x64 .f32) (harg3 : arg3.IsWhole) (arg4 : Memref sig .tc .vmem S8x1 .f32) (harg4 : arg4.IsWhole) (arg5 : Memref sig .tc .vmem S226x64x226 .f32) (harg5 : arg5.IsWhole) (arg6 : Memref sig .tc .vmem S8x128 .f32) (harg6 : arg6.IsWhole) (arg7 : Memref sig .tc .vmem S64x224 .f32) (harg7 : arg7.IsWhole) (x0 x1 x2 : Vec Ideal S224x64x224 .f32) (x3 : Vec Ideal S8x64 .f32) (x4 : Vec Ideal S8x1 .f32) (A S E : Img 64)
    (h0 : ∀ (r : Fin 224) (ch : Fin 64) (s : Fin 224), x0 (ix3 r ch s) = at0 A ch r.val s.val)
    (h1 : ∀ (r : Fin 224) (ch : Fin 64) (s : Fin 224), x1 (ix3 r ch s) = at0 S ch r.val s.val)
    (h2 : ∀ (r : Fin 224) (ch : Fin 64) (s : Fin 224), x2 (ix3 r ch s) = at0 E ch r.val s.val) :
    out0_A_6 (F := Ideal) c arg0 harg0 arg1 harg1 arg2 harg2 arg3 harg3 arg4 harg4 arg5 harg5 arg6 harg6 arg7 harg7 x0 x1 x2 x3 x4 = output x3 (columns (sample A S E)) x4 := by
  unfold out0_A_6
  rw [View.read_writes_junk_eq_canon]
  unfold bodyRun
  dsimp only
  refine (View.canon_unit_zero (S := S8x128) (by decide) _ _).trans ?_
  unfold bodyRun.sl.r_3 bodyRun.sl.r_4 bodyRun.sl.r_5 bodyRun.sl.r_6 bodyRun.sl.r_2 bodyRun.sl.r_1 bodyRun.sl.r bodyRun.sl.v24
  rw [scratch c arg0 harg0 arg1 harg1 arg2 harg2 arg3 harg3 arg4 harg4 arg5 harg5 arg6 harg6 arg7 harg7 x0 x1 x2 A S E h0 h1 h2]
  simp only [readAt_unread]
  rw [View.ld_unit_zero (S := S8x64) (by decide), View.ld_unit_zero (S := S8x1) (by decide)]
  rfl

/-! ## The arguments, as images -/

/-- The means. -/
def mean (m : (ℓ : Loc nD τ sig) → Buf (Elt Ideal) ℓ) (c : Dev nD) : Img 64 := fun ch y x => m ((c : Thread nD τ).loc main_arg0) (ix4 0 ch y x)
/-- The variances. -/
def variance (m : (ℓ : Loc nD τ sig) → Buf (Elt Ideal) ℓ) (c : Dev nD) : Img 64 := fun ch y x => m ((c : Thread nD τ).loc main_arg1) (ix4 0 ch y x)
/-- The noise. -/
def noise (m : (ℓ : Loc nD τ sig) → Buf (Elt Ideal) ℓ) (c : Dev nD) : Img 64 := fun ch y x => m ((c : Thread nD τ).loc main_arg2) (ix4 0 ch y x)

/-! ## The host operations around the kernel, and the kernel between them -/

/-- The kernel's first input: the means, row by row. -/
theorem in_mean (m : (ℓ : Loc nD τ sig) → Buf (Elt Ideal) ℓ) (c : Dev nD) (r : Fin 224) (ch : Fin 64) (s : Fin 224) : V m c main_v4 (ix3 r ch s) = at0 (mean m c) ch r.val s.val := by
  unfold V V0
  simp only [hostOps0, hostOps0_1, hostOps0_2, hostOps0_3, hostOps0_4, List.flatten_cons, List.flatten_nil, List.append_nil, List.cons_append, List.nil_append]
  after_results
  rw [at0_fin]
  pointwise []
  rfl

/-- Its second: the variances. -/
theorem in_variance (m : (ℓ : Loc nD τ sig) → Buf (Elt Ideal) ℓ) (c : Dev nD) (r : Fin 224) (ch : Fin 64) (s : Fin 224) : V m c main_v6 (ix3 r ch s) = at0 (variance m c) ch r.val s.val := by
  unfold V V0
  simp only [hostOps0, hostOps0_1, hostOps0_2, hostOps0_3, hostOps0_4, List.flatten_cons, List.flatten_nil, List.append_nil, List.cons_append, List.nil_append]
  after_results
  rw [at0_fin]
  pointwise []
  rfl

/-- Its third: the noise. -/
theorem in_noise (m : (ℓ : Loc nD τ sig) → Buf (Elt Ideal) ℓ) (c : Dev nD) (r : Fin 224) (ch : Fin 64) (s : Fin 224) : V m c main_v8 (ix3 r ch s) = at0 (noise m c) ch r.val s.val := by
  unfold V V0
  simp only [hostOps0, hostOps0_1, hostOps0_2, hostOps0_3, hostOps0_4, List.flatten_cons, List.flatten_nil, List.append_nil, List.cons_append, List.nil_append]
  after_results
  rw [at0_fin]
  pointwise []
  rfl

/-- The weight of a channel for an expert. -/
def weight (m : (ℓ : Loc nD τ sig) → Buf (Elt Ideal) ℓ) (c : Dev nD) : Fin 3 → Fin 64 → EReal := fun e ch => m ((c : Thread nD τ).loc main_arg3) (ix2 e ch)
/-- The bias of an expert. -/
def bias (m : (ℓ : Loc nD τ sig) → Buf (Elt Ideal) ℓ) (c : Dev nD) : Fin 3 → EReal := fun e => m ((c : Thread nD τ).loc main_arg4) (ix1 e)

/-- Its fourth input: the weights, and zero for the places without an expert. -/
theorem in_weight (m : (ℓ : Loc nD τ sig) → Buf (Elt Ideal) ℓ) (c : Dev nD) (e : Fin 8) (ch : Fin 64) : V m c main_v0 (ix2 e ch) = if h : e.val < 3 then weight m c ⟨e.val, h⟩ ch else 0 := by
  unfold V V0
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise [sitofp_zero]
  rfl

/-- Its fifth: the biases, and the low number for the places without an expert. -/
theorem in_bias (m : (ℓ : Loc nD τ sig) → Buf (Elt Ideal) ℓ) (c : Dev nD) (e : Fin 8) : V m c main_v2 (ix2 e 0) = if h : e.val < 3 then bias m c ⟨e.val, h⟩ else low := by
  unfold V V0
  simp only [hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise [sitofp_zero]
  rfl

/-- The weights and the biases, as the kernel gets them. -/
def weights (m : (ℓ : Loc nD τ sig) → Buf (Elt Ideal) ℓ) (c : Dev nD) : Vec Ideal S8x64 .f32 := V m c main_v0
def biases (m : (ℓ : Loc nD τ sig) → Buf (Elt Ideal) ℓ) (c : Dev nD) : Vec Ideal S8x1 .f32 := V m c main_v2

/-- The latent image. -/
def latent (m : (ℓ : Loc nD τ sig) → Buf (Elt Ideal) ℓ) (c : Dev nD) : Img 64 := sample (mean m c) (variance m c) (noise m c)

/-- The kernel's blocks start at the beginning of their arrays. -/
theorem idx0 : (∀ a, win0_0.index t0_0 a = 0) ∧ (∀ a, win0_1.index t0_0 a = 0) ∧ (∀ a, win0_2.index t0_0 a = 0) ∧ (∀ a, win0_3.index t0_0 a = 0) ∧ (∀ a, win0_4.index t0_0 a = 0) := by
  decide +kernel

/-- The kernel's second output array. -/
theorem final (m : (ℓ : Loc nD τ sig) → Buf (Elt Ideal) ℓ) (c : Dev nD) :
    (dats m 0 c).arrAt 6 cfg0.N = output (weights m c) (columns (latent m c)) (biases m c) := by
  refine (dats m 0 c).arrAt_eq_of_after_last 6 t0_0 (by decide +kernel)
    (output (weights m c) (columns (latent m c)) (biases m c)) fun j => ?_
  blk_simp
  rw [after0_6]
  unfold outsAt0
  obtain ⟨r, o, rfl⟩ : ∃ (r : Fin 8) (o : Fin 128), j = ix2 r o := ⟨j 0, j 1, eq_ix2 j⟩
  have hw : iblk m c 3 t0_0 = weights m c := by
    funext i
    obtain ⟨e, ch, rfl⟩ : ∃ (e : Fin 8) (ch : Fin 64), i = ix2 e ch := ⟨i 0, i 1, eq_ix2 i⟩
    blk_ext! [iblk, idx0]
  have hb : iblk m c 4 t0_0 = biases m c := by
    funext i
    obtain ⟨e, z, rfl⟩ : ∃ (e : Fin 8) (z : Fin 1), i = ix2 e z := ⟨i 0, i 1, eq_ix2 i⟩
    blk_ext! [iblk, idx0]
  dsimp only
  rw [hw, hb]
  refine (congrFun (region c _ _ _ _ _ _ _ _ _ _ _ _ _ _ _ _ _ _ _ (weights m c) (biases m c) (mean m c) (variance m c) (noise m c)
    (fun r ch s => Eq.trans ?_ (in_mean m c r ch s)) (fun r ch s => Eq.trans ?_ (in_variance m c r ch s)) (fun r ch s => Eq.trans ?_ (in_noise m c r ch s))) (ix2 r o)).trans ?_
  · blk_ext! [iblk, idx0]
  · blk_ext! [iblk, idx0]
  · blk_ext! [iblk, idx0]
  · rfl

/-- The results: rows of the second output. -/
theorem result (m : (ℓ : Loc nD τ sig) → Buf (Elt Ideal) ℓ) (c : Dev nD) (k : Fin 2) :
    Pipeline.afterTail₀ cfgs (dats m) 0 (V0 m) [hostOps1] c main_v12 (ix1 k) = Ideal.fptosi 32 (output (weights m c) (columns (latent m c)) (biases m c) (ix2 ⟨k.val, by omega⟩ 0))
    ∧ Pipeline.afterTail₀ cfgs (dats m) 0 (V0 m) [hostOps1] c main_v14 (ix1 k) = output (weights m c) (columns (latent m c)) (biases m c) (ix2 ⟨2 + k.val, by omega⟩ 0) := by
  have h : Pipeline.withArrays (cfgs 0).spec c (V0 m c) (fun w => (dats m 0 c).arrAt w (cfgs 0).N) (Proc.devRef .tc main_v9_1) = output (weights m c) (columns (latent m c)) (biases m c) :=
    (Pipeline.withArrays_arr (cfgs 0).spec (by decide +kernel) c _ _ 6).trans (final m c)
  unfold Pipeline.afterTail₀
  simp only [hostOps1, List.flatten_cons, List.flatten_nil, List.append_nil]
  constructor
  · after_results
    rw [h]
    pointwise []
    rfl
  · after_results
    rw [h]
    pointwise []

/-- Every execution of the program ends with the results at what the host operations leave there after the kernel, and with the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_v14) = Pipeline.afterTail₀ cfgs (dats m) 0 (V0 m) [hostOps1] c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have a : θ_run defs (onTc (τ := τ) (main (F := Ideal))) ⟨m, fun _ => 0, ρ⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_v14) = Pipeline.afterTail₀ cfgs (dats m) 0 (V0 m) [hostOps1] c main_v14) :=
    (θ_run defs _ _).mono (fun _ h c => ⟨(h c).2 main_v12 (Pipeline.mem_restRefs_of main_v12 (by decide) (by decide)), (h c).2 main_v14 (Pipeline.mem_restRefs_of main_v14 (by decide) (by decide))⟩) (run_main m ρ)
  exact (θ_run defs _ _).mono (fun _ h c => ⟨(h.1 c).1, (h.1 c).2, h.2 c⟩) (θ_run_and a (unchanged m ρ))

end Cert.RouteIdeal.Network

end
-- ==== Proof.RouteReference.lean ====
/- The router's choice, as the reference computes it. -/
module

public import proofs.«01_k».proof.Proof.RouteKernel
public import proofs.«01_k».proof.Proof.Gen.RouteRefIdeal
public import proofs.«01_k».proof.Proof.Gen.RouteRefIdeal.Run

@[expose] public section

set_option maxRecDepth 16384

noncomputable section

open Idealize.ShloMosaic Idealize.ShloMosaic.TcCoe Idealize.SL.Sem

namespace Cert.RouteRefIdeal.Reference

open Cert.RouteRefIdeal Cert.RouteRefIdeal.Gen Cert.Select Cert.Math

/-- An index along an array's one axis. -/
theorem along (a k : Fin 3) : (ix1 a : S3.Idx).along 0 k = ix1 k := by
  funext b
  obtain rfl : b = 0 := Subsingleton.elim _ _
  rfl

/-- The place of the first or of the second of the two largest numbers. -/
def place (l : Fin 3 → EReal) (k : Fin 2) : Fin 3 := sortedFrom (before l) ⟨k.val, by omega⟩

theorem order (x : FVec Ideal S3 .f32) : (fun k k' : Fin 3 => FloatOps.cmpfTotal (F := Ideal) .gt (x (ix1 k)) (x (ix1 k')) == 1#1) = before fun e => x (ix1 e) := by
  funext k k'
  show (BitVec.ofBool (decide ((x (ix1 k') : EReal) < x (ix1 k))) == 1#1) = decide ((x (ix1 k') : EReal) < x (ix1 k))
  cases decide ((x (ix1 k') : EReal) < x (ix1 k)) <;> rfl

/-- The two largest numbers. -/
theorem top_value (x : FVec Ideal S3 .f32) (h) (k : Fin 2) : (Host.topK S2 0 (FloatOps.cmpfTotal (F := Ideal) .gt) x h).1 (ix1 k) = x (ix1 (place (fun e => x (ix1 e)) k)) := by
  unfold Host.topK Host.sort2
  pointwise []
  simp only [along, order]
  rfl

/-- Their places. -/
theorem top_place (x : FVec Ideal S3 .f32) (h) (k : Fin 2) : (Host.topK S2 0 (FloatOps.cmpfTotal (F := Ideal) .gt) x h).2 (ix1 k) = BitVec.ofNat 32 (place (fun e => x (ix1 e)) k).val := by
  unfold Host.topK Host.sort2
  pointwise []
  simp only [along, order]
  rfl

/-- The gates of two numbers, of which the first is not the smaller. -/
theorem gates (v : FVec Ideal S2 .f32) (hv : (v (ix1 1) : EReal) ≤ v (ix1 0)) (k : Fin 2) :
    Host.divf (Host.exp (subf v (broadcastInDim S2 ![0] bcast_S1_S2_0 (broadcastInDim S1 ![] bcast_S_S1 (maximumf (constant S_ .f32 0xFF800000#32) (Host.reduce FloatOps.maximumf v (constant S_ .f32 0xFF800000#32) reducesTo_S2_S_d0 h_S_))))))
      (broadcastInDim S2 ![0] bcast_S1_S2_0 (broadcastInDim S1 ![] bcast_S_S1 (Host.reduceAdd (Host.exp (subf v (broadcastInDim S2 ![0] bcast_S1_S2_0 (broadcastInDim S1 ![] bcast_S_S1 (maximumf (constant S_ .f32 0xFF800000#32) (Host.reduce FloatOps.maximumf v (constant S_ .f32 0xFF800000#32) reducesTo_S2_S_d0 h_S_)))))) (constant S_ .f32 0x00000000#32) reducesTo_S2_S_d0 h_S_))) (ix1 k)
      = Cert.RouteIdeal.Pick.gate (v (ix1 0)) (v (ix1 1)) (v (ix1 k)) := by
  have hb : Ideal.ofBits .f32 0xFF800000#32 = ⊥ := by simp [Ideal.ofBits, Ideal.ieee]
  have hm : Finset.fold max (⊥ : EReal) (fun k : Fin 2 => (v (ix1 k) : EReal)) Finset.univ = v (ix1 0) := by
    refine le_antisymm ((Finset.sup_le fun k _ => ?_ : Finset.univ.sup (fun k : Fin 2 => (v (ix1 k) : EReal)) ≤ v (ix1 0))) (Finset.le_sup (f := fun k : Fin 2 => (v (ix1 k) : EReal)) (Finset.mem_univ 0))
    fin_cases k
    · exact le_rfl
    · exact hv
  pointwise []
  rw [hb, hm, max_eq_right bot_le, Fin.sum_univ_two]
  rfl

/-- The numbers of the experts, as the reference computes them. -/
def numbers (w : Fin 3 → Fin 64 → EReal) (b : Fin 3 → EReal) (Z : Img 64) (e : Fin 3) : EReal :=
  (∑ ch : Fin 64, Ideal.div (∑ y : Fin 224, ∑ x : Fin 224, Z ch y x) (Ideal.ofBits .f32 0x47440000#32) * w e ch) + b e

theorem logits (a0 a1 a2 : FVec Ideal S1x64x224x224 .f32) (a3 : FVec Ideal S3x64 .f32) (a4 : FVec Ideal S3 .f32) (e : Fin 3) :
    (addf (Host.dotGeneral dot_S64_S64x3_S3_0_0_n_1_n_n none (shapeCast S64 (Host.divf (Host.reduceAdd (addf a0 (mulf (mulf (broadcastInDim S1x64x224x224 ![] bcast_S_S1x64x224x224 (constant S_ .f32 0x3F800000#32)) (Host.sqrt a1)) a2)) (constant S_ .f32 0x00000000#32) reducesTo_S1x64x224x224_S1x64_d2_3 h_S_) (broadcastInDim S1x64 ![] bcast_S_S1x64 (constant S_ .f32 0x47440000#32))) shapeCasts_S1x64_S64) (transpose S64x3 [1, 0] a3 transposes_S3x64_S64x3_1_0)) a4 : FVec Ideal S3 .f32) (ix1 e)
      = numbers (fun e ch => a3 (ix2 e ch)) (fun e => a4 (ix1 e)) (fun ch y x => a0 (ix4 0 ch y x) + Ideal.sqrt (a1 (ix4 0 ch y x)) * a2 (ix4 0 ch y x)) e := by
  pointwise []
  rfl

end Cert.RouteRefIdeal.Reference

end
-- ==== Proof.RouteClaim.lean ====
/- The claims about the router's choice. -/
module

public import proofs.«01_k».proof.Defs
public import proofs.«01_k».proof.Proof.RouteKernel
public import proofs.«01_k».proof.Proof.RouteReference
public import proofs.«01_k».proof.Proof.RouteFrame
public import proofs.«01_k».proof.Proof.Gen.Route
public import proofs.«01_k».proof.Proof.Gen.RouteIdeal
public import proofs.«01_k».proof.Proof.Gen.RouteRefIdeal
public import proofs.«01_k».proof.Proof.Gen.RouteRefIdeal.Run
public import proofs.«01_k».proof.Proof.Gen.Pre_finite_scores
public import Idealize.ShloMosaic.Lib.Quiescent

@[expose] public section

set_option maxRecDepth 16384

noncomputable section

namespace Cert.RouteClaim

open Idealize.ShloMosaic Idealize.ShloMosaic.TcCoe Idealize.SL.Sem Cert.Math Cert.Select
open Cert.RouteIdeal.Network (columns mean variance noise latent weight bias weights biases)
open Cert.RouteIdeal.Pick (low)

/-! ## The numbers of the experts, as the kernel computes them -/

/-- A sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weighting the sums of the columns and then taking the mean is taking the means and then weighting them, when all numbers are finite. -/
theorem weighted_mean (w : Fin 64 → EReal) (Z : Img 64) (hw : ∀ ch, ∃ r : ℝ, w ch = r) (hZ : ∀ ch y x, ∃ r : ℝ, Z ch y x = r) :
    Ideal.div (∑ x : Fin 224, ∑ ch : Fin 64, w ch * ∑ y : Fin 224, Z ch y x) (Ideal.ofBits .f32 0x47440000#32)
      = ∑ ch : Fin 64, Ideal.div (∑ y : Fin 224, ∑ x : Fin 224, Z ch y x) (Ideal.ofBits .f32 0x47440000#32) * w ch := by
  choose w' hw' using hw
  choose Z' hZ' using hZ
  have hn : ((50176 : ℝ) : EReal) ≠ 0 := by exact_mod_cast (by norm_num : (50176 : ℝ) ≠ 0)
  have hd : ∀ r : ℝ, Ideal.div (r : EReal) (Ideal.ofBits .f32 0x47440000#32) = ((r * (50176 : ℝ)⁻¹ : ℝ) : EReal) := by
    intro r
    rw [Cert.RouteIdeal.Pick.ofBits_places, EReal.coe_mul, EReal.coe_inv]
    exact if_neg hn
  simp only [hw', hZ', ← coe_sum, ← EReal.coe_mul, hd]
  congr 1
  rw [Finset.sum_comm, Finset.sum_mul]
  refine Finset.sum_congr rfl fun ch _ => ?_
  rw [Finset.sum_comm (s := (Finset.univ : Finset (Fin 224))) (t := (Finset.univ : Finset (Fin 224)))]
  rw [← Finset.mul_sum]
  ring

open Cert.RouteIdeal Cert.RouteIdeal.Gen in
/-- The number of an expert, from the sums of the columns of the latent image. -/
theorem number (wr : Vec Ideal S8x64 .f32) (acc : Vec Ideal S64x224 .f32) (bm : Vec Ideal S8x1 .f32) (e : Fin 8) :
    Cert.RouteIdeal.Pick.numbers wr acc bm e
      = Ideal.div (∑ x : Fin 224, ∑ ch : Fin 64, wr (ix2 e ch) * acc (ix2 ch x)) (Ideal.ofBits .f32 0x47440000#32) + bm (ix2 e 0) := by
  unfold Cert.RouteIdeal.Pick.numbers
  pointwise [k0_pay8]

section
variable (m : (ℓ : Loc Cert.RouteIdeal.nD Cert.RouteIdeal.τ Cert.RouteIdeal.sig) → Buf (Elt Ideal) ℓ) (c : Dev Cert.RouteIdeal.nD)

/-- The number of an expert is what the reference computes. -/
theorem number_expert (hw : ∀ e ch, ∃ r : ℝ, weight m c e ch = r) (hZ : ∀ ch y x, ∃ r : ℝ, latent m c ch y x = r) (e : Fin 3) :
    Cert.RouteIdeal.Pick.numbers (weights m c) (columns (latent m c)) (biases m c) (wide e)
      = Cert.RouteRefIdeal.Reference.numbers (weight m c) (bias m c) (latent m c) e := by
  rw [number]
  unfold Cert.RouteRefIdeal.Reference.numbers
  rw [← weighted_mean (weight m c e) (latent m c) (hw e) hZ]
  have h : (wide e).val < 3 := e.isLt
  refine congrArg₂ (· + ·) (congrArg (Ideal.div · _) (Finset.sum_congr rfl fun x _ => Finset.sum_congr rfl fun ch _ => ?_)) ?_
  · exact congrArg₂ (· * ·) ((Cert.RouteIdeal.Network.in_weight m c (wide e) ch).trans (dif_pos h)) rfl
  · exact (Cert.RouteIdeal.Network.in_bias m c (wide e)).trans (dif_pos h)

/-- The number of a place without an expert. -/
theorem number_spare (e : Fin 8) (he : 3 ≤ e.val) :
    Cert.RouteIdeal.Pick.numbers (weights m c) (columns (latent m c)) (biases m c) e = low := by
  rw [number]
  have h : ¬ e.val < 3 := by omega
  have h0 : (∑ x : Fin 224, ∑ ch : Fin 64, (weights m c (ix2 e ch) : EReal) * columns (latent m c) (ix2 ch x)) = 0 := by
    refine Finset.sum_eq_zero fun x _ => Finset.sum_eq_zero fun ch _ => ?_
    have hw : (weights m c (ix2 e ch) : EReal) = 0 := (Cert.RouteIdeal.Network.in_weight m c e ch).trans (dif_neg h)
    rw [hw, zero_mul]
  have hb : (biases m c (ix2 e 0) : EReal) = low := (Cert.RouteIdeal.Network.in_bias m c e).trans (dif_neg h)
  have hd : Ideal.div (0 : EReal) (Ideal.ofBits .f32 0x47440000#32) = 0 := by
    rw [Cert.RouteIdeal.Pick.ofBits_places]
    exact (if_neg (by exact_mod_cast (by norm_num : (50176 : ℝ) ≠ 0))).trans (zero_mul _)
  rw [h0, hd, hb, zero_add]

end

/-! ## The precondition -/

/-- A number is finite when its absolute value is below infinity. -/
theorem finite (a : EReal) (h : max a (-a) < Ideal.ofBits .f32 0x7F800000#32) : ∃ r : ℝ, a = r := by
  have ht : Ideal.ofBits .f32 0x7F800000#32 = ⊤ := by simp [Ideal.ofBits, Ideal.ieee]
  rw [ht] at h
  induction a with
  | bot => exact absurd (lt_of_le_of_lt (le_max_right _ _) h) (by simp)
  | top => exact absurd (lt_of_le_of_lt (le_max_left _ _) h) (by simp)
  | coe r => exact ⟨r, rfl⟩

theorem both (a b : BitVec 1) : IntOp.andi a b = 1#1 → a = 1#1 ∧ b = 1#1 := by
  revert a b
  decide

theorem of_ofBool (p : Prop) [Decidable p] (h : BitVec.ofBool (decide p) = 1#1) : p := by
  by_contra hp
  rw [decide_eq_false hp] at h
  exact absurd h (by decide)

/-- The numbers of the experts, from the arguments. -/
def experts (a0 a1 a2 : FVec Ideal Cert.RouteRefIdeal.S1x64x224x224 .f32) (a3 : FVec Ideal Cert.RouteRefIdeal.S3x64 .f32) (a4 : FVec Ideal Cert.RouteRefIdeal.S3 .f32) : Fin 3 → EReal :=
  Cert.RouteRefIdeal.Reference.numbers (fun e ch => a3 (ix2 e ch)) (fun e => a4 (ix1 e)) (fun ch y x => a0 (ix4 0 ch y x) + Ideal.sqrt (a1 (ix4 0 ch y x)) * a2 (ix4 0 ch y x))

open Cert.RouteRefIdeal Cert.RouteRefIdeal.Reference in
/-- The second largest of numbers `l`. -/
theorem second_value (v : FVec Ideal S3 .f32) (l : Fin 3 → EReal) (hv : ∀ e, v (ix1 e) = l e) (h) :
    (Host.topK S2 0 (FloatOps.cmpfTotal (F := Ideal) .gt) v h).1 (ix1 1) = l (second l) := by
  obtain rfl : (fun e => v (ix1 e)) = l := funext hv
  exact top_value v h 1

open Cert.Pre_finite_scores Cert.Pre_finite_scores.Gen in
/-- What the precondition says. -/
theorem of_pre (a0 a1 a2 : FVec Ideal S1x64x224x224 .f32) (a3 : FVec Ideal S3x64 .f32) (a4 : FVec Ideal S3 .f32)
    (h : Cert.Pre_finite_scores.fn (F := Ideal) a0 a1 a2 a3 a4 = fun _ => 1#1) (e : Fin 3) (ch : Fin 64) (y x : Fin 224) :
    (∃ r : ℝ, a0 (ix4 0 ch y x) + Ideal.sqrt (a1 (ix4 0 ch y x)) * a2 (ix4 0 ch y x) = (r : EReal))
    ∧ low < experts a0 a1 a2 a3 a4 (second (experts a0 a1 a2 a3 a4))
    ∧ ∃ r : ℝ, (a3 (ix2 e ch) : EReal) = r := by
  have h' := congrFun h (ix5 1 e ch y x)
  revert h'
  pointwise [Cert.Pre_finite_scores.fn, Cert.Pre_finite_scores.fn_part1]
  intro h'
  obtain ⟨h1, h2⟩ := both _ _ h'
  obtain ⟨h2, h3⟩ := both _ _ h2
  exact ⟨finite _ (of_ofBool _ h1), lt_of_lt_of_eq (of_ofBool _ h2) (second_value _ (experts a0 a1 a2 a3 a4) (Cert.RouteRefIdeal.Reference.logits a0 a1 a2 a3 a4) _), finite _ (of_ofBool _ h3)⟩

/-! ## The claims -/

/-- The reference ends with its arguments unchanged and every semaphore at zero. -/
theorem frame_reference : Cert.quiescent_RouteRefIdeal (hRouteRefIdeal := Cert.RouteRefIdeal.Gen.facts) := fun m g _ =>
  (θ_run _ _ _).mono (fun r h => ⟨fun c => (h c).2.2, sem_eq_zero_of_no_sems rfl r.2⟩) (Cert.RouteRefIdeal.Value.run m g)

section
variable (m : (ℓ : Loc Cert.RouteIdeal.nD Cert.RouteIdeal.τ Cert.RouteIdeal.sig) → Buf (Elt Ideal) ℓ) (c : Dev Cert.RouteIdeal.nD)

/-- The numbers of the experts. -/
def scores : Fin 3 → EReal := Cert.RouteRefIdeal.Reference.numbers (weight m c) (bias m c) (latent m c)

variable (hw : ∀ e ch, ∃ r : ℝ, weight m c e ch = r) (hZ : ∀ ch y x, ∃ r : ℝ, latent m c ch y x = r) (hc : low < scores m c (second (scores m c)))
include hw hZ hc

open Cert.RouteIdeal Cert.RouteIdeal.Gen Cert.RouteIdeal.Run in
/-- The kernel's first result: the places of the two largest numbers. -/
theorem kernel_places (k : Fin 2) :
    Pipeline.afterTail₀ cfgs (dats m) 0 (V0 m) [hostOps1] c main_v12 (ix1 k)
      = BitVec.ofNat 32 (Cert.RouteRefIdeal.Reference.place (scores m c) k).val := by
  refine (Cert.RouteIdeal.Network.result m c k).1.trans ?_
  fin_cases k
  · exact (congrArg (Ideal.fptosi 32) (Cert.RouteIdeal.Pick.output0 _ _ _ (scores m c) (number_expert m c hw hZ) (number_spare m c) hc 0)).trans (fptosi_place _)
  · exact (congrArg (Ideal.fptosi 32) (Cert.RouteIdeal.Pick.output1 _ _ _ (scores m c) (number_expert m c hw hZ) (number_spare m c) hc 0)).trans (fptosi_place _)

open Cert.RouteIdeal Cert.RouteIdeal.Gen Cert.RouteIdeal.Run in
/-- The kernel's second result: their gates. -/
theorem kernel_gates (k : Fin 2) :
    Pipeline.afterTail₀ cfgs (dats m) 0 (V0 m) [hostOps1] c main_v14 (ix1 k)
      = Cert.RouteIdeal.Pick.gate (scores m c (best (scores m c))) (scores m c (second (scores m c))) (scores m c (Cert.RouteRefIdeal.Reference.place (scores m c) k)) := by
  refine (Cert.RouteIdeal.Network.result m c k).2.trans ?_
  fin_cases k
  · exact Cert.RouteIdeal.Pick.output2 _ _ _ (scores m c) (number_expert m c hw hZ) (number_spare m c) hc 0
  · exact Cert.RouteIdeal.Pick.output3 _ _ _ (scores m c) (number_expert m c hw hZ) (number_spare m c) hc 0

end

open Cert.RouteRefIdeal Cert.RouteRefIdeal.Gen Cert.RouteRefIdeal.Reference in
/-- The reference's first result, of numbers `l`. -/
theorem reference_places (v : FVec Ideal S3 .f32) (l : Fin 3 → EReal) (hv : ∀ e, v (ix1 e) = l e) (h) (k : Fin 2) :
    (Host.topK S2 0 (FloatOps.cmpfTotal (F := Ideal) .gt) v h).2 (ix1 k) = BitVec.ofNat 32 (place l k).val := by
  obtain rfl : (fun e => v (ix1 e)) = l := funext hv
  exact top_place v h k

open Cert.RouteRefIdeal Cert.RouteRefIdeal.Gen Cert.RouteRefIdeal.Reference in
/-- The reference's second result, of numbers `l`. -/
theorem reference_gates (v : FVec Ideal S3 .f32) (l : Fin 3 → EReal) (hv : ∀ e, v (ix1 e) = l e) (h) (k : Fin 2) :
    Host.divf (Host.exp (subf (Host.topK S2 0 (FloatOps.cmpfTotal (F := Ideal) .gt) v h).1 (broadcastInDim S2 ![0] bcast_S1_S2_0 (broadcastInDim S1 ![] bcast_S_S1 (maximumf (constant S_ .f32 0xFF800000#32) (Host.reduce FloatOps.maximumf (Host.topK S2 0 (FloatOps.cmpfTotal (F := Ideal) .gt) v h).1 (constant S_ .f32 0xFF800000#32) reducesTo_S2_S_d0 h_S_))))))
      (broadcastInDim S2 ![0] bcast_S1_S2_0 (broadcastInDim S1 ![] bcast_S_S1 (Host.reduceAdd (Host.exp (subf (Host.topK S2 0 (FloatOps.cmpfTotal (F := Ideal) .gt) v h).1 (broadcastInDim S2 ![0] bcast_S1_S2_0 (broadcastInDim S1 ![] bcast_S_S1 (maximumf (constant S_ .f32 0xFF800000#32) (Host.reduce FloatOps.maximumf (Host.topK S2 0 (FloatOps.cmpfTotal (F := Ideal) .gt) v h).1 (constant S_ .f32 0xFF800000#32) reducesTo_S2_S_d0 h_S_)))))) (constant S_ .f32 0x00000000#32) reducesTo_S2_S_d0 h_S_))) (ix1 k)
      = Cert.RouteIdeal.Pick.gate (l (best l)) (l (second l)) (l (place l k)) := by
  obtain rfl : (fun e => v (ix1 e)) = l := funext hv
  have t (k : Fin 2) := top_value v h k
  have hle : ((Host.topK S2 0 (FloatOps.cmpfTotal (F := Ideal) .gt) v h).1 (ix1 1) : EReal) ≤ (Host.topK S2 0 (FloatOps.cmpfTotal (F := Ideal) .gt) v h).1 (ix1 0) := by
    rw [t 0, t 1]
    exact (sorted fun e => v (ix1 e)).2.1 _
  rw [gates _ hle k, t 0, t 1, t k]
  rfl

/-- The results of the kernel and those of the reference are equal, as extended reals. -/
theorem algebraic : Cert.algebraic_RouteIdeal_RouteRefIdeal (hRouteIdeal := Cert.RouteIdeal.Gen.facts) (hRouteRefIdeal := Cert.RouteRefIdeal.Gen.facts) (hPre_finite_scores := Cert.Pre_finite_scores.Gen.facts) := by
  intro m g m' g' hp hm
  have pre (c : Dev Cert.RouteIdeal.nD) := of_pre _ _ _ _ _ (hp c)
  have hw (c : Dev Cert.RouteIdeal.nD) (e ch) : ∃ r : ℝ, weight m c e ch = r := (pre c e ch 0 0).2.2
  have hZ (c : Dev Cert.RouteIdeal.nD) (ch y x) : ∃ r : ℝ, latent m c ch y x = r := (pre c 0 ch y x).1
  have hc (c : Dev Cert.RouteIdeal.nD) : low < scores m c (second (scores m c)) := (pre c 0 0 0 0).2.1
  have hl (c : Dev Cert.RouteIdeal.nD) (e : Fin 3) := Cert.RouteRefIdeal.Reference.logits (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) e
  refine ⟨_, _, Cert.RouteIdeal.Network.run m g, (θ_run _ _ _).mono (fun r h c => ⟨(h c).1.trans ?_, (h c).2.1.trans ?_, (h c).2.2⟩) (Cert.RouteRefIdeal.Value.run m' g')⟩
  · obtain ⟨e0, e1, e2, e3, e4⟩ := hm c
    rw [e0, e1, e2, e3, e4]
    funext i
    obtain ⟨k, rfl⟩ : ∃ k : Fin 2, i = ix1 k := ⟨i 0, eq_ix1 i⟩
    exact (reference_places _ (scores m c) (hl c) _ k).trans (kernel_places m c (hw c) (hZ c) (hc c) k).symm
  · obtain ⟨e0, e1, e2, e3, e4⟩ := hm c
    rw [e0, e1, e2, e3, e4]
    funext i
    obtain ⟨k, rfl⟩ : ∃ k : Fin 2, i = ix1 k := ⟨i 0, eq_ix1 i⟩
    exact (reference_gates _ (scores m c) (hl c) _ k).trans (kernel_gates m c (hw c) (hZ c) (hc c) k).symm

end Cert.RouteClaim

end
-- ==== Proof.MoeVRow.lean ====
/- The rows that the decoder's kernel of the visible branch computes. -/
module

public import proofs.«01_k».proof.Proof.Gen.MoeVIdeal.Skeleton
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.MoeVIdeal.Row

open Cert.MoeVIdeal Cert.MoeVIdeal.Gen Cert.Math Cert.Rows

/-- An image, every value of it multiplied by `g`. -/
def scaled {C : ℕ} (g : EReal) (X : Img C) : Img C := fun c y x => X c y x * g

/-- The row of the first expert's hidden features that the kernel computes from three rows of the latent image is the row of the convolution, its negative values
    replaced by zero, with a zero on either side. -/
theorem hidden0 (P : Vec Ideal S3x64x226 .f32) (w0 w1 w2 : Vec Ideal S1x1x64x192 .f32) (W : Ker 64 64) (X : Img 64) (y : Fin 224)
    (hP : ∀ (d : Fin 3) (c : Fin 64) (s : Fin 226), P (ix3 d c s) = padAt X c (y.val + d.val) (0 + s.val))
    (h0 : ∀ (o : Fin 64) (d : Fin 3) (c : Fin 64) (h : d.val * 64 + c.val < 192), w0 (ix4 0 0 o ⟨d.val * 64 + c.val, h⟩) = W o c d 0)
    (h1 : ∀ (o : Fin 64) (d : Fin 3) (c : Fin 64) (h : d.val * 64 + c.val < 192), w1 (ix4 0 0 o ⟨d.val * 64 + c.val, h⟩) = W o c d 1)
    (h2 : ∀ (o : Fin 64) (d : Fin 3) (c : Fin 64) (h : d.val * 64 + c.val < 192), w2 (ix4 0 0 o ⟨d.val * 64 + c.val, h⟩) = W o c d 2)
    (o : Fin 64) (s : Fin 226) :
    k0_pay7 (F := Ideal) P w0 w1 w2 (ix3 0 o s) = padAt (relu (conv W X)) o (y.val + 1) s.val := by
  pointwise [k0_pay7]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold relu
    refine congrArg (max · 0) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row of the second expert's hidden features that the kernel computes from three rows of the latent image is the row of the convolution, its negative values
    replaced by zero, with a zero on either side. -/
theorem hidden1 (P : Vec Ideal S3x64x226 .f32) (w0 w1 w2 : Vec Ideal S1x1x64x192 .f32) (W : Ker 64 64) (X : Img 64) (y : Fin 224)
    (hP : ∀ (d : Fin 3) (c : Fin 64) (s : Fin 226), P (ix3 d c s) = padAt X c (y.val + d.val) (0 + s.val))
    (h0 : ∀ (o : Fin 64) (d : Fin 3) (c : Fin 64) (h : d.val * 64 + c.val < 192), w0 (ix4 0 0 o ⟨d.val * 64 + c.val, h⟩) = W o c d 0)
    (h1 : ∀ (o : Fin 64) (d : Fin 3) (c : Fin 64) (h : d.val * 64 + c.val < 192), w1 (ix4 0 0 o ⟨d.val * 64 + c.val, h⟩) = W o c d 1)
    (h2 : ∀ (o : Fin 64) (d : Fin 3) (c : Fin 64) (h : d.val * 64 + c.val < 192), w2 (ix4 0 0 o ⟨d.val * 64 + c.val, h⟩) = W o c d 2)
    (o : Fin 64) (s : Fin 226) :
    k0_pay1 (F := Ideal) P w0 w1 w2 (ix3 0 o s) = padAt (relu (conv W X)) o (y.val + 1) s.val := by
  pointwise [k0_pay1]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold relu
    refine congrArg (max · 0) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row of the first expert's image that the kernel computes from three rows of the hidden features is the row of the convolution times the gate, with a zero on either side. -/
theorem image0 (g : EReal) (P : Vec Ideal S3x64x226 .f32) (w0 w1 w2 : Vec Ideal S1x1x3x192 .f32) (W : Ker 3 64) (X : Img 64) (y : Fin 224)
    (hP : ∀ (d : Fin 3) (c : Fin 64) (s : Fin 226), P (ix3 d c s) = padAt X c (y.val + d.val) (0 + s.val))
    (h0 : ∀ (o : Fin 3) (d : Fin 3) (c : Fin 64) (h : d.val * 64 + c.val < 192), w0 (ix4 0 0 o ⟨d.val * 64 + c.val, h⟩) = W o c d 0)
    (h1 : ∀ (o : Fin 3) (d : Fin 3) (c : Fin 64) (h : d.val * 64 + c.val < 192), w1 (ix4 0 0 o ⟨d.val * 64 + c.val, h⟩) = W o c d 1)
    (h2 : ∀ (o : Fin 3) (d : Fin 3) (c : Fin 64) (h : d.val * 64 + c.val < 192), w2 (ix4 0 0 o ⟨d.val * 64 + c.val, h⟩) = W o c d 2)
    (o : Fin 3) (s : Fin 226) :
    k0_pay8 (F := Ideal) g P w0 w1 w2 (ix3 0 o s) = padAt (scaled g (conv W X)) o (y.val + 1) s.val := by
  pointwise [k0_pay8]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold scaled
    refine congrArg (· * g) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row that the kernel computes for the second expert is what the row held before plus the row of the convolution times the gate, with a zero on either side. -/
theorem image1 (g : EReal) (P : Vec Ideal S3x64x226 .f32) (w0 w1 w2 : Vec Ideal S1x1x3x192 .f32) (old : Vec Ideal S1x3x226 .f32) (W : Ker 3 64) (X : Img 64) (y : Fin 224)
    (hP : ∀ (d : Fin 3) (c : Fin 64) (s : Fin 226), P (ix3 d c s) = padAt X c (y.val + d.val) (0 + s.val))
    (h0 : ∀ (o : Fin 3) (d : Fin 3) (c : Fin 64) (h : d.val * 64 + c.val < 192), w0 (ix4 0 0 o ⟨d.val * 64 + c.val, h⟩) = W o c d 0)
    (h1 : ∀ (o : Fin 3) (d : Fin 3) (c : Fin 64) (h : d.val * 64 + c.val < 192), w1 (ix4 0 0 o ⟨d.val * 64 + c.val, h⟩) = W o c d 1)
    (h2 : ∀ (o : Fin 3) (d : Fin 3) (c : Fin 64) (h : d.val * 64 + c.val < 192), w2 (ix4 0 0 o ⟨d.val * 64 + c.val, h⟩) = W o c d 2)
    (o : Fin 3) (s : Fin 226) :
    k0_pay2 (F := Ideal) g P w0 w1 w2 old (ix3 0 o s) = old (ix3 0 o s) + padAt (scaled g (conv W X)) o (y.val + 1) s.val := by
  pointwise [k0_pay2]
  refine congrArg (old (ix3 0 o s) + ·) ?_
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold scaled
    refine congrArg (· * g) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

end Cert.MoeVIdeal.Row

end
-- ==== Proof.MoeVKernel.lean ====
/- What the decoder's kernel of the visible branch leaves in memory. -/
module

public import proofs.«01_k».proof.Proof.MoeVIdealFrame
public import proofs.«01_k».proof.Proof.MoeVRow
public import proofs.«01_k».proof.Proof.Trips
public import Idealize.ShloMosaic.Lib.Claim

@[expose] public section

set_option maxRecDepth 16384

noncomputable section

open Idealize.ShloMosaic Idealize.ShloMosaic.TcCoe Idealize.SL.Sem

namespace Cert.MoeVIdeal.Network

open Cert.MoeVIdeal Cert.MoeVIdeal.Gen Cert.Math Cert.Rows

open Cert.MoeVIdeal.Row Cert.MoeVIdeal.Run

/-! ## Where the loops read and write -/

/-- The taps of column 0 of the expert that a word names. -/
theorem off2 {v : BitVec 32} {e : Fin 3} (h : v = BitVec.ofNat 32 e.val) : k0_off2 v = ![e.val, 0, 0, 0] := by
  subst h; revert e; decide +kernel

/-- The taps of column 1 of the expert that a word names. -/
theorem off3 {v : BitVec 32} {e : Fin 3} (h : v = BitVec.ofNat 32 e.val) : k0_off3 v = ![e.val, 1, 0, 0] := by
  subst h; revert e; decide +kernel

/-- The taps of column 2 of the expert that a word names. -/
theorem off4 {v : BitVec 32} {e : Fin 3} (h : v = BitVec.ofNat 32 e.val) : k0_off4 v = ![e.val, 2, 0, 0] := by
  subst h; revert e; decide +kernel

/-- The taps of column 0 of the expert that a word names. -/
theorem off7 {v : BitVec 32} {e : Fin 3} (h : v = BitVec.ofNat 32 e.val) : k0_off7 v = ![e.val, 0, 0, 0] := by
  subst h; revert e; decide +kernel

/-- The taps of column 1 of the expert that a word names. -/
theorem off8 {v : BitVec 32} {e : Fin 3} (h : v = BitVec.ofNat 32 e.val) : k0_off8 v = ![e.val, 1, 0, 0] := by
  subst h; revert e; decide +kernel

/-- The taps of column 2 of the expert that a word names. -/
theorem off9 {v : BitVec 32} {e : Fin 3} (h : v = BitVec.ofNat 32 e.val) : k0_off9 v = ![e.val, 2, 0, 0] := by
  subst h; revert e; decide +kernel

/-- The taps of column 0 of the expert that a word names. -/
theorem off12 {v : BitVec 32} {e : Fin 3} (h : v = BitVec.ofNat 32 e.val) : k0_off12 v = ![e.val, 0, 0, 0] := by
  subst h; revert e; decide +kernel

/-- The taps of column 1 of the expert that a word names. -/
theorem off13 {v : BitVec 32} {e : Fin 3} (h : v = BitVec.ofNat 32 e.val) : k0_off13 v = ![e.val, 1, 0, 0] := by
  subst h; revert e; decide +kernel

/-- The taps of column 2 of the expert that a word names. -/
theorem off14 {v : BitVec 32} {e : Fin 3} (h : v = BitVec.ofNat 32 e.val) : k0_off14 v = ![e.val, 2, 0, 0] := by
  subst h; revert e; decide +kernel

/-- The taps of column 0 of the expert that a word names. -/
theorem off17 {v : BitVec 32} {e : Fin 3} (h : v = BitVec.ofNat 32 e.val) : k0_off17 v = ![e.val, 0, 0, 0] := by
  subst h; revert e; decide +kernel

/-- The taps of column 1 of the expert that a word names. -/
theorem off18 {v : BitVec 32} {e : Fin 3} (h : v = BitVec.ofNat 32 e.val) : k0_off18 v = ![e.val, 1, 0, 0] := by
  subst h; revert e; decide +kernel

/-- The taps of column 2 of the expert that a word names. -/
theorem off19 {v : BitVec 32} {e : Fin 3} (h : v = BitVec.ofNat 32 e.val) : k0_off19 v = ![e.val, 2, 0, 0] := by
  subst h; revert e; decide +kernel

/-! ## The four loops -/

/-- The scratch buffer after the first expert's hidden features are computed, whatever it held inside its border, which was zero. -/
theorem loop1 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (v : BitVec 32) (hw : k0_chk1 v) (e : Fin 3) (hv : v = BitVec.ofNat 32 e.val) (x0 : Vec Ideal S226x64x226 .f32) (x1 : Vec Ideal S3x3x64x192 .f32) (X : Img 64) (W1 : Fin 3 → Ker 64 64)
    (h0 : ∀ (r : Fin 226) (c : Fin 64) (s : Fin 226), x0 (ix3 r c s) = padAt X c r.val s.val)
    (h1 : ∀ (e dx : Fin 3) (o : Fin 64) (d : Fin 3) (c : Fin 64) (h : d.val * 64 + c.val < 192), x1 (ix4 e dx o ⟨d.val * 64 + c.val, h⟩) = W1 e o c d dx)
    (L : (List (View.Piece (Elt Ideal) S226x64x226 .f32))) (hL : ∀ (r : Fin 226) (o : Fin 64) (s : Fin 226), r.val = 0 ∨ 224 < r.val → View.canon L (ix3 r o s) = (0 : EReal))
    (r : Fin 226) (o : Fin 64) (s : Fin 226) :
    View.canon (pb_k0_t1 (F := Ideal) Variants.none c none arg0 harg0 arg1 harg1 arg2 harg2 arg3 harg3 arg4 harg4 arg5 harg5 arg6 harg6 v hw (harg0.unread x0) (harg1.unread x1) (Scf.trips (0#32) (Scalar.addi 0#32 224#32) 1#32) ++ L) (ix3 r o s)
      = padAt (relu (conv (W1 e) X)) o r.val s.val := by
  have hn : k0_t1_loop.trips = 224 := by decide +kernel
  refine (canon_trips (fun o r s => padAt (relu (conv (W1 e) X)) o r s) _ _ L rfl (pb_k0_t1_succ _ c _ arg0 harg0 arg1 harg1 arg2 harg2 arg3 harg3 arg4 harg4 arg5 harg5 arg6 harg6 v hw _ _) (fun k _ => ?_) _ (le_refl k0_t1_loop.trips) r o s).trans ?_
  · have hk : k.val < 224 := Nat.lt_of_lt_of_le k.isLt k0_t1_abs.2.1
    unfold tripL_k0_t1 trip_k0_t1
    dsimp only
    simp only [readAt_unread]
    refine ⟨_, k0_off5_eq k, _, _, rfl, fun o s => ?_⟩
    refine hidden0 _ _ _ _ (W1 e) X ⟨k.val, hk⟩ (fun d c s => ld_holds _ x0 h0 k.val 0 (k0_off1_eq k) _ d c s) ?_ ?_ ?_ o s <;> intro o d c h
    · exact (ld_tap4 x1 e 0 (off2 hv) _ o ⟨_, h⟩).trans (h1 e 0 o d c h)
    · exact (ld_tap4 x1 e 1 (off3 hv) _ o ⟨_, h⟩).trans (h1 e 1 o d c h)
    · exact (ld_tap4 x1 e 2 (off4 hv) _ o ⟨_, h⟩).trans (h1 e 2 o d c h)
  · rw [hn]
    by_cases hr : 1 ≤ r.val ∧ r.val ≤ 224
    · rw [if_pos hr]
    · rw [if_neg hr, hL r o s (by omega), padAt_out _ _ (by omega)]

/-- The scratch buffer after the second expert's hidden features are computed, whatever it held inside its border, which was zero. -/
theorem loop3 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (v : BitVec 32) (hw : k0_chk2 v) (e : Fin 3) (hv : v = BitVec.ofNat 32 e.val) (x0 : Vec Ideal S226x64x226 .f32) (x1 : Vec Ideal S3x3x64x192 .f32) (X : Img 64) (W1 : Fin 3 → Ker 64 64)
    (h0 : ∀ (r : Fin 226) (c : Fin 64) (s : Fin 226), x0 (ix3 r c s) = padAt X c r.val s.val)
    (h1 : ∀ (e dx : Fin 3) (o : Fin 64) (d : Fin 3) (c : Fin 64) (h : d.val * 64 + c.val < 192), x1 (ix4 e dx o ⟨d.val * 64 + c.val, h⟩) = W1 e o c d dx)
    (L : (List (View.Piece (Elt Ideal) S226x64x226 .f32))) (hL : ∀ (r : Fin 226) (o : Fin 64) (s : Fin 226), r.val = 0 ∨ 224 < r.val → View.canon L (ix3 r o s) = (0 : EReal))
    (r : Fin 226) (o : Fin 64) (s : Fin 226) :
    View.canon (pb_k0_t3 (F := Ideal) Variants.none c none arg0 harg0 arg1 harg1 arg2 harg2 arg3 harg3 arg4 harg4 arg5 harg5 arg6 harg6 v hw (harg0.unread x0) (harg1.unread x1) (Scf.trips (0#32) (Scalar.addi 0#32 224#32) 1#32) ++ L) (ix3 r o s)
      = padAt (relu (conv (W1 e) X)) o r.val s.val := by
  have hn : k0_t3_loop.trips = 224 := by decide +kernel
  refine (canon_trips (fun o r s => padAt (relu (conv (W1 e) X)) o r s) _ _ L rfl (pb_k0_t3_succ _ c _ arg0 harg0 arg1 harg1 arg2 harg2 arg3 harg3 arg4 harg4 arg5 harg5 arg6 harg6 v hw _ _) (fun k _ => ?_) _ (le_refl k0_t3_loop.trips) r o s).trans ?_
  · have hk : k.val < 224 := Nat.lt_of_lt_of_le k.isLt k0_t3_abs.2.1
    unfold tripL_k0_t3 trip_k0_t3
    dsimp only
    simp only [readAt_unread]
    refine ⟨_, k0_off15_eq k, _, _, rfl, fun o s => ?_⟩
    refine hidden1 _ _ _ _ (W1 e) X ⟨k.val, hk⟩ (fun d c s => ld_holds _ x0 h0 k.val 0 (k0_off11_eq k) _ d c s) ?_ ?_ ?_ o s <;> intro o d c h
    · exact (ld_tap4 x1 e 0 (off12 hv) _ o ⟨_, h⟩).trans (h1 e 0 o d c h)
    · exact (ld_tap4 x1 e 1 (off13 hv) _ o ⟨_, h⟩).trans (h1 e 1 o d c h)
    · exact (ld_tap4 x1 e 2 (off14 hv) _ o ⟨_, h⟩).trans (h1 e 2 o d c h)
  · rw [hn]
    by_cases hr : 1 ≤ r.val ∧ r.val ≤ 224
    · rw [if_pos hr]
    · rw [if_neg hr, hL r o s (by omega), padAt_out _ _ (by omega)]

/-- The output after the first expert's image is computed, whatever it held inside its border, which was zero. -/
theorem loop2 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (v : BitVec 32) (hw : k0_chk1 v) (e : Fin 3) (hv : v = BitVec.ofNat 32 e.val) (g : EReal) (x2 : Vec Ideal S3x3x3x192 .f32) (W2 : Fin 3 → Ker 3 64)
    (h2 : ∀ (e dx : Fin 3) (o : Fin 3) (d : Fin 3) (c : Fin 64) (h : d.val * 64 + c.val < 192), x2 (ix4 e dx o ⟨d.val * 64 + c.val, h⟩) = W2 e o c d dx)
    (L6 : (List (View.Piece (Elt Ideal) S226x64x226 .f32))) (Y : Img 64) (h6 : ∀ (r : Fin 226) (c : Fin 64) (s : Fin 226), View.canon L6 (ix3 r c s) = padAt Y c r.val s.val)
    (L : (List (View.Piece (Elt Ideal) S226x3x226 .f32))) (hL : ∀ (r : Fin 226) (o : Fin 3) (s : Fin 226), r.val = 0 ∨ 224 < r.val → View.canon L (ix3 r o s) = (0 : EReal))
    (r : Fin 226) (o : Fin 3) (s : Fin 226) :
    View.canon (pb_k0_t2 (F := Ideal) Variants.none c none arg0 harg0 arg1 harg1 arg2 harg2 arg3 harg3 arg4 harg4 arg5 harg5 arg6 harg6 v hw g (harg2.unread x2) (arg6.view.writes (Elt Ideal) arg6.view.junk L6) (Scf.trips (0#32) (Scalar.addi 0#32 224#32) 1#32) ++ L) (ix3 r o s)
      = padAt (scaled g (conv (W2 e) Y)) o r.val s.val := by
  have hn : k0_t2_loop.trips = 224 := by decide +kernel
  refine (canon_trips (fun o r s => padAt (scaled g (conv (W2 e) Y)) o r s) _ _ L rfl (pb_k0_t2_succ _ c _ arg0 harg0 arg1 harg1 arg2 harg2 arg3 harg3 arg4 harg4 arg5 harg5 arg6 harg6 v hw g _ _) (fun k _ => ?_) _ (le_refl k0_t2_loop.trips) r o s).trans ?_
  · have hk : k.val < 224 := Nat.lt_of_lt_of_le k.isLt k0_t2_abs.2.1
    unfold tripL_k0_t2 trip_k0_t2
    dsimp only
    simp only [readAt_unread, readAt_junk]
    refine ⟨_, k0_off10_eq k, _, _, rfl, fun o s => ?_⟩
    refine image0 g _ _ _ _ (W2 e) Y ⟨k.val, hk⟩ (fun d c s => ld_holds _ _ h6 k.val 0 (k0_off6_eq k) _ d c s) ?_ ?_ ?_ o s <;> intro o d c h
    · exact (ld_tap4 x2 e 0 (off7 hv) _ o ⟨_, h⟩).trans (h2 e 0 o d c h)
    · exact (ld_tap4 x2 e 1 (off8 hv) _ o ⟨_, h⟩).trans (h2 e 1 o d c h)
    · exact (ld_tap4 x2 e 2 (off9 hv) _ o ⟨_, h⟩).trans (h2 e 2 o d c h)
  · rw [hn]
    by_cases hr : 1 ≤ r.val ∧ r.val ≤ 224
    · rw [if_pos hr]
    · rw [if_neg hr, hL r o s (by omega), padAt_out _ _ (by omega)]

/-- The output after the second expert's image is added to the image `Z` that it held. -/
theorem loop4 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (v : BitVec 32) (hw : k0_chk2 v) (e : Fin 3) (hv : v = BitVec.ofNat 32 e.val) (g : EReal) (x2 : Vec Ideal S3x3x3x192 .f32) (W2 : Fin 3 → Ker 3 64)
    (h2 : ∀ (e dx : Fin 3) (o : Fin 3) (d : Fin 3) (c : Fin 64) (h : d.val * 64 + c.val < 192), x2 (ix4 e dx o ⟨d.val * 64 + c.val, h⟩) = W2 e o c d dx)
    (L6 : (List (View.Piece (Elt Ideal) S226x64x226 .f32))) (Y : Img 64) (h6 : ∀ (r : Fin 226) (c : Fin 64) (s : Fin 226), View.canon L6 (ix3 r c s) = padAt Y c r.val s.val)
    (L : (List (View.Piece (Elt Ideal) S226x3x226 .f32))) (Z : Img 3) (hL : ∀ (r : Fin 226) (o : Fin 3) (s : Fin 226), View.canon L (ix3 r o s) = padAt Z o r.val s.val)
    (r : Fin 226) (o : Fin 3) (s : Fin 226) :
    View.canon (pb_k0_t4 (F := Ideal) Variants.none c none arg0 harg0 arg1 harg1 arg2 harg2 arg3 harg3 arg4 harg4 arg5 harg5 arg6 harg6 v hw g (harg2.unread x2) (arg6.view.writes (Elt Ideal) arg6.view.junk L6) (arg5.view.writes (Elt Ideal) arg5.view.junk L) (Scf.trips (0#32) (Scalar.addi 0#32 224#32) 1#32) ++ L) (ix3 r o s)
      = padAt Z o r.val s.val + padAt (scaled g (conv (W2 e) Y)) o r.val s.val := by
  have hn : k0_t4_loop.trips = 224 := by decide +kernel
  refine (canon_trips (fun o r s => padAt Z o r s + padAt (scaled g (conv (W2 e) Y)) o r s) _ _ L rfl (pb_k0_t4_succ _ c _ arg0 harg0 arg1 harg1 arg2 harg2 arg3 harg3 arg4 harg4 arg5 harg5 arg6 harg6 v hw g _ _ _) (fun k hold => ?_) _ (le_refl k0_t4_loop.trips) r o s).trans ?_
  · have hk : k.val < 224 := Nat.lt_of_lt_of_le k.isLt k0_t4_abs.2.1
    rw [← View.writes_append]
    unfold tripL_k0_t4 trip_k0_t4
    dsimp only
    simp only [readAt_unread, readAt_junk]
    refine ⟨_, k0_off20_eq k, _, _, rfl, fun o s => ?_⟩
    refine (image1 g _ _ _ _ _ (W2 e) Y ⟨k.val, hk⟩ (fun d c s => ld_holds _ _ h6 k.val 0 (k0_off16_eq k) _ d c s) ?_ ?_ ?_ o s).trans (congrArg (· + _) ?_)
    · intro o d c h; exact (ld_tap4 x2 e 0 (off17 hv) _ o ⟨_, h⟩).trans (h2 e 0 o d c h)
    · intro o d c h; exact (ld_tap4 x2 e 1 (off18 hv) _ o ⟨_, h⟩).trans (h2 e 1 o d c h)
    · intro o d c h; exact (ld_tap4 x2 e 2 (off19 hv) _ o ⟨_, h⟩).trans (h2 e 2 o d c h)
    · refine (ld_tap _ ⟨k.val + 1, by omega⟩ (k0_off20_eq k) _ o s).trans ((hold _ o s (Nat.lt_succ_self _)).trans (hL _ o s))
  · rw [hn]
    by_cases hr : 1 ≤ r.val ∧ r.val ≤ 224
    · rw [if_pos hr]
    · rw [if_neg hr, hL r o s, padAt_out (scaled g (conv (W2 e) Y)) _ (by omega), add_zero]

/-! ## The whole body -/

/-- The scratch buffer's border, zero. -/
theorem border6 (r : Fin 226) (o : Fin 64) (s : Fin 226) (hr : r.val = 0 ∨ 224 < r.val) :
    View.canon ([⟨Rect.unit ![225, 0, 0] ![1, 64, 226] inb_S226x64x226_S1x64x226_225_0_0, k0_pay6 (F := Ideal)⟩,
      ⟨Rect.unit ![0, 0, 0] ![1, 64, 226] inb_S226x64x226_S1x64x226_0_0_0, k0_pay5 (F := Ideal)⟩] : (List (View.Piece (Elt Ideal) S226x64x226 .f32))) (ix3 r o s) = (0 : EReal) := by
  by_cases h : r.val = 225
  · refine (canon_row 225 rfl _ _ _ r h o s).trans ?_
    pointwise [k0_pay6]
  · refine (canon_other 225 rfl _ _ _ r h o s).trans ((canon_row 0 rfl _ _ _ r (by omega) o s).trans ?_)
    pointwise [k0_pay5]

/-- The output's border, zero. -/
theorem border5 (r : Fin 226) (o : Fin 3) (s : Fin 226) (hr : r.val = 0 ∨ 224 < r.val) :
    View.canon ([⟨Rect.unit ![225, 0, 0] ![1, 3, 226] inb_S226x3x226_S1x3x226_225_0_0, k0_pay4 (F := Ideal)⟩,
      ⟨Rect.unit ![0, 0, 0] ![1, 3, 226] inb_S226x3x226_S1x3x226_0_0_0, k0_pay3 (F := Ideal)⟩] : (List (View.Piece (Elt Ideal) S226x3x226 .f32))) (ix3 r o s) = (0 : EReal) := by
  by_cases h : r.val = 225
  · refine (canon_row 225 rfl _ _ _ r h o s).trans ?_
    pointwise [k0_pay4]
  · refine (canon_other 225 rfl _ _ _ r h o s).trans ((canon_row 0 rfl _ _ _ r (by omega) o s).trans ?_)
    pointwise [k0_pay3]

/-- The number of the first chosen expert, as the body reads it. -/
theorem word0 (c : Dev nD) (arg : Memref sig .tc .smem S2 .i32) (harg : arg.IsWhole) (x : Vec Ideal S2 .i32) :
    bodyRun.sl.r (F := Ideal) c arg harg x = x (ix1 0) := by
  unfold bodyRun.sl.r
  rw [View.readAt_apply, harg.read_unread]
  refine congrArg x ?_
  funext a
  obtain rfl : a = 0 := Subsingleton.elim _ _
  rfl

/-- The gate of the first chosen expert, as the body reads it. -/
theorem gate0 (c : Dev nD) (arg : Memref sig .tc .smem S2 .f32) (harg : arg.IsWhole) (x : Vec Ideal S2 .f32) :
    bodyRun.sl.r_1 (F := Ideal) c arg harg x = x (ix1 0) := by
  unfold bodyRun.sl.r_1
  rw [View.readAt_apply, harg.read_unread]
  refine congrArg x ?_
  funext a
  obtain rfl : a = 0 := Subsingleton.elim _ _
  rfl

/-- The number of the second chosen expert, as the body reads it. -/
theorem word1 (c : Dev nD) (arg : Memref sig .tc .smem S2 .i32) (harg : arg.IsWhole) (x : Vec Ideal S2 .i32) :
    bodyRun.sl.r_2 (F := Ideal) c arg harg x = x (ix1 1) := by
  unfold bodyRun.sl.r_2
  rw [View.readAt_apply, harg.read_unread]
  refine congrArg x ?_
  funext a
  obtain rfl : a = 0 := Subsingleton.elim _ _
  rfl

/-- The gate of the second chosen expert, as the body reads it. -/
theorem gate1 (c : Dev nD) (arg : Memref sig .tc .smem S2 .f32) (harg : arg.IsWhole) (x : Vec Ideal S2 .f32) :
    bodyRun.sl.r_3 (F := Ideal) c arg harg x = x (ix1 1) := by
  unfold bodyRun.sl.r_3
  rw [View.readAt_apply, harg.read_unread]
  refine congrArg x ?_
  funext a
  obtain rfl : a = 0 := Subsingleton.elim _ _
  rfl

/-- What the body leaves in its output: the first chosen expert's image times its gate, and the second's, with a border of zeros. -/
theorem region (c : Dev nD) (arg0 : Memref sig .tc .vmem S226x64x226 .f32) (harg0 : arg0.IsWhole) (arg1 : Memref sig .tc .vmem S3x3x64x192 .f32) (harg1 : arg1.IsWhole) (arg2 : Memref sig .tc .vmem S3x3x3x192 .f32) (harg2 : arg2.IsWhole) (arg3 : Memref sig .tc .smem S2 .i32) (harg3 : arg3.IsWhole) (arg4 : Memref sig .tc .smem S2 .f32) (harg4 : arg4.IsWhole) (arg5 : Memref sig .tc .vmem S226x3x226 .f32) (harg5 : arg5.IsWhole) (arg6 : Memref sig .tc .vmem S226x64x226 .f32) (harg6 : arg6.IsWhole)
    (x0 : Vec Ideal S226x64x226 .f32) (x1 : Vec Ideal S3x3x64x192 .f32) (x2 : Vec Ideal S3x3x3x192 .f32) (x3 : Vec Ideal S2 .i32) (x4 : Vec Ideal S2 .f32) (hw1) (hw2)
    (e0 e1 : Fin 3) (he0 : x3 (ix1 0) = BitVec.ofNat 32 e0.val) (he1 : x3 (ix1 1) = BitVec.ofNat 32 e1.val) (X : Img 64) (W1 : Fin 3 → Ker 64 64) (W2 : Fin 3 → Ker 3 64)
    (h0 : ∀ (r : Fin 226) (c : Fin 64) (s : Fin 226), x0 (ix3 r c s) = padAt X c r.val s.val)
    (h1 : ∀ (e dx : Fin 3) (o : Fin 64) (d : Fin 3) (c : Fin 64) (h : d.val * 64 + c.val < 192), x1 (ix4 e dx o ⟨d.val * 64 + c.val, h⟩) = W1 e o c d dx)
    (h2 : ∀ (e dx : Fin 3) (o : Fin 3) (d : Fin 3) (c : Fin 64) (h : d.val * 64 + c.val < 192), x2 (ix4 e dx o ⟨d.val * 64 + c.val, h⟩) = W2 e o c d dx)
    (r : Fin 226) (o : Fin 3) (s : Fin 226) :
    out0_A_5 (F := Ideal) c arg0 harg0 arg1 harg1 arg2 harg2 arg3 harg3 arg4 harg4 arg5 harg5 arg6 harg6 x0 x1 x2 x3 x4 hw1 hw2 (ix3 r o s)
      = padAt (scaled (x4 (ix1 0)) (conv (W2 e0) (relu (conv (W1 e0) X)))) o r.val s.val + padAt (scaled (x4 (ix1 1)) (conv (W2 e1) (relu (conv (W1 e1) X)))) o r.val s.val := by
  unfold out0_A_5
  rw [View.read_writes_junk_eq_canon]
  unfold bodyRun
  dsimp only
  have hv0 := (word0 c arg3 harg3 x3).trans he0
  have hv1 := (word1 c arg3 harg3 x3).trans he1
  refine (loop4 c arg0 harg0 arg1 harg1 arg2 harg2 arg3 harg3 arg4 harg4 arg5 harg5 arg6 harg6 _ _ e1 hv1 _ x2 W2 h2 _ (relu (conv (W1 e1) X))
    (fun r o s => loop3 c arg0 harg0 arg1 harg1 arg2 harg2 arg3 harg3 arg4 harg4 arg5 harg5 arg6 harg6 _ _ e1 hv1 x0 x1 X W1 h0 h1 _
      (fun r o s hr => (loop1 c arg0 harg0 arg1 harg1 arg2 harg2 arg3 harg3 arg4 harg4 arg5 harg5 arg6 harg6 _ _ e0 hv0 x0 x1 X W1 h0 h1 _ border6 r o s).trans (padAt_out _ _ (by omega))) r o s) _ _
    (fun r o s => loop2 c arg0 harg0 arg1 harg1 arg2 harg2 arg3 harg3 arg4 harg4 arg5 harg5 arg6 harg6 _ _ e0 hv0 _ x2 W2 h2 _ (relu (conv (W1 e0) X))
      (fun r o s => loop1 c arg0 harg0 arg1 harg1 arg2 harg2 arg3 harg3 arg4 harg4 arg5 harg5 arg6 harg6 _ _ e0 hv0 x0 x1 X W1 h0 h1 _ border6 r o s) _ border5 r o s) r o s).trans ?_
  rw [gate0, gate1]

/-! ## The arguments, as images and taps -/

/-- The latent image. -/
def latent (m : (ℓ : Loc nD τ sig) → Buf (Elt Ideal) ℓ) (c : Dev nD) : Img 64 := fun ch y x => m ((c : Thread nD τ).loc main_arg0) (ix4 0 ch y x)
/-- The taps of every expert's first convolution, -/
def taps1 (m : (ℓ : Loc nD τ sig) → Buf (Elt Ideal) ℓ) (c : Dev nD) (e : Fin 3) : Ker 64 64 := fun o ch dy dx => m ((c : Thread nD τ).loc main_arg1) (ix5 e o ch dy dx)
/-- and those of its second. -/
def taps2 (m : (ℓ : Loc nD τ sig) → Buf (Elt Ideal) ℓ) (c : Dev nD) (e : Fin 3) : Ker 3 64 := fun o ch dy dx => m ((c : Thread nD τ).loc main_arg2) (ix5 e o ch dy dx)
/-- The gates of the two chosen experts. -/
def gate (m : (ℓ : Loc nD τ sig) → Buf (Elt Ideal) ℓ) (c : Dev nD) (i : Fin 2) : EReal := m ((c : Thread nD τ).loc main_arg4) (ix1 i)
/-- Every expert's image. -/
def expert (m : (ℓ : Loc nD τ sig) → Buf (Elt Ideal) ℓ) (c : Dev nD) (e : Fin 3) : Img 3 := conv (taps2 m c e) (relu (conv (taps1 m c e) (latent m c)))

/-! ## The host operations around the kernel, and the kernel between them -/

/-- The kernel's first input: the latent image with a border of zeros. -/
theorem in_latent (m : (ℓ : Loc nD τ sig) → Buf (Elt Ideal) ℓ) (c : Dev nD) (r : Fin 226) (ch : Fin 64) (s : Fin 226) : V m c main_v2 (ix3 r ch s) = padAt (latent m c) ch r.val s.val := by
  unfold V V0
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise [sitofp_zero]
  unfold padAt latent
  split_ifs <;> first | rfl | omega

/-- The taps of the first convolutions, as the kernel takes them. -/
theorem in_taps1 (m : (ℓ : Loc nD τ sig) → Buf (Elt Ideal) ℓ) (c : Dev nD) (e dx : Fin 3) (o : Fin 64) (d : Fin 3) (ch : Fin 64) (h : d.val * 64 + ch.val < 192) :
    V m c main_v4 (ix4 e dx o ⟨d.val * 64 + ch.val, h⟩) = taps1 m c e o ch d dx := by
  unfold V V0
  simp only [hostOps0, hostOps0_1, hostOps0_2, List.flatten_cons, List.flatten_nil, List.append_nil, List.cons_append, List.nil_append]
  after_results
  pointwise []
  rfl

/-- The taps of the second convolutions, as the kernel takes them. -/
theorem in_taps2 (m : (ℓ : Loc nD τ sig) → Buf (Elt Ideal) ℓ) (c : Dev nD) (e dx : Fin 3) (o : Fin 3) (d : Fin 3) (ch : Fin 64) (h : d.val * 64 + ch.val < 192) :
    V m c main_v6 (ix4 e dx o ⟨d.val * 64 + ch.val, h⟩) = taps2 m c e o ch d dx := by
  unfold V V0
  simp only [hostOps0, hostOps0_1, hostOps0_2, List.flatten_cons, List.flatten_nil, List.append_nil, List.cons_append, List.nil_append]
  after_results
  pointwise []
  rfl

/-- The kernel's blocks start at the beginning of their arrays. -/
theorem idx0 : (∀ a, win0_0.index t0_0 a = 0) ∧ (∀ a, win0_1.index t0_0 a = 0) ∧ (∀ a, win0_2.index t0_0 a = 0) ∧ (∀ a, win0_3.index t0_0 a = 0) ∧ (∀ a, win0_4.index t0_0 a = 0) := by
  decide +kernel

/-- The kernel's output array: the two chosen experts' images times their gates, with a border of zeros. -/
theorem final (m : (ℓ : Loc nD τ sig) → Buf (Elt Ideal) ℓ) (c : Dev nD) (hH : Hyps m) (e0 e1 : Fin 3) (he0 : m ((c : Thread nD τ).loc main_arg3) (ix1 0) = BitVec.ofNat 32 e0.val)
    (he1 : m ((c : Thread nD τ).loc main_arg3) (ix1 1) = BitVec.ofNat 32 e1.val) (r : Fin 226) (o : Fin 3) (s : Fin 226) :
    (dats m hH 0 c).arrAt 5 cfg0.N (ix3 r o s)
      = padAt (scaled (gate m c 0) (expert m c e0)) o r.val s.val + padAt (scaled (gate m c 1) (expert m c e1)) o r.val s.val := by
  refine congrFun ((dats m hH 0 c).arrAt_eq_of_after_last 5 t0_0 (by decide +kernel)
    (holds (fun o r s => padAt (scaled (gate m c 0) (expert m c e0)) o r s + padAt (scaled (gate m c 1) (expert m c e1)) o r s)) fun j => ?_) (ix3 r o s)
  blk_simp
  rw [after0_5]
  unfold outsAt0
  obtain ⟨r, o, s, rfl⟩ : ∃ (r : Fin 226) (o : Fin 3) (s : Fin 226), j = ix3 r o s := ⟨j 0, j 1, j 2, eq_ix3 j⟩
  have b3 (i : Fin 2) : iblk m c 3 t0_0 (ix1 i) = m ((c : Thread nD τ).loc main_arg3) (ix1 i) := by
    refine Eq.trans ?_ (congrFun (V_main_arg3 m c) (ix1 i))
    blk_ext! [iblk, idx0]
  have b4 (i : Fin 2) : iblk m c 4 t0_0 (ix1 i) = gate m c i := by
    refine Eq.trans ?_ (congrFun (V_main_arg4 m c) (ix1 i))
    blk_ext! [iblk, idx0]
  refine (region c _ _ _ _ _ _ _ _ _ _ _ _ _ _ _ _ _ _ _ _ _ e0 e1 ((b3 0).trans he0) ((b3 1).trans he1) (latent m c) (taps1 m c) (taps2 m c)
    (fun r ch s => Eq.trans ?_ (in_latent m c r ch s)) (fun e dx o d ch h => Eq.trans ?_ (in_taps1 m c e dx o d ch h)) (fun e dx o d ch h => Eq.trans ?_ (in_taps2 m c e dx o d ch h)) r o s).trans ?_
  · blk_ext! [iblk, idx0]
  · blk_ext! [iblk, idx0]
  · blk_ext! [iblk, idx0]
  · rw [b4, b4]
    rfl

/-- The result: the two chosen experts' images times their gates. -/
theorem result (m : (ℓ : Loc nD τ sig) → Buf (Elt Ideal) ℓ) (c : Dev nD) (hH : Hyps m) (e0 e1 : Fin 3) (he0 : m ((c : Thread nD τ).loc main_arg3) (ix1 0) = BitVec.ofNat 32 e0.val)
    (he1 : m ((c : Thread nD τ).loc main_arg3) (ix1 1) = BitVec.ofNat 32 e1.val) (o : Fin 3) (y x : Fin 224) :
    Pipeline.afterTail₀ cfgs (dats m hH) 0 (V0 m) [hostOps1] c main_v10 (ix4 0 o y x)
      = expert m c e0 o y x * gate m c 0 + expert m c e1 o y x * gate m c 1 := by
  have e := final m c hH e0 e1 he0 he1 ⟨y.val + 1, by omega⟩ o ⟨x.val + 1, by omega⟩
  rw [padAt_in _ _ y.isLt x.isLt, padAt_in _ _ y.isLt x.isLt] at e
  refine Eq.trans ?_ e
  have h : Pipeline.withArrays (cfgs 0).spec c (V0 m c) (fun w => (dats m hH 0 c).arrAt w (cfgs 0).N) (Proc.devRef .tc main_v7) = (dats m hH 0 c).arrAt 5 cfg0.N :=
    Pipeline.withArrays_arr (cfgs 0).spec (by decide +kernel) c _ _ 5
  unfold Pipeline.afterTail₀
  simp only [hostOps1, List.flatten_cons, List.flatten_nil, List.append_nil]
  after_results
  rw [h]
  pointwise []
  simp only [Nat.add_comm 1]

/-- Every execution of the program ends with the result at what the host operations leave there after the kernel, and with the arguments unchanged. -/
theorem run (m : (ℓ : Loc nD τ sig) → Buf (Elt Ideal) ℓ) (ρ : Dev nD → PrngReg) (hH : Hyps m) :
    θ_run defs (onTc (τ := τ) (main (F := Ideal))) ⟨m, fun _ => 0, ρ⟩ (fun r => ∀ c : Dev nD,
      r.2.mem ((c.tc : Thread nD τ).loc main_v10) = Pipeline.afterTail₀ cfgs (dats m hH) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have a : θ_run defs (onTc (τ := τ) (main (F := Ideal))) ⟨m, fun _ => 0, ρ⟩ (fun r => ∀ c : Dev nD,
      r.2.mem ((c.tc : Thread nD τ).loc main_v10) = Pipeline.afterTail₀ cfgs (dats m hH) 0 (V0 m) [hostOps1] c main_v10) :=
    (θ_run defs _ _).mono (fun _ h c => (h c).2 main_v10 (Pipeline.mem_restRefs_of main_v10 (by decide) (by decide))) (run_main m ρ hH)
  exact (θ_run defs _ _).mono (fun _ h c => ⟨h.1 c, h.2 c⟩) (θ_run_and a (unchanged m ρ hH))

end Cert.MoeVIdeal.Network

end
-- ==== Proof.MoeVReference.lean ====
/- What the reference of the decoder of visible light computes. -/
module

public import proofs.«01_k».proof.Proof.Gen.MoeVRefIdeal.Run
public import proofs.«01_k».proof.Proof.Math

@[expose] public section

set_option maxRecDepth 16384

noncomputable section

open Idealize.ShloMosaic Idealize.ShloMosaic.TcCoe Idealize.SL.Sem

namespace Cert.MoeVRefIdeal.Network

open Cert.MoeVRefIdeal Cert.MoeVRefIdeal.Gen Cert.MoeVRefIdeal.Value Cert.Math

/-! ## The arguments, as images and taps -/

/-- The latent image. -/
def latent (V : Valuation τ sig (Elt Ideal)) : Img 64 := fun ch y x => V (Proc.devRef .tc main_arg0) (ix4 0 ch y x)
/-- The taps of every expert's first convolution, -/
def taps1 (V : Valuation τ sig (Elt Ideal)) (e : Fin 3) : Ker 64 64 := fun o ch dy dx => V (Proc.devRef .tc main_arg1) (ix5 e o ch dy dx)
/-- and those of its second. -/
def taps2 (V : Valuation τ sig (Elt Ideal)) (e : Fin 3) : Ker 3 64 := fun o ch dy dx => V (Proc.devRef .tc main_arg2) (ix5 e o ch dy dx)
/-- The gates of the two chosen experts. -/
def gate (V : Valuation τ sig (Elt Ideal)) (i : Fin 2) : EReal := V (Proc.devRef .tc main_arg4) (ix1 i)
/-- Every expert's image. -/
def expert (V : Valuation τ sig (Elt Ideal)) (e : Fin 3) : Img 3 := conv (taps2 V e) (relu (conv (taps1 V e) (latent V)))

/-! ## The named tensors of the reference, for each expert -/

/-- Expert 0's input is the latent image with a border of zeros. -/
theorem input0 (V : Valuation τ sig (Elt Ideal)) (ch : Fin 64) (r s : Fin 226) : res_main_v3 V (ix3 ch r s) = padAt (latent V) ch r.val s.val := by
  pointwise [res_main_v3, sitofp_zero]
  exact dite_padAt (latent V) ch fun h => rfl

/-- The taps of expert 0's first convolution, -/
theorem first0 (V : Valuation τ sig (Elt Ideal)) (o ch : Fin 64) (dy dx : Fin 3) : res_main_v1 V (ix4 o ch dy dx) = taps1 V 0 o ch dy dx := by
  pointwise [res_main_v1]
  rfl

/-- and of its second. -/
theorem second0 (V : Valuation τ sig (Elt Ideal)) (o : Fin 3) (ch : Fin 64) (dy dx : Fin 3) : res_main_v51 V (ix4 o ch dy dx) = taps2 V 0 o ch dy dx := by
  pointwise [res_main_v51]
  rfl

/-- Expert 0's features, with a border of zeros. -/
theorem features0 (V : Valuation τ sig (Elt Ideal)) (o : Fin 64) (r s : Fin 226) : res_main_v53 V (ix3 o r s) = padAt (relu (conv (taps1 V 0) (latent V))) o r.val s.val := by
  pointwise [res_main_v53, sitofp_zero]
  refine dite_padAt (relu (conv (taps1 V 0) (latent V))) o fun h => congrArg (max · 0) ?_
  simp only [input0, first0]
  exact conv_sum (taps1 V 0) (latent V) o h.1.2 h.2.2

/-- Expert 1's input is the latent image with a border of zeros. -/
theorem input1 (V : Valuation τ sig (Elt Ideal)) (ch : Fin 64) (r s : Fin 226) : res_main_v102 V (ix3 ch r s) = padAt (latent V) ch r.val s.val := by
  pointwise [res_main_v102, sitofp_zero]
  exact dite_padAt (latent V) ch fun h => rfl

/-- The taps of expert 1's first convolution, -/
theorem first1 (V : Valuation τ sig (Elt Ideal)) (o ch : Fin 64) (dy dx : Fin 3) : res_main_v100 V (ix4 o ch dy dx) = taps1 V 1 o ch dy dx := by
  pointwise [res_main_v100]
  rfl

/-- and of its second. -/
theorem second1 (V : Valuation τ sig (Elt Ideal)) (o : Fin 3) (ch : Fin 64) (dy dx : Fin 3) : res_main_v150 V (ix4 o ch dy dx) = taps2 V 1 o ch dy dx := by
  pointwise [res_main_v150]
  rfl

/-- Expert 1's features, with a border of zeros. -/
theorem features1 (V : Valuation τ sig (Elt Ideal)) (o : Fin 64) (r s : Fin 226) : res_main_v152 V (ix3 o r s) = padAt (relu (conv (taps1 V 1) (latent V))) o r.val s.val := by
  pointwise [res_main_v152, sitofp_zero]
  refine dite_padAt (relu (conv (taps1 V 1) (latent V))) o fun h => congrArg (max · 0) ?_
  simp only [input1, first1]
  exact conv_sum (taps1 V 1) (latent V) o h.1.2 h.2.2

/-- Expert 2's input is the latent image with a border of zeros. -/
theorem input2 (V : Valuation τ sig (Elt Ideal)) (ch : Fin 64) (r s : Fin 226) : res_main_v201 V (ix3 ch r s) = padAt (latent V) ch r.val s.val := by
  pointwise [res_main_v201, sitofp_zero]
  exact dite_padAt (latent V) ch fun h => rfl

/-- The taps of expert 2's first convolution, -/
theorem first2 (V : Valuation τ sig (Elt Ideal)) (o ch : Fin 64) (dy dx : Fin 3) : res_main_v199 V (ix4 o ch dy dx) = taps1 V 2 o ch dy dx := by
  pointwise [res_main_v199]
  rfl

/-- and of its second. -/
theorem second2 (V : Valuation τ sig (Elt Ideal)) (o : Fin 3) (ch : Fin 64) (dy dx : Fin 3) : res_main_v249 V (ix4 o ch dy dx) = taps2 V 2 o ch dy dx := by
  pointwise [res_main_v249]
  rfl

/-- Expert 2's features, with a border of zeros. -/
theorem features2 (V : Valuation τ sig (Elt Ideal)) (o : Fin 64) (r s : Fin 226) : res_main_v251 V (ix3 o r s) = padAt (relu (conv (taps1 V 2) (latent V))) o r.val s.val := by
  pointwise [res_main_v251, sitofp_zero]
  refine dite_padAt (relu (conv (taps1 V 2) (latent V))) o fun h => congrArg (max · 0) ?_
  simp only [input2, first2]
  exact conv_sum (taps1 V 2) (latent V) o h.1.2 h.2.2

/-- Expert 0's image. -/
theorem image0 (V : Valuation τ sig (Elt Ideal)) (o : Fin 3) (y x : Fin 224) : res_main_v305 V (ix5 0 0 o y x) = expert V 0 o y x := by
  pointwise [res_main_v305]
  simp only [features0, second0]
  exact conv_sum (taps2 V 0) (relu (conv (taps1 V 0) (latent V))) o y.isLt x.isLt

/-- Expert 1's image. -/
theorem image1 (V : Valuation τ sig (Elt Ideal)) (o : Fin 3) (y x : Fin 224) : res_main_v305 V (ix5 1 0 o y x) = expert V 1 o y x := by
  pointwise [res_main_v305]
  simp only [features1, second1]
  exact conv_sum (taps2 V 1) (relu (conv (taps1 V 1) (latent V))) o y.isLt x.isLt

/-- Expert 2's image. -/
theorem image2 (V : Valuation τ sig (Elt Ideal)) (o : Fin 3) (y x : Fin 224) : res_main_v305 V (ix5 2 0 o y x) = expert V 2 o y x := by
  pointwise [res_main_v305]
  simp only [features2, second2]
  exact conv_sum (taps2 V 2) (relu (conv (taps1 V 2) (latent V))) o y.isLt x.isLt

/-! ## The result -/

/-- One where a word is an expert's number, zero elsewhere. -/
def named (v : BitVec 32) (e : Fin 3) : EReal := if v = BitVec.ofNat 32 e.val then 1 else 0

/-- An expert's weight: the sum of the gates of the choices that name it. -/
def weight (V : Valuation τ sig (Elt Ideal)) (e : Fin 3) : EReal :=
  ∑ i : Fin 2, gate V i * named (V (Proc.devRef .tc main_arg3) (ix1 i)) e

/-- One where two words are equal, zero elsewhere. -/
theorem one_where (a b : BitVec 32) : (FloatOps.uitofp .f32 (IntOp.cmpi .eq a b) : Ideal .f32) = (if a = b then 1 else 0 : EReal) := by
  show (((IntOp.cmpi .eq a b).toNat : ℝ) : EReal) = _
  by_cases h : a = b <;> simp [IntOp.cmpi, h]

/-- The reference's weights. -/
theorem weight_eq (V : Valuation τ sig (Elt Ideal)) (e : Fin 3) : ((Host.reduceAdd (mulf (broadcastInDim S2x3 ![0, 1] bcast_S2x1_S2x3_0_1 (broadcastInDim S2x1 ![0] bcast_S2_S2x1_0 (V (Proc.devRef .tc main_arg4)))) (uitofp .f32 (cmpi .eq (broadcastInDim S2x3 ![0, 1] bcast_S2x1_S2x3_0_1 (broadcastInDim S2x1 ![0] bcast_S2_S2x1_0 (V (Proc.devRef .tc main_arg3)))) (broadcastInDim S2x3 ![0, 1] bcast_S1x3_S2x3_0_1 (iotaInDim S1x3 32 1))))) (constant S_ .f32 0x00000000#32) reducesTo_S2x3_S3_d0 h_S_) : FVec Ideal S3 .f32) (ix1 e) = weight V e := by
  pointwise [one_where]
  rfl

/-- The reference's result: the sum of the experts' images, each times its weight. -/
theorem result (V : Valuation τ sig (Elt Ideal)) (o : Fin 3) (y x : Fin 224) :
    (Host.dotGeneral (F := Ideal) (φ₁ := .f32) (φ₂ := .f32) dot_S3_S3x1x3x224x224_S1x3x224x224_0_0_n_1234_n_n none (Host.reduceAdd (mulf (broadcastInDim S2x3 ![0, 1] bcast_S2x1_S2x3_0_1 (broadcastInDim S2x1 ![0] bcast_S2_S2x1_0 (V (Proc.devRef .tc main_arg4)))) (uitofp .f32 (cmpi .eq (broadcastInDim S2x3 ![0, 1] bcast_S2x1_S2x3_0_1 (broadcastInDim S2x1 ![0] bcast_S2_S2x1_0 (V (Proc.devRef .tc main_arg3)))) (broadcastInDim S2x3 ![0, 1] bcast_S1x3_S2x3_0_1 (iotaInDim S1x3 32 1))))) (constant S_ .f32 0x00000000#32) reducesTo_S2x3_S3_d0 h_S_) (res_main_v305 V) : FVec Ideal S1x3x224x224 .f32) (ix4 0 o y x) = ∑ e : Fin 3, weight V e * expert V e o y x := by
  have h := weight_eq V
  revert h
  generalize ((Host.reduceAdd (mulf (broadcastInDim S2x3 ![0, 1] bcast_S2x1_S2x3_0_1 (broadcastInDim S2x1 ![0] bcast_S2_S2x1_0 (V (Proc.devRef .tc main_arg4)))) (uitofp .f32 (cmpi .eq (broadcastInDim S2x3 ![0, 1] bcast_S2x1_S2x3_0_1 (broadcastInDim S2x1 ![0] bcast_S2_S2x1_0 (V (Proc.devRef .tc main_arg3)))) (broadcastInDim S2x3 ![0, 1] bcast_S1x3_S2x3_0_1 (iotaInDim S1x3 32 1))))) (constant S_ .f32 0x00000000#32) reducesTo_S2x3_S3_d0 h_S_) : FVec Ideal S3 .f32) = w
  intro h
  pointwise []
  simp only [h, Fin.sum_univ_three, image0, image1, image2]

/-- A word that is an expert's number is the number of that expert alone. -/
theorem named_of (a e : Fin 3) : named (BitVec.ofNat 32 a.val) e = if a = e then 1 else 0 := by
  have h : (BitVec.ofNat 32 a.val = BitVec.ofNat 32 e.val) = (a = e) := by
    revert a e
    decide +kernel
  unfold named
  simp only [h]

/-- A weight, where both words name experts. -/
theorem weight_of (V : Valuation τ sig (Elt Ideal)) (e0 e1 e : Fin 3) (h0 : V (Proc.devRef .tc main_arg3) (ix1 0) = BitVec.ofNat 32 e0.val)
    (h1 : V (Proc.devRef .tc main_arg3) (ix1 1) = BitVec.ofNat 32 e1.val) :
    weight V e = gate V 0 * (if e0 = e then 1 else 0) + gate V 1 * (if e1 = e then 1 else 0) := by
  unfold weight
  rw [Fin.sum_univ_two, h0, h1, named_of, named_of]

/-- Where the words name two different experts, the reference's result is their two images times their gates. -/
theorem weighted (V : Valuation τ sig (Elt Ideal)) (e0 e1 : Fin 3) (ne : e0 ≠ e1) (h0 : V (Proc.devRef .tc main_arg3) (ix1 0) = BitVec.ofNat 32 e0.val)
    (h1 : V (Proc.devRef .tc main_arg3) (ix1 1) = BitVec.ofNat 32 e1.val) (f : Fin 3 → EReal) :
    ∑ e : Fin 3, weight V e * f e = f e0 * gate V 0 + f e1 * gate V 1 := by
  rw [Fin.sum_univ_three, weight_of V e0 e1 0 h0 h1, weight_of V e0 e1 1 h0 h1, weight_of V e0 e1 2 h0 h1]
  generalize gate V 0 = g0
  generalize gate V 1 = g1
  clear h0 h1
  rw [mul_comm (f e0), mul_comm (f e1)]
  fin_cases e0 <;> fin_cases e1 <;> first | exact absurd rfl ne | (simp; done) | (simp; exact add_comm _ _)

end Cert.MoeVRefIdeal.Network

end
-- ==== Proof.MoeVIdealHyps.lean ====
/- The side conditions of the decoder program `MoeVIdeal`, from the numbers of the chosen experts. -/
module

public import proofs.«01_k».proof.Proof.Gen.MoeVIdeal.Frame.Runs
public import Idealize.ShloMosaic.Lib.Pointwise
public import Idealize.ShloMosaic.Lib.Pipeline.ValueKit
public import Idealize.ShloMosaic.Lib.Claim

@[expose] public section

set_option maxRecDepth 16384

noncomputable section

namespace Cert.MoeVIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeVIdeal Cert.MoeVIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The block of the experts' numbers starts at the beginning of its array. -/
theorem idx3 : ∀ a, win0_3.index t0_0 a = 0 := by decide +kernel

/-- The body's side conditions hold when both words name an expert. -/
theorem hyps_of (h : ∀ c : Dev nD, ∃ e0 e1 : Fin 3, m ((c : Thread nD τ).loc main_arg3) (ix1 0) = BitVec.ofNat 32 e0.val
    ∧ m ((c : Thread nD τ).loc main_arg3) (ix1 1) = BitVec.ofNat 32 e1.val) : Hyps m := fun c t => by
  obtain ⟨e0, e1, h0, h1⟩ := h c
  obtain rfl : t = t0_0 := Fin.ext (by have := t.isLt; have : cfg0.N = 1 := (by decide); have : t0_0.val = 0 := rfl; omega)
  have hb (i : Fin 2) : iblk m c 3 t0_0 (ix1 i) = m ((c : Thread nD τ).loc main_arg3) (ix1 i) := by
    refine Eq.trans ?_ (congrFun (V_main_arg3 m c) (ix1 i))
    blk_ext! [iblk, idx3]
  have first {v : BitVec 32} {e : Fin 3} (hv : v = BitVec.ofNat 32 e.val) : k0_chk1 v := by subst hv; revert e; decide +kernel
  have second {v : BitVec 32} {e : Fin 3} (hv : v = BitVec.ofNat 32 e.val) : k0_chk2 v := by subst hv; revert e; decide +kernel
  constructor
  · refine first (e := e0) ?_
    rw [View.readAt_apply, (hs0_3 t0_0).read_unread]
    exact (congrArg _ (funext fun a => by obtain rfl : a = 0 := Subsingleton.elim _ _; rfl)).trans ((hb 0).trans h0)
  · refine second (e := e1) ?_
    rw [View.readAt_apply, (hs0_3 t0_0).read_unread]
    exact (congrArg _ (funext fun a => by obtain rfl : a = 0 := Subsingleton.elim _ _; rfl)).trans ((hb 1).trans h1)

end Cert.MoeVIdeal.Run

end
-- ==== Proof.MoeVClaim.lean ====
/- The claims about the decoder of visible light. -/
module

public import proofs.«01_k».proof.Defs
public import proofs.«01_k».proof.Proof.MoeVKernel
public import proofs.«01_k».proof.Proof.MoeVReference
public import proofs.«01_k».proof.Proof.MoeVFrame
public import proofs.«01_k».proof.Proof.MoeVHyps
public import proofs.«01_k».proof.Proof.MoeVIdealHyps
public import proofs.«01_k».proof.Proof.Gen.Pre_visible_experts
public import proofs.«01_k».proof.Proof.Gen.MoeV
public import proofs.«01_k».proof.Proof.Gen.MoeVIdeal
public import proofs.«01_k».proof.Proof.Gen.MoeVRefIdeal
public import Idealize.ShloMosaic.Lib.Quiescent

@[expose] public section

set_option maxRecDepth 16384

noncomputable section

namespace Cert.MoeVClaim

open Idealize.ShloMosaic Idealize.ShloMosaic.TcCoe Idealize.SL.Sem Cert.Math

/-! ## The precondition -/

/-- A word that is at least zero and below three, as a signed number, names one of the three experts. -/
theorem word (v : BitVec 32) (h0 : IntOp.cmpi .sge v 0#32 = 1#1) (h3 : IntOp.cmpi .slt v 3#32 = 1#1) : ∃ e : Fin 3, v = BitVec.ofNat 32 e.val := by
  have a : 0 ≤ v.toInt := by
    by_contra n
    have : (0#32).sle v = false := by simp [BitVec.sle]; omega
    simp [IntOp.cmpi, this] at h0
  have b : v.toInt < 3 := by
    by_contra n
    have : v.slt 3#32 = false := by simp [BitVec.slt]; omega
    simp [IntOp.cmpi, this] at h3
  have t : v.toNat < 3 := by
    rw [BitVec.toInt_eq_toNat_cond] at a b
    split at a <;> split at b <;> omega
  exact ⟨⟨v.toNat, t⟩, by simp⟩

/-- A conjunction of two flags is set when both are. -/
theorem both (a b : BitVec 1) (h : IntOp.andi a b = 1#1) : a = 1#1 ∧ b = 1#1 := by
  revert a b
  decide +kernel

/-- The precondition says that the two words name two different experts. -/
theorem chosen {F : FTy → Type} [FloatOps F] (a0 : FVec F Cert.Pre_visible_experts.S1x64x224x224 .f32) (a1 : FVec F Cert.Pre_visible_experts.S3x64x64x3x3 .f32) (a2 : FVec F Cert.Pre_visible_experts.S3x3x64x3x3 .f32)
    (a3 : IVec Cert.Pre_visible_experts.S2 32) (a4 : FVec F Cert.Pre_visible_experts.S2 .f32) (h : Cert.Pre_visible_experts.fn a0 a1 a2 a3 a4 = fun _ => 1#1) :
    ∃ e0 e1 : Fin 3, e0 ≠ e1 ∧ a3 (ix1 0) = BitVec.ofNat 32 e0.val ∧ a3 (ix1 1) = BitVec.ofNat 32 e1.val := by
  have read (i : Fin 2) : Cert.Pre_visible_experts.fn a0 a1 a2 a3 a4 (ix1 i)
      = IntOp.andi (IntOp.andi (IntOp.cmpi .sge (a3 (ix1 i)) 0#32) (IntOp.cmpi .slt (a3 (ix1 i)) 3#32)) (IntOp.cmpi .ne (a3 (ix1 0)) (a3 (ix1 1))) := by
    unfold Cert.Pre_visible_experts.fn
    pointwise []
  have l := (read 0).symm.trans (congrFun h (ix1 0))
  have r := (read 1).symm.trans (congrFun h (ix1 1))
  obtain ⟨l, n⟩ := both _ _ l
  obtain ⟨l0, l3⟩ := both _ _ l
  obtain ⟨r, -⟩ := both _ _ r
  obtain ⟨r0, r3⟩ := both _ _ r
  obtain ⟨e0, h0⟩ := word _ l0 l3
  obtain ⟨e1, h1⟩ := word _ r0 r3
  refine ⟨e0, e1, fun e => ?_, h0, h1⟩
  rw [h0, h1, e] at n
  simp [IntOp.cmpi] at n

/-- The side conditions of the kernel's own program, -/
theorem hyps (m : (ℓ : Loc Cert.MoeV.nD Cert.MoeV.τ Cert.MoeV.sig) → Buf (Elt Bits) ℓ) (h : Cert.Pre_MoeV m) : Cert.MoeV.Gen.Hyps m :=
  Cert.MoeV.Run.hyps_of m fun c => by
    obtain ⟨e0, e1, -, h0, h1⟩ := chosen _ _ _ _ _ (h c)
    exact ⟨e0, e1, h0, h1⟩

/-- and those of its reading over the extended reals. -/
theorem hyps_ideal (m : (ℓ : Loc Cert.MoeVIdeal.nD Cert.MoeVIdeal.τ Cert.MoeVIdeal.sig) → Buf (Elt Ideal) ℓ) (h : Cert.Pre_MoeVIdeal m) : Cert.MoeVIdeal.Gen.Hyps m :=
  Cert.MoeVIdeal.Run.hyps_of m fun c => by
    obtain ⟨e0, e1, -, h0, h1⟩ := chosen _ _ _ _ _ (h c)
    exact ⟨e0, e1, h0, h1⟩

/-! ## The claims -/

/-- The reference ends with its arguments unchanged and every semaphore at zero. -/
theorem frame_reference : Cert.quiescent_MoeVRefIdeal (hMoeVRefIdeal := Cert.MoeVRefIdeal.Gen.facts) := fun m g _ =>
  (θ_run _ _ _).mono (fun r h => ⟨fun c => (h c).2, sem_eq_zero_of_no_sems rfl r.2⟩) (Cert.MoeVRefIdeal.Value.run m g)

/-- The result of the kernel and that of the reference are equal, as extended reals. -/
theorem algebraic : Cert.algebraic_MoeVIdeal_MoeVRefIdeal (hMoeVIdeal := Cert.MoeVIdeal.Gen.facts) (hMoeVRefIdeal := Cert.MoeVRefIdeal.Gen.facts) (hPre_visible_experts := Cert.Pre_visible_experts.Gen.facts) := by
  intro m g m' g' hp hm
  refine ⟨_, Cert.MoeVIdeal.Network.run m g (hyps_ideal m hp), (θ_run _ _ _).mono (fun r h c => ⟨(h c).1.trans ?_, (h c).2⟩) (Cert.MoeVRefIdeal.Value.run m' g')⟩
  obtain ⟨i0, i1, ne, h0, h1⟩ := chosen _ _ _ _ _ (hp c)
  obtain ⟨e0, e1, e2, e3, e4⟩ := hm c
  have latent : Cert.MoeVRefIdeal.Network.latent (StableHlo.launchContents m' c) = Cert.MoeVIdeal.Network.latent m c := funext fun _ => funext fun _ => funext fun _ => congrFun e0 _
  have taps1 : Cert.MoeVRefIdeal.Network.taps1 (StableHlo.launchContents m' c) = Cert.MoeVIdeal.Network.taps1 m c := funext fun _ => funext fun _ => funext fun _ => funext fun _ => funext fun _ => congrFun e1 _
  have taps2 : Cert.MoeVRefIdeal.Network.taps2 (StableHlo.launchContents m' c) = Cert.MoeVIdeal.Network.taps2 m c := funext fun _ => funext fun _ => funext fun _ => funext fun _ => funext fun _ => congrFun e2 _
  have gate : Cert.MoeVRefIdeal.Network.gate (StableHlo.launchContents m' c) = Cert.MoeVIdeal.Network.gate m c := funext fun _ => congrFun e4 _
  have expert : Cert.MoeVRefIdeal.Network.expert (StableHlo.launchContents m' c) = Cert.MoeVIdeal.Network.expert m c := by
    unfold Cert.MoeVRefIdeal.Network.expert Cert.MoeVIdeal.Network.expert
    rw [latent, taps1, taps2]
  funext i
  obtain ⟨z, o, y, x, rfl⟩ : ∃ (z : Fin 1) (o : Fin 3) (y x : Fin 224), i = ix4 z o y x := ⟨i 0, i 1, i 2, i 3, eq_ix4 i⟩
  obtain rfl : z = 0 := Subsingleton.elim _ _
  refine Eq.trans ?_ (Cert.MoeVIdeal.Network.result m c (hyps_ideal m hp) i0 i1 h0 h1 o y x).symm
  refine (Cert.MoeVRefIdeal.Network.result (StableHlo.launchContents m' c) o y x).trans ?_
  refine (Cert.MoeVRefIdeal.Network.weighted (StableHlo.launchContents m' c) i0 i1 ne ((congrFun e3 _).trans h0) ((congrFun e3 _).trans h1) fun e => Cert.MoeVRefIdeal.Network.expert (StableHlo.launchContents m' c) e o y x).trans ?_
  rw [expert, gate]

end Cert.MoeVClaim

end
-- ==== Proof.MoeIRow.lean ====
/- The rows that the decoder's kernel of the infrared branch computes. -/
module

public import proofs.«01_k».proof.Proof.Gen.MoeIIdeal.Skeleton
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.MoeIIdeal.Row

open Cert.MoeIIdeal Cert.MoeIIdeal.Gen Cert.Math Cert.Rows

/-- An image, every value of it multiplied by `g`. -/
def scaled {C : ℕ} (g : EReal) (X : Img C) : Img C := fun c y x => X c y x * g

/-- The row of the first expert's hidden features that the kernel computes from three rows of the latent image is the row of the convolution, its negative values
    replaced by zero, with a zero on either side. -/
theorem hidden0 (P : Vec Ideal S3x64x226 .f32) (w0 w1 w2 : Vec Ideal S1x1x64x192 .f32) (W : Ker 64 64) (X : Img 64) (y : Fin 224)
    (hP : ∀ (d : Fin 3) (c : Fin 64) (s : Fin 226), P (ix3 d c s) = padAt X c (y.val + d.val) (0 + s.val))
    (h0 : ∀ (o : Fin 64) (d : Fin 3) (c : Fin 64) (h : d.val * 64 + c.val < 192), w0 (ix4 0 0 o ⟨d.val * 64 + c.val, h⟩) = W o c d 0)
    (h1 : ∀ (o : Fin 64) (d : Fin 3) (c : Fin 64) (h : d.val * 64 + c.val < 192), w1 (ix4 0 0 o ⟨d.val * 64 + c.val, h⟩) = W o c d 1)
    (h2 : ∀ (o : Fin 64) (d : Fin 3) (c : Fin 64) (h : d.val * 64 + c.val < 192), w2 (ix4 0 0 o ⟨d.val * 64 + c.val, h⟩) = W o c d 2)
    (o : Fin 64) (s : Fin 226) :
    k0_pay7 (F := Ideal) P w0 w1 w2 (ix3 0 o s) = padAt (relu (conv W X)) o (y.val + 1) s.val := by
  pointwise [k0_pay7]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold relu
    refine congrArg (max · 0) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row of the second expert's hidden features that the kernel computes from three rows of the latent image is the row of the convolution, its negative values
    replaced by zero, with a zero on either side. -/
theorem hidden1 (P : Vec Ideal S3x64x226 .f32) (w0 w1 w2 : Vec Ideal S1x1x64x192 .f32) (W : Ker 64 64) (X : Img 64) (y : Fin 224)
    (hP : ∀ (d : Fin 3) (c : Fin 64) (s : Fin 226), P (ix3 d c s) = padAt X c (y.val + d.val) (0 + s.val))
    (h0 : ∀ (o : Fin 64) (d : Fin 3) (c : Fin 64) (h : d.val * 64 + c.val < 192), w0 (ix4 0 0 o ⟨d.val * 64 + c.val, h⟩) = W o c d 0)
    (h1 : ∀ (o : Fin 64) (d : Fin 3) (c : Fin 64) (h : d.val * 64 + c.val < 192), w1 (ix4 0 0 o ⟨d.val * 64 + c.val, h⟩) = W o c d 1)
    (h2 : ∀ (o : Fin 64) (d : Fin 3) (c : Fin 64) (h : d.val * 64 + c.val < 192), w2 (ix4 0 0 o ⟨d.val * 64 + c.val, h⟩) = W o c d 2)
    (o : Fin 64) (s : Fin 226) :
    k0_pay1 (F := Ideal) P w0 w1 w2 (ix3 0 o s) = padAt (relu (conv W X)) o (y.val + 1) s.val := by
  pointwise [k0_pay1]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold relu
    refine congrArg (max · 0) ?_
    have hm (d : Fin 3) (c : Fin 64) : (d.val * 64 + c.val) % 64 = c.val := by omega
    have hd (d : Fin 3) (c : Fin 64) : (d.val * 64 + c.val) / 64 = d.val := by omega
    refine conv_cols W X o y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row of the first expert's image that the kernel computes from three rows of the hidden features is the row of the convolution times the gate, with a zero on either side. -/
theorem image0 (g : EReal) (P : Vec Ideal S3x64x226 .f32) (w0 w1 w2 : Vec Ideal S1x1x1x192 .f32) (W : Ker 1 64) (X : Img 64) (y : Fin 224)
    (hP : ∀ (d : Fin 3) (c : Fin 64) (s : Fin 226), P (ix3 d c s) = padAt X c (y.val + d.val) (0 + s.val))
    (h0 : ∀ (o : Fin 1) (d : Fin 3) (c : Fin 64) (h : d.val * 64 + c.val < 192), w0 (ix4 0 0 o ⟨d.val * 64 + c.val, h⟩) = W o c d 0)
    (h1 : ∀ (o : Fin 1) (d : Fin 3) (c : Fin 64) (h : d.val * 64 + c.val < 192), w1 (ix4 0 0 o ⟨d.val * 64 + c.val, h⟩) = W o c d 1)
    (h2 : ∀ (o : Fin 1) (d : Fin 3) (c : Fin 64) (h : d.val * 64 + c.val < 192), w2 (ix4 0 0 o ⟨d.val * 64 + c.val, h⟩) = W o c d 2)
    (o : Fin 1) (s : Fin 226) :
    k0_pay8 (F := Ideal) g P w0 w1 w2 (ix3 0 o s) = padAt (scaled g (conv W X)) o (y.val + 1) s.val := by
  obtain rfl : o = 0 := Subsingleton.elim _ _
  pointwise [k0_pay8]
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold scaled
    refine congrArg (· * g) ?_
    have hm (d : Fin 3) (c : Fin 64) : (d.val * 64 + c.val) % 64 = c.val := by omega
    have hd (d : Fin 3) (c : Fin 64) : (d.val * 64 + c.val) / 64 = d.val := by omega
    refine conv_cols W X (0 : Fin 1) y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

/-- The row that the kernel computes for the second expert is what the row held before plus the row of the convolution times the gate, with a zero on either side. -/
theorem image1 (g : EReal) (P : Vec Ideal S3x64x226 .f32) (w0 w1 w2 : Vec Ideal S1x1x1x192 .f32) (old : Vec Ideal S1x1x226 .f32) (W : Ker 1 64) (X : Img 64) (y : Fin 224)
    (hP : ∀ (d : Fin 3) (c : Fin 64) (s : Fin 226), P (ix3 d c s) = padAt X c (y.val + d.val) (0 + s.val))
    (h0 : ∀ (o : Fin 1) (d : Fin 3) (c : Fin 64) (h : d.val * 64 + c.val < 192), w0 (ix4 0 0 o ⟨d.val * 64 + c.val, h⟩) = W o c d 0)
    (h1 : ∀ (o : Fin 1) (d : Fin 3) (c : Fin 64) (h : d.val * 64 + c.val < 192), w1 (ix4 0 0 o ⟨d.val * 64 + c.val, h⟩) = W o c d 1)
    (h2 : ∀ (o : Fin 1) (d : Fin 3) (c : Fin 64) (h : d.val * 64 + c.val < 192), w2 (ix4 0 0 o ⟨d.val * 64 + c.val, h⟩) = W o c d 2)
    (o : Fin 1) (s : Fin 226) :
    k0_pay2 (F := Ideal) g P w0 w1 w2 old (ix3 0 o s) = old (ix3 0 o s) + padAt (scaled g (conv W X)) o (y.val + 1) s.val := by
  obtain rfl : o = 0 := Subsingleton.elim _ _
  pointwise [k0_pay2]
  refine congrArg (old (ix3 0 0 s) + ·) ?_
  by_cases hs0 : s.val < 1
  · rw [dif_pos hs0, padAt_out _ _ (by omega)]
  rw [dif_neg hs0]
  by_cases hs1 : s.val - 1 < 224
  · rw [dif_pos hs1]
    obtain ⟨s', hs'⟩ : ∃ s', s.val = s' + 1 := ⟨s.val - 1, by omega⟩
    simp only [hs', Nat.add_sub_cancel]
    rw [padAt_in _ _ y.isLt (by omega)]
    unfold scaled
    refine congrArg (· * g) ?_
    have hm (d : Fin 3) (c : Fin 64) : (d.val * 64 + c.val) % 64 = c.val := by omega
    have hd (d : Fin 3) (c : Fin 64) : (d.val * 64 + c.val) / 64 = d.val := by omega
    refine conv_cols W X (0 : Fin 1) y ⟨s', by omega⟩ ?_ ?_ ?_ <;> refine sum_pairs (C := 64) rfl _ _ fun d c hb => ?_
    · rw [h0, hP]; simp only [hm, hd, Nat.zero_add]
    · rw [h1, hP]; simp only [hm, hd, Nat.zero_add, Nat.add_comm 1]
    · rw [h2, hP]; simp only [hm, hd, Nat.zero_add, Nat.add_comm 2]
  · rw [dif_neg hs1, padAt_out _ _ (by omega)]

end Cert.MoeIIdeal.Row

end
-- ==== Proof.MoeIKernel.lean ====
/- What the decoder's kernel of the infrared branch leaves in memory. -/
module

public import proofs.«01_k».proof.Proof.MoeIIdealFrame
public import proofs.«01_k».proof.Proof.MoeIRow
public import proofs.«01_k».proof.Proof.Trips
public import Idealize.ShloMosaic.Lib.Claim

@[expose] public section

set_option maxRecDepth 16384

noncomputable section

open Idealize.ShloMosaic Idealize.ShloMosaic.TcCoe Idealize.SL.Sem

namespace Cert.MoeIIdeal.Network

open Cert.MoeIIdeal Cert.MoeIIdeal.Gen Cert.Math Cert.Rows

open Cert.MoeIIdeal.Row Cert.MoeIIdeal.Run

/-! ## Where the loops read and write -/

/-- The taps of column 0 of the expert that a word names. -/
theorem off2 {v : BitVec 32} {e : Fin 3} (h : v = BitVec.ofNat 32 e.val) : k0_off2 v = ![e.val, 0, 0, 0] := by
  subst h; revert e; decide +kernel

/-- The taps of column 1 of the expert that a word names. -/
theorem off3 {v : BitVec 32} {e : Fin 3} (h : v = BitVec.ofNat 32 e.val) : k0_off3 v = ![e.val, 1, 0, 0] := by
  subst h; revert e; decide +kernel

/-- The taps of column 2 of the expert that a word names. -/
theorem off4 {v : BitVec 32} {e : Fin 3} (h : v = BitVec.ofNat 32 e.val) : k0_off4 v = ![e.val, 2, 0, 0] := by
  subst h; revert e; decide +kernel

/-- The taps of column 0 of the expert that a word names. -/
theorem off7 {v : BitVec 32} {e : Fin 3} (h : v = BitVec.ofNat 32 e.val) : k0_off7 v = ![e.val, 0, 0, 0] := by
  subst h; revert e; decide +kernel

/-- The taps of column 1 of the expert that a word names. -/
theorem off8 {v : BitVec 32} {e : Fin 3} (h : v = BitVec.ofNat 32 e.val) : k0_off8 v = ![e.val, 1, 0, 0] := by
  subst h; revert e; decide +kernel

/-- The taps of column 2 of the expert that a word names. -/
theorem off9 {v : BitVec 32} {e : Fin 3} (h : v = BitVec.ofNat 32 e.val) : k0_off9 v = ![e.val, 2, 0, 0] := by
  subst h; revert e; decide +kernel

/-- The taps of column 0 of the expert that a word names. -/
theorem off12 {v : BitVec 32} {e : Fin 3} (h : v = BitVec.ofNat 32 e.val) : k0_off12 v = ![e.val, 0, 0, 0] := by
  subst h; revert e; decide +kernel

/-- The taps of column 1 of the expert that a word names. -/
theorem off13 {v : BitVec 32} {e : Fin 3} (h : v = BitVec.ofNat 32 e.val) : k0_off13 v = ![e.val, 1, 0, 0] := by
  subst h; revert e; decide +kernel

/-- The taps of column 2 of the expert that a word names. -/
theorem off14 {v : BitVec 32} {e : Fin 3} (h : v = BitVec.ofNat 32 e.val) : k0_off14 v = ![e.val, 2, 0, 0] := by
  subst h; revert e; decide +kernel

/-- The taps of column 0 of the expert that a word names. -/
theorem off17 {v : BitVec 32} {e : Fin 3} (h : v = BitVec.ofNat 32 e.val) : k0_off17 v = ![e.val, 0, 0, 0] := by
  subst h; revert e; decide +kernel

/-- The taps of column 1 of the expert that a word names. -/
theorem off18 {v : BitVec 32} {e : Fin 3} (h : v = BitVec.ofNat 32 e.val) : k0_off18 v = ![e.val, 1, 0, 0] := by
  subst h; revert e; decide +kernel

/-- The taps of column 2 of the expert that a word names. -/
theorem off19 {v : BitVec 32} {e : Fin 3} (h : v = BitVec.ofNat 32 e.val) : k0_off19 v = ![e.val, 2, 0, 0] := by
  subst h; revert e; decide +kernel

/-! ## The four loops -/

/-- The scratch buffer after the first expert's hidden features are computed, whatever it held inside its border, which was zero. -/
theorem loop1 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (v : BitVec 32) (hw : k0_chk1 v) (e : Fin 3) (hv : v = BitVec.ofNat 32 e.val) (x0 : Vec Ideal S226x64x226 .f32) (x1 : Vec Ideal S3x3x64x192 .f32) (X : Img 64) (W1 : Fin 3 → Ker 64 64)
    (h0 : ∀ (r : Fin 226) (c : Fin 64) (s : Fin 226), x0 (ix3 r c s) = padAt X c r.val s.val)
    (h1 : ∀ (e dx : Fin 3) (o : Fin 64) (d : Fin 3) (c : Fin 64) (h : d.val * 64 + c.val < 192), x1 (ix4 e dx o ⟨d.val * 64 + c.val, h⟩) = W1 e o c d dx)
    (L : (List (View.Piece (Elt Ideal) S226x64x226 .f32))) (hL : ∀ (r : Fin 226) (o : Fin 64) (s : Fin 226), r.val = 0 ∨ 224 < r.val → View.canon L (ix3 r o s) = (0 : EReal))
    (r : Fin 226) (o : Fin 64) (s : Fin 226) :
    View.canon (pb_k0_t1 (F := Ideal) Variants.none c none arg0 harg0 arg1 harg1 arg2 harg2 arg3 harg3 arg4 harg4 arg5 harg5 arg6 harg6 v hw (harg0.unread x0) (harg1.unread x1) (Scf.trips (0#32) (Scalar.addi 0#32 224#32) 1#32) ++ L) (ix3 r o s)
      = padAt (relu (conv (W1 e) X)) o r.val s.val := by
  have hn : k0_t1_loop.trips = 224 := by decide +kernel
  refine (canon_trips (fun o r s => padAt (relu (conv (W1 e) X)) o r s) _ _ L rfl (pb_k0_t1_succ _ c _ arg0 harg0 arg1 harg1 arg2 harg2 arg3 harg3 arg4 harg4 arg5 harg5 arg6 harg6 v hw _ _) (fun k _ => ?_) _ (le_refl k0_t1_loop.trips) r o s).trans ?_
  · have hk : k.val < 224 := Nat.lt_of_lt_of_le k.isLt k0_t1_abs.2.1
    unfold tripL_k0_t1 trip_k0_t1
    dsimp only
    simp only [readAt_unread]
    refine ⟨_, k0_off5_eq k, _, _, rfl, fun o s => ?_⟩
    refine hidden0 _ _ _ _ (W1 e) X ⟨k.val, hk⟩ (fun d c s => ld_holds _ x0 h0 k.val 0 (k0_off1_eq k) _ d c s) ?_ ?_ ?_ o s <;> intro o d c h
    · exact (ld_tap4 x1 e 0 (off2 hv) _ o ⟨_, h⟩).trans (h1 e 0 o d c h)
    · exact (ld_tap4 x1 e 1 (off3 hv) _ o ⟨_, h⟩).trans (h1 e 1 o d c h)
    · exact (ld_tap4 x1 e 2 (off4 hv) _ o ⟨_, h⟩).trans (h1 e 2 o d c h)
  · rw [hn]
    by_cases hr : 1 ≤ r.val ∧ r.val ≤ 224
    · rw [if_pos hr]
    · rw [if_neg hr, hL r o s (by omega), padAt_out _ _ (by omega)]

/-- The scratch buffer after the second expert's hidden features are computed, whatever it held inside its border, which was zero. -/
theorem loop3 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (v : BitVec 32) (hw : k0_chk2 v) (e : Fin 3) (hv : v = BitVec.ofNat 32 e.val) (x0 : Vec Ideal S226x64x226 .f32) (x1 : Vec Ideal S3x3x64x192 .f32) (X : Img 64) (W1 : Fin 3 → Ker 64 64)
    (h0 : ∀ (r : Fin 226) (c : Fin 64) (s : Fin 226), x0 (ix3 r c s) = padAt X c r.val s.val)
    (h1 : ∀ (e dx : Fin 3) (o : Fin 64) (d : Fin 3) (c : Fin 64) (h : d.val * 64 + c.val < 192), x1 (ix4 e dx o ⟨d.val * 64 + c.val, h⟩) = W1 e o c d dx)
    (L : (List (View.Piece (Elt Ideal) S226x64x226 .f32))) (hL : ∀ (r : Fin 226) (o : Fin 64) (s : Fin 226), r.val = 0 ∨ 224 < r.val → View.canon L (ix3 r o s) = (0 : EReal))
    (r : Fin 226) (o : Fin 64) (s : Fin 226) :
    View.canon (pb_k0_t3 (F := Ideal) Variants.none c none arg0 harg0 arg1 harg1 arg2 harg2 arg3 harg3 arg4 harg4 arg5 harg5 arg6 harg6 v hw (harg0.unread x0) (harg1.unread x1) (Scf.trips (0#32) (Scalar.addi 0#32 224#32) 1#32) ++ L) (ix3 r o s)
      = padAt (relu (conv (W1 e) X)) o r.val s.val := by
  have hn : k0_t3_loop.trips = 224 := by decide +kernel
  refine (canon_trips (fun o r s => padAt (relu (conv (W1 e) X)) o r s) _ _ L rfl (pb_k0_t3_succ _ c _ arg0 harg0 arg1 harg1 arg2 harg2 arg3 harg3 arg4 harg4 arg5 harg5 arg6 harg6 v hw _ _) (fun k _ => ?_) _ (le_refl k0_t3_loop.trips) r o s).trans ?_
  · have hk : k.val < 224 := Nat.lt_of_lt_of_le k.isLt k0_t3_abs.2.1
    unfold tripL_k0_t3 trip_k0_t3
    dsimp only
    simp only [readAt_unread]
    refine ⟨_, k0_off15_eq k, _, _, rfl, fun o s => ?_⟩
    refine hidden1 _ _ _ _ (W1 e) X ⟨k.val, hk⟩ (fun d c s => ld_holds _ x0 h0 k.val 0 (k0_off11_eq k) _ d c s) ?_ ?_ ?_ o s <;> intro o d c h
    · exact (ld_tap4 x1 e 0 (off12 hv) _ o ⟨_, h⟩).trans (h1 e 0 o d c h)
    · exact (ld_tap4 x1 e 1 (off13 hv) _ o ⟨_, h⟩).trans (h1 e 1 o d c h)
    · exact (ld_tap4 x1 e 2 (off14 hv) _ o ⟨_, h⟩).trans (h1 e 2 o d c h)
  · rw [hn]
    by_cases hr : 1 ≤ r.val ∧ r.val ≤ 224
    · rw [if_pos hr]
    · rw [if_neg hr, hL r o s (by omega), padAt_out _ _ (by omega)]

/-- The output after the first expert's image is computed, whatever it held inside its border, which was zero. -/
theorem loop2 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (v : BitVec 32) (hw : k0_chk1 v) (e : Fin 3) (hv : v = BitVec.ofNat 32 e.val) (g : EReal) (x2 : Vec Ideal S3x3x1x192 .f32) (W2 : Fin 3 → Ker 1 64)
    (h2 : ∀ (e dx : Fin 3) (o : Fin 1) (d : Fin 3) (c : Fin 64) (h : d.val * 64 + c.val < 192), x2 (ix4 e dx o ⟨d.val * 64 + c.val, h⟩) = W2 e o c d dx)
    (L6 : (List (View.Piece (Elt Ideal) S226x64x226 .f32))) (Y : Img 64) (h6 : ∀ (r : Fin 226) (c : Fin 64) (s : Fin 226), View.canon L6 (ix3 r c s) = padAt Y c r.val s.val)
    (L : (List (View.Piece (Elt Ideal) S226x1x226 .f32))) (hL : ∀ (r : Fin 226) (o : Fin 1) (s : Fin 226), r.val = 0 ∨ 224 < r.val → View.canon L (ix3 r o s) = (0 : EReal))
    (r : Fin 226) (o : Fin 1) (s : Fin 226) :
    View.canon (pb_k0_t2 (F := Ideal) Variants.none c none arg0 harg0 arg1 harg1 arg2 harg2 arg3 harg3 arg4 harg4 arg5 harg5 arg6 harg6 v hw g (harg2.unread x2) (arg6.view.writes (Elt Ideal) arg6.view.junk L6) (Scf.trips (0#32) (Scalar.addi 0#32 224#32) 1#32) ++ L) (ix3 r o s)
      = padAt (scaled g (conv (W2 e) Y)) o r.val s.val := by
  have hn : k0_t2_loop.trips = 224 := by decide +kernel
  refine (canon_trips (fun o r s => padAt (scaled g (conv (W2 e) Y)) o r s) _ _ L rfl (pb_k0_t2_succ _ c _ arg0 harg0 arg1 harg1 arg2 harg2 arg3 harg3 arg4 harg4 arg5 harg5 arg6 harg6 v hw g _ _) (fun k _ => ?_) _ (le_refl k0_t2_loop.trips) r o s).trans ?_
  · have hk : k.val < 224 := Nat.lt_of_lt_of_le k.isLt k0_t2_abs.2.1
    unfold tripL_k0_t2 trip_k0_t2
    dsimp only
    simp only [readAt_unread, readAt_junk]
    refine ⟨_, k0_off10_eq k, _, _, rfl, fun o s => ?_⟩
    refine image0 g _ _ _ _ (W2 e) Y ⟨k.val, hk⟩ (fun d c s => ld_holds _ _ h6 k.val 0 (k0_off6_eq k) _ d c s) ?_ ?_ ?_ o s <;> intro o d c h
    · exact (ld_tap4 x2 e 0 (off7 hv) _ o ⟨_, h⟩).trans (h2 e 0 o d c h)
    · exact (ld_tap4 x2 e 1 (off8 hv) _ o ⟨_, h⟩).trans (h2 e 1 o d c h)
    · exact (ld_tap4 x2 e 2 (off9 hv) _ o ⟨_, h⟩).trans (h2 e 2 o d c h)
  · rw [hn]
    by_cases hr : 1 ≤ r.val ∧ r.val ≤ 224
    · rw [if_pos hr]
    · rw [if_neg hr, hL r o s (by omega), padAt_out _ _ (by omega)]

/-- The output after the second expert's image is added to the image `Z` that it held. -/
theorem loop4 (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (v : BitVec 32) (hw : k0_chk2 v) (e : Fin 3) (hv : v = BitVec.ofNat 32 e.val) (g : EReal) (x2 : Vec Ideal S3x3x1x192 .f32) (W2 : Fin 3 → Ker 1 64)
    (h2 : ∀ (e dx : Fin 3) (o : Fin 1) (d : Fin 3) (c : Fin 64) (h : d.val * 64 + c.val < 192), x2 (ix4 e dx o ⟨d.val * 64 + c.val, h⟩) = W2 e o c d dx)
    (L6 : (List (View.Piece (Elt Ideal) S226x64x226 .f32))) (Y : Img 64) (h6 : ∀ (r : Fin 226) (c : Fin 64) (s : Fin 226), View.canon L6 (ix3 r c s) = padAt Y c r.val s.val)
    (L : (List (View.Piece (Elt Ideal) S226x1x226 .f32))) (Z : Img 1) (hL : ∀ (r : Fin 226) (o : Fin 1) (s : Fin 226), View.canon L (ix3 r o s) = padAt Z o r.val s.val)
    (r : Fin 226) (o : Fin 1) (s : Fin 226) :
    View.canon (pb_k0_t4 (F := Ideal) Variants.none c none arg0 harg0 arg1 harg1 arg2 harg2 arg3 harg3 arg4 harg4 arg5 harg5 arg6 harg6 v hw g (harg2.unread x2) (arg6.view.writes (Elt Ideal) arg6.view.junk L6) (arg5.view.writes (Elt Ideal) arg5.view.junk L) (Scf.trips (0#32) (Scalar.addi 0#32 224#32) 1#32) ++ L) (ix3 r o s)
      = padAt Z o r.val s.val + padAt (scaled g (conv (W2 e) Y)) o r.val s.val := by
  have hn : k0_t4_loop.trips = 224 := by decide +kernel
  refine (canon_trips (fun o r s => padAt Z o r s + padAt (scaled g (conv (W2 e) Y)) o r s) _ _ L rfl (pb_k0_t4_succ _ c _ arg0 harg0 arg1 harg1 arg2 harg2 arg3 harg3 arg4 harg4 arg5 harg5 arg6 harg6 v hw g _ _ _) (fun k hold => ?_) _ (le_refl k0_t4_loop.trips) r o s).trans ?_
  · have hk : k.val < 224 := Nat.lt_of_lt_of_le k.isLt k0_t4_abs.2.1
    rw [← View.writes_append]
    unfold tripL_k0_t4 trip_k0_t4
    dsimp only
    simp only [readAt_unread, readAt_junk]
    refine ⟨_, k0_off20_eq k, _, _, rfl, fun o s => ?_⟩
    refine (image1 g _ _ _ _ _ (W2 e) Y ⟨k.val, hk⟩ (fun d c s => ld_holds _ _ h6 k.val 0 (k0_off16_eq k) _ d c s) ?_ ?_ ?_ o s).trans (congrArg (· + _) ?_)
    · intro o d c h; exact (ld_tap4 x2 e 0 (off17 hv) _ o ⟨_, h⟩).trans (h2 e 0 o d c h)
    · intro o d c h; exact (ld_tap4 x2 e 1 (off18 hv) _ o ⟨_, h⟩).trans (h2 e 1 o d c h)
    · intro o d c h; exact (ld_tap4 x2 e 2 (off19 hv) _ o ⟨_, h⟩).trans (h2 e 2 o d c h)
    · refine (ld_tap _ ⟨k.val + 1, by omega⟩ (k0_off20_eq k) _ o s).trans ((hold _ o s (Nat.lt_succ_self _)).trans (hL _ o s))
  · rw [hn]
    by_cases hr : 1 ≤ r.val ∧ r.val ≤ 224
    · rw [if_pos hr]
    · rw [if_neg hr, hL r o s, padAt_out (scaled g (conv (W2 e) Y)) _ (by omega), add_zero]

/-! ## The whole body -/

/-- The scratch buffer's border, zero. -/
theorem border6 (r : Fin 226) (o : Fin 64) (s : Fin 226) (hr : r.val = 0 ∨ 224 < r.val) :
    View.canon ([⟨Rect.unit ![225, 0, 0] ![1, 64, 226] inb_S226x64x226_S1x64x226_225_0_0, k0_pay6 (F := Ideal)⟩,
      ⟨Rect.unit ![0, 0, 0] ![1, 64, 226] inb_S226x64x226_S1x64x226_0_0_0, k0_pay5 (F := Ideal)⟩] : (List (View.Piece (Elt Ideal) S226x64x226 .f32))) (ix3 r o s) = (0 : EReal) := by
  by_cases h : r.val = 225
  · refine (canon_row 225 rfl _ _ _ r h o s).trans ?_
    pointwise [k0_pay6]
  · refine (canon_other 225 rfl _ _ _ r h o s).trans ((canon_row 0 rfl _ _ _ r (by omega) o s).trans ?_)
    pointwise [k0_pay5]

/-- The output's border, zero. -/
theorem border5 (r : Fin 226) (o : Fin 1) (s : Fin 226) (hr : r.val = 0 ∨ 224 < r.val) :
    View.canon ([⟨Rect.unit ![225, 0, 0] ![1, 1, 226] inb_S226x1x226_S1x1x226_225_0_0, k0_pay4 (F := Ideal)⟩,
      ⟨Rect.unit ![0, 0, 0] ![1, 1, 226] inb_S226x1x226_S1x1x226_0_0_0, k0_pay3 (F := Ideal)⟩] : (List (View.Piece (Elt Ideal) S226x1x226 .f32))) (ix3 r o s) = (0 : EReal) := by
  by_cases h : r.val = 225
  · refine (canon_row 225 rfl _ _ _ r h o s).trans ?_
    pointwise [k0_pay4]
  · refine (canon_other 225 rfl _ _ _ r h o s).trans ((canon_row 0 rfl _ _ _ r (by omega) o s).trans ?_)
    pointwise [k0_pay3]

/-- The number of the first chosen expert, as the body reads it. -/
theorem word0 (c : Dev nD) (arg : Memref sig .tc .smem S2 .i32) (harg : arg.IsWhole) (x : Vec Ideal S2 .i32) :
    bodyRun.sl.r (F := Ideal) c arg harg x = x (ix1 0) := by
  unfold bodyRun.sl.r
  rw [View.readAt_apply, harg.read_unread]
  refine congrArg x ?_
  funext a
  obtain rfl : a = 0 := Subsingleton.elim _ _
  rfl

/-- The gate of the first chosen expert, as the body reads it. -/
theorem gate0 (c : Dev nD) (arg : Memref sig .tc .smem S2 .f32) (harg : arg.IsWhole) (x : Vec Ideal S2 .f32) :
    bodyRun.sl.r_1 (F := Ideal) c arg harg x = x (ix1 0) := by
  unfold bodyRun.sl.r_1
  rw [View.readAt_apply, harg.read_unread]
  refine congrArg x ?_
  funext a
  obtain rfl : a = 0 := Subsingleton.elim _ _
  rfl

/-- The number of the second chosen expert, as the body reads it. -/
theorem word1 (c : Dev nD) (arg : Memref sig .tc .smem S2 .i32) (harg : arg.IsWhole) (x : Vec Ideal S2 .i32) :
    bodyRun.sl.r_2 (F := Ideal) c arg harg x = x (ix1 1) := by
  unfold bodyRun.sl.r_2
  rw [View.readAt_apply, harg.read_unread]
  refine congrArg x ?_
  funext a
  obtain rfl : a = 0 := Subsingleton.elim _ _
  rfl

/-- The gate of the second chosen expert, as the body reads it. -/
theorem gate1 (c : Dev nD) (arg : Memref sig .tc .smem S2 .f32) (harg : arg.IsWhole) (x : Vec Ideal S2 .f32) :
    bodyRun.sl.r_3 (F := Ideal) c arg harg x = x (ix1 1) := by
  unfold bodyRun.sl.r_3
  rw [View.readAt_apply, harg.read_unread]
  refine congrArg x ?_
  funext a
  obtain rfl : a = 0 := Subsingleton.elim _ _
  rfl

/-- What the body leaves in its output: the first chosen expert's image times its gate, and the second's, with a border of zeros. -/
theorem region (c : Dev nD) (arg0 : Memref sig .tc .vmem S226x64x226 .f32) (harg0 : arg0.IsWhole) (arg1 : Memref sig .tc .vmem S3x3x64x192 .f32) (harg1 : arg1.IsWhole) (arg2 : Memref sig .tc .vmem S3x3x1x192 .f32) (harg2 : arg2.IsWhole) (arg3 : Memref sig .tc .smem S2 .i32) (harg3 : arg3.IsWhole) (arg4 : Memref sig .tc .smem S2 .f32) (harg4 : arg4.IsWhole) (arg5 : Memref sig .tc .vmem S226x1x226 .f32) (harg5 : arg5.IsWhole) (arg6 : Memref sig .tc .vmem S226x64x226 .f32) (harg6 : arg6.IsWhole)
    (x0 : Vec Ideal S226x64x226 .f32) (x1 : Vec Ideal S3x3x64x192 .f32) (x2 : Vec Ideal S3x3x1x192 .f32) (x3 : Vec Ideal S2 .i32) (x4 : Vec Ideal S2 .f32) (hw1) (hw2)
    (e0 e1 : Fin 3) (he0 : x3 (ix1 0) = BitVec.ofNat 32 e0.val) (he1 : x3 (ix1 1) = BitVec.ofNat 32 e1.val) (X : Img 64) (W1 : Fin 3 → Ker 64 64) (W2 : Fin 3 → Ker 1 64)
    (h0 : ∀ (r : Fin 226) (c : Fin 64) (s : Fin 226), x0 (ix3 r c s) = padAt X c r.val s.val)
    (h1 : ∀ (e dx : Fin 3) (o : Fin 64) (d : Fin 3) (c : Fin 64) (h : d.val * 64 + c.val < 192), x1 (ix4 e dx o ⟨d.val * 64 + c.val, h⟩) = W1 e o c d dx)
    (h2 : ∀ (e dx : Fin 3) (o : Fin 1) (d : Fin 3) (c : Fin 64) (h : d.val * 64 + c.val < 192), x2 (ix4 e dx o ⟨d.val * 64 + c.val, h⟩) = W2 e o c d dx)
    (r : Fin 226) (o : Fin 1) (s : Fin 226) :
    out0_A_5 (F := Ideal) c arg0 harg0 arg1 harg1 arg2 harg2 arg3 harg3 arg4 harg4 arg5 harg5 arg6 harg6 x0 x1 x2 x3 x4 hw1 hw2 (ix3 r o s)
      = padAt (scaled (x4 (ix1 0)) (conv (W2 e0) (relu (conv (W1 e0) X)))) o r.val s.val + padAt (scaled (x4 (ix1 1)) (conv (W2 e1) (relu (conv (W1 e1) X)))) o r.val s.val := by
  unfold out0_A_5
  rw [View.read_writes_junk_eq_canon]
  unfold bodyRun
  dsimp only
  have hv0 := (word0 c arg3 harg3 x3).trans he0
  have hv1 := (word1 c arg3 harg3 x3).trans he1
  refine (loop4 c arg0 harg0 arg1 harg1 arg2 harg2 arg3 harg3 arg4 harg4 arg5 harg5 arg6 harg6 _ _ e1 hv1 _ x2 W2 h2 _ (relu (conv (W1 e1) X))
    (fun r o s => loop3 c arg0 harg0 arg1 harg1 arg2 harg2 arg3 harg3 arg4 harg4 arg5 harg5 arg6 harg6 _ _ e1 hv1 x0 x1 X W1 h0 h1 _
      (fun r o s hr => (loop1 c arg0 harg0 arg1 harg1 arg2 harg2 arg3 harg3 arg4 harg4 arg5 harg5 arg6 harg6 _ _ e0 hv0 x0 x1 X W1 h0 h1 _ border6 r o s).trans (padAt_out _ _ (by omega))) r o s) _ _
    (fun r o s => loop2 c arg0 harg0 arg1 harg1 arg2 harg2 arg3 harg3 arg4 harg4 arg5 harg5 arg6 harg6 _ _ e0 hv0 _ x2 W2 h2 _ (relu (conv (W1 e0) X))
      (fun r o s => loop1 c arg0 harg0 arg1 harg1 arg2 harg2 arg3 harg3 arg4 harg4 arg5 harg5 arg6 harg6 _ _ e0 hv0 x0 x1 X W1 h0 h1 _ border6 r o s) _ border5 r o s) r o s).trans ?_
  rw [gate0, gate1]

/-! ## The arguments, as images and taps -/

/-- The latent image. -/
def latent (m : (ℓ : Loc nD τ sig) → Buf (Elt Ideal) ℓ) (c : Dev nD) : Img 64 := fun ch y x => m ((c : Thread nD τ).loc main_arg0) (ix4 0 ch y x)
/-- The taps of every expert's first convolution, -/
def taps1 (m : (ℓ : Loc nD τ sig) → Buf (Elt Ideal) ℓ) (c : Dev nD) (e : Fin 3) : Ker 64 64 := fun o ch dy dx => m ((c : Thread nD τ).loc main_arg1) (ix5 e o ch dy dx)
/-- and those of its second. -/
def taps2 (m : (ℓ : Loc nD τ sig) → Buf (Elt Ideal) ℓ) (c : Dev nD) (e : Fin 3) : Ker 1 64 := fun o ch dy dx => m ((c : Thread nD τ).loc main_arg2) (ix5 e o ch dy dx)
/-- The gates of the two chosen experts. -/
def gate (m : (ℓ : Loc nD τ sig) → Buf (Elt Ideal) ℓ) (c : Dev nD) (i : Fin 2) : EReal := m ((c : Thread nD τ).loc main_arg4) (ix1 i)
/-- Every expert's image. -/
def expert (m : (ℓ : Loc nD τ sig) → Buf (Elt Ideal) ℓ) (c : Dev nD) (e : Fin 3) : Img 1 := conv (taps2 m c e) (relu (conv (taps1 m c e) (latent m c)))

/-! ## The host operations around the kernel, and the kernel between them -/

/-- The kernel's first input: the latent image with a border of zeros. -/
theorem in_latent (m : (ℓ : Loc nD τ sig) → Buf (Elt Ideal) ℓ) (c : Dev nD) (r : Fin 226) (ch : Fin 64) (s : Fin 226) : V m c main_v2 (ix3 r ch s) = padAt (latent m c) ch r.val s.val := by
  unfold V V0
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise [sitofp_zero]
  unfold padAt latent
  split_ifs <;> first | rfl | omega

/-- The taps of the first convolutions, as the kernel takes them. -/
theorem in_taps1 (m : (ℓ : Loc nD τ sig) → Buf (Elt Ideal) ℓ) (c : Dev nD) (e dx : Fin 3) (o : Fin 64) (d : Fin 3) (ch : Fin 64) (h : d.val * 64 + ch.val < 192) :
    V m c main_v4 (ix4 e dx o ⟨d.val * 64 + ch.val, h⟩) = taps1 m c e o ch d dx := by
  unfold V V0
  simp only [hostOps0, hostOps0_1, hostOps0_2, List.flatten_cons, List.flatten_nil, List.append_nil, List.cons_append, List.nil_append]
  after_results
  pointwise []
  rfl

/-- The taps of the second convolutions, as the kernel takes them. -/
theorem in_taps2 (m : (ℓ : Loc nD τ sig) → Buf (Elt Ideal) ℓ) (c : Dev nD) (e dx : Fin 3) (o : Fin 1) (d : Fin 3) (ch : Fin 64) (h : d.val * 64 + ch.val < 192) :
    V m c main_v6 (ix4 e dx o ⟨d.val * 64 + ch.val, h⟩) = taps2 m c e o ch d dx := by
  unfold V V0
  simp only [hostOps0, hostOps0_1, hostOps0_2, List.flatten_cons, List.flatten_nil, List.append_nil, List.cons_append, List.nil_append]
  after_results
  pointwise []
  obtain rfl : o = 0 := Subsingleton.elim _ _
  rfl

/-- The kernel's blocks start at the beginning of their arrays. -/
theorem idx0 : (∀ a, win0_0.index t0_0 a = 0) ∧ (∀ a, win0_1.index t0_0 a = 0) ∧ (∀ a, win0_2.index t0_0 a = 0) ∧ (∀ a, win0_3.index t0_0 a = 0) ∧ (∀ a, win0_4.index t0_0 a = 0) := by
  decide +kernel

/-- The kernel's output array: the two chosen experts' images times their gates, with a border of zeros. -/
theorem final (m : (ℓ : Loc nD τ sig) → Buf (Elt Ideal) ℓ) (c : Dev nD) (hH : Hyps m) (e0 e1 : Fin 3) (he0 : m ((c : Thread nD τ).loc main_arg3) (ix1 0) = BitVec.ofNat 32 e0.val)
    (he1 : m ((c : Thread nD τ).loc main_arg3) (ix1 1) = BitVec.ofNat 32 e1.val) (r : Fin 226) (o : Fin 1) (s : Fin 226) :
    (dats m hH 0 c).arrAt 5 cfg0.N (ix3 r o s)
      = padAt (scaled (gate m c 0) (expert m c e0)) o r.val s.val + padAt (scaled (gate m c 1) (expert m c e1)) o r.val s.val := by
  refine congrFun ((dats m hH 0 c).arrAt_eq_of_after_last 5 t0_0 (by decide +kernel)
    (holds (fun o r s => padAt (scaled (gate m c 0) (expert m c e0)) o r s + padAt (scaled (gate m c 1) (expert m c e1)) o r s)) fun j => ?_) (ix3 r o s)
  blk_simp
  rw [after0_5]
  unfold outsAt0
  obtain ⟨r, o, s, rfl⟩ : ∃ (r : Fin 226) (o : Fin 1) (s : Fin 226), j = ix3 r o s := ⟨j 0, j 1, j 2, eq_ix3 j⟩
  have b3 (i : Fin 2) : iblk m c 3 t0_0 (ix1 i) = m ((c : Thread nD τ).loc main_arg3) (ix1 i) := by
    refine Eq.trans ?_ (congrFun (V_main_arg3 m c) (ix1 i))
    blk_ext! [iblk, idx0]
  have b4 (i : Fin 2) : iblk m c 4 t0_0 (ix1 i) = gate m c i := by
    refine Eq.trans ?_ (congrFun (V_main_arg4 m c) (ix1 i))
    blk_ext! [iblk, idx0]
  refine (region c _ _ _ _ _ _ _ _ _ _ _ _ _ _ _ _ _ _ _ _ _ e0 e1 ((b3 0).trans he0) ((b3 1).trans he1) (latent m c) (taps1 m c) (taps2 m c)
    (fun r ch s => Eq.trans ?_ (in_latent m c r ch s)) (fun e dx o d ch h => Eq.trans ?_ (in_taps1 m c e dx o d ch h)) (fun e dx o d ch h => Eq.trans ?_ (in_taps2 m c e dx o d ch h)) r o s).trans ?_
  · blk_ext! [iblk, idx0]
  · blk_ext! [iblk, idx0]
  · blk_ext! [iblk, idx0]
  · rw [b4, b4]
    rfl

/-- The result: the two chosen experts' images times their gates. -/
theorem result (m : (ℓ : Loc nD τ sig) → Buf (Elt Ideal) ℓ) (c : Dev nD) (hH : Hyps m) (e0 e1 : Fin 3) (he0 : m ((c : Thread nD τ).loc main_arg3) (ix1 0) = BitVec.ofNat 32 e0.val)
    (he1 : m ((c : Thread nD τ).loc main_arg3) (ix1 1) = BitVec.ofNat 32 e1.val) (o : Fin 1) (y x : Fin 224) :
    Pipeline.afterTail₀ cfgs (dats m hH) 0 (V0 m) [hostOps1] c main_v10 (ix4 0 o y x)
      = expert m c e0 o y x * gate m c 0 + expert m c e1 o y x * gate m c 1 := by
  have e := final m c hH e0 e1 he0 he1 ⟨y.val + 1, by omega⟩ o ⟨x.val + 1, by omega⟩
  rw [padAt_in _ _ y.isLt x.isLt, padAt_in _ _ y.isLt x.isLt] at e
  refine Eq.trans ?_ e
  have h : Pipeline.withArrays (cfgs 0).spec c (V0 m c) (fun w => (dats m hH 0 c).arrAt w (cfgs 0).N) (Proc.devRef .tc main_v7) = (dats m hH 0 c).arrAt 5 cfg0.N :=
    Pipeline.withArrays_arr (cfgs 0).spec (by decide +kernel) c _ _ 5
  unfold Pipeline.afterTail₀
  simp only [hostOps1, List.flatten_cons, List.flatten_nil, List.append_nil]
  after_results
  rw [h]
  pointwise []
  simp only [Nat.add_comm 1]
  obtain rfl : o = 0 := Subsingleton.elim _ _
  rfl

/-- Every execution of the program ends with the result at what the host operations leave there after the kernel, and with the arguments unchanged. -/
theorem run (m : (ℓ : Loc nD τ sig) → Buf (Elt Ideal) ℓ) (ρ : Dev nD → PrngReg) (hH : Hyps m) :
    θ_run defs (onTc (τ := τ) (main (F := Ideal))) ⟨m, fun _ => 0, ρ⟩ (fun r => ∀ c : Dev nD,
      r.2.mem ((c.tc : Thread nD τ).loc main_v10) = Pipeline.afterTail₀ cfgs (dats m hH) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have a : θ_run defs (onTc (τ := τ) (main (F := Ideal))) ⟨m, fun _ => 0, ρ⟩ (fun r => ∀ c : Dev nD,
      r.2.mem ((c.tc : Thread nD τ).loc main_v10) = Pipeline.afterTail₀ cfgs (dats m hH) 0 (V0 m) [hostOps1] c main_v10) :=
    (θ_run defs _ _).mono (fun _ h c => (h c).2 main_v10 (Pipeline.mem_restRefs_of main_v10 (by decide) (by decide))) (run_main m ρ hH)
  exact (θ_run defs _ _).mono (fun _ h c => ⟨h.1 c, h.2 c⟩) (θ_run_and a (unchanged m ρ hH))

end Cert.MoeIIdeal.Network

end
-- ==== Proof.MoeIReference.lean ====
/- What the reference of the decoder of infrared light computes. -/
module

public import proofs.«01_k».proof.Proof.Gen.MoeIRefIdeal.Run
public import proofs.«01_k».proof.Proof.Math

@[expose] public section

set_option maxRecDepth 16384

noncomputable section

open Idealize.ShloMosaic Idealize.ShloMosaic.TcCoe Idealize.SL.Sem

namespace Cert.MoeIRefIdeal.Network

open Cert.MoeIRefIdeal Cert.MoeIRefIdeal.Gen Cert.MoeIRefIdeal.Value Cert.Math

/-! ## The arguments, as images and taps -/

/-- The latent image. -/
def latent (V : Valuation τ sig (Elt Ideal)) : Img 64 := fun ch y x => V (Proc.devRef .tc main_arg0) (ix4 0 ch y x)
/-- The taps of every expert's first convolution, -/
def taps1 (V : Valuation τ sig (Elt Ideal)) (e : Fin 3) : Ker 64 64 := fun o ch dy dx => V (Proc.devRef .tc main_arg1) (ix5 e o ch dy dx)
/-- and those of its second. -/
def taps2 (V : Valuation τ sig (Elt Ideal)) (e : Fin 3) : Ker 1 64 := fun o ch dy dx => V (Proc.devRef .tc main_arg2) (ix5 e o ch dy dx)
/-- The gates of the two chosen experts. -/
def gate (V : Valuation τ sig (Elt Ideal)) (i : Fin 2) : EReal := V (Proc.devRef .tc main_arg4) (ix1 i)
/-- Every expert's image. -/
def expert (V : Valuation τ sig (Elt Ideal)) (e : Fin 3) : Img 1 := conv (taps2 V e) (relu (conv (taps1 V e) (latent V)))

/-! ## The named tensors of the reference, for each expert -/

/-- Expert 0's input is the latent image with a border of zeros. -/
theorem input0 (V : Valuation τ sig (Elt Ideal)) (ch : Fin 64) (r s : Fin 226) : res_main_v3 V (ix3 ch r s) = padAt (latent V) ch r.val s.val := by
  pointwise [res_main_v3, sitofp_zero]
  exact dite_padAt (latent V) ch fun h => rfl

/-- The taps of expert 0's first convolution, -/
theorem first0 (V : Valuation τ sig (Elt Ideal)) (o ch : Fin 64) (dy dx : Fin 3) : res_main_v1 V (ix4 o ch dy dx) = taps1 V 0 o ch dy dx := by
  pointwise [res_main_v1]
  rfl

/-- and of its second. -/
theorem second0 (V : Valuation τ sig (Elt Ideal)) (o : Fin 1) (ch : Fin 64) (dy dx : Fin 3) : res_main_v51 V (ix4 o ch dy dx) = taps2 V 0 o ch dy dx := by
  pointwise [res_main_v51]
  obtain rfl : o = 0 := Subsingleton.elim _ _
  rfl

/-- Expert 0's features, with a border of zeros. -/
theorem features0 (V : Valuation τ sig (Elt Ideal)) (o : Fin 64) (r s : Fin 226) : res_main_v53 V (ix3 o r s) = padAt (relu (conv (taps1 V 0) (latent V))) o r.val s.val := by
  pointwise [res_main_v53, sitofp_zero]
  refine dite_padAt (relu (conv (taps1 V 0) (latent V))) o fun h => congrArg (max · 0) ?_
  simp only [input0, first0]
  exact conv_sum (taps1 V 0) (latent V) o h.1.2 h.2.2

/-- Expert 1's input is the latent image with a border of zeros. -/
theorem input1 (V : Valuation τ sig (Elt Ideal)) (ch : Fin 64) (r s : Fin 226) : res_main_v102 V (ix3 ch r s) = padAt (latent V) ch r.val s.val := by
  pointwise [res_main_v102, sitofp_zero]
  exact dite_padAt (latent V) ch fun h => rfl

/-- The taps of expert 1's first convolution, -/
theorem first1 (V : Valuation τ sig (Elt Ideal)) (o ch : Fin 64) (dy dx : Fin 3) : res_main_v100 V (ix4 o ch dy dx) = taps1 V 1 o ch dy dx := by
  pointwise [res_main_v100]
  rfl

/-- and of its second. -/
theorem second1 (V : Valuation τ sig (Elt Ideal)) (o : Fin 1) (ch : Fin 64) (dy dx : Fin 3) : res_main_v150 V (ix4 o ch dy dx) = taps2 V 1 o ch dy dx := by
  pointwise [res_main_v150]
  obtain rfl : o = 0 := Subsingleton.elim _ _
  rfl

/-- Expert 1's features, with a border of zeros. -/
theorem features1 (V : Valuation τ sig (Elt Ideal)) (o : Fin 64) (r s : Fin 226) : res_main_v152 V (ix3 o r s) = padAt (relu (conv (taps1 V 1) (latent V))) o r.val s.val := by
  pointwise [res_main_v152, sitofp_zero]
  refine dite_padAt (relu (conv (taps1 V 1) (latent V))) o fun h => congrArg (max · 0) ?_
  simp only [input1, first1]
  exact conv_sum (taps1 V 1) (latent V) o h.1.2 h.2.2

/-- Expert 2's input is the latent image with a border of zeros. -/
theorem input2 (V : Valuation τ sig (Elt Ideal)) (ch : Fin 64) (r s : Fin 226) : res_main_v201 V (ix3 ch r s) = padAt (latent V) ch r.val s.val := by
  pointwise [res_main_v201, sitofp_zero]
  exact dite_padAt (latent V) ch fun h => rfl

/-- The taps of expert 2's first convolution, -/
theorem first2 (V : Valuation τ sig (Elt Ideal)) (o ch : Fin 64) (dy dx : Fin 3) : res_main_v199 V (ix4 o ch dy dx) = taps1 V 2 o ch dy dx := by
  pointwise [res_main_v199]
  rfl

/-- and of its second. -/
theorem second2 (V : Valuation τ sig (Elt Ideal)) (o : Fin 1) (ch : Fin 64) (dy dx : Fin 3) : res_main_v249 V (ix4 o ch dy dx) = taps2 V 2 o ch dy dx := by
  pointwise [res_main_v249]
  obtain rfl : o = 0 := Subsingleton.elim _ _
  rfl

/-- Expert 2's features, with a border of zeros. -/
theorem features2 (V : Valuation τ sig (Elt Ideal)) (o : Fin 64) (r s : Fin 226) : res_main_v251 V (ix3 o r s) = padAt (relu (conv (taps1 V 2) (latent V))) o r.val s.val := by
  pointwise [res_main_v251, sitofp_zero]
  refine dite_padAt (relu (conv (taps1 V 2) (latent V))) o fun h => congrArg (max · 0) ?_
  simp only [input2, first2]
  exact conv_sum (taps1 V 2) (latent V) o h.1.2 h.2.2

/-- Expert 0's image. -/
theorem image0 (V : Valuation τ sig (Elt Ideal)) (o : Fin 1) (y x : Fin 224) : res_main_v305 V (ix5 0 0 o y x) = expert V 0 o y x := by
  pointwise [res_main_v305]
  obtain rfl : o = 0 := Subsingleton.elim _ _
  simp only [features0, second0]
  exact conv_sum (taps2 V 0) (relu (conv (taps1 V 0) (latent V))) (0 : Fin 1) y.isLt x.isLt

/-- Expert 1's image. -/
theorem image1 (V : Valuation τ sig (Elt Ideal)) (o : Fin 1) (y x : Fin 224) : res_main_v305 V (ix5 1 0 o y x) = expert V 1 o y x := by
  pointwise [res_main_v305]
  obtain rfl : o = 0 := Subsingleton.elim _ _
  simp only [features1, second1]
  exact conv_sum (taps2 V 1) (relu (conv (taps1 V 1) (latent V))) (0 : Fin 1) y.isLt x.isLt

/-- Expert 2's image. -/
theorem image2 (V : Valuation τ sig (Elt Ideal)) (o : Fin 1) (y x : Fin 224) : res_main_v305 V (ix5 2 0 o y x) = expert V 2 o y x := by
  pointwise [res_main_v305]
  obtain rfl : o = 0 := Subsingleton.elim _ _
  simp only [features2, second2]
  exact conv_sum (taps2 V 2) (relu (conv (taps1 V 2) (latent V))) (0 : Fin 1) y.isLt x.isLt

/-! ## The result -/

/-- One where a word is an expert's number, zero elsewhere. -/
def named (v : BitVec 32) (e : Fin 3) : EReal := if v = BitVec.ofNat 32 e.val then 1 else 0

/-- An expert's weight: the sum of the gates of the choices that name it. -/
def weight (V : Valuation τ sig (Elt Ideal)) (e : Fin 3) : EReal :=
  ∑ i : Fin 2, gate V i * named (V (Proc.devRef .tc main_arg3) (ix1 i)) e

/-- One where two words are equal, zero elsewhere. -/
theorem one_where (a b : BitVec 32) : (FloatOps.uitofp .f32 (IntOp.cmpi .eq a b) : Ideal .f32) = (if a = b then 1 else 0 : EReal) := by
  show (((IntOp.cmpi .eq a b).toNat : ℝ) : EReal) = _
  by_cases h : a = b <;> simp [IntOp.cmpi, h]

/-- The reference's weights. -/
theorem weight_eq (V : Valuation τ sig (Elt Ideal)) (e : Fin 3) : ((Host.reduceAdd (mulf (broadcastInDim S2x3 ![0, 1] bcast_S2x1_S2x3_0_1 (broadcastInDim S2x1 ![0] bcast_S2_S2x1_0 (V (Proc.devRef .tc main_arg4)))) (uitofp .f32 (cmpi .eq (broadcastInDim S2x3 ![0, 1] bcast_S2x1_S2x3_0_1 (broadcastInDim S2x1 ![0] bcast_S2_S2x1_0 (V (Proc.devRef .tc main_arg3)))) (broadcastInDim S2x3 ![0, 1] bcast_S1x3_S2x3_0_1 (iotaInDim S1x3 32 1))))) (constant S_ .f32 0x00000000#32) reducesTo_S2x3_S3_d0 h_S_) : FVec Ideal S3 .f32) (ix1 e) = weight V e := by
  pointwise [one_where]
  rfl

/-- The reference's result: the sum of the experts' images, each times its weight. -/
theorem result (V : Valuation τ sig (Elt Ideal)) (o : Fin 1) (y x : Fin 224) :
    (Host.dotGeneral (F := Ideal) (φ₁ := .f32) (φ₂ := .f32) dot_S3_S3x1x1x224x224_S1x1x224x224_0_0_n_1234_n_n none (Host.reduceAdd (mulf (broadcastInDim S2x3 ![0, 1] bcast_S2x1_S2x3_0_1 (broadcastInDim S2x1 ![0] bcast_S2_S2x1_0 (V (Proc.devRef .tc main_arg4)))) (uitofp .f32 (cmpi .eq (broadcastInDim S2x3 ![0, 1] bcast_S2x1_S2x3_0_1 (broadcastInDim S2x1 ![0] bcast_S2_S2x1_0 (V (Proc.devRef .tc main_arg3)))) (broadcastInDim S2x3 ![0, 1] bcast_S1x3_S2x3_0_1 (iotaInDim S1x3 32 1))))) (constant S_ .f32 0x00000000#32) reducesTo_S2x3_S3_d0 h_S_) (res_main_v305 V) : FVec Ideal S1x1x224x224 .f32) (ix4 0 o y x) = ∑ e : Fin 3, weight V e * expert V e o y x := by
  have h := weight_eq V
  revert h
  generalize ((Host.reduceAdd (mulf (broadcastInDim S2x3 ![0, 1] bcast_S2x1_S2x3_0_1 (broadcastInDim S2x1 ![0] bcast_S2_S2x1_0 (V (Proc.devRef .tc main_arg4)))) (uitofp .f32 (cmpi .eq (broadcastInDim S2x3 ![0, 1] bcast_S2x1_S2x3_0_1 (broadcastInDim S2x1 ![0] bcast_S2_S2x1_0 (V (Proc.devRef .tc main_arg3)))) (broadcastInDim S2x3 ![0, 1] bcast_S1x3_S2x3_0_1 (iotaInDim S1x3 32 1))))) (constant S_ .f32 0x00000000#32) reducesTo_S2x3_S3_d0 h_S_) : FVec Ideal S3 .f32) = w
  intro h
  pointwise []
  obtain rfl : o = 0 := Subsingleton.elim _ _
  simp only [h, Fin.sum_univ_three, image0, image1, image2]

/-- A word that is an expert's number is the number of that expert alone. -/
theorem named_of (a e : Fin 3) : named (BitVec.ofNat 32 a.val) e = if a = e then 1 else 0 := by
  have h : (BitVec.ofNat 32 a.val = BitVec.ofNat 32 e.val) = (a = e) := by
    revert a e
    decide +kernel
  unfold named
  simp only [h]

/-- A weight, where both words name experts. -/
theorem weight_of (V : Valuation τ sig (Elt Ideal)) (e0 e1 e : Fin 3) (h0 : V (Proc.devRef .tc main_arg3) (ix1 0) = BitVec.ofNat 32 e0.val)
    (h1 : V (Proc.devRef .tc main_arg3) (ix1 1) = BitVec.ofNat 32 e1.val) :
    weight V e = gate V 0 * (if e0 = e then 1 else 0) + gate V 1 * (if e1 = e then 1 else 0) := by
  unfold weight
  rw [Fin.sum_univ_two, h0, h1, named_of, named_of]

/-- Where the words name two different experts, the reference's result is their two images times their gates. -/
theorem weighted (V : Valuation τ sig (Elt Ideal)) (e0 e1 : Fin 3) (ne : e0 ≠ e1) (h0 : V (Proc.devRef .tc main_arg3) (ix1 0) = BitVec.ofNat 32 e0.val)
    (h1 : V (Proc.devRef .tc main_arg3) (ix1 1) = BitVec.ofNat 32 e1.val) (f : Fin 3 → EReal) :
    ∑ e : Fin 3, weight V e * f e = f e0 * gate V 0 + f e1 * gate V 1 := by
  rw [Fin.sum_univ_three, weight_of V e0 e1 0 h0 h1, weight_of V e0 e1 1 h0 h1, weight_of V e0 e1 2 h0 h1]
  generalize gate V 0 = g0
  generalize gate V 1 = g1
  clear h0 h1
  rw [mul_comm (f e0), mul_comm (f e1)]
  fin_cases e0 <;> fin_cases e1 <;> first | exact absurd rfl ne | (simp; done) | (simp; exact add_comm _ _)

end Cert.MoeIRefIdeal.Network

end
-- ==== Proof.MoeIIdealHyps.lean ====
/- The side conditions of the decoder program `MoeIIdeal`, from the numbers of the chosen experts. -/
module

public import proofs.«01_k».proof.Proof.Gen.MoeIIdeal.Frame.Runs
public import Idealize.ShloMosaic.Lib.Pointwise
public import Idealize.ShloMosaic.Lib.Pipeline.ValueKit
public import Idealize.ShloMosaic.Lib.Claim

@[expose] public section

set_option maxRecDepth 16384

noncomputable section

namespace Cert.MoeIIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeIIdeal Cert.MoeIIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The block of the experts' numbers starts at the beginning of its array. -/
theorem idx3 : ∀ a, win0_3.index t0_0 a = 0 := by decide +kernel

/-- The body's side conditions hold when both words name an expert. -/
theorem hyps_of (h : ∀ c : Dev nD, ∃ e0 e1 : Fin 3, m ((c : Thread nD τ).loc main_arg3) (ix1 0) = BitVec.ofNat 32 e0.val
    ∧ m ((c : Thread nD τ).loc main_arg3) (ix1 1) = BitVec.ofNat 32 e1.val) : Hyps m := fun c t => by
  obtain ⟨e0, e1, h0, h1⟩ := h c
  obtain rfl : t = t0_0 := Fin.ext (by have := t.isLt; have : cfg0.N = 1 := (by decide); have : t0_0.val = 0 := rfl; omega)
  have hb (i : Fin 2) : iblk m c 3 t0_0 (ix1 i) = m ((c : Thread nD τ).loc main_arg3) (ix1 i) := by
    refine Eq.trans ?_ (congrFun (V_main_arg3 m c) (ix1 i))
    blk_ext! [iblk, idx3]
  have first {v : BitVec 32} {e : Fin 3} (hv : v = BitVec.ofNat 32 e.val) : k0_chk1 v := by subst hv; revert e; decide +kernel
  have second {v : BitVec 32} {e : Fin 3} (hv : v = BitVec.ofNat 32 e.val) : k0_chk2 v := by subst hv; revert e; decide +kernel
  constructor
  · refine first (e := e0) ?_
    rw [View.readAt_apply, (hs0_3 t0_0).read_unread]
    exact (congrArg _ (funext fun a => by obtain rfl : a = 0 := Subsingleton.elim _ _; rfl)).trans ((hb 0).trans h0)
  · refine second (e := e1) ?_
    rw [View.readAt_apply, (hs0_3 t0_0).read_unread]
    exact (congrArg _ (funext fun a => by obtain rfl : a = 0 := Subsingleton.elim _ _; rfl)).trans ((hb 1).trans h1)

end Cert.MoeIIdeal.Run

end
-- ==== Proof.MoeIClaim.lean ====
/- The claims about the decoder of infrared light. -/
module

public import proofs.«01_k».proof.Defs
public import proofs.«01_k».proof.Proof.MoeIKernel
public import proofs.«01_k».proof.Proof.MoeIReference
public import proofs.«01_k».proof.Proof.MoeIFrame
public import proofs.«01_k».proof.Proof.MoeIHyps
public import proofs.«01_k».proof.Proof.MoeIIdealHyps
public import proofs.«01_k».proof.Proof.Gen.Pre_infrared_experts
public import proofs.«01_k».proof.Proof.Gen.MoeI
public import proofs.«01_k».proof.Proof.Gen.MoeIIdeal
public import proofs.«01_k».proof.Proof.Gen.MoeIRefIdeal
public import Idealize.ShloMosaic.Lib.Quiescent

@[expose] public section

set_option maxRecDepth 16384

noncomputable section

namespace Cert.MoeIClaim

open Idealize.ShloMosaic Idealize.ShloMosaic.TcCoe Idealize.SL.Sem Cert.Math

/-! ## The precondition -/

/-- A word that is at least zero and below three, as a signed number, names one of the three experts. -/
theorem word (v : BitVec 32) (h0 : IntOp.cmpi .sge v 0#32 = 1#1) (h3 : IntOp.cmpi .slt v 3#32 = 1#1) : ∃ e : Fin 3, v = BitVec.ofNat 32 e.val := by
  have a : 0 ≤ v.toInt := by
    by_contra n
    have : (0#32).sle v = false := by simp [BitVec.sle]; omega
    simp [IntOp.cmpi, this] at h0
  have b : v.toInt < 3 := by
    by_contra n
    have : v.slt 3#32 = false := by simp [BitVec.slt]; omega
    simp [IntOp.cmpi, this] at h3
  have t : v.toNat < 3 := by
    rw [BitVec.toInt_eq_toNat_cond] at a b
    split at a <;> split at b <;> omega
  exact ⟨⟨v.toNat, t⟩, by simp⟩

/-- A conjunction of two flags is set when both are. -/
theorem both (a b : BitVec 1) (h : IntOp.andi a b = 1#1) : a = 1#1 ∧ b = 1#1 := by
  revert a b
  decide +kernel

/-- The precondition says that the two words name two different experts. -/
theorem chosen {F : FTy → Type} [FloatOps F] (a0 : FVec F Cert.Pre_infrared_experts.S1x64x224x224 .f32) (a1 : FVec F Cert.Pre_infrared_experts.S3x64x64x3x3 .f32) (a2 : FVec F Cert.Pre_infrared_experts.S3x1x64x3x3 .f32)
    (a3 : IVec Cert.Pre_infrared_experts.S2 32) (a4 : FVec F Cert.Pre_infrared_experts.S2 .f32) (h : Cert.Pre_infrared_experts.fn a0 a1 a2 a3 a4 = fun _ => 1#1) :
    ∃ e0 e1 : Fin 3, e0 ≠ e1 ∧ a3 (ix1 0) = BitVec.ofNat 32 e0.val ∧ a3 (ix1 1) = BitVec.ofNat 32 e1.val := by
  have read (i : Fin 2) : Cert.Pre_infrared_experts.fn a0 a1 a2 a3 a4 (ix1 i)
      = IntOp.andi (IntOp.andi (IntOp.cmpi .sge (a3 (ix1 i)) 0#32) (IntOp.cmpi .slt (a3 (ix1 i)) 3#32)) (IntOp.cmpi .ne (a3 (ix1 0)) (a3 (ix1 1))) := by
    unfold Cert.Pre_infrared_experts.fn
    pointwise []
  have l := (read 0).symm.trans (congrFun h (ix1 0))
  have r := (read 1).symm.trans (congrFun h (ix1 1))
  obtain ⟨l, n⟩ := both _ _ l
  obtain ⟨l0, l3⟩ := both _ _ l
  obtain ⟨r, -⟩ := both _ _ r
  obtain ⟨r0, r3⟩ := both _ _ r
  obtain ⟨e0, h0⟩ := word _ l0 l3
  obtain ⟨e1, h1⟩ := word _ r0 r3
  refine ⟨e0, e1, fun e => ?_, h0, h1⟩
  rw [h0, h1, e] at n
  simp [IntOp.cmpi] at n

/-- The side conditions of the kernel's own program, -/
theorem hyps (m : (ℓ : Loc Cert.MoeI.nD Cert.MoeI.τ Cert.MoeI.sig) → Buf (Elt Bits) ℓ) (h : Cert.Pre_MoeI m) : Cert.MoeI.Gen.Hyps m :=
  Cert.MoeI.Run.hyps_of m fun c => by
    obtain ⟨e0, e1, -, h0, h1⟩ := chosen _ _ _ _ _ (h c)
    exact ⟨e0, e1, h0, h1⟩

/-- and those of its reading over the extended reals. -/
theorem hyps_ideal (m : (ℓ : Loc Cert.MoeIIdeal.nD Cert.MoeIIdeal.τ Cert.MoeIIdeal.sig) → Buf (Elt Ideal) ℓ) (h : Cert.Pre_MoeIIdeal m) : Cert.MoeIIdeal.Gen.Hyps m :=
  Cert.MoeIIdeal.Run.hyps_of m fun c => by
    obtain ⟨e0, e1, -, h0, h1⟩ := chosen _ _ _ _ _ (h c)
    exact ⟨e0, e1, h0, h1⟩

/-! ## The claims -/

/-- The reference ends with its arguments unchanged and every semaphore at zero. -/
theorem frame_reference : Cert.quiescent_MoeIRefIdeal (hMoeIRefIdeal := Cert.MoeIRefIdeal.Gen.facts) := fun m g _ =>
  (θ_run _ _ _).mono (fun r h => ⟨fun c => (h c).2, sem_eq_zero_of_no_sems rfl r.2⟩) (Cert.MoeIRefIdeal.Value.run m g)

/-- The result of the kernel and that of the reference are equal, as extended reals. -/
theorem algebraic : Cert.algebraic_MoeIIdeal_MoeIRefIdeal (hMoeIIdeal := Cert.MoeIIdeal.Gen.facts) (hMoeIRefIdeal := Cert.MoeIRefIdeal.Gen.facts) (hPre_infrared_experts := Cert.Pre_infrared_experts.Gen.facts) := by
  intro m g m' g' hp hm
  refine ⟨_, Cert.MoeIIdeal.Network.run m g (hyps_ideal m hp), (θ_run _ _ _).mono (fun r h c => ⟨(h c).1.trans ?_, (h c).2⟩) (Cert.MoeIRefIdeal.Value.run m' g')⟩
  obtain ⟨i0, i1, ne, h0, h1⟩ := chosen _ _ _ _ _ (hp c)
  obtain ⟨e0, e1, e2, e3, e4⟩ := hm c
  have latent : Cert.MoeIRefIdeal.Network.latent (StableHlo.launchContents m' c) = Cert.MoeIIdeal.Network.latent m c := funext fun _ => funext fun _ => funext fun _ => congrFun e0 _
  have taps1 : Cert.MoeIRefIdeal.Network.taps1 (StableHlo.launchContents m' c) = Cert.MoeIIdeal.Network.taps1 m c := funext fun _ => funext fun _ => funext fun _ => funext fun _ => funext fun _ => congrFun e1 _
  have taps2 : Cert.MoeIRefIdeal.Network.taps2 (StableHlo.launchContents m' c) = Cert.MoeIIdeal.Network.taps2 m c := funext fun _ => funext fun _ => funext fun _ => funext fun _ => funext fun _ => congrFun e2 _
  have gate : Cert.MoeIRefIdeal.Network.gate (StableHlo.launchContents m' c) = Cert.MoeIIdeal.Network.gate m c := funext fun _ => congrFun e4 _
  have expert : Cert.MoeIRefIdeal.Network.expert (StableHlo.launchContents m' c) = Cert.MoeIIdeal.Network.expert m c := by
    unfold Cert.MoeIRefIdeal.Network.expert Cert.MoeIIdeal.Network.expert
    rw [latent, taps1, taps2]
  funext i
  obtain ⟨z, o, y, x, rfl⟩ : ∃ (z : Fin 1) (o : Fin 1) (y x : Fin 224), i = ix4 z o y x := ⟨i 0, i 1, i 2, i 3, eq_ix4 i⟩
  obtain rfl : z = 0 := Subsingleton.elim _ _
  refine Eq.trans ?_ (Cert.MoeIIdeal.Network.result m c (hyps_ideal m hp) i0 i1 h0 h1 o y x).symm
  refine (Cert.MoeIRefIdeal.Network.result (StableHlo.launchContents m' c) o y x).trans ?_
  refine (Cert.MoeIRefIdeal.Network.weighted (StableHlo.launchContents m' c) i0 i1 ne ((congrFun e3 _).trans h0) ((congrFun e3 _).trans h1) fun e => Cert.MoeIRefIdeal.Network.expert (StableHlo.launchContents m' c) e o y x).trans ?_
  rw [expert, gate]

end Cert.MoeIClaim

end
-- ==== Proof.lean ====
/- The claims about the programs of this problem. -/
module

public import proofs.«01_k».proof.Defs
public import proofs.«01_k».proof.Proof.Gen.EncV
public import proofs.«01_k».proof.Proof.Gen.EncV.Skeleton
public import proofs.«01_k».proof.Proof.Gen.EncV.Loops
public import proofs.«01_k».proof.Proof.Gen.EncV.Launch
public import proofs.«01_k».proof.Proof.Gen.EncV.Points
public import proofs.«01_k».proof.Proof.Gen.EncV.Frame
public import proofs.«01_k».proof.Proof.Gen.EncVIdeal
public import proofs.«01_k».proof.Proof.Gen.EncVIdeal.Skeleton
public import proofs.«01_k».proof.Proof.Gen.EncVIdeal.Loops
public import proofs.«01_k».proof.Proof.Gen.EncVIdeal.Launch
public import proofs.«01_k».proof.Proof.Gen.EncVIdeal.Points
public import proofs.«01_k».proof.Proof.Gen.EncVIdeal.Frame
public import proofs.«01_k».proof.Proof.Gen.EncVRefIdeal
public import proofs.«01_k».proof.Proof.Gen.EncVRefIdeal.Run
public import proofs.«01_k».proof.Proof.Gen.EncI
public import proofs.«01_k».proof.Proof.Gen.EncI.Skeleton
public import proofs.«01_k».proof.Proof.Gen.EncI.Loops
public import proofs.«01_k».proof.Proof.Gen.EncI.Launch
public import proofs.«01_k».proof.Proof.Gen.EncI.Points
public import proofs.«01_k».proof.Proof.Gen.EncI.Frame
public import proofs.«01_k».proof.Proof.Gen.EncIIdeal
public import proofs.«01_k».proof.Proof.Gen.EncIIdeal.Skeleton
public import proofs.«01_k».proof.Proof.Gen.EncIIdeal.Loops
public import proofs.«01_k».proof.Proof.Gen.EncIIdeal.Launch
public import proofs.«01_k».proof.Proof.Gen.EncIIdeal.Points
public import proofs.«01_k».proof.Proof.Gen.EncIIdeal.Frame
public import proofs.«01_k».proof.Proof.Gen.EncIRefIdeal
public import proofs.«01_k».proof.Proof.Gen.EncIRefIdeal.Run
public import proofs.«01_k».proof.Proof.Gen.Fuse
public import proofs.«01_k».proof.Proof.Gen.Fuse.Skeleton
public import proofs.«01_k».proof.Proof.Gen.Fuse.Loops
public import proofs.«01_k».proof.Proof.Gen.Fuse.Launch
public import proofs.«01_k».proof.Proof.Gen.Fuse.Points
public import proofs.«01_k».proof.Proof.Gen.Fuse.Frame
public import proofs.«01_k».proof.Proof.Gen.FuseIdeal
public import proofs.«01_k».proof.Proof.Gen.FuseIdeal.Skeleton
public import proofs.«01_k».proof.Proof.Gen.FuseIdeal.Loops
public import proofs.«01_k».proof.Proof.Gen.FuseIdeal.Launch
public import proofs.«01_k».proof.Proof.Gen.FuseIdeal.Points
public import proofs.«01_k».proof.Proof.Gen.FuseIdeal.Frame
public import proofs.«01_k».proof.Proof.Gen.FuseRefIdeal
public import proofs.«01_k».proof.Proof.Gen.FuseRefIdeal.Run
public import proofs.«01_k».proof.Proof.Gen.Viz
public import proofs.«01_k».proof.Proof.Gen.Viz.Skeleton
public import proofs.«01_k».proof.Proof.Gen.Viz.Loops
public import proofs.«01_k».proof.Proof.Gen.Viz.Launch
public import proofs.«01_k».proof.Proof.Gen.Viz.Points
public import proofs.«01_k».proof.Proof.Gen.Viz.Frame.Runs
public import proofs.«01_k».proof.Proof.VizFrame
public import proofs.«01_k».proof.Proof.Gen.VizIdeal
public import proofs.«01_k».proof.Proof.Gen.VizIdeal.Skeleton
public import proofs.«01_k».proof.Proof.Gen.VizIdeal.Loops
public import proofs.«01_k».proof.Proof.Gen.VizIdeal.Launch
public import proofs.«01_k».proof.Proof.Gen.VizIdeal.Points
public import proofs.«01_k».proof.Proof.Gen.VizIdeal.Frame.Runs
public import proofs.«01_k».proof.Proof.VizIdealFrame
public import proofs.«01_k».proof.Proof.Gen.VizRefIdeal
public import proofs.«01_k».proof.Proof.Gen.VizRefIdeal.Run
public import proofs.«01_k».proof.Proof.Gen.Route
public import proofs.«01_k».proof.Proof.Gen.Route.Skeleton
public import proofs.«01_k».proof.Proof.Gen.Route.Loops
public import proofs.«01_k».proof.Proof.Gen.Route.Launch
public import proofs.«01_k».proof.Proof.Gen.Route.Points
public import proofs.«01_k».proof.Proof.Gen.Route.Frame.Runs
public import proofs.«01_k».proof.Proof.RouteFrame
public import proofs.«01_k».proof.Proof.Gen.RouteIdeal
public import proofs.«01_k».proof.Proof.Gen.RouteIdeal.Skeleton
public import proofs.«01_k».proof.Proof.Gen.RouteIdeal.Loops
public import proofs.«01_k».proof.Proof.Gen.RouteIdeal.Launch
public import proofs.«01_k».proof.Proof.Gen.RouteIdeal.Points
public import proofs.«01_k».proof.Proof.Gen.RouteIdeal.Frame.Runs
public import proofs.«01_k».proof.Proof.RouteIdealFrame
public import proofs.«01_k».proof.Proof.Gen.RouteRefIdeal
public import proofs.«01_k».proof.Proof.Gen.RouteRefIdeal.Run
public import proofs.«01_k».proof.Proof.Gen.MoeV
public import proofs.«01_k».proof.Proof.Gen.MoeV.Skeleton
public import proofs.«01_k».proof.Proof.Gen.MoeV.Loops
public import proofs.«01_k».proof.Proof.Gen.MoeV.Launch
public import proofs.«01_k».proof.Proof.Gen.MoeV.Points
public import proofs.«01_k».proof.Proof.Gen.MoeV.Frame.Runs
public import proofs.«01_k».proof.Proof.MoeVFrame
public import proofs.«01_k».proof.Proof.Gen.MoeVIdeal
public import proofs.«01_k».proof.Proof.Gen.MoeVIdeal.Skeleton
public import proofs.«01_k».proof.Proof.Gen.MoeVIdeal.Loops
public import proofs.«01_k».proof.Proof.Gen.MoeVIdeal.Launch
public import proofs.«01_k».proof.Proof.Gen.MoeVIdeal.Points
public import proofs.«01_k».proof.Proof.Gen.MoeVIdeal.Frame.Runs
public import proofs.«01_k».proof.Proof.MoeVIdealFrame
public import proofs.«01_k».proof.Proof.Gen.MoeVRefIdeal
public import proofs.«01_k».proof.Proof.Gen.MoeVRefIdeal.Run
public import proofs.«01_k».proof.Proof.Gen.MoeI
public import proofs.«01_k».proof.Proof.Gen.MoeI.Skeleton
public import proofs.«01_k».proof.Proof.Gen.MoeI.Loops
public import proofs.«01_k».proof.Proof.Gen.MoeI.Launch
public import proofs.«01_k».proof.Proof.Gen.MoeI.Points
public import proofs.«01_k».proof.Proof.Gen.MoeI.Frame.Runs
public import proofs.«01_k».proof.Proof.MoeIFrame
public import proofs.«01_k».proof.Proof.Gen.MoeIIdeal
public import proofs.«01_k».proof.Proof.Gen.MoeIIdeal.Skeleton
public import proofs.«01_k».proof.Proof.Gen.MoeIIdeal.Loops
public import proofs.«01_k».proof.Proof.Gen.MoeIIdeal.Launch
public import proofs.«01_k».proof.Proof.Gen.MoeIIdeal.Points
public import proofs.«01_k».proof.Proof.Gen.MoeIIdeal.Frame.Runs
public import proofs.«01_k».proof.Proof.MoeIIdealFrame
public import proofs.«01_k».proof.Proof.Gen.MoeIRefIdeal
public import proofs.«01_k».proof.Proof.Gen.MoeIRefIdeal.Run
public import proofs.«01_k».proof.Proof.Gen.Pre_finite_scores
public import proofs.«01_k».proof.Proof.Gen.Pre_visible_experts
public import proofs.«01_k».proof.Proof.Gen.Pre_infrared_experts
public import proofs.«01_k».proof.Proof.EncVClaim
public import proofs.«01_k».proof.Proof.EncIClaim
public import proofs.«01_k».proof.Proof.FuseClaim
public import proofs.«01_k».proof.Proof.VizClaim
public import proofs.«01_k».proof.Proof.RouteClaim
public import proofs.«01_k».proof.Proof.MoeVClaim
public import proofs.«01_k».proof.Proof.MoeIClaim
public import Idealize.ShloMosaic.Adequacy
public import Idealize.ShloMosaic.Init

@[expose] public section

noncomputable section

namespace Cert.Proof

open Idealize.ShloMosaic Idealize.SL.Sem

/-- All claims of this problem. -/
theorem claim : Cert.Claim := ⟨Cert.EncV.Gen.facts, Cert.EncVIdeal.Gen.facts, Cert.EncVRefIdeal.Gen.facts, Cert.EncI.Gen.facts, Cert.EncIIdeal.Gen.facts, Cert.EncIRefIdeal.Gen.facts, Cert.Fuse.Gen.facts, Cert.FuseIdeal.Gen.facts, Cert.FuseRefIdeal.Gen.facts, Cert.Viz.Gen.facts, Cert.VizIdeal.Gen.facts, Cert.VizRefIdeal.Gen.facts, Cert.Route.Gen.facts, Cert.RouteIdeal.Gen.facts, Cert.RouteRefIdeal.Gen.facts, Cert.MoeV.Gen.facts, Cert.MoeVIdeal.Gen.facts, Cert.MoeVRefIdeal.Gen.facts, Cert.MoeI.Gen.facts, Cert.MoeIIdeal.Gen.facts, Cert.MoeIRefIdeal.Gen.facts, Cert.Pre_finite_scores.Gen.facts, Cert.Pre_visible_experts.Gen.facts, Cert.Pre_infrared_experts.Gen.facts,
  fun m ρ _ => Cert.EncV.Gen.frame m ρ,
  fun m ρ _ => Cert.EncVIdeal.Gen.frame m ρ,
  Cert.EncVClaim.frame_reference,
  fun m ρ _ => Cert.EncI.Gen.frame m ρ,
  fun m ρ _ => Cert.EncIIdeal.Gen.frame m ρ,
  Cert.EncIClaim.frame_reference,
  fun m ρ _ => Cert.Fuse.Gen.frame m ρ,
  fun m ρ _ => Cert.FuseIdeal.Gen.frame m ρ,
  Cert.FuseClaim.frame_reference,
  fun m ρ _ => Cert.Viz.Run.frame m ρ,
  fun m ρ _ => Cert.VizIdeal.Run.frame m ρ,
  Cert.VizClaim.frame_reference,
  fun m ρ _ => Cert.Route.Run.frame m ρ,
  fun m ρ _ => Cert.RouteIdeal.Run.frame m ρ,
  Cert.RouteClaim.frame_reference,
  fun m ρ _ => Cert.RouteClaim.frame_reference m ρ trivial,
  fun m ρ h => Cert.MoeV.Run.frame m ρ (Cert.MoeVClaim.hyps m h),
  fun m ρ h => Cert.MoeVIdeal.Run.frame m ρ (Cert.MoeVClaim.hyps_ideal m h),
  Cert.MoeVClaim.frame_reference,
  fun m ρ _ => Cert.MoeVClaim.frame_reference m ρ trivial,
  fun m ρ h => Cert.MoeI.Run.frame m ρ (Cert.MoeIClaim.hyps m h),
  fun m ρ h => Cert.MoeIIdeal.Run.frame m ρ (Cert.MoeIClaim.hyps_ideal m h),
  Cert.MoeIClaim.frame_reference,
  fun m ρ _ => Cert.MoeIClaim.frame_reference m ρ trivial,
  trivial,
  Cert.EncVClaim.algebraic,
  trivial,
  Cert.EncIClaim.algebraic,
  trivial,
  Cert.FuseClaim.algebraic,
  trivial,
  Cert.VizClaim.algebraic,
  trivial,
  Cert.RouteClaim.algebraic,
  trivial,
  Cert.MoeVClaim.algebraic,
  trivial,
  Cert.MoeIClaim.algebraic⟩

end Cert.Proof

end
